-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Weight (m : (ℓ : Loc Cert.Weight.nD Cert.Weight.τ Cert.Weight.sig) → Buf (Elt Bits) ℓ) : Prop :=
  True

def Pre_WeightIdeal (m : (ℓ : Loc Cert.WeightIdeal.nD Cert.WeightIdeal.τ Cert.WeightIdeal.sig) → Buf (Elt Ideal) ℓ) : Prop :=
  True

def Pre_WeightReferenceIdeal (m : (ℓ : Loc Cert.WeightReferenceIdeal.nD Cert.WeightReferenceIdeal.τ Cert.WeightReferenceIdeal.sig) → Buf (Elt Ideal) ℓ) : Prop :=
  True

def Pre_Row (m : (ℓ : Loc Cert.Row.nD Cert.Row.τ Cert.Row.sig) → Buf (Elt Bits) ℓ) : Prop :=
  True

def Pre_RowIdeal (m : (ℓ : Loc Cert.RowIdeal.nD Cert.RowIdeal.τ Cert.RowIdeal.sig) → Buf (Elt Ideal) ℓ) : Prop :=
  True

def Pre_RowReferenceIdeal (m : (ℓ : Loc Cert.RowReferenceIdeal.nD Cert.RowReferenceIdeal.τ Cert.RowReferenceIdeal.sig) → Buf (Elt Ideal) ℓ) : Prop :=
  True

def Pre_StepIn (m : (ℓ : Loc Cert.StepIn.nD Cert.StepIn.τ Cert.StepIn.sig) → Buf (Elt Bits) ℓ) : Prop :=
  True

def Pre_StepInIdeal (m : (ℓ : Loc Cert.StepInIdeal.nD Cert.StepInIdeal.τ Cert.StepInIdeal.sig) → Buf (Elt Ideal) ℓ) : Prop :=
  True

def Pre_StepInReferenceIdeal (m : (ℓ : Loc Cert.StepInReferenceIdeal.nD Cert.StepInReferenceIdeal.τ Cert.StepInReferenceIdeal.sig) → Buf (Elt Ideal) ℓ) : Prop :=
  True

def Pre_StepOut (m : (ℓ : Loc Cert.StepOut.nD Cert.StepOut.τ Cert.StepOut.sig) → Buf (Elt Bits) ℓ) : Prop :=
  True

def Pre_StepOutIdeal (m : (ℓ : Loc Cert.StepOutIdeal.nD Cert.StepOutIdeal.τ Cert.StepOutIdeal.sig) → Buf (Elt Ideal) ℓ) : Prop :=
  True

def Pre_StepOutReferenceIdeal (m : (ℓ : Loc Cert.StepOutReferenceIdeal.nD Cert.StepOutReferenceIdeal.τ Cert.StepOutReferenceIdeal.sig) → Buf (Elt Ideal) ℓ) : Prop :=
  True

def Pre_StepUp (m : (ℓ : Loc Cert.StepUp.nD Cert.StepUp.τ Cert.StepUp.sig) → Buf (Elt Bits) ℓ) : Prop :=
  True

def Pre_StepUpIdeal (m : (ℓ : Loc Cert.StepUpIdeal.nD Cert.StepUpIdeal.τ Cert.StepUpIdeal.sig) → Buf (Elt Ideal) ℓ) : Prop :=
  True

def Pre_StepUpReferenceIdeal (m : (ℓ : Loc Cert.StepUpReferenceIdeal.nD Cert.StepUpReferenceIdeal.τ Cert.StepUpReferenceIdeal.sig) → Buf (Elt Ideal) ℓ) : Prop :=
  True

def Pre_StepDown (m : (ℓ : Loc Cert.StepDown.nD Cert.StepDown.τ Cert.StepDown.sig) → Buf (Elt Bits) ℓ) : Prop :=
  True

def Pre_StepDownIdeal (m : (ℓ : Loc Cert.StepDownIdeal.nD Cert.StepDownIdeal.τ Cert.StepDownIdeal.sig) → Buf (Elt Ideal) ℓ) : Prop :=
  True

def Pre_StepDownReferenceIdeal (m : (ℓ : Loc Cert.StepDownReferenceIdeal.nD Cert.StepDownReferenceIdeal.τ Cert.StepDownReferenceIdeal.sig) → Buf (Elt Ideal) ℓ) : Prop :=
  True

def Pre_StepAda (m : (ℓ : Loc Cert.StepAda.nD Cert.StepAda.τ Cert.StepAda.sig) → Buf (Elt Bits) ℓ) : Prop :=
  True

def Pre_StepAdaIdeal (m : (ℓ : Loc Cert.StepAdaIdeal.nD Cert.StepAdaIdeal.τ Cert.StepAdaIdeal.sig) → Buf (Elt Ideal) ℓ) : Prop :=
  True

def Pre_StepAdaReferenceIdeal (m : (ℓ : Loc Cert.StepAdaReferenceIdeal.nD Cert.StepAdaReferenceIdeal.τ Cert.StepAdaReferenceIdeal.sig) → Buf (Elt Ideal) ℓ) : Prop :=
  True

def Pre_StepSmall (m : (ℓ : Loc Cert.StepSmall.nD Cert.StepSmall.τ Cert.StepSmall.sig) → Buf (Elt Bits) ℓ) : Prop :=
  True

def Pre_StepSmallIdeal (m : (ℓ : Loc Cert.StepSmallIdeal.nD Cert.StepSmallIdeal.τ Cert.StepSmallIdeal.sig) → Buf (Elt Ideal) ℓ) : Prop :=
  True

def Pre_StepSmallReferenceIdeal (m : (ℓ : Loc Cert.StepSmallReferenceIdeal.nD Cert.StepSmallReferenceIdeal.τ Cert.StepSmallReferenceIdeal.sig) → Buf (Elt Ideal) ℓ) : Prop :=
  True

def Pre_StepConv (m : (ℓ : Loc Cert.StepConv.nD Cert.StepConv.τ Cert.StepConv.sig) → Buf (Elt Bits) ℓ) : Prop :=
  True

def Pre_StepConvIdeal (m : (ℓ : Loc Cert.StepConvIdeal.nD Cert.StepConvIdeal.τ Cert.StepConvIdeal.sig) → Buf (Elt Ideal) ℓ) : Prop :=
  True

def Pre_StepConvReferenceIdeal (m : (ℓ : Loc Cert.StepConvReferenceIdeal.nD Cert.StepConvReferenceIdeal.τ Cert.StepConvReferenceIdeal.sig) → Buf (Elt Ideal) ℓ) : Prop :=
  True

def Pre_StepFfnConv (m : (ℓ : Loc Cert.StepFfnConv.nD Cert.StepFfnConv.τ Cert.StepFfnConv.sig) → Buf (Elt Bits) ℓ) : Prop :=
  True

def Pre_StepFfnConvIdeal (m : (ℓ : Loc Cert.StepFfnConvIdeal.nD Cert.StepFfnConvIdeal.τ Cert.StepFfnConvIdeal.sig) → Buf (Elt Ideal) ℓ) : Prop :=
  True

def Pre_StepFfnConvReferenceIdeal (m : (ℓ : Loc Cert.StepFfnConvReferenceIdeal.nD Cert.StepFfnConvReferenceIdeal.τ Cert.StepFfnConvReferenceIdeal.sig) → Buf (Elt Ideal) ℓ) : Prop :=
  True

def Pre_StepCtx (m : (ℓ : Loc Cert.StepCtx.nD Cert.StepCtx.τ Cert.StepCtx.sig) → Buf (Elt Bits) ℓ) : Prop :=
  True

def Pre_StepCtxIdeal (m : (ℓ : Loc Cert.StepCtxIdeal.nD Cert.StepCtxIdeal.τ Cert.StepCtxIdeal.sig) → Buf (Elt Ideal) ℓ) : Prop :=
  True

def Pre_StepCtxReferenceIdeal (m : (ℓ : Loc Cert.StepCtxReferenceIdeal.nD Cert.StepCtxReferenceIdeal.τ Cert.StepCtxReferenceIdeal.sig) → Buf (Elt Ideal) ℓ) : Prop :=
  True

def Pre_Back (m : (ℓ : Loc Cert.Back.nD Cert.Back.τ Cert.Back.sig) → Buf (Elt Bits) ℓ) : Prop :=
  True

def Pre_BackIdeal (m : (ℓ : Loc Cert.BackIdeal.nD Cert.BackIdeal.τ Cert.BackIdeal.sig) → Buf (Elt Ideal) ℓ) : Prop :=
  True

def Pre_BackReferenceIdeal (m : (ℓ : Loc Cert.BackReferenceIdeal.nD Cert.BackReferenceIdeal.τ Cert.BackReferenceIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_BackCtx (m : (ℓ : Loc Cert.BackCtx.nD Cert.BackCtx.τ Cert.BackCtx.sig) → Buf (Elt Bits) ℓ) : Prop :=
  True

def Pre_BackCtxIdeal (m : (ℓ : Loc Cert.BackCtxIdeal.nD Cert.BackCtxIdeal.τ Cert.BackCtxIdeal.sig) → Buf (Elt Ideal) ℓ) : Prop :=
  True

def Pre_BackCtxReferenceIdeal (m : (ℓ : Loc Cert.BackCtxReferenceIdeal.nD Cert.BackCtxReferenceIdeal.τ Cert.BackCtxReferenceIdeal.sig) → Buf (Elt Ideal) ℓ) : Prop :=
  True

def Pre_Resid (m : (ℓ : Loc Cert.Resid.nD Cert.Resid.τ Cert.Resid.sig) → Buf (Elt Bits) ℓ) : Prop :=
  True

def Pre_ResidIdeal (m : (ℓ : Loc Cert.ResidIdeal.nD Cert.ResidIdeal.τ Cert.ResidIdeal.sig) → Buf (Elt Ideal) ℓ) : Prop :=
  True

def Pre_ResidReferenceIdeal (m : (ℓ : Loc Cert.ResidReferenceIdeal.nD Cert.ResidReferenceIdeal.τ Cert.ResidReferenceIdeal.sig) → Buf (Elt Ideal) ℓ) : Prop :=
  True

def Pre_Cctx (m : (ℓ : Loc Cert.Cctx.nD Cert.Cctx.τ Cert.Cctx.sig) → Buf (Elt Bits) ℓ) : Prop :=
  True

def Pre_CctxIdeal (m : (ℓ : Loc Cert.CctxIdeal.nD Cert.CctxIdeal.τ Cert.CctxIdeal.sig) → Buf (Elt Ideal) ℓ) : Prop :=
  True

def Pre_CctxReferenceIdeal (m : (ℓ : Loc Cert.CctxReferenceIdeal.nD Cert.CctxReferenceIdeal.τ Cert.CctxReferenceIdeal.sig) → Buf (Elt Ideal) ℓ) : Prop :=
  True

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdReferenceIdeal (m : (ℓ : Loc Cert.NormFwdReferenceIdeal.nD Cert.NormFwdReferenceIdeal.τ Cert.NormFwdReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaReferenceIdeal (m : (ℓ : Loc Cert.AdaReferenceIdeal.nD Cert.AdaReferenceIdeal.τ Cert.AdaReferenceIdeal.sig) → Buf (Elt Ideal) ℓ) : Prop :=
  True

def Pre_Outer (m : (ℓ : Loc Cert.Outer.nD Cert.Outer.τ Cert.Outer.sig) → Buf (Elt Bits) ℓ) : Prop :=
  True

def Pre_OuterIdeal (m : (ℓ : Loc Cert.OuterIdeal.nD Cert.OuterIdeal.τ Cert.OuterIdeal.sig) → Buf (Elt Ideal) ℓ) : Prop :=
  True

def Pre_OuterReferenceIdeal (m : (ℓ : Loc Cert.OuterReferenceIdeal.nD Cert.OuterReferenceIdeal.τ Cert.OuterReferenceIdeal.sig) → Buf (Elt Ideal) ℓ) : Prop :=
  True

def Pre_OuterDown (m : (ℓ : Loc Cert.OuterDown.nD Cert.OuterDown.τ Cert.OuterDown.sig) → Buf (Elt Bits) ℓ) : Prop :=
  True

def Pre_OuterDownIdeal (m : (ℓ : Loc Cert.OuterDownIdeal.nD Cert.OuterDownIdeal.τ Cert.OuterDownIdeal.sig) → Buf (Elt Ideal) ℓ) : Prop :=
  True

def Pre_OuterDownReferenceIdeal (m : (ℓ : Loc Cert.OuterDownReferenceIdeal.nD Cert.OuterDownReferenceIdeal.τ Cert.OuterDownReferenceIdeal.sig) → Buf (Elt Ideal) ℓ) : Prop :=
  True

def Pre_OuterUp (m : (ℓ : Loc Cert.OuterUp.nD Cert.OuterUp.τ Cert.OuterUp.sig) → Buf (Elt Bits) ℓ) : Prop :=
  True

def Pre_OuterUpIdeal (m : (ℓ : Loc Cert.OuterUpIdeal.nD Cert.OuterUpIdeal.τ Cert.OuterUpIdeal.sig) → Buf (Elt Ideal) ℓ) : Prop :=
  True

def Pre_OuterUpReferenceIdeal (m : (ℓ : Loc Cert.OuterUpReferenceIdeal.nD Cert.OuterUpReferenceIdeal.τ Cert.OuterUpReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Weight [hWeight : Cert.Weight.Facts] : Prop :=
  ∀ (m : (ℓ : Loc Cert.Weight.nD Cert.Weight.τ Cert.Weight.sig) → Buf (Elt Bits) ℓ) (g : Dev Cert.Weight.nD → PrngReg), Pre_Weight m →
    θ_run (Cert.Weight.defs (F := Bits)) (onTc (τ := Cert.Weight.τ) (Cert.Weight.main (F := Bits))) ⟨m, fun _ => 0, g⟩ (fun r => (∀ c : Dev Cert.Weight.nD,
      r.2.mem ((c.tc : Thread Cert.Weight.nD Cert.Weight.τ).loc Cert.Weight.main_arg0) = m ((c.tc : Thread Cert.Weight.nD Cert.Weight.τ).loc Cert.Weight.main_arg0)
      ∧ r.2.mem ((c.tc : Thread Cert.Weight.nD Cert.Weight.τ).loc Cert.Weight.main_arg1) = m ((c.tc : Thread Cert.Weight.nD Cert.Weight.τ).loc Cert.Weight.main_arg1)
      ∧ r.2.mem ((c.tc : Thread Cert.Weight.nD Cert.Weight.τ).loc Cert.Weight.main_arg2) = m ((c.tc : Thread Cert.Weight.nD Cert.Weight.τ).loc Cert.Weight.main_arg2)
      ∧ r.2.mem ((c.tc : Thread Cert.Weight.nD Cert.Weight.τ).loc Cert.Weight.main_arg3) = m ((c.tc : Thread Cert.Weight.nD Cert.Weight.τ).loc Cert.Weight.main_arg3)
      ∧ r.2.mem ((c.tc : Thread Cert.Weight.nD Cert.Weight.τ).loc Cert.Weight.main_arg4) = m ((c.tc : Thread Cert.Weight.nD Cert.Weight.τ).loc Cert.Weight.main_arg4)
      ∧ r.2.mem ((c.tc : Thread Cert.Weight.nD Cert.Weight.τ).loc Cert.Weight.main_arg5) = m ((c.tc : Thread Cert.Weight.nD Cert.Weight.τ).loc Cert.Weight.main_arg5)
      ∧ r.2.mem ((c.tc : Thread Cert.Weight.nD Cert.Weight.τ).loc Cert.Weight.main_arg6) = m ((c.tc : Thread Cert.Weight.nD Cert.Weight.τ).loc Cert.Weight.main_arg6))
      ∧ r.2.sem = fun _ => 0)

def quiescent_WeightIdeal [hWeightIdeal : Cert.WeightIdeal.Facts] : Prop :=
  ∀ (m : (ℓ : Loc Cert.WeightIdeal.nD Cert.WeightIdeal.τ Cert.WeightIdeal.sig) → Buf (Elt Ideal) ℓ) (g : Dev Cert.WeightIdeal.nD → PrngReg), Pre_WeightIdeal m →
    θ_run (Cert.WeightIdeal.defs (F := Ideal)) (onTc (τ := Cert.WeightIdeal.τ) (Cert.WeightIdeal.main (F := Ideal))) ⟨m, fun _ => 0, g⟩ (fun r => (∀ c : Dev Cert.WeightIdeal.nD,
      r.2.mem ((c.tc : Thread Cert.WeightIdeal.nD Cert.WeightIdeal.τ).loc Cert.WeightIdeal.main_arg0) = m ((c.tc : Thread Cert.WeightIdeal.nD Cert.WeightIdeal.τ).loc Cert.WeightIdeal.main_arg0)
      ∧ r.2.mem ((c.tc : Thread Cert.WeightIdeal.nD Cert.WeightIdeal.τ).loc Cert.WeightIdeal.main_arg1) = m ((c.tc : Thread Cert.WeightIdeal.nD Cert.WeightIdeal.τ).loc Cert.WeightIdeal.main_arg1)
      ∧ r.2.mem ((c.tc : Thread Cert.WeightIdeal.nD Cert.WeightIdeal.τ).loc Cert.WeightIdeal.main_arg2) = m ((c.tc : Thread Cert.WeightIdeal.nD Cert.WeightIdeal.τ).loc Cert.WeightIdeal.main_arg2)
      ∧ r.2.mem ((c.tc : Thread Cert.WeightIdeal.nD Cert.WeightIdeal.τ).loc Cert.WeightIdeal.main_arg3) = m ((c.tc : Thread Cert.WeightIdeal.nD Cert.WeightIdeal.τ).loc Cert.WeightIdeal.main_arg3)
      ∧ r.2.mem ((c.tc : Thread Cert.WeightIdeal.nD Cert.WeightIdeal.τ).loc Cert.WeightIdeal.main_arg4) = m ((c.tc : Thread Cert.WeightIdeal.nD Cert.WeightIdeal.τ).loc Cert.WeightIdeal.main_arg4)
      ∧ r.2.mem ((c.tc : Thread Cert.WeightIdeal.nD Cert.WeightIdeal.τ).loc Cert.WeightIdeal.main_arg5) = m ((c.tc : Thread Cert.WeightIdeal.nD Cert.WeightIdeal.τ).loc Cert.WeightIdeal.main_arg5)
      ∧ r.2.mem ((c.tc : Thread Cert.WeightIdeal.nD Cert.WeightIdeal.τ).loc Cert.WeightIdeal.main_arg6) = m ((c.tc : Thread Cert.WeightIdeal.nD Cert.WeightIdeal.τ).loc Cert.WeightIdeal.main_arg6))
      ∧ r.2.sem = fun _ => 0)

def quiescent_WeightReferenceIdeal [hWeightReferenceIdeal : Cert.WeightReferenceIdeal.Facts] : Prop :=
  ∀ (m : (ℓ : Loc Cert.WeightReferenceIdeal.nD Cert.WeightReferenceIdeal.τ Cert.WeightReferenceIdeal.sig) → Buf (Elt Ideal) ℓ) (g : Dev Cert.WeightReferenceIdeal.nD → PrngReg), Pre_WeightReferenceIdeal m →
    θ_run (Cert.WeightReferenceIdeal.defs (F := Ideal)) (onTc (τ := Cert.WeightReferenceIdeal.τ) (Cert.WeightReferenceIdeal.main (F := Ideal))) ⟨m, fun _ => 0, g⟩ (fun r => (∀ c : Dev Cert.WeightReferenceIdeal.nD,
      r.2.mem ((c.tc : Thread Cert.WeightReferenceIdeal.nD Cert.WeightReferenceIdeal.τ).loc Cert.WeightReferenceIdeal.main_arg0) = m ((c.tc : Thread Cert.WeightReferenceIdeal.nD Cert.WeightReferenceIdeal.τ).loc Cert.WeightReferenceIdeal.main_arg0)
      ∧ r.2.mem ((c.tc : Thread Cert.WeightReferenceIdeal.nD Cert.WeightReferenceIdeal.τ).loc Cert.WeightReferenceIdeal.main_arg1) = m ((c.tc : Thread Cert.WeightReferenceIdeal.nD Cert.WeightReferenceIdeal.τ).loc Cert.WeightReferenceIdeal.main_arg1)
      ∧ r.2.mem ((c.tc : Thread Cert.WeightReferenceIdeal.nD Cert.WeightReferenceIdeal.τ).loc Cert.WeightReferenceIdeal.main_arg2) = m ((c.tc : Thread Cert.WeightReferenceIdeal.nD Cert.WeightReferenceIdeal.τ).loc Cert.WeightReferenceIdeal.main_arg2)
      ∧ r.2.mem ((c.tc : Thread Cert.WeightReferenceIdeal.nD Cert.WeightReferenceIdeal.τ).loc Cert.WeightReferenceIdeal.main_arg3) = m ((c.tc : Thread Cert.WeightReferenceIdeal.nD Cert.WeightReferenceIdeal.τ).loc Cert.WeightReferenceIdeal.main_arg3)
      ∧ r.2.mem ((c.tc : Thread Cert.WeightReferenceIdeal.nD Cert.WeightReferenceIdeal.τ).loc Cert.WeightReferenceIdeal.main_arg4) = m ((c.tc : Thread Cert.WeightReferenceIdeal.nD Cert.WeightReferenceIdeal.τ).loc Cert.WeightReferenceIdeal.main_arg4)
      ∧ r.2.mem ((c.tc : Thread Cert.WeightReferenceIdeal.nD Cert.WeightReferenceIdeal.τ).loc Cert.WeightReferenceIdeal.main_arg5) = m ((c.tc : Thread Cert.WeightReferenceIdeal.nD Cert.WeightReferenceIdeal.τ).loc Cert.WeightReferenceIdeal.main_arg5)
      ∧ r.2.mem ((c.tc : Thread Cert.WeightReferenceIdeal.nD Cert.WeightReferenceIdeal.τ).loc Cert.WeightReferenceIdeal.main_arg6) = m ((c.tc : Thread Cert.WeightReferenceIdeal.nD Cert.WeightReferenceIdeal.τ).loc Cert.WeightReferenceIdeal.main_arg6))
      ∧ r.2.sem = fun _ => 0)

def quiescent_Row [hRow : Cert.Row.Facts] : Prop :=
  ∀ (m : (ℓ : Loc Cert.Row.nD Cert.Row.τ Cert.Row.sig) → Buf (Elt Bits) ℓ) (g : Dev Cert.Row.nD → PrngReg), Pre_Row m →
    θ_run (Cert.Row.defs (F := Bits)) (onTc (τ := Cert.Row.τ) (Cert.Row.main (F := Bits))) ⟨m, fun _ => 0, g⟩ (fun r => (∀ c : Dev Cert.Row.nD,
      r.2.mem ((c.tc : Thread Cert.Row.nD Cert.Row.τ).loc Cert.Row.main_arg0) = m ((c.tc : Thread Cert.Row.nD Cert.Row.τ).loc Cert.Row.main_arg0)
      ∧ r.2.mem ((c.tc : Thread Cert.Row.nD Cert.Row.τ).loc Cert.Row.main_arg1) = m ((c.tc : Thread Cert.Row.nD Cert.Row.τ).loc Cert.Row.main_arg1)
      ∧ r.2.mem ((c.tc : Thread Cert.Row.nD Cert.Row.τ).loc Cert.Row.main_arg2) = m ((c.tc : Thread Cert.Row.nD Cert.Row.τ).loc Cert.Row.main_arg2))
      ∧ r.2.sem = fun _ => 0)

def quiescent_RowIdeal [hRowIdeal : Cert.RowIdeal.Facts] : Prop :=
  ∀ (m : (ℓ : Loc Cert.RowIdeal.nD Cert.RowIdeal.τ Cert.RowIdeal.sig) → Buf (Elt Ideal) ℓ) (g : Dev Cert.RowIdeal.nD → PrngReg), Pre_RowIdeal m →
    θ_run (Cert.RowIdeal.defs (F := Ideal)) (onTc (τ := Cert.RowIdeal.τ) (Cert.RowIdeal.main (F := Ideal))) ⟨m, fun _ => 0, g⟩ (fun r => (∀ c : Dev Cert.RowIdeal.nD,
      r.2.mem ((c.tc : Thread Cert.RowIdeal.nD Cert.RowIdeal.τ).loc Cert.RowIdeal.main_arg0) = m ((c.tc : Thread Cert.RowIdeal.nD Cert.RowIdeal.τ).loc Cert.RowIdeal.main_arg0)
      ∧ r.2.mem ((c.tc : Thread Cert.RowIdeal.nD Cert.RowIdeal.τ).loc Cert.RowIdeal.main_arg1) = m ((c.tc : Thread Cert.RowIdeal.nD Cert.RowIdeal.τ).loc Cert.RowIdeal.main_arg1)
      ∧ r.2.mem ((c.tc : Thread Cert.RowIdeal.nD Cert.RowIdeal.τ).loc Cert.RowIdeal.main_arg2) = m ((c.tc : Thread Cert.RowIdeal.nD Cert.RowIdeal.τ).loc Cert.RowIdeal.main_arg2))
      ∧ r.2.sem = fun _ => 0)

def quiescent_RowReferenceIdeal [hRowReferenceIdeal : Cert.RowReferenceIdeal.Facts] : Prop :=
  ∀ (m : (ℓ : Loc Cert.RowReferenceIdeal.nD Cert.RowReferenceIdeal.τ Cert.RowReferenceIdeal.sig) → Buf (Elt Ideal) ℓ) (g : Dev Cert.RowReferenceIdeal.nD → PrngReg), Pre_RowReferenceIdeal m →
    θ_run (Cert.RowReferenceIdeal.defs (F := Ideal)) (onTc (τ := Cert.RowReferenceIdeal.τ) (Cert.RowReferenceIdeal.main (F := Ideal))) ⟨m, fun _ => 0, g⟩ (fun r => (∀ c : Dev Cert.RowReferenceIdeal.nD,
      r.2.mem ((c.tc : Thread Cert.RowReferenceIdeal.nD Cert.RowReferenceIdeal.τ).loc Cert.RowReferenceIdeal.main_arg0) = m ((c.tc : Thread Cert.RowReferenceIdeal.nD Cert.RowReferenceIdeal.τ).loc Cert.RowReferenceIdeal.main_arg0)
      ∧ r.2.mem ((c.tc : Thread Cert.RowReferenceIdeal.nD Cert.RowReferenceIdeal.τ).loc Cert.RowReferenceIdeal.main_arg1) = m ((c.tc : Thread Cert.RowReferenceIdeal.nD Cert.RowReferenceIdeal.τ).loc Cert.RowReferenceIdeal.main_arg1)
      ∧ r.2.mem ((c.tc : Thread Cert.RowReferenceIdeal.nD Cert.RowReferenceIdeal.τ).loc Cert.RowReferenceIdeal.main_arg2) = m ((c.tc : Thread Cert.RowReferenceIdeal.nD Cert.RowReferenceIdeal.τ).loc Cert.RowReferenceIdeal.main_arg2))
      ∧ r.2.sem = fun _ => 0)

def quiescent_StepIn [hStepIn : Cert.StepIn.Facts] : Prop :=
  ∀ (m : (ℓ : Loc Cert.StepIn.nD Cert.StepIn.τ Cert.StepIn.sig) → Buf (Elt Bits) ℓ) (g : Dev Cert.StepIn.nD → PrngReg), Pre_StepIn m →
    θ_run (Cert.StepIn.defs (F := Bits)) (onTc (τ := Cert.StepIn.τ) (Cert.StepIn.main (F := Bits))) ⟨m, fun _ => 0, g⟩ (fun r => (∀ c : Dev Cert.StepIn.nD,
      r.2.mem ((c.tc : Thread Cert.StepIn.nD Cert.StepIn.τ).loc Cert.StepIn.main_arg0) = m ((c.tc : Thread Cert.StepIn.nD Cert.StepIn.τ).loc Cert.StepIn.main_arg0)
      ∧ r.2.mem ((c.tc : Thread Cert.StepIn.nD Cert.StepIn.τ).loc Cert.StepIn.main_arg1) = m ((c.tc : Thread Cert.StepIn.nD Cert.StepIn.τ).loc Cert.StepIn.main_arg1)
      ∧ r.2.mem ((c.tc : Thread Cert.StepIn.nD Cert.StepIn.τ).loc Cert.StepIn.main_arg2) = m ((c.tc : Thread Cert.StepIn.nD Cert.StepIn.τ).loc Cert.StepIn.main_arg2)
      ∧ r.2.mem ((c.tc : Thread Cert.StepIn.nD Cert.StepIn.τ).loc Cert.StepIn.main_arg3) = m ((c.tc : Thread Cert.StepIn.nD Cert.StepIn.τ).loc Cert.StepIn.main_arg3))
      ∧ r.2.sem = fun _ => 0)

def quiescent_StepInIdeal [hStepInIdeal : Cert.StepInIdeal.Facts] : Prop :=
  ∀ (m : (ℓ : Loc Cert.StepInIdeal.nD Cert.StepInIdeal.τ Cert.StepInIdeal.sig) → Buf (Elt Ideal) ℓ) (g : Dev Cert.StepInIdeal.nD → PrngReg), Pre_StepInIdeal m →
    θ_run (Cert.StepInIdeal.defs (F := Ideal)) (onTc (τ := Cert.StepInIdeal.τ) (Cert.StepInIdeal.main (F := Ideal))) ⟨m, fun _ => 0, g⟩ (fun r => (∀ c : Dev Cert.StepInIdeal.nD,
      r.2.mem ((c.tc : Thread Cert.StepInIdeal.nD Cert.StepInIdeal.τ).loc Cert.StepInIdeal.main_arg0) = m ((c.tc : Thread Cert.StepInIdeal.nD Cert.StepInIdeal.τ).loc Cert.StepInIdeal.main_arg0)
      ∧ r.2.mem ((c.tc : Thread Cert.StepInIdeal.nD Cert.StepInIdeal.τ).loc Cert.StepInIdeal.main_arg1) = m ((c.tc : Thread Cert.StepInIdeal.nD Cert.StepInIdeal.τ).loc Cert.StepInIdeal.main_arg1)
      ∧ r.2.mem ((c.tc : Thread Cert.StepInIdeal.nD Cert.StepInIdeal.τ).loc Cert.StepInIdeal.main_arg2) = m ((c.tc : Thread Cert.StepInIdeal.nD Cert.StepInIdeal.τ).loc Cert.StepInIdeal.main_arg2)
      ∧ r.2.mem ((c.tc : Thread Cert.StepInIdeal.nD Cert.StepInIdeal.τ).loc Cert.StepInIdeal.main_arg3) = m ((c.tc : Thread Cert.StepInIdeal.nD Cert.StepInIdeal.τ).loc Cert.StepInIdeal.main_arg3))
      ∧ r.2.sem = fun _ => 0)

def quiescent_StepInReferenceIdeal [hStepInReferenceIdeal : Cert.StepInReferenceIdeal.Facts] : Prop :=
  ∀ (m : (ℓ : Loc Cert.StepInReferenceIdeal.nD Cert.StepInReferenceIdeal.τ Cert.StepInReferenceIdeal.sig) → Buf (Elt Ideal) ℓ) (g : Dev Cert.StepInReferenceIdeal.nD → PrngReg), Pre_StepInReferenceIdeal m →
    θ_run (Cert.StepInReferenceIdeal.defs (F := Ideal)) (onTc (τ := Cert.StepInReferenceIdeal.τ) (Cert.StepInReferenceIdeal.main (F := Ideal))) ⟨m, fun _ => 0, g⟩ (fun r => (∀ c : Dev Cert.StepInReferenceIdeal.nD,
      r.2.mem ((c.tc : Thread Cert.StepInReferenceIdeal.nD Cert.StepInReferenceIdeal.τ).loc Cert.StepInReferenceIdeal.main_arg0) = m ((c.tc : Thread Cert.StepInReferenceIdeal.nD Cert.StepInReferenceIdeal.τ).loc Cert.StepInReferenceIdeal.main_arg0)
      ∧ r.2.mem ((c.tc : Thread Cert.StepInReferenceIdeal.nD Cert.StepInReferenceIdeal.τ).loc Cert.StepInReferenceIdeal.main_arg1) = m ((c.tc : Thread Cert.StepInReferenceIdeal.nD Cert.StepInReferenceIdeal.τ).loc Cert.StepInReferenceIdeal.main_arg1)
      ∧ r.2.mem ((c.tc : Thread Cert.StepInReferenceIdeal.nD Cert.StepInReferenceIdeal.τ).loc Cert.StepInReferenceIdeal.main_arg2) = m ((c.tc : Thread Cert.StepInReferenceIdeal.nD Cert.StepInReferenceIdeal.τ).loc Cert.StepInReferenceIdeal.main_arg2)
      ∧ r.2.mem ((c.tc : Thread Cert.StepInReferenceIdeal.nD Cert.StepInReferenceIdeal.τ).loc Cert.StepInReferenceIdeal.main_arg3) = m ((c.tc : Thread Cert.StepInReferenceIdeal.nD Cert.StepInReferenceIdeal.τ).loc Cert.StepInReferenceIdeal.main_arg3))
      ∧ r.2.sem = fun _ => 0)

def quiescent_StepOut [hStepOut : Cert.StepOut.Facts] : Prop :=
  ∀ (m : (ℓ : Loc Cert.StepOut.nD Cert.StepOut.τ Cert.StepOut.sig) → Buf (Elt Bits) ℓ) (g : Dev Cert.StepOut.nD → PrngReg), Pre_StepOut m →
    θ_run (Cert.StepOut.defs (F := Bits)) (onTc (τ := Cert.StepOut.τ) (Cert.StepOut.main (F := Bits))) ⟨m, fun _ => 0, g⟩ (fun r => (∀ c : Dev Cert.StepOut.nD,
      r.2.mem ((c.tc : Thread Cert.StepOut.nD Cert.StepOut.τ).loc Cert.StepOut.main_arg0) = m ((c.tc : Thread Cert.StepOut.nD Cert.StepOut.τ).loc Cert.StepOut.main_arg0)
      ∧ r.2.mem ((c.tc : Thread Cert.StepOut.nD Cert.StepOut.τ).loc Cert.StepOut.main_arg1) = m ((c.tc : Thread Cert.StepOut.nD Cert.StepOut.τ).loc Cert.StepOut.main_arg1)
      ∧ r.2.mem ((c.tc : Thread Cert.StepOut.nD Cert.StepOut.τ).loc Cert.StepOut.main_arg2) = m ((c.tc : Thread Cert.StepOut.nD Cert.StepOut.τ).loc Cert.StepOut.main_arg2)
      ∧ r.2.mem ((c.tc : Thread Cert.StepOut.nD Cert.StepOut.τ).loc Cert.StepOut.main_arg3) = m ((c.tc : Thread Cert.StepOut.nD Cert.StepOut.τ).loc Cert.StepOut.main_arg3))
      ∧ r.2.sem = fun _ => 0)

def quiescent_StepOutIdeal [hStepOutIdeal : Cert.StepOutIdeal.Facts] : Prop :=
  ∀ (m : (ℓ : Loc Cert.StepOutIdeal.nD Cert.StepOutIdeal.τ Cert.StepOutIdeal.sig) → Buf (Elt Ideal) ℓ) (g : Dev Cert.StepOutIdeal.nD → PrngReg), Pre_StepOutIdeal m →
    θ_run (Cert.StepOutIdeal.defs (F := Ideal)) (onTc (τ := Cert.StepOutIdeal.τ) (Cert.StepOutIdeal.main (F := Ideal))) ⟨m, fun _ => 0, g⟩ (fun r => (∀ c : Dev Cert.StepOutIdeal.nD,
      r.2.mem ((c.tc : Thread Cert.StepOutIdeal.nD Cert.StepOutIdeal.τ).loc Cert.StepOutIdeal.main_arg0) = m ((c.tc : Thread Cert.StepOutIdeal.nD Cert.StepOutIdeal.τ).loc Cert.StepOutIdeal.main_arg0)
      ∧ r.2.mem ((c.tc : Thread Cert.StepOutIdeal.nD Cert.StepOutIdeal.τ).loc Cert.StepOutIdeal.main_arg1) = m ((c.tc : Thread Cert.StepOutIdeal.nD Cert.StepOutIdeal.τ).loc Cert.StepOutIdeal.main_arg1)
      ∧ r.2.mem ((c.tc : Thread Cert.StepOutIdeal.nD Cert.StepOutIdeal.τ).loc Cert.StepOutIdeal.main_arg2) = m ((c.tc : Thread Cert.StepOutIdeal.nD Cert.StepOutIdeal.τ).loc Cert.StepOutIdeal.main_arg2)
      ∧ r.2.mem ((c.tc : Thread Cert.StepOutIdeal.nD Cert.StepOutIdeal.τ).loc Cert.StepOutIdeal.main_arg3) = m ((c.tc : Thread Cert.StepOutIdeal.nD Cert.StepOutIdeal.τ).loc Cert.StepOutIdeal.main_arg3))
      ∧ r.2.sem = fun _ => 0)

def quiescent_StepOutReferenceIdeal [hStepOutReferenceIdeal : Cert.StepOutReferenceIdeal.Facts] : Prop :=
  ∀ (m : (ℓ : Loc Cert.StepOutReferenceIdeal.nD Cert.StepOutReferenceIdeal.τ Cert.StepOutReferenceIdeal.sig) → Buf (Elt Ideal) ℓ) (g : Dev Cert.StepOutReferenceIdeal.nD → PrngReg), Pre_StepOutReferenceIdeal m →
    θ_run (Cert.StepOutReferenceIdeal.defs (F := Ideal)) (onTc (τ := Cert.StepOutReferenceIdeal.τ) (Cert.StepOutReferenceIdeal.main (F := Ideal))) ⟨m, fun _ => 0, g⟩ (fun r => (∀ c : Dev Cert.StepOutReferenceIdeal.nD,
      r.2.mem ((c.tc : Thread Cert.StepOutReferenceIdeal.nD Cert.StepOutReferenceIdeal.τ).loc Cert.StepOutReferenceIdeal.main_arg0) = m ((c.tc : Thread Cert.StepOutReferenceIdeal.nD Cert.StepOutReferenceIdeal.τ).loc Cert.StepOutReferenceIdeal.main_arg0)
      ∧ r.2.mem ((c.tc : Thread Cert.StepOutReferenceIdeal.nD Cert.StepOutReferenceIdeal.τ).loc Cert.StepOutReferenceIdeal.main_arg1) = m ((c.tc : Thread Cert.StepOutReferenceIdeal.nD Cert.StepOutReferenceIdeal.τ).loc Cert.StepOutReferenceIdeal.main_arg1)
      ∧ r.2.mem ((c.tc : Thread Cert.StepOutReferenceIdeal.nD Cert.StepOutReferenceIdeal.τ).loc Cert.StepOutReferenceIdeal.main_arg2) = m ((c.tc : Thread Cert.StepOutReferenceIdeal.nD Cert.StepOutReferenceIdeal.τ).loc Cert.StepOutReferenceIdeal.main_arg2)
      ∧ r.2.mem ((c.tc : Thread Cert.StepOutReferenceIdeal.nD Cert.StepOutReferenceIdeal.τ).loc Cert.StepOutReferenceIdeal.main_arg3) = m ((c.tc : Thread Cert.StepOutReferenceIdeal.nD Cert.StepOutReferenceIdeal.τ).loc Cert.StepOutReferenceIdeal.main_arg3))
      ∧ r.2.sem = fun _ => 0)

def quiescent_StepUp [hStepUp : Cert.StepUp.Facts] : Prop :=
  ∀ (m : (ℓ : Loc Cert.StepUp.nD Cert.StepUp.τ Cert.StepUp.sig) → Buf (Elt Bits) ℓ) (g : Dev Cert.StepUp.nD → PrngReg), Pre_StepUp m →
    θ_run (Cert.StepUp.defs (F := Bits)) (onTc (τ := Cert.StepUp.τ) (Cert.StepUp.main (F := Bits))) ⟨m, fun _ => 0, g⟩ (fun r => (∀ c : Dev Cert.StepUp.nD,
      r.2.mem ((c.tc : Thread Cert.StepUp.nD Cert.StepUp.τ).loc Cert.StepUp.main_arg0) = m ((c.tc : Thread Cert.StepUp.nD Cert.StepUp.τ).loc Cert.StepUp.main_arg0)
      ∧ r.2.mem ((c.tc : Thread Cert.StepUp.nD Cert.StepUp.τ).loc Cert.StepUp.main_arg1) = m ((c.tc : Thread Cert.StepUp.nD Cert.StepUp.τ).loc Cert.StepUp.main_arg1)
      ∧ r.2.mem ((c.tc : Thread Cert.StepUp.nD Cert.StepUp.τ).loc Cert.StepUp.main_arg2) = m ((c.tc : Thread Cert.StepUp.nD Cert.StepUp.τ).loc Cert.StepUp.main_arg2)
      ∧ r.2.mem ((c.tc : Thread Cert.StepUp.nD Cert.StepUp.τ).loc Cert.StepUp.main_arg3) = m ((c.tc : Thread Cert.StepUp.nD Cert.StepUp.τ).loc Cert.StepUp.main_arg3))
      ∧ r.2.sem = fun _ => 0)

def quiescent_StepUpIdeal [hStepUpIdeal : Cert.StepUpIdeal.Facts] : Prop :=
  ∀ (m : (ℓ : Loc Cert.StepUpIdeal.nD Cert.StepUpIdeal.τ Cert.StepUpIdeal.sig) → Buf (Elt Ideal) ℓ) (g : Dev Cert.StepUpIdeal.nD → PrngReg), Pre_StepUpIdeal m →
    θ_run (Cert.StepUpIdeal.defs (F := Ideal)) (onTc (τ := Cert.StepUpIdeal.τ) (Cert.StepUpIdeal.main (F := Ideal))) ⟨m, fun _ => 0, g⟩ (fun r => (∀ c : Dev Cert.StepUpIdeal.nD,
      r.2.mem ((c.tc : Thread Cert.StepUpIdeal.nD Cert.StepUpIdeal.τ).loc Cert.StepUpIdeal.main_arg0) = m ((c.tc : Thread Cert.StepUpIdeal.nD Cert.StepUpIdeal.τ).loc Cert.StepUpIdeal.main_arg0)
      ∧ r.2.mem ((c.tc : Thread Cert.StepUpIdeal.nD Cert.StepUpIdeal.τ).loc Cert.StepUpIdeal.main_arg1) = m ((c.tc : Thread Cert.StepUpIdeal.nD Cert.StepUpIdeal.τ).loc Cert.StepUpIdeal.main_arg1)
      ∧ r.2.mem ((c.tc : Thread Cert.StepUpIdeal.nD Cert.StepUpIdeal.τ).loc Cert.StepUpIdeal.main_arg2) = m ((c.tc : Thread Cert.StepUpIdeal.nD Cert.StepUpIdeal.τ).loc Cert.StepUpIdeal.main_arg2)
      ∧ r.2.mem ((c.tc : Thread Cert.StepUpIdeal.nD Cert.StepUpIdeal.τ).loc Cert.StepUpIdeal.main_arg3) = m ((c.tc : Thread Cert.StepUpIdeal.nD Cert.StepUpIdeal.τ).loc Cert.StepUpIdeal.main_arg3))
      ∧ r.2.sem = fun _ => 0)

def quiescent_StepUpReferenceIdeal [hStepUpReferenceIdeal : Cert.StepUpReferenceIdeal.Facts] : Prop :=
  ∀ (m : (ℓ : Loc Cert.StepUpReferenceIdeal.nD Cert.StepUpReferenceIdeal.τ Cert.StepUpReferenceIdeal.sig) → Buf (Elt Ideal) ℓ) (g : Dev Cert.StepUpReferenceIdeal.nD → PrngReg), Pre_StepUpReferenceIdeal m →
    θ_run (Cert.StepUpReferenceIdeal.defs (F := Ideal)) (onTc (τ := Cert.StepUpReferenceIdeal.τ) (Cert.StepUpReferenceIdeal.main (F := Ideal))) ⟨m, fun _ => 0, g⟩ (fun r => (∀ c : Dev Cert.StepUpReferenceIdeal.nD,
      r.2.mem ((c.tc : Thread Cert.StepUpReferenceIdeal.nD Cert.StepUpReferenceIdeal.τ).loc Cert.StepUpReferenceIdeal.main_arg0) = m ((c.tc : Thread Cert.StepUpReferenceIdeal.nD Cert.StepUpReferenceIdeal.τ).loc Cert.StepUpReferenceIdeal.main_arg0)
      ∧ r.2.mem ((c.tc : Thread Cert.StepUpReferenceIdeal.nD Cert.StepUpReferenceIdeal.τ).loc Cert.StepUpReferenceIdeal.main_arg1) = m ((c.tc : Thread Cert.StepUpReferenceIdeal.nD Cert.StepUpReferenceIdeal.τ).loc Cert.StepUpReferenceIdeal.main_arg1)
      ∧ r.2.mem ((c.tc : Thread Cert.StepUpReferenceIdeal.nD Cert.StepUpReferenceIdeal.τ).loc Cert.StepUpReferenceIdeal.main_arg2) = m ((c.tc : Thread Cert.StepUpReferenceIdeal.nD Cert.StepUpReferenceIdeal.τ).loc Cert.StepUpReferenceIdeal.main_arg2)
      ∧ r.2.mem ((c.tc : Thread Cert.StepUpReferenceIdeal.nD Cert.StepUpReferenceIdeal.τ).loc Cert.StepUpReferenceIdeal.main_arg3) = m ((c.tc : Thread Cert.StepUpReferenceIdeal.nD Cert.StepUpReferenceIdeal.τ).loc Cert.StepUpReferenceIdeal.main_arg3))
      ∧ r.2.sem = fun _ => 0)

def quiescent_StepDown [hStepDown : Cert.StepDown.Facts] : Prop :=
  ∀ (m : (ℓ : Loc Cert.StepDown.nD Cert.StepDown.τ Cert.StepDown.sig) → Buf (Elt Bits) ℓ) (g : Dev Cert.StepDown.nD → PrngReg), Pre_StepDown m →
    θ_run (Cert.StepDown.defs (F := Bits)) (onTc (τ := Cert.StepDown.τ) (Cert.StepDown.main (F := Bits))) ⟨m, fun _ => 0, g⟩ (fun r => (∀ c : Dev Cert.StepDown.nD,
      r.2.mem ((c.tc : Thread Cert.StepDown.nD Cert.StepDown.τ).loc Cert.StepDown.main_arg0) = m ((c.tc : Thread Cert.StepDown.nD Cert.StepDown.τ).loc Cert.StepDown.main_arg0)
      ∧ r.2.mem ((c.tc : Thread Cert.StepDown.nD Cert.StepDown.τ).loc Cert.StepDown.main_arg1) = m ((c.tc : Thread Cert.StepDown.nD Cert.StepDown.τ).loc Cert.StepDown.main_arg1)
      ∧ r.2.mem ((c.tc : Thread Cert.StepDown.nD Cert.StepDown.τ).loc Cert.StepDown.main_arg2) = m ((c.tc : Thread Cert.StepDown.nD Cert.StepDown.τ).loc Cert.StepDown.main_arg2)
      ∧ r.2.mem ((c.tc : Thread Cert.StepDown.nD Cert.StepDown.τ).loc Cert.StepDown.main_arg3) = m ((c.tc : Thread Cert.StepDown.nD Cert.StepDown.τ).loc Cert.StepDown.main_arg3))
      ∧ r.2.sem = fun _ => 0)

def quiescent_StepDownIdeal [hStepDownIdeal : Cert.StepDownIdeal.Facts] : Prop :=
  ∀ (m : (ℓ : Loc Cert.StepDownIdeal.nD Cert.StepDownIdeal.τ Cert.StepDownIdeal.sig) → Buf (Elt Ideal) ℓ) (g : Dev Cert.StepDownIdeal.nD → PrngReg), Pre_StepDownIdeal m →
    θ_run (Cert.StepDownIdeal.defs (F := Ideal)) (onTc (τ := Cert.StepDownIdeal.τ) (Cert.StepDownIdeal.main (F := Ideal))) ⟨m, fun _ => 0, g⟩ (fun r => (∀ c : Dev Cert.StepDownIdeal.nD,
      r.2.mem ((c.tc : Thread Cert.StepDownIdeal.nD Cert.StepDownIdeal.τ).loc Cert.StepDownIdeal.main_arg0) = m ((c.tc : Thread Cert.StepDownIdeal.nD Cert.StepDownIdeal.τ).loc Cert.StepDownIdeal.main_arg0)
      ∧ r.2.mem ((c.tc : Thread Cert.StepDownIdeal.nD Cert.StepDownIdeal.τ).loc Cert.StepDownIdeal.main_arg1) = m ((c.tc : Thread Cert.StepDownIdeal.nD Cert.StepDownIdeal.τ).loc Cert.StepDownIdeal.main_arg1)
      ∧ r.2.mem ((c.tc : Thread Cert.StepDownIdeal.nD Cert.StepDownIdeal.τ).loc Cert.StepDownIdeal.main_arg2) = m ((c.tc : Thread Cert.StepDownIdeal.nD Cert.StepDownIdeal.τ).loc Cert.StepDownIdeal.main_arg2)
      ∧ r.2.mem ((c.tc : Thread Cert.StepDownIdeal.nD Cert.StepDownIdeal.τ).loc Cert.StepDownIdeal.main_arg3) = m ((c.tc : Thread Cert.StepDownIdeal.nD Cert.StepDownIdeal.τ).loc Cert.StepDownIdeal.main_arg3))
      ∧ r.2.sem = fun _ => 0)

def quiescent_StepDownReferenceIdeal [hStepDownReferenceIdeal : Cert.StepDownReferenceIdeal.Facts] : Prop :=
  ∀ (m : (ℓ : Loc Cert.StepDownReferenceIdeal.nD Cert.StepDownReferenceIdeal.τ Cert.StepDownReferenceIdeal.sig) → Buf (Elt Ideal) ℓ) (g : Dev Cert.StepDownReferenceIdeal.nD → PrngReg), Pre_StepDownReferenceIdeal m →
    θ_run (Cert.StepDownReferenceIdeal.defs (F := Ideal)) (onTc (τ := Cert.StepDownReferenceIdeal.τ) (Cert.StepDownReferenceIdeal.main (F := Ideal))) ⟨m, fun _ => 0, g⟩ (fun r => (∀ c : Dev Cert.StepDownReferenceIdeal.nD,
      r.2.mem ((c.tc : Thread Cert.StepDownReferenceIdeal.nD Cert.StepDownReferenceIdeal.τ).loc Cert.StepDownReferenceIdeal.main_arg0) = m ((c.tc : Thread Cert.StepDownReferenceIdeal.nD Cert.StepDownReferenceIdeal.τ).loc Cert.StepDownReferenceIdeal.main_arg0)
      ∧ r.2.mem ((c.tc : Thread Cert.StepDownReferenceIdeal.nD Cert.StepDownReferenceIdeal.τ).loc Cert.StepDownReferenceIdeal.main_arg1) = m ((c.tc : Thread Cert.StepDownReferenceIdeal.nD Cert.StepDownReferenceIdeal.τ).loc Cert.StepDownReferenceIdeal.main_arg1)
      ∧ r.2.mem ((c.tc : Thread Cert.StepDownReferenceIdeal.nD Cert.StepDownReferenceIdeal.τ).loc Cert.StepDownReferenceIdeal.main_arg2) = m ((c.tc : Thread Cert.StepDownReferenceIdeal.nD Cert.StepDownReferenceIdeal.τ).loc Cert.StepDownReferenceIdeal.main_arg2)
      ∧ r.2.mem ((c.tc : Thread Cert.StepDownReferenceIdeal.nD Cert.StepDownReferenceIdeal.τ).loc Cert.StepDownReferenceIdeal.main_arg3) = m ((c.tc : Thread Cert.StepDownReferenceIdeal.nD Cert.StepDownReferenceIdeal.τ).loc Cert.StepDownReferenceIdeal.main_arg3))
      ∧ r.2.sem = fun _ => 0)

def quiescent_StepAda [hStepAda : Cert.StepAda.Facts] : Prop :=
  ∀ (m : (ℓ : Loc Cert.StepAda.nD Cert.StepAda.τ Cert.StepAda.sig) → Buf (Elt Bits) ℓ) (g : Dev Cert.StepAda.nD → PrngReg), Pre_StepAda m →
    θ_run (Cert.StepAda.defs (F := Bits)) (onTc (τ := Cert.StepAda.τ) (Cert.StepAda.main (F := Bits))) ⟨m, fun _ => 0, g⟩ (fun r => (∀ c : Dev Cert.StepAda.nD,
      r.2.mem ((c.tc : Thread Cert.StepAda.nD Cert.StepAda.τ).loc Cert.StepAda.main_arg0) = m ((c.tc : Thread Cert.StepAda.nD Cert.StepAda.τ).loc Cert.StepAda.main_arg0)
      ∧ r.2.mem ((c.tc : Thread Cert.StepAda.nD Cert.StepAda.τ).loc Cert.StepAda.main_arg1) = m ((c.tc : Thread Cert.StepAda.nD Cert.StepAda.τ).loc Cert.StepAda.main_arg1)
      ∧ r.2.mem ((c.tc : Thread Cert.StepAda.nD Cert.StepAda.τ).loc Cert.StepAda.main_arg2) = m ((c.tc : Thread Cert.StepAda.nD Cert.StepAda.τ).loc Cert.StepAda.main_arg2)
      ∧ r.2.mem ((c.tc : Thread Cert.StepAda.nD Cert.StepAda.τ).loc Cert.StepAda.main_arg3) = m ((c.tc : Thread Cert.StepAda.nD Cert.StepAda.τ).loc Cert.StepAda.main_arg3))
      ∧ r.2.sem = fun _ => 0)

def quiescent_StepAdaIdeal [hStepAdaIdeal : Cert.StepAdaIdeal.Facts] : Prop :=
  ∀ (m : (ℓ : Loc Cert.StepAdaIdeal.nD Cert.StepAdaIdeal.τ Cert.StepAdaIdeal.sig) → Buf (Elt Ideal) ℓ) (g : Dev Cert.StepAdaIdeal.nD → PrngReg), Pre_StepAdaIdeal m →
    θ_run (Cert.StepAdaIdeal.defs (F := Ideal)) (onTc (τ := Cert.StepAdaIdeal.τ) (Cert.StepAdaIdeal.main (F := Ideal))) ⟨m, fun _ => 0, g⟩ (fun r => (∀ c : Dev Cert.StepAdaIdeal.nD,
      r.2.mem ((c.tc : Thread Cert.StepAdaIdeal.nD Cert.StepAdaIdeal.τ).loc Cert.StepAdaIdeal.main_arg0) = m ((c.tc : Thread Cert.StepAdaIdeal.nD Cert.StepAdaIdeal.τ).loc Cert.StepAdaIdeal.main_arg0)
      ∧ r.2.mem ((c.tc : Thread Cert.StepAdaIdeal.nD Cert.StepAdaIdeal.τ).loc Cert.StepAdaIdeal.main_arg1) = m ((c.tc : Thread Cert.StepAdaIdeal.nD Cert.StepAdaIdeal.τ).loc Cert.StepAdaIdeal.main_arg1)
      ∧ r.2.mem ((c.tc : Thread Cert.StepAdaIdeal.nD Cert.StepAdaIdeal.τ).loc Cert.StepAdaIdeal.main_arg2) = m ((c.tc : Thread Cert.StepAdaIdeal.nD Cert.StepAdaIdeal.τ).loc Cert.StepAdaIdeal.main_arg2)
      ∧ r.2.mem ((c.tc : Thread Cert.StepAdaIdeal.nD Cert.StepAdaIdeal.τ).loc Cert.StepAdaIdeal.main_arg3) = m ((c.tc : Thread Cert.StepAdaIdeal.nD Cert.StepAdaIdeal.τ).loc Cert.StepAdaIdeal.main_arg3))
      ∧ r.2.sem = fun _ => 0)

def quiescent_StepAdaReferenceIdeal [hStepAdaReferenceIdeal : Cert.StepAdaReferenceIdeal.Facts] : Prop :=
  ∀ (m : (ℓ : Loc Cert.StepAdaReferenceIdeal.nD Cert.StepAdaReferenceIdeal.τ Cert.StepAdaReferenceIdeal.sig) → Buf (Elt Ideal) ℓ) (g : Dev Cert.StepAdaReferenceIdeal.nD → PrngReg), Pre_StepAdaReferenceIdeal m →
    θ_run (Cert.StepAdaReferenceIdeal.defs (F := Ideal)) (onTc (τ := Cert.StepAdaReferenceIdeal.τ) (Cert.StepAdaReferenceIdeal.main (F := Ideal))) ⟨m, fun _ => 0, g⟩ (fun r => (∀ c : Dev Cert.StepAdaReferenceIdeal.nD,
      r.2.mem ((c.tc : Thread Cert.StepAdaReferenceIdeal.nD Cert.StepAdaReferenceIdeal.τ).loc Cert.StepAdaReferenceIdeal.main_arg0) = m ((c.tc : Thread Cert.StepAdaReferenceIdeal.nD Cert.StepAdaReferenceIdeal.τ).loc Cert.StepAdaReferenceIdeal.main_arg0)
      ∧ r.2.mem ((c.tc : Thread Cert.StepAdaReferenceIdeal.nD Cert.StepAdaReferenceIdeal.τ).loc Cert.StepAdaReferenceIdeal.main_arg1) = m ((c.tc : Thread Cert.StepAdaReferenceIdeal.nD Cert.StepAdaReferenceIdeal.τ).loc Cert.StepAdaReferenceIdeal.main_arg1)
      ∧ r.2.mem ((c.tc : Thread Cert.StepAdaReferenceIdeal.nD Cert.StepAdaReferenceIdeal.τ).loc Cert.StepAdaReferenceIdeal.main_arg2) = m ((c.tc : Thread Cert.StepAdaReferenceIdeal.nD Cert.StepAdaReferenceIdeal.τ).loc Cert.StepAdaReferenceIdeal.main_arg2)
      ∧ r.2.mem ((c.tc : Thread Cert.StepAdaReferenceIdeal.nD Cert.StepAdaReferenceIdeal.τ).loc Cert.StepAdaReferenceIdeal.main_arg3) = m ((c.tc : Thread Cert.StepAdaReferenceIdeal.nD Cert.StepAdaReferenceIdeal.τ).loc Cert.StepAdaReferenceIdeal.main_arg3))
      ∧ r.2.sem = fun _ => 0)

def quiescent_StepSmall [hStepSmall : Cert.StepSmall.Facts] : Prop :=
  ∀ (m : (ℓ : Loc Cert.StepSmall.nD Cert.StepSmall.τ Cert.StepSmall.sig) → Buf (Elt Bits) ℓ) (g : Dev Cert.StepSmall.nD → PrngReg), Pre_StepSmall m →
    θ_run (Cert.StepSmall.defs (F := Bits)) (onTc (τ := Cert.StepSmall.τ) (Cert.StepSmall.main (F := Bits))) ⟨m, fun _ => 0, g⟩ (fun r => (∀ c : Dev Cert.StepSmall.nD,
      r.2.mem ((c.tc : Thread Cert.StepSmall.nD Cert.StepSmall.τ).loc Cert.StepSmall.main_arg0) = m ((c.tc : Thread Cert.StepSmall.nD Cert.StepSmall.τ).loc Cert.StepSmall.main_arg0)
      ∧ r.2.mem ((c.tc : Thread Cert.StepSmall.nD Cert.StepSmall.τ).loc Cert.StepSmall.main_arg1) = m ((c.tc : Thread Cert.StepSmall.nD Cert.StepSmall.τ).loc Cert.StepSmall.main_arg1)
      ∧ r.2.mem ((c.tc : Thread Cert.StepSmall.nD Cert.StepSmall.τ).loc Cert.StepSmall.main_arg2) = m ((c.tc : Thread Cert.StepSmall.nD Cert.StepSmall.τ).loc Cert.StepSmall.main_arg2)
      ∧ r.2.mem ((c.tc : Thread Cert.StepSmall.nD Cert.StepSmall.τ).loc Cert.StepSmall.main_arg3) = m ((c.tc : Thread Cert.StepSmall.nD Cert.StepSmall.τ).loc Cert.StepSmall.main_arg3))
      ∧ r.2.sem = fun _ => 0)

def quiescent_StepSmallIdeal [hStepSmallIdeal : Cert.StepSmallIdeal.Facts] : Prop :=
  ∀ (m : (ℓ : Loc Cert.StepSmallIdeal.nD Cert.StepSmallIdeal.τ Cert.StepSmallIdeal.sig) → Buf (Elt Ideal) ℓ) (g : Dev Cert.StepSmallIdeal.nD → PrngReg), Pre_StepSmallIdeal m →
    θ_run (Cert.StepSmallIdeal.defs (F := Ideal)) (onTc (τ := Cert.StepSmallIdeal.τ) (Cert.StepSmallIdeal.main (F := Ideal))) ⟨m, fun _ => 0, g⟩ (fun r => (∀ c : Dev Cert.StepSmallIdeal.nD,
      r.2.mem ((c.tc : Thread Cert.StepSmallIdeal.nD Cert.StepSmallIdeal.τ).loc Cert.StepSmallIdeal.main_arg0) = m ((c.tc : Thread Cert.StepSmallIdeal.nD Cert.StepSmallIdeal.τ).loc Cert.StepSmallIdeal.main_arg0)
      ∧ r.2.mem ((c.tc : Thread Cert.StepSmallIdeal.nD Cert.StepSmallIdeal.τ).loc Cert.StepSmallIdeal.main_arg1) = m ((c.tc : Thread Cert.StepSmallIdeal.nD Cert.StepSmallIdeal.τ).loc Cert.StepSmallIdeal.main_arg1)
      ∧ r.2.mem ((c.tc : Thread Cert.StepSmallIdeal.nD Cert.StepSmallIdeal.τ).loc Cert.StepSmallIdeal.main_arg2) = m ((c.tc : Thread Cert.StepSmallIdeal.nD Cert.StepSmallIdeal.τ).loc Cert.StepSmallIdeal.main_arg2)
      ∧ r.2.mem ((c.tc : Thread Cert.StepSmallIdeal.nD Cert.StepSmallIdeal.τ).loc Cert.StepSmallIdeal.main_arg3) = m ((c.tc : Thread Cert.StepSmallIdeal.nD Cert.StepSmallIdeal.τ).loc Cert.StepSmallIdeal.main_arg3))
      ∧ r.2.sem = fun _ => 0)

def quiescent_StepSmallReferenceIdeal [hStepSmallReferenceIdeal : Cert.StepSmallReferenceIdeal.Facts] : Prop :=
  ∀ (m : (ℓ : Loc Cert.StepSmallReferenceIdeal.nD Cert.StepSmallReferenceIdeal.τ Cert.StepSmallReferenceIdeal.sig) → Buf (Elt Ideal) ℓ) (g : Dev Cert.StepSmallReferenceIdeal.nD → PrngReg), Pre_StepSmallReferenceIdeal m →
    θ_run (Cert.StepSmallReferenceIdeal.defs (F := Ideal)) (onTc (τ := Cert.StepSmallReferenceIdeal.τ) (Cert.StepSmallReferenceIdeal.main (F := Ideal))) ⟨m, fun _ => 0, g⟩ (fun r => (∀ c : Dev Cert.StepSmallReferenceIdeal.nD,
      r.2.mem ((c.tc : Thread Cert.StepSmallReferenceIdeal.nD Cert.StepSmallReferenceIdeal.τ).loc Cert.StepSmallReferenceIdeal.main_arg0) = m ((c.tc : Thread Cert.StepSmallReferenceIdeal.nD Cert.StepSmallReferenceIdeal.τ).loc Cert.StepSmallReferenceIdeal.main_arg0)
      ∧ r.2.mem ((c.tc : Thread Cert.StepSmallReferenceIdeal.nD Cert.StepSmallReferenceIdeal.τ).loc Cert.StepSmallReferenceIdeal.main_arg1) = m ((c.tc : Thread Cert.StepSmallReferenceIdeal.nD Cert.StepSmallReferenceIdeal.τ).loc Cert.StepSmallReferenceIdeal.main_arg1)
      ∧ r.2.mem ((c.tc : Thread Cert.StepSmallReferenceIdeal.nD Cert.StepSmallReferenceIdeal.τ).loc Cert.StepSmallReferenceIdeal.main_arg2) = m ((c.tc : Thread Cert.StepSmallReferenceIdeal.nD Cert.StepSmallReferenceIdeal.τ).loc Cert.StepSmallReferenceIdeal.main_arg2)
      ∧ r.2.mem ((c.tc : Thread Cert.StepSmallReferenceIdeal.nD Cert.StepSmallReferenceIdeal.τ).loc Cert.StepSmallReferenceIdeal.main_arg3) = m ((c.tc : Thread Cert.StepSmallReferenceIdeal.nD Cert.StepSmallReferenceIdeal.τ).loc Cert.StepSmallReferenceIdeal.main_arg3))
      ∧ r.2.sem = fun _ => 0)

def quiescent_StepConv [hStepConv : Cert.StepConv.Facts] : Prop :=
  ∀ (m : (ℓ : Loc Cert.StepConv.nD Cert.StepConv.τ Cert.StepConv.sig) → Buf (Elt Bits) ℓ) (g : Dev Cert.StepConv.nD → PrngReg), Pre_StepConv m →
    θ_run (Cert.StepConv.defs (F := Bits)) (onTc (τ := Cert.StepConv.τ) (Cert.StepConv.main (F := Bits))) ⟨m, fun _ => 0, g⟩ (fun r => (∀ c : Dev Cert.StepConv.nD,
      r.2.mem ((c.tc : Thread Cert.StepConv.nD Cert.StepConv.τ).loc Cert.StepConv.main_arg0) = m ((c.tc : Thread Cert.StepConv.nD Cert.StepConv.τ).loc Cert.StepConv.main_arg0)
      ∧ r.2.mem ((c.tc : Thread Cert.StepConv.nD Cert.StepConv.τ).loc Cert.StepConv.main_arg1) = m ((c.tc : Thread Cert.StepConv.nD Cert.StepConv.τ).loc Cert.StepConv.main_arg1)
      ∧ r.2.mem ((c.tc : Thread Cert.StepConv.nD Cert.StepConv.τ).loc Cert.StepConv.main_arg2) = m ((c.tc : Thread Cert.StepConv.nD Cert.StepConv.τ).loc Cert.StepConv.main_arg2)
      ∧ r.2.mem ((c.tc : Thread Cert.StepConv.nD Cert.StepConv.τ).loc Cert.StepConv.main_arg3) = m ((c.tc : Thread Cert.StepConv.nD Cert.StepConv.τ).loc Cert.StepConv.main_arg3))
      ∧ r.2.sem = fun _ => 0)

def quiescent_StepConvIdeal [hStepConvIdeal : Cert.StepConvIdeal.Facts] : Prop :=
  ∀ (m : (ℓ : Loc Cert.StepConvIdeal.nD Cert.StepConvIdeal.τ Cert.StepConvIdeal.sig) → Buf (Elt Ideal) ℓ) (g : Dev Cert.StepConvIdeal.nD → PrngReg), Pre_StepConvIdeal m →
    θ_run (Cert.StepConvIdeal.defs (F := Ideal)) (onTc (τ := Cert.StepConvIdeal.τ) (Cert.StepConvIdeal.main (F := Ideal))) ⟨m, fun _ => 0, g⟩ (fun r => (∀ c : Dev Cert.StepConvIdeal.nD,
      r.2.mem ((c.tc : Thread Cert.StepConvIdeal.nD Cert.StepConvIdeal.τ).loc Cert.StepConvIdeal.main_arg0) = m ((c.tc : Thread Cert.StepConvIdeal.nD Cert.StepConvIdeal.τ).loc Cert.StepConvIdeal.main_arg0)
      ∧ r.2.mem ((c.tc : Thread Cert.StepConvIdeal.nD Cert.StepConvIdeal.τ).loc Cert.StepConvIdeal.main_arg1) = m ((c.tc : Thread Cert.StepConvIdeal.nD Cert.StepConvIdeal.τ).loc Cert.StepConvIdeal.main_arg1)
      ∧ r.2.mem ((c.tc : Thread Cert.StepConvIdeal.nD Cert.StepConvIdeal.τ).loc Cert.StepConvIdeal.main_arg2) = m ((c.tc : Thread Cert.StepConvIdeal.nD Cert.StepConvIdeal.τ).loc Cert.StepConvIdeal.main_arg2)
      ∧ r.2.mem ((c.tc : Thread Cert.StepConvIdeal.nD Cert.StepConvIdeal.τ).loc Cert.StepConvIdeal.main_arg3) = m ((c.tc : Thread Cert.StepConvIdeal.nD Cert.StepConvIdeal.τ).loc Cert.StepConvIdeal.main_arg3))
      ∧ r.2.sem = fun _ => 0)

def quiescent_StepConvReferenceIdeal [hStepConvReferenceIdeal : Cert.StepConvReferenceIdeal.Facts] : Prop :=
  ∀ (m : (ℓ : Loc Cert.StepConvReferenceIdeal.nD Cert.StepConvReferenceIdeal.τ Cert.StepConvReferenceIdeal.sig) → Buf (Elt Ideal) ℓ) (g : Dev Cert.StepConvReferenceIdeal.nD → PrngReg), Pre_StepConvReferenceIdeal m →
    θ_run (Cert.StepConvReferenceIdeal.defs (F := Ideal)) (onTc (τ := Cert.StepConvReferenceIdeal.τ) (Cert.StepConvReferenceIdeal.main (F := Ideal))) ⟨m, fun _ => 0, g⟩ (fun r => (∀ c : Dev Cert.StepConvReferenceIdeal.nD,
      r.2.mem ((c.tc : Thread Cert.StepConvReferenceIdeal.nD Cert.StepConvReferenceIdeal.τ).loc Cert.StepConvReferenceIdeal.main_arg0) = m ((c.tc : Thread Cert.StepConvReferenceIdeal.nD Cert.StepConvReferenceIdeal.τ).loc Cert.StepConvReferenceIdeal.main_arg0)
      ∧ r.2.mem ((c.tc : Thread Cert.StepConvReferenceIdeal.nD Cert.StepConvReferenceIdeal.τ).loc Cert.StepConvReferenceIdeal.main_arg1) = m ((c.tc : Thread Cert.StepConvReferenceIdeal.nD Cert.StepConvReferenceIdeal.τ).loc Cert.StepConvReferenceIdeal.main_arg1)
      ∧ r.2.mem ((c.tc : Thread Cert.StepConvReferenceIdeal.nD Cert.StepConvReferenceIdeal.τ).loc Cert.StepConvReferenceIdeal.main_arg2) = m ((c.tc : Thread Cert.StepConvReferenceIdeal.nD Cert.StepConvReferenceIdeal.τ).loc Cert.StepConvReferenceIdeal.main_arg2)
      ∧ r.2.mem ((c.tc : Thread Cert.StepConvReferenceIdeal.nD Cert.StepConvReferenceIdeal.τ).loc Cert.StepConvReferenceIdeal.main_arg3) = m ((c.tc : Thread Cert.StepConvReferenceIdeal.nD Cert.StepConvReferenceIdeal.τ).loc Cert.StepConvReferenceIdeal.main_arg3))
      ∧ r.2.sem = fun _ => 0)

def quiescent_StepFfnConv [hStepFfnConv : Cert.StepFfnConv.Facts] : Prop :=
  ∀ (m : (ℓ : Loc Cert.StepFfnConv.nD Cert.StepFfnConv.τ Cert.StepFfnConv.sig) → Buf (Elt Bits) ℓ) (g : Dev Cert.StepFfnConv.nD → PrngReg), Pre_StepFfnConv m →
    θ_run (Cert.StepFfnConv.defs (F := Bits)) (onTc (τ := Cert.StepFfnConv.τ) (Cert.StepFfnConv.main (F := Bits))) ⟨m, fun _ => 0, g⟩ (fun r => (∀ c : Dev Cert.StepFfnConv.nD,
      r.2.mem ((c.tc : Thread Cert.StepFfnConv.nD Cert.StepFfnConv.τ).loc Cert.StepFfnConv.main_arg0) = m ((c.tc : Thread Cert.StepFfnConv.nD Cert.StepFfnConv.τ).loc Cert.StepFfnConv.main_arg0)
      ∧ r.2.mem ((c.tc : Thread Cert.StepFfnConv.nD Cert.StepFfnConv.τ).loc Cert.StepFfnConv.main_arg1) = m ((c.tc : Thread Cert.StepFfnConv.nD Cert.StepFfnConv.τ).loc Cert.StepFfnConv.main_arg1)
      ∧ r.2.mem ((c.tc : Thread Cert.StepFfnConv.nD Cert.StepFfnConv.τ).loc Cert.StepFfnConv.main_arg2) = m ((c.tc : Thread Cert.StepFfnConv.nD Cert.StepFfnConv.τ).loc Cert.StepFfnConv.main_arg2)
      ∧ r.2.mem ((c.tc : Thread Cert.StepFfnConv.nD Cert.StepFfnConv.τ).loc Cert.StepFfnConv.main_arg3) = m ((c.tc : Thread Cert.StepFfnConv.nD Cert.StepFfnConv.τ).loc Cert.StepFfnConv.main_arg3))
      ∧ r.2.sem = fun _ => 0)

def quiescent_StepFfnConvIdeal [hStepFfnConvIdeal : Cert.StepFfnConvIdeal.Facts] : Prop :=
  ∀ (m : (ℓ : Loc Cert.StepFfnConvIdeal.nD Cert.StepFfnConvIdeal.τ Cert.StepFfnConvIdeal.sig) → Buf (Elt Ideal) ℓ) (g : Dev Cert.StepFfnConvIdeal.nD → PrngReg), Pre_StepFfnConvIdeal m →
    θ_run (Cert.StepFfnConvIdeal.defs (F := Ideal)) (onTc (τ := Cert.StepFfnConvIdeal.τ) (Cert.StepFfnConvIdeal.main (F := Ideal))) ⟨m, fun _ => 0, g⟩ (fun r => (∀ c : Dev Cert.StepFfnConvIdeal.nD,
      r.2.mem ((c.tc : Thread Cert.StepFfnConvIdeal.nD Cert.StepFfnConvIdeal.τ).loc Cert.StepFfnConvIdeal.main_arg0) = m ((c.tc : Thread Cert.StepFfnConvIdeal.nD Cert.StepFfnConvIdeal.τ).loc Cert.StepFfnConvIdeal.main_arg0)
      ∧ r.2.mem ((c.tc : Thread Cert.StepFfnConvIdeal.nD Cert.StepFfnConvIdeal.τ).loc Cert.StepFfnConvIdeal.main_arg1) = m ((c.tc : Thread Cert.StepFfnConvIdeal.nD Cert.StepFfnConvIdeal.τ).loc Cert.StepFfnConvIdeal.main_arg1)
      ∧ r.2.mem ((c.tc : Thread Cert.StepFfnConvIdeal.nD Cert.StepFfnConvIdeal.τ).loc Cert.StepFfnConvIdeal.main_arg2) = m ((c.tc : Thread Cert.StepFfnConvIdeal.nD Cert.StepFfnConvIdeal.τ).loc Cert.StepFfnConvIdeal.main_arg2)
      ∧ r.2.mem ((c.tc : Thread Cert.StepFfnConvIdeal.nD Cert.StepFfnConvIdeal.τ).loc Cert.StepFfnConvIdeal.main_arg3) = m ((c.tc : Thread Cert.StepFfnConvIdeal.nD Cert.StepFfnConvIdeal.τ).loc Cert.StepFfnConvIdeal.main_arg3))
      ∧ r.2.sem = fun _ => 0)

def quiescent_StepFfnConvReferenceIdeal [hStepFfnConvReferenceIdeal : Cert.StepFfnConvReferenceIdeal.Facts] : Prop :=
  ∀ (m : (ℓ : Loc Cert.StepFfnConvReferenceIdeal.nD Cert.StepFfnConvReferenceIdeal.τ Cert.StepFfnConvReferenceIdeal.sig) → Buf (Elt Ideal) ℓ) (g : Dev Cert.StepFfnConvReferenceIdeal.nD → PrngReg), Pre_StepFfnConvReferenceIdeal m →
    θ_run (Cert.StepFfnConvReferenceIdeal.defs (F := Ideal)) (onTc (τ := Cert.StepFfnConvReferenceIdeal.τ) (Cert.StepFfnConvReferenceIdeal.main (F := Ideal))) ⟨m, fun _ => 0, g⟩ (fun r => (∀ c : Dev Cert.StepFfnConvReferenceIdeal.nD,
      r.2.mem ((c.tc : Thread Cert.StepFfnConvReferenceIdeal.nD Cert.StepFfnConvReferenceIdeal.τ).loc Cert.StepFfnConvReferenceIdeal.main_arg0) = m ((c.tc : Thread Cert.StepFfnConvReferenceIdeal.nD Cert.StepFfnConvReferenceIdeal.τ).loc Cert.StepFfnConvReferenceIdeal.main_arg0)
      ∧ r.2.mem ((c.tc : Thread Cert.StepFfnConvReferenceIdeal.nD Cert.StepFfnConvReferenceIdeal.τ).loc Cert.StepFfnConvReferenceIdeal.main_arg1) = m ((c.tc : Thread Cert.StepFfnConvReferenceIdeal.nD Cert.StepFfnConvReferenceIdeal.τ).loc Cert.StepFfnConvReferenceIdeal.main_arg1)
      ∧ r.2.mem ((c.tc : Thread Cert.StepFfnConvReferenceIdeal.nD Cert.StepFfnConvReferenceIdeal.τ).loc Cert.StepFfnConvReferenceIdeal.main_arg2) = m ((c.tc : Thread Cert.StepFfnConvReferenceIdeal.nD Cert.StepFfnConvReferenceIdeal.τ).loc Cert.StepFfnConvReferenceIdeal.main_arg2)
      ∧ r.2.mem ((c.tc : Thread Cert.StepFfnConvReferenceIdeal.nD Cert.StepFfnConvReferenceIdeal.τ).loc Cert.StepFfnConvReferenceIdeal.main_arg3) = m ((c.tc : Thread Cert.StepFfnConvReferenceIdeal.nD Cert.StepFfnConvReferenceIdeal.τ).loc Cert.StepFfnConvReferenceIdeal.main_arg3))
      ∧ r.2.sem = fun _ => 0)

def quiescent_StepCtx [hStepCtx : Cert.StepCtx.Facts] : Prop :=
  ∀ (m : (ℓ : Loc Cert.StepCtx.nD Cert.StepCtx.τ Cert.StepCtx.sig) → Buf (Elt Bits) ℓ) (g : Dev Cert.StepCtx.nD → PrngReg), Pre_StepCtx m →
    θ_run (Cert.StepCtx.defs (F := Bits)) (onTc (τ := Cert.StepCtx.τ) (Cert.StepCtx.main (F := Bits))) ⟨m, fun _ => 0, g⟩ (fun r => (∀ c : Dev Cert.StepCtx.nD,
      r.2.mem ((c.tc : Thread Cert.StepCtx.nD Cert.StepCtx.τ).loc Cert.StepCtx.main_arg0) = m ((c.tc : Thread Cert.StepCtx.nD Cert.StepCtx.τ).loc Cert.StepCtx.main_arg0)
      ∧ r.2.mem ((c.tc : Thread Cert.StepCtx.nD Cert.StepCtx.τ).loc Cert.StepCtx.main_arg1) = m ((c.tc : Thread Cert.StepCtx.nD Cert.StepCtx.τ).loc Cert.StepCtx.main_arg1)
      ∧ r.2.mem ((c.tc : Thread Cert.StepCtx.nD Cert.StepCtx.τ).loc Cert.StepCtx.main_arg2) = m ((c.tc : Thread Cert.StepCtx.nD Cert.StepCtx.τ).loc Cert.StepCtx.main_arg2)
      ∧ r.2.mem ((c.tc : Thread Cert.StepCtx.nD Cert.StepCtx.τ).loc Cert.StepCtx.main_arg3) = m ((c.tc : Thread Cert.StepCtx.nD Cert.StepCtx.τ).loc Cert.StepCtx.main_arg3))
      ∧ r.2.sem = fun _ => 0)

def quiescent_StepCtxIdeal [hStepCtxIdeal : Cert.StepCtxIdeal.Facts] : Prop :=
  ∀ (m : (ℓ : Loc Cert.StepCtxIdeal.nD Cert.StepCtxIdeal.τ Cert.StepCtxIdeal.sig) → Buf (Elt Ideal) ℓ) (g : Dev Cert.StepCtxIdeal.nD → PrngReg), Pre_StepCtxIdeal m →
    θ_run (Cert.StepCtxIdeal.defs (F := Ideal)) (onTc (τ := Cert.StepCtxIdeal.τ) (Cert.StepCtxIdeal.main (F := Ideal))) ⟨m, fun _ => 0, g⟩ (fun r => (∀ c : Dev Cert.StepCtxIdeal.nD,
      r.2.mem ((c.tc : Thread Cert.StepCtxIdeal.nD Cert.StepCtxIdeal.τ).loc Cert.StepCtxIdeal.main_arg0) = m ((c.tc : Thread Cert.StepCtxIdeal.nD Cert.StepCtxIdeal.τ).loc Cert.StepCtxIdeal.main_arg0)
      ∧ r.2.mem ((c.tc : Thread Cert.StepCtxIdeal.nD Cert.StepCtxIdeal.τ).loc Cert.StepCtxIdeal.main_arg1) = m ((c.tc : Thread Cert.StepCtxIdeal.nD Cert.StepCtxIdeal.τ).loc Cert.StepCtxIdeal.main_arg1)
      ∧ r.2.mem ((c.tc : Thread Cert.StepCtxIdeal.nD Cert.StepCtxIdeal.τ).loc Cert.StepCtxIdeal.main_arg2) = m ((c.tc : Thread Cert.StepCtxIdeal.nD Cert.StepCtxIdeal.τ).loc Cert.StepCtxIdeal.main_arg2)
      ∧ r.2.mem ((c.tc : Thread Cert.StepCtxIdeal.nD Cert.StepCtxIdeal.τ).loc Cert.StepCtxIdeal.main_arg3) = m ((c.tc : Thread Cert.StepCtxIdeal.nD Cert.StepCtxIdeal.τ).loc Cert.StepCtxIdeal.main_arg3))
      ∧ r.2.sem = fun _ => 0)

def quiescent_StepCtxReferenceIdeal [hStepCtxReferenceIdeal : Cert.StepCtxReferenceIdeal.Facts] : Prop :=
  ∀ (m : (ℓ : Loc Cert.StepCtxReferenceIdeal.nD Cert.StepCtxReferenceIdeal.τ Cert.StepCtxReferenceIdeal.sig) → Buf (Elt Ideal) ℓ) (g : Dev Cert.StepCtxReferenceIdeal.nD → PrngReg), Pre_StepCtxReferenceIdeal m →
    θ_run (Cert.StepCtxReferenceIdeal.defs (F := Ideal)) (onTc (τ := Cert.StepCtxReferenceIdeal.τ) (Cert.StepCtxReferenceIdeal.main (F := Ideal))) ⟨m, fun _ => 0, g⟩ (fun r => (∀ c : Dev Cert.StepCtxReferenceIdeal.nD,
      r.2.mem ((c.tc : Thread Cert.StepCtxReferenceIdeal.nD Cert.StepCtxReferenceIdeal.τ).loc Cert.StepCtxReferenceIdeal.main_arg0) = m ((c.tc : Thread Cert.StepCtxReferenceIdeal.nD Cert.StepCtxReferenceIdeal.τ).loc Cert.StepCtxReferenceIdeal.main_arg0)
      ∧ r.2.mem ((c.tc : Thread Cert.StepCtxReferenceIdeal.nD Cert.StepCtxReferenceIdeal.τ).loc Cert.StepCtxReferenceIdeal.main_arg1) = m ((c.tc : Thread Cert.StepCtxReferenceIdeal.nD Cert.StepCtxReferenceIdeal.τ).loc Cert.StepCtxReferenceIdeal.main_arg1)
      ∧ r.2.mem ((c.tc : Thread Cert.StepCtxReferenceIdeal.nD Cert.StepCtxReferenceIdeal.τ).loc Cert.StepCtxReferenceIdeal.main_arg2) = m ((c.tc : Thread Cert.StepCtxReferenceIdeal.nD Cert.StepCtxReferenceIdeal.τ).loc Cert.StepCtxReferenceIdeal.main_arg2)
      ∧ r.2.mem ((c.tc : Thread Cert.StepCtxReferenceIdeal.nD Cert.StepCtxReferenceIdeal.τ).loc Cert.StepCtxReferenceIdeal.main_arg3) = m ((c.tc : Thread Cert.StepCtxReferenceIdeal.nD Cert.StepCtxReferenceIdeal.τ).loc Cert.StepCtxReferenceIdeal.main_arg3))
      ∧ r.2.sem = fun _ => 0)

def quiescent_Back [hBack : Cert.Back.Facts] : Prop :=
  ∀ (m : (ℓ : Loc Cert.Back.nD Cert.Back.τ Cert.Back.sig) → Buf (Elt Bits) ℓ) (g : Dev Cert.Back.nD → PrngReg), Pre_Back m →
    θ_run (Cert.Back.defs (F := Bits)) (onTc (τ := Cert.Back.τ) (Cert.Back.main (F := Bits))) ⟨m, fun _ => 0, g⟩ (fun r => (∀ c : Dev Cert.Back.nD,
      r.2.mem ((c.tc : Thread Cert.Back.nD Cert.Back.τ).loc Cert.Back.main_arg0) = m ((c.tc : Thread Cert.Back.nD Cert.Back.τ).loc Cert.Back.main_arg0)
      ∧ r.2.mem ((c.tc : Thread Cert.Back.nD Cert.Back.τ).loc Cert.Back.main_arg1) = m ((c.tc : Thread Cert.Back.nD Cert.Back.τ).loc Cert.Back.main_arg1)
      ∧ r.2.mem ((c.tc : Thread Cert.Back.nD Cert.Back.τ).loc Cert.Back.main_arg2) = m ((c.tc : Thread Cert.Back.nD Cert.Back.τ).loc Cert.Back.main_arg2)
      ∧ r.2.mem ((c.tc : Thread Cert.Back.nD Cert.Back.τ).loc Cert.Back.main_arg3) = m ((c.tc : Thread Cert.Back.nD Cert.Back.τ).loc Cert.Back.main_arg3)
      ∧ r.2.mem ((c.tc : Thread Cert.Back.nD Cert.Back.τ).loc Cert.Back.main_arg4) = m ((c.tc : Thread Cert.Back.nD Cert.Back.τ).loc Cert.Back.main_arg4)
      ∧ r.2.mem ((c.tc : Thread Cert.Back.nD Cert.Back.τ).loc Cert.Back.main_arg5) = m ((c.tc : Thread Cert.Back.nD Cert.Back.τ).loc Cert.Back.main_arg5))
      ∧ r.2.sem = fun _ => 0)

def quiescent_BackIdeal [hBackIdeal : Cert.BackIdeal.Facts] : Prop :=
  ∀ (m : (ℓ : Loc Cert.BackIdeal.nD Cert.BackIdeal.τ Cert.BackIdeal.sig) → Buf (Elt Ideal) ℓ) (g : Dev Cert.BackIdeal.nD → PrngReg), Pre_BackIdeal m →
    θ_run (Cert.BackIdeal.defs (F := Ideal)) (onTc (τ := Cert.BackIdeal.τ) (Cert.BackIdeal.main (F := Ideal))) ⟨m, fun _ => 0, g⟩ (fun r => (∀ c : Dev Cert.BackIdeal.nD,
      r.2.mem ((c.tc : Thread Cert.BackIdeal.nD Cert.BackIdeal.τ).loc Cert.BackIdeal.main_arg0) = m ((c.tc : Thread Cert.BackIdeal.nD Cert.BackIdeal.τ).loc Cert.BackIdeal.main_arg0)
      ∧ r.2.mem ((c.tc : Thread Cert.BackIdeal.nD Cert.BackIdeal.τ).loc Cert.BackIdeal.main_arg1) = m ((c.tc : Thread Cert.BackIdeal.nD Cert.BackIdeal.τ).loc Cert.BackIdeal.main_arg1)
      ∧ r.2.mem ((c.tc : Thread Cert.BackIdeal.nD Cert.BackIdeal.τ).loc Cert.BackIdeal.main_arg2) = m ((c.tc : Thread Cert.BackIdeal.nD Cert.BackIdeal.τ).loc Cert.BackIdeal.main_arg2)
      ∧ r.2.mem ((c.tc : Thread Cert.BackIdeal.nD Cert.BackIdeal.τ).loc Cert.BackIdeal.main_arg3) = m ((c.tc : Thread Cert.BackIdeal.nD Cert.BackIdeal.τ).loc Cert.BackIdeal.main_arg3)
      ∧ r.2.mem ((c.tc : Thread Cert.BackIdeal.nD Cert.BackIdeal.τ).loc Cert.BackIdeal.main_arg4) = m ((c.tc : Thread Cert.BackIdeal.nD Cert.BackIdeal.τ).loc Cert.BackIdeal.main_arg4)
      ∧ r.2.mem ((c.tc : Thread Cert.BackIdeal.nD Cert.BackIdeal.τ).loc Cert.BackIdeal.main_arg5) = m ((c.tc : Thread Cert.BackIdeal.nD Cert.BackIdeal.τ).loc Cert.BackIdeal.main_arg5))
      ∧ r.2.sem = fun _ => 0)

def quiescent_BackReferenceIdeal [hBackReferenceIdeal : Cert.BackReferenceIdeal.Facts] : Prop :=
  ∀ (m : (ℓ : Loc Cert.BackReferenceIdeal.nD Cert.BackReferenceIdeal.τ Cert.BackReferenceIdeal.sig) → Buf (Elt Ideal) ℓ) (g : Dev Cert.BackReferenceIdeal.nD → PrngReg), Pre_BackReferenceIdeal m →
    θ_run (Cert.BackReferenceIdeal.defs (F := Ideal)) (onTc (τ := Cert.BackReferenceIdeal.τ) (Cert.BackReferenceIdeal.main (F := Ideal))) ⟨m, fun _ => 0, g⟩ (fun r => (∀ c : Dev Cert.BackReferenceIdeal.nD,
      r.2.mem ((c.tc : Thread Cert.BackReferenceIdeal.nD Cert.BackReferenceIdeal.τ).loc Cert.BackReferenceIdeal.main_arg0) = m ((c.tc : Thread Cert.BackReferenceIdeal.nD Cert.BackReferenceIdeal.τ).loc Cert.BackReferenceIdeal.main_arg0)
      ∧ r.2.mem ((c.tc : Thread Cert.BackReferenceIdeal.nD Cert.BackReferenceIdeal.τ).loc Cert.BackReferenceIdeal.main_arg1) = m ((c.tc : Thread Cert.BackReferenceIdeal.nD Cert.BackReferenceIdeal.τ).loc Cert.BackReferenceIdeal.main_arg1)
      ∧ r.2.mem ((c.tc : Thread Cert.BackReferenceIdeal.nD Cert.BackReferenceIdeal.τ).loc Cert.BackReferenceIdeal.main_arg2) = m ((c.tc : Thread Cert.BackReferenceIdeal.nD Cert.BackReferenceIdeal.τ).loc Cert.BackReferenceIdeal.main_arg2)
      ∧ r.2.mem ((c.tc : Thread Cert.BackReferenceIdeal.nD Cert.BackReferenceIdeal.τ).loc Cert.BackReferenceIdeal.main_arg3) = m ((c.tc : Thread Cert.BackReferenceIdeal.nD Cert.BackReferenceIdeal.τ).loc Cert.BackReferenceIdeal.main_arg3)
      ∧ r.2.mem ((c.tc : Thread Cert.BackReferenceIdeal.nD Cert.BackReferenceIdeal.τ).loc Cert.BackReferenceIdeal.main_arg4) = m ((c.tc : Thread Cert.BackReferenceIdeal.nD Cert.BackReferenceIdeal.τ).loc Cert.BackReferenceIdeal.main_arg4)
      ∧ r.2.mem ((c.tc : Thread Cert.BackReferenceIdeal.nD Cert.BackReferenceIdeal.τ).loc Cert.BackReferenceIdeal.main_arg5) = m ((c.tc : Thread Cert.BackReferenceIdeal.nD Cert.BackReferenceIdeal.τ).loc Cert.BackReferenceIdeal.main_arg5))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2)
      ∧ r.2.mem ((c.tc : Thread Cert.LossReferenceIdeal.nD Cert.LossReferenceIdeal.τ).loc Cert.LossReferenceIdeal.main_arg3) = m ((c.tc : Thread Cert.LossReferenceIdeal.nD Cert.LossReferenceIdeal.τ).loc Cert.LossReferenceIdeal.main_arg3)
      ∧ r.2.mem ((c.tc : Thread Cert.LossReferenceIdeal.nD Cert.LossReferenceIdeal.τ).loc Cert.LossReferenceIdeal.main_arg4) = m ((c.tc : Thread Cert.LossReferenceIdeal.nD Cert.LossReferenceIdeal.τ).loc Cert.LossReferenceIdeal.main_arg4))
      ∧ r.2.sem = fun _ => 0)

def quiescent_BackCtx [hBackCtx : Cert.BackCtx.Facts] : Prop :=
  ∀ (m : (ℓ : Loc Cert.BackCtx.nD Cert.BackCtx.τ Cert.BackCtx.sig) → Buf (Elt Bits) ℓ) (g : Dev Cert.BackCtx.nD → PrngReg), Pre_BackCtx m →
    θ_run (Cert.BackCtx.defs (F := Bits)) (onTc (τ := Cert.BackCtx.τ) (Cert.BackCtx.main (F := Bits))) ⟨m, fun _ => 0, g⟩ (fun r => (∀ c : Dev Cert.BackCtx.nD,
      r.2.mem ((c.tc : Thread Cert.BackCtx.nD Cert.BackCtx.τ).loc Cert.BackCtx.main_arg0) = m ((c.tc : Thread Cert.BackCtx.nD Cert.BackCtx.τ).loc Cert.BackCtx.main_arg0)
      ∧ r.2.mem ((c.tc : Thread Cert.BackCtx.nD Cert.BackCtx.τ).loc Cert.BackCtx.main_arg1) = m ((c.tc : Thread Cert.BackCtx.nD Cert.BackCtx.τ).loc Cert.BackCtx.main_arg1)
      ∧ r.2.mem ((c.tc : Thread Cert.BackCtx.nD Cert.BackCtx.τ).loc Cert.BackCtx.main_arg2) = m ((c.tc : Thread Cert.BackCtx.nD Cert.BackCtx.τ).loc Cert.BackCtx.main_arg2)
      ∧ r.2.mem ((c.tc : Thread Cert.BackCtx.nD Cert.BackCtx.τ).loc Cert.BackCtx.main_arg3) = m ((c.tc : Thread Cert.BackCtx.nD Cert.BackCtx.τ).loc Cert.BackCtx.main_arg3)
      ∧ r.2.mem ((c.tc : Thread Cert.BackCtx.nD Cert.BackCtx.τ).loc Cert.BackCtx.main_arg4) = m ((c.tc : Thread Cert.BackCtx.nD Cert.BackCtx.τ).loc Cert.BackCtx.main_arg4))
      ∧ r.2.sem = fun _ => 0)

def quiescent_BackCtxIdeal [hBackCtxIdeal : Cert.BackCtxIdeal.Facts] : Prop :=
  ∀ (m : (ℓ : Loc Cert.BackCtxIdeal.nD Cert.BackCtxIdeal.τ Cert.BackCtxIdeal.sig) → Buf (Elt Ideal) ℓ) (g : Dev Cert.BackCtxIdeal.nD → PrngReg), Pre_BackCtxIdeal m →
    θ_run (Cert.BackCtxIdeal.defs (F := Ideal)) (onTc (τ := Cert.BackCtxIdeal.τ) (Cert.BackCtxIdeal.main (F := Ideal))) ⟨m, fun _ => 0, g⟩ (fun r => (∀ c : Dev Cert.BackCtxIdeal.nD,
      r.2.mem ((c.tc : Thread Cert.BackCtxIdeal.nD Cert.BackCtxIdeal.τ).loc Cert.BackCtxIdeal.main_arg0) = m ((c.tc : Thread Cert.BackCtxIdeal.nD Cert.BackCtxIdeal.τ).loc Cert.BackCtxIdeal.main_arg0)
      ∧ r.2.mem ((c.tc : Thread Cert.BackCtxIdeal.nD Cert.BackCtxIdeal.τ).loc Cert.BackCtxIdeal.main_arg1) = m ((c.tc : Thread Cert.BackCtxIdeal.nD Cert.BackCtxIdeal.τ).loc Cert.BackCtxIdeal.main_arg1)
      ∧ r.2.mem ((c.tc : Thread Cert.BackCtxIdeal.nD Cert.BackCtxIdeal.τ).loc Cert.BackCtxIdeal.main_arg2) = m ((c.tc : Thread Cert.BackCtxIdeal.nD Cert.BackCtxIdeal.τ).loc Cert.BackCtxIdeal.main_arg2)
      ∧ r.2.mem ((c.tc : Thread Cert.BackCtxIdeal.nD Cert.BackCtxIdeal.τ).loc Cert.BackCtxIdeal.main_arg3) = m ((c.tc : Thread Cert.BackCtxIdeal.nD Cert.BackCtxIdeal.τ).loc Cert.BackCtxIdeal.main_arg3)
      ∧ r.2.mem ((c.tc : Thread Cert.BackCtxIdeal.nD Cert.BackCtxIdeal.τ).loc Cert.BackCtxIdeal.main_arg4) = m ((c.tc : Thread Cert.BackCtxIdeal.nD Cert.BackCtxIdeal.τ).loc Cert.BackCtxIdeal.main_arg4))
      ∧ r.2.sem = fun _ => 0)

def quiescent_BackCtxReferenceIdeal [hBackCtxReferenceIdeal : Cert.BackCtxReferenceIdeal.Facts] : Prop :=
  ∀ (m : (ℓ : Loc Cert.BackCtxReferenceIdeal.nD Cert.BackCtxReferenceIdeal.τ Cert.BackCtxReferenceIdeal.sig) → Buf (Elt Ideal) ℓ) (g : Dev Cert.BackCtxReferenceIdeal.nD → PrngReg), Pre_BackCtxReferenceIdeal m →
    θ_run (Cert.BackCtxReferenceIdeal.defs (F := Ideal)) (onTc (τ := Cert.BackCtxReferenceIdeal.τ) (Cert.BackCtxReferenceIdeal.main (F := Ideal))) ⟨m, fun _ => 0, g⟩ (fun r => (∀ c : Dev Cert.BackCtxReferenceIdeal.nD,
      r.2.mem ((c.tc : Thread Cert.BackCtxReferenceIdeal.nD Cert.BackCtxReferenceIdeal.τ).loc Cert.BackCtxReferenceIdeal.main_arg0) = m ((c.tc : Thread Cert.BackCtxReferenceIdeal.nD Cert.BackCtxReferenceIdeal.τ).loc Cert.BackCtxReferenceIdeal.main_arg0)
      ∧ r.2.mem ((c.tc : Thread Cert.BackCtxReferenceIdeal.nD Cert.BackCtxReferenceIdeal.τ).loc Cert.BackCtxReferenceIdeal.main_arg1) = m ((c.tc : Thread Cert.BackCtxReferenceIdeal.nD Cert.BackCtxReferenceIdeal.τ).loc Cert.BackCtxReferenceIdeal.main_arg1)
      ∧ r.2.mem ((c.tc : Thread Cert.BackCtxReferenceIdeal.nD Cert.BackCtxReferenceIdeal.τ).loc Cert.BackCtxReferenceIdeal.main_arg2) = m ((c.tc : Thread Cert.BackCtxReferenceIdeal.nD Cert.BackCtxReferenceIdeal.τ).loc Cert.BackCtxReferenceIdeal.main_arg2)
      ∧ r.2.mem ((c.tc : Thread Cert.BackCtxReferenceIdeal.nD Cert.BackCtxReferenceIdeal.τ).loc Cert.BackCtxReferenceIdeal.main_arg3) = m ((c.tc : Thread Cert.BackCtxReferenceIdeal.nD Cert.BackCtxReferenceIdeal.τ).loc Cert.BackCtxReferenceIdeal.main_arg3)
      ∧ r.2.mem ((c.tc : Thread Cert.BackCtxReferenceIdeal.nD Cert.BackCtxReferenceIdeal.τ).loc Cert.BackCtxReferenceIdeal.main_arg4) = m ((c.tc : Thread Cert.BackCtxReferenceIdeal.nD Cert.BackCtxReferenceIdeal.τ).loc Cert.BackCtxReferenceIdeal.main_arg4))
      ∧ r.2.sem = fun _ => 0)

def quiescent_Resid [hResid : Cert.Resid.Facts] : Prop :=
  ∀ (m : (ℓ : Loc Cert.Resid.nD Cert.Resid.τ Cert.Resid.sig) → Buf (Elt Bits) ℓ) (g : Dev Cert.Resid.nD → PrngReg), Pre_Resid m →
    θ_run (Cert.Resid.defs (F := Bits)) (onTc (τ := Cert.Resid.τ) (Cert.Resid.main (F := Bits))) ⟨m, fun _ => 0, g⟩ (fun r => (∀ c : Dev Cert.Resid.nD,
      r.2.mem ((c.tc : Thread Cert.Resid.nD Cert.Resid.τ).loc Cert.Resid.main_arg0) = m ((c.tc : Thread Cert.Resid.nD Cert.Resid.τ).loc Cert.Resid.main_arg0)
      ∧ r.2.mem ((c.tc : Thread Cert.Resid.nD Cert.Resid.τ).loc Cert.Resid.main_arg1) = m ((c.tc : Thread Cert.Resid.nD Cert.Resid.τ).loc Cert.Resid.main_arg1)
      ∧ r.2.mem ((c.tc : Thread Cert.Resid.nD Cert.Resid.τ).loc Cert.Resid.main_arg2) = m ((c.tc : Thread Cert.Resid.nD Cert.Resid.τ).loc Cert.Resid.main_arg2)
      ∧ r.2.mem ((c.tc : Thread Cert.Resid.nD Cert.Resid.τ).loc Cert.Resid.main_arg3) = m ((c.tc : Thread Cert.Resid.nD Cert.Resid.τ).loc Cert.Resid.main_arg3)
      ∧ r.2.mem ((c.tc : Thread Cert.Resid.nD Cert.Resid.τ).loc Cert.Resid.main_arg4) = m ((c.tc : Thread Cert.Resid.nD Cert.Resid.τ).loc Cert.Resid.main_arg4)
      ∧ r.2.mem ((c.tc : Thread Cert.Resid.nD Cert.Resid.τ).loc Cert.Resid.main_arg5) = m ((c.tc : Thread Cert.Resid.nD Cert.Resid.τ).loc Cert.Resid.main_arg5))
      ∧ r.2.sem = fun _ => 0)

def quiescent_ResidIdeal [hResidIdeal : Cert.ResidIdeal.Facts] : Prop :=
  ∀ (m : (ℓ : Loc Cert.ResidIdeal.nD Cert.ResidIdeal.τ Cert.ResidIdeal.sig) → Buf (Elt Ideal) ℓ) (g : Dev Cert.ResidIdeal.nD → PrngReg), Pre_ResidIdeal m →
    θ_run (Cert.ResidIdeal.defs (F := Ideal)) (onTc (τ := Cert.ResidIdeal.τ) (Cert.ResidIdeal.main (F := Ideal))) ⟨m, fun _ => 0, g⟩ (fun r => (∀ c : Dev Cert.ResidIdeal.nD,
      r.2.mem ((c.tc : Thread Cert.ResidIdeal.nD Cert.ResidIdeal.τ).loc Cert.ResidIdeal.main_arg0) = m ((c.tc : Thread Cert.ResidIdeal.nD Cert.ResidIdeal.τ).loc Cert.ResidIdeal.main_arg0)
      ∧ r.2.mem ((c.tc : Thread Cert.ResidIdeal.nD Cert.ResidIdeal.τ).loc Cert.ResidIdeal.main_arg1) = m ((c.tc : Thread Cert.ResidIdeal.nD Cert.ResidIdeal.τ).loc Cert.ResidIdeal.main_arg1)
      ∧ r.2.mem ((c.tc : Thread Cert.ResidIdeal.nD Cert.ResidIdeal.τ).loc Cert.ResidIdeal.main_arg2) = m ((c.tc : Thread Cert.ResidIdeal.nD Cert.ResidIdeal.τ).loc Cert.ResidIdeal.main_arg2)
      ∧ r.2.mem ((c.tc : Thread Cert.ResidIdeal.nD Cert.ResidIdeal.τ).loc Cert.ResidIdeal.main_arg3) = m ((c.tc : Thread Cert.ResidIdeal.nD Cert.ResidIdeal.τ).loc Cert.ResidIdeal.main_arg3)
      ∧ r.2.mem ((c.tc : Thread Cert.ResidIdeal.nD Cert.ResidIdeal.τ).loc Cert.ResidIdeal.main_arg4) = m ((c.tc : Thread Cert.ResidIdeal.nD Cert.ResidIdeal.τ).loc Cert.ResidIdeal.main_arg4)
      ∧ r.2.mem ((c.tc : Thread Cert.ResidIdeal.nD Cert.ResidIdeal.τ).loc Cert.ResidIdeal.main_arg5) = m ((c.tc : Thread Cert.ResidIdeal.nD Cert.ResidIdeal.τ).loc Cert.ResidIdeal.main_arg5))
      ∧ r.2.sem = fun _ => 0)

def quiescent_ResidReferenceIdeal [hResidReferenceIdeal : Cert.ResidReferenceIdeal.Facts] : Prop :=
  ∀ (m : (ℓ : Loc Cert.ResidReferenceIdeal.nD Cert.ResidReferenceIdeal.τ Cert.ResidReferenceIdeal.sig) → Buf (Elt Ideal) ℓ) (g : Dev Cert.ResidReferenceIdeal.nD → PrngReg), Pre_ResidReferenceIdeal m →
    θ_run (Cert.ResidReferenceIdeal.defs (F := Ideal)) (onTc (τ := Cert.ResidReferenceIdeal.τ) (Cert.ResidReferenceIdeal.main (F := Ideal))) ⟨m, fun _ => 0, g⟩ (fun r => (∀ c : Dev Cert.ResidReferenceIdeal.nD,
      r.2.mem ((c.tc : Thread Cert.ResidReferenceIdeal.nD Cert.ResidReferenceIdeal.τ).loc Cert.ResidReferenceIdeal.main_arg0) = m ((c.tc : Thread Cert.ResidReferenceIdeal.nD Cert.ResidReferenceIdeal.τ).loc Cert.ResidReferenceIdeal.main_arg0)
      ∧ r.2.mem ((c.tc : Thread Cert.ResidReferenceIdeal.nD Cert.ResidReferenceIdeal.τ).loc Cert.ResidReferenceIdeal.main_arg1) = m ((c.tc : Thread Cert.ResidReferenceIdeal.nD Cert.ResidReferenceIdeal.τ).loc Cert.ResidReferenceIdeal.main_arg1)
      ∧ r.2.mem ((c.tc : Thread Cert.ResidReferenceIdeal.nD Cert.ResidReferenceIdeal.τ).loc Cert.ResidReferenceIdeal.main_arg2) = m ((c.tc : Thread Cert.ResidReferenceIdeal.nD Cert.ResidReferenceIdeal.τ).loc Cert.ResidReferenceIdeal.main_arg2)
      ∧ r.2.mem ((c.tc : Thread Cert.ResidReferenceIdeal.nD Cert.ResidReferenceIdeal.τ).loc Cert.ResidReferenceIdeal.main_arg3) = m ((c.tc : Thread Cert.ResidReferenceIdeal.nD Cert.ResidReferenceIdeal.τ).loc Cert.ResidReferenceIdeal.main_arg3)
      ∧ r.2.mem ((c.tc : Thread Cert.ResidReferenceIdeal.nD Cert.ResidReferenceIdeal.τ).loc Cert.ResidReferenceIdeal.main_arg4) = m ((c.tc : Thread Cert.ResidReferenceIdeal.nD Cert.ResidReferenceIdeal.τ).loc Cert.ResidReferenceIdeal.main_arg4)
      ∧ r.2.mem ((c.tc : Thread Cert.ResidReferenceIdeal.nD Cert.ResidReferenceIdeal.τ).loc Cert.ResidReferenceIdeal.main_arg5) = m ((c.tc : Thread Cert.ResidReferenceIdeal.nD Cert.ResidReferenceIdeal.τ).loc Cert.ResidReferenceIdeal.main_arg5))
      ∧ r.2.sem = fun _ => 0)

def quiescent_Cctx [hCctx : Cert.Cctx.Facts] : Prop :=
  ∀ (m : (ℓ : Loc Cert.Cctx.nD Cert.Cctx.τ Cert.Cctx.sig) → Buf (Elt Bits) ℓ) (g : Dev Cert.Cctx.nD → PrngReg), Pre_Cctx m →
    θ_run (Cert.Cctx.defs (F := Bits)) (onTc (τ := Cert.Cctx.τ) (Cert.Cctx.main (F := Bits))) ⟨m, fun _ => 0, g⟩ (fun r => (∀ c : Dev Cert.Cctx.nD,
      r.2.mem ((c.tc : Thread Cert.Cctx.nD Cert.Cctx.τ).loc Cert.Cctx.main_arg0) = m ((c.tc : Thread Cert.Cctx.nD Cert.Cctx.τ).loc Cert.Cctx.main_arg0)
      ∧ r.2.mem ((c.tc : Thread Cert.Cctx.nD Cert.Cctx.τ).loc Cert.Cctx.main_arg1) = m ((c.tc : Thread Cert.Cctx.nD Cert.Cctx.τ).loc Cert.Cctx.main_arg1))
      ∧ r.2.sem = fun _ => 0)

def quiescent_CctxIdeal [hCctxIdeal : Cert.CctxIdeal.Facts] : Prop :=
  ∀ (m : (ℓ : Loc Cert.CctxIdeal.nD Cert.CctxIdeal.τ Cert.CctxIdeal.sig) → Buf (Elt Ideal) ℓ) (g : Dev Cert.CctxIdeal.nD → PrngReg), Pre_CctxIdeal m →
    θ_run (Cert.CctxIdeal.defs (F := Ideal)) (onTc (τ := Cert.CctxIdeal.τ) (Cert.CctxIdeal.main (F := Ideal))) ⟨m, fun _ => 0, g⟩ (fun r => (∀ c : Dev Cert.CctxIdeal.nD,
      r.2.mem ((c.tc : Thread Cert.CctxIdeal.nD Cert.CctxIdeal.τ).loc Cert.CctxIdeal.main_arg0) = m ((c.tc : Thread Cert.CctxIdeal.nD Cert.CctxIdeal.τ).loc Cert.CctxIdeal.main_arg0)
      ∧ r.2.mem ((c.tc : Thread Cert.CctxIdeal.nD Cert.CctxIdeal.τ).loc Cert.CctxIdeal.main_arg1) = m ((c.tc : Thread Cert.CctxIdeal.nD Cert.CctxIdeal.τ).loc Cert.CctxIdeal.main_arg1))
      ∧ r.2.sem = fun _ => 0)

def quiescent_CctxReferenceIdeal [hCctxReferenceIdeal : Cert.CctxReferenceIdeal.Facts] : Prop :=
  ∀ (m : (ℓ : Loc Cert.CctxReferenceIdeal.nD Cert.CctxReferenceIdeal.τ Cert.CctxReferenceIdeal.sig) → Buf (Elt Ideal) ℓ) (g : Dev Cert.CctxReferenceIdeal.nD → PrngReg), Pre_CctxReferenceIdeal m →
    θ_run (Cert.CctxReferenceIdeal.defs (F := Ideal)) (onTc (τ := Cert.CctxReferenceIdeal.τ) (Cert.CctxReferenceIdeal.main (F := Ideal))) ⟨m, fun _ => 0, g⟩ (fun r => (∀ c : Dev Cert.CctxReferenceIdeal.nD,
      r.2.mem ((c.tc : Thread Cert.CctxReferenceIdeal.nD Cert.CctxReferenceIdeal.τ).loc Cert.CctxReferenceIdeal.main_arg0) = m ((c.tc : Thread Cert.CctxReferenceIdeal.nD Cert.CctxReferenceIdeal.τ).loc Cert.CctxReferenceIdeal.main_arg0)
      ∧ r.2.mem ((c.tc : Thread Cert.CctxReferenceIdeal.nD Cert.CctxReferenceIdeal.τ).loc Cert.CctxReferenceIdeal.main_arg1) = m ((c.tc : Thread Cert.CctxReferenceIdeal.nD Cert.CctxReferenceIdeal.τ).loc Cert.CctxReferenceIdeal.main_arg1))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1)
      ∧ r.2.mem ((c.tc : Thread Cert.NormFwd.nD Cert.NormFwd.τ).loc Cert.NormFwd.main_arg2) = m ((c.tc : Thread Cert.NormFwd.nD Cert.NormFwd.τ).loc Cert.NormFwd.main_arg2)
      ∧ r.2.mem ((c.tc : Thread Cert.NormFwd.nD Cert.NormFwd.τ).loc Cert.NormFwd.main_arg3) = m ((c.tc : Thread Cert.NormFwd.nD Cert.NormFwd.τ).loc Cert.NormFwd.main_arg3)
      ∧ r.2.mem ((c.tc : Thread Cert.NormFwd.nD Cert.NormFwd.τ).loc Cert.NormFwd.main_arg4) = m ((c.tc : Thread Cert.NormFwd.nD Cert.NormFwd.τ).loc Cert.NormFwd.main_arg4))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1)
      ∧ r.2.mem ((c.tc : Thread Cert.NormFwdIdeal.nD Cert.NormFwdIdeal.τ).loc Cert.NormFwdIdeal.main_arg2) = m ((c.tc : Thread Cert.NormFwdIdeal.nD Cert.NormFwdIdeal.τ).loc Cert.NormFwdIdeal.main_arg2)
      ∧ r.2.mem ((c.tc : Thread Cert.NormFwdIdeal.nD Cert.NormFwdIdeal.τ).loc Cert.NormFwdIdeal.main_arg3) = m ((c.tc : Thread Cert.NormFwdIdeal.nD Cert.NormFwdIdeal.τ).loc Cert.NormFwdIdeal.main_arg3)
      ∧ r.2.mem ((c.tc : Thread Cert.NormFwdIdeal.nD Cert.NormFwdIdeal.τ).loc Cert.NormFwdIdeal.main_arg4) = m ((c.tc : Thread Cert.NormFwdIdeal.nD Cert.NormFwdIdeal.τ).loc Cert.NormFwdIdeal.main_arg4))
      ∧ r.2.sem = fun _ => 0)

def quiescent_NormFwdReferenceIdeal [hNormFwdReferenceIdeal : Cert.NormFwdReferenceIdeal.Facts] : Prop :=
  ∀ (m : (ℓ : Loc Cert.NormFwdReferenceIdeal.nD Cert.NormFwdReferenceIdeal.τ Cert.NormFwdReferenceIdeal.sig) → Buf (Elt Ideal) ℓ) (g : Dev Cert.NormFwdReferenceIdeal.nD → PrngReg), Pre_NormFwdReferenceIdeal m →
    θ_run (Cert.NormFwdReferenceIdeal.defs (F := Ideal)) (onTc (τ := Cert.NormFwdReferenceIdeal.τ) (Cert.NormFwdReferenceIdeal.main (F := Ideal))) ⟨m, fun _ => 0, g⟩ (fun r => (∀ c : Dev Cert.NormFwdReferenceIdeal.nD,
      r.2.mem ((c.tc : Thread Cert.NormFwdReferenceIdeal.nD Cert.NormFwdReferenceIdeal.τ).loc Cert.NormFwdReferenceIdeal.main_arg0) = m ((c.tc : Thread Cert.NormFwdReferenceIdeal.nD Cert.NormFwdReferenceIdeal.τ).loc Cert.NormFwdReferenceIdeal.main_arg0)
      ∧ r.2.mem ((c.tc : Thread Cert.NormFwdReferenceIdeal.nD Cert.NormFwdReferenceIdeal.τ).loc Cert.NormFwdReferenceIdeal.main_arg1) = m ((c.tc : Thread Cert.NormFwdReferenceIdeal.nD Cert.NormFwdReferenceIdeal.τ).loc Cert.NormFwdReferenceIdeal.main_arg1)
      ∧ r.2.mem ((c.tc : Thread Cert.NormFwdReferenceIdeal.nD Cert.NormFwdReferenceIdeal.τ).loc Cert.NormFwdReferenceIdeal.main_arg2) = m ((c.tc : Thread Cert.NormFwdReferenceIdeal.nD Cert.NormFwdReferenceIdeal.τ).loc Cert.NormFwdReferenceIdeal.main_arg2)
      ∧ r.2.mem ((c.tc : Thread Cert.NormFwdReferenceIdeal.nD Cert.NormFwdReferenceIdeal.τ).loc Cert.NormFwdReferenceIdeal.main_arg3) = m ((c.tc : Thread Cert.NormFwdReferenceIdeal.nD Cert.NormFwdReferenceIdeal.τ).loc Cert.NormFwdReferenceIdeal.main_arg3)
      ∧ r.2.mem ((c.tc : Thread Cert.NormFwdReferenceIdeal.nD Cert.NormFwdReferenceIdeal.τ).loc Cert.NormFwdReferenceIdeal.main_arg4) = m ((c.tc : Thread Cert.NormFwdReferenceIdeal.nD Cert.NormFwdReferenceIdeal.τ).loc Cert.NormFwdReferenceIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaReferenceIdeal [hAdaReferenceIdeal : Cert.AdaReferenceIdeal.Facts] : Prop :=
  ∀ (m : (ℓ : Loc Cert.AdaReferenceIdeal.nD Cert.AdaReferenceIdeal.τ Cert.AdaReferenceIdeal.sig) → Buf (Elt Ideal) ℓ) (g : Dev Cert.AdaReferenceIdeal.nD → PrngReg), Pre_AdaReferenceIdeal m →
    θ_run (Cert.AdaReferenceIdeal.defs (F := Ideal)) (onTc (τ := Cert.AdaReferenceIdeal.τ) (Cert.AdaReferenceIdeal.main (F := Ideal))) ⟨m, fun _ => 0, g⟩ (fun r => (∀ c : Dev Cert.AdaReferenceIdeal.nD,
      r.2.mem ((c.tc : Thread Cert.AdaReferenceIdeal.nD Cert.AdaReferenceIdeal.τ).loc Cert.AdaReferenceIdeal.main_arg0) = m ((c.tc : Thread Cert.AdaReferenceIdeal.nD Cert.AdaReferenceIdeal.τ).loc Cert.AdaReferenceIdeal.main_arg0)
      ∧ r.2.mem ((c.tc : Thread Cert.AdaReferenceIdeal.nD Cert.AdaReferenceIdeal.τ).loc Cert.AdaReferenceIdeal.main_arg1) = m ((c.tc : Thread Cert.AdaReferenceIdeal.nD Cert.AdaReferenceIdeal.τ).loc Cert.AdaReferenceIdeal.main_arg1)
      ∧ r.2.mem ((c.tc : Thread Cert.AdaReferenceIdeal.nD Cert.AdaReferenceIdeal.τ).loc Cert.AdaReferenceIdeal.main_arg2) = m ((c.tc : Thread Cert.AdaReferenceIdeal.nD Cert.AdaReferenceIdeal.τ).loc Cert.AdaReferenceIdeal.main_arg2))
      ∧ r.2.sem = fun _ => 0)

def quiescent_Outer [hOuter : Cert.Outer.Facts] : Prop :=
  ∀ (m : (ℓ : Loc Cert.Outer.nD Cert.Outer.τ Cert.Outer.sig) → Buf (Elt Bits) ℓ) (g : Dev Cert.Outer.nD → PrngReg), Pre_Outer m →
    θ_run (Cert.Outer.defs (F := Bits)) (onTc (τ := Cert.Outer.τ) (Cert.Outer.main (F := Bits))) ⟨m, fun _ => 0, g⟩ (fun r => (∀ c : Dev Cert.Outer.nD,
      r.2.mem ((c.tc : Thread Cert.Outer.nD Cert.Outer.τ).loc Cert.Outer.main_arg0) = m ((c.tc : Thread Cert.Outer.nD Cert.Outer.τ).loc Cert.Outer.main_arg0)
      ∧ r.2.mem ((c.tc : Thread Cert.Outer.nD Cert.Outer.τ).loc Cert.Outer.main_arg1) = m ((c.tc : Thread Cert.Outer.nD Cert.Outer.τ).loc Cert.Outer.main_arg1))
      ∧ r.2.sem = fun _ => 0)

def quiescent_OuterIdeal [hOuterIdeal : Cert.OuterIdeal.Facts] : Prop :=
  ∀ (m : (ℓ : Loc Cert.OuterIdeal.nD Cert.OuterIdeal.τ Cert.OuterIdeal.sig) → Buf (Elt Ideal) ℓ) (g : Dev Cert.OuterIdeal.nD → PrngReg), Pre_OuterIdeal m →
    θ_run (Cert.OuterIdeal.defs (F := Ideal)) (onTc (τ := Cert.OuterIdeal.τ) (Cert.OuterIdeal.main (F := Ideal))) ⟨m, fun _ => 0, g⟩ (fun r => (∀ c : Dev Cert.OuterIdeal.nD,
      r.2.mem ((c.tc : Thread Cert.OuterIdeal.nD Cert.OuterIdeal.τ).loc Cert.OuterIdeal.main_arg0) = m ((c.tc : Thread Cert.OuterIdeal.nD Cert.OuterIdeal.τ).loc Cert.OuterIdeal.main_arg0)
      ∧ r.2.mem ((c.tc : Thread Cert.OuterIdeal.nD Cert.OuterIdeal.τ).loc Cert.OuterIdeal.main_arg1) = m ((c.tc : Thread Cert.OuterIdeal.nD Cert.OuterIdeal.τ).loc Cert.OuterIdeal.main_arg1))
      ∧ r.2.sem = fun _ => 0)

def quiescent_OuterReferenceIdeal [hOuterReferenceIdeal : Cert.OuterReferenceIdeal.Facts] : Prop :=
  ∀ (m : (ℓ : Loc Cert.OuterReferenceIdeal.nD Cert.OuterReferenceIdeal.τ Cert.OuterReferenceIdeal.sig) → Buf (Elt Ideal) ℓ) (g : Dev Cert.OuterReferenceIdeal.nD → PrngReg), Pre_OuterReferenceIdeal m →
    θ_run (Cert.OuterReferenceIdeal.defs (F := Ideal)) (onTc (τ := Cert.OuterReferenceIdeal.τ) (Cert.OuterReferenceIdeal.main (F := Ideal))) ⟨m, fun _ => 0, g⟩ (fun r => (∀ c : Dev Cert.OuterReferenceIdeal.nD,
      r.2.mem ((c.tc : Thread Cert.OuterReferenceIdeal.nD Cert.OuterReferenceIdeal.τ).loc Cert.OuterReferenceIdeal.main_arg0) = m ((c.tc : Thread Cert.OuterReferenceIdeal.nD Cert.OuterReferenceIdeal.τ).loc Cert.OuterReferenceIdeal.main_arg0)
      ∧ r.2.mem ((c.tc : Thread Cert.OuterReferenceIdeal.nD Cert.OuterReferenceIdeal.τ).loc Cert.OuterReferenceIdeal.main_arg1) = m ((c.tc : Thread Cert.OuterReferenceIdeal.nD Cert.OuterReferenceIdeal.τ).loc Cert.OuterReferenceIdeal.main_arg1))
      ∧ r.2.sem = fun _ => 0)

def quiescent_OuterDown [hOuterDown : Cert.OuterDown.Facts] : Prop :=
  ∀ (m : (ℓ : Loc Cert.OuterDown.nD Cert.OuterDown.τ Cert.OuterDown.sig) → Buf (Elt Bits) ℓ) (g : Dev Cert.OuterDown.nD → PrngReg), Pre_OuterDown m →
    θ_run (Cert.OuterDown.defs (F := Bits)) (onTc (τ := Cert.OuterDown.τ) (Cert.OuterDown.main (F := Bits))) ⟨m, fun _ => 0, g⟩ (fun r => (∀ c : Dev Cert.OuterDown.nD,
      r.2.mem ((c.tc : Thread Cert.OuterDown.nD Cert.OuterDown.τ).loc Cert.OuterDown.main_arg0) = m ((c.tc : Thread Cert.OuterDown.nD Cert.OuterDown.τ).loc Cert.OuterDown.main_arg0)
      ∧ r.2.mem ((c.tc : Thread Cert.OuterDown.nD Cert.OuterDown.τ).loc Cert.OuterDown.main_arg1) = m ((c.tc : Thread Cert.OuterDown.nD Cert.OuterDown.τ).loc Cert.OuterDown.main_arg1))
      ∧ r.2.sem = fun _ => 0)

def quiescent_OuterDownIdeal [hOuterDownIdeal : Cert.OuterDownIdeal.Facts] : Prop :=
  ∀ (m : (ℓ : Loc Cert.OuterDownIdeal.nD Cert.OuterDownIdeal.τ Cert.OuterDownIdeal.sig) → Buf (Elt Ideal) ℓ) (g : Dev Cert.OuterDownIdeal.nD → PrngReg), Pre_OuterDownIdeal m →
    θ_run (Cert.OuterDownIdeal.defs (F := Ideal)) (onTc (τ := Cert.OuterDownIdeal.τ) (Cert.OuterDownIdeal.main (F := Ideal))) ⟨m, fun _ => 0, g⟩ (fun r => (∀ c : Dev Cert.OuterDownIdeal.nD,
      r.2.mem ((c.tc : Thread Cert.OuterDownIdeal.nD Cert.OuterDownIdeal.τ).loc Cert.OuterDownIdeal.main_arg0) = m ((c.tc : Thread Cert.OuterDownIdeal.nD Cert.OuterDownIdeal.τ).loc Cert.OuterDownIdeal.main_arg0)
      ∧ r.2.mem ((c.tc : Thread Cert.OuterDownIdeal.nD Cert.OuterDownIdeal.τ).loc Cert.OuterDownIdeal.main_arg1) = m ((c.tc : Thread Cert.OuterDownIdeal.nD Cert.OuterDownIdeal.τ).loc Cert.OuterDownIdeal.main_arg1))
      ∧ r.2.sem = fun _ => 0)

def quiescent_OuterDownReferenceIdeal [hOuterDownReferenceIdeal : Cert.OuterDownReferenceIdeal.Facts] : Prop :=
  ∀ (m : (ℓ : Loc Cert.OuterDownReferenceIdeal.nD Cert.OuterDownReferenceIdeal.τ Cert.OuterDownReferenceIdeal.sig) → Buf (Elt Ideal) ℓ) (g : Dev Cert.OuterDownReferenceIdeal.nD → PrngReg), Pre_OuterDownReferenceIdeal m →
    θ_run (Cert.OuterDownReferenceIdeal.defs (F := Ideal)) (onTc (τ := Cert.OuterDownReferenceIdeal.τ) (Cert.OuterDownReferenceIdeal.main (F := Ideal))) ⟨m, fun _ => 0, g⟩ (fun r => (∀ c : Dev Cert.OuterDownReferenceIdeal.nD,
      r.2.mem ((c.tc : Thread Cert.OuterDownReferenceIdeal.nD Cert.OuterDownReferenceIdeal.τ).loc Cert.OuterDownReferenceIdeal.main_arg0) = m ((c.tc : Thread Cert.OuterDownReferenceIdeal.nD Cert.OuterDownReferenceIdeal.τ).loc Cert.OuterDownReferenceIdeal.main_arg0)
      ∧ r.2.mem ((c.tc : Thread Cert.OuterDownReferenceIdeal.nD Cert.OuterDownReferenceIdeal.τ).loc Cert.OuterDownReferenceIdeal.main_arg1) = m ((c.tc : Thread Cert.OuterDownReferenceIdeal.nD Cert.OuterDownReferenceIdeal.τ).loc Cert.OuterDownReferenceIdeal.main_arg1))
      ∧ r.2.sem = fun _ => 0)

def quiescent_OuterUp [hOuterUp : Cert.OuterUp.Facts] : Prop :=
  ∀ (m : (ℓ : Loc Cert.OuterUp.nD Cert.OuterUp.τ Cert.OuterUp.sig) → Buf (Elt Bits) ℓ) (g : Dev Cert.OuterUp.nD → PrngReg), Pre_OuterUp m →
    θ_run (Cert.OuterUp.defs (F := Bits)) (onTc (τ := Cert.OuterUp.τ) (Cert.OuterUp.main (F := Bits))) ⟨m, fun _ => 0, g⟩ (fun r => (∀ c : Dev Cert.OuterUp.nD,
      r.2.mem ((c.tc : Thread Cert.OuterUp.nD Cert.OuterUp.τ).loc Cert.OuterUp.main_arg0) = m ((c.tc : Thread Cert.OuterUp.nD Cert.OuterUp.τ).loc Cert.OuterUp.main_arg0)
      ∧ r.2.mem ((c.tc : Thread Cert.OuterUp.nD Cert.OuterUp.τ).loc Cert.OuterUp.main_arg1) = m ((c.tc : Thread Cert.OuterUp.nD Cert.OuterUp.τ).loc Cert.OuterUp.main_arg1))
      ∧ r.2.sem = fun _ => 0)

def quiescent_OuterUpIdeal [hOuterUpIdeal : Cert.OuterUpIdeal.Facts] : Prop :=
  ∀ (m : (ℓ : Loc Cert.OuterUpIdeal.nD Cert.OuterUpIdeal.τ Cert.OuterUpIdeal.sig) → Buf (Elt Ideal) ℓ) (g : Dev Cert.OuterUpIdeal.nD → PrngReg), Pre_OuterUpIdeal m →
    θ_run (Cert.OuterUpIdeal.defs (F := Ideal)) (onTc (τ := Cert.OuterUpIdeal.τ) (Cert.OuterUpIdeal.main (F := Ideal))) ⟨m, fun _ => 0, g⟩ (fun r => (∀ c : Dev Cert.OuterUpIdeal.nD,
      r.2.mem ((c.tc : Thread Cert.OuterUpIdeal.nD Cert.OuterUpIdeal.τ).loc Cert.OuterUpIdeal.main_arg0) = m ((c.tc : Thread Cert.OuterUpIdeal.nD Cert.OuterUpIdeal.τ).loc Cert.OuterUpIdeal.main_arg0)
      ∧ r.2.mem ((c.tc : Thread Cert.OuterUpIdeal.nD Cert.OuterUpIdeal.τ).loc Cert.OuterUpIdeal.main_arg1) = m ((c.tc : Thread Cert.OuterUpIdeal.nD Cert.OuterUpIdeal.τ).loc Cert.OuterUpIdeal.main_arg1))
      ∧ r.2.sem = fun _ => 0)

def quiescent_OuterUpReferenceIdeal [hOuterUpReferenceIdeal : Cert.OuterUpReferenceIdeal.Facts] : Prop :=
  ∀ (m : (ℓ : Loc Cert.OuterUpReferenceIdeal.nD Cert.OuterUpReferenceIdeal.τ Cert.OuterUpReferenceIdeal.sig) → Buf (Elt Ideal) ℓ) (g : Dev Cert.OuterUpReferenceIdeal.nD → PrngReg), Pre_OuterUpReferenceIdeal m →
    θ_run (Cert.OuterUpReferenceIdeal.defs (F := Ideal)) (onTc (τ := Cert.OuterUpReferenceIdeal.τ) (Cert.OuterUpReferenceIdeal.main (F := Ideal))) ⟨m, fun _ => 0, g⟩ (fun r => (∀ c : Dev Cert.OuterUpReferenceIdeal.nD,
      r.2.mem ((c.tc : Thread Cert.OuterUpReferenceIdeal.nD Cert.OuterUpReferenceIdeal.τ).loc Cert.OuterUpReferenceIdeal.main_arg0) = m ((c.tc : Thread Cert.OuterUpReferenceIdeal.nD Cert.OuterUpReferenceIdeal.τ).loc Cert.OuterUpReferenceIdeal.main_arg0)
      ∧ r.2.mem ((c.tc : Thread Cert.OuterUpReferenceIdeal.nD Cert.OuterUpReferenceIdeal.τ).loc Cert.OuterUpReferenceIdeal.main_arg1) = m ((c.tc : Thread Cert.OuterUpReferenceIdeal.nD Cert.OuterUpReferenceIdeal.τ).loc Cert.OuterUpReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![16640, 1024]⟩ ⟨2, ![133120, 1024]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![128, 1024]⟩ ⟨2, ![1024, 1024]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![128, 1024]⟩ ⟨2, ![1024, 1024]⟩ 0 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![128, 1024]⟩ ⟨2, ![1024, 1024]⟩ 0 8 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![1024, 704]⟩ ⟨2, ![1024, 5632]⟩ 1 8 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![352, 1024]⟩ ⟨2, ![2816, 1024]⟩ 0 8 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v0)) (v1 : Buf (Elt Ideal) (((0 : Dev Cert.ReferenceIdeal.nD).tc : Thread Cert.ReferenceIdeal.nD Cert.ReferenceIdeal.τ).loc Cert.ReferenceIdeal.main_v1)) (v2 : Buf (Elt Ideal) (((0 : Dev Cert.ReferenceIdeal.nD).tc : Thread Cert.ReferenceIdeal.nD Cert.ReferenceIdeal.τ).loc Cert.ReferenceIdeal.main_v2)) (v3 : Buf (Elt Ideal) (((0 : Dev Cert.ReferenceIdeal.nD).tc : Thread Cert.ReferenceIdeal.nD Cert.ReferenceIdeal.τ).loc Cert.ReferenceIdeal.main_v3)) (v4 : Buf (Elt Ideal) (((0 : Dev Cert.ReferenceIdeal.nD).tc : Thread Cert.ReferenceIdeal.nD Cert.ReferenceIdeal.τ).loc Cert.ReferenceIdeal.main_v5)) (v5 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = Layout.block ⟨2, ![16640, 8192]⟩ ⟨2, ![133120, 8192]⟩ 0 8 c v0
          ∧ r.2.mem ((c.tc : Thread Cert.KernelIdeal.nD Cert.KernelIdeal.τ).loc Cert.KernelIdeal.main_v1_1) = v1
          ∧ r.2.mem ((c.tc : Thread Cert.KernelIdeal.nD Cert.KernelIdeal.τ).loc Cert.KernelIdeal.main_v1_2) = v2
          ∧ r.2.mem ((c.tc : Thread Cert.KernelIdeal.nD Cert.KernelIdeal.τ).loc Cert.KernelIdeal.main_v1_3) = v3
          ∧ r.2.mem ((c.tc : Thread Cert.KernelIdeal.nD Cert.KernelIdeal.τ).loc Cert.KernelIdeal.main_v1_4) = v4
          ∧ r.2.mem ((c.tc : Thread Cert.KernelIdeal.nD Cert.KernelIdeal.τ).loc Cert.KernelIdeal.main_v1_5) = v5
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_v1) = v1
          ∧ r.2.mem (((0 : Dev Cert.ReferenceIdeal.nD).tc : Thread Cert.ReferenceIdeal.nD Cert.ReferenceIdeal.τ).loc Cert.ReferenceIdeal.main_v2) = v2
          ∧ r.2.mem (((0 : Dev Cert.ReferenceIdeal.nD).tc : Thread Cert.ReferenceIdeal.nD Cert.ReferenceIdeal.τ).loc Cert.ReferenceIdeal.main_v3) = v3
          ∧ r.2.mem (((0 : Dev Cert.ReferenceIdeal.nD).tc : Thread Cert.ReferenceIdeal.nD Cert.ReferenceIdeal.τ).loc Cert.ReferenceIdeal.main_v5) = v4
          ∧ r.2.mem (((0 : Dev Cert.ReferenceIdeal.nD).tc : Thread Cert.ReferenceIdeal.nD Cert.ReferenceIdeal.τ).loc Cert.ReferenceIdeal.main_v6) = v5
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def preserves_Weight_WeightIdeal : Prop :=
  True

def algebraic_WeightIdeal_WeightReferenceIdeal [hWeightIdeal : Cert.WeightIdeal.Facts] [hWeightReferenceIdeal : Cert.WeightReferenceIdeal.Facts] : Prop :=
  ∀ (m : (ℓ : Loc Cert.WeightIdeal.nD Cert.WeightIdeal.τ Cert.WeightIdeal.sig) → Buf (Elt Ideal) ℓ) (g : Dev Cert.WeightIdeal.nD → PrngReg)
    (m' : (ℓ : Loc Cert.WeightReferenceIdeal.nD Cert.WeightReferenceIdeal.τ Cert.WeightReferenceIdeal.sig) → Buf (Elt Ideal) ℓ) (g' : Dev Cert.WeightReferenceIdeal.nD → PrngReg), Pre_WeightIdeal m →
    (∀ c : Dev Cert.WeightIdeal.nD,
      m ((c.tc : Thread Cert.WeightIdeal.nD Cert.WeightIdeal.τ).loc Cert.WeightIdeal.main_arg0) = Layout.block ⟨2, ![16640, 1024]⟩ ⟨2, ![133120, 1024]⟩ 0 8 c (m' (((0 : Dev Cert.WeightReferenceIdeal.nD).tc : Thread Cert.WeightReferenceIdeal.nD Cert.WeightReferenceIdeal.τ).loc Cert.WeightReferenceIdeal.main_arg0))
      ∧ m ((c.tc : Thread Cert.WeightIdeal.nD Cert.WeightIdeal.τ).loc Cert.WeightIdeal.main_arg1) = Layout.block ⟨2, ![16640, 8192]⟩ ⟨2, ![133120, 8192]⟩ 0 8 c (m' (((0 : Dev Cert.WeightReferenceIdeal.nD).tc : Thread Cert.WeightReferenceIdeal.nD Cert.WeightReferenceIdeal.τ).loc Cert.WeightReferenceIdeal.main_arg1))
      ∧ m ((c.tc : Thread Cert.WeightIdeal.nD Cert.WeightIdeal.τ).loc Cert.WeightIdeal.main_arg2) = Layout.block ⟨3, ![8, 128, 1024]⟩ ⟨3, ![64, 128, 1024]⟩ 0 8 c (m' (((0 : Dev Cert.WeightReferenceIdeal.nD).tc : Thread Cert.WeightReferenceIdeal.nD Cert.WeightReferenceIdeal.τ).loc Cert.WeightReferenceIdeal.main_arg2))
      ∧ m ((c.tc : Thread Cert.WeightIdeal.nD Cert.WeightIdeal.τ).loc Cert.WeightIdeal.main_arg3) = Layout.block ⟨3, ![8, 128, 1024]⟩ ⟨3, ![64, 128, 1024]⟩ 0 8 c (m' (((0 : Dev Cert.WeightReferenceIdeal.nD).tc : Thread Cert.WeightReferenceIdeal.nD Cert.WeightReferenceIdeal.τ).loc Cert.WeightReferenceIdeal.main_arg3))
      ∧ m ((c.tc : Thread Cert.WeightIdeal.nD Cert.WeightIdeal.τ).loc Cert.WeightIdeal.main_arg4) = Layout.block ⟨3, ![8, 128, 1024]⟩ ⟨3, ![64, 128, 1024]⟩ 0 8 c (m' (((0 : Dev Cert.WeightReferenceIdeal.nD).tc : Thread Cert.WeightReferenceIdeal.nD Cert.WeightReferenceIdeal.τ).loc Cert.WeightReferenceIdeal.main_arg4))
      ∧ m ((c.tc : Thread Cert.WeightIdeal.nD Cert.WeightIdeal.τ).loc Cert.WeightIdeal.main_arg5) = Layout.block ⟨3, ![8, 1024, 704]⟩ ⟨3, ![64, 1024, 704]⟩ 0 8 c (m' (((0 : Dev Cert.WeightReferenceIdeal.nD).tc : Thread Cert.WeightReferenceIdeal.nD Cert.WeightReferenceIdeal.τ).loc Cert.WeightReferenceIdeal.main_arg5))
      ∧ m ((c.tc : Thread Cert.WeightIdeal.nD Cert.WeightIdeal.τ).loc Cert.WeightIdeal.main_arg6) = Layout.block ⟨3, ![8, 352, 1024]⟩ ⟨3, ![64, 352, 1024]⟩ 0 8 c (m' (((0 : Dev Cert.WeightReferenceIdeal.nD).tc : Thread Cert.WeightReferenceIdeal.nD Cert.WeightReferenceIdeal.τ).loc Cert.WeightReferenceIdeal.main_arg6))) →
    ∃ (v0 : Buf (Elt Ideal) (((0 : Dev Cert.WeightReferenceIdeal.nD).tc : Thread Cert.WeightReferenceIdeal.nD Cert.WeightReferenceIdeal.τ).loc Cert.WeightReferenceIdeal.main_v4)) (v1 : Buf (Elt Ideal) (((0 : Dev Cert.WeightReferenceIdeal.nD).tc : Thread Cert.WeightReferenceIdeal.nD Cert.WeightReferenceIdeal.τ).loc Cert.WeightReferenceIdeal.main_v7)) (v2 : Buf (Elt Ideal) (((0 : Dev Cert.WeightReferenceIdeal.nD).tc : Thread Cert.WeightReferenceIdeal.nD Cert.WeightReferenceIdeal.τ).loc Cert.WeightReferenceIdeal.main_v10)) (v3 : Buf (Elt Ideal) (((0 : Dev Cert.WeightReferenceIdeal.nD).tc : Thread Cert.WeightReferenceIdeal.nD Cert.WeightReferenceIdeal.τ).loc Cert.WeightReferenceIdeal.main_v13)) (v4 : Buf (Elt Ideal) (((0 : Dev Cert.WeightReferenceIdeal.nD).tc : Thread Cert.WeightReferenceIdeal.nD Cert.WeightReferenceIdeal.τ).loc Cert.WeightReferenceIdeal.main_v16)) (v5 : Buf (Elt Ideal) (((0 : Dev Cert.WeightReferenceIdeal.nD).tc : Thread Cert.WeightReferenceIdeal.nD Cert.WeightReferenceIdeal.τ).loc Cert.WeightReferenceIdeal.main_v19)),
      θ_run (Cert.WeightIdeal.defs (F := Ideal)) (onTc (τ := Cert.WeightIdeal.τ) (Cert.WeightIdeal.main (F := Ideal))) ⟨m, fun _ => 0, g⟩ (fun r => ∀ c : Dev Cert.WeightIdeal.nD,
          r.2.mem ((c.tc : Thread Cert.WeightIdeal.nD Cert.WeightIdeal.τ).loc Cert.WeightIdeal.main_v1_0) = Layout.block ⟨2, ![1024, 8192]⟩ ⟨2, ![8192, 8192]⟩ 0 8 c v0
          ∧ r.2.mem ((c.tc : Thread Cert.WeightIdeal.nD Cert.WeightIdeal.τ).loc Cert.WeightIdeal.main_v1_1) = Layout.block ⟨3, ![8, 128, 1024]⟩ ⟨3, ![64, 128, 1024]⟩ 0 8 c v1
          ∧ r.2.mem ((c.tc : Thread Cert.WeightIdeal.nD Cert.WeightIdeal.τ).loc Cert.WeightIdeal.main_v1_2) = Layout.block ⟨3, ![8, 128, 1024]⟩ ⟨3, ![64, 128, 1024]⟩ 0 8 c v2
          ∧ r.2.mem ((c.tc : Thread Cert.WeightIdeal.nD Cert.WeightIdeal.τ).loc Cert.WeightIdeal.main_v1_3) = Layout.block ⟨3, ![8, 128, 1024]⟩ ⟨3, ![64, 128, 1024]⟩ 0 8 c v3
          ∧ r.2.mem ((c.tc : Thread Cert.WeightIdeal.nD Cert.WeightIdeal.τ).loc Cert.WeightIdeal.main_v1_4) = Layout.block ⟨3, ![8, 1024, 704]⟩ ⟨3, ![64, 1024, 704]⟩ 0 8 c v4
          ∧ r.2.mem ((c.tc : Thread Cert.WeightIdeal.nD Cert.WeightIdeal.τ).loc Cert.WeightIdeal.main_v1_5) = Layout.block ⟨3, ![8, 352, 1024]⟩ ⟨3, ![64, 352, 1024]⟩ 0 8 c v5
          ∧ r.2.mem ((c.tc : Thread Cert.WeightIdeal.nD Cert.WeightIdeal.τ).loc Cert.WeightIdeal.main_arg0) = m ((c.tc : Thread Cert.WeightIdeal.nD Cert.WeightIdeal.τ).loc Cert.WeightIdeal.main_arg0)
          ∧ r.2.mem ((c.tc : Thread Cert.WeightIdeal.nD Cert.WeightIdeal.τ).loc Cert.WeightIdeal.main_arg1) = m ((c.tc : Thread Cert.WeightIdeal.nD Cert.WeightIdeal.τ).loc Cert.WeightIdeal.main_arg1)
          ∧ r.2.mem ((c.tc : Thread Cert.WeightIdeal.nD Cert.WeightIdeal.τ).loc Cert.WeightIdeal.main_arg2) = m ((c.tc : Thread Cert.WeightIdeal.nD Cert.WeightIdeal.τ).loc Cert.WeightIdeal.main_arg2)
          ∧ r.2.mem ((c.tc : Thread Cert.WeightIdeal.nD Cert.WeightIdeal.τ).loc Cert.WeightIdeal.main_arg3) = m ((c.tc : Thread Cert.WeightIdeal.nD Cert.WeightIdeal.τ).loc Cert.WeightIdeal.main_arg3)
          ∧ r.2.mem ((c.tc : Thread Cert.WeightIdeal.nD Cert.WeightIdeal.τ).loc Cert.WeightIdeal.main_arg4) = m ((c.tc : Thread Cert.WeightIdeal.nD Cert.WeightIdeal.τ).loc Cert.WeightIdeal.main_arg4)
          ∧ r.2.mem ((c.tc : Thread Cert.WeightIdeal.nD Cert.WeightIdeal.τ).loc Cert.WeightIdeal.main_arg5) = m ((c.tc : Thread Cert.WeightIdeal.nD Cert.WeightIdeal.τ).loc Cert.WeightIdeal.main_arg5)
          ∧ r.2.mem ((c.tc : Thread Cert.WeightIdeal.nD Cert.WeightIdeal.τ).loc Cert.WeightIdeal.main_arg6) = m ((c.tc : Thread Cert.WeightIdeal.nD Cert.WeightIdeal.τ).loc Cert.WeightIdeal.main_arg6))
      ∧ θ_run (Cert.WeightReferenceIdeal.defs (F := Ideal)) (onTc (τ := Cert.WeightReferenceIdeal.τ) (Cert.WeightReferenceIdeal.main (F := Ideal))) ⟨m', fun _ => 0, g'⟩ (fun r =>
          r.2.mem (((0 : Dev Cert.WeightReferenceIdeal.nD).tc : Thread Cert.WeightReferenceIdeal.nD Cert.WeightReferenceIdeal.τ).loc Cert.WeightReferenceIdeal.main_v4) = v0
          ∧ r.2.mem (((0 : Dev Cert.WeightReferenceIdeal.nD).tc : Thread Cert.WeightReferenceIdeal.nD Cert.WeightReferenceIdeal.τ).loc Cert.WeightReferenceIdeal.main_v7) = v1
          ∧ r.2.mem (((0 : Dev Cert.WeightReferenceIdeal.nD).tc : Thread Cert.WeightReferenceIdeal.nD Cert.WeightReferenceIdeal.τ).loc Cert.WeightReferenceIdeal.main_v10) = v2
          ∧ r.2.mem (((0 : Dev Cert.WeightReferenceIdeal.nD).tc : Thread Cert.WeightReferenceIdeal.nD Cert.WeightReferenceIdeal.τ).loc Cert.WeightReferenceIdeal.main_v13) = v3
          ∧ r.2.mem (((0 : Dev Cert.WeightReferenceIdeal.nD).tc : Thread Cert.WeightReferenceIdeal.nD Cert.WeightReferenceIdeal.τ).loc Cert.WeightReferenceIdeal.main_v16) = v4
          ∧ r.2.mem (((0 : Dev Cert.WeightReferenceIdeal.nD).tc : Thread Cert.WeightReferenceIdeal.nD Cert.WeightReferenceIdeal.τ).loc Cert.WeightReferenceIdeal.main_v19) = v5
          ∧ r.2.mem (((0 : Dev Cert.WeightReferenceIdeal.nD).tc : Thread Cert.WeightReferenceIdeal.nD Cert.WeightReferenceIdeal.τ).loc Cert.WeightReferenceIdeal.main_arg0) = m' (((0 : Dev Cert.WeightReferenceIdeal.nD).tc : Thread Cert.WeightReferenceIdeal.nD Cert.WeightReferenceIdeal.τ).loc Cert.WeightReferenceIdeal.main_arg0)
          ∧ r.2.mem (((0 : Dev Cert.WeightReferenceIdeal.nD).tc : Thread Cert.WeightReferenceIdeal.nD Cert.WeightReferenceIdeal.τ).loc Cert.WeightReferenceIdeal.main_arg1) = m' (((0 : Dev Cert.WeightReferenceIdeal.nD).tc : Thread Cert.WeightReferenceIdeal.nD Cert.WeightReferenceIdeal.τ).loc Cert.WeightReferenceIdeal.main_arg1)
          ∧ r.2.mem (((0 : Dev Cert.WeightReferenceIdeal.nD).tc : Thread Cert.WeightReferenceIdeal.nD Cert.WeightReferenceIdeal.τ).loc Cert.WeightReferenceIdeal.main_arg2) = m' (((0 : Dev Cert.WeightReferenceIdeal.nD).tc : Thread Cert.WeightReferenceIdeal.nD Cert.WeightReferenceIdeal.τ).loc Cert.WeightReferenceIdeal.main_arg2)
          ∧ r.2.mem (((0 : Dev Cert.WeightReferenceIdeal.nD).tc : Thread Cert.WeightReferenceIdeal.nD Cert.WeightReferenceIdeal.τ).loc Cert.WeightReferenceIdeal.main_arg3) = m' (((0 : Dev Cert.WeightReferenceIdeal.nD).tc : Thread Cert.WeightReferenceIdeal.nD Cert.WeightReferenceIdeal.τ).loc Cert.WeightReferenceIdeal.main_arg3)
          ∧ r.2.mem (((0 : Dev Cert.WeightReferenceIdeal.nD).tc : Thread Cert.WeightReferenceIdeal.nD Cert.WeightReferenceIdeal.τ).loc Cert.WeightReferenceIdeal.main_arg4) = m' (((0 : Dev Cert.WeightReferenceIdeal.nD).tc : Thread Cert.WeightReferenceIdeal.nD Cert.WeightReferenceIdeal.τ).loc Cert.WeightReferenceIdeal.main_arg4)
          ∧ r.2.mem (((0 : Dev Cert.WeightReferenceIdeal.nD).tc : Thread Cert.WeightReferenceIdeal.nD Cert.WeightReferenceIdeal.τ).loc Cert.WeightReferenceIdeal.main_arg5) = m' (((0 : Dev Cert.WeightReferenceIdeal.nD).tc : Thread Cert.WeightReferenceIdeal.nD Cert.WeightReferenceIdeal.τ).loc Cert.WeightReferenceIdeal.main_arg5)
          ∧ r.2.mem (((0 : Dev Cert.WeightReferenceIdeal.nD).tc : Thread Cert.WeightReferenceIdeal.nD Cert.WeightReferenceIdeal.τ).loc Cert.WeightReferenceIdeal.main_arg6) = m' (((0 : Dev Cert.WeightReferenceIdeal.nD).tc : Thread Cert.WeightReferenceIdeal.nD Cert.WeightReferenceIdeal.τ).loc Cert.WeightReferenceIdeal.main_arg6))

def preserves_Row_RowIdeal : Prop :=
  True

def algebraic_RowIdeal_RowReferenceIdeal [hRowIdeal : Cert.RowIdeal.Facts] [hRowReferenceIdeal : Cert.RowReferenceIdeal.Facts] : Prop :=
  ∀ (m : (ℓ : Loc Cert.RowIdeal.nD Cert.RowIdeal.τ Cert.RowIdeal.sig) → Buf (Elt Ideal) ℓ) (g : Dev Cert.RowIdeal.nD → PrngReg)
    (m' : (ℓ : Loc Cert.RowReferenceIdeal.nD Cert.RowReferenceIdeal.τ Cert.RowReferenceIdeal.sig) → Buf (Elt Ideal) ℓ) (g' : Dev Cert.RowReferenceIdeal.nD → PrngReg), Pre_RowIdeal m →
    (∀ c : Dev Cert.RowIdeal.nD,
      m ((c.tc : Thread Cert.RowIdeal.nD Cert.RowIdeal.τ).loc Cert.RowIdeal.main_arg0) = Layout.block ⟨2, ![16640, 8192]⟩ ⟨2, ![133120, 8192]⟩ 0 8 c (m' (((0 : Dev Cert.RowReferenceIdeal.nD).tc : Thread Cert.RowReferenceIdeal.nD Cert.RowReferenceIdeal.τ).loc Cert.RowReferenceIdeal.main_arg0))
      ∧ m ((c.tc : Thread Cert.RowIdeal.nD Cert.RowIdeal.τ).loc Cert.RowIdeal.main_arg1) = m' (((0 : Dev Cert.RowReferenceIdeal.nD).tc : Thread Cert.RowReferenceIdeal.nD Cert.RowReferenceIdeal.τ).loc Cert.RowReferenceIdeal.main_arg1)
      ∧ m ((c.tc : Thread Cert.RowIdeal.nD Cert.RowIdeal.τ).loc Cert.RowIdeal.main_arg2) = Layout.block ⟨3, ![8, 1024, 964]⟩ ⟨3, ![64, 1024, 964]⟩ 0 8 c (m' (((0 : Dev Cert.RowReferenceIdeal.nD).tc : Thread Cert.RowReferenceIdeal.nD Cert.RowReferenceIdeal.τ).loc Cert.RowReferenceIdeal.main_arg2))) →
    ∃ (v0 : Buf (Elt Ideal) (((0 : Dev Cert.RowReferenceIdeal.nD).tc : Thread Cert.RowReferenceIdeal.nD Cert.RowReferenceIdeal.τ).loc Cert.RowReferenceIdeal.main_v0)) (v1 : Buf (Elt Ideal) (((0 : Dev Cert.RowReferenceIdeal.nD).tc : Thread Cert.RowReferenceIdeal.nD Cert.RowReferenceIdeal.τ).loc Cert.RowReferenceIdeal.main_v3)),
      θ_run (Cert.RowIdeal.defs (F := Ideal)) (onTc (τ := Cert.RowIdeal.τ) (Cert.RowIdeal.main (F := Ideal))) ⟨m, fun _ => 0, g⟩ (fun r => ∀ c : Dev Cert.RowIdeal.nD,
          r.2.mem ((c.tc : Thread Cert.RowIdeal.nD Cert.RowIdeal.τ).loc Cert.RowIdeal.main_v1_0) = Layout.block ⟨2, ![16640, 1024]⟩ ⟨2, ![133120, 1024]⟩ 0 8 c v0
          ∧ r.2.mem ((c.tc : Thread Cert.RowIdeal.nD Cert.RowIdeal.τ).loc Cert.RowIdeal.main_v1_1) = Layout.block ⟨3, ![8, 1024, 964]⟩ ⟨3, ![64, 1024, 964]⟩ 0 8 c v1
          ∧ r.2.mem ((c.tc : Thread Cert.RowIdeal.nD Cert.RowIdeal.τ).loc Cert.RowIdeal.main_arg0) = m ((c.tc : Thread Cert.RowIdeal.nD Cert.RowIdeal.τ).loc Cert.RowIdeal.main_arg0)
          ∧ r.2.mem ((c.tc : Thread Cert.RowIdeal.nD Cert.RowIdeal.τ).loc Cert.RowIdeal.main_arg1) = m ((c.tc : Thread Cert.RowIdeal.nD Cert.RowIdeal.τ).loc Cert.RowIdeal.main_arg1)
          ∧ r.2.mem ((c.tc : Thread Cert.RowIdeal.nD Cert.RowIdeal.τ).loc Cert.RowIdeal.main_arg2) = m ((c.tc : Thread Cert.RowIdeal.nD Cert.RowIdeal.τ).loc Cert.RowIdeal.main_arg2))
      ∧ θ_run (Cert.RowReferenceIdeal.defs (F := Ideal)) (onTc (τ := Cert.RowReferenceIdeal.τ) (Cert.RowReferenceIdeal.main (F := Ideal))) ⟨m', fun _ => 0, g'⟩ (fun r =>
          r.2.mem (((0 : Dev Cert.RowReferenceIdeal.nD).tc : Thread Cert.RowReferenceIdeal.nD Cert.RowReferenceIdeal.τ).loc Cert.RowReferenceIdeal.main_v0) = v0
          ∧ r.2.mem (((0 : Dev Cert.RowReferenceIdeal.nD).tc : Thread Cert.RowReferenceIdeal.nD Cert.RowReferenceIdeal.τ).loc Cert.RowReferenceIdeal.main_v3) = v1
          ∧ r.2.mem (((0 : Dev Cert.RowReferenceIdeal.nD).tc : Thread Cert.RowReferenceIdeal.nD Cert.RowReferenceIdeal.τ).loc Cert.RowReferenceIdeal.main_arg0) = m' (((0 : Dev Cert.RowReferenceIdeal.nD).tc : Thread Cert.RowReferenceIdeal.nD Cert.RowReferenceIdeal.τ).loc Cert.RowReferenceIdeal.main_arg0)
          ∧ r.2.mem (((0 : Dev Cert.RowReferenceIdeal.nD).tc : Thread Cert.RowReferenceIdeal.nD Cert.RowReferenceIdeal.τ).loc Cert.RowReferenceIdeal.main_arg1) = m' (((0 : Dev Cert.RowReferenceIdeal.nD).tc : Thread Cert.RowReferenceIdeal.nD Cert.RowReferenceIdeal.τ).loc Cert.RowReferenceIdeal.main_arg1)
          ∧ r.2.mem (((0 : Dev Cert.RowReferenceIdeal.nD).tc : Thread Cert.RowReferenceIdeal.nD Cert.RowReferenceIdeal.τ).loc Cert.RowReferenceIdeal.main_arg2) = m' (((0 : Dev Cert.RowReferenceIdeal.nD).tc : Thread Cert.RowReferenceIdeal.nD Cert.RowReferenceIdeal.τ).loc Cert.RowReferenceIdeal.main_arg2))

def preserves_StepIn_StepInIdeal : Prop :=
  True

def algebraic_StepInIdeal_StepInReferenceIdeal [hStepInIdeal : Cert.StepInIdeal.Facts] [hStepInReferenceIdeal : Cert.StepInReferenceIdeal.Facts] : Prop :=
  ∀ (m : (ℓ : Loc Cert.StepInIdeal.nD Cert.StepInIdeal.τ Cert.StepInIdeal.sig) → Buf (Elt Ideal) ℓ) (g : Dev Cert.StepInIdeal.nD → PrngReg)
    (m' : (ℓ : Loc Cert.StepInReferenceIdeal.nD Cert.StepInReferenceIdeal.τ Cert.StepInReferenceIdeal.sig) → Buf (Elt Ideal) ℓ) (g' : Dev Cert.StepInReferenceIdeal.nD → PrngReg), Pre_StepInIdeal m →
    (∀ c : Dev Cert.StepInIdeal.nD,
      m' ((c.tc : Thread Cert.StepInReferenceIdeal.nD Cert.StepInReferenceIdeal.τ).loc Cert.StepInReferenceIdeal.main_arg0) = m ((c.tc : Thread Cert.StepInIdeal.nD Cert.StepInIdeal.τ).loc Cert.StepInIdeal.main_arg0)
      ∧ m' ((c.tc : Thread Cert.StepInReferenceIdeal.nD Cert.StepInReferenceIdeal.τ).loc Cert.StepInReferenceIdeal.main_arg1) = m ((c.tc : Thread Cert.StepInIdeal.nD Cert.StepInIdeal.τ).loc Cert.StepInIdeal.main_arg1)
      ∧ m' ((c.tc : Thread Cert.StepInReferenceIdeal.nD Cert.StepInReferenceIdeal.τ).loc Cert.StepInReferenceIdeal.main_arg2) = m ((c.tc : Thread Cert.StepInIdeal.nD Cert.StepInIdeal.τ).loc Cert.StepInIdeal.main_arg2)
      ∧ m' ((c.tc : Thread Cert.StepInReferenceIdeal.nD Cert.StepInReferenceIdeal.τ).loc Cert.StepInReferenceIdeal.main_arg3) = m ((c.tc : Thread Cert.StepInIdeal.nD Cert.StepInIdeal.τ).loc Cert.StepInIdeal.main_arg3)) →
    ∃ (v0 : (c : Dev Cert.StepInIdeal.nD) → Buf (Elt Ideal) ((c.tc : Thread Cert.StepInIdeal.nD Cert.StepInIdeal.τ).loc Cert.StepInIdeal.main_v0_0)) (v1 : (c : Dev Cert.StepInIdeal.nD) → Buf (Elt Ideal) ((c.tc : Thread Cert.StepInIdeal.nD Cert.StepInIdeal.τ).loc Cert.StepInIdeal.main_v0_1)) (v2 : (c : Dev Cert.StepInIdeal.nD) → Buf (Elt Ideal) ((c.tc : Thread Cert.StepInIdeal.nD Cert.StepInIdeal.τ).loc Cert.StepInIdeal.main_v0_2)) (v3 : (c : Dev Cert.StepInIdeal.nD) → Buf (Elt Ideal) ((c.tc : Thread Cert.StepInIdeal.nD Cert.StepInIdeal.τ).loc Cert.StepInIdeal.main_v0_3)),
      θ_run (Cert.StepInIdeal.defs (F := Ideal)) (onTc (τ := Cert.StepInIdeal.τ) (Cert.StepInIdeal.main (F := Ideal))) ⟨m, fun _ => 0, g⟩ (fun r => ∀ c : Dev Cert.StepInIdeal.nD,
          r.2.mem ((c.tc : Thread Cert.StepInIdeal.nD Cert.StepInIdeal.τ).loc Cert.StepInIdeal.main_v0_0) = v0 c
          ∧ r.2.mem ((c.tc : Thread Cert.StepInIdeal.nD Cert.StepInIdeal.τ).loc Cert.StepInIdeal.main_v0_1) = v1 c
          ∧ r.2.mem ((c.tc : Thread Cert.StepInIdeal.nD Cert.StepInIdeal.τ).loc Cert.StepInIdeal.main_v0_2) = v2 c
          ∧ r.2.mem ((c.tc : Thread Cert.StepInIdeal.nD Cert.StepInIdeal.τ).loc Cert.StepInIdeal.main_v0_3) = v3 c
          ∧ r.2.mem ((c.tc : Thread Cert.StepInIdeal.nD Cert.StepInIdeal.τ).loc Cert.StepInIdeal.main_arg0) = m ((c.tc : Thread Cert.StepInIdeal.nD Cert.StepInIdeal.τ).loc Cert.StepInIdeal.main_arg0)
          ∧ r.2.mem ((c.tc : Thread Cert.StepInIdeal.nD Cert.StepInIdeal.τ).loc Cert.StepInIdeal.main_arg1) = m ((c.tc : Thread Cert.StepInIdeal.nD Cert.StepInIdeal.τ).loc Cert.StepInIdeal.main_arg1)
          ∧ r.2.mem ((c.tc : Thread Cert.StepInIdeal.nD Cert.StepInIdeal.τ).loc Cert.StepInIdeal.main_arg2) = m ((c.tc : Thread Cert.StepInIdeal.nD Cert.StepInIdeal.τ).loc Cert.StepInIdeal.main_arg2)
          ∧ r.2.mem ((c.tc : Thread Cert.StepInIdeal.nD Cert.StepInIdeal.τ).loc Cert.StepInIdeal.main_arg3) = m ((c.tc : Thread Cert.StepInIdeal.nD Cert.StepInIdeal.τ).loc Cert.StepInIdeal.main_arg3))
      ∧ θ_run (Cert.StepInReferenceIdeal.defs (F := Ideal)) (onTc (τ := Cert.StepInReferenceIdeal.τ) (Cert.StepInReferenceIdeal.main (F := Ideal))) ⟨m', fun _ => 0, g'⟩ (fun r => ∀ c : Dev Cert.StepInReferenceIdeal.nD,
          r.2.mem ((c.tc : Thread Cert.StepInReferenceIdeal.nD Cert.StepInReferenceIdeal.τ).loc Cert.StepInReferenceIdeal.main_v1) = v0 c
          ∧ r.2.mem ((c.tc : Thread Cert.StepInReferenceIdeal.nD Cert.StepInReferenceIdeal.τ).loc Cert.StepInReferenceIdeal.main_v25) = v1 c
          ∧ r.2.mem ((c.tc : Thread Cert.StepInReferenceIdeal.nD Cert.StepInReferenceIdeal.τ).loc Cert.StepInReferenceIdeal.main_v6) = v2 c
          ∧ r.2.mem ((c.tc : Thread Cert.StepInReferenceIdeal.nD Cert.StepInReferenceIdeal.τ).loc Cert.StepInReferenceIdeal.main_v12) = v3 c
          ∧ r.2.mem ((c.tc : Thread Cert.StepInReferenceIdeal.nD Cert.StepInReferenceIdeal.τ).loc Cert.StepInReferenceIdeal.main_arg0) = m' ((c.tc : Thread Cert.StepInReferenceIdeal.nD Cert.StepInReferenceIdeal.τ).loc Cert.StepInReferenceIdeal.main_arg0)
          ∧ r.2.mem ((c.tc : Thread Cert.StepInReferenceIdeal.nD Cert.StepInReferenceIdeal.τ).loc Cert.StepInReferenceIdeal.main_arg1) = m' ((c.tc : Thread Cert.StepInReferenceIdeal.nD Cert.StepInReferenceIdeal.τ).loc Cert.StepInReferenceIdeal.main_arg1)
          ∧ r.2.mem ((c.tc : Thread Cert.StepInReferenceIdeal.nD Cert.StepInReferenceIdeal.τ).loc Cert.StepInReferenceIdeal.main_arg2) = m' ((c.tc : Thread Cert.StepInReferenceIdeal.nD Cert.StepInReferenceIdeal.τ).loc Cert.StepInReferenceIdeal.main_arg2)
          ∧ r.2.mem ((c.tc : Thread Cert.StepInReferenceIdeal.nD Cert.StepInReferenceIdeal.τ).loc Cert.StepInReferenceIdeal.main_arg3) = m' ((c.tc : Thread Cert.StepInReferenceIdeal.nD Cert.StepInReferenceIdeal.τ).loc Cert.StepInReferenceIdeal.main_arg3))

def preserves_StepOut_StepOutIdeal : Prop :=
  True

def algebraic_StepOutIdeal_StepOutReferenceIdeal [hStepOutIdeal : Cert.StepOutIdeal.Facts] [hStepOutReferenceIdeal : Cert.StepOutReferenceIdeal.Facts] : Prop :=
  ∀ (m : (ℓ : Loc Cert.StepOutIdeal.nD Cert.StepOutIdeal.τ Cert.StepOutIdeal.sig) → Buf (Elt Ideal) ℓ) (g : Dev Cert.StepOutIdeal.nD → PrngReg)
    (m' : (ℓ : Loc Cert.StepOutReferenceIdeal.nD Cert.StepOutReferenceIdeal.τ Cert.StepOutReferenceIdeal.sig) → Buf (Elt Ideal) ℓ) (g' : Dev Cert.StepOutReferenceIdeal.nD → PrngReg), Pre_StepOutIdeal m →
    (∀ c : Dev Cert.StepOutIdeal.nD,
      m' ((c.tc : Thread Cert.StepOutReferenceIdeal.nD Cert.StepOutReferenceIdeal.τ).loc Cert.StepOutReferenceIdeal.main_arg0) = m ((c.tc : Thread Cert.StepOutIdeal.nD Cert.StepOutIdeal.τ).loc Cert.StepOutIdeal.main_arg0)
      ∧ m' ((c.tc : Thread Cert.StepOutReferenceIdeal.nD Cert.StepOutReferenceIdeal.τ).loc Cert.StepOutReferenceIdeal.main_arg1) = m ((c.tc : Thread Cert.StepOutIdeal.nD Cert.StepOutIdeal.τ).loc Cert.StepOutIdeal.main_arg1)
      ∧ m' ((c.tc : Thread Cert.StepOutReferenceIdeal.nD Cert.StepOutReferenceIdeal.τ).loc Cert.StepOutReferenceIdeal.main_arg2) = m ((c.tc : Thread Cert.StepOutIdeal.nD Cert.StepOutIdeal.τ).loc Cert.StepOutIdeal.main_arg2)
      ∧ m' ((c.tc : Thread Cert.StepOutReferenceIdeal.nD Cert.StepOutReferenceIdeal.τ).loc Cert.StepOutReferenceIdeal.main_arg3) = m ((c.tc : Thread Cert.StepOutIdeal.nD Cert.StepOutIdeal.τ).loc Cert.StepOutIdeal.main_arg3)) →
    ∃ (v0 : (c : Dev Cert.StepOutIdeal.nD) → Buf (Elt Ideal) ((c.tc : Thread Cert.StepOutIdeal.nD Cert.StepOutIdeal.τ).loc Cert.StepOutIdeal.main_v0_0)) (v1 : (c : Dev Cert.StepOutIdeal.nD) → Buf (Elt Ideal) ((c.tc : Thread Cert.StepOutIdeal.nD Cert.StepOutIdeal.τ).loc Cert.StepOutIdeal.main_v0_1)) (v2 : (c : Dev Cert.StepOutIdeal.nD) → Buf (Elt Ideal) ((c.tc : Thread Cert.StepOutIdeal.nD Cert.StepOutIdeal.τ).loc Cert.StepOutIdeal.main_v0_2)) (v3 : (c : Dev Cert.StepOutIdeal.nD) → Buf (Elt Ideal) ((c.tc : Thread Cert.StepOutIdeal.nD Cert.StepOutIdeal.τ).loc Cert.StepOutIdeal.main_v0_3)),
      θ_run (Cert.StepOutIdeal.defs (F := Ideal)) (onTc (τ := Cert.StepOutIdeal.τ) (Cert.StepOutIdeal.main (F := Ideal))) ⟨m, fun _ => 0, g⟩ (fun r => ∀ c : Dev Cert.StepOutIdeal.nD,
          r.2.mem ((c.tc : Thread Cert.StepOutIdeal.nD Cert.StepOutIdeal.τ).loc Cert.StepOutIdeal.main_v0_0) = v0 c
          ∧ r.2.mem ((c.tc : Thread Cert.StepOutIdeal.nD Cert.StepOutIdeal.τ).loc Cert.StepOutIdeal.main_v0_1) = v1 c
          ∧ r.2.mem ((c.tc : Thread Cert.StepOutIdeal.nD Cert.StepOutIdeal.τ).loc Cert.StepOutIdeal.main_v0_2) = v2 c
          ∧ r.2.mem ((c.tc : Thread Cert.StepOutIdeal.nD Cert.StepOutIdeal.τ).loc Cert.StepOutIdeal.main_v0_3) = v3 c
          ∧ r.2.mem ((c.tc : Thread Cert.StepOutIdeal.nD Cert.StepOutIdeal.τ).loc Cert.StepOutIdeal.main_arg0) = m ((c.tc : Thread Cert.StepOutIdeal.nD Cert.StepOutIdeal.τ).loc Cert.StepOutIdeal.main_arg0)
          ∧ r.2.mem ((c.tc : Thread Cert.StepOutIdeal.nD Cert.StepOutIdeal.τ).loc Cert.StepOutIdeal.main_arg1) = m ((c.tc : Thread Cert.StepOutIdeal.nD Cert.StepOutIdeal.τ).loc Cert.StepOutIdeal.main_arg1)
          ∧ r.2.mem ((c.tc : Thread Cert.StepOutIdeal.nD Cert.StepOutIdeal.τ).loc Cert.StepOutIdeal.main_arg2) = m ((c.tc : Thread Cert.StepOutIdeal.nD Cert.StepOutIdeal.τ).loc Cert.StepOutIdeal.main_arg2)
          ∧ r.2.mem ((c.tc : Thread Cert.StepOutIdeal.nD Cert.StepOutIdeal.τ).loc Cert.StepOutIdeal.main_arg3) = m ((c.tc : Thread Cert.StepOutIdeal.nD Cert.StepOutIdeal.τ).loc Cert.StepOutIdeal.main_arg3))
      ∧ θ_run (Cert.StepOutReferenceIdeal.defs (F := Ideal)) (onTc (τ := Cert.StepOutReferenceIdeal.τ) (Cert.StepOutReferenceIdeal.main (F := Ideal))) ⟨m', fun _ => 0, g'⟩ (fun r => ∀ c : Dev Cert.StepOutReferenceIdeal.nD,
          r.2.mem ((c.tc : Thread Cert.StepOutReferenceIdeal.nD Cert.StepOutReferenceIdeal.τ).loc Cert.StepOutReferenceIdeal.main_v1) = v0 c
          ∧ r.2.mem ((c.tc : Thread Cert.StepOutReferenceIdeal.nD Cert.StepOutReferenceIdeal.τ).loc Cert.StepOutReferenceIdeal.main_v25) = v1 c
          ∧ r.2.mem ((c.tc : Thread Cert.StepOutReferenceIdeal.nD Cert.StepOutReferenceIdeal.τ).loc Cert.StepOutReferenceIdeal.main_v6) = v2 c
          ∧ r.2.mem ((c.tc : Thread Cert.StepOutReferenceIdeal.nD Cert.StepOutReferenceIdeal.τ).loc Cert.StepOutReferenceIdeal.main_v12) = v3 c
          ∧ r.2.mem ((c.tc : Thread Cert.StepOutReferenceIdeal.nD Cert.StepOutReferenceIdeal.τ).loc Cert.StepOutReferenceIdeal.main_arg0) = m' ((c.tc : Thread Cert.StepOutReferenceIdeal.nD Cert.StepOutReferenceIdeal.τ).loc Cert.StepOutReferenceIdeal.main_arg0)
          ∧ r.2.mem ((c.tc : Thread Cert.StepOutReferenceIdeal.nD Cert.StepOutReferenceIdeal.τ).loc Cert.StepOutReferenceIdeal.main_arg1) = m' ((c.tc : Thread Cert.StepOutReferenceIdeal.nD Cert.StepOutReferenceIdeal.τ).loc Cert.StepOutReferenceIdeal.main_arg1)
          ∧ r.2.mem ((c.tc : Thread Cert.StepOutReferenceIdeal.nD Cert.StepOutReferenceIdeal.τ).loc Cert.StepOutReferenceIdeal.main_arg2) = m' ((c.tc : Thread Cert.StepOutReferenceIdeal.nD Cert.StepOutReferenceIdeal.τ).loc Cert.StepOutReferenceIdeal.main_arg2)
          ∧ r.2.mem ((c.tc : Thread Cert.StepOutReferenceIdeal.nD Cert.StepOutReferenceIdeal.τ).loc Cert.StepOutReferenceIdeal.main_arg3) = m' ((c.tc : Thread Cert.StepOutReferenceIdeal.nD Cert.StepOutReferenceIdeal.τ).loc Cert.StepOutReferenceIdeal.main_arg3))

def preserves_StepUp_StepUpIdeal : Prop :=
  True

def algebraic_StepUpIdeal_StepUpReferenceIdeal [hStepUpIdeal : Cert.StepUpIdeal.Facts] [hStepUpReferenceIdeal : Cert.StepUpReferenceIdeal.Facts] : Prop :=
  ∀ (m : (ℓ : Loc Cert.StepUpIdeal.nD Cert.StepUpIdeal.τ Cert.StepUpIdeal.sig) → Buf (Elt Ideal) ℓ) (g : Dev Cert.StepUpIdeal.nD → PrngReg)
    (m' : (ℓ : Loc Cert.StepUpReferenceIdeal.nD Cert.StepUpReferenceIdeal.τ Cert.StepUpReferenceIdeal.sig) → Buf (Elt Ideal) ℓ) (g' : Dev Cert.StepUpReferenceIdeal.nD → PrngReg), Pre_StepUpIdeal m →
    (∀ c : Dev Cert.StepUpIdeal.nD,
      m' ((c.tc : Thread Cert.StepUpReferenceIdeal.nD Cert.StepUpReferenceIdeal.τ).loc Cert.StepUpReferenceIdeal.main_arg0) = m ((c.tc : Thread Cert.StepUpIdeal.nD Cert.StepUpIdeal.τ).loc Cert.StepUpIdeal.main_arg0)
      ∧ m' ((c.tc : Thread Cert.StepUpReferenceIdeal.nD Cert.StepUpReferenceIdeal.τ).loc Cert.StepUpReferenceIdeal.main_arg1) = m ((c.tc : Thread Cert.StepUpIdeal.nD Cert.StepUpIdeal.τ).loc Cert.StepUpIdeal.main_arg1)
      ∧ m' ((c.tc : Thread Cert.StepUpReferenceIdeal.nD Cert.StepUpReferenceIdeal.τ).loc Cert.StepUpReferenceIdeal.main_arg2) = m ((c.tc : Thread Cert.StepUpIdeal.nD Cert.StepUpIdeal.τ).loc Cert.StepUpIdeal.main_arg2)
      ∧ m' ((c.tc : Thread Cert.StepUpReferenceIdeal.nD Cert.StepUpReferenceIdeal.τ).loc Cert.StepUpReferenceIdeal.main_arg3) = m ((c.tc : Thread Cert.StepUpIdeal.nD Cert.StepUpIdeal.τ).loc Cert.StepUpIdeal.main_arg3)) →
    ∃ (v0 : (c : Dev Cert.StepUpIdeal.nD) → Buf (Elt Ideal) ((c.tc : Thread Cert.StepUpIdeal.nD Cert.StepUpIdeal.τ).loc Cert.StepUpIdeal.main_v0_0)) (v1 : (c : Dev Cert.StepUpIdeal.nD) → Buf (Elt Ideal) ((c.tc : Thread Cert.StepUpIdeal.nD Cert.StepUpIdeal.τ).loc Cert.StepUpIdeal.main_v0_1)) (v2 : (c : Dev Cert.StepUpIdeal.nD) → Buf (Elt Ideal) ((c.tc : Thread Cert.StepUpIdeal.nD Cert.StepUpIdeal.τ).loc Cert.StepUpIdeal.main_v0_2)) (v3 : (c : Dev Cert.StepUpIdeal.nD) → Buf (Elt Ideal) ((c.tc : Thread Cert.StepUpIdeal.nD Cert.StepUpIdeal.τ).loc Cert.StepUpIdeal.main_v0_3)),
      θ_run (Cert.StepUpIdeal.defs (F := Ideal)) (onTc (τ := Cert.StepUpIdeal.τ) (Cert.StepUpIdeal.main (F := Ideal))) ⟨m, fun _ => 0, g⟩ (fun r => ∀ c : Dev Cert.StepUpIdeal.nD,
          r.2.mem ((c.tc : Thread Cert.StepUpIdeal.nD Cert.StepUpIdeal.τ).loc Cert.StepUpIdeal.main_v0_0) = v0 c
          ∧ r.2.mem ((c.tc : Thread Cert.StepUpIdeal.nD Cert.StepUpIdeal.τ).loc Cert.StepUpIdeal.main_v0_1) = v1 c
          ∧ r.2.mem ((c.tc : Thread Cert.StepUpIdeal.nD Cert.StepUpIdeal.τ).loc Cert.StepUpIdeal.main_v0_2) = v2 c
          ∧ r.2.mem ((c.tc : Thread Cert.StepUpIdeal.nD Cert.StepUpIdeal.τ).loc Cert.StepUpIdeal.main_v0_3) = v3 c
          ∧ r.2.mem ((c.tc : Thread Cert.StepUpIdeal.nD Cert.StepUpIdeal.τ).loc Cert.StepUpIdeal.main_arg0) = m ((c.tc : Thread Cert.StepUpIdeal.nD Cert.StepUpIdeal.τ).loc Cert.StepUpIdeal.main_arg0)
          ∧ r.2.mem ((c.tc : Thread Cert.StepUpIdeal.nD Cert.StepUpIdeal.τ).loc Cert.StepUpIdeal.main_arg1) = m ((c.tc : Thread Cert.StepUpIdeal.nD Cert.StepUpIdeal.τ).loc Cert.StepUpIdeal.main_arg1)
          ∧ r.2.mem ((c.tc : Thread Cert.StepUpIdeal.nD Cert.StepUpIdeal.τ).loc Cert.StepUpIdeal.main_arg2) = m ((c.tc : Thread Cert.StepUpIdeal.nD Cert.StepUpIdeal.τ).loc Cert.StepUpIdeal.main_arg2)
          ∧ r.2.mem ((c.tc : Thread Cert.StepUpIdeal.nD Cert.StepUpIdeal.τ).loc Cert.StepUpIdeal.main_arg3) = m ((c.tc : Thread Cert.StepUpIdeal.nD Cert.StepUpIdeal.τ).loc Cert.StepUpIdeal.main_arg3))
      ∧ θ_run (Cert.StepUpReferenceIdeal.defs (F := Ideal)) (onTc (τ := Cert.StepUpReferenceIdeal.τ) (Cert.StepUpReferenceIdeal.main (F := Ideal))) ⟨m', fun _ => 0, g'⟩ (fun r => ∀ c : Dev Cert.StepUpReferenceIdeal.nD,
          r.2.mem ((c.tc : Thread Cert.StepUpReferenceIdeal.nD Cert.StepUpReferenceIdeal.τ).loc Cert.StepUpReferenceIdeal.main_v1) = v0 c
          ∧ r.2.mem ((c.tc : Thread Cert.StepUpReferenceIdeal.nD Cert.StepUpReferenceIdeal.τ).loc Cert.StepUpReferenceIdeal.main_v25) = v1 c
          ∧ r.2.mem ((c.tc : Thread Cert.StepUpReferenceIdeal.nD Cert.StepUpReferenceIdeal.τ).loc Cert.StepUpReferenceIdeal.main_v6) = v2 c
          ∧ r.2.mem ((c.tc : Thread Cert.StepUpReferenceIdeal.nD Cert.StepUpReferenceIdeal.τ).loc Cert.StepUpReferenceIdeal.main_v12) = v3 c
          ∧ r.2.mem ((c.tc : Thread Cert.StepUpReferenceIdeal.nD Cert.StepUpReferenceIdeal.τ).loc Cert.StepUpReferenceIdeal.main_arg0) = m' ((c.tc : Thread Cert.StepUpReferenceIdeal.nD Cert.StepUpReferenceIdeal.τ).loc Cert.StepUpReferenceIdeal.main_arg0)
          ∧ r.2.mem ((c.tc : Thread Cert.StepUpReferenceIdeal.nD Cert.StepUpReferenceIdeal.τ).loc Cert.StepUpReferenceIdeal.main_arg1) = m' ((c.tc : Thread Cert.StepUpReferenceIdeal.nD Cert.StepUpReferenceIdeal.τ).loc Cert.StepUpReferenceIdeal.main_arg1)
          ∧ r.2.mem ((c.tc : Thread Cert.StepUpReferenceIdeal.nD Cert.StepUpReferenceIdeal.τ).loc Cert.StepUpReferenceIdeal.main_arg2) = m' ((c.tc : Thread Cert.StepUpReferenceIdeal.nD Cert.StepUpReferenceIdeal.τ).loc Cert.StepUpReferenceIdeal.main_arg2)
          ∧ r.2.mem ((c.tc : Thread Cert.StepUpReferenceIdeal.nD Cert.StepUpReferenceIdeal.τ).loc Cert.StepUpReferenceIdeal.main_arg3) = m' ((c.tc : Thread Cert.StepUpReferenceIdeal.nD Cert.StepUpReferenceIdeal.τ).loc Cert.StepUpReferenceIdeal.main_arg3))

def preserves_StepDown_StepDownIdeal : Prop :=
  True

def algebraic_StepDownIdeal_StepDownReferenceIdeal [hStepDownIdeal : Cert.StepDownIdeal.Facts] [hStepDownReferenceIdeal : Cert.StepDownReferenceIdeal.Facts] : Prop :=
  ∀ (m : (ℓ : Loc Cert.StepDownIdeal.nD Cert.StepDownIdeal.τ Cert.StepDownIdeal.sig) → Buf (Elt Ideal) ℓ) (g : Dev Cert.StepDownIdeal.nD → PrngReg)
    (m' : (ℓ : Loc Cert.StepDownReferenceIdeal.nD Cert.StepDownReferenceIdeal.τ Cert.StepDownReferenceIdeal.sig) → Buf (Elt Ideal) ℓ) (g' : Dev Cert.StepDownReferenceIdeal.nD → PrngReg), Pre_StepDownIdeal m →
    (∀ c : Dev Cert.StepDownIdeal.nD,
      m' ((c.tc : Thread Cert.StepDownReferenceIdeal.nD Cert.StepDownReferenceIdeal.τ).loc Cert.StepDownReferenceIdeal.main_arg0) = m ((c.tc : Thread Cert.StepDownIdeal.nD Cert.StepDownIdeal.τ).loc Cert.StepDownIdeal.main_arg0)
      ∧ m' ((c.tc : Thread Cert.StepDownReferenceIdeal.nD Cert.StepDownReferenceIdeal.τ).loc Cert.StepDownReferenceIdeal.main_arg1) = m ((c.tc : Thread Cert.StepDownIdeal.nD Cert.StepDownIdeal.τ).loc Cert.StepDownIdeal.main_arg1)
      ∧ m' ((c.tc : Thread Cert.StepDownReferenceIdeal.nD Cert.StepDownReferenceIdeal.τ).loc Cert.StepDownReferenceIdeal.main_arg2) = m ((c.tc : Thread Cert.StepDownIdeal.nD Cert.StepDownIdeal.τ).loc Cert.StepDownIdeal.main_arg2)
      ∧ m' ((c.tc : Thread Cert.StepDownReferenceIdeal.nD Cert.StepDownReferenceIdeal.τ).loc Cert.StepDownReferenceIdeal.main_arg3) = m ((c.tc : Thread Cert.StepDownIdeal.nD Cert.StepDownIdeal.τ).loc Cert.StepDownIdeal.main_arg3)) →
    ∃ (v0 : (c : Dev Cert.StepDownIdeal.nD) → Buf (Elt Ideal) ((c.tc : Thread Cert.StepDownIdeal.nD Cert.StepDownIdeal.τ).loc Cert.StepDownIdeal.main_v0_0)) (v1 : (c : Dev Cert.StepDownIdeal.nD) → Buf (Elt Ideal) ((c.tc : Thread Cert.StepDownIdeal.nD Cert.StepDownIdeal.τ).loc Cert.StepDownIdeal.main_v0_1)) (v2 : (c : Dev Cert.StepDownIdeal.nD) → Buf (Elt Ideal) ((c.tc : Thread Cert.StepDownIdeal.nD Cert.StepDownIdeal.τ).loc Cert.StepDownIdeal.main_v0_2)) (v3 : (c : Dev Cert.StepDownIdeal.nD) → Buf (Elt Ideal) ((c.tc : Thread Cert.StepDownIdeal.nD Cert.StepDownIdeal.τ).loc Cert.StepDownIdeal.main_v0_3)),
      θ_run (Cert.StepDownIdeal.defs (F := Ideal)) (onTc (τ := Cert.StepDownIdeal.τ) (Cert.StepDownIdeal.main (F := Ideal))) ⟨m, fun _ => 0, g⟩ (fun r => ∀ c : Dev Cert.StepDownIdeal.nD,
          r.2.mem ((c.tc : Thread Cert.StepDownIdeal.nD Cert.StepDownIdeal.τ).loc Cert.StepDownIdeal.main_v0_0) = v0 c
          ∧ r.2.mem ((c.tc : Thread Cert.StepDownIdeal.nD Cert.StepDownIdeal.τ).loc Cert.StepDownIdeal.main_v0_1) = v1 c
          ∧ r.2.mem ((c.tc : Thread Cert.StepDownIdeal.nD Cert.StepDownIdeal.τ).loc Cert.StepDownIdeal.main_v0_2) = v2 c
          ∧ r.2.mem ((c.tc : Thread Cert.StepDownIdeal.nD Cert.StepDownIdeal.τ).loc Cert.StepDownIdeal.main_v0_3) = v3 c
          ∧ r.2.mem ((c.tc : Thread Cert.StepDownIdeal.nD Cert.StepDownIdeal.τ).loc Cert.StepDownIdeal.main_arg0) = m ((c.tc : Thread Cert.StepDownIdeal.nD Cert.StepDownIdeal.τ).loc Cert.StepDownIdeal.main_arg0)
          ∧ r.2.mem ((c.tc : Thread Cert.StepDownIdeal.nD Cert.StepDownIdeal.τ).loc Cert.StepDownIdeal.main_arg1) = m ((c.tc : Thread Cert.StepDownIdeal.nD Cert.StepDownIdeal.τ).loc Cert.StepDownIdeal.main_arg1)
          ∧ r.2.mem ((c.tc : Thread Cert.StepDownIdeal.nD Cert.StepDownIdeal.τ).loc Cert.StepDownIdeal.main_arg2) = m ((c.tc : Thread Cert.StepDownIdeal.nD Cert.StepDownIdeal.τ).loc Cert.StepDownIdeal.main_arg2)
          ∧ r.2.mem ((c.tc : Thread Cert.StepDownIdeal.nD Cert.StepDownIdeal.τ).loc Cert.StepDownIdeal.main_arg3) = m ((c.tc : Thread Cert.StepDownIdeal.nD Cert.StepDownIdeal.τ).loc Cert.StepDownIdeal.main_arg3))
      ∧ θ_run (Cert.StepDownReferenceIdeal.defs (F := Ideal)) (onTc (τ := Cert.StepDownReferenceIdeal.τ) (Cert.StepDownReferenceIdeal.main (F := Ideal))) ⟨m', fun _ => 0, g'⟩ (fun r => ∀ c : Dev Cert.StepDownReferenceIdeal.nD,
          r.2.mem ((c.tc : Thread Cert.StepDownReferenceIdeal.nD Cert.StepDownReferenceIdeal.τ).loc Cert.StepDownReferenceIdeal.main_v1) = v0 c
          ∧ r.2.mem ((c.tc : Thread Cert.StepDownReferenceIdeal.nD Cert.StepDownReferenceIdeal.τ).loc Cert.StepDownReferenceIdeal.main_v25) = v1 c
          ∧ r.2.mem ((c.tc : Thread Cert.StepDownReferenceIdeal.nD Cert.StepDownReferenceIdeal.τ).loc Cert.StepDownReferenceIdeal.main_v6) = v2 c
          ∧ r.2.mem ((c.tc : Thread Cert.StepDownReferenceIdeal.nD Cert.StepDownReferenceIdeal.τ).loc Cert.StepDownReferenceIdeal.main_v12) = v3 c
          ∧ r.2.mem ((c.tc : Thread Cert.StepDownReferenceIdeal.nD Cert.StepDownReferenceIdeal.τ).loc Cert.StepDownReferenceIdeal.main_arg0) = m' ((c.tc : Thread Cert.StepDownReferenceIdeal.nD Cert.StepDownReferenceIdeal.τ).loc Cert.StepDownReferenceIdeal.main_arg0)
          ∧ r.2.mem ((c.tc : Thread Cert.StepDownReferenceIdeal.nD Cert.StepDownReferenceIdeal.τ).loc Cert.StepDownReferenceIdeal.main_arg1) = m' ((c.tc : Thread Cert.StepDownReferenceIdeal.nD Cert.StepDownReferenceIdeal.τ).loc Cert.StepDownReferenceIdeal.main_arg1)
          ∧ r.2.mem ((c.tc : Thread Cert.StepDownReferenceIdeal.nD Cert.StepDownReferenceIdeal.τ).loc Cert.StepDownReferenceIdeal.main_arg2) = m' ((c.tc : Thread Cert.StepDownReferenceIdeal.nD Cert.StepDownReferenceIdeal.τ).loc Cert.StepDownReferenceIdeal.main_arg2)
          ∧ r.2.mem ((c.tc : Thread Cert.StepDownReferenceIdeal.nD Cert.StepDownReferenceIdeal.τ).loc Cert.StepDownReferenceIdeal.main_arg3) = m' ((c.tc : Thread Cert.StepDownReferenceIdeal.nD Cert.StepDownReferenceIdeal.τ).loc Cert.StepDownReferenceIdeal.main_arg3))

def preserves_StepAda_StepAdaIdeal : Prop :=
  True

def algebraic_StepAdaIdeal_StepAdaReferenceIdeal [hStepAdaIdeal : Cert.StepAdaIdeal.Facts] [hStepAdaReferenceIdeal : Cert.StepAdaReferenceIdeal.Facts] : Prop :=
  ∀ (m : (ℓ : Loc Cert.StepAdaIdeal.nD Cert.StepAdaIdeal.τ Cert.StepAdaIdeal.sig) → Buf (Elt Ideal) ℓ) (g : Dev Cert.StepAdaIdeal.nD → PrngReg)
    (m' : (ℓ : Loc Cert.StepAdaReferenceIdeal.nD Cert.StepAdaReferenceIdeal.τ Cert.StepAdaReferenceIdeal.sig) → Buf (Elt Ideal) ℓ) (g' : Dev Cert.StepAdaReferenceIdeal.nD → PrngReg), Pre_StepAdaIdeal m →
    (∀ c : Dev Cert.StepAdaIdeal.nD,
      m' ((c.tc : Thread Cert.StepAdaReferenceIdeal.nD Cert.StepAdaReferenceIdeal.τ).loc Cert.StepAdaReferenceIdeal.main_arg0) = m ((c.tc : Thread Cert.StepAdaIdeal.nD Cert.StepAdaIdeal.τ).loc Cert.StepAdaIdeal.main_arg0)
      ∧ m' ((c.tc : Thread Cert.StepAdaReferenceIdeal.nD Cert.StepAdaReferenceIdeal.τ).loc Cert.StepAdaReferenceIdeal.main_arg1) = m ((c.tc : Thread Cert.StepAdaIdeal.nD Cert.StepAdaIdeal.τ).loc Cert.StepAdaIdeal.main_arg1)
      ∧ m' ((c.tc : Thread Cert.StepAdaReferenceIdeal.nD Cert.StepAdaReferenceIdeal.τ).loc Cert.StepAdaReferenceIdeal.main_arg2) = m ((c.tc : Thread Cert.StepAdaIdeal.nD Cert.StepAdaIdeal.τ).loc Cert.StepAdaIdeal.main_arg2)
      ∧ m' ((c.tc : Thread Cert.StepAdaReferenceIdeal.nD Cert.StepAdaReferenceIdeal.τ).loc Cert.StepAdaReferenceIdeal.main_arg3) = m ((c.tc : Thread Cert.StepAdaIdeal.nD Cert.StepAdaIdeal.τ).loc Cert.StepAdaIdeal.main_arg3)) →
    ∃ (v0 : (c : Dev Cert.StepAdaIdeal.nD) → Buf (Elt Ideal) ((c.tc : Thread Cert.StepAdaIdeal.nD Cert.StepAdaIdeal.τ).loc Cert.StepAdaIdeal.main_v0_0)) (v1 : (c : Dev Cert.StepAdaIdeal.nD) → Buf (Elt Ideal) ((c.tc : Thread Cert.StepAdaIdeal.nD Cert.StepAdaIdeal.τ).loc Cert.StepAdaIdeal.main_v0_1)) (v2 : (c : Dev Cert.StepAdaIdeal.nD) → Buf (Elt Ideal) ((c.tc : Thread Cert.StepAdaIdeal.nD Cert.StepAdaIdeal.τ).loc Cert.StepAdaIdeal.main_v0_2)) (v3 : (c : Dev Cert.StepAdaIdeal.nD) → Buf (Elt Ideal) ((c.tc : Thread Cert.StepAdaIdeal.nD Cert.StepAdaIdeal.τ).loc Cert.StepAdaIdeal.main_v0_3)),
      θ_run (Cert.StepAdaIdeal.defs (F := Ideal)) (onTc (τ := Cert.StepAdaIdeal.τ) (Cert.StepAdaIdeal.main (F := Ideal))) ⟨m, fun _ => 0, g⟩ (fun r => ∀ c : Dev Cert.StepAdaIdeal.nD,
          r.2.mem ((c.tc : Thread Cert.StepAdaIdeal.nD Cert.StepAdaIdeal.τ).loc Cert.StepAdaIdeal.main_v0_0) = v0 c
          ∧ r.2.mem ((c.tc : Thread Cert.StepAdaIdeal.nD Cert.StepAdaIdeal.τ).loc Cert.StepAdaIdeal.main_v0_1) = v1 c
          ∧ r.2.mem ((c.tc : Thread Cert.StepAdaIdeal.nD Cert.StepAdaIdeal.τ).loc Cert.StepAdaIdeal.main_v0_2) = v2 c
          ∧ r.2.mem ((c.tc : Thread Cert.StepAdaIdeal.nD Cert.StepAdaIdeal.τ).loc Cert.StepAdaIdeal.main_v0_3) = v3 c
          ∧ r.2.mem ((c.tc : Thread Cert.StepAdaIdeal.nD Cert.StepAdaIdeal.τ).loc Cert.StepAdaIdeal.main_arg0) = m ((c.tc : Thread Cert.StepAdaIdeal.nD Cert.StepAdaIdeal.τ).loc Cert.StepAdaIdeal.main_arg0)
          ∧ r.2.mem ((c.tc : Thread Cert.StepAdaIdeal.nD Cert.StepAdaIdeal.τ).loc Cert.StepAdaIdeal.main_arg1) = m ((c.tc : Thread Cert.StepAdaIdeal.nD Cert.StepAdaIdeal.τ).loc Cert.StepAdaIdeal.main_arg1)
          ∧ r.2.mem ((c.tc : Thread Cert.StepAdaIdeal.nD Cert.StepAdaIdeal.τ).loc Cert.StepAdaIdeal.main_arg2) = m ((c.tc : Thread Cert.StepAdaIdeal.nD Cert.StepAdaIdeal.τ).loc Cert.StepAdaIdeal.main_arg2)
          ∧ r.2.mem ((c.tc : Thread Cert.StepAdaIdeal.nD Cert.StepAdaIdeal.τ).loc Cert.StepAdaIdeal.main_arg3) = m ((c.tc : Thread Cert.StepAdaIdeal.nD Cert.StepAdaIdeal.τ).loc Cert.StepAdaIdeal.main_arg3))
      ∧ θ_run (Cert.StepAdaReferenceIdeal.defs (F := Ideal)) (onTc (τ := Cert.StepAdaReferenceIdeal.τ) (Cert.StepAdaReferenceIdeal.main (F := Ideal))) ⟨m', fun _ => 0, g'⟩ (fun r => ∀ c : Dev Cert.StepAdaReferenceIdeal.nD,
          r.2.mem ((c.tc : Thread Cert.StepAdaReferenceIdeal.nD Cert.StepAdaReferenceIdeal.τ).loc Cert.StepAdaReferenceIdeal.main_v0) = v0 c
          ∧ r.2.mem ((c.tc : Thread Cert.StepAdaReferenceIdeal.nD Cert.StepAdaReferenceIdeal.τ).loc Cert.StepAdaReferenceIdeal.main_v24) = v1 c
          ∧ r.2.mem ((c.tc : Thread Cert.StepAdaReferenceIdeal.nD Cert.StepAdaReferenceIdeal.τ).loc Cert.StepAdaReferenceIdeal.main_v5) = v2 c
          ∧ r.2.mem ((c.tc : Thread Cert.StepAdaReferenceIdeal.nD Cert.StepAdaReferenceIdeal.τ).loc Cert.StepAdaReferenceIdeal.main_v11) = v3 c
          ∧ r.2.mem ((c.tc : Thread Cert.StepAdaReferenceIdeal.nD Cert.StepAdaReferenceIdeal.τ).loc Cert.StepAdaReferenceIdeal.main_arg0) = m' ((c.tc : Thread Cert.StepAdaReferenceIdeal.nD Cert.StepAdaReferenceIdeal.τ).loc Cert.StepAdaReferenceIdeal.main_arg0)
          ∧ r.2.mem ((c.tc : Thread Cert.StepAdaReferenceIdeal.nD Cert.StepAdaReferenceIdeal.τ).loc Cert.StepAdaReferenceIdeal.main_arg1) = m' ((c.tc : Thread Cert.StepAdaReferenceIdeal.nD Cert.StepAdaReferenceIdeal.τ).loc Cert.StepAdaReferenceIdeal.main_arg1)
          ∧ r.2.mem ((c.tc : Thread Cert.StepAdaReferenceIdeal.nD Cert.StepAdaReferenceIdeal.τ).loc Cert.StepAdaReferenceIdeal.main_arg2) = m' ((c.tc : Thread Cert.StepAdaReferenceIdeal.nD Cert.StepAdaReferenceIdeal.τ).loc Cert.StepAdaReferenceIdeal.main_arg2)
          ∧ r.2.mem ((c.tc : Thread Cert.StepAdaReferenceIdeal.nD Cert.StepAdaReferenceIdeal.τ).loc Cert.StepAdaReferenceIdeal.main_arg3) = m' ((c.tc : Thread Cert.StepAdaReferenceIdeal.nD Cert.StepAdaReferenceIdeal.τ).loc Cert.StepAdaReferenceIdeal.main_arg3))

def preserves_StepSmall_StepSmallIdeal : Prop :=
  True

def algebraic_StepSmallIdeal_StepSmallReferenceIdeal [hStepSmallIdeal : Cert.StepSmallIdeal.Facts] [hStepSmallReferenceIdeal : Cert.StepSmallReferenceIdeal.Facts] : Prop :=
  ∀ (m : (ℓ : Loc Cert.StepSmallIdeal.nD Cert.StepSmallIdeal.τ Cert.StepSmallIdeal.sig) → Buf (Elt Ideal) ℓ) (g : Dev Cert.StepSmallIdeal.nD → PrngReg)
    (m' : (ℓ : Loc Cert.StepSmallReferenceIdeal.nD Cert.StepSmallReferenceIdeal.τ Cert.StepSmallReferenceIdeal.sig) → Buf (Elt Ideal) ℓ) (g' : Dev Cert.StepSmallReferenceIdeal.nD → PrngReg), Pre_StepSmallIdeal m →
    (∀ c : Dev Cert.StepSmallIdeal.nD,
      m' ((c.tc : Thread Cert.StepSmallReferenceIdeal.nD Cert.StepSmallReferenceIdeal.τ).loc Cert.StepSmallReferenceIdeal.main_arg0) = m ((c.tc : Thread Cert.StepSmallIdeal.nD Cert.StepSmallIdeal.τ).loc Cert.StepSmallIdeal.main_arg0)
      ∧ m' ((c.tc : Thread Cert.StepSmallReferenceIdeal.nD Cert.StepSmallReferenceIdeal.τ).loc Cert.StepSmallReferenceIdeal.main_arg1) = m ((c.tc : Thread Cert.StepSmallIdeal.nD Cert.StepSmallIdeal.τ).loc Cert.StepSmallIdeal.main_arg1)
      ∧ m' ((c.tc : Thread Cert.StepSmallReferenceIdeal.nD Cert.StepSmallReferenceIdeal.τ).loc Cert.StepSmallReferenceIdeal.main_arg2) = m ((c.tc : Thread Cert.StepSmallIdeal.nD Cert.StepSmallIdeal.τ).loc Cert.StepSmallIdeal.main_arg2)
      ∧ m' ((c.tc : Thread Cert.StepSmallReferenceIdeal.nD Cert.StepSmallReferenceIdeal.τ).loc Cert.StepSmallReferenceIdeal.main_arg3) = m ((c.tc : Thread Cert.StepSmallIdeal.nD Cert.StepSmallIdeal.τ).loc Cert.StepSmallIdeal.main_arg3)) →
    ∃ (v0 : (c : Dev Cert.StepSmallIdeal.nD) → Buf (Elt Ideal) ((c.tc : Thread Cert.StepSmallIdeal.nD Cert.StepSmallIdeal.τ).loc Cert.StepSmallIdeal.main_v0_0)) (v1 : (c : Dev Cert.StepSmallIdeal.nD) → Buf (Elt Ideal) ((c.tc : Thread Cert.StepSmallIdeal.nD Cert.StepSmallIdeal.τ).loc Cert.StepSmallIdeal.main_v0_1)) (v2 : (c : Dev Cert.StepSmallIdeal.nD) → Buf (Elt Ideal) ((c.tc : Thread Cert.StepSmallIdeal.nD Cert.StepSmallIdeal.τ).loc Cert.StepSmallIdeal.main_v0_2)) (v3 : (c : Dev Cert.StepSmallIdeal.nD) → Buf (Elt Ideal) ((c.tc : Thread Cert.StepSmallIdeal.nD Cert.StepSmallIdeal.τ).loc Cert.StepSmallIdeal.main_v0_3)),
      θ_run (Cert.StepSmallIdeal.defs (F := Ideal)) (onTc (τ := Cert.StepSmallIdeal.τ) (Cert.StepSmallIdeal.main (F := Ideal))) ⟨m, fun _ => 0, g⟩ (fun r => ∀ c : Dev Cert.StepSmallIdeal.nD,
          r.2.mem ((c.tc : Thread Cert.StepSmallIdeal.nD Cert.StepSmallIdeal.τ).loc Cert.StepSmallIdeal.main_v0_0) = v0 c
          ∧ r.2.mem ((c.tc : Thread Cert.StepSmallIdeal.nD Cert.StepSmallIdeal.τ).loc Cert.StepSmallIdeal.main_v0_1) = v1 c
          ∧ r.2.mem ((c.tc : Thread Cert.StepSmallIdeal.nD Cert.StepSmallIdeal.τ).loc Cert.StepSmallIdeal.main_v0_2) = v2 c
          ∧ r.2.mem ((c.tc : Thread Cert.StepSmallIdeal.nD Cert.StepSmallIdeal.τ).loc Cert.StepSmallIdeal.main_v0_3) = v3 c
          ∧ r.2.mem ((c.tc : Thread Cert.StepSmallIdeal.nD Cert.StepSmallIdeal.τ).loc Cert.StepSmallIdeal.main_arg0) = m ((c.tc : Thread Cert.StepSmallIdeal.nD Cert.StepSmallIdeal.τ).loc Cert.StepSmallIdeal.main_arg0)
          ∧ r.2.mem ((c.tc : Thread Cert.StepSmallIdeal.nD Cert.StepSmallIdeal.τ).loc Cert.StepSmallIdeal.main_arg1) = m ((c.tc : Thread Cert.StepSmallIdeal.nD Cert.StepSmallIdeal.τ).loc Cert.StepSmallIdeal.main_arg1)
          ∧ r.2.mem ((c.tc : Thread Cert.StepSmallIdeal.nD Cert.StepSmallIdeal.τ).loc Cert.StepSmallIdeal.main_arg2) = m ((c.tc : Thread Cert.StepSmallIdeal.nD Cert.StepSmallIdeal.τ).loc Cert.StepSmallIdeal.main_arg2)
          ∧ r.2.mem ((c.tc : Thread Cert.StepSmallIdeal.nD Cert.StepSmallIdeal.τ).loc Cert.StepSmallIdeal.main_arg3) = m ((c.tc : Thread Cert.StepSmallIdeal.nD Cert.StepSmallIdeal.τ).loc Cert.StepSmallIdeal.main_arg3))
      ∧ θ_run (Cert.StepSmallReferenceIdeal.defs (F := Ideal)) (onTc (τ := Cert.StepSmallReferenceIdeal.τ) (Cert.StepSmallReferenceIdeal.main (F := Ideal))) ⟨m', fun _ => 0, g'⟩ (fun r => ∀ c : Dev Cert.StepSmallReferenceIdeal.nD,
          r.2.mem ((c.tc : Thread Cert.StepSmallReferenceIdeal.nD Cert.StepSmallReferenceIdeal.τ).loc Cert.StepSmallReferenceIdeal.main_v0) = v0 c
          ∧ r.2.mem ((c.tc : Thread Cert.StepSmallReferenceIdeal.nD Cert.StepSmallReferenceIdeal.τ).loc Cert.StepSmallReferenceIdeal.main_v24) = v1 c
          ∧ r.2.mem ((c.tc : Thread Cert.StepSmallReferenceIdeal.nD Cert.StepSmallReferenceIdeal.τ).loc Cert.StepSmallReferenceIdeal.main_v5) = v2 c
          ∧ r.2.mem ((c.tc : Thread Cert.StepSmallReferenceIdeal.nD Cert.StepSmallReferenceIdeal.τ).loc Cert.StepSmallReferenceIdeal.main_v11) = v3 c
          ∧ r.2.mem ((c.tc : Thread Cert.StepSmallReferenceIdeal.nD Cert.StepSmallReferenceIdeal.τ).loc Cert.StepSmallReferenceIdeal.main_arg0) = m' ((c.tc : Thread Cert.StepSmallReferenceIdeal.nD Cert.StepSmallReferenceIdeal.τ).loc Cert.StepSmallReferenceIdeal.main_arg0)
          ∧ r.2.mem ((c.tc : Thread Cert.StepSmallReferenceIdeal.nD Cert.StepSmallReferenceIdeal.τ).loc Cert.StepSmallReferenceIdeal.main_arg1) = m' ((c.tc : Thread Cert.StepSmallReferenceIdeal.nD Cert.StepSmallReferenceIdeal.τ).loc Cert.StepSmallReferenceIdeal.main_arg1)
          ∧ r.2.mem ((c.tc : Thread Cert.StepSmallReferenceIdeal.nD Cert.StepSmallReferenceIdeal.τ).loc Cert.StepSmallReferenceIdeal.main_arg2) = m' ((c.tc : Thread Cert.StepSmallReferenceIdeal.nD Cert.StepSmallReferenceIdeal.τ).loc Cert.StepSmallReferenceIdeal.main_arg2)
          ∧ r.2.mem ((c.tc : Thread Cert.StepSmallReferenceIdeal.nD Cert.StepSmallReferenceIdeal.τ).loc Cert.StepSmallReferenceIdeal.main_arg3) = m' ((c.tc : Thread Cert.StepSmallReferenceIdeal.nD Cert.StepSmallReferenceIdeal.τ).loc Cert.StepSmallReferenceIdeal.main_arg3))

def preserves_StepConv_StepConvIdeal : Prop :=
  True

def algebraic_StepConvIdeal_StepConvReferenceIdeal [hStepConvIdeal : Cert.StepConvIdeal.Facts] [hStepConvReferenceIdeal : Cert.StepConvReferenceIdeal.Facts] : Prop :=
  ∀ (m : (ℓ : Loc Cert.StepConvIdeal.nD Cert.StepConvIdeal.τ Cert.StepConvIdeal.sig) → Buf (Elt Ideal) ℓ) (g : Dev Cert.StepConvIdeal.nD → PrngReg)
    (m' : (ℓ : Loc Cert.StepConvReferenceIdeal.nD Cert.StepConvReferenceIdeal.τ Cert.StepConvReferenceIdeal.sig) → Buf (Elt Ideal) ℓ) (g' : Dev Cert.StepConvReferenceIdeal.nD → PrngReg), Pre_StepConvIdeal m →
    (∀ c : Dev Cert.StepConvIdeal.nD,
      m' ((c.tc : Thread Cert.StepConvReferenceIdeal.nD Cert.StepConvReferenceIdeal.τ).loc Cert.StepConvReferenceIdeal.main_arg0) = m ((c.tc : Thread Cert.StepConvIdeal.nD Cert.StepConvIdeal.τ).loc Cert.StepConvIdeal.main_arg0)
      ∧ m' ((c.tc : Thread Cert.StepConvReferenceIdeal.nD Cert.StepConvReferenceIdeal.τ).loc Cert.StepConvReferenceIdeal.main_arg1) = m ((c.tc : Thread Cert.StepConvIdeal.nD Cert.StepConvIdeal.τ).loc Cert.StepConvIdeal.main_arg1)
      ∧ m' ((c.tc : Thread Cert.StepConvReferenceIdeal.nD Cert.StepConvReferenceIdeal.τ).loc Cert.StepConvReferenceIdeal.main_arg2) = m ((c.tc : Thread Cert.StepConvIdeal.nD Cert.StepConvIdeal.τ).loc Cert.StepConvIdeal.main_arg2)
      ∧ m' ((c.tc : Thread Cert.StepConvReferenceIdeal.nD Cert.StepConvReferenceIdeal.τ).loc Cert.StepConvReferenceIdeal.main_arg3) = m ((c.tc : Thread Cert.StepConvIdeal.nD Cert.StepConvIdeal.τ).loc Cert.StepConvIdeal.main_arg3)) →
    ∃ (v0 : (c : Dev Cert.StepConvIdeal.nD) → Buf (Elt Ideal) ((c.tc : Thread Cert.StepConvIdeal.nD Cert.StepConvIdeal.τ).loc Cert.StepConvIdeal.main_v0_0)) (v1 : (c : Dev Cert.StepConvIdeal.nD) → Buf (Elt Ideal) ((c.tc : Thread Cert.StepConvIdeal.nD Cert.StepConvIdeal.τ).loc Cert.StepConvIdeal.main_v0_1)) (v2 : (c : Dev Cert.StepConvIdeal.nD) → Buf (Elt Ideal) ((c.tc : Thread Cert.StepConvIdeal.nD Cert.StepConvIdeal.τ).loc Cert.StepConvIdeal.main_v0_2)) (v3 : (c : Dev Cert.StepConvIdeal.nD) → Buf (Elt Ideal) ((c.tc : Thread Cert.StepConvIdeal.nD Cert.StepConvIdeal.τ).loc Cert.StepConvIdeal.main_v0_3)),
      θ_run (Cert.StepConvIdeal.defs (F := Ideal)) (onTc (τ := Cert.StepConvIdeal.τ) (Cert.StepConvIdeal.main (F := Ideal))) ⟨m, fun _ => 0, g⟩ (fun r => ∀ c : Dev Cert.StepConvIdeal.nD,
          r.2.mem ((c.tc : Thread Cert.StepConvIdeal.nD Cert.StepConvIdeal.τ).loc Cert.StepConvIdeal.main_v0_0) = v0 c
          ∧ r.2.mem ((c.tc : Thread Cert.StepConvIdeal.nD Cert.StepConvIdeal.τ).loc Cert.StepConvIdeal.main_v0_1) = v1 c
          ∧ r.2.mem ((c.tc : Thread Cert.StepConvIdeal.nD Cert.StepConvIdeal.τ).loc Cert.StepConvIdeal.main_v0_2) = v2 c
          ∧ r.2.mem ((c.tc : Thread Cert.StepConvIdeal.nD Cert.StepConvIdeal.τ).loc Cert.StepConvIdeal.main_v0_3) = v3 c
          ∧ r.2.mem ((c.tc : Thread Cert.StepConvIdeal.nD Cert.StepConvIdeal.τ).loc Cert.StepConvIdeal.main_arg0) = m ((c.tc : Thread Cert.StepConvIdeal.nD Cert.StepConvIdeal.τ).loc Cert.StepConvIdeal.main_arg0)
          ∧ r.2.mem ((c.tc : Thread Cert.StepConvIdeal.nD Cert.StepConvIdeal.τ).loc Cert.StepConvIdeal.main_arg1) = m ((c.tc : Thread Cert.StepConvIdeal.nD Cert.StepConvIdeal.τ).loc Cert.StepConvIdeal.main_arg1)
          ∧ r.2.mem ((c.tc : Thread Cert.StepConvIdeal.nD Cert.StepConvIdeal.τ).loc Cert.StepConvIdeal.main_arg2) = m ((c.tc : Thread Cert.StepConvIdeal.nD Cert.StepConvIdeal.τ).loc Cert.StepConvIdeal.main_arg2)
          ∧ r.2.mem ((c.tc : Thread Cert.StepConvIdeal.nD Cert.StepConvIdeal.τ).loc Cert.StepConvIdeal.main_arg3) = m ((c.tc : Thread Cert.StepConvIdeal.nD Cert.StepConvIdeal.τ).loc Cert.StepConvIdeal.main_arg3))
      ∧ θ_run (Cert.StepConvReferenceIdeal.defs (F := Ideal)) (onTc (τ := Cert.StepConvReferenceIdeal.τ) (Cert.StepConvReferenceIdeal.main (F := Ideal))) ⟨m', fun _ => 0, g'⟩ (fun r => ∀ c : Dev Cert.StepConvReferenceIdeal.nD,
          r.2.mem ((c.tc : Thread Cert.StepConvReferenceIdeal.nD Cert.StepConvReferenceIdeal.τ).loc Cert.StepConvReferenceIdeal.main_v0) = v0 c
          ∧ r.2.mem ((c.tc : Thread Cert.StepConvReferenceIdeal.nD Cert.StepConvReferenceIdeal.τ).loc Cert.StepConvReferenceIdeal.main_v24) = v1 c
          ∧ r.2.mem ((c.tc : Thread Cert.StepConvReferenceIdeal.nD Cert.StepConvReferenceIdeal.τ).loc Cert.StepConvReferenceIdeal.main_v5) = v2 c
          ∧ r.2.mem ((c.tc : Thread Cert.StepConvReferenceIdeal.nD Cert.StepConvReferenceIdeal.τ).loc Cert.StepConvReferenceIdeal.main_v11) = v3 c
          ∧ r.2.mem ((c.tc : Thread Cert.StepConvReferenceIdeal.nD Cert.StepConvReferenceIdeal.τ).loc Cert.StepConvReferenceIdeal.main_arg0) = m' ((c.tc : Thread Cert.StepConvReferenceIdeal.nD Cert.StepConvReferenceIdeal.τ).loc Cert.StepConvReferenceIdeal.main_arg0)
          ∧ r.2.mem ((c.tc : Thread Cert.StepConvReferenceIdeal.nD Cert.StepConvReferenceIdeal.τ).loc Cert.StepConvReferenceIdeal.main_arg1) = m' ((c.tc : Thread Cert.StepConvReferenceIdeal.nD Cert.StepConvReferenceIdeal.τ).loc Cert.StepConvReferenceIdeal.main_arg1)
          ∧ r.2.mem ((c.tc : Thread Cert.StepConvReferenceIdeal.nD Cert.StepConvReferenceIdeal.τ).loc Cert.StepConvReferenceIdeal.main_arg2) = m' ((c.tc : Thread Cert.StepConvReferenceIdeal.nD Cert.StepConvReferenceIdeal.τ).loc Cert.StepConvReferenceIdeal.main_arg2)
          ∧ r.2.mem ((c.tc : Thread Cert.StepConvReferenceIdeal.nD Cert.StepConvReferenceIdeal.τ).loc Cert.StepConvReferenceIdeal.main_arg3) = m' ((c.tc : Thread Cert.StepConvReferenceIdeal.nD Cert.StepConvReferenceIdeal.τ).loc Cert.StepConvReferenceIdeal.main_arg3))

def preserves_StepFfnConv_StepFfnConvIdeal : Prop :=
  True

def algebraic_StepFfnConvIdeal_StepFfnConvReferenceIdeal [hStepFfnConvIdeal : Cert.StepFfnConvIdeal.Facts] [hStepFfnConvReferenceIdeal : Cert.StepFfnConvReferenceIdeal.Facts] : Prop :=
  ∀ (m : (ℓ : Loc Cert.StepFfnConvIdeal.nD Cert.StepFfnConvIdeal.τ Cert.StepFfnConvIdeal.sig) → Buf (Elt Ideal) ℓ) (g : Dev Cert.StepFfnConvIdeal.nD → PrngReg)
    (m' : (ℓ : Loc Cert.StepFfnConvReferenceIdeal.nD Cert.StepFfnConvReferenceIdeal.τ Cert.StepFfnConvReferenceIdeal.sig) → Buf (Elt Ideal) ℓ) (g' : Dev Cert.StepFfnConvReferenceIdeal.nD → PrngReg), Pre_StepFfnConvIdeal m →
    (∀ c : Dev Cert.StepFfnConvIdeal.nD,
      m' ((c.tc : Thread Cert.StepFfnConvReferenceIdeal.nD Cert.StepFfnConvReferenceIdeal.τ).loc Cert.StepFfnConvReferenceIdeal.main_arg0) = m ((c.tc : Thread Cert.StepFfnConvIdeal.nD Cert.StepFfnConvIdeal.τ).loc Cert.StepFfnConvIdeal.main_arg0)
      ∧ m' ((c.tc : Thread Cert.StepFfnConvReferenceIdeal.nD Cert.StepFfnConvReferenceIdeal.τ).loc Cert.StepFfnConvReferenceIdeal.main_arg1) = m ((c.tc : Thread Cert.StepFfnConvIdeal.nD Cert.StepFfnConvIdeal.τ).loc Cert.StepFfnConvIdeal.main_arg1)
      ∧ m' ((c.tc : Thread Cert.StepFfnConvReferenceIdeal.nD Cert.StepFfnConvReferenceIdeal.τ).loc Cert.StepFfnConvReferenceIdeal.main_arg2) = m ((c.tc : Thread Cert.StepFfnConvIdeal.nD Cert.StepFfnConvIdeal.τ).loc Cert.StepFfnConvIdeal.main_arg2)
      ∧ m' ((c.tc : Thread Cert.StepFfnConvReferenceIdeal.nD Cert.StepFfnConvReferenceIdeal.τ).loc Cert.StepFfnConvReferenceIdeal.main_arg3) = m ((c.tc : Thread Cert.StepFfnConvIdeal.nD Cert.StepFfnConvIdeal.τ).loc Cert.StepFfnConvIdeal.main_arg3)) →
    ∃ (v0 : (c : Dev Cert.StepFfnConvIdeal.nD) → Buf (Elt Ideal) ((c.tc : Thread Cert.StepFfnConvIdeal.nD Cert.StepFfnConvIdeal.τ).loc Cert.StepFfnConvIdeal.main_v0_0)) (v1 : (c : Dev Cert.StepFfnConvIdeal.nD) → Buf (Elt Ideal) ((c.tc : Thread Cert.StepFfnConvIdeal.nD Cert.StepFfnConvIdeal.τ).loc Cert.StepFfnConvIdeal.main_v0_1)) (v2 : (c : Dev Cert.StepFfnConvIdeal.nD) → Buf (Elt Ideal) ((c.tc : Thread Cert.StepFfnConvIdeal.nD Cert.StepFfnConvIdeal.τ).loc Cert.StepFfnConvIdeal.main_v0_2)) (v3 : (c : Dev Cert.StepFfnConvIdeal.nD) → Buf (Elt Ideal) ((c.tc : Thread Cert.StepFfnConvIdeal.nD Cert.StepFfnConvIdeal.τ).loc Cert.StepFfnConvIdeal.main_v0_3)),
      θ_run (Cert.StepFfnConvIdeal.defs (F := Ideal)) (onTc (τ := Cert.StepFfnConvIdeal.τ) (Cert.StepFfnConvIdeal.main (F := Ideal))) ⟨m, fun _ => 0, g⟩ (fun r => ∀ c : Dev Cert.StepFfnConvIdeal.nD,
          r.2.mem ((c.tc : Thread Cert.StepFfnConvIdeal.nD Cert.StepFfnConvIdeal.τ).loc Cert.StepFfnConvIdeal.main_v0_0) = v0 c
          ∧ r.2.mem ((c.tc : Thread Cert.StepFfnConvIdeal.nD Cert.StepFfnConvIdeal.τ).loc Cert.StepFfnConvIdeal.main_v0_1) = v1 c
          ∧ r.2.mem ((c.tc : Thread Cert.StepFfnConvIdeal.nD Cert.StepFfnConvIdeal.τ).loc Cert.StepFfnConvIdeal.main_v0_2) = v2 c
          ∧ r.2.mem ((c.tc : Thread Cert.StepFfnConvIdeal.nD Cert.StepFfnConvIdeal.τ).loc Cert.StepFfnConvIdeal.main_v0_3) = v3 c
          ∧ r.2.mem ((c.tc : Thread Cert.StepFfnConvIdeal.nD Cert.StepFfnConvIdeal.τ).loc Cert.StepFfnConvIdeal.main_arg0) = m ((c.tc : Thread Cert.StepFfnConvIdeal.nD Cert.StepFfnConvIdeal.τ).loc Cert.StepFfnConvIdeal.main_arg0)
          ∧ r.2.mem ((c.tc : Thread Cert.StepFfnConvIdeal.nD Cert.StepFfnConvIdeal.τ).loc Cert.StepFfnConvIdeal.main_arg1) = m ((c.tc : Thread Cert.StepFfnConvIdeal.nD Cert.StepFfnConvIdeal.τ).loc Cert.StepFfnConvIdeal.main_arg1)
          ∧ r.2.mem ((c.tc : Thread Cert.StepFfnConvIdeal.nD Cert.StepFfnConvIdeal.τ).loc Cert.StepFfnConvIdeal.main_arg2) = m ((c.tc : Thread Cert.StepFfnConvIdeal.nD Cert.StepFfnConvIdeal.τ).loc Cert.StepFfnConvIdeal.main_arg2)
          ∧ r.2.mem ((c.tc : Thread Cert.StepFfnConvIdeal.nD Cert.StepFfnConvIdeal.τ).loc Cert.StepFfnConvIdeal.main_arg3) = m ((c.tc : Thread Cert.StepFfnConvIdeal.nD Cert.StepFfnConvIdeal.τ).loc Cert.StepFfnConvIdeal.main_arg3))
      ∧ θ_run (Cert.StepFfnConvReferenceIdeal.defs (F := Ideal)) (onTc (τ := Cert.StepFfnConvReferenceIdeal.τ) (Cert.StepFfnConvReferenceIdeal.main (F := Ideal))) ⟨m', fun _ => 0, g'⟩ (fun r => ∀ c : Dev Cert.StepFfnConvReferenceIdeal.nD,
          r.2.mem ((c.tc : Thread Cert.StepFfnConvReferenceIdeal.nD Cert.StepFfnConvReferenceIdeal.τ).loc Cert.StepFfnConvReferenceIdeal.main_v0) = v0 c
          ∧ r.2.mem ((c.tc : Thread Cert.StepFfnConvReferenceIdeal.nD Cert.StepFfnConvReferenceIdeal.τ).loc Cert.StepFfnConvReferenceIdeal.main_v24) = v1 c
          ∧ r.2.mem ((c.tc : Thread Cert.StepFfnConvReferenceIdeal.nD Cert.StepFfnConvReferenceIdeal.τ).loc Cert.StepFfnConvReferenceIdeal.main_v5) = v2 c
          ∧ r.2.mem ((c.tc : Thread Cert.StepFfnConvReferenceIdeal.nD Cert.StepFfnConvReferenceIdeal.τ).loc Cert.StepFfnConvReferenceIdeal.main_v11) = v3 c
          ∧ r.2.mem ((c.tc : Thread Cert.StepFfnConvReferenceIdeal.nD Cert.StepFfnConvReferenceIdeal.τ).loc Cert.StepFfnConvReferenceIdeal.main_arg0) = m' ((c.tc : Thread Cert.StepFfnConvReferenceIdeal.nD Cert.StepFfnConvReferenceIdeal.τ).loc Cert.StepFfnConvReferenceIdeal.main_arg0)
          ∧ r.2.mem ((c.tc : Thread Cert.StepFfnConvReferenceIdeal.nD Cert.StepFfnConvReferenceIdeal.τ).loc Cert.StepFfnConvReferenceIdeal.main_arg1) = m' ((c.tc : Thread Cert.StepFfnConvReferenceIdeal.nD Cert.StepFfnConvReferenceIdeal.τ).loc Cert.StepFfnConvReferenceIdeal.main_arg1)
          ∧ r.2.mem ((c.tc : Thread Cert.StepFfnConvReferenceIdeal.nD Cert.StepFfnConvReferenceIdeal.τ).loc Cert.StepFfnConvReferenceIdeal.main_arg2) = m' ((c.tc : Thread Cert.StepFfnConvReferenceIdeal.nD Cert.StepFfnConvReferenceIdeal.τ).loc Cert.StepFfnConvReferenceIdeal.main_arg2)
          ∧ r.2.mem ((c.tc : Thread Cert.StepFfnConvReferenceIdeal.nD Cert.StepFfnConvReferenceIdeal.τ).loc Cert.StepFfnConvReferenceIdeal.main_arg3) = m' ((c.tc : Thread Cert.StepFfnConvReferenceIdeal.nD Cert.StepFfnConvReferenceIdeal.τ).loc Cert.StepFfnConvReferenceIdeal.main_arg3))

def preserves_StepCtx_StepCtxIdeal : Prop :=
  True

def algebraic_StepCtxIdeal_StepCtxReferenceIdeal [hStepCtxIdeal : Cert.StepCtxIdeal.Facts] [hStepCtxReferenceIdeal : Cert.StepCtxReferenceIdeal.Facts] : Prop :=
  ∀ (m : (ℓ : Loc Cert.StepCtxIdeal.nD Cert.StepCtxIdeal.τ Cert.StepCtxIdeal.sig) → Buf (Elt Ideal) ℓ) (g : Dev Cert.StepCtxIdeal.nD → PrngReg)
    (m' : (ℓ : Loc Cert.StepCtxReferenceIdeal.nD Cert.StepCtxReferenceIdeal.τ Cert.StepCtxReferenceIdeal.sig) → Buf (Elt Ideal) ℓ) (g' : Dev Cert.StepCtxReferenceIdeal.nD → PrngReg), Pre_StepCtxIdeal m →
    (∀ c : Dev Cert.StepCtxIdeal.nD,
      m' ((c.tc : Thread Cert.StepCtxReferenceIdeal.nD Cert.StepCtxReferenceIdeal.τ).loc Cert.StepCtxReferenceIdeal.main_arg0) = m ((c.tc : Thread Cert.StepCtxIdeal.nD Cert.StepCtxIdeal.τ).loc Cert.StepCtxIdeal.main_arg0)
      ∧ m' ((c.tc : Thread Cert.StepCtxReferenceIdeal.nD Cert.StepCtxReferenceIdeal.τ).loc Cert.StepCtxReferenceIdeal.main_arg1) = m ((c.tc : Thread Cert.StepCtxIdeal.nD Cert.StepCtxIdeal.τ).loc Cert.StepCtxIdeal.main_arg1)
      ∧ m' ((c.tc : Thread Cert.StepCtxReferenceIdeal.nD Cert.StepCtxReferenceIdeal.τ).loc Cert.StepCtxReferenceIdeal.main_arg2) = m ((c.tc : Thread Cert.StepCtxIdeal.nD Cert.StepCtxIdeal.τ).loc Cert.StepCtxIdeal.main_arg2)
      ∧ m' ((c.tc : Thread Cert.StepCtxReferenceIdeal.nD Cert.StepCtxReferenceIdeal.τ).loc Cert.StepCtxReferenceIdeal.main_arg3) = m ((c.tc : Thread Cert.StepCtxIdeal.nD Cert.StepCtxIdeal.τ).loc Cert.StepCtxIdeal.main_arg3)) →
    ∃ (v0 : (c : Dev Cert.StepCtxIdeal.nD) → Buf (Elt Ideal) ((c.tc : Thread Cert.StepCtxIdeal.nD Cert.StepCtxIdeal.τ).loc Cert.StepCtxIdeal.main_v0_0)) (v1 : (c : Dev Cert.StepCtxIdeal.nD) → Buf (Elt Ideal) ((c.tc : Thread Cert.StepCtxIdeal.nD Cert.StepCtxIdeal.τ).loc Cert.StepCtxIdeal.main_v0_1)) (v2 : (c : Dev Cert.StepCtxIdeal.nD) → Buf (Elt Ideal) ((c.tc : Thread Cert.StepCtxIdeal.nD Cert.StepCtxIdeal.τ).loc Cert.StepCtxIdeal.main_v0_2)) (v3 : (c : Dev Cert.StepCtxIdeal.nD) → Buf (Elt Ideal) ((c.tc : Thread Cert.StepCtxIdeal.nD Cert.StepCtxIdeal.τ).loc Cert.StepCtxIdeal.main_v0_3)),
      θ_run (Cert.StepCtxIdeal.defs (F := Ideal)) (onTc (τ := Cert.StepCtxIdeal.τ) (Cert.StepCtxIdeal.main (F := Ideal))) ⟨m, fun _ => 0, g⟩ (fun r => ∀ c : Dev Cert.StepCtxIdeal.nD,
          r.2.mem ((c.tc : Thread Cert.StepCtxIdeal.nD Cert.StepCtxIdeal.τ).loc Cert.StepCtxIdeal.main_v0_0) = v0 c
          ∧ r.2.mem ((c.tc : Thread Cert.StepCtxIdeal.nD Cert.StepCtxIdeal.τ).loc Cert.StepCtxIdeal.main_v0_1) = v1 c
          ∧ r.2.mem ((c.tc : Thread Cert.StepCtxIdeal.nD Cert.StepCtxIdeal.τ).loc Cert.StepCtxIdeal.main_v0_2) = v2 c
          ∧ r.2.mem ((c.tc : Thread Cert.StepCtxIdeal.nD Cert.StepCtxIdeal.τ).loc Cert.StepCtxIdeal.main_v0_3) = v3 c
          ∧ r.2.mem ((c.tc : Thread Cert.StepCtxIdeal.nD Cert.StepCtxIdeal.τ).loc Cert.StepCtxIdeal.main_arg0) = m ((c.tc : Thread Cert.StepCtxIdeal.nD Cert.StepCtxIdeal.τ).loc Cert.StepCtxIdeal.main_arg0)
          ∧ r.2.mem ((c.tc : Thread Cert.StepCtxIdeal.nD Cert.StepCtxIdeal.τ).loc Cert.StepCtxIdeal.main_arg1) = m ((c.tc : Thread Cert.StepCtxIdeal.nD Cert.StepCtxIdeal.τ).loc Cert.StepCtxIdeal.main_arg1)
          ∧ r.2.mem ((c.tc : Thread Cert.StepCtxIdeal.nD Cert.StepCtxIdeal.τ).loc Cert.StepCtxIdeal.main_arg2) = m ((c.tc : Thread Cert.StepCtxIdeal.nD Cert.StepCtxIdeal.τ).loc Cert.StepCtxIdeal.main_arg2)
          ∧ r.2.mem ((c.tc : Thread Cert.StepCtxIdeal.nD Cert.StepCtxIdeal.τ).loc Cert.StepCtxIdeal.main_arg3) = m ((c.tc : Thread Cert.StepCtxIdeal.nD Cert.StepCtxIdeal.τ).loc Cert.StepCtxIdeal.main_arg3))
      ∧ θ_run (Cert.StepCtxReferenceIdeal.defs (F := Ideal)) (onTc (τ := Cert.StepCtxReferenceIdeal.τ) (Cert.StepCtxReferenceIdeal.main (F := Ideal))) ⟨m', fun _ => 0, g'⟩ (fun r => ∀ c : Dev Cert.StepCtxReferenceIdeal.nD,
          r.2.mem ((c.tc : Thread Cert.StepCtxReferenceIdeal.nD Cert.StepCtxReferenceIdeal.τ).loc Cert.StepCtxReferenceIdeal.main_v0) = v0 c
          ∧ r.2.mem ((c.tc : Thread Cert.StepCtxReferenceIdeal.nD Cert.StepCtxReferenceIdeal.τ).loc Cert.StepCtxReferenceIdeal.main_v24) = v1 c
          ∧ r.2.mem ((c.tc : Thread Cert.StepCtxReferenceIdeal.nD Cert.StepCtxReferenceIdeal.τ).loc Cert.StepCtxReferenceIdeal.main_v5) = v2 c
          ∧ r.2.mem ((c.tc : Thread Cert.StepCtxReferenceIdeal.nD Cert.StepCtxReferenceIdeal.τ).loc Cert.StepCtxReferenceIdeal.main_v11) = v3 c
          ∧ r.2.mem ((c.tc : Thread Cert.StepCtxReferenceIdeal.nD Cert.StepCtxReferenceIdeal.τ).loc Cert.StepCtxReferenceIdeal.main_arg0) = m' ((c.tc : Thread Cert.StepCtxReferenceIdeal.nD Cert.StepCtxReferenceIdeal.τ).loc Cert.StepCtxReferenceIdeal.main_arg0)
          ∧ r.2.mem ((c.tc : Thread Cert.StepCtxReferenceIdeal.nD Cert.StepCtxReferenceIdeal.τ).loc Cert.StepCtxReferenceIdeal.main_arg1) = m' ((c.tc : Thread Cert.StepCtxReferenceIdeal.nD Cert.StepCtxReferenceIdeal.τ).loc Cert.StepCtxReferenceIdeal.main_arg1)
          ∧ r.2.mem ((c.tc : Thread Cert.StepCtxReferenceIdeal.nD Cert.StepCtxReferenceIdeal.τ).loc Cert.StepCtxReferenceIdeal.main_arg2) = m' ((c.tc : Thread Cert.StepCtxReferenceIdeal.nD Cert.StepCtxReferenceIdeal.τ).loc Cert.StepCtxReferenceIdeal.main_arg2)
          ∧ r.2.mem ((c.tc : Thread Cert.StepCtxReferenceIdeal.nD Cert.StepCtxReferenceIdeal.τ).loc Cert.StepCtxReferenceIdeal.main_arg3) = m' ((c.tc : Thread Cert.StepCtxReferenceIdeal.nD Cert.StepCtxReferenceIdeal.τ).loc Cert.StepCtxReferenceIdeal.main_arg3))

def preserves_Back_BackIdeal : Prop :=
  True

def algebraic_BackIdeal_BackReferenceIdeal [hBackIdeal : Cert.BackIdeal.Facts] [hBackReferenceIdeal : Cert.BackReferenceIdeal.Facts] : Prop :=
  ∀ (m : (ℓ : Loc Cert.BackIdeal.nD Cert.BackIdeal.τ Cert.BackIdeal.sig) → Buf (Elt Ideal) ℓ) (g : Dev Cert.BackIdeal.nD → PrngReg)
    (m' : (ℓ : Loc Cert.BackReferenceIdeal.nD Cert.BackReferenceIdeal.τ Cert.BackReferenceIdeal.sig) → Buf (Elt Ideal) ℓ) (g' : Dev Cert.BackReferenceIdeal.nD → PrngReg), Pre_BackIdeal m →
    (∀ c : Dev Cert.BackIdeal.nD,
      m' ((c.tc : Thread Cert.BackReferenceIdeal.nD Cert.BackReferenceIdeal.τ).loc Cert.BackReferenceIdeal.main_arg0) = m ((c.tc : Thread Cert.BackIdeal.nD Cert.BackIdeal.τ).loc Cert.BackIdeal.main_arg0)
      ∧ m' ((c.tc : Thread Cert.BackReferenceIdeal.nD Cert.BackReferenceIdeal.τ).loc Cert.BackReferenceIdeal.main_arg1) = m ((c.tc : Thread Cert.BackIdeal.nD Cert.BackIdeal.τ).loc Cert.BackIdeal.main_arg1)
      ∧ m' ((c.tc : Thread Cert.BackReferenceIdeal.nD Cert.BackReferenceIdeal.τ).loc Cert.BackReferenceIdeal.main_arg2) = m ((c.tc : Thread Cert.BackIdeal.nD Cert.BackIdeal.τ).loc Cert.BackIdeal.main_arg2)
      ∧ m' ((c.tc : Thread Cert.BackReferenceIdeal.nD Cert.BackReferenceIdeal.τ).loc Cert.BackReferenceIdeal.main_arg3) = m ((c.tc : Thread Cert.BackIdeal.nD Cert.BackIdeal.τ).loc Cert.BackIdeal.main_arg3)
      ∧ m' ((c.tc : Thread Cert.BackReferenceIdeal.nD Cert.BackReferenceIdeal.τ).loc Cert.BackReferenceIdeal.main_arg4) = m ((c.tc : Thread Cert.BackIdeal.nD Cert.BackIdeal.τ).loc Cert.BackIdeal.main_arg4)
      ∧ m' ((c.tc : Thread Cert.BackReferenceIdeal.nD Cert.BackReferenceIdeal.τ).loc Cert.BackReferenceIdeal.main_arg5) = m ((c.tc : Thread Cert.BackIdeal.nD Cert.BackIdeal.τ).loc Cert.BackIdeal.main_arg5)) →
    ∃ (v0 : (c : Dev Cert.BackIdeal.nD) → Buf (Elt Ideal) ((c.tc : Thread Cert.BackIdeal.nD Cert.BackIdeal.τ).loc Cert.BackIdeal.main_v0_0)) (v1 : (c : Dev Cert.BackIdeal.nD) → Buf (Elt Ideal) ((c.tc : Thread Cert.BackIdeal.nD Cert.BackIdeal.τ).loc Cert.BackIdeal.main_v0_1)) (v2 : (c : Dev Cert.BackIdeal.nD) → Buf (Elt Ideal) ((c.tc : Thread Cert.BackIdeal.nD Cert.BackIdeal.τ).loc Cert.BackIdeal.main_v0_2)) (v3 : (c : Dev Cert.BackIdeal.nD) → Buf (Elt Ideal) ((c.tc : Thread Cert.BackIdeal.nD Cert.BackIdeal.τ).loc Cert.BackIdeal.main_v0_3)),
      θ_run (Cert.BackIdeal.defs (F := Ideal)) (onTc (τ := Cert.BackIdeal.τ) (Cert.BackIdeal.main (F := Ideal))) ⟨m, fun _ => 0, g⟩ (fun r => ∀ c : Dev Cert.BackIdeal.nD,
          r.2.mem ((c.tc : Thread Cert.BackIdeal.nD Cert.BackIdeal.τ).loc Cert.BackIdeal.main_v0_0) = v0 c
          ∧ r.2.mem ((c.tc : Thread Cert.BackIdeal.nD Cert.BackIdeal.τ).loc Cert.BackIdeal.main_v0_1) = v1 c
          ∧ r.2.mem ((c.tc : Thread Cert.BackIdeal.nD Cert.BackIdeal.τ).loc Cert.BackIdeal.main_v0_2) = v2 c
          ∧ r.2.mem ((c.tc : Thread Cert.BackIdeal.nD Cert.BackIdeal.τ).loc Cert.BackIdeal.main_v0_3) = v3 c
          ∧ r.2.mem ((c.tc : Thread Cert.BackIdeal.nD Cert.BackIdeal.τ).loc Cert.BackIdeal.main_arg0) = m ((c.tc : Thread Cert.BackIdeal.nD Cert.BackIdeal.τ).loc Cert.BackIdeal.main_arg0)
          ∧ r.2.mem ((c.tc : Thread Cert.BackIdeal.nD Cert.BackIdeal.τ).loc Cert.BackIdeal.main_arg1) = m ((c.tc : Thread Cert.BackIdeal.nD Cert.BackIdeal.τ).loc Cert.BackIdeal.main_arg1)
          ∧ r.2.mem ((c.tc : Thread Cert.BackIdeal.nD Cert.BackIdeal.τ).loc Cert.BackIdeal.main_arg2) = m ((c.tc : Thread Cert.BackIdeal.nD Cert.BackIdeal.τ).loc Cert.BackIdeal.main_arg2)
          ∧ r.2.mem ((c.tc : Thread Cert.BackIdeal.nD Cert.BackIdeal.τ).loc Cert.BackIdeal.main_arg3) = m ((c.tc : Thread Cert.BackIdeal.nD Cert.BackIdeal.τ).loc Cert.BackIdeal.main_arg3)
          ∧ r.2.mem ((c.tc : Thread Cert.BackIdeal.nD Cert.BackIdeal.τ).loc Cert.BackIdeal.main_arg4) = m ((c.tc : Thread Cert.BackIdeal.nD Cert.BackIdeal.τ).loc Cert.BackIdeal.main_arg4)
          ∧ r.2.mem ((c.tc : Thread Cert.BackIdeal.nD Cert.BackIdeal.τ).loc Cert.BackIdeal.main_arg5) = m ((c.tc : Thread Cert.BackIdeal.nD Cert.BackIdeal.τ).loc Cert.BackIdeal.main_arg5))
      ∧ θ_run (Cert.BackReferenceIdeal.defs (F := Ideal)) (onTc (τ := Cert.BackReferenceIdeal.τ) (Cert.BackReferenceIdeal.main (F := Ideal))) ⟨m', fun _ => 0, g'⟩ (fun r => ∀ c : Dev Cert.BackReferenceIdeal.nD,
          r.2.mem ((c.tc : Thread Cert.BackReferenceIdeal.nD Cert.BackReferenceIdeal.τ).loc Cert.BackReferenceIdeal.main_v48) = v0 c
          ∧ r.2.mem ((c.tc : Thread Cert.BackReferenceIdeal.nD Cert.BackReferenceIdeal.τ).loc Cert.BackReferenceIdeal.main_v31) = v1 c
          ∧ r.2.mem ((c.tc : Thread Cert.BackReferenceIdeal.nD Cert.BackReferenceIdeal.τ).loc Cert.BackReferenceIdeal.main_v23) = v2 c
          ∧ r.2.mem ((c.tc : Thread Cert.BackReferenceIdeal.nD Cert.BackReferenceIdeal.τ).loc Cert.BackReferenceIdeal.main_v26) = v3 c
          ∧ r.2.mem ((c.tc : Thread Cert.BackReferenceIdeal.nD Cert.BackReferenceIdeal.τ).loc Cert.BackReferenceIdeal.main_arg0) = m' ((c.tc : Thread Cert.BackReferenceIdeal.nD Cert.BackReferenceIdeal.τ).loc Cert.BackReferenceIdeal.main_arg0)
          ∧ r.2.mem ((c.tc : Thread Cert.BackReferenceIdeal.nD Cert.BackReferenceIdeal.τ).loc Cert.BackReferenceIdeal.main_arg1) = m' ((c.tc : Thread Cert.BackReferenceIdeal.nD Cert.BackReferenceIdeal.τ).loc Cert.BackReferenceIdeal.main_arg1)
          ∧ r.2.mem ((c.tc : Thread Cert.BackReferenceIdeal.nD Cert.BackReferenceIdeal.τ).loc Cert.BackReferenceIdeal.main_arg2) = m' ((c.tc : Thread Cert.BackReferenceIdeal.nD Cert.BackReferenceIdeal.τ).loc Cert.BackReferenceIdeal.main_arg2)
          ∧ r.2.mem ((c.tc : Thread Cert.BackReferenceIdeal.nD Cert.BackReferenceIdeal.τ).loc Cert.BackReferenceIdeal.main_arg3) = m' ((c.tc : Thread Cert.BackReferenceIdeal.nD Cert.BackReferenceIdeal.τ).loc Cert.BackReferenceIdeal.main_arg3)
          ∧ r.2.mem ((c.tc : Thread Cert.BackReferenceIdeal.nD Cert.BackReferenceIdeal.τ).loc Cert.BackReferenceIdeal.main_arg4) = m' ((c.tc : Thread Cert.BackReferenceIdeal.nD Cert.BackReferenceIdeal.τ).loc Cert.BackReferenceIdeal.main_arg4)
          ∧ r.2.mem ((c.tc : Thread Cert.BackReferenceIdeal.nD Cert.BackReferenceIdeal.τ).loc Cert.BackReferenceIdeal.main_arg5) = m' ((c.tc : Thread Cert.BackReferenceIdeal.nD Cert.BackReferenceIdeal.τ).loc Cert.BackReferenceIdeal.main_arg5))

def preserves_Loss_LossIdeal : Prop :=
  True

def algebraic_LossIdeal_LossReferenceIdeal [hLossIdeal : Cert.LossIdeal.Facts] [hLossReferenceIdeal : Cert.LossReferenceIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossIdeal m →
    (∀ c : Dev Cert.LossIdeal.nD,
      m' ((c.tc : Thread Cert.LossReferenceIdeal.nD Cert.LossReferenceIdeal.τ).loc Cert.LossReferenceIdeal.main_arg0) = m ((c.tc : Thread Cert.LossIdeal.nD Cert.LossIdeal.τ).loc Cert.LossIdeal.main_arg0)
      ∧ m' ((c.tc : Thread Cert.LossReferenceIdeal.nD Cert.LossReferenceIdeal.τ).loc Cert.LossReferenceIdeal.main_arg1) = m ((c.tc : Thread Cert.LossIdeal.nD Cert.LossIdeal.τ).loc Cert.LossIdeal.main_arg1)
      ∧ m' ((c.tc : Thread Cert.LossReferenceIdeal.nD Cert.LossReferenceIdeal.τ).loc Cert.LossReferenceIdeal.main_arg2) = m ((c.tc : Thread Cert.LossIdeal.nD Cert.LossIdeal.τ).loc Cert.LossIdeal.main_arg2)
      ∧ m' ((c.tc : Thread Cert.LossReferenceIdeal.nD Cert.LossReferenceIdeal.τ).loc Cert.LossReferenceIdeal.main_arg3) = m ((c.tc : Thread Cert.LossIdeal.nD Cert.LossIdeal.τ).loc Cert.LossIdeal.main_arg3)
      ∧ m' ((c.tc : Thread Cert.LossReferenceIdeal.nD Cert.LossReferenceIdeal.τ).loc Cert.LossReferenceIdeal.main_arg4) = m ((c.tc : Thread Cert.LossIdeal.nD Cert.LossIdeal.τ).loc Cert.LossIdeal.main_arg4)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)) (v2 : (c : Dev Cert.LossIdeal.nD) → Buf (Elt Ideal) ((c.tc : Thread Cert.LossIdeal.nD Cert.LossIdeal.τ).loc Cert.LossIdeal.main_v0_2)) (v3 : (c : Dev Cert.LossIdeal.nD) → Buf (Elt Ideal) ((c.tc : Thread Cert.LossIdeal.nD Cert.LossIdeal.τ).loc Cert.LossIdeal.main_v0_3)) (v4 : (c : Dev Cert.LossIdeal.nD) → Buf (Elt Ideal) ((c.tc : Thread Cert.LossIdeal.nD Cert.LossIdeal.τ).loc Cert.LossIdeal.main_v0_4)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_v0_2) = v2 c
          ∧ r.2.mem ((c.tc : Thread Cert.LossIdeal.nD Cert.LossIdeal.τ).loc Cert.LossIdeal.main_v0_3) = v3 c
          ∧ r.2.mem ((c.tc : Thread Cert.LossIdeal.nD Cert.LossIdeal.τ).loc Cert.LossIdeal.main_v0_4) = v4 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v16) = v0 c
          ∧ r.2.mem ((c.tc : Thread Cert.LossReferenceIdeal.nD Cert.LossReferenceIdeal.τ).loc Cert.LossReferenceIdeal.main_v11) = v1 c
          ∧ r.2.mem ((c.tc : Thread Cert.LossReferenceIdeal.nD Cert.LossReferenceIdeal.τ).loc Cert.LossReferenceIdeal.main_v14) = v2 c
          ∧ r.2.mem ((c.tc : Thread Cert.LossReferenceIdeal.nD Cert.LossReferenceIdeal.τ).loc Cert.LossReferenceIdeal.main_v19) = v3 c
          ∧ r.2.mem ((c.tc : Thread Cert.LossReferenceIdeal.nD Cert.LossReferenceIdeal.τ).loc Cert.LossReferenceIdeal.main_v15) = v4 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2)
          ∧ r.2.mem ((c.tc : Thread Cert.LossReferenceIdeal.nD Cert.LossReferenceIdeal.τ).loc Cert.LossReferenceIdeal.main_arg3) = m' ((c.tc : Thread Cert.LossReferenceIdeal.nD Cert.LossReferenceIdeal.τ).loc Cert.LossReferenceIdeal.main_arg3)
          ∧ r.2.mem ((c.tc : Thread Cert.LossReferenceIdeal.nD Cert.LossReferenceIdeal.τ).loc Cert.LossReferenceIdeal.main_arg4) = m' ((c.tc : Thread Cert.LossReferenceIdeal.nD Cert.LossReferenceIdeal.τ).loc Cert.LossReferenceIdeal.main_arg4))

def preserves_BackCtx_BackCtxIdeal : Prop :=
  True

def algebraic_BackCtxIdeal_BackCtxReferenceIdeal [hBackCtxIdeal : Cert.BackCtxIdeal.Facts] [hBackCtxReferenceIdeal : Cert.BackCtxReferenceIdeal.Facts] : Prop :=
  ∀ (m : (ℓ : Loc Cert.BackCtxIdeal.nD Cert.BackCtxIdeal.τ Cert.BackCtxIdeal.sig) → Buf (Elt Ideal) ℓ) (g : Dev Cert.BackCtxIdeal.nD → PrngReg)
    (m' : (ℓ : Loc Cert.BackCtxReferenceIdeal.nD Cert.BackCtxReferenceIdeal.τ Cert.BackCtxReferenceIdeal.sig) → Buf (Elt Ideal) ℓ) (g' : Dev Cert.BackCtxReferenceIdeal.nD → PrngReg), Pre_BackCtxIdeal m →
    (∀ c : Dev Cert.BackCtxIdeal.nD,
      m' ((c.tc : Thread Cert.BackCtxReferenceIdeal.nD Cert.BackCtxReferenceIdeal.τ).loc Cert.BackCtxReferenceIdeal.main_arg0) = m ((c.tc : Thread Cert.BackCtxIdeal.nD Cert.BackCtxIdeal.τ).loc Cert.BackCtxIdeal.main_arg0)
      ∧ m' ((c.tc : Thread Cert.BackCtxReferenceIdeal.nD Cert.BackCtxReferenceIdeal.τ).loc Cert.BackCtxReferenceIdeal.main_arg1) = m ((c.tc : Thread Cert.BackCtxIdeal.nD Cert.BackCtxIdeal.τ).loc Cert.BackCtxIdeal.main_arg1)
      ∧ m' ((c.tc : Thread Cert.BackCtxReferenceIdeal.nD Cert.BackCtxReferenceIdeal.τ).loc Cert.BackCtxReferenceIdeal.main_arg2) = m ((c.tc : Thread Cert.BackCtxIdeal.nD Cert.BackCtxIdeal.τ).loc Cert.BackCtxIdeal.main_arg2)
      ∧ m' ((c.tc : Thread Cert.BackCtxReferenceIdeal.nD Cert.BackCtxReferenceIdeal.τ).loc Cert.BackCtxReferenceIdeal.main_arg3) = m ((c.tc : Thread Cert.BackCtxIdeal.nD Cert.BackCtxIdeal.τ).loc Cert.BackCtxIdeal.main_arg3)
      ∧ m' ((c.tc : Thread Cert.BackCtxReferenceIdeal.nD Cert.BackCtxReferenceIdeal.τ).loc Cert.BackCtxReferenceIdeal.main_arg4) = m ((c.tc : Thread Cert.BackCtxIdeal.nD Cert.BackCtxIdeal.τ).loc Cert.BackCtxIdeal.main_arg4)) →
    ∃ (v0 : (c : Dev Cert.BackCtxIdeal.nD) → Buf (Elt Ideal) ((c.tc : Thread Cert.BackCtxIdeal.nD Cert.BackCtxIdeal.τ).loc Cert.BackCtxIdeal.main_v0_0)) (v1 : (c : Dev Cert.BackCtxIdeal.nD) → Buf (Elt Ideal) ((c.tc : Thread Cert.BackCtxIdeal.nD Cert.BackCtxIdeal.τ).loc Cert.BackCtxIdeal.main_v0_1)) (v2 : (c : Dev Cert.BackCtxIdeal.nD) → Buf (Elt Ideal) ((c.tc : Thread Cert.BackCtxIdeal.nD Cert.BackCtxIdeal.τ).loc Cert.BackCtxIdeal.main_v0_2)),
      θ_run (Cert.BackCtxIdeal.defs (F := Ideal)) (onTc (τ := Cert.BackCtxIdeal.τ) (Cert.BackCtxIdeal.main (F := Ideal))) ⟨m, fun _ => 0, g⟩ (fun r => ∀ c : Dev Cert.BackCtxIdeal.nD,
          r.2.mem ((c.tc : Thread Cert.BackCtxIdeal.nD Cert.BackCtxIdeal.τ).loc Cert.BackCtxIdeal.main_v0_0) = v0 c
          ∧ r.2.mem ((c.tc : Thread Cert.BackCtxIdeal.nD Cert.BackCtxIdeal.τ).loc Cert.BackCtxIdeal.main_v0_1) = v1 c
          ∧ r.2.mem ((c.tc : Thread Cert.BackCtxIdeal.nD Cert.BackCtxIdeal.τ).loc Cert.BackCtxIdeal.main_v0_2) = v2 c
          ∧ r.2.mem ((c.tc : Thread Cert.BackCtxIdeal.nD Cert.BackCtxIdeal.τ).loc Cert.BackCtxIdeal.main_arg0) = m ((c.tc : Thread Cert.BackCtxIdeal.nD Cert.BackCtxIdeal.τ).loc Cert.BackCtxIdeal.main_arg0)
          ∧ r.2.mem ((c.tc : Thread Cert.BackCtxIdeal.nD Cert.BackCtxIdeal.τ).loc Cert.BackCtxIdeal.main_arg1) = m ((c.tc : Thread Cert.BackCtxIdeal.nD Cert.BackCtxIdeal.τ).loc Cert.BackCtxIdeal.main_arg1)
          ∧ r.2.mem ((c.tc : Thread Cert.BackCtxIdeal.nD Cert.BackCtxIdeal.τ).loc Cert.BackCtxIdeal.main_arg2) = m ((c.tc : Thread Cert.BackCtxIdeal.nD Cert.BackCtxIdeal.τ).loc Cert.BackCtxIdeal.main_arg2)
          ∧ r.2.mem ((c.tc : Thread Cert.BackCtxIdeal.nD Cert.BackCtxIdeal.τ).loc Cert.BackCtxIdeal.main_arg3) = m ((c.tc : Thread Cert.BackCtxIdeal.nD Cert.BackCtxIdeal.τ).loc Cert.BackCtxIdeal.main_arg3)
          ∧ r.2.mem ((c.tc : Thread Cert.BackCtxIdeal.nD Cert.BackCtxIdeal.τ).loc Cert.BackCtxIdeal.main_arg4) = m ((c.tc : Thread Cert.BackCtxIdeal.nD Cert.BackCtxIdeal.τ).loc Cert.BackCtxIdeal.main_arg4))
      ∧ θ_run (Cert.BackCtxReferenceIdeal.defs (F := Ideal)) (onTc (τ := Cert.BackCtxReferenceIdeal.τ) (Cert.BackCtxReferenceIdeal.main (F := Ideal))) ⟨m', fun _ => 0, g'⟩ (fun r => ∀ c : Dev Cert.BackCtxReferenceIdeal.nD,
          r.2.mem ((c.tc : Thread Cert.BackCtxReferenceIdeal.nD Cert.BackCtxReferenceIdeal.τ).loc Cert.BackCtxReferenceIdeal.main_v28) = v0 c
          ∧ r.2.mem ((c.tc : Thread Cert.BackCtxReferenceIdeal.nD Cert.BackCtxReferenceIdeal.τ).loc Cert.BackCtxReferenceIdeal.main_v20) = v1 c
          ∧ r.2.mem ((c.tc : Thread Cert.BackCtxReferenceIdeal.nD Cert.BackCtxReferenceIdeal.τ).loc Cert.BackCtxReferenceIdeal.main_v23) = v2 c
          ∧ r.2.mem ((c.tc : Thread Cert.BackCtxReferenceIdeal.nD Cert.BackCtxReferenceIdeal.τ).loc Cert.BackCtxReferenceIdeal.main_arg0) = m' ((c.tc : Thread Cert.BackCtxReferenceIdeal.nD Cert.BackCtxReferenceIdeal.τ).loc Cert.BackCtxReferenceIdeal.main_arg0)
          ∧ r.2.mem ((c.tc : Thread Cert.BackCtxReferenceIdeal.nD Cert.BackCtxReferenceIdeal.τ).loc Cert.BackCtxReferenceIdeal.main_arg1) = m' ((c.tc : Thread Cert.BackCtxReferenceIdeal.nD Cert.BackCtxReferenceIdeal.τ).loc Cert.BackCtxReferenceIdeal.main_arg1)
          ∧ r.2.mem ((c.tc : Thread Cert.BackCtxReferenceIdeal.nD Cert.BackCtxReferenceIdeal.τ).loc Cert.BackCtxReferenceIdeal.main_arg2) = m' ((c.tc : Thread Cert.BackCtxReferenceIdeal.nD Cert.BackCtxReferenceIdeal.τ).loc Cert.BackCtxReferenceIdeal.main_arg2)
          ∧ r.2.mem ((c.tc : Thread Cert.BackCtxReferenceIdeal.nD Cert.BackCtxReferenceIdeal.τ).loc Cert.BackCtxReferenceIdeal.main_arg3) = m' ((c.tc : Thread Cert.BackCtxReferenceIdeal.nD Cert.BackCtxReferenceIdeal.τ).loc Cert.BackCtxReferenceIdeal.main_arg3)
          ∧ r.2.mem ((c.tc : Thread Cert.BackCtxReferenceIdeal.nD Cert.BackCtxReferenceIdeal.τ).loc Cert.BackCtxReferenceIdeal.main_arg4) = m' ((c.tc : Thread Cert.BackCtxReferenceIdeal.nD Cert.BackCtxReferenceIdeal.τ).loc Cert.BackCtxReferenceIdeal.main_arg4))

def preserves_Resid_ResidIdeal : Prop :=
  True

def algebraic_ResidIdeal_ResidReferenceIdeal [hResidIdeal : Cert.ResidIdeal.Facts] [hResidReferenceIdeal : Cert.ResidReferenceIdeal.Facts] : Prop :=
  ∀ (m : (ℓ : Loc Cert.ResidIdeal.nD Cert.ResidIdeal.τ Cert.ResidIdeal.sig) → Buf (Elt Ideal) ℓ) (g : Dev Cert.ResidIdeal.nD → PrngReg)
    (m' : (ℓ : Loc Cert.ResidReferenceIdeal.nD Cert.ResidReferenceIdeal.τ Cert.ResidReferenceIdeal.sig) → Buf (Elt Ideal) ℓ) (g' : Dev Cert.ResidReferenceIdeal.nD → PrngReg), Pre_ResidIdeal m →
    (∀ c : Dev Cert.ResidIdeal.nD,
      m' ((c.tc : Thread Cert.ResidReferenceIdeal.nD Cert.ResidReferenceIdeal.τ).loc Cert.ResidReferenceIdeal.main_arg0) = m ((c.tc : Thread Cert.ResidIdeal.nD Cert.ResidIdeal.τ).loc Cert.ResidIdeal.main_arg0)
      ∧ m' ((c.tc : Thread Cert.ResidReferenceIdeal.nD Cert.ResidReferenceIdeal.τ).loc Cert.ResidReferenceIdeal.main_arg1) = m ((c.tc : Thread Cert.ResidIdeal.nD Cert.ResidIdeal.τ).loc Cert.ResidIdeal.main_arg1)
      ∧ m' ((c.tc : Thread Cert.ResidReferenceIdeal.nD Cert.ResidReferenceIdeal.τ).loc Cert.ResidReferenceIdeal.main_arg2) = m ((c.tc : Thread Cert.ResidIdeal.nD Cert.ResidIdeal.τ).loc Cert.ResidIdeal.main_arg2)
      ∧ m' ((c.tc : Thread Cert.ResidReferenceIdeal.nD Cert.ResidReferenceIdeal.τ).loc Cert.ResidReferenceIdeal.main_arg3) = m ((c.tc : Thread Cert.ResidIdeal.nD Cert.ResidIdeal.τ).loc Cert.ResidIdeal.main_arg3)
      ∧ m' ((c.tc : Thread Cert.ResidReferenceIdeal.nD Cert.ResidReferenceIdeal.τ).loc Cert.ResidReferenceIdeal.main_arg4) = m ((c.tc : Thread Cert.ResidIdeal.nD Cert.ResidIdeal.τ).loc Cert.ResidIdeal.main_arg4)
      ∧ m' ((c.tc : Thread Cert.ResidReferenceIdeal.nD Cert.ResidReferenceIdeal.τ).loc Cert.ResidReferenceIdeal.main_arg5) = m ((c.tc : Thread Cert.ResidIdeal.nD Cert.ResidIdeal.τ).loc Cert.ResidIdeal.main_arg5)) →
    ∃ (v0 : (c : Dev Cert.ResidIdeal.nD) → Buf (Elt Ideal) ((c.tc : Thread Cert.ResidIdeal.nD Cert.ResidIdeal.τ).loc Cert.ResidIdeal.main_v0_0)) (v1 : (c : Dev Cert.ResidIdeal.nD) → Buf (Elt Ideal) ((c.tc : Thread Cert.ResidIdeal.nD Cert.ResidIdeal.τ).loc Cert.ResidIdeal.main_v0_1)),
      θ_run (Cert.ResidIdeal.defs (F := Ideal)) (onTc (τ := Cert.ResidIdeal.τ) (Cert.ResidIdeal.main (F := Ideal))) ⟨m, fun _ => 0, g⟩ (fun r => ∀ c : Dev Cert.ResidIdeal.nD,
          r.2.mem ((c.tc : Thread Cert.ResidIdeal.nD Cert.ResidIdeal.τ).loc Cert.ResidIdeal.main_v0_0) = v0 c
          ∧ r.2.mem ((c.tc : Thread Cert.ResidIdeal.nD Cert.ResidIdeal.τ).loc Cert.ResidIdeal.main_v0_1) = v1 c
          ∧ r.2.mem ((c.tc : Thread Cert.ResidIdeal.nD Cert.ResidIdeal.τ).loc Cert.ResidIdeal.main_arg0) = m ((c.tc : Thread Cert.ResidIdeal.nD Cert.ResidIdeal.τ).loc Cert.ResidIdeal.main_arg0)
          ∧ r.2.mem ((c.tc : Thread Cert.ResidIdeal.nD Cert.ResidIdeal.τ).loc Cert.ResidIdeal.main_arg1) = m ((c.tc : Thread Cert.ResidIdeal.nD Cert.ResidIdeal.τ).loc Cert.ResidIdeal.main_arg1)
          ∧ r.2.mem ((c.tc : Thread Cert.ResidIdeal.nD Cert.ResidIdeal.τ).loc Cert.ResidIdeal.main_arg2) = m ((c.tc : Thread Cert.ResidIdeal.nD Cert.ResidIdeal.τ).loc Cert.ResidIdeal.main_arg2)
          ∧ r.2.mem ((c.tc : Thread Cert.ResidIdeal.nD Cert.ResidIdeal.τ).loc Cert.ResidIdeal.main_arg3) = m ((c.tc : Thread Cert.ResidIdeal.nD Cert.ResidIdeal.τ).loc Cert.ResidIdeal.main_arg3)
          ∧ r.2.mem ((c.tc : Thread Cert.ResidIdeal.nD Cert.ResidIdeal.τ).loc Cert.ResidIdeal.main_arg4) = m ((c.tc : Thread Cert.ResidIdeal.nD Cert.ResidIdeal.τ).loc Cert.ResidIdeal.main_arg4)
          ∧ r.2.mem ((c.tc : Thread Cert.ResidIdeal.nD Cert.ResidIdeal.τ).loc Cert.ResidIdeal.main_arg5) = m ((c.tc : Thread Cert.ResidIdeal.nD Cert.ResidIdeal.τ).loc Cert.ResidIdeal.main_arg5))
      ∧ θ_run (Cert.ResidReferenceIdeal.defs (F := Ideal)) (onTc (τ := Cert.ResidReferenceIdeal.τ) (Cert.ResidReferenceIdeal.main (F := Ideal))) ⟨m', fun _ => 0, g'⟩ (fun r => ∀ c : Dev Cert.ResidReferenceIdeal.nD,
          r.2.mem ((c.tc : Thread Cert.ResidReferenceIdeal.nD Cert.ResidReferenceIdeal.τ).loc Cert.ResidReferenceIdeal.main_v2) = v0 c
          ∧ r.2.mem ((c.tc : Thread Cert.ResidReferenceIdeal.nD Cert.ResidReferenceIdeal.τ).loc Cert.ResidReferenceIdeal.main_v21) = v1 c
          ∧ r.2.mem ((c.tc : Thread Cert.ResidReferenceIdeal.nD Cert.ResidReferenceIdeal.τ).loc Cert.ResidReferenceIdeal.main_arg0) = m' ((c.tc : Thread Cert.ResidReferenceIdeal.nD Cert.ResidReferenceIdeal.τ).loc Cert.ResidReferenceIdeal.main_arg0)
          ∧ r.2.mem ((c.tc : Thread Cert.ResidReferenceIdeal.nD Cert.ResidReferenceIdeal.τ).loc Cert.ResidReferenceIdeal.main_arg1) = m' ((c.tc : Thread Cert.ResidReferenceIdeal.nD Cert.ResidReferenceIdeal.τ).loc Cert.ResidReferenceIdeal.main_arg1)
          ∧ r.2.mem ((c.tc : Thread Cert.ResidReferenceIdeal.nD Cert.ResidReferenceIdeal.τ).loc Cert.ResidReferenceIdeal.main_arg2) = m' ((c.tc : Thread Cert.ResidReferenceIdeal.nD Cert.ResidReferenceIdeal.τ).loc Cert.ResidReferenceIdeal.main_arg2)
          ∧ r.2.mem ((c.tc : Thread Cert.ResidReferenceIdeal.nD Cert.ResidReferenceIdeal.τ).loc Cert.ResidReferenceIdeal.main_arg3) = m' ((c.tc : Thread Cert.ResidReferenceIdeal.nD Cert.ResidReferenceIdeal.τ).loc Cert.ResidReferenceIdeal.main_arg3)
          ∧ r.2.mem ((c.tc : Thread Cert.ResidReferenceIdeal.nD Cert.ResidReferenceIdeal.τ).loc Cert.ResidReferenceIdeal.main_arg4) = m' ((c.tc : Thread Cert.ResidReferenceIdeal.nD Cert.ResidReferenceIdeal.τ).loc Cert.ResidReferenceIdeal.main_arg4)
          ∧ r.2.mem ((c.tc : Thread Cert.ResidReferenceIdeal.nD Cert.ResidReferenceIdeal.τ).loc Cert.ResidReferenceIdeal.main_arg5) = m' ((c.tc : Thread Cert.ResidReferenceIdeal.nD Cert.ResidReferenceIdeal.τ).loc Cert.ResidReferenceIdeal.main_arg5))

def preserves_Cctx_CctxIdeal : Prop :=
  True

def algebraic_CctxIdeal_CctxReferenceIdeal [hCctxIdeal : Cert.CctxIdeal.Facts] [hCctxReferenceIdeal : Cert.CctxReferenceIdeal.Facts] : Prop :=
  ∀ (m : (ℓ : Loc Cert.CctxIdeal.nD Cert.CctxIdeal.τ Cert.CctxIdeal.sig) → Buf (Elt Ideal) ℓ) (g : Dev Cert.CctxIdeal.nD → PrngReg)
    (m' : (ℓ : Loc Cert.CctxReferenceIdeal.nD Cert.CctxReferenceIdeal.τ Cert.CctxReferenceIdeal.sig) → Buf (Elt Ideal) ℓ) (g' : Dev Cert.CctxReferenceIdeal.nD → PrngReg), Pre_CctxIdeal m →
    (∀ c : Dev Cert.CctxIdeal.nD,
      m' ((c.tc : Thread Cert.CctxReferenceIdeal.nD Cert.CctxReferenceIdeal.τ).loc Cert.CctxReferenceIdeal.main_arg0) = m ((c.tc : Thread Cert.CctxIdeal.nD Cert.CctxIdeal.τ).loc Cert.CctxIdeal.main_arg0)
      ∧ m' ((c.tc : Thread Cert.CctxReferenceIdeal.nD Cert.CctxReferenceIdeal.τ).loc Cert.CctxReferenceIdeal.main_arg1) = m ((c.tc : Thread Cert.CctxIdeal.nD Cert.CctxIdeal.τ).loc Cert.CctxIdeal.main_arg1)) →
    ∃ (v0 : (c : Dev Cert.CctxIdeal.nD) → Buf (Elt Ideal) ((c.tc : Thread Cert.CctxIdeal.nD Cert.CctxIdeal.τ).loc Cert.CctxIdeal.main_v0)),
      θ_run (Cert.CctxIdeal.defs (F := Ideal)) (onTc (τ := Cert.CctxIdeal.τ) (Cert.CctxIdeal.main (F := Ideal))) ⟨m, fun _ => 0, g⟩ (fun r => ∀ c : Dev Cert.CctxIdeal.nD,
          r.2.mem ((c.tc : Thread Cert.CctxIdeal.nD Cert.CctxIdeal.τ).loc Cert.CctxIdeal.main_v0) = v0 c
          ∧ r.2.mem ((c.tc : Thread Cert.CctxIdeal.nD Cert.CctxIdeal.τ).loc Cert.CctxIdeal.main_arg0) = m ((c.tc : Thread Cert.CctxIdeal.nD Cert.CctxIdeal.τ).loc Cert.CctxIdeal.main_arg0)
          ∧ r.2.mem ((c.tc : Thread Cert.CctxIdeal.nD Cert.CctxIdeal.τ).loc Cert.CctxIdeal.main_arg1) = m ((c.tc : Thread Cert.CctxIdeal.nD Cert.CctxIdeal.τ).loc Cert.CctxIdeal.main_arg1))
      ∧ θ_run (Cert.CctxReferenceIdeal.defs (F := Ideal)) (onTc (τ := Cert.CctxReferenceIdeal.τ) (Cert.CctxReferenceIdeal.main (F := Ideal))) ⟨m', fun _ => 0, g'⟩ (fun r => ∀ c : Dev Cert.CctxReferenceIdeal.nD,
          r.2.mem ((c.tc : Thread Cert.CctxReferenceIdeal.nD Cert.CctxReferenceIdeal.τ).loc Cert.CctxReferenceIdeal.main_v2) = v0 c
          ∧ r.2.mem ((c.tc : Thread Cert.CctxReferenceIdeal.nD Cert.CctxReferenceIdeal.τ).loc Cert.CctxReferenceIdeal.main_arg0) = m' ((c.tc : Thread Cert.CctxReferenceIdeal.nD Cert.CctxReferenceIdeal.τ).loc Cert.CctxReferenceIdeal.main_arg0)
          ∧ r.2.mem ((c.tc : Thread Cert.CctxReferenceIdeal.nD Cert.CctxReferenceIdeal.τ).loc Cert.CctxReferenceIdeal.main_arg1) = m' ((c.tc : Thread Cert.CctxReferenceIdeal.nD Cert.CctxReferenceIdeal.τ).loc Cert.CctxReferenceIdeal.main_arg1))

def preserves_NormFwd_NormFwdIdeal : Prop :=
  True

def algebraic_NormFwdIdeal_NormFwdReferenceIdeal [hNormFwdIdeal : Cert.NormFwdIdeal.Facts] [hNormFwdReferenceIdeal : Cert.NormFwdReferenceIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdReferenceIdeal.nD Cert.NormFwdReferenceIdeal.τ Cert.NormFwdReferenceIdeal.sig) → Buf (Elt Ideal) ℓ) (g' : Dev Cert.NormFwdReferenceIdeal.nD → PrngReg), Pre_NormFwdIdeal m →
    (∀ c : Dev Cert.NormFwdIdeal.nD,
      m' ((c.tc : Thread Cert.NormFwdReferenceIdeal.nD Cert.NormFwdReferenceIdeal.τ).loc Cert.NormFwdReferenceIdeal.main_arg0) = m ((c.tc : Thread Cert.NormFwdIdeal.nD Cert.NormFwdIdeal.τ).loc Cert.NormFwdIdeal.main_arg0)
      ∧ m' ((c.tc : Thread Cert.NormFwdReferenceIdeal.nD Cert.NormFwdReferenceIdeal.τ).loc Cert.NormFwdReferenceIdeal.main_arg1) = m ((c.tc : Thread Cert.NormFwdIdeal.nD Cert.NormFwdIdeal.τ).loc Cert.NormFwdIdeal.main_arg1)
      ∧ m' ((c.tc : Thread Cert.NormFwdReferenceIdeal.nD Cert.NormFwdReferenceIdeal.τ).loc Cert.NormFwdReferenceIdeal.main_arg2) = m ((c.tc : Thread Cert.NormFwdIdeal.nD Cert.NormFwdIdeal.τ).loc Cert.NormFwdIdeal.main_arg2)
      ∧ m' ((c.tc : Thread Cert.NormFwdReferenceIdeal.nD Cert.NormFwdReferenceIdeal.τ).loc Cert.NormFwdReferenceIdeal.main_arg3) = m ((c.tc : Thread Cert.NormFwdIdeal.nD Cert.NormFwdIdeal.τ).loc Cert.NormFwdIdeal.main_arg3)
      ∧ m' ((c.tc : Thread Cert.NormFwdReferenceIdeal.nD Cert.NormFwdReferenceIdeal.τ).loc Cert.NormFwdReferenceIdeal.main_arg4) = m ((c.tc : Thread Cert.NormFwdIdeal.nD Cert.NormFwdIdeal.τ).loc Cert.NormFwdIdeal.main_arg4)) →
    ∃ (v0 : (c : Dev Cert.NormFwdIdeal.nD) → Buf (Elt Ideal) ((c.tc : Thread Cert.NormFwdIdeal.nD Cert.NormFwdIdeal.τ).loc Cert.NormFwdIdeal.main_v0)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v0) = v0 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1)
          ∧ r.2.mem ((c.tc : Thread Cert.NormFwdIdeal.nD Cert.NormFwdIdeal.τ).loc Cert.NormFwdIdeal.main_arg2) = m ((c.tc : Thread Cert.NormFwdIdeal.nD Cert.NormFwdIdeal.τ).loc Cert.NormFwdIdeal.main_arg2)
          ∧ r.2.mem ((c.tc : Thread Cert.NormFwdIdeal.nD Cert.NormFwdIdeal.τ).loc Cert.NormFwdIdeal.main_arg3) = m ((c.tc : Thread Cert.NormFwdIdeal.nD Cert.NormFwdIdeal.τ).loc Cert.NormFwdIdeal.main_arg3)
          ∧ r.2.mem ((c.tc : Thread Cert.NormFwdIdeal.nD Cert.NormFwdIdeal.τ).loc Cert.NormFwdIdeal.main_arg4) = m ((c.tc : Thread Cert.NormFwdIdeal.nD Cert.NormFwdIdeal.τ).loc Cert.NormFwdIdeal.main_arg4))
      ∧ θ_run (Cert.NormFwdReferenceIdeal.defs (F := Ideal)) (onTc (τ := Cert.NormFwdReferenceIdeal.τ) (Cert.NormFwdReferenceIdeal.main (F := Ideal))) ⟨m', fun _ => 0, g'⟩ (fun r => ∀ c : Dev Cert.NormFwdReferenceIdeal.nD,
          r.2.mem ((c.tc : Thread Cert.NormFwdReferenceIdeal.nD Cert.NormFwdReferenceIdeal.τ).loc Cert.NormFwdReferenceIdeal.main_v45) = v0 c
          ∧ r.2.mem ((c.tc : Thread Cert.NormFwdReferenceIdeal.nD Cert.NormFwdReferenceIdeal.τ).loc Cert.NormFwdReferenceIdeal.main_arg0) = m' ((c.tc : Thread Cert.NormFwdReferenceIdeal.nD Cert.NormFwdReferenceIdeal.τ).loc Cert.NormFwdReferenceIdeal.main_arg0)
          ∧ r.2.mem ((c.tc : Thread Cert.NormFwdReferenceIdeal.nD Cert.NormFwdReferenceIdeal.τ).loc Cert.NormFwdReferenceIdeal.main_arg1) = m' ((c.tc : Thread Cert.NormFwdReferenceIdeal.nD Cert.NormFwdReferenceIdeal.τ).loc Cert.NormFwdReferenceIdeal.main_arg1)
          ∧ r.2.mem ((c.tc : Thread Cert.NormFwdReferenceIdeal.nD Cert.NormFwdReferenceIdeal.τ).loc Cert.NormFwdReferenceIdeal.main_arg2) = m' ((c.tc : Thread Cert.NormFwdReferenceIdeal.nD Cert.NormFwdReferenceIdeal.τ).loc Cert.NormFwdReferenceIdeal.main_arg2)
          ∧ r.2.mem ((c.tc : Thread Cert.NormFwdReferenceIdeal.nD Cert.NormFwdReferenceIdeal.τ).loc Cert.NormFwdReferenceIdeal.main_arg3) = m' ((c.tc : Thread Cert.NormFwdReferenceIdeal.nD Cert.NormFwdReferenceIdeal.τ).loc Cert.NormFwdReferenceIdeal.main_arg3)
          ∧ r.2.mem ((c.tc : Thread Cert.NormFwdReferenceIdeal.nD Cert.NormFwdReferenceIdeal.τ).loc Cert.NormFwdReferenceIdeal.main_arg4) = m' ((c.tc : Thread Cert.NormFwdReferenceIdeal.nD Cert.NormFwdReferenceIdeal.τ).loc Cert.NormFwdReferenceIdeal.main_arg4))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)) →
    ∃ (v0 : (c : Dev Cert.MergeIdeal.nD) → Buf (Elt Ideal) ((c.tc : Thread Cert.MergeIdeal.nD Cert.MergeIdeal.τ).loc Cert.MergeIdeal.main_v0_0)) (v1 : (c : Dev Cert.MergeIdeal.nD) → Buf (Elt Ideal) ((c.tc : Thread Cert.MergeIdeal.nD Cert.MergeIdeal.τ).loc Cert.MergeIdeal.main_v0_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0_0) = v0 c
          ∧ r.2.mem ((c.tc : Thread Cert.MergeIdeal.nD Cert.MergeIdeal.τ).loc Cert.MergeIdeal.main_v0_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v17) = v0 c
          ∧ r.2.mem ((c.tc : Thread Cert.MergeReferenceIdeal.nD Cert.MergeReferenceIdeal.τ).loc Cert.MergeReferenceIdeal.main_v18) = v1 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3))

def preserves_Ada_AdaIdeal : Prop :=
  True

def algebraic_AdaIdeal_AdaReferenceIdeal [hAdaIdeal : Cert.AdaIdeal.Facts] [hAdaReferenceIdeal : Cert.AdaReferenceIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaReferenceIdeal.nD Cert.AdaReferenceIdeal.τ Cert.AdaReferenceIdeal.sig) → Buf (Elt Ideal) ℓ) (g' : Dev Cert.AdaReferenceIdeal.nD → PrngReg), Pre_AdaIdeal m →
    (∀ c : Dev Cert.AdaIdeal.nD,
      m' ((c.tc : Thread Cert.AdaReferenceIdeal.nD Cert.AdaReferenceIdeal.τ).loc Cert.AdaReferenceIdeal.main_arg0) = m ((c.tc : Thread Cert.AdaIdeal.nD Cert.AdaIdeal.τ).loc Cert.AdaIdeal.main_arg0)
      ∧ m' ((c.tc : Thread Cert.AdaReferenceIdeal.nD Cert.AdaReferenceIdeal.τ).loc Cert.AdaReferenceIdeal.main_arg1) = m ((c.tc : Thread Cert.AdaIdeal.nD Cert.AdaIdeal.τ).loc Cert.AdaIdeal.main_arg1)
      ∧ m' ((c.tc : Thread Cert.AdaReferenceIdeal.nD Cert.AdaReferenceIdeal.τ).loc Cert.AdaReferenceIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v0)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v0) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaReferenceIdeal.defs (F := Ideal)) (onTc (τ := Cert.AdaReferenceIdeal.τ) (Cert.AdaReferenceIdeal.main (F := Ideal))) ⟨m', fun _ => 0, g'⟩ (fun r => ∀ c : Dev Cert.AdaReferenceIdeal.nD,
          r.2.mem ((c.tc : Thread Cert.AdaReferenceIdeal.nD Cert.AdaReferenceIdeal.τ).loc Cert.AdaReferenceIdeal.main_v3) = v0 c
          ∧ r.2.mem ((c.tc : Thread Cert.AdaReferenceIdeal.nD Cert.AdaReferenceIdeal.τ).loc Cert.AdaReferenceIdeal.main_arg0) = m' ((c.tc : Thread Cert.AdaReferenceIdeal.nD Cert.AdaReferenceIdeal.τ).loc Cert.AdaReferenceIdeal.main_arg0)
          ∧ r.2.mem ((c.tc : Thread Cert.AdaReferenceIdeal.nD Cert.AdaReferenceIdeal.τ).loc Cert.AdaReferenceIdeal.main_arg1) = m' ((c.tc : Thread Cert.AdaReferenceIdeal.nD Cert.AdaReferenceIdeal.τ).loc Cert.AdaReferenceIdeal.main_arg1)
          ∧ r.2.mem ((c.tc : Thread Cert.AdaReferenceIdeal.nD Cert.AdaReferenceIdeal.τ).loc Cert.AdaReferenceIdeal.main_arg2) = m' ((c.tc : Thread Cert.AdaReferenceIdeal.nD Cert.AdaReferenceIdeal.τ).loc Cert.AdaReferenceIdeal.main_arg2))

def preserves_Outer_OuterIdeal : Prop :=
  True

def algebraic_OuterIdeal_OuterReferenceIdeal [hOuterIdeal : Cert.OuterIdeal.Facts] [hOuterReferenceIdeal : Cert.OuterReferenceIdeal.Facts] : Prop :=
  ∀ (m : (ℓ : Loc Cert.OuterIdeal.nD Cert.OuterIdeal.τ Cert.OuterIdeal.sig) → Buf (Elt Ideal) ℓ) (g : Dev Cert.OuterIdeal.nD → PrngReg)
    (m' : (ℓ : Loc Cert.OuterReferenceIdeal.nD Cert.OuterReferenceIdeal.τ Cert.OuterReferenceIdeal.sig) → Buf (Elt Ideal) ℓ) (g' : Dev Cert.OuterReferenceIdeal.nD → PrngReg), Pre_OuterIdeal m →
    (∀ c : Dev Cert.OuterIdeal.nD,
      m' ((c.tc : Thread Cert.OuterReferenceIdeal.nD Cert.OuterReferenceIdeal.τ).loc Cert.OuterReferenceIdeal.main_arg0) = m ((c.tc : Thread Cert.OuterIdeal.nD Cert.OuterIdeal.τ).loc Cert.OuterIdeal.main_arg0)
      ∧ m' ((c.tc : Thread Cert.OuterReferenceIdeal.nD Cert.OuterReferenceIdeal.τ).loc Cert.OuterReferenceIdeal.main_arg1) = m ((c.tc : Thread Cert.OuterIdeal.nD Cert.OuterIdeal.τ).loc Cert.OuterIdeal.main_arg1)) →
    ∃ (v0 : (c : Dev Cert.OuterIdeal.nD) → Buf (Elt Ideal) ((c.tc : Thread Cert.OuterIdeal.nD Cert.OuterIdeal.τ).loc Cert.OuterIdeal.main_v0)),
      θ_run (Cert.OuterIdeal.defs (F := Ideal)) (onTc (τ := Cert.OuterIdeal.τ) (Cert.OuterIdeal.main (F := Ideal))) ⟨m, fun _ => 0, g⟩ (fun r => ∀ c : Dev Cert.OuterIdeal.nD,
          r.2.mem ((c.tc : Thread Cert.OuterIdeal.nD Cert.OuterIdeal.τ).loc Cert.OuterIdeal.main_v0) = v0 c
          ∧ r.2.mem ((c.tc : Thread Cert.OuterIdeal.nD Cert.OuterIdeal.τ).loc Cert.OuterIdeal.main_arg0) = m ((c.tc : Thread Cert.OuterIdeal.nD Cert.OuterIdeal.τ).loc Cert.OuterIdeal.main_arg0)
          ∧ r.2.mem ((c.tc : Thread Cert.OuterIdeal.nD Cert.OuterIdeal.τ).loc Cert.OuterIdeal.main_arg1) = m ((c.tc : Thread Cert.OuterIdeal.nD Cert.OuterIdeal.τ).loc Cert.OuterIdeal.main_arg1))
      ∧ θ_run (Cert.OuterReferenceIdeal.defs (F := Ideal)) (onTc (τ := Cert.OuterReferenceIdeal.τ) (Cert.OuterReferenceIdeal.main (F := Ideal))) ⟨m', fun _ => 0, g'⟩ (fun r => ∀ c : Dev Cert.OuterReferenceIdeal.nD,
          r.2.mem ((c.tc : Thread Cert.OuterReferenceIdeal.nD Cert.OuterReferenceIdeal.τ).loc Cert.OuterReferenceIdeal.main_v1) = v0 c
          ∧ r.2.mem ((c.tc : Thread Cert.OuterReferenceIdeal.nD Cert.OuterReferenceIdeal.τ).loc Cert.OuterReferenceIdeal.main_arg0) = m' ((c.tc : Thread Cert.OuterReferenceIdeal.nD Cert.OuterReferenceIdeal.τ).loc Cert.OuterReferenceIdeal.main_arg0)
          ∧ r.2.mem ((c.tc : Thread Cert.OuterReferenceIdeal.nD Cert.OuterReferenceIdeal.τ).loc Cert.OuterReferenceIdeal.main_arg1) = m' ((c.tc : Thread Cert.OuterReferenceIdeal.nD Cert.OuterReferenceIdeal.τ).loc Cert.OuterReferenceIdeal.main_arg1))

def preserves_OuterDown_OuterDownIdeal : Prop :=
  True

def algebraic_OuterDownIdeal_OuterDownReferenceIdeal [hOuterDownIdeal : Cert.OuterDownIdeal.Facts] [hOuterDownReferenceIdeal : Cert.OuterDownReferenceIdeal.Facts] : Prop :=
  ∀ (m : (ℓ : Loc Cert.OuterDownIdeal.nD Cert.OuterDownIdeal.τ Cert.OuterDownIdeal.sig) → Buf (Elt Ideal) ℓ) (g : Dev Cert.OuterDownIdeal.nD → PrngReg)
    (m' : (ℓ : Loc Cert.OuterDownReferenceIdeal.nD Cert.OuterDownReferenceIdeal.τ Cert.OuterDownReferenceIdeal.sig) → Buf (Elt Ideal) ℓ) (g' : Dev Cert.OuterDownReferenceIdeal.nD → PrngReg), Pre_OuterDownIdeal m →
    (∀ c : Dev Cert.OuterDownIdeal.nD,
      m' ((c.tc : Thread Cert.OuterDownReferenceIdeal.nD Cert.OuterDownReferenceIdeal.τ).loc Cert.OuterDownReferenceIdeal.main_arg0) = m ((c.tc : Thread Cert.OuterDownIdeal.nD Cert.OuterDownIdeal.τ).loc Cert.OuterDownIdeal.main_arg0)
      ∧ m' ((c.tc : Thread Cert.OuterDownReferenceIdeal.nD Cert.OuterDownReferenceIdeal.τ).loc Cert.OuterDownReferenceIdeal.main_arg1) = m ((c.tc : Thread Cert.OuterDownIdeal.nD Cert.OuterDownIdeal.τ).loc Cert.OuterDownIdeal.main_arg1)) →
    ∃ (v0 : (c : Dev Cert.OuterDownIdeal.nD) → Buf (Elt Ideal) ((c.tc : Thread Cert.OuterDownIdeal.nD Cert.OuterDownIdeal.τ).loc Cert.OuterDownIdeal.main_v0)),
      θ_run (Cert.OuterDownIdeal.defs (F := Ideal)) (onTc (τ := Cert.OuterDownIdeal.τ) (Cert.OuterDownIdeal.main (F := Ideal))) ⟨m, fun _ => 0, g⟩ (fun r => ∀ c : Dev Cert.OuterDownIdeal.nD,
          r.2.mem ((c.tc : Thread Cert.OuterDownIdeal.nD Cert.OuterDownIdeal.τ).loc Cert.OuterDownIdeal.main_v0) = v0 c
          ∧ r.2.mem ((c.tc : Thread Cert.OuterDownIdeal.nD Cert.OuterDownIdeal.τ).loc Cert.OuterDownIdeal.main_arg0) = m ((c.tc : Thread Cert.OuterDownIdeal.nD Cert.OuterDownIdeal.τ).loc Cert.OuterDownIdeal.main_arg0)
          ∧ r.2.mem ((c.tc : Thread Cert.OuterDownIdeal.nD Cert.OuterDownIdeal.τ).loc Cert.OuterDownIdeal.main_arg1) = m ((c.tc : Thread Cert.OuterDownIdeal.nD Cert.OuterDownIdeal.τ).loc Cert.OuterDownIdeal.main_arg1))
      ∧ θ_run (Cert.OuterDownReferenceIdeal.defs (F := Ideal)) (onTc (τ := Cert.OuterDownReferenceIdeal.τ) (Cert.OuterDownReferenceIdeal.main (F := Ideal))) ⟨m', fun _ => 0, g'⟩ (fun r => ∀ c : Dev Cert.OuterDownReferenceIdeal.nD,
          r.2.mem ((c.tc : Thread Cert.OuterDownReferenceIdeal.nD Cert.OuterDownReferenceIdeal.τ).loc Cert.OuterDownReferenceIdeal.main_v1) = v0 c
          ∧ r.2.mem ((c.tc : Thread Cert.OuterDownReferenceIdeal.nD Cert.OuterDownReferenceIdeal.τ).loc Cert.OuterDownReferenceIdeal.main_arg0) = m' ((c.tc : Thread Cert.OuterDownReferenceIdeal.nD Cert.OuterDownReferenceIdeal.τ).loc Cert.OuterDownReferenceIdeal.main_arg0)
          ∧ r.2.mem ((c.tc : Thread Cert.OuterDownReferenceIdeal.nD Cert.OuterDownReferenceIdeal.τ).loc Cert.OuterDownReferenceIdeal.main_arg1) = m' ((c.tc : Thread Cert.OuterDownReferenceIdeal.nD Cert.OuterDownReferenceIdeal.τ).loc Cert.OuterDownReferenceIdeal.main_arg1))

def preserves_OuterUp_OuterUpIdeal : Prop :=
  True

def algebraic_OuterUpIdeal_OuterUpReferenceIdeal [hOuterUpIdeal : Cert.OuterUpIdeal.Facts] [hOuterUpReferenceIdeal : Cert.OuterUpReferenceIdeal.Facts] : Prop :=
  ∀ (m : (ℓ : Loc Cert.OuterUpIdeal.nD Cert.OuterUpIdeal.τ Cert.OuterUpIdeal.sig) → Buf (Elt Ideal) ℓ) (g : Dev Cert.OuterUpIdeal.nD → PrngReg)
    (m' : (ℓ : Loc Cert.OuterUpReferenceIdeal.nD Cert.OuterUpReferenceIdeal.τ Cert.OuterUpReferenceIdeal.sig) → Buf (Elt Ideal) ℓ) (g' : Dev Cert.OuterUpReferenceIdeal.nD → PrngReg), Pre_OuterUpIdeal m →
    (∀ c : Dev Cert.OuterUpIdeal.nD,
      m' ((c.tc : Thread Cert.OuterUpReferenceIdeal.nD Cert.OuterUpReferenceIdeal.τ).loc Cert.OuterUpReferenceIdeal.main_arg0) = m ((c.tc : Thread Cert.OuterUpIdeal.nD Cert.OuterUpIdeal.τ).loc Cert.OuterUpIdeal.main_arg0)
      ∧ m' ((c.tc : Thread Cert.OuterUpReferenceIdeal.nD Cert.OuterUpReferenceIdeal.τ).loc Cert.OuterUpReferenceIdeal.main_arg1) = m ((c.tc : Thread Cert.OuterUpIdeal.nD Cert.OuterUpIdeal.τ).loc Cert.OuterUpIdeal.main_arg1)) →
    ∃ (v0 : (c : Dev Cert.OuterUpIdeal.nD) → Buf (Elt Ideal) ((c.tc : Thread Cert.OuterUpIdeal.nD Cert.OuterUpIdeal.τ).loc Cert.OuterUpIdeal.main_v0)),
      θ_run (Cert.OuterUpIdeal.defs (F := Ideal)) (onTc (τ := Cert.OuterUpIdeal.τ) (Cert.OuterUpIdeal.main (F := Ideal))) ⟨m, fun _ => 0, g⟩ (fun r => ∀ c : Dev Cert.OuterUpIdeal.nD,
          r.2.mem ((c.tc : Thread Cert.OuterUpIdeal.nD Cert.OuterUpIdeal.τ).loc Cert.OuterUpIdeal.main_v0) = v0 c
          ∧ r.2.mem ((c.tc : Thread Cert.OuterUpIdeal.nD Cert.OuterUpIdeal.τ).loc Cert.OuterUpIdeal.main_arg0) = m ((c.tc : Thread Cert.OuterUpIdeal.nD Cert.OuterUpIdeal.τ).loc Cert.OuterUpIdeal.main_arg0)
          ∧ r.2.mem ((c.tc : Thread Cert.OuterUpIdeal.nD Cert.OuterUpIdeal.τ).loc Cert.OuterUpIdeal.main_arg1) = m ((c.tc : Thread Cert.OuterUpIdeal.nD Cert.OuterUpIdeal.τ).loc Cert.OuterUpIdeal.main_arg1))
      ∧ θ_run (Cert.OuterUpReferenceIdeal.defs (F := Ideal)) (onTc (τ := Cert.OuterUpReferenceIdeal.τ) (Cert.OuterUpReferenceIdeal.main (F := Ideal))) ⟨m', fun _ => 0, g'⟩ (fun r => ∀ c : Dev Cert.OuterUpReferenceIdeal.nD,
          r.2.mem ((c.tc : Thread Cert.OuterUpReferenceIdeal.nD Cert.OuterUpReferenceIdeal.τ).loc Cert.OuterUpReferenceIdeal.main_v1) = v0 c
          ∧ r.2.mem ((c.tc : Thread Cert.OuterUpReferenceIdeal.nD Cert.OuterUpReferenceIdeal.τ).loc Cert.OuterUpReferenceIdeal.main_arg0) = m' ((c.tc : Thread Cert.OuterUpReferenceIdeal.nD Cert.OuterUpReferenceIdeal.τ).loc Cert.OuterUpReferenceIdeal.main_arg0)
          ∧ r.2.mem ((c.tc : Thread Cert.OuterUpReferenceIdeal.nD Cert.OuterUpReferenceIdeal.τ).loc Cert.OuterUpReferenceIdeal.main_arg1) = m' ((c.tc : Thread Cert.OuterUpReferenceIdeal.nD Cert.OuterUpReferenceIdeal.τ).loc Cert.OuterUpReferenceIdeal.main_arg1))

def Claim : Prop :=
  ∃ (hKernel : Cert.Kernel.Facts) (hKernelIdeal : Cert.KernelIdeal.Facts) (hReferenceIdeal : Cert.ReferenceIdeal.Facts) (hWeight : Cert.Weight.Facts) (hWeightIdeal : Cert.WeightIdeal.Facts) (hWeightReferenceIdeal : Cert.WeightReferenceIdeal.Facts) (hRow : Cert.Row.Facts) (hRowIdeal : Cert.RowIdeal.Facts) (hRowReferenceIdeal : Cert.RowReferenceIdeal.Facts) (hStepIn : Cert.StepIn.Facts) (hStepInIdeal : Cert.StepInIdeal.Facts) (hStepInReferenceIdeal : Cert.StepInReferenceIdeal.Facts) (hStepOut : Cert.StepOut.Facts) (hStepOutIdeal : Cert.StepOutIdeal.Facts) (hStepOutReferenceIdeal : Cert.StepOutReferenceIdeal.Facts) (hStepUp : Cert.StepUp.Facts) (hStepUpIdeal : Cert.StepUpIdeal.Facts) (hStepUpReferenceIdeal : Cert.StepUpReferenceIdeal.Facts) (hStepDown : Cert.StepDown.Facts) (hStepDownIdeal : Cert.StepDownIdeal.Facts) (hStepDownReferenceIdeal : Cert.StepDownReferenceIdeal.Facts) (hStepAda : Cert.StepAda.Facts) (hStepAdaIdeal : Cert.StepAdaIdeal.Facts) (hStepAdaReferenceIdeal : Cert.StepAdaReferenceIdeal.Facts) (hStepSmall : Cert.StepSmall.Facts) (hStepSmallIdeal : Cert.StepSmallIdeal.Facts) (hStepSmallReferenceIdeal : Cert.StepSmallReferenceIdeal.Facts) (hStepConv : Cert.StepConv.Facts) (hStepConvIdeal : Cert.StepConvIdeal.Facts) (hStepConvReferenceIdeal : Cert.StepConvReferenceIdeal.Facts) (hStepFfnConv : Cert.StepFfnConv.Facts) (hStepFfnConvIdeal : Cert.StepFfnConvIdeal.Facts) (hStepFfnConvReferenceIdeal : Cert.StepFfnConvReferenceIdeal.Facts) (hStepCtx : Cert.StepCtx.Facts) (hStepCtxIdeal : Cert.StepCtxIdeal.Facts) (hStepCtxReferenceIdeal : Cert.StepCtxReferenceIdeal.Facts) (hBack : Cert.Back.Facts) (hBackIdeal : Cert.BackIdeal.Facts) (hBackReferenceIdeal : Cert.BackReferenceIdeal.Facts) (hLoss : Cert.Loss.Facts) (hLossIdeal : Cert.LossIdeal.Facts) (hLossReferenceIdeal : Cert.LossReferenceIdeal.Facts) (hBackCtx : Cert.BackCtx.Facts) (hBackCtxIdeal : Cert.BackCtxIdeal.Facts) (hBackCtxReferenceIdeal : Cert.BackCtxReferenceIdeal.Facts) (hResid : Cert.Resid.Facts) (hResidIdeal : Cert.ResidIdeal.Facts) (hResidReferenceIdeal : Cert.ResidReferenceIdeal.Facts) (hCctx : Cert.Cctx.Facts) (hCctxIdeal : Cert.CctxIdeal.Facts) (hCctxReferenceIdeal : Cert.CctxReferenceIdeal.Facts) (hNormFwd : Cert.NormFwd.Facts) (hNormFwdIdeal : Cert.NormFwdIdeal.Facts) (hNormFwdReferenceIdeal : Cert.NormFwdReferenceIdeal.Facts) (hMerge : Cert.Merge.Facts) (hMergeIdeal : Cert.MergeIdeal.Facts) (hMergeReferenceIdeal : Cert.MergeReferenceIdeal.Facts) (hAda : Cert.Ada.Facts) (hAdaIdeal : Cert.AdaIdeal.Facts) (hAdaReferenceIdeal : Cert.AdaReferenceIdeal.Facts) (hOuter : Cert.Outer.Facts) (hOuterIdeal : Cert.OuterIdeal.Facts) (hOuterReferenceIdeal : Cert.OuterReferenceIdeal.Facts) (hOuterDown : Cert.OuterDown.Facts) (hOuterDownIdeal : Cert.OuterDownIdeal.Facts) (hOuterDownReferenceIdeal : Cert.OuterDownReferenceIdeal.Facts) (hOuterUp : Cert.OuterUp.Facts) (hOuterUpIdeal : Cert.OuterUpIdeal.Facts) (hOuterUpReferenceIdeal : Cert.OuterUpReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Weight (hWeight := hWeight)
    ∧ quiescent_WeightIdeal (hWeightIdeal := hWeightIdeal)
    ∧ quiescent_WeightReferenceIdeal (hWeightReferenceIdeal := hWeightReferenceIdeal)
    ∧ quiescent_Row (hRow := hRow)
    ∧ quiescent_RowIdeal (hRowIdeal := hRowIdeal)
    ∧ quiescent_RowReferenceIdeal (hRowReferenceIdeal := hRowReferenceIdeal)
    ∧ quiescent_StepIn (hStepIn := hStepIn)
    ∧ quiescent_StepInIdeal (hStepInIdeal := hStepInIdeal)
    ∧ quiescent_StepInReferenceIdeal (hStepInReferenceIdeal := hStepInReferenceIdeal)
    ∧ quiescent_StepOut (hStepOut := hStepOut)
    ∧ quiescent_StepOutIdeal (hStepOutIdeal := hStepOutIdeal)
    ∧ quiescent_StepOutReferenceIdeal (hStepOutReferenceIdeal := hStepOutReferenceIdeal)
    ∧ quiescent_StepUp (hStepUp := hStepUp)
    ∧ quiescent_StepUpIdeal (hStepUpIdeal := hStepUpIdeal)
    ∧ quiescent_StepUpReferenceIdeal (hStepUpReferenceIdeal := hStepUpReferenceIdeal)
    ∧ quiescent_StepDown (hStepDown := hStepDown)
    ∧ quiescent_StepDownIdeal (hStepDownIdeal := hStepDownIdeal)
    ∧ quiescent_StepDownReferenceIdeal (hStepDownReferenceIdeal := hStepDownReferenceIdeal)
    ∧ quiescent_StepAda (hStepAda := hStepAda)
    ∧ quiescent_StepAdaIdeal (hStepAdaIdeal := hStepAdaIdeal)
    ∧ quiescent_StepAdaReferenceIdeal (hStepAdaReferenceIdeal := hStepAdaReferenceIdeal)
    ∧ quiescent_StepSmall (hStepSmall := hStepSmall)
    ∧ quiescent_StepSmallIdeal (hStepSmallIdeal := hStepSmallIdeal)
    ∧ quiescent_StepSmallReferenceIdeal (hStepSmallReferenceIdeal := hStepSmallReferenceIdeal)
    ∧ quiescent_StepConv (hStepConv := hStepConv)
    ∧ quiescent_StepConvIdeal (hStepConvIdeal := hStepConvIdeal)
    ∧ quiescent_StepConvReferenceIdeal (hStepConvReferenceIdeal := hStepConvReferenceIdeal)
    ∧ quiescent_StepFfnConv (hStepFfnConv := hStepFfnConv)
    ∧ quiescent_StepFfnConvIdeal (hStepFfnConvIdeal := hStepFfnConvIdeal)
    ∧ quiescent_StepFfnConvReferenceIdeal (hStepFfnConvReferenceIdeal := hStepFfnConvReferenceIdeal)
    ∧ quiescent_StepCtx (hStepCtx := hStepCtx)
    ∧ quiescent_StepCtxIdeal (hStepCtxIdeal := hStepCtxIdeal)
    ∧ quiescent_StepCtxReferenceIdeal (hStepCtxReferenceIdeal := hStepCtxReferenceIdeal)
    ∧ quiescent_Back (hBack := hBack)
    ∧ quiescent_BackIdeal (hBackIdeal := hBackIdeal)
    ∧ quiescent_BackReferenceIdeal (hBackReferenceIdeal := hBackReferenceIdeal)
    ∧ quiescent_Loss (hLoss := hLoss)
    ∧ quiescent_LossIdeal (hLossIdeal := hLossIdeal)
    ∧ quiescent_LossReferenceIdeal (hLossReferenceIdeal := hLossReferenceIdeal)
    ∧ quiescent_BackCtx (hBackCtx := hBackCtx)
    ∧ quiescent_BackCtxIdeal (hBackCtxIdeal := hBackCtxIdeal)
    ∧ quiescent_BackCtxReferenceIdeal (hBackCtxReferenceIdeal := hBackCtxReferenceIdeal)
    ∧ quiescent_Resid (hResid := hResid)
    ∧ quiescent_ResidIdeal (hResidIdeal := hResidIdeal)
    ∧ quiescent_ResidReferenceIdeal (hResidReferenceIdeal := hResidReferenceIdeal)
    ∧ quiescent_Cctx (hCctx := hCctx)
    ∧ quiescent_CctxIdeal (hCctxIdeal := hCctxIdeal)
    ∧ quiescent_CctxReferenceIdeal (hCctxReferenceIdeal := hCctxReferenceIdeal)
    ∧ quiescent_NormFwd (hNormFwd := hNormFwd)
    ∧ quiescent_NormFwdIdeal (hNormFwdIdeal := hNormFwdIdeal)
    ∧ quiescent_NormFwdReferenceIdeal (hNormFwdReferenceIdeal := hNormFwdReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_Ada (hAda := hAda)
    ∧ quiescent_AdaIdeal (hAdaIdeal := hAdaIdeal)
    ∧ quiescent_AdaReferenceIdeal (hAdaReferenceIdeal := hAdaReferenceIdeal)
    ∧ quiescent_Outer (hOuter := hOuter)
    ∧ quiescent_OuterIdeal (hOuterIdeal := hOuterIdeal)
    ∧ quiescent_OuterReferenceIdeal (hOuterReferenceIdeal := hOuterReferenceIdeal)
    ∧ quiescent_OuterDown (hOuterDown := hOuterDown)
    ∧ quiescent_OuterDownIdeal (hOuterDownIdeal := hOuterDownIdeal)
    ∧ quiescent_OuterDownReferenceIdeal (hOuterDownReferenceIdeal := hOuterDownReferenceIdeal)
    ∧ quiescent_OuterUp (hOuterUp := hOuterUp)
    ∧ quiescent_OuterUpIdeal (hOuterUpIdeal := hOuterUpIdeal)
    ∧ quiescent_OuterUpReferenceIdeal (hOuterUpReferenceIdeal := hOuterUpReferenceIdeal)
    ∧ preserves_Kernel_KernelIdeal
    ∧ algebraic_KernelIdeal_ReferenceIdeal (hKernelIdeal := hKernelIdeal) (hReferenceIdeal := hReferenceIdeal)
    ∧ preserves_Weight_WeightIdeal
    ∧ algebraic_WeightIdeal_WeightReferenceIdeal (hWeightIdeal := hWeightIdeal) (hWeightReferenceIdeal := hWeightReferenceIdeal)
    ∧ preserves_Row_RowIdeal
    ∧ algebraic_RowIdeal_RowReferenceIdeal (hRowIdeal := hRowIdeal) (hRowReferenceIdeal := hRowReferenceIdeal)
    ∧ preserves_StepIn_StepInIdeal
    ∧ algebraic_StepInIdeal_StepInReferenceIdeal (hStepInIdeal := hStepInIdeal) (hStepInReferenceIdeal := hStepInReferenceIdeal)
    ∧ preserves_StepOut_StepOutIdeal
    ∧ algebraic_StepOutIdeal_StepOutReferenceIdeal (hStepOutIdeal := hStepOutIdeal) (hStepOutReferenceIdeal := hStepOutReferenceIdeal)
    ∧ preserves_StepUp_StepUpIdeal
    ∧ algebraic_StepUpIdeal_StepUpReferenceIdeal (hStepUpIdeal := hStepUpIdeal) (hStepUpReferenceIdeal := hStepUpReferenceIdeal)
    ∧ preserves_StepDown_StepDownIdeal
    ∧ algebraic_StepDownIdeal_StepDownReferenceIdeal (hStepDownIdeal := hStepDownIdeal) (hStepDownReferenceIdeal := hStepDownReferenceIdeal)
    ∧ preserves_StepAda_StepAdaIdeal
    ∧ algebraic_StepAdaIdeal_StepAdaReferenceIdeal (hStepAdaIdeal := hStepAdaIdeal) (hStepAdaReferenceIdeal := hStepAdaReferenceIdeal)
    ∧ preserves_StepSmall_StepSmallIdeal
    ∧ algebraic_StepSmallIdeal_StepSmallReferenceIdeal (hStepSmallIdeal := hStepSmallIdeal) (hStepSmallReferenceIdeal := hStepSmallReferenceIdeal)
    ∧ preserves_StepConv_StepConvIdeal
    ∧ algebraic_StepConvIdeal_StepConvReferenceIdeal (hStepConvIdeal := hStepConvIdeal) (hStepConvReferenceIdeal := hStepConvReferenceIdeal)
    ∧ preserves_StepFfnConv_StepFfnConvIdeal
    ∧ algebraic_StepFfnConvIdeal_StepFfnConvReferenceIdeal (hStepFfnConvIdeal := hStepFfnConvIdeal) (hStepFfnConvReferenceIdeal := hStepFfnConvReferenceIdeal)
    ∧ preserves_StepCtx_StepCtxIdeal
    ∧ algebraic_StepCtxIdeal_StepCtxReferenceIdeal (hStepCtxIdeal := hStepCtxIdeal) (hStepCtxReferenceIdeal := hStepCtxReferenceIdeal)
    ∧ preserves_Back_BackIdeal
    ∧ algebraic_BackIdeal_BackReferenceIdeal (hBackIdeal := hBackIdeal) (hBackReferenceIdeal := hBackReferenceIdeal)
    ∧ preserves_Loss_LossIdeal
    ∧ algebraic_LossIdeal_LossReferenceIdeal (hLossIdeal := hLossIdeal) (hLossReferenceIdeal := hLossReferenceIdeal)
    ∧ preserves_BackCtx_BackCtxIdeal
    ∧ algebraic_BackCtxIdeal_BackCtxReferenceIdeal (hBackCtxIdeal := hBackCtxIdeal) (hBackCtxReferenceIdeal := hBackCtxReferenceIdeal)
    ∧ preserves_Resid_ResidIdeal
    ∧ algebraic_ResidIdeal_ResidReferenceIdeal (hResidIdeal := hResidIdeal) (hResidReferenceIdeal := hResidReferenceIdeal)
    ∧ preserves_Cctx_CctxIdeal
    ∧ algebraic_CctxIdeal_CctxReferenceIdeal (hCctxIdeal := hCctxIdeal) (hCctxReferenceIdeal := hCctxReferenceIdeal)
    ∧ preserves_NormFwd_NormFwdIdeal
    ∧ algebraic_NormFwdIdeal_NormFwdReferenceIdeal (hNormFwdIdeal := hNormFwdIdeal) (hNormFwdReferenceIdeal := hNormFwdReferenceIdeal)
    ∧ preserves_Merge_MergeIdeal
    ∧ algebraic_MergeIdeal_MergeReferenceIdeal (hMergeIdeal := hMergeIdeal) (hMergeReferenceIdeal := hMergeReferenceIdeal)
    ∧ preserves_Ada_AdaIdeal
    ∧ algebraic_AdaIdeal_AdaReferenceIdeal (hAdaIdeal := hAdaIdeal) (hAdaReferenceIdeal := hAdaReferenceIdeal)
    ∧ preserves_Outer_OuterIdeal
    ∧ algebraic_OuterIdeal_OuterReferenceIdeal (hOuterIdeal := hOuterIdeal) (hOuterReferenceIdeal := hOuterReferenceIdeal)
    ∧ preserves_OuterDown_OuterDownIdeal
    ∧ algebraic_OuterDownIdeal_OuterDownReferenceIdeal (hOuterDownIdeal := hOuterDownIdeal) (hOuterDownReferenceIdeal := hOuterDownReferenceIdeal)
    ∧ preserves_OuterUp_OuterUpIdeal
    ∧ algebraic_OuterUpIdeal_OuterUpReferenceIdeal (hOuterUpIdeal := hOuterUpIdeal) (hOuterUpReferenceIdeal := hOuterUpReferenceIdeal)
-- ==== Kernel.lean ====
abbrev S16640x1024 : Shape := ⟨2, ![16640, 1024]⟩
abbrev S1024x8192 : Shape := ⟨2, ![1024, 8192]⟩
abbrev S128x1024 : Shape := ⟨2, ![128, 1024]⟩
abbrev S1024x704 : Shape := ⟨2, ![1024, 704]⟩
abbrev S352x1024 : Shape := ⟨2, ![352, 1024]⟩
abbrev S16640x8192 : Shape := ⟨2, ![16640, 8192]⟩
abbrev S8x128x1024 : Shape := ⟨3, ![8, 128, 1024]⟩
abbrev S8x1024x704 : Shape := ⟨3, ![8, 1024, 704]⟩
abbrev S8x352x1024 : Shape := ⟨3, ![8, 352, 1024]⟩
abbrev S1280x1024 : Shape := ⟨2, ![1280, 1024]⟩
abbrev S1024x1024 : Shape := ⟨2, ![1024, 1024]⟩
abbrev S35 : Shape := ⟨1, ![35]⟩
abbrev S5 : Shape := ⟨1, ![5]⟩
abbrev S1 : Shape := ⟨1, ![1]⟩
abbrev S_ : Shape := ⟨0, ![]⟩
abbrev S1x128x1024 : Shape := ⟨3, ![1, 128, 1024]⟩
abbrev S1x1024x704 : Shape := ⟨3, ![1, 1024, 704]⟩
abbrev S1x352x1024 : Shape := ⟨3, ![1, 352, 1024]⟩

abbrev nBuf : Space → Nat
  | .hbm => 13
  | .vmem => 6
  | .smem => 0
  | _ => 0

abbrev bufTy : (tb : Table) → Fin (tcTables nBuf tb) → BufTy
  | .hbm, ⟨0, _⟩ => ⟨S16640x1024, .bf16⟩
  | .hbm, ⟨1, _⟩ => ⟨S1024x8192, .bf16⟩
  | .hbm, ⟨2, _⟩ => ⟨S128x1024, .bf16⟩
  | .hbm, ⟨3, _⟩ => ⟨S128x1024, .bf16⟩
  | .hbm, ⟨4, _⟩ => ⟨S128x1024, .bf16⟩
  | .hbm, ⟨5, _⟩ => ⟨S1024x704, .bf16⟩
  | .hbm, ⟨6, _⟩ => ⟨S352x1024, .bf16⟩
  | .hbm, ⟨7, _⟩ => ⟨S16640x8192, .f32⟩
  | .hbm, ⟨8, _⟩ => ⟨S8x128x1024, .bf16⟩
  | .hbm, ⟨9, _⟩ => ⟨S8x128x1024, .bf16⟩
  | .hbm, ⟨10, _⟩ => ⟨S8x128x1024, .bf16⟩
  | .hbm, ⟨11, _⟩ => ⟨S8x1024x704, .bf16⟩
  | .hbm, ⟨12, _⟩ => ⟨S8x352x1024, .bf16⟩
  | .local _ .vmem, ⟨0, _⟩ => ⟨S1280x1024, .bf16⟩
  | .local _ .vmem, ⟨1, _⟩ => ⟨S1280x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1280x1024, .f32⟩
  | .local _ .vmem, ⟨5, _⟩ => ⟨S1280x1024, .f32⟩
  | _, _ => ⟨S16640x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 81 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | _ => false

abbrev sig : RefSig :=
  ofTc nBuf bufTy 0 81 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v1_4 : Ref sig .tc := ⟨.hbm, 11, rfl⟩
abbrev main_v1_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 8
abbrev τ : Topo := Topo.v7x

variable {F : FTy → Type} [FloatOps F]

abbrev grid0 : Pipeline.Grid := ⟨3, ![13, 8, 1], ![false, false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let arg2 : BitVec 32 := BitVec.ofNat 32 (i 2).val
  let c0_i32_1 : BitVec 32 := 0#32
  let v3 : BitVec 1 := Scalar.cmpi .eq arg2 c0_i32_1
  let v4 : BitVec 1 := Scalar.andi v2 v3
  let v5 : BitVec 32 := Scalar.extui v4
  let c0_i32_2 : BitVec 32 := 0#32
  let v6 : BitVec 1 := Scalar.cmpi .ne v5 c0_i32_2
  v6

def k0_off1 (d20 : Dev nD) : Fin 3 → Nat :=
  let c4_i32_13 : BitVec 32 := 4#32
  let v20 : BitVec 32 := Dev.word d20
  let c4_i32 : BitVec 32 := 4#32
  let v21 : BitVec 32 := Scalar.divsi v20 c4_i32
  let c2_i32 : BitVec 32 := 2#32
  let v22 : BitVec 32 := Scalar.remsi v21 c2_i32
  let v29 : BitVec 32 := Scalar.muli c4_i32_13 v22
  let c2_i32_14 : BitVec 32 := 2#32
  let v23 : BitVec 32 := Dev.word d20
  let c2_i32_11 : BitVec 32 := 2#32
  let v24 : BitVec 32 := Scalar.divsi v23 c2_i32_11
  let c2_i32_10 : BitVec 32 := 2#32
  let v25 : BitVec 32 := Scalar.remsi v24 c2_i32_10
  let v30 : BitVec 32 := Scalar.muli c2_i32_14 v25
  let v31 : BitVec 32 := Scalar.addi v29 v30
  let v26 : BitVec 32 := Dev.word d20
  let c1_i32 : BitVec 32 := 1#32
  let v27 : BitVec 32 := Scalar.divsi v26 c1_i32
  let c2_i32_12 : BitVec 32 := 2#32
  let v28 : BitVec 32 := Scalar.remsi v27 c2_i32_12
  let v32 : BitVec 32 := Scalar.addi v31 v28
  let c0_i32_76 : BitVec 32 := 0#32
  let c0_i32_77 : BitVec 32 := 0#32
  ![v32.toNat, 0, 0]
def k0_off2 (d20 : Dev nD) : Fin 3 → Nat :=
  let c4_i32_13 : BitVec 32 := 4#32
  let v20 : BitVec 32 := Dev.word d20
  let c4_i32 : BitVec 32 := 4#32
  let v21 : BitVec 32 := Scalar.divsi v20 c4_i32
  let c2_i32 : BitVec 32 := 2#32
  let v22 : BitVec 32 := Scalar.remsi v21 c2_i32
  let v29 : BitVec 32 := Scalar.muli c4_i32_13 v22
  let c2_i32_14 : BitVec 32 := 2#32
  let v23 : BitVec 32 := Dev.word d20
  let c2_i32_11 : BitVec 32 := 2#32
  let v24 : BitVec 32 := Scalar.divsi v23 c2_i32_11
  let c2_i32_10 : BitVec 32 := 2#32
  let v25 : BitVec 32 := Scalar.remsi v24 c2_i32_10
  let v30 : BitVec 32 := Scalar.muli c2_i32_14 v25
  let v31 : BitVec 32 := Scalar.addi v29 v30
  let v26 : BitVec 32 := Dev.word d20
  let c1_i32 : BitVec 32 := 1#32
  let v27 : BitVec 32 := Scalar.divsi v26 c1_i32
  let c2_i32_12 : BitVec 32 := 2#32
  let v28 : BitVec 32 := Scalar.remsi v27 c2_i32_12
  let v32 : BitVec 32 := Scalar.addi v31 v28
  let c0_i32_84 : BitVec 32 := 0#32
  let c0_i32_85 : BitVec 32 := 0#32
  ![v32.toNat, 0, 0]
def k0_off3 (d20 : Dev nD) : Fin 3 → Nat :=
  let c4_i32_13 : BitVec 32 := 4#32
  let v20 : BitVec 32 := Dev.word d20
  let c4_i32 : BitVec 32 := 4#32
  let v21 : BitVec 32 := Scalar.divsi v20 c4_i32
  let c2_i32 : BitVec 32 := 2#32
  let v22 : BitVec 32 := Scalar.remsi v21 c2_i32
  let v29 : BitVec 32 := Scalar.muli c4_i32_13 v22
  let c2_i32_14 : BitVec 32 := 2#32
  let v23 : BitVec 32 := Dev.word d20
  let c2_i32_11 : BitVec 32 := 2#32
  let v24 : BitVec 32 := Scalar.divsi v23 c2_i32_11
  let c2_i32_10 : BitVec 32 := 2#32
  let v25 : BitVec 32 := Scalar.remsi v24 c2_i32_10
  let v30 : BitVec 32 := Scalar.muli c2_i32_14 v25
  let v31 : BitVec 32 := Scalar.addi v29 v30
  let v26 : BitVec 32 := Dev.word d20
  let c1_i32 : BitVec 32 := 1#32
  let v27 : BitVec 32 := Scalar.divsi v26 c1_i32
  let c2_i32_12 : BitVec 32 := 2#32
  let v28 : BitVec 32 := Scalar.remsi v27 c2_i32_12
  let v32 : BitVec 32 := Scalar.addi v31 v28
  let c0_i32_87 : BitVec 32 := 0#32
  let c0_i32_88 : BitVec 32 := 0#32
  ![v32.toNat, 0, 0]
def k0_dev1 (d20 : Dev nD) : Nat :=
  let c0_i32_92 : BitVec 32 := 0#32
  let v20 : BitVec 32 := Dev.word d20
  let c4_i32 : BitVec 32 := 4#32
  let v21 : BitVec 32 := Scalar.divsi v20 c4_i32
  let c2_i32 : BitVec 32 := 2#32
  let v22 : BitVec 32 := Scalar.remsi v21 c2_i32
  let c4_i32_91 : BitVec 32 := 4#32
  let v113 : BitVec 32 := Scalar.muli v22 c4_i32_91
  let v114 : BitVec 32 := Scalar.addi c0_i32_92 v113
  let v23 : BitVec 32 := Dev.word d20
  let c2_i32_11 : BitVec 32 := 2#32
  let v24 : BitVec 32 := Scalar.divsi v23 c2_i32_11
  let c2_i32_10 : BitVec 32 := 2#32
  let v25 : BitVec 32 := Scalar.remsi v24 c2_i32_10
  let c2_i32_93 : BitVec 32 := 2#32
  let v115 : BitVec 32 := Scalar.muli v25 c2_i32_93
  let v116 : BitVec 32 := Scalar.addi v114 v115
  let c1_i32_15 : BitVec 32 := 1#32
  let v26 : BitVec 32 := Dev.word d20
  let c1_i32 : BitVec 32 := 1#32
  let v27 : BitVec 32 := Scalar.divsi v26 c1_i32
  let c2_i32_12 : BitVec 32 := 2#32
  let v28 : BitVec 32 := Scalar.remsi v27 c2_i32_12
  let v33 : BitVec 32 := Scalar.subi c1_i32_15 v28
  let c1_i32_94 : BitVec 32 := 1#32
  let v117 : BitVec 32 := Scalar.muli v33 c1_i32_94
  let v118 : BitVec 32 := Scalar.addi v116 v117
  v118.toNat
def k0_dev2 (d20 : Dev nD) : Nat :=
  let c0_i32_100 : BitVec 32 := 0#32
  let v20 : BitVec 32 := Dev.word d20
  let c4_i32 : BitVec 32 := 4#32
  let v21 : BitVec 32 := Scalar.divsi v20 c4_i32
  let c2_i32 : BitVec 32 := 2#32
  let v22 : BitVec 32 := Scalar.remsi v21 c2_i32
  let c4_i32_99 : BitVec 32 := 4#32
  let v125 : BitVec 32 := Scalar.muli v22 c4_i32_99
  let v126 : BitVec 32 := Scalar.addi c0_i32_100 v125
  let c1_i32_16 : BitVec 32 := 1#32
  let v23 : BitVec 32 := Dev.word d20
  let c2_i32_11 : BitVec 32 := 2#32
  let v24 : BitVec 32 := Scalar.divsi v23 c2_i32_11
  let c2_i32_10 : BitVec 32 := 2#32
  let v25 : BitVec 32 := Scalar.remsi v24 c2_i32_10
  let v34 : BitVec 32 := Scalar.subi c1_i32_16 v25
  let c2_i32_101 : BitVec 32 := 2#32
  let v127 : BitVec 32 := Scalar.muli v34 c2_i32_101
  let v128 : BitVec 32 := Scalar.addi v126 v127
  let v26 : BitVec 32 := Dev.word d20
  let c1_i32 : BitVec 32 := 1#32
  let v27 : BitVec 32 := Scalar.divsi v26 c1_i32
  let c2_i32_12 : BitVec 32 := 2#32
  let v28 : BitVec 32 := Scalar.remsi v27 c2_i32_12
  let c1_i32_102 : BitVec 32 := 1#32
  let v129 : BitVec 32 := Scalar.muli v28 c1_i32_102
  let v130 : BitVec 32 := Scalar.addi v128 v129
  v130.toNat
def k0_dev3 (d20 : Dev nD) : Nat :=
  let c0_i32_108 : BitVec 32 := 0#32
  let v20 : BitVec 32 := Dev.word d20
  let c4_i32 : BitVec 32 := 4#32
  let v21 : BitVec 32 := Scalar.divsi v20 c4_i32
  let c2_i32 : BitVec 32 := 2#32
  let v22 : BitVec 32 := Scalar.remsi v21 c2_i32
  let c4_i32_107 : BitVec 32 := 4#32
  let v137 : BitVec 32 := Scalar.muli v22 c4_i32_107
  let v138 : BitVec 32 := Scalar.addi c0_i32_108 v137
  let c1_i32_17 : BitVec 32 := 1#32
  let v23 : BitVec 32 := Dev.word d20
  let c2_i32_11 : BitVec 32 := 2#32
  let v24 : BitVec 32 := Scalar.divsi v23 c2_i32_11
  let c2_i32_10 : BitVec 32 := 2#32
  let v25 : BitVec 32 := Scalar.remsi v24 c2_i32_10
  let v35 : BitVec 32 := Scalar.subi c1_i32_17 v25
  let c2_i32_109 : BitVec 32 := 2#32
  let v139 : BitVec 32 := Scalar.muli v35 c2_i32_109
  let v140 : BitVec 32 := Scalar.addi v138 v139
  let c1_i32_18 : BitVec 32 := 1#32
  let v26 : BitVec 32 := Dev.word d20
  let c1_i32 : BitVec 32 := 1#32
  let v27 : BitVec 32 := Scalar.divsi v26 c1_i32
  let c2_i32_12 : BitVec 32 := 2#32
  let v28 : BitVec 32 := Scalar.remsi v27 c2_i32_12
  let v36 : BitVec 32 := Scalar.subi c1_i32_18 v28
  let c1_i32_110 : BitVec 32 := 1#32
  let v141 : BitVec 32 := Scalar.muli v36 c1_i32_110
  let v142 : BitVec 32 := Scalar.addi v140 v141
  v142.toNat
def k0_dev4 (d20 : Dev nD) : Nat :=
  let c0_i32_116 : BitVec 32 := 0#32
  let c1_i32_19 : BitVec 32 := 1#32
  let v20 : BitVec 32 := Dev.word d20
  let c4_i32 : BitVec 32 := 4#32
  let v21 : BitVec 32 := Scalar.divsi v20 c4_i32
  let c2_i32 : BitVec 32 := 2#32
  let v22 : BitVec 32 := Scalar.remsi v21 c2_i32
  let v37 : BitVec 32 := Scalar.subi c1_i32_19 v22
  let c4_i32_115 : BitVec 32 := 4#32
  let v149 : BitVec 32 := Scalar.muli v37 c4_i32_115
  let v150 : BitVec 32 := Scalar.addi c0_i32_116 v149
  let v23 : BitVec 32 := Dev.word d20
  let c2_i32_11 : BitVec 32 := 2#32
  let v24 : BitVec 32 := Scalar.divsi v23 c2_i32_11
  let c2_i32_10 : BitVec 32 := 2#32
  let v25 : BitVec 32 := Scalar.remsi v24 c2_i32_10
  let c2_i32_117 : BitVec 32 := 2#32
  let v151 : BitVec 32 := Scalar.muli v25 c2_i32_117
  let v152 : BitVec 32 := Scalar.addi v150 v151
  let v26 : BitVec 32 := Dev.word d20
  let c1_i32 : BitVec 32 := 1#32
  let v27 : BitVec 32 := Scalar.divsi v26 c1_i32
  let c2_i32_12 : BitVec 32 := 2#32
  let v28 : BitVec 32 := Scalar.remsi v27 c2_i32_12
  let c1_i32_118 : BitVec 32 := 1#32
  let v153 : BitVec 32 := Scalar.muli v28 c1_i32_118
  let v154 : BitVec 32 := Scalar.addi v152 v153
  v154.toNat
def k0_dev5 (d20 : Dev nD) : Nat :=
  let c0_i32_124 : BitVec 32 := 0#32
  let c1_i32_20 : BitVec 32 := 1#32
  let v20 : BitVec 32 := Dev.word d20
  let c4_i32 : BitVec 32 := 4#32
  let v21 : BitVec 32 := Scalar.divsi v20 c4_i32
  let c2_i32 : BitVec 32 := 2#32
  let v22 : BitVec 32 := Scalar.remsi v21 c2_i32
  let v38 : BitVec 32 := Scalar.subi c1_i32_20 v22
  let c4_i32_123 : BitVec 32 := 4#32
  let v161 : BitVec 32 := Scalar.muli v38 c4_i32_123
  let v162 : BitVec 32 := Scalar.addi c0_i32_124 v161
  let v23 : BitVec 32 := Dev.word d20
  let c2_i32_11 : BitVec 32 := 2#32
  let v24 : BitVec 32 := Scalar.divsi v23 c2_i32_11
  let c2_i32_10 : BitVec 32 := 2#32
  let v25 : BitVec 32 := Scalar.remsi v24 c2_i32_10
  let c2_i32_125 : BitVec 32 := 2#32
  let v163 : BitVec 32 := Scalar.muli v25 c2_i32_125
  let v164 : BitVec 32 := Scalar.addi v162 v163
  let c1_i32_21 : BitVec 32 := 1#32
  let v26 : BitVec 32 := Dev.word d20
  let c1_i32 : BitVec 32 := 1#32
  let v27 : BitVec 32 := Scalar.divsi v26 c1_i32
  let c2_i32_12 : BitVec 32 := 2#32
  let v28 : BitVec 32 := Scalar.remsi v27 c2_i32_12
  let v39 : BitVec 32 := Scalar.subi c1_i32_21 v28
  let c1_i32_126 : BitVec 32 := 1#32
  let v165 : BitVec 32 := Scalar.muli v39 c1_i32_126
  let v166 : BitVec 32 := Scalar.addi v164 v165
  v166.toNat
def k0_dev6 (d20 : Dev nD) : Nat :=
  let c0_i32_131 : BitVec 32 := 0#32
  let c1_i32_22 : BitVec 32 := 1#32
  let v20 : BitVec 32 := Dev.word d20
  let c4_i32 : BitVec 32 := 4#32
  let v21 : BitVec 32 := Scalar.divsi v20 c4_i32
  let c2_i32 : BitVec 32 := 2#32
  let v22 : BitVec 32 := Scalar.remsi v21 c2_i32
  let v40 : BitVec 32 := Scalar.subi c1_i32_22 v22
  let c4_i32_130 : BitVec 32 := 4#32
  let v173 : BitVec 32 := Scalar.muli v40 c4_i32_130
  let v174 : BitVec 32 := Scalar.addi c0_i32_131 v173
  let c1_i32_23 : BitVec 32 := 1#32
  let v23 : BitVec 32 := Dev.word d20
  let c2_i32_11 : BitVec 32 := 2#32
  let v24 : BitVec 32 := Scalar.divsi v23 c2_i32_11
  let c2_i32_10 : BitVec 32 := 2#32
  let v25 : BitVec 32 := Scalar.remsi v24 c2_i32_10
  let v41 : BitVec 32 := Scalar.subi c1_i32_23 v25
  let c2_i32_132 : BitVec 32 := 2#32
  let v175 : BitVec 32 := Scalar.muli v41 c2_i32_132
  let v176 : BitVec 32 := Scalar.addi v174 v175
  let v26 : BitVec 32 := Dev.word d20
  let c1_i32 : BitVec 32 := 1#32
  let v27 : BitVec 32 := Scalar.divsi v26 c1_i32
  let c2_i32_12 : BitVec 32 := 2#32
  let v28 : BitVec 32 := Scalar.remsi v27 c2_i32_12
  let c1_i32_133 : BitVec 32 := 1#32
  let v177 : BitVec 32 := Scalar.muli v28 c1_i32_133
  let v178 : BitVec 32 := Scalar.addi v176 v177
  v178.toNat
def k0_dev7 (d20 : Dev nD) : Nat :=
  let c0_i32_138 : BitVec 32 := 0#32
  let c1_i32_24 : BitVec 32 := 1#32
  let v20 : BitVec 32 := Dev.word d20
  let c4_i32 : BitVec 32 := 4#32
  let v21 : BitVec 32 := Scalar.divsi v20 c4_i32
  let c2_i32 : BitVec 32 := 2#32
  let v22 : BitVec 32 := Scalar.remsi v21 c2_i32
  let v42 : BitVec 32 := Scalar.subi c1_i32_24 v22
  let c4_i32_137 : BitVec 32 := 4#32
  let v185 : BitVec 32 := Scalar.muli v42 c4_i32_137
  let v186 : BitVec 32 := Scalar.addi c0_i32_138 v185
  let c1_i32_25 : BitVec 32 := 1#32
  let v23 : BitVec 32 := Dev.word d20
  let c2_i32_11 : BitVec 32 := 2#32
  let v24 : BitVec 32 := Scalar.divsi v23 c2_i32_11
  let c2_i32_10 : BitVec 32 := 2#32
  let v25 : BitVec 32 := Scalar.remsi v24 c2_i32_10
  let v43 : BitVec 32 := Scalar.subi c1_i32_25 v25
  let c2_i32_139 : BitVec 32 := 2#32
  let v187 : BitVec 32 := Scalar.muli v43 c2_i32_139
  let v188 : BitVec 32 := Scalar.addi v186 v187
  let c1_i32_26 : BitVec 32 := 1#32
  let v26 : BitVec 32 := Dev.word d20
  let c1_i32 : BitVec 32 := 1#32
  let v27 : BitVec 32 := Scalar.divsi v26 c1_i32
  let c2_i32_12 : BitVec 32 := 2#32
  let v28 : BitVec 32 := Scalar.remsi v27 c2_i32_12
  let v44 : BitVec 32 := Scalar.subi c1_i32_26 v28
  let c1_i32_140 : BitVec 32 := 1#32
  let v189 : BitVec 32 := Scalar.muli v44 c1_i32_140
  let v190 : BitVec 32 := Scalar.addi v188 v189
  v190.toNat
def k0_dev8 (d20 : Dev nD) : Nat :=
  let c0_i32_146 : BitVec 32 := 0#32
  let v20 : BitVec 32 := Dev.word d20
  let c4_i32 : BitVec 32 := 4#32
  let v21 : BitVec 32 := Scalar.divsi v20 c4_i32
  let c2_i32 : BitVec 32 := 2#32
  let v22 : BitVec 32 := Scalar.remsi v21 c2_i32
  let c4_i32_145 : BitVec 32 := 4#32
  let v197 : BitVec 32 := Scalar.muli v22 c4_i32_145
  let v198 : BitVec 32 := Scalar.addi c0_i32_146 v197
  let v23 : BitVec 32 := Dev.word d20
  let c2_i32_11 : BitVec 32 := 2#32
  let v24 : BitVec 32 := Scalar.divsi v23 c2_i32_11
  let c2_i32_10 : BitVec 32 := 2#32
  let v25 : BitVec 32 := Scalar.remsi v24 c2_i32_10
  let c2_i32_147 : BitVec 32 := 2#32
  let v199 : BitVec 32 := Scalar.muli v25 c2_i32_147
  let v200 : BitVec 32 := Scalar.addi v198 v199
  let c1_i32_27 : BitVec 32 := 1#32
  let v26 : BitVec 32 := Dev.word d20
  let c1_i32 : BitVec 32 := 1#32
  let v27 : BitVec 32 := Scalar.divsi v26 c1_i32
  let c2_i32_12 : BitVec 32 := 2#32
  let v28 : BitVec 32 := Scalar.remsi v27 c2_i32_12
  let v45 : BitVec 32 := Scalar.subi c1_i32_27 v28
  let c1_i32_148 : BitVec 32 := 1#32
  let v201 : BitVec 32 := Scalar.muli v45 c1_i32_148
  let v202 : BitVec 32 := Scalar.addi v200 v201
  v202.toNat
def k0_dev9 (d20 : Dev nD) : Nat :=
  let c0_i32_153 : BitVec 32 := 0#32
  let v20 : BitVec 32 := Dev.word d20
  let c4_i32 : BitVec 32 := 4#32
  let v21 : BitVec 32 := Scalar.divsi v20 c4_i32
  let c2_i32 : BitVec 32 := 2#32
  let v22 : BitVec 32 := Scalar.remsi v21 c2_i32
  let c4_i32_152 : BitVec 32 := 4#32
  let v209 : BitVec 32 := Scalar.muli v22 c4_i32_152
  let v210 : BitVec 32 := Scalar.addi c0_i32_153 v209
  let c1_i32_28 : BitVec 32 := 1#32
  let v23 : BitVec 32 := Dev.word d20
  let c2_i32_11 : BitVec 32 := 2#32
  let v24 : BitVec 32 := Scalar.divsi v23 c2_i32_11
  let c2_i32_10 : BitVec 32 := 2#32
  let v25 : BitVec 32 := Scalar.remsi v24 c2_i32_10
  let v46 : BitVec 32 := Scalar.subi c1_i32_28 v25
  let c2_i32_154 : BitVec 32 := 2#32
  let v211 : BitVec 32 := Scalar.muli v46 c2_i32_154
  let v212 : BitVec 32 := Scalar.addi v210 v211
  let v26 : BitVec 32 := Dev.word d20
  let c1_i32 : BitVec 32 := 1#32
  let v27 : BitVec 32 := Scalar.divsi v26 c1_i32
  let c2_i32_12 : BitVec 32 := 2#32
  let v28 : BitVec 32 := Scalar.remsi v27 c2_i32_12
  let c1_i32_155 : BitVec 32 := 1#32
  let v213 : BitVec 32 := Scalar.muli v28 c1_i32_155
  let v214 : BitVec 32 := Scalar.addi v212 v213
  v214.toNat
def k0_dev10 (d20 : Dev nD) : Nat :=
  let c0_i32_160 : BitVec 32 := 0#32
  let v20 : BitVec 32 := Dev.word d20
  let c4_i32 : BitVec 32 := 4#32
  let v21 : BitVec 32 := Scalar.divsi v20 c4_i32
  let c2_i32 : BitVec 32 := 2#32
  let v22 : BitVec 32 := Scalar.remsi v21 c2_i32
  let c4_i32_159 : BitVec 32 := 4#32
  let v221 : BitVec 32 := Scalar.muli v22 c4_i32_159
  let v222 : BitVec 32 := Scalar.addi c0_i32_160 v221
  let c1_i32_29 : BitVec 32 := 1#32
  let v23 : BitVec 32 := Dev.word d20
  let c2_i32_11 : BitVec 32 := 2#32
  let v24 : BitVec 32 := Scalar.divsi v23 c2_i32_11
  let c2_i32_10 : BitVec 32 := 2#32
  let v25 : BitVec 32 := Scalar.remsi v24 c2_i32_10
  let v47 : BitVec 32 := Scalar.subi c1_i32_29 v25
  let c2_i32_161 : BitVec 32 := 2#32
  let v223 : BitVec 32 := Scalar.muli v47 c2_i32_161
  let v224 : BitVec 32 := Scalar.addi v222 v223
  let c1_i32_30 : BitVec 32 := 1#32
  let v26 : BitVec 32 := Dev.word d20
  let c1_i32 : BitVec 32 := 1#32
  let v27 : BitVec 32 := Scalar.divsi v26 c1_i32
  let c2_i32_12 : BitVec 32 := 2#32
  let v28 : BitVec 32 := Scalar.remsi v27 c2_i32_12
  let v48 : BitVec 32 := Scalar.subi c1_i32_30 v28
  let c1_i32_162 : BitVec 32 := 1#32
  let v225 : BitVec 32 := Scalar.muli v48 c1_i32_162
  let v226 : BitVec 32 := Scalar.addi v224 v225
  v226.toNat
def k0_dev11 (d20 : Dev nD) : Nat :=
  let c0_i32_167 : BitVec 32 := 0#32
  let c1_i32_31 : BitVec 32 := 1#32
  let v20 : BitVec 32 := Dev.word d20
  let c4_i32 : BitVec 32 := 4#32
  let v21 : BitVec 32 := Scalar.divsi v20 c4_i32
  let c2_i32 : BitVec 32 := 2#32
  let v22 : BitVec 32 := Scalar.remsi v21 c2_i32
  let v49 : BitVec 32 := Scalar.subi c1_i32_31 v22
  let c4_i32_166 : BitVec 32 := 4#32
  let v233 : BitVec 32 := Scalar.muli v49 c4_i32_166
  let v234 : BitVec 32 := Scalar.addi c0_i32_167 v233
  let v23 : BitVec 32 := Dev.word d20
  let c2_i32_11 : BitVec 32 := 2#32
  let v24 : BitVec 32 := Scalar.divsi v23 c2_i32_11
  let c2_i32_10 : BitVec 32 := 2#32
  let v25 : BitVec 32 := Scalar.remsi v24 c2_i32_10
  let c2_i32_168 : BitVec 32 := 2#32
  let v235 : BitVec 32 := Scalar.muli v25 c2_i32_168
  let v236 : BitVec 32 := Scalar.addi v234 v235
  let v26 : BitVec 32 := Dev.word d20
  let c1_i32 : BitVec 32 := 1#32
  let v27 : BitVec 32 := Scalar.divsi v26 c1_i32
  let c2_i32_12 : BitVec 32 := 2#32
  let v28 : BitVec 32 := Scalar.remsi v27 c2_i32_12
  let c1_i32_169 : BitVec 32 := 1#32
  let v237 : BitVec 32 := Scalar.muli v28 c1_i32_169
  let v238 : BitVec 32 := Scalar.addi v236 v237
  v238.toNat
def k0_dev12 (d20 : Dev nD) : Nat :=
  let c0_i32_174 : BitVec 32 := 0#32
  let c1_i32_32 : BitVec 32 := 1#32
  let v20 : BitVec 32 := Dev.word d20
  let c4_i32 : BitVec 32 := 4#32
  let v21 : BitVec 32 := Scalar.divsi v20 c4_i32
  let c2_i32 : BitVec 32 := 2#32
  let v22 : BitVec 32 := Scalar.remsi v21 c2_i32
  let v50 : BitVec 32 := Scalar.subi c1_i32_32 v22
  let c4_i32_173 : BitVec 32 := 4#32
  let v245 : BitVec 32 := Scalar.muli v50 c4_i32_173
  let v246 : BitVec 32 := Scalar.addi c0_i32_174 v245
  let v23 : BitVec 32 := Dev.word d20
  let c2_i32_11 : BitVec 32 := 2#32
  let v24 : BitVec 32 := Scalar.divsi v23 c2_i32_11
  let c2_i32_10 : BitVec 32 := 2#32
  let v25 : BitVec 32 := Scalar.remsi v24 c2_i32_10
  let c2_i32_175 : BitVec 32 := 2#32
  let v247 : BitVec 32 := Scalar.muli v25 c2_i32_175
  let v248 : BitVec 32 := Scalar.addi v246 v247
  let c1_i32_33 : BitVec 32 := 1#32
  let v26 : BitVec 32 := Dev.word d20
  let c1_i32 : BitVec 32 := 1#32
  let v27 : BitVec 32 := Scalar.divsi v26 c1_i32
  let c2_i32_12 : BitVec 32 := 2#32
  let v28 : BitVec 32 := Scalar.remsi v27 c2_i32_12
  let v51 : BitVec 32 := Scalar.subi c1_i32_33 v28
  let c1_i32_176 : BitVec 32 := 1#32
  let v249 : BitVec 32 := Scalar.muli v51 c1_i32_176
  let v250 : BitVec 32 := Scalar.addi v248 v249
  v250.toNat
def k0_dev13 (d20 : Dev nD) : Nat :=
  let c0_i32_182 : BitVec 32 := 0#32
  let c1_i32_34 : BitVec 32 := 1#32
  let v20 : BitVec 32 := Dev.word d20
  let c4_i32 : BitVec 32 := 4#32
  let v21 : BitVec 32 := Scalar.divsi v20 c4_i32
  let c2_i32 : BitVec 32 := 2#32
  let v22 : BitVec 32 := Scalar.remsi v21 c2_i32
  let v52 : BitVec 32 := Scalar.subi c1_i32_34 v22
  let c4_i32_181 : BitVec 32 := 4#32
  let v257 : BitVec 32 := Scalar.muli v52 c4_i32_181
  let v258 : BitVec 32 := Scalar.addi c0_i32_182 v257
  let c1_i32_35 : BitVec 32 := 1#32
  let v23 : BitVec 32 := Dev.word d20
  let c2_i32_11 : BitVec 32 := 2#32
  let v24 : BitVec 32 := Scalar.divsi v23 c2_i32_11
  let c2_i32_10 : BitVec 32 := 2#32
  let v25 : BitVec 32 := Scalar.remsi v24 c2_i32_10
  let v53 : BitVec 32 := Scalar.subi c1_i32_35 v25
  let c2_i32_183 : BitVec 32 := 2#32
  let v259 : BitVec 32 := Scalar.muli v53 c2_i32_183
  let v260 : BitVec 32 := Scalar.addi v258 v259
  let v26 : BitVec 32 := Dev.word d20
  let c1_i32 : BitVec 32 := 1#32
  let v27 : BitVec 32 := Scalar.divsi v26 c1_i32
  let c2_i32_12 : BitVec 32 := 2#32
  let v28 : BitVec 32 := Scalar.remsi v27 c2_i32_12
  let c1_i32_184 : BitVec 32 := 1#32
  let v261 : BitVec 32 := Scalar.muli v28 c1_i32_184
  let v262 : BitVec 32 := Scalar.addi v260 v261
  v262.toNat
def k0_dev14 (d20 : Dev nD) : Nat :=
  let c0_i32_189 : BitVec 32 := 0#32
  let c1_i32_36 : BitVec 32 := 1#32
  let v20 : BitVec 32 := Dev.word d20
  let c4_i32 : BitVec 32 := 4#32
  let v21 : BitVec 32 := Scalar.divsi v20 c4_i32
  let c2_i32 : BitVec 32 := 2#32
  let v22 : BitVec 32 := Scalar.remsi v21 c2_i32
  let v54 : BitVec 32 := Scalar.subi c1_i32_36 v22
  let c4_i32_188 : BitVec 32 := 4#32
  let v269 : BitVec 32 := Scalar.muli v54 c4_i32_188
  let v270 : BitVec 32 := Scalar.addi c0_i32_189 v269
  let c1_i32_37 : BitVec 32 := 1#32
  let v23 : BitVec 32 := Dev.word d20
  let c2_i32_11 : BitVec 32 := 2#32
  let v24 : BitVec 32 := Scalar.divsi v23 c2_i32_11
  let c2_i32_10 : BitVec 32 := 2#32
  let v25 : BitVec 32 := Scalar.remsi v24 c2_i32_10
  let v55 : BitVec 32 := Scalar.subi c1_i32_37 v25
  let c2_i32_190 : BitVec 32 := 2#32
  let v271 : BitVec 32 := Scalar.muli v55 c2_i32_190
  let v272 : BitVec 32 := Scalar.addi v270 v271
  let c1_i32_38 : BitVec 32 := 1#32
  let v26 : BitVec 32 := Dev.word d20
  let c1_i32 : BitVec 32 := 1#32
  let v27 : BitVec 32 := Scalar.divsi v26 c1_i32
  let c2_i32_12 : BitVec 32 := 2#32
  let v28 : BitVec 32 := Scalar.remsi v27 c2_i32_12
  let v56 : BitVec 32 := Scalar.subi c1_i32_38 v28
  let c1_i32_191 : BitVec 32 := 1#32
  let v273 : BitVec 32 := Scalar.muli v56 c1_i32_191
  let v274 : BitVec 32 := Scalar.addi v272 v273
  v274.toNat
def k0_dev15 (d20 : Dev nD) : Nat :=
  let c0_i32_196 : BitVec 32 := 0#32
  let v20 : BitVec 32 := Dev.word d20
  let c4_i32 : BitVec 32 := 4#32
  let v21 : BitVec 32 := Scalar.divsi v20 c4_i32
  let c2_i32 : BitVec 32 := 2#32
  let v22 : BitVec 32 := Scalar.remsi v21 c2_i32
  let c4_i32_195 : BitVec 32 := 4#32
  let v281 : BitVec 32 := Scalar.muli v22 c4_i32_195
  let v282 : BitVec 32 := Scalar.addi c0_i32_196 v281
  let v23 : BitVec 32 := Dev.word d20
  let c2_i32_11 : BitVec 32 := 2#32
  let v24 : BitVec 32 := Scalar.divsi v23 c2_i32_11
  let c2_i32_10 : BitVec 32 := 2#32
  let v25 : BitVec 32 := Scalar.remsi v24 c2_i32_10
  let c2_i32_197 : BitVec 32 := 2#32
  let v283 : BitVec 32 := Scalar.muli v25 c2_i32_197
  let v284 : BitVec 32 := Scalar.addi v282 v283
  let c1_i32_39 : BitVec 32 := 1#32
  let v26 : BitVec 32 := Dev.word d20
  let c1_i32 : BitVec 32 := 1#32
  let v27 : BitVec 32 := Scalar.divsi v26 c1_i32
  let c2_i32_12 : BitVec 32 := 2#32
  let v28 : BitVec 32 := Scalar.remsi v27 c2_i32_12
  let v57 : BitVec 32 := Scalar.subi c1_i32_39 v28
  let c1_i32_198 : BitVec 32 := 1#32
  let v285 : BitVec 32 := Scalar.muli v57 c1_i32_198
  let v286 : BitVec 32 := Scalar.addi v284 v285
  v286.toNat
def k0_dev16 (d20 : Dev nD) : Nat :=
  let c0_i32_203 : BitVec 32 := 0#32
  let v20 : BitVec 32 := Dev.word d20
  let c4_i32 : BitVec 32 := 4#32
  let v21 : BitVec 32 := Scalar.divsi v20 c4_i32
  let c2_i32 : BitVec 32 := 2#32
  let v22 : BitVec 32 := Scalar.remsi v21 c2_i32
  let c4_i32_202 : BitVec 32 := 4#32
  let v293 : BitVec 32 := Scalar.muli v22 c4_i32_202
  let v294 : BitVec 32 := Scalar.addi c0_i32_203 v293
  let c1_i32_40 : BitVec 32 := 1#32
  let v23 : BitVec 32 := Dev.word d20
  let c2_i32_11 : BitVec 32 := 2#32
  let v24 : BitVec 32 := Scalar.divsi v23 c2_i32_11
  let c2_i32_10 : BitVec 32 := 2#32
  let v25 : BitVec 32 := Scalar.remsi v24 c2_i32_10
  let v58 : BitVec 32 := Scalar.subi c1_i32_40 v25
  let c2_i32_204 : BitVec 32 := 2#32
  let v295 : BitVec 32 := Scalar.muli v58 c2_i32_204
  let v296 : BitVec 32 := Scalar.addi v294 v295
  let v26 : BitVec 32 := Dev.word d20
  let c1_i32 : BitVec 32 := 1#32
  let v27 : BitVec 32 := Scalar.divsi v26 c1_i32
  let c2_i32_12 : BitVec 32 := 2#32
  let v28 : BitVec 32 := Scalar.remsi v27 c2_i32_12
  let c1_i32_205 : BitVec 32 := 1#32
  let v297 : BitVec 32 := Scalar.muli v28 c1_i32_205
  let v298 : BitVec 32 := Scalar.addi v296 v297
  v298.toNat
def k0_dev17 (d20 : Dev nD) : Nat :=
  let c0_i32_210 : BitVec 32 := 0#32
  let v20 : BitVec 32 := Dev.word d20
  let c4_i32 : BitVec 32 := 4#32
  let v21 : BitVec 32 := Scalar.divsi v20 c4_i32
  let c2_i32 : BitVec 32 := 2#32
  let v22 : BitVec 32 := Scalar.remsi v21 c2_i32
  let c4_i32_209 : BitVec 32 := 4#32
  let v305 : BitVec 32 := Scalar.muli v22 c4_i32_209
  let v306 : BitVec 32 := Scalar.addi c0_i32_210 v305
  let c1_i32_41 : BitVec 32 := 1#32
  let v23 : BitVec 32 := Dev.word d20
  let c2_i32_11 : BitVec 32 := 2#32
  let v24 : BitVec 32 := Scalar.divsi v23 c2_i32_11
  let c2_i32_10 : BitVec 32 := 2#32
  let v25 : BitVec 32 := Scalar.remsi v24 c2_i32_10
  let v59 : BitVec 32 := Scalar.subi c1_i32_41 v25
  let c2_i32_211 : BitVec 32 := 2#32
  let v307 : BitVec 32 := Scalar.muli v59 c2_i32_211
  let v308 : BitVec 32 := Scalar.addi v306 v307
  let c1_i32_42 : BitVec 32 := 1#32
  let v26 : BitVec 32 := Dev.word d20
  let c1_i32 : BitVec 32 := 1#32
  let v27 : BitVec 32 := Scalar.divsi v26 c1_i32
  let c2_i32_12 : BitVec 32 := 2#32
  let v28 : BitVec 32 := Scalar.remsi v27 c2_i32_12
  let v60 : BitVec 32 := Scalar.subi c1_i32_42 v28
  let c1_i32_212 : BitVec 32 := 1#32
  let v309 : BitVec 32 := Scalar.muli v60 c1_i32_212
  let v310 : BitVec 32 := Scalar.addi v308 v309
  v310.toNat
def k0_dev18 (d20 : Dev nD) : Nat :=
  let c0_i32_217 : BitVec 32 := 0#32
  let c1_i32_43 : BitVec 32 := 1#32
  let v20 : BitVec 32 := Dev.word d20
  let c4_i32 : BitVec 32 := 4#32
  let v21 : BitVec 32 := Scalar.divsi v20 c4_i32
  let c2_i32 : BitVec 32 := 2#32
  let v22 : BitVec 32 := Scalar.remsi v21 c2_i32
  let v61 : BitVec 32 := Scalar.subi c1_i32_43 v22
  let c4_i32_216 : BitVec 32 := 4#32
  let v317 : BitVec 32 := Scalar.muli v61 c4_i32_216
  let v318 : BitVec 32 := Scalar.addi c0_i32_217 v317
  let v23 : BitVec 32 := Dev.word d20
  let c2_i32_11 : BitVec 32 := 2#32
  let v24 : BitVec 32 := Scalar.divsi v23 c2_i32_11
  let c2_i32_10 : BitVec 32 := 2#32
  let v25 : BitVec 32 := Scalar.remsi v24 c2_i32_10
  let c2_i32_218 : BitVec 32 := 2#32
  let v319 : BitVec 32 := Scalar.muli v25 c2_i32_218
  let v320 : BitVec 32 := Scalar.addi v318 v319
  let v26 : BitVec 32 := Dev.word d20
  let c1_i32 : BitVec 32 := 1#32
  let v27 : BitVec 32 := Scalar.divsi v26 c1_i32
  let c2_i32_12 : BitVec 32 := 2#32
  let v28 : BitVec 32 := Scalar.remsi v27 c2_i32_12
  let c1_i32_219 : BitVec 32 := 1#32
  let v321 : BitVec 32 := Scalar.muli v28 c1_i32_219
  let v322 : BitVec 32 := Scalar.addi v320 v321
  v322.toNat
def k0_dev19 (d20 : Dev nD) : Nat :=
  let c0_i32_224 : BitVec 32 := 0#32
  let c1_i32_44 : BitVec 32 := 1#32
  let v20 : BitVec 32 := Dev.word d20
  let c4_i32 : BitVec 32 := 4#32
  let v21 : BitVec 32 := Scalar.divsi v20 c4_i32
  let c2_i32 : BitVec 32 := 2#32
  let v22 : BitVec 32 := Scalar.remsi v21 c2_i32
  let v62 : BitVec 32 := Scalar.subi c1_i32_44 v22
  let c4_i32_223 : BitVec 32 := 4#32
  let v329 : BitVec 32 := Scalar.muli v62 c4_i32_223
  let v330 : BitVec 32 := Scalar.addi c0_i32_224 v329
  let v23 : BitVec 32 := Dev.word d20
  let c2_i32_11 : BitVec 32 := 2#32
  let v24 : BitVec 32 := Scalar.divsi v23 c2_i32_11
  let c2_i32_10 : BitVec 32 := 2#32
  let v25 : BitVec 32 := Scalar.remsi v24 c2_i32_10
  let c2_i32_225 : BitVec 32 := 2#32
  let v331 : BitVec 32 := Scalar.muli v25 c2_i32_225
  let v332 : BitVec 32 := Scalar.addi v330 v331
  let c1_i32_45 : BitVec 32 := 1#32
  let v26 : BitVec 32 := Dev.word d20
  let c1_i32 : BitVec 32 := 1#32
  let v27 : BitVec 32 := Scalar.divsi v26 c1_i32
  let c2_i32_12 : BitVec 32 := 2#32
  let v28 : BitVec 32 := Scalar.remsi v27 c2_i32_12
  let v63 : BitVec 32 := Scalar.subi c1_i32_45 v28
  let c1_i32_226 : BitVec 32 := 1#32
  let v333 : BitVec 32 := Scalar.muli v63 c1_i32_226
  let v334 : BitVec 32 := Scalar.addi v332 v333
  v334.toNat
def k0_dev20 (d20 : Dev nD) : Nat :=
  let c0_i32_231 : BitVec 32 := 0#32
  let c1_i32_46 : BitVec 32 := 1#32
  let v20 : BitVec 32 := Dev.word d20
  let c4_i32 : BitVec 32 := 4#32
  let v21 : BitVec 32 := Scalar.divsi v20 c4_i32
  let c2_i32 : BitVec 32 := 2#32
  let v22 : BitVec 32 := Scalar.remsi v21 c2_i32
  let v64 : BitVec 32 := Scalar.subi c1_i32_46 v22
  let c4_i32_230 : BitVec 32 := 4#32
  let v341 : BitVec 32 := Scalar.muli v64 c4_i32_230
  let v342 : BitVec 32 := Scalar.addi c0_i32_231 v341
  let c1_i32_47 : BitVec 32 := 1#32
  let v23 : BitVec 32 := Dev.word d20
  let c2_i32_11 : BitVec 32 := 2#32
  let v24 : BitVec 32 := Scalar.divsi v23 c2_i32_11
  let c2_i32_10 : BitVec 32 := 2#32
  let v25 : BitVec 32 := Scalar.remsi v24 c2_i32_10
  let v65 : BitVec 32 := Scalar.subi c1_i32_47 v25
  let c2_i32_232 : BitVec 32 := 2#32
  let v343 : BitVec 32 := Scalar.muli v65 c2_i32_232
  let v344 : BitVec 32 := Scalar.addi v342 v343
  let v26 : BitVec 32 := Dev.word d20
  let c1_i32 : BitVec 32 := 1#32
  let v27 : BitVec 32 := Scalar.divsi v26 c1_i32
  let c2_i32_12 : BitVec 32 := 2#32
  let v28 : BitVec 32 := Scalar.remsi v27 c2_i32_12
  let c1_i32_233 : BitVec 32 := 1#32
  let v345 : BitVec 32 := Scalar.muli v28 c1_i32_233
  let v346 : BitVec 32 := Scalar.addi v344 v345
  v346.toNat
def k0_dev21 (d20 : Dev nD) : Nat :=
  let c0_i32_238 : BitVec 32 := 0#32
  let c1_i32_48 : BitVec 32 := 1#32
  let v20 : BitVec 32 := Dev.word d20
  let c4_i32 : BitVec 32 := 4#32
  let v21 : BitVec 32 := Scalar.divsi v20 c4_i32
  let c2_i32 : BitVec 32 := 2#32
  let v22 : BitVec 32 := Scalar.remsi v21 c2_i32
  let v66 : BitVec 32 := Scalar.subi c1_i32_48 v22
  let c4_i32_237 : BitVec 32 := 4#32
  let v353 : BitVec 32 := Scalar.muli v66 c4_i32_237
  let v354 : BitVec 32 := Scalar.addi c0_i32_238 v353
  let c1_i32_49 : BitVec 32 := 1#32
  let v23 : BitVec 32 := Dev.word d20
  let c2_i32_11 : BitVec 32 := 2#32
  let v24 : BitVec 32 := Scalar.divsi v23 c2_i32_11
  let c2_i32_10 : BitVec 32 := 2#32
  let v25 : BitVec 32 := Scalar.remsi v24 c2_i32_10
  let v67 : BitVec 32 := Scalar.subi c1_i32_49 v25
  let c2_i32_239 : BitVec 32 := 2#32
  let v355 : BitVec 32 := Scalar.muli v67 c2_i32_239
  let v356 : BitVec 32 := Scalar.addi v354 v355
  let c1_i32_50 : BitVec 32 := 1#32
  let v26 : BitVec 32 := Dev.word d20
  let c1_i32 : BitVec 32 := 1#32
  let v27 : BitVec 32 := Scalar.divsi v26 c1_i32
  let c2_i32_12 : BitVec 32 := 2#32
  let v28 : BitVec 32 := Scalar.remsi v27 c2_i32_12
  let v68 : BitVec 32 := Scalar.subi c1_i32_50 v28
  let c1_i32_240 : BitVec 32 := 1#32
  let v357 : BitVec 32 := Scalar.muli v68 c1_i32_240
  let v358 : BitVec 32 := Scalar.addi v356 v357
  v358.toNat
def k0_dev22 (d20 : Dev nD) : Nat :=
  let c0_i32_245 : BitVec 32 := 0#32
  let v20 : BitVec 32 := Dev.word d20
  let c4_i32 : BitVec 32 := 4#32
  let v21 : BitVec 32 := Scalar.divsi v20 c4_i32
  let c2_i32 : BitVec 32 := 2#32
  let v22 : BitVec 32 := Scalar.remsi v21 c2_i32
  let c4_i32_244 : BitVec 32 := 4#32
  let v365 : BitVec 32 := Scalar.muli v22 c4_i32_244
  let v366 : BitVec 32 := Scalar.addi c0_i32_245 v365
  let v23 : BitVec 32 := Dev.word d20
  let c2_i32_11 : BitVec 32 := 2#32
  let v24 : BitVec 32 := Scalar.divsi v23 c2_i32_11
  let c2_i32_10 : BitVec 32 := 2#32
  let v25 : BitVec 32 := Scalar.remsi v24 c2_i32_10
  let c2_i32_246 : BitVec 32 := 2#32
  let v367 : BitVec 32 := Scalar.muli v25 c2_i32_246
  let v368 : BitVec 32 := Scalar.addi v366 v367
  let c1_i32_51 : BitVec 32 := 1#32
  let v26 : BitVec 32 := Dev.word d20
  let c1_i32 : BitVec 32 := 1#32
  let v27 : BitVec 32 := Scalar.divsi v26 c1_i32
  let c2_i32_12 : BitVec 32 := 2#32
  let v28 : BitVec 32 := Scalar.remsi v27 c2_i32_12
  let v69 : BitVec 32 := Scalar.subi c1_i32_51 v28
  let c1_i32_247 : BitVec 32 := 1#32
  let v369 : BitVec 32 := Scalar.muli v69 c1_i32_247
  let v370 : BitVec 32 := Scalar.addi v368 v369
  v370.toNat
def k0_dev23 (d20 : Dev nD) : Nat :=
  let c0_i32_252 : BitVec 32 := 0#32
  let v20 : BitVec 32 := Dev.word d20
  let c4_i32 : BitVec 32 := 4#32
  let v21 : BitVec 32 := Scalar.divsi v20 c4_i32
  let c2_i32 : BitVec 32 := 2#32
  let v22 : BitVec 32 := Scalar.remsi v21 c2_i32
  let c4_i32_251 : BitVec 32 := 4#32
  let v377 : BitVec 32 := Scalar.muli v22 c4_i32_251
  let v378 : BitVec 32 := Scalar.addi c0_i32_252 v377
  let c1_i32_52 : BitVec 32 := 1#32
  let v23 : BitVec 32 := Dev.word d20
  let c2_i32_11 : BitVec 32 := 2#32
  let v24 : BitVec 32 := Scalar.divsi v23 c2_i32_11
  let c2_i32_10 : BitVec 32 := 2#32
  let v25 : BitVec 32 := Scalar.remsi v24 c2_i32_10
  let v70 : BitVec 32 := Scalar.subi c1_i32_52 v25
  let c2_i32_253 : BitVec 32 := 2#32
  let v379 : BitVec 32 := Scalar.muli v70 c2_i32_253
  let v380 : BitVec 32 := Scalar.addi v378 v379
  let v26 : BitVec 32 := Dev.word d20
  let c1_i32 : BitVec 32 := 1#32
  let v27 : BitVec 32 := Scalar.divsi v26 c1_i32
  let c2_i32_12 : BitVec 32 := 2#32
  let v28 : BitVec 32 := Scalar.remsi v27 c2_i32_12
  let c1_i32_254 : BitVec 32 := 1#32
  let v381 : BitVec 32 := Scalar.muli v28 c1_i32_254
  let v382 : BitVec 32 := Scalar.addi v380 v381
  v382.toNat
def k0_dev24 (d20 : Dev nD) : Nat :=
  let c0_i32_259 : BitVec 32 := 0#32
  let v20 : BitVec 32 := Dev.word d20
  let c4_i32 : BitVec 32 := 4#32
  let v21 : BitVec 32 := Scalar.divsi v20 c4_i32
  let c2_i32 : BitVec 32 := 2#32
  let v22 : BitVec 32 := Scalar.remsi v21 c2_i32
  let c4_i32_258 : BitVec 32 := 4#32
  let v389 : BitVec 32 := Scalar.muli v22 c4_i32_258
  let v390 : BitVec 32 := Scalar.addi c0_i32_259 v389
  let c1_i32_53 : BitVec 32 := 1#32
  let v23 : BitVec 32 := Dev.word d20
  let c2_i32_11 : BitVec 32 := 2#32
  let v24 : BitVec 32 := Scalar.divsi v23 c2_i32_11
  let c2_i32_10 : BitVec 32 := 2#32
  let v25 : BitVec 32 := Scalar.remsi v24 c2_i32_10
  let v71 : BitVec 32 := Scalar.subi c1_i32_53 v25
  let c2_i32_260 : BitVec 32 := 2#32
  let v391 : BitVec 32 := Scalar.muli v71 c2_i32_260
  let v392 : BitVec 32 := Scalar.addi v390 v391
  let c1_i32_54 : BitVec 32 := 1#32
  let v26 : BitVec 32 := Dev.word d20
  let c1_i32 : BitVec 32 := 1#32
  let v27 : BitVec 32 := Scalar.divsi v26 c1_i32
  let c2_i32_12 : BitVec 32 := 2#32
  let v28 : BitVec 32 := Scalar.remsi v27 c2_i32_12
  let v72 : BitVec 32 := Scalar.subi c1_i32_54 v28
  let c1_i32_261 : BitVec 32 := 1#32
  let v393 : BitVec 32 := Scalar.muli v72 c1_i32_261
  let v394 : BitVec 32 := Scalar.addi v392 v393
  v394.toNat
def k0_dev25 (d20 : Dev nD) : Nat :=
  let c0_i32_266 : BitVec 32 := 0#32
  let c1_i32_55 : BitVec 32 := 1#32
  let v20 : BitVec 32 := Dev.word d20
  let c4_i32 : BitVec 32 := 4#32
  let v21 : BitVec 32 := Scalar.divsi v20 c4_i32
  let c2_i32 : BitVec 32 := 2#32
  let v22 : BitVec 32 := Scalar.remsi v21 c2_i32
  let v73 : BitVec 32 := Scalar.subi c1_i32_55 v22
  let c4_i32_265 : BitVec 32 := 4#32
  let v401 : BitVec 32 := Scalar.muli v73 c4_i32_265
  let v402 : BitVec 32 := Scalar.addi c0_i32_266 v401
  let v23 : BitVec 32 := Dev.word d20
  let c2_i32_11 : BitVec 32 := 2#32
  let v24 : BitVec 32 := Scalar.divsi v23 c2_i32_11
  let c2_i32_10 : BitVec 32 := 2#32
  let v25 : BitVec 32 := Scalar.remsi v24 c2_i32_10
  let c2_i32_267 : BitVec 32 := 2#32
  let v403 : BitVec 32 := Scalar.muli v25 c2_i32_267
  let v404 : BitVec 32 := Scalar.addi v402 v403
  let v26 : BitVec 32 := Dev.word d20
  let c1_i32 : BitVec 32 := 1#32
  let v27 : BitVec 32 := Scalar.divsi v26 c1_i32
  let c2_i32_12 : BitVec 32 := 2#32
  let v28 : BitVec 32 := Scalar.remsi v27 c2_i32_12
  let c1_i32_268 : BitVec 32 := 1#32
  let v405 : BitVec 32 := Scalar.muli v28 c1_i32_268
  let v406 : BitVec 32 := Scalar.addi v404 v405
  v406.toNat
def k0_dev26 (d20 : Dev nD) : Nat :=
  let c0_i32_273 : BitVec 32 := 0#32
  let c1_i32_56 : BitVec 32 := 1#32
  let v20 : BitVec 32 := Dev.word d20
  let c4_i32 : BitVec 32 := 4#32
  let v21 : BitVec 32 := Scalar.divsi v20 c4_i32
  let c2_i32 : BitVec 32 := 2#32
  let v22 : BitVec 32 := Scalar.remsi v21 c2_i32
  let v74 : BitVec 32 := Scalar.subi c1_i32_56 v22
  let c4_i32_272 : BitVec 32 := 4#32
  let v413 : BitVec 32 := Scalar.muli v74 c4_i32_272
  let v414 : BitVec 32 := Scalar.addi c0_i32_273 v413
  let v23 : BitVec 32 := Dev.word d20
  let c2_i32_11 : BitVec 32 := 2#32
  let v24 : BitVec 32 := Scalar.divsi v23 c2_i32_11
  let c2_i32_10 : BitVec 32 := 2#32
  let v25 : BitVec 32 := Scalar.remsi v24 c2_i32_10
  let c2_i32_274 : BitVec 32 := 2#32
  let v415 : BitVec 32 := Scalar.muli v25 c2_i32_274
  let v416 : BitVec 32 := Scalar.addi v414 v415
  let c1_i32_57 : BitVec 32 := 1#32
  let v26 : BitVec 32 := Dev.word d20
  let c1_i32 : BitVec 32 := 1#32
  let v27 : BitVec 32 := Scalar.divsi v26 c1_i32
  let c2_i32_12 : BitVec 32 := 2#32
  let v28 : BitVec 32 := Scalar.remsi v27 c2_i32_12
  let v75 : BitVec 32 := Scalar.subi c1_i32_57 v28
  let c1_i32_275 : BitVec 32 := 1#32
  let v417 : BitVec 32 := Scalar.muli v75 c1_i32_275
  let v418 : BitVec 32 := Scalar.addi v416 v417
  v418.toNat
def k0_dev27 (d20 : Dev nD) : Nat :=
  let c0_i32_280 : BitVec 32 := 0#32
  let c1_i32_58 : BitVec 32 := 1#32
  let v20 : BitVec 32 := Dev.word d20
  let c4_i32 : BitVec 32 := 4#32
  let v21 : BitVec 32 := Scalar.divsi v20 c4_i32
  let c2_i32 : BitVec 32 := 2#32
  let v22 : BitVec 32 := Scalar.remsi v21 c2_i32
  let v76 : BitVec 32 := Scalar.subi c1_i32_58 v22
  let c4_i32_279 : BitVec 32 := 4#32
  let v425 : BitVec 32 := Scalar.muli v76 c4_i32_279
  let v426 : BitVec 32 := Scalar.addi c0_i32_280 v425
  let c1_i32_59 : BitVec 32 := 1#32
  let v23 : BitVec 32 := Dev.word d20
  let c2_i32_11 : BitVec 32 := 2#32
  let v24 : BitVec 32 := Scalar.divsi v23 c2_i32_11
  let c2_i32_10 : BitVec 32 := 2#32
  let v25 : BitVec 32 := Scalar.remsi v24 c2_i32_10
  let v77 : BitVec 32 := Scalar.subi c1_i32_59 v25
  let c2_i32_281 : BitVec 32 := 2#32
  let v427 : BitVec 32 := Scalar.muli v77 c2_i32_281
  let v428 : BitVec 32 := Scalar.addi v426 v427
  let v26 : BitVec 32 := Dev.word d20
  let c1_i32 : BitVec 32 := 1#32
  let v27 : BitVec 32 := Scalar.divsi v26 c1_i32
  let c2_i32_12 : BitVec 32 := 2#32
  let v28 : BitVec 32 := Scalar.remsi v27 c2_i32_12
  let c1_i32_282 : BitVec 32 := 1#32
  let v429 : BitVec 32 := Scalar.muli v28 c1_i32_282
  let v430 : BitVec 32 := Scalar.addi v428 v429
  v430.toNat
def k0_dev28 (d20 : Dev nD) : Nat :=
  let c0_i32_287 : BitVec 32 := 0#32
  let c1_i32_60 : BitVec 32 := 1#32
  let v20 : BitVec 32 := Dev.word d20
  let c4_i32 : BitVec 32 := 4#32
  let v21 : BitVec 32 := Scalar.divsi v20 c4_i32
  let c2_i32 : BitVec 32 := 2#32
  let v22 : BitVec 32 := Scalar.remsi v21 c2_i32
  let v78 : BitVec 32 := Scalar.subi c1_i32_60 v22
  let c4_i32_286 : BitVec 32 := 4#32
  let v437 : BitVec 32 := Scalar.muli v78 c4_i32_286
  let v438 : BitVec 32 := Scalar.addi c0_i32_287 v437
  let c1_i32_61 : BitVec 32 := 1#32
  let v23 : BitVec 32 := Dev.word d20
  let c2_i32_11 : BitVec 32 := 2#32
  let v24 : BitVec 32 := Scalar.divsi v23 c2_i32_11
  let c2_i32_10 : BitVec 32 := 2#32
  let v25 : BitVec 32 := Scalar.remsi v24 c2_i32_10
  let v79 : BitVec 32 := Scalar.subi c1_i32_61 v25
  let c2_i32_288 : BitVec 32 := 2#32
  let v439 : BitVec 32 := Scalar.muli v79 c2_i32_288
  let v440 : BitVec 32 := Scalar.addi v438 v439
  let c1_i32_62 : BitVec 32 := 1#32
  let v26 : BitVec 32 := Dev.word d20
  let c1_i32 : BitVec 32 := 1#32
  let v27 : BitVec 32 := Scalar.divsi v26 c1_i32
  let c2_i32_12 : BitVec 32 := 2#32
  let v28 : BitVec 32 := Scalar.remsi v27 c2_i32_12
  let v80 : BitVec 32 := Scalar.subi c1_i32_62 v28
  let c1_i32_289 : BitVec 32 := 1#32
  let v441 : BitVec 32 := Scalar.muli v80 c1_i32_289
  let v442 : BitVec 32 := Scalar.addi v440 v441
  v442.toNat
def k0_dev29 (d20 : Dev nD) : Nat :=
  let c0_i32_294 : BitVec 32 := 0#32
  let v20 : BitVec 32 := Dev.word d20
  let c4_i32 : BitVec 32 := 4#32
  let v21 : BitVec 32 := Scalar.divsi v20 c4_i32
  let c2_i32 : BitVec 32 := 2#32
  let v22 : BitVec 32 := Scalar.remsi v21 c2_i32
  let c4_i32_293 : BitVec 32 := 4#32
  let v449 : BitVec 32 := Scalar.muli v22 c4_i32_293
  let v450 : BitVec 32 := Scalar.addi c0_i32_294 v449
  let v23 : BitVec 32 := Dev.word d20
  let c2_i32_11 : BitVec 32 := 2#32
  let v24 : BitVec 32 := Scalar.divsi v23 c2_i32_11
  let c2_i32_10 : BitVec 32 := 2#32
  let v25 : BitVec 32 := Scalar.remsi v24 c2_i32_10
  let c2_i32_295 : BitVec 32 := 2#32
  let v451 : BitVec 32 := Scalar.muli v25 c2_i32_295
  let v452 : BitVec 32 := Scalar.addi v450 v451
  let c1_i32_63 : BitVec 32 := 1#32
  let v26 : BitVec 32 := Dev.word d20
  let c1_i32 : BitVec 32 := 1#32
  let v27 : BitVec 32 := Scalar.divsi v26 c1_i32
  let c2_i32_12 : BitVec 32 := 2#32
  let v28 : BitVec 32 := Scalar.remsi v27 c2_i32_12
  let v81 : BitVec 32 := Scalar.subi c1_i32_63 v28
  let c1_i32_296 : BitVec 32 := 1#32
  let v453 : BitVec 32 := Scalar.muli v81 c1_i32_296
  let v454 : BitVec 32 := Scalar.addi v452 v453
  v454.toNat
def k0_dev30 (d20 : Dev nD) : Nat :=
  let c0_i32_301 : BitVec 32 := 0#32
  let v20 : BitVec 32 := Dev.word d20
  let c4_i32 : BitVec 32 := 4#32
  let v21 : BitVec 32 := Scalar.divsi v20 c4_i32
  let c2_i32 : BitVec 32 := 2#32
  let v22 : BitVec 32 := Scalar.remsi v21 c2_i32
  let c4_i32_300 : BitVec 32 := 4#32
  let v461 : BitVec 32 := Scalar.muli v22 c4_i32_300
  let v462 : BitVec 32 := Scalar.addi c0_i32_301 v461
  let c1_i32_64 : BitVec 32 := 1#32
  let v23 : BitVec 32 := Dev.word d20
  let c2_i32_11 : BitVec 32 := 2#32
  let v24 : BitVec 32 := Scalar.divsi v23 c2_i32_11
  let c2_i32_10 : BitVec 32 := 2#32
  let v25 : BitVec 32 := Scalar.remsi v24 c2_i32_10
  let v82 : BitVec 32 := Scalar.subi c1_i32_64 v25
  let c2_i32_302 : BitVec 32 := 2#32
  let v463 : BitVec 32 := Scalar.muli v82 c2_i32_302
  let v464 : BitVec 32 := Scalar.addi v462 v463
  let v26 : BitVec 32 := Dev.word d20
  let c1_i32 : BitVec 32 := 1#32
  let v27 : BitVec 32 := Scalar.divsi v26 c1_i32
  let c2_i32_12 : BitVec 32 := 2#32
  let v28 : BitVec 32 := Scalar.remsi v27 c2_i32_12
  let c1_i32_303 : BitVec 32 := 1#32
  let v465 : BitVec 32 := Scalar.muli v28 c1_i32_303
  let v466 : BitVec 32 := Scalar.addi v464 v465
  v466.toNat
def k0_dev31 (d20 : Dev nD) : Nat :=
  let c0_i32_308 : BitVec 32 := 0#32
  let v20 : BitVec 32 := Dev.word d20
  let c4_i32 : BitVec 32 := 4#32
  let v21 : BitVec 32 := Scalar.divsi v20 c4_i32
  let c2_i32 : BitVec 32 := 2#32
  let v22 : BitVec 32 := Scalar.remsi v21 c2_i32
  let c4_i32_307 : BitVec 32 := 4#32
  let v473 : BitVec 32 := Scalar.muli v22 c4_i32_307
  let v474 : BitVec 32 := Scalar.addi c0_i32_308 v473
  let c1_i32_65 : BitVec 32 := 1#32
  let v23 : BitVec 32 := Dev.word d20
  let c2_i32_11 : BitVec 32 := 2#32
  let v24 : BitVec 32 := Scalar.divsi v23 c2_i32_11
  let c2_i32_10 : BitVec 32 := 2#32
  let v25 : BitVec 32 := Scalar.remsi v24 c2_i32_10
  let v83 : BitVec 32 := Scalar.subi c1_i32_65 v25
  let c2_i32_309 : BitVec 32 := 2#32
  let v475 : BitVec 32 := Scalar.muli v83 c2_i32_309
  let v476 : BitVec 32 := Scalar.addi v474 v475
  let c1_i32_66 : BitVec 32 := 1#32
  let v26 : BitVec 32 := Dev.word d20
  let c1_i32 : BitVec 32 := 1#32
  let v27 : BitVec 32 := Scalar.divsi v26 c1_i32
  let c2_i32_12 : BitVec 32 := 2#32
  let v28 : BitVec 32 := Scalar.remsi v27 c2_i32_12
  let v84 : BitVec 32 := Scalar.subi c1_i32_66 v28
  let c1_i32_310 : BitVec 32 := 1#32
  let v477 : BitVec 32 := Scalar.muli v84 c1_i32_310
  let v478 : BitVec 32 := Scalar.addi v476 v477
  v478.toNat
def k0_dev32 (d20 : Dev nD) : Nat :=
  let c0_i32_315 : BitVec 32 := 0#32
  let c1_i32_67 : BitVec 32 := 1#32
  let v20 : BitVec 32 := Dev.word d20
  let c4_i32 : BitVec 32 := 4#32
  let v21 : BitVec 32 := Scalar.divsi v20 c4_i32
  let c2_i32 : BitVec 32 := 2#32
  let v22 : BitVec 32 := Scalar.remsi v21 c2_i32
  let v85 : BitVec 32 := Scalar.subi c1_i32_67 v22
  let c4_i32_314 : BitVec 32 := 4#32
  let v485 : BitVec 32 := Scalar.muli v85 c4_i32_314
  let v486 : BitVec 32 := Scalar.addi c0_i32_315 v485
  let v23 : BitVec 32 := Dev.word d20
  let c2_i32_11 : BitVec 32 := 2#32
  let v24 : BitVec 32 := Scalar.divsi v23 c2_i32_11
  let c2_i32_10 : BitVec 32 := 2#32
  let v25 : BitVec 32 := Scalar.remsi v24 c2_i32_10
  let c2_i32_316 : BitVec 32 := 2#32
  let v487 : BitVec 32 := Scalar.muli v25 c2_i32_316
  let v488 : BitVec 32 := Scalar.addi v486 v487
  let v26 : BitVec 32 := Dev.word d20
  let c1_i32 : BitVec 32 := 1#32
  let v27 : BitVec 32 := Scalar.divsi v26 c1_i32
  let c2_i32_12 : BitVec 32 := 2#32
  let v28 : BitVec 32 := Scalar.remsi v27 c2_i32_12
  let c1_i32_317 : BitVec 32 := 1#32
  let v489 : BitVec 32 := Scalar.muli v28 c1_i32_317
  let v490 : BitVec 32 := Scalar.addi v488 v489
  v490.toNat
def k0_dev33 (d20 : Dev nD) : Nat :=
  let c0_i32_322 : BitVec 32 := 0#32
  let c1_i32_68 : BitVec 32 := 1#32
  let v20 : BitVec 32 := Dev.word d20
  let c4_i32 : BitVec 32 := 4#32
  let v21 : BitVec 32 := Scalar.divsi v20 c4_i32
  let c2_i32 : BitVec 32 := 2#32
  let v22 : BitVec 32 := Scalar.remsi v21 c2_i32
  let v86 : BitVec 32 := Scalar.subi c1_i32_68 v22
  let c4_i32_321 : BitVec 32 := 4#32
  let v497 : BitVec 32 := Scalar.muli v86 c4_i32_321
  let v498 : BitVec 32 := Scalar.addi c0_i32_322 v497
  let v23 : BitVec 32 := Dev.word d20
  let c2_i32_11 : BitVec 32 := 2#32
  let v24 : BitVec 32 := Scalar.divsi v23 c2_i32_11
  let c2_i32_10 : BitVec 32 := 2#32
  let v25 : BitVec 32 := Scalar.remsi v24 c2_i32_10
  let c2_i32_323 : BitVec 32 := 2#32
  let v499 : BitVec 32 := Scalar.muli v25 c2_i32_323
  let v500 : BitVec 32 := Scalar.addi v498 v499
  let c1_i32_69 : BitVec 32 := 1#32
  let v26 : BitVec 32 := Dev.word d20
  let c1_i32 : BitVec 32 := 1#32
  let v27 : BitVec 32 := Scalar.divsi v26 c1_i32
  let c2_i32_12 : BitVec 32 := 2#32
  let v28 : BitVec 32 := Scalar.remsi v27 c2_i32_12
  let v87 : BitVec 32 := Scalar.subi c1_i32_69 v28
  let c1_i32_324 : BitVec 32 := 1#32
  let v501 : BitVec 32 := Scalar.muli v87 c1_i32_324
  let v502 : BitVec 32 := Scalar.addi v500 v501
  v502.toNat
def k0_dev34 (d20 : Dev nD) : Nat :=
  let c0_i32_329 : BitVec 32 := 0#32
  let c1_i32_70 : BitVec 32 := 1#32
  let v20 : BitVec 32 := Dev.word d20
  let c4_i32 : BitVec 32 := 4#32
  let v21 : BitVec 32 := Scalar.divsi v20 c4_i32
  let c2_i32 : BitVec 32 := 2#32
  let v22 : BitVec 32 := Scalar.remsi v21 c2_i32
  let v88 : BitVec 32 := Scalar.subi c1_i32_70 v22
  let c4_i32_328 : BitVec 32 := 4#32
  let v509 : BitVec 32 := Scalar.muli v88 c4_i32_328
  let v510 : BitVec 32 := Scalar.addi c0_i32_329 v509
  let c1_i32_71 : BitVec 32 := 1#32
  let v23 : BitVec 32 := Dev.word d20
  let c2_i32_11 : BitVec 32 := 2#32
  let v24 : BitVec 32 := Scalar.divsi v23 c2_i32_11
  let c2_i32_10 : BitVec 32 := 2#32
  let v25 : BitVec 32 := Scalar.remsi v24 c2_i32_10
  let v89 : BitVec 32 := Scalar.subi c1_i32_71 v25
  let c2_i32_330 : BitVec 32 := 2#32
  let v511 : BitVec 32 := Scalar.muli v89 c2_i32_330
  let v512 : BitVec 32 := Scalar.addi v510 v511
  let v26 : BitVec 32 := Dev.word d20
  let c1_i32 : BitVec 32 := 1#32
  let v27 : BitVec 32 := Scalar.divsi v26 c1_i32
  let c2_i32_12 : BitVec 32 := 2#32
  let v28 : BitVec 32 := Scalar.remsi v27 c2_i32_12
  let c1_i32_331 : BitVec 32 := 1#32
  let v513 : BitVec 32 := Scalar.muli v28 c1_i32_331
  let v514 : BitVec 32 := Scalar.addi v512 v513
  v514.toNat
def k0_dev35 (d20 : Dev nD) : Nat :=
  let c0_i32_336 : BitVec 32 := 0#32
  let c1_i32_72 : BitVec 32 := 1#32
  let v20 : BitVec 32 := Dev.word d20
  let c4_i32 : BitVec 32 := 4#32
  let v21 : BitVec 32 := Scalar.divsi v20 c4_i32
  let c2_i32 : BitVec 32 := 2#32
  let v22 : BitVec 32 := Scalar.remsi v21 c2_i32
  let v90 : BitVec 32 := Scalar.subi c1_i32_72 v22
  let c4_i32_335 : BitVec 32 := 4#32
  let v521 : BitVec 32 := Scalar.muli v90 c4_i32_335
  let v522 : BitVec 32 := Scalar.addi c0_i32_336 v521
  let c1_i32_73 : BitVec 32 := 1#32
  let v23 : BitVec 32 := Dev.word d20
  let c2_i32_11 : BitVec 32 := 2#32
  let v24 : BitVec 32 := Scalar.divsi v23 c2_i32_11
  let c2_i32_10 : BitVec 32 := 2#32
  let v25 : BitVec 32 := Scalar.remsi v24 c2_i32_10
  let v91 : BitVec 32 := Scalar.subi c1_i32_73 v25
  let c2_i32_337 : BitVec 32 := 2#32
  let v523 : BitVec 32 := Scalar.muli v91 c2_i32_337
  let v524 : BitVec 32 := Scalar.addi v522 v523
  let c1_i32_74 : BitVec 32 := 1#32
  let v26 : BitVec 32 := Dev.word d20
  let c1_i32 : BitVec 32 := 1#32
  let v27 : BitVec 32 := Scalar.divsi v26 c1_i32
  let c2_i32_12 : BitVec 32 := 2#32
  let v28 : BitVec 32 := Scalar.remsi v27 c2_i32_12
  let v92 : BitVec 32 := Scalar.subi c1_i32_74 v28
  let c1_i32_338 : BitVec 32 := 1#32
  let v525 : BitVec 32 := Scalar.muli v92 c1_i32_338
  let v526 : BitVec 32 := Scalar.addi v524 v525
  v526.toNat
def k0_cond2 (i : grid0.Coords) : BitVec 1 :=
  let arg0 : BitVec 32 := BitVec.ofNat 32 (i 0).val
  let c12_i32 : BitVec 32 := 12#32
  let v13 : BitVec 1 := Scalar.cmpi .eq arg0 c12_i32
  let arg1 : BitVec 32 := BitVec.ofNat 32 (i 1).val
  let c7_i32 : BitVec 32 := 7#32
  let v14 : BitVec 1 := Scalar.cmpi .eq arg1 c7_i32
  let v15 : BitVec 1 := Scalar.andi v13 v14
  let arg2 : BitVec 32 := BitVec.ofNat 32 (i 2).val
  let c0_i32_8 : BitVec 32 := 0#32
  let v16 : BitVec 1 := Scalar.cmpi .eq arg2 c0_i32_8
  let v17 : BitVec 1 := Scalar.andi v15 v16
  let v18 : BitVec 32 := Scalar.extui v17
  let c0_i32_9 : BitVec 32 := 0#32
  let v19 : BitVec 1 := Scalar.cmpi .ne v18 c0_i32_9
  v19

def k0_off4 (d20 : Dev nD) : Fin 3 → Nat :=
  let c4_i32_16 : BitVec 32 := 4#32
  let v20 : BitVec 32 := Dev.word d20
  let c4_i32 : BitVec 32 := 4#32
  let v21 : BitVec 32 := Scalar.divsi v20 c4_i32
  let c2_i32 : BitVec 32 := 2#32
  let v22 : BitVec 32 := Scalar.remsi v21 c2_i32
  let v34 : BitVec 32 := Scalar.muli c4_i32_16 v22
  let c2_i32_17 : BitVec 32 := 2#32
  let v23 : BitVec 32 := Dev.word d20
  let c2_i32_11 : BitVec 32 := 2#32
  let v24 : BitVec 32 := Scalar.divsi v23 c2_i32_11
  let c2_i32_10 : BitVec 32 := 2#32
  let v25 : BitVec 32 := Scalar.remsi v24 c2_i32_10
  let v35 : BitVec 32 := Scalar.muli c2_i32_17 v25
  let v36 : BitVec 32 := Scalar.addi v34 v35
  let c1_i32_15 : BitVec 32 := 1#32
  let v26 : BitVec 32 := Dev.word d20
  let c1_i32 : BitVec 32 := 1#32
  let v27 : BitVec 32 := Scalar.divsi v26 c1_i32
  let c2_i32_12 : BitVec 32 := 2#32
  let v28 : BitVec 32 := Scalar.remsi v27 c2_i32_12
  let v33 : BitVec 32 := Scalar.subi c1_i32_15 v28
  let v37 : BitVec 32 := Scalar.addi v36 v33
  let c0_i32_151 : BitVec 32 := 0#32
  let c0_i32_152 : BitVec 32 := 0#32
  ![v37.toNat, 0, 0]
def k0_off5 (d20 : Dev nD) : Fin 3 → Nat :=
  let c4_i32_19 : BitVec 32 := 4#32
  let v20 : BitVec 32 := Dev.word d20
  let c4_i32 : BitVec 32 := 4#32
  let v21 : BitVec 32 := Scalar.divsi v20 c4_i32
  let c2_i32 : BitVec 32 := 2#32
  let v22 : BitVec 32 := Scalar.remsi v21 c2_i32
  let v39 : BitVec 32 := Scalar.muli c4_i32_19 v22
  let c2_i32_20 : BitVec 32 := 2#32
  let c1_i32_18 : BitVec 32 := 1#32
  let v23 : BitVec 32 := Dev.word d20
  let c2_i32_11 : BitVec 32 := 2#32
  let v24 : BitVec 32 := Scalar.divsi v23 c2_i32_11
  let c2_i32_10 : BitVec 32 := 2#32
  let v25 : BitVec 32 := Scalar.remsi v24 c2_i32_10
  let v38 : BitVec 32 := Scalar.subi c1_i32_18 v25
  let v40 : BitVec 32 := Scalar.muli c2_i32_20 v38
  let v41 : BitVec 32 := Scalar.addi v39 v40
  let v26 : BitVec 32 := Dev.word d20
  let c1_i32 : BitVec 32 := 1#32
  let v27 : BitVec 32 := Scalar.divsi v26 c1_i32
  let c2_i32_12 : BitVec 32 := 2#32
  let v28 : BitVec 32 := Scalar.remsi v27 c2_i32_12
  let v42 : BitVec 32 := Scalar.addi v41 v28
  let c0_i32_159 : BitVec 32 := 0#32
  let c0_i32_160 : BitVec 32 := 0#32
  ![v42.toNat, 0, 0]
def k0_off6 (d20 : Dev nD) : Fin 3 → Nat :=
  let c4_i32_23 : BitVec 32 := 4#32
  let v20 : BitVec 32 := Dev.word d20
  let c4_i32 : BitVec 32 := 4#32
  let v21 : BitVec 32 := Scalar.divsi v20 c4_i32
  let c2_i32 : BitVec 32 := 2#32
  let v22 : BitVec 32 := Scalar.remsi v21 c2_i32
  let v45 : BitVec 32 := Scalar.muli c4_i32_23 v22
  let c2_i32_24 : BitVec 32 := 2#32
  let c1_i32_21 : BitVec 32 := 1#32
  let v23 : BitVec 32 := Dev.word d20
  let c2_i32_11 : BitVec 32 := 2#32
  let v24 : BitVec 32 := Scalar.divsi v23 c2_i32_11
  let c2_i32_10 : BitVec 32 := 2#32
  let v25 : BitVec 32 := Scalar.remsi v24 c2_i32_10
  let v43 : BitVec 32 := Scalar.subi c1_i32_21 v25
  let v46 : BitVec 32 := Scalar.muli c2_i32_24 v43
  let v47 : BitVec 32 := Scalar.addi v45 v46
  let c1_i32_22 : BitVec 32 := 1#32
  let v26 : BitVec 32 := Dev.word d20
  let c1_i32 : BitVec 32 := 1#32
  let v27 : BitVec 32 := Scalar.divsi v26 c1_i32
  let c2_i32_12 : BitVec 32 := 2#32
  let v28 : BitVec 32 := Scalar.remsi v27 c2_i32_12
  let v44 : BitVec 32 := Scalar.subi c1_i32_22 v28
  let v48 : BitVec 32 := Scalar.addi v47 v44
  let c0_i32_167 : BitVec 32 := 0#32
  let c0_i32_168 : BitVec 32 := 0#32
  ![v48.toNat, 0, 0]
def k0_off7 (d20 : Dev nD) : Fin 3 → Nat :=
  let c4_i32_26 : BitVec 32 := 4#32
  let c1_i32_25 : BitVec 32 := 1#32
  let v20 : BitVec 32 := Dev.word d20
  let c4_i32 : BitVec 32 := 4#32
  let v21 : BitVec 32 := Scalar.divsi v20 c4_i32
  let c2_i32 : BitVec 32 := 2#32
  let v22 : BitVec 32 := Scalar.remsi v21 c2_i32
  let v49 : BitVec 32 := Scalar.subi c1_i32_25 v22
  let v50 : BitVec 32 := Scalar.muli c4_i32_26 v49
  let c2_i32_27 : BitVec 32 := 2#32
  let v23 : BitVec 32 := Dev.word d20
  let c2_i32_11 : BitVec 32 := 2#32
  let v24 : BitVec 32 := Scalar.divsi v23 c2_i32_11
  let c2_i32_10 : BitVec 32 := 2#32
  let v25 : BitVec 32 := Scalar.remsi v24 c2_i32_10
  let v51 : BitVec 32 := Scalar.muli c2_i32_27 v25
  let v52 : BitVec 32 := Scalar.addi v50 v51
  let v26 : BitVec 32 := Dev.word d20
  let c1_i32 : BitVec 32 := 1#32
  let v27 : BitVec 32 := Scalar.divsi v26 c1_i32
  let c2_i32_12 : BitVec 32 := 2#32
  let v28 : BitVec 32 := Scalar.remsi v27 c2_i32_12
  let v53 : BitVec 32 := Scalar.addi v52 v28
  let c0_i32_174 : BitVec 32 := 0#32
  let c0_i32_175 : BitVec 32 := 0#32
  ![v53.toNat, 0, 0]
def k0_off8 (d20 : Dev nD) : Fin 3 → Nat :=
  let c4_i32_30 : BitVec 32 := 4#32
  let c1_i32_28 : BitVec 32 := 1#32
  let v20 : BitVec 32 := Dev.word d20
  let c4_i32 : BitVec 32 := 4#32
  let v21 : BitVec 32 := Scalar.divsi v20 c4_i32
  let c2_i32 : BitVec 32 := 2#32
  let v22 : BitVec 32 := Scalar.remsi v21 c2_i32
  let v54 : BitVec 32 := Scalar.subi c1_i32_28 v22
  let v56 : BitVec 32 := Scalar.muli c4_i32_30 v54
  let c2_i32_31 : BitVec 32 := 2#32
  let v23 : BitVec 32 := Dev.word d20
  let c2_i32_11 : BitVec 32 := 2#32
  let v24 : BitVec 32 := Scalar.divsi v23 c2_i32_11
  let c2_i32_10 : BitVec 32 := 2#32
  let v25 : BitVec 32 := Scalar.remsi v24 c2_i32_10
  let v57 : BitVec 32 := Scalar.muli c2_i32_31 v25
  let v58 : BitVec 32 := Scalar.addi v56 v57
  let c1_i32_29 : BitVec 32 := 1#32
  let v26 : BitVec 32 := Dev.word d20
  let c1_i32 : BitVec 32 := 1#32
  let v27 : BitVec 32 := Scalar.divsi v26 c1_i32
  let c2_i32_12 : BitVec 32 := 2#32
  let v28 : BitVec 32 := Scalar.remsi v27 c2_i32_12
  let v55 : BitVec 32 := Scalar.subi c1_i32_29 v28
  let v59 : BitVec 32 := Scalar.addi v58 v55
  let c0_i32_182 : BitVec 32 := 0#32
  let c0_i32_183 : BitVec 32 := 0#32
  ![v59.toNat, 0, 0]
def k0_off9 (d20 : Dev nD) : Fin 3 → Nat :=
  let c4_i32_34 : BitVec 32 := 4#32
  let c1_i32_32 : BitVec 32 := 1#32
  let v20 : BitVec 32 := Dev.word d20
  let c4_i32 : BitVec 32 := 4#32
  let v21 : BitVec 32 := Scalar.divsi v20 c4_i32
  let c2_i32 : BitVec 32 := 2#32
  let v22 : BitVec 32 := Scalar.remsi v21 c2_i32
  let v60 : BitVec 32 := Scalar.subi c1_i32_32 v22
  let v62 : BitVec 32 := Scalar.muli c4_i32_34 v60
  let c2_i32_35 : BitVec 32 := 2#32
  let c1_i32_33 : BitVec 32 := 1#32
  let v23 : BitVec 32 := Dev.word d20
  let c2_i32_11 : BitVec 32 := 2#32
  let v24 : BitVec 32 := Scalar.divsi v23 c2_i32_11
  let c2_i32_10 : BitVec 32 := 2#32
  let v25 : BitVec 32 := Scalar.remsi v24 c2_i32_10
  let v61 : BitVec 32 := Scalar.subi c1_i32_33 v25
  let v63 : BitVec 32 := Scalar.muli c2_i32_35 v61
  let v64 : BitVec 32 := Scalar.addi v62 v63
  let v26 : BitVec 32 := Dev.word d20
  let c1_i32 : BitVec 32 := 1#32
  let v27 : BitVec 32 := Scalar.divsi v26 c1_i32
  let c2_i32_12 : BitVec 32 := 2#32
  let v28 : BitVec 32 := Scalar.remsi v27 c2_i32_12
  let v65 : BitVec 32 := Scalar.addi v64 v28
  let c0_i32_189 : BitVec 32 := 0#32
  let c0_i32_190 : BitVec 32 := 0#32
  ![v65.toNat, 0, 0]
def k0_off10 (d20 : Dev nD) : Fin 3 → Nat :=
  let c4_i32_39 : BitVec 32 := 4#32
  let c1_i32_36 : BitVec 32 := 1#32
  let v20 : BitVec 32 := Dev.word d20
  let c4_i32 : BitVec 32 := 4#32
  let v21 : BitVec 32 := Scalar.divsi v20 c4_i32
  let c2_i32 : BitVec 32 := 2#32
  let v22 : BitVec 32 := Scalar.remsi v21 c2_i32
  let v66 : BitVec 32 := Scalar.subi c1_i32_36 v22
  let v69 : BitVec 32 := Scalar.muli c4_i32_39 v66
  let c2_i32_40 : BitVec 32 := 2#32
  let c1_i32_37 : BitVec 32 := 1#32
  let v23 : BitVec 32 := Dev.word d20
  let c2_i32_11 : BitVec 32 := 2#32
  let v24 : BitVec 32 := Scalar.divsi v23 c2_i32_11
  let c2_i32_10 : BitVec 32 := 2#32
  let v25 : BitVec 32 := Scalar.remsi v24 c2_i32_10
  let v67 : BitVec 32 := Scalar.subi c1_i32_37 v25
  let v70 : BitVec 32 := Scalar.muli c2_i32_40 v67
  let v71 : BitVec 32 := Scalar.addi v69 v70
  let c1_i32_38 : BitVec 32 := 1#32
  let v26 : BitVec 32 := Dev.word d20
  let c1_i32 : BitVec 32 := 1#32
  let v27 : BitVec 32 := Scalar.divsi v26 c1_i32
  let c2_i32_12 : BitVec 32 := 2#32
  let v28 : BitVec 32 := Scalar.remsi v27 c2_i32_12
  let v68 : BitVec 32 := Scalar.subi c1_i32_38 v28
  let v72 : BitVec 32 := Scalar.addi v71 v68
  let c0_i32_196 : BitVec 32 := 0#32
  let c0_i32_197 : BitVec 32 := 0#32
  ![v72.toNat, 0, 0]
def k0_off11 (d20 : Dev nD) : Fin 3 → Nat :=
  let c4_i32_94 : BitVec 32 := 4#32
  let v20 : BitVec 32 := Dev.word d20
  let c4_i32 : BitVec 32 := 4#32
  let v21 : BitVec 32 := Scalar.divsi v20 c4_i32
  let c2_i32 : BitVec 32 := 2#32
  let v22 : BitVec 32 := Scalar.remsi v21 c2_i32
  let v154 : BitVec 32 := Scalar.muli c4_i32_94 v22
  let c2_i32_95 : BitVec 32 := 2#32
  let v23 : BitVec 32 := Dev.word d20
  let c2_i32_11 : BitVec 32 := 2#32
  let v24 : BitVec 32 := Scalar.divsi v23 c2_i32_11
  let c2_i32_10 : BitVec 32 := 2#32
  let v25 : BitVec 32 := Scalar.remsi v24 c2_i32_10
  let v155 : BitVec 32 := Scalar.muli c2_i32_95 v25
  let v156 : BitVec 32 := Scalar.addi v154 v155
  let c1_i32_93 : BitVec 32 := 1#32
  let v26 : BitVec 32 := Dev.word d20
  let c1_i32 : BitVec 32 := 1#32
  let v27 : BitVec 32 := Scalar.divsi v26 c1_i32
  let c2_i32_12 : BitVec 32 := 2#32
  let v28 : BitVec 32 := Scalar.remsi v27 c2_i32_12
  let v153 : BitVec 32 := Scalar.subi c1_i32_93 v28
  let v157 : BitVec 32 := Scalar.addi v156 v153
  let c0_i32_303 : BitVec 32 := 0#32
  let c0_i32_304 : BitVec 32 := 0#32
  ![v157.toNat, 0, 0]
def k0_off12 (d20 : Dev nD) : Fin 3 → Nat :=
  let c4_i32_97 : BitVec 32 := 4#32
  let v20 : BitVec 32 := Dev.word d20
  let c4_i32 : BitVec 32 := 4#32
  let v21 : BitVec 32 := Scalar.divsi v20 c4_i32
  let c2_i32 : BitVec 32 := 2#32
  let v22 : BitVec 32 := Scalar.remsi v21 c2_i32
  let v159 : BitVec 32 := Scalar.muli c4_i32_97 v22
  let c2_i32_98 : BitVec 32 := 2#32
  let c1_i32_96 : BitVec 32 := 1#32
  let v23 : BitVec 32 := Dev.word d20
  let c2_i32_11 : BitVec 32 := 2#32
  let v24 : BitVec 32 := Scalar.divsi v23 c2_i32_11
  let c2_i32_10 : BitVec 32 := 2#32
  let v25 : BitVec 32 := Scalar.remsi v24 c2_i32_10
  let v158 : BitVec 32 := Scalar.subi c1_i32_96 v25
  let v160 : BitVec 32 := Scalar.muli c2_i32_98 v158
  let v161 : BitVec 32 := Scalar.addi v159 v160
  let v26 : BitVec 32 := Dev.word d20
  let c1_i32 : BitVec 32 := 1#32
  let v27 : BitVec 32 := Scalar.divsi v26 c1_i32
  let c2_i32_12 : BitVec 32 := 2#32
  let v28 : BitVec 32 := Scalar.remsi v27 c2_i32_12
  let v162 : BitVec 32 := Scalar.addi v161 v28
  let c0_i32_310 : BitVec 32 := 0#32
  let c0_i32_311 : BitVec 32 := 0#32
  ![v162.toNat, 0, 0]
def k0_off13 (d20 : Dev nD) : Fin 3 → Nat :=
  let c4_i32_101 : BitVec 32 := 4#32
  let v20 : BitVec 32 := Dev.word d20
  let c4_i32 : BitVec 32 := 4#32
  let v21 : BitVec 32 := Scalar.divsi v20 c4_i32
  let c2_i32 : BitVec 32 := 2#32
  let v22 : BitVec 32 := Scalar.remsi v21 c2_i32
  let v165 : BitVec 32 := Scalar.muli c4_i32_101 v22
  let c2_i32_102 : BitVec 32 := 2#32
  let c1_i32_99 : BitVec 32 := 1#32
  let v23 : BitVec 32 := Dev.word d20
  let c2_i32_11 : BitVec 32 := 2#32
  let v24 : BitVec 32 := Scalar.divsi v23 c2_i32_11
  let c2_i32_10 : BitVec 32 := 2#32
  let v25 : BitVec 32 := Scalar.remsi v24 c2_i32_10
  let v163 : BitVec 32 := Scalar.subi c1_i32_99 v25
  let v166 : BitVec 32 := Scalar.muli c2_i32_102 v163
  let v167 : BitVec 32 := Scalar.addi v165 v166
  let c1_i32_100 : BitVec 32 := 1#32
  let v26 : BitVec 32 := Dev.word d20
  let c1_i32 : BitVec 32 := 1#32
  let v27 : BitVec 32 := Scalar.divsi v26 c1_i32
  let c2_i32_12 : BitVec 32 := 2#32
  let v28 : BitVec 32 := Scalar.remsi v27 c2_i32_12
  let v164 : BitVec 32 := Scalar.subi c1_i32_100 v28
  let v168 : BitVec 32 := Scalar.addi v167 v164
  let c0_i32_317 : BitVec 32 := 0#32
  let c0_i32_318 : BitVec 32 := 0#32
  ![v168.toNat, 0, 0]
def k0_off14 (d20 : Dev nD) : Fin 3 → Nat :=
  let c4_i32_104 : BitVec 32 := 4#32
  let c1_i32_103 : BitVec 32 := 1#32
  let v20 : BitVec 32 := Dev.word d20
  let c4_i32 : BitVec 32 := 4#32
  let v21 : BitVec 32 := Scalar.divsi v20 c4_i32
  let c2_i32 : BitVec 32 := 2#32
  let v22 : BitVec 32 := Scalar.remsi v21 c2_i32
  let v169 : BitVec 32 := Scalar.subi c1_i32_103 v22
  let v170 : BitVec 32 := Scalar.muli c4_i32_104 v169
  let c2_i32_105 : BitVec 32 := 2#32
  let v23 : BitVec 32 := Dev.word d20
  let c2_i32_11 : BitVec 32 := 2#32
  let v24 : BitVec 32 := Scalar.divsi v23 c2_i32_11
  let c2_i32_10 : BitVec 32 := 2#32
  let v25 : BitVec 32 := Scalar.remsi v24 c2_i32_10
  let v171 : BitVec 32 := Scalar.muli c2_i32_105 v25
  let v172 : BitVec 32 := Scalar.addi v170 v171
  let v26 : BitVec 32 := Dev.word d20
  let c1_i32 : BitVec 32 := 1#32
  let v27 : BitVec 32 := Scalar.divsi v26 c1_i32
  let c2_i32_12 : BitVec 32 := 2#32
  let v28 : BitVec 32 := Scalar.remsi v27 c2_i32_12
  let v173 : BitVec 32 := Scalar.addi v172 v28
  let c0_i32_324 : BitVec 32 := 0#32
  let c0_i32_325 : BitVec 32 := 0#32
  ![v173.toNat, 0, 0]
def k0_off15 (d20 : Dev nD) : Fin 3 → Nat :=
  let c4_i32_108 : BitVec 32 := 4#32
  let c1_i32_106 : BitVec 32 := 1#32
  let v20 : BitVec 32 := Dev.word d20
  let c4_i32 : BitVec 32 := 4#32
  let v21 : BitVec 32 := Scalar.divsi v20 c4_i32
  let c2_i32 : BitVec 32 := 2#32
  let v22 : BitVec 32 := Scalar.remsi v21 c2_i32
  let v174 : BitVec 32 := Scalar.subi c1_i32_106 v22
  let v176 : BitVec 32 := Scalar.muli c4_i32_108 v174
  let c2_i32_109 : BitVec 32 := 2#32
  let v23 : BitVec 32 := Dev.word d20
  let c2_i32_11 : BitVec 32 := 2#32
  let v24 : BitVec 32 := Scalar.divsi v23 c2_i32_11
  let c2_i32_10 : BitVec 32 := 2#32
  let v25 : BitVec 32 := Scalar.remsi v24 c2_i32_10
  let v177 : BitVec 32 := Scalar.muli c2_i32_109 v25
  let v178 : BitVec 32 := Scalar.addi v176 v177
  let c1_i32_107 : BitVec 32 := 1#32
  let v26 : BitVec 32 := Dev.word d20
  let c1_i32 : BitVec 32 := 1#32
  let v27 : BitVec 32 := Scalar.divsi v26 c1_i32
  let c2_i32_12 : BitVec 32 := 2#32
  let v28 : BitVec 32 := Scalar.remsi v27 c2_i32_12
  let v175 : BitVec 32 := Scalar.subi c1_i32_107 v28
  let v179 : BitVec 32 := Scalar.addi v178 v175
  let c0_i32_331 : BitVec 32 := 0#32
  let c0_i32_332 : BitVec 32 := 0#32
  ![v179.toNat, 0, 0]
def k0_off16 (d20 : Dev nD) : Fin 3 → Nat :=
  let c4_i32_112 : BitVec 32 := 4#32
  let c1_i32_110 : BitVec 32 := 1#32
  let v20 : BitVec 32 := Dev.word d20
  let c4_i32 : BitVec 32 := 4#32
  let v21 : BitVec 32 := Scalar.divsi v20 c4_i32
  let c2_i32 : BitVec 32 := 2#32
  let v22 : BitVec 32 := Scalar.remsi v21 c2_i32
  let v180 : BitVec 32 := Scalar.subi c1_i32_110 v22
  let v182 : BitVec 32 := Scalar.muli c4_i32_112 v180
  let c2_i32_113 : BitVec 32 := 2#32
  let c1_i32_111 : BitVec 32 := 1#32
  let v23 : BitVec 32 := Dev.word d20
  let c2_i32_11 : BitVec 32 := 2#32
  let v24 : BitVec 32 := Scalar.divsi v23 c2_i32_11
  let c2_i32_10 : BitVec 32 := 2#32
  let v25 : BitVec 32 := Scalar.remsi v24 c2_i32_10
  let v181 : BitVec 32 := Scalar.subi c1_i32_111 v25
  let v183 : BitVec 32 := Scalar.muli c2_i32_113 v181
  let v184 : BitVec 32 := Scalar.addi v182 v183
  let v26 : BitVec 32 := Dev.word d20
  let c1_i32 : BitVec 32 := 1#32
  let v27 : BitVec 32 := Scalar.divsi v26 c1_i32
  let c2_i32_12 : BitVec 32 := 2#32
  let v28 : BitVec 32 := Scalar.remsi v27 c2_i32_12
  let v185 : BitVec 32 := Scalar.addi v184 v28
  let c0_i32_338 : BitVec 32 := 0#32
  let c0_i32_339 : BitVec 32 := 0#32
  ![v185.toNat, 0, 0]
def k0_off17 (d20 : Dev nD) : Fin 3 → Nat :=
  let c4_i32_117 : BitVec 32 := 4#32
  let c1_i32_114 : BitVec 32 := 1#32
  let v20 : BitVec 32 := Dev.word d20
  let c4_i32 : BitVec 32 := 4#32
  let v21 : BitVec 32 := Scalar.divsi v20 c4_i32
  let c2_i32 : BitVec 32 := 2#32
  let v22 : BitVec 32 := Scalar.remsi v21 c2_i32
  let v186 : BitVec 32 := Scalar.subi c1_i32_114 v22
  let v189 : BitVec 32 := Scalar.muli c4_i32_117 v186
  let c2_i32_118 : BitVec 32 := 2#32
  let c1_i32_115 : BitVec 32 := 1#32
  let v23 : BitVec 32 := Dev.word d20
  let c2_i32_11 : BitVec 32 := 2#32
  let v24 : BitVec 32 := Scalar.divsi v23 c2_i32_11
  let c2_i32_10 : BitVec 32 := 2#32
  let v25 : BitVec 32 := Scalar.remsi v24 c2_i32_10
  let v187 : BitVec 32 := Scalar.subi c1_i32_115 v25
  let v190 : BitVec 32 := Scalar.muli c2_i32_118 v187
  let v191 : BitVec 32 := Scalar.addi v189 v190
  let c1_i32_116 : BitVec 32 := 1#32
  let v26 : BitVec 32 := Dev.word d20
  let c1_i32 : BitVec 32 := 1#32
  let v27 : BitVec 32 := Scalar.divsi v26 c1_i32
  let c2_i32_12 : BitVec 32 := 2#32
  let v28 : BitVec 32 := Scalar.remsi v27 c2_i32_12
  let v188 : BitVec 32 := Scalar.subi c1_i32_116 v28
  let v192 : BitVec 32 := Scalar.addi v191 v188
  let c0_i32_345 : BitVec 32 := 0#32
  let c0_i32_346 : BitVec 32 := 0#32
  ![v192.toNat, 0, 0]
def k0_off18 (d20 : Dev nD) : Fin 3 → Nat :=
  let c4_i32_120 : BitVec 32 := 4#32
  let v20 : BitVec 32 := Dev.word d20
  let c4_i32 : BitVec 32 := 4#32
  let v21 : BitVec 32 := Scalar.divsi v20 c4_i32
  let c2_i32 : BitVec 32 := 2#32
  let v22 : BitVec 32 := Scalar.remsi v21 c2_i32
  let v194 : BitVec 32 := Scalar.muli c4_i32_120 v22
  let c2_i32_121 : BitVec 32 := 2#32
  let v23 : BitVec 32 := Dev.word d20
  let c2_i32_11 : BitVec 32 := 2#32
  let v24 : BitVec 32 := Scalar.divsi v23 c2_i32_11
  let c2_i32_10 : BitVec 32 := 2#32
  let v25 : BitVec 32 := Scalar.remsi v24 c2_i32_10
  let v195 : BitVec 32 := Scalar.muli c2_i32_121 v25
  let v196 : BitVec 32 := Scalar.addi v194 v195
  let c1_i32_119 : BitVec 32 := 1#32
  let v26 : BitVec 32 := Dev.word d20
  let c1_i32 : BitVec 32 := 1#32
  let v27 : BitVec 32 := Scalar.divsi v26 c1_i32
  let c2_i32_12 : BitVec 32 := 2#32
  let v28 : BitVec 32 := Scalar.remsi v27 c2_i32_12
  let v193 : BitVec 32 := Scalar.subi c1_i32_119 v28
  let v197 : BitVec 32 := Scalar.addi v196 v193
  let c0_i32_352 : BitVec 32 := 0#32
  let c0_i32_353 : BitVec 32 := 0#32
  ![v197.toNat, 0, 0]
def k0_off19 (d20 : Dev nD) : Fin 3 → Nat :=
  let c4_i32_123 : BitVec 32 := 4#32
  let v20 : BitVec 32 := Dev.word d20
  let c4_i32 : BitVec 32 := 4#32
  let v21 : BitVec 32 := Scalar.divsi v20 c4_i32
  let c2_i32 : BitVec 32 := 2#32
  let v22 : BitVec 32 := Scalar.remsi v21 c2_i32
  let v199 : BitVec 32 := Scalar.muli c4_i32_123 v22
  let c2_i32_124 : BitVec 32 := 2#32
  let c1_i32_122 : BitVec 32 := 1#32
  let v23 : BitVec 32 := Dev.word d20
  let c2_i32_11 : BitVec 32 := 2#32
  let v24 : BitVec 32 := Scalar.divsi v23 c2_i32_11
  let c2_i32_10 : BitVec 32 := 2#32
  let v25 : BitVec 32 := Scalar.remsi v24 c2_i32_10
  let v198 : BitVec 32 := Scalar.subi c1_i32_122 v25
  let v200 : BitVec 32 := Scalar.muli c2_i32_124 v198
  let v201 : BitVec 32 := Scalar.addi v199 v200
  let v26 : BitVec 32 := Dev.word d20
  let c1_i32 : BitVec 32 := 1#32
  let v27 : BitVec 32 := Scalar.divsi v26 c1_i32
  let c2_i32_12 : BitVec 32 := 2#32
  let v28 : BitVec 32 := Scalar.remsi v27 c2_i32_12
  let v202 : BitVec 32 := Scalar.addi v201 v28
  let c0_i32_359 : BitVec 32 := 0#32
  let c0_i32_360 : BitVec 32 := 0#32
  ![v202.toNat, 0, 0]
def k0_off20 (d20 : Dev nD) : Fin 3 → Nat :=
  let c4_i32_127 : BitVec 32 := 4#32
  let v20 : BitVec 32 := Dev.word d20
  let c4_i32 : BitVec 32 := 4#32
  let v21 : BitVec 32 := Scalar.divsi v20 c4_i32
  let c2_i32 : BitVec 32 := 2#32
  let v22 : BitVec 32 := Scalar.remsi v21 c2_i32
  let v205 : BitVec 32 := Scalar.muli c4_i32_127 v22
  let c2_i32_128 : BitVec 32 := 2#32
  let c1_i32_125 : BitVec 32 := 1#32
  let v23 : BitVec 32 := Dev.word d20
  let c2_i32_11 : BitVec 32 := 2#32
  let v24 : BitVec 32 := Scalar.divsi v23 c2_i32_11
  let c2_i32_10 : BitVec 32 := 2#32
  let v25 : BitVec 32 := Scalar.remsi v24 c2_i32_10
  let v203 : BitVec 32 := Scalar.subi c1_i32_125 v25
  let v206 : BitVec 32 := Scalar.muli c2_i32_128 v203
  let v207 : BitVec 32 := Scalar.addi v205 v206
  let c1_i32_126 : BitVec 32 := 1#32
  let v26 : BitVec 32 := Dev.word d20
  let c1_i32 : BitVec 32 := 1#32
  let v27 : BitVec 32 := Scalar.divsi v26 c1_i32
  let c2_i32_12 : BitVec 32 := 2#32
  let v28 : BitVec 32 := Scalar.remsi v27 c2_i32_12
  let v204 : BitVec 32 := Scalar.subi c1_i32_126 v28
  let v208 : BitVec 32 := Scalar.addi v207 v204
  let c0_i32_366 : BitVec 32 := 0#32
  let c0_i32_367 : BitVec 32 := 0#32
  ![v208.toNat, 0, 0]
def k0_off21 (d20 : Dev nD) : Fin 3 → Nat :=
  let c4_i32_130 : BitVec 32 := 4#32
  let c1_i32_129 : BitVec 32 := 1#32
  let v20 : BitVec 32 := Dev.word d20
  let c4_i32 : BitVec 32 := 4#32
  let v21 : BitVec 32 := Scalar.divsi v20 c4_i32
  let c2_i32 : BitVec 32 := 2#32
  let v22 : BitVec 32 := Scalar.remsi v21 c2_i32
  let v209 : BitVec 32 := Scalar.subi c1_i32_129 v22
  let v210 : BitVec 32 := Scalar.muli c4_i32_130 v209
  let c2_i32_131 : BitVec 32 := 2#32
  let v23 : BitVec 32 := Dev.word d20
  let c2_i32_11 : BitVec 32 := 2#32
  let v24 : BitVec 32 := Scalar.divsi v23 c2_i32_11
  let c2_i32_10 : BitVec 32 := 2#32
  let v25 : BitVec 32 := Scalar.remsi v24 c2_i32_10
  let v211 : BitVec 32 := Scalar.muli c2_i32_131 v25
  let v212 : BitVec 32 := Scalar.addi v210 v211
  let v26 : BitVec 32 := Dev.word d20
  let c1_i32 : BitVec 32 := 1#32
  let v27 : BitVec 32 := Scalar.divsi v26 c1_i32
  let c2_i32_12 : BitVec 32 := 2#32
  let v28 : BitVec 32 := Scalar.remsi v27 c2_i32_12
  let v213 : BitVec 32 := Scalar.addi v212 v28
  let c0_i32_373 : BitVec 32 := 0#32
  let c0_i32_374 : BitVec 32 := 0#32
  ![v213.toNat, 0, 0]
def k0_off22 (d20 : Dev nD) : Fin 3 → Nat :=
  let c4_i32_134 : BitVec 32 := 4#32
  let c1_i32_132 : BitVec 32 := 1#32
  let v20 : BitVec 32 := Dev.word d20
  let c4_i32 : BitVec 32 := 4#32
  let v21 : BitVec 32 := Scalar.divsi v20 c4_i32
  let c2_i32 : BitVec 32 := 2#32
  let v22 : BitVec 32 := Scalar.remsi v21 c2_i32
  let v214 : BitVec 32 := Scalar.subi c1_i32_132 v22
  let v216 : BitVec 32 := Scalar.muli c4_i32_134 v214
  let c2_i32_135 : BitVec 32 := 2#32
  let v23 : BitVec 32 := Dev.word d20
  let c2_i32_11 : BitVec 32 := 2#32
  let v24 : BitVec 32 := Scalar.divsi v23 c2_i32_11
  let c2_i32_10 : BitVec 32 := 2#32
  let v25 : BitVec 32 := Scalar.remsi v24 c2_i32_10
  let v217 : BitVec 32 := Scalar.muli c2_i32_135 v25
  let v218 : BitVec 32 := Scalar.addi v216 v217
  let c1_i32_133 : BitVec 32 := 1#32
  let v26 : BitVec 32 := Dev.word d20
  let c1_i32 : BitVec 32 := 1#32
  let v27 : BitVec 32 := Scalar.divsi v26 c1_i32
  let c2_i32_12 : BitVec 32 := 2#32
  let v28 : BitVec 32 := Scalar.remsi v27 c2_i32_12
  let v215 : BitVec 32 := Scalar.subi c1_i32_133 v28
  let v219 : BitVec 32 := Scalar.addi v218 v215
  let c0_i32_380 : BitVec 32 := 0#32
  let c0_i32_381 : BitVec 32 := 0#32
  ![v219.toNat, 0, 0]
def k0_off23 (d20 : Dev nD) : Fin 3 → Nat :=
  let c4_i32_138 : BitVec 32 := 4#32
  let c1_i32_136 : BitVec 32 := 1#32
  let v20 : BitVec 32 := Dev.word d20
  let c4_i32 : BitVec 32 := 4#32
  let v21 : BitVec 32 := Scalar.divsi v20 c4_i32
  let c2_i32 : BitVec 32 := 2#32
  let v22 : BitVec 32 := Scalar.remsi v21 c2_i32
  let v220 : BitVec 32 := Scalar.subi c1_i32_136 v22
  let v222 : BitVec 32 := Scalar.muli c4_i32_138 v220
  let c2_i32_139 : BitVec 32 := 2#32
  let c1_i32_137 : BitVec 32 := 1#32
  let v23 : BitVec 32 := Dev.word d20
  let c2_i32_11 : BitVec 32 := 2#32
  let v24 : BitVec 32 := Scalar.divsi v23 c2_i32_11
  let c2_i32_10 : BitVec 32 := 2#32
  let v25 : BitVec 32 := Scalar.remsi v24 c2_i32_10
  let v221 : BitVec 32 := Scalar.subi c1_i32_137 v25
  let v223 : BitVec 32 := Scalar.muli c2_i32_139 v221
  let v224 : BitVec 32 := Scalar.addi v222 v223
  let v26 : BitVec 32 := Dev.word d20
  let c1_i32 : BitVec 32 := 1#32
  let v27 : BitVec 32 := Scalar.divsi v26 c1_i32
  let c2_i32_12 : BitVec 32 := 2#32
  let v28 : BitVec 32 := Scalar.remsi v27 c2_i32_12
  let v225 : BitVec 32 := Scalar.addi v224 v28
  let c0_i32_387 : BitVec 32 := 0#32
  let c0_i32_388 : BitVec 32 := 0#32
  ![v225.toNat, 0, 0]
def k0_off24 (d20 : Dev nD) : Fin 3 → Nat :=
  let c4_i32_143 : BitVec 32 := 4#32
  let c1_i32_140 : BitVec 32 := 1#32
  let v20 : BitVec 32 := Dev.word d20
  let c4_i32 : BitVec 32 := 4#32
  let v21 : BitVec 32 := Scalar.divsi v20 c4_i32
  let c2_i32 : BitVec 32 := 2#32
  let v22 : BitVec 32 := Scalar.remsi v21 c2_i32
  let v226 : BitVec 32 := Scalar.subi c1_i32_140 v22
  let v229 : BitVec 32 := Scalar.muli c4_i32_143 v226
  let c2_i32_144 : BitVec 32 := 2#32
  let c1_i32_141 : BitVec 32 := 1#32
  let v23 : BitVec 32 := Dev.word d20
  let c2_i32_11 : BitVec 32 := 2#32
  let v24 : BitVec 32 := Scalar.divsi v23 c2_i32_11
  let c2_i32_10 : BitVec 32 := 2#32
  let v25 : BitVec 32 := Scalar.remsi v24 c2_i32_10
  let v227 : BitVec 32 := Scalar.subi c1_i32_141 v25
  let v230 : BitVec 32 := Scalar.muli c2_i32_144 v227
  let v231 : BitVec 32 := Scalar.addi v229 v230
  let c1_i32_142 : BitVec 32 := 1#32
  let v26 : BitVec 32 := Dev.word d20
  let c1_i32 : BitVec 32 := 1#32
  let v27 : BitVec 32 := Scalar.divsi v26 c1_i32
  let c2_i32_12 : BitVec 32 := 2#32
  let v28 : BitVec 32 := Scalar.remsi v27 c2_i32_12
  let v228 : BitVec 32 := Scalar.subi c1_i32_142 v28
  let v232 : BitVec 32 := Scalar.addi v231 v228
  let c0_i32_394 : BitVec 32 := 0#32
  let c0_i32_395 : BitVec 32 := 0#32
  ![v232.toNat, 0, 0]
def k0_off25 (d20 : Dev nD) : Fin 3 → Nat :=
  let c4_i32_13 : BitVec 32 := 4#32
  let v20 : BitVec 32 := Dev.word d20
  let c4_i32 : BitVec 32 := 4#32
  let v21 : BitVec 32 := Scalar.divsi v20 c4_i32
  let c2_i32 : BitVec 32 := 2#32
  let v22 : BitVec 32 := Scalar.remsi v21 c2_i32
  let v29 : BitVec 32 := Scalar.muli c4_i32_13 v22
  let c2_i32_14 : BitVec 32 := 2#32
  let v23 : BitVec 32 := Dev.word d20
  let c2_i32_11 : BitVec 32 := 2#32
  let v24 : BitVec 32 := Scalar.divsi v23 c2_i32_11
  let c2_i32_10 : BitVec 32 := 2#32
  let v25 : BitVec 32 := Scalar.remsi v24 c2_i32_10
  let v30 : BitVec 32 := Scalar.muli c2_i32_14 v25
  let v31 : BitVec 32 := Scalar.addi v29 v30
  let v26 : BitVec 32 := Dev.word d20
  let c1_i32 : BitVec 32 := 1#32
  let v27 : BitVec 32 := Scalar.divsi v26 c1_i32
  let c2_i32_12 : BitVec 32 := 2#32
  let v28 : BitVec 32 := Scalar.remsi v27 c2_i32_12
  let v32 : BitVec 32 := Scalar.addi v31 v28
  let c0_i32_399 : BitVec 32 := 0#32
  let c0_i32_400 : BitVec 32 := 0#32
  ![v32.toNat, 0, 0]
def k0_off26 (d20 : Dev nD) : Fin 3 → Nat :=
  let c4_i32_13 : BitVec 32 := 4#32
  let v20 : BitVec 32 := Dev.word d20
  let c4_i32 : BitVec 32 := 4#32
  let v21 : BitVec 32 := Scalar.divsi v20 c4_i32
  let c2_i32 : BitVec 32 := 2#32
  let v22 : BitVec 32 := Scalar.remsi v21 c2_i32
  let v29 : BitVec 32 := Scalar.muli c4_i32_13 v22
  let c2_i32_14 : BitVec 32 := 2#32
  let v23 : BitVec 32 := Dev.word d20
  let c2_i32_11 : BitVec 32 := 2#32
  let v24 : BitVec 32 := Scalar.divsi v23 c2_i32_11
  let c2_i32_10 : BitVec 32 := 2#32
  let v25 : BitVec 32 := Scalar.remsi v24 c2_i32_10
  let v30 : BitVec 32 := Scalar.muli c2_i32_14 v25
  let v31 : BitVec 32 := Scalar.addi v29 v30
  let v26 : BitVec 32 := Dev.word d20
  let c1_i32 : BitVec 32 := 1#32
  let v27 : BitVec 32 := Scalar.divsi v26 c1_i32
  let c2_i32_12 : BitVec 32 := 2#32
  let v28 : BitVec 32 := Scalar.remsi v27 c2_i32_12
  let v32 : BitVec 32 := Scalar.addi v31 v28
  let c0_i32_504 : BitVec 32 := 0#32
  let c0_i32_505 : BitVec 32 := 0#32
  ![v32.toNat, 0, 0]
def k0_off27 (d20 : Dev nD) : Fin 3 → Nat :=
  let c4_i32_13 : BitVec 32 := 4#32
  let v20 : BitVec 32 := Dev.word d20
  let c4_i32 : BitVec 32 := 4#32
  let v21 : BitVec 32 := Scalar.divsi v20 c4_i32
  let c2_i32 : BitVec 32 := 2#32
  let v22 : BitVec 32 := Scalar.remsi v21 c2_i32
  let v29 : BitVec 32 := Scalar.muli c4_i32_13 v22
  let c2_i32_14 : BitVec 32 := 2#32
  let v23 : BitVec 32 := Dev.word d20
  let c2_i32_11 : BitVec 32 := 2#32
  let v24 : BitVec 32 := Scalar.divsi v23 c2_i32_11
  let c2_i32_10 : BitVec 32 := 2#32
  let v25 : BitVec 32 := Scalar.remsi v24 c2_i32_10
  let v30 : BitVec 32 := Scalar.muli c2_i32_14 v25
  let v31 : BitVec 32 := Scalar.addi v29 v30
  let v26 : BitVec 32 := Dev.word d20
  let c1_i32 : BitVec 32 := 1#32
  let v27 : BitVec 32 := Scalar.divsi v26 c1_i32
  let c2_i32_12 : BitVec 32 := 2#32
  let v28 : BitVec 32 := Scalar.remsi v27 c2_i32_12
  let v32 : BitVec 32 := Scalar.addi v31 v28
  let c0_i32_539 : BitVec 32 := 0#32
  let c0_i32_540 : BitVec 32 := 0#32
  ![v32.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1280x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1280x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceIdeal.lean ====
abbrev S133120x1024 : Shape := ⟨2, ![133120, 1024]⟩
abbrev S1024x8192 : Shape := ⟨2, ![1024, 8192]⟩
abbrev S1024x1024 : Shape := ⟨2, ![1024, 1024]⟩
abbrev S1024x5632 : Shape := ⟨2, ![1024, 5632]⟩
abbrev S2816x1024 : Shape := ⟨2, ![2816, 1024]⟩
abbrev S133120x8192 : Shape := ⟨2, ![133120, 8192]⟩
abbrev S8x128x1024 : Shape := ⟨3, ![8, 128, 1024]⟩
abbrev S1024x8x704 : Shape := ⟨3, ![1024, 8, 704]⟩
abbrev S8x1024x704 : Shape := ⟨3, ![8, 1024, 704]⟩
abbrev S8x352x1024 : Shape := ⟨3, ![8, 352, 1024]⟩

abbrev nBuf : Space → Nat
  | .hbm => 14
  | .vmem => 0
  | .smem => 0
  | _ => 0

abbrev bufTy : (tb : Table) → Fin (tcTables nBuf tb) → BufTy
  | .hbm, ⟨0, _⟩ => ⟨S133120x1024, .bf16⟩
  | .hbm, ⟨1, _⟩ => ⟨S1024x8192, .bf16⟩
  | .hbm, ⟨2, _⟩ => ⟨S1024x1024, .bf16⟩
  | .hbm, ⟨3, _⟩ => ⟨S1024x1024, .bf16⟩
  | .hbm, ⟨4, _⟩ => ⟨S1024x1024, .bf16⟩
  | .hbm, ⟨5, _⟩ => ⟨S1024x5632, .bf16⟩
  | .hbm, ⟨6, _⟩ => ⟨S2816x1024, .bf16⟩
  | .hbm, ⟨7, _⟩ => ⟨S133120x8192, .f32⟩
  | .hbm, ⟨8, _⟩ => ⟨S8x128x1024, .bf16⟩
  | .hbm, ⟨9, _⟩ => ⟨S8x128x1024, .bf16⟩
  | .hbm, ⟨10, _⟩ => ⟨S8x128x1024, .bf16⟩
  | .hbm, ⟨11, _⟩ => ⟨S1024x8x704, .bf16⟩
  | .hbm, ⟨12, _⟩ => ⟨S8x1024x704, .bf16⟩
  | .hbm, ⟨13, _⟩ => ⟨S8x352x1024, .bf16⟩
  | _, _ => ⟨S133120x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩

abbrev nD : Nat := 1
abbrev τ : Topo := Topo.v7x

variable {F : FTy → Type} [FloatOps F]
-- ==== Weight.lean ====
abbrev S16640x1024 : Shape := ⟨2, ![16640, 1024]⟩
abbrev S16640x8192 : Shape := ⟨2, ![16640, 8192]⟩
abbrev S8x128x1024 : Shape := ⟨3, ![8, 128, 1024]⟩
abbrev S8x1024x704 : Shape := ⟨3, ![8, 1024, 704]⟩
abbrev S8x352x1024 : Shape := ⟨3, ![8, 352, 1024]⟩
abbrev S1024x8192 : Shape := ⟨2, ![1024, 8192]⟩
abbrev S1280x1024 : Shape := ⟨2, ![1280, 1024]⟩
abbrev S1024x1024 : Shape := ⟨2, ![1024, 1024]⟩
abbrev S35 : Shape := ⟨1, ![35]⟩
abbrev S5 : Shape := ⟨1, ![5]⟩
abbrev S1 : Shape := ⟨1, ![1]⟩
abbrev S_ : Shape := ⟨0, ![]⟩
abbrev S1x128x1024 : Shape := ⟨3, ![1, 128, 1024]⟩
abbrev S128x1024 : Shape := ⟨2, ![128, 1024]⟩
abbrev S1x1024x704 : Shape := ⟨3, ![1, 1024, 704]⟩
abbrev S1024x704 : Shape := ⟨2, ![1024, 704]⟩
abbrev S1x352x1024 : Shape := ⟨3, ![1, 352, 1024]⟩
abbrev S352x1024 : Shape := ⟨2, ![352, 1024]⟩

abbrev nBuf : Space → Nat
  | .hbm => 13
  | .vmem => 7
  | .smem => 0
  | _ => 0

abbrev bufTy : (tb : Table) → Fin (tcTables nBuf tb) → BufTy
  | .hbm, ⟨0, _⟩ => ⟨S16640x1024, .bf16⟩
  | .hbm, ⟨1, _⟩ => ⟨S16640x8192, .bf16⟩
  | .hbm, ⟨2, _⟩ => ⟨S8x128x1024, .bf16⟩
  | .hbm, ⟨3, _⟩ => ⟨S8x128x1024, .bf16⟩
  | .hbm, ⟨4, _⟩ => ⟨S8x128x1024, .bf16⟩
  | .hbm, ⟨5, _⟩ => ⟨S8x1024x704, .bf16⟩
  | .hbm, ⟨6, _⟩ => ⟨S8x352x1024, .bf16⟩
  | .hbm, ⟨7, _⟩ => ⟨S1024x8192, .bf16⟩
  | .hbm, ⟨8, _⟩ => ⟨S8x128x1024, .bf16⟩
  | .hbm, ⟨9, _⟩ => ⟨S8x128x1024, .bf16⟩
  | .hbm, ⟨10, _⟩ => ⟨S8x128x1024, .bf16⟩
  | .hbm, ⟨11, _⟩ => ⟨S8x1024x704, .bf16⟩
  | .hbm, ⟨12, _⟩ => ⟨S8x352x1024, .bf16⟩
  | .local _ .vmem, ⟨0, _⟩ => ⟨S1280x1024, .bf16⟩
  | .local _ .vmem, ⟨1, _⟩ => ⟨S1280x1024, .bf16⟩
  | .local _ .vmem, ⟨2, _⟩ => ⟨S1280x1024, .bf16⟩
  | .local _ .vmem, ⟨3, _⟩ => ⟨S1280x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S16640x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 81 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | _ => false

abbrev sig : RefSig :=
  ofTc nBuf bufTy 0 81 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v1_4 : Ref sig .tc := ⟨.hbm, 11, rfl⟩
abbrev main_v1_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 8
abbrev τ : Topo := Topo.v7x

variable {F : FTy → Type} [FloatOps F]

abbrev grid0 : Pipeline.Grid := ⟨3, ![1, 8, 13], ![false, false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let arg2 : BitVec 32 := BitVec.ofNat 32 (i 2).val
  let c0_i32_1 : BitVec 32 := 0#32
  let v3 : BitVec 1 := Scalar.cmpi .eq arg2 c0_i32_1
  let v4 : BitVec 1 := Scalar.andi v2 v3
  let v5 : BitVec 32 := Scalar.extui v4
  let c0_i32_2 : BitVec 32 := 0#32
  let v6 : BitVec 1 := Scalar.cmpi .ne v5 c0_i32_2
  v6

def k0_off1 (d28 : Dev nD) : Fin 3 → Nat :=
  let c4_i32_17 : BitVec 32 := 4#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v37 : BitVec 32 := Scalar.muli c4_i32_17 v30
  let c2_i32_18 : BitVec 32 := 2#32
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let v38 : BitVec 32 := Scalar.muli c2_i32_18 v33
  let v39 : BitVec 32 := Scalar.addi v37 v38
  let v34 : BitVec 32 := Dev.word d28
  let c1_i32 : BitVec 32 := 1#32
  let v35 : BitVec 32 := Scalar.divsi v34 c1_i32
  let c2_i32_16 : BitVec 32 := 2#32
  let v36 : BitVec 32 := Scalar.remsi v35 c2_i32_16
  let v40 : BitVec 32 := Scalar.addi v39 v36
  let c0_i32_150 : BitVec 32 := 0#32
  let c0_i32_151 : BitVec 32 := 0#32
  ![v40.toNat, 0, 0]
def k0_off2 (d28 : Dev nD) : Fin 3 → Nat :=
  let c4_i32_17 : BitVec 32 := 4#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v37 : BitVec 32 := Scalar.muli c4_i32_17 v30
  let c2_i32_18 : BitVec 32 := 2#32
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let v38 : BitVec 32 := Scalar.muli c2_i32_18 v33
  let v39 : BitVec 32 := Scalar.addi v37 v38
  let v34 : BitVec 32 := Dev.word d28
  let c1_i32 : BitVec 32 := 1#32
  let v35 : BitVec 32 := Scalar.divsi v34 c1_i32
  let c2_i32_16 : BitVec 32 := 2#32
  let v36 : BitVec 32 := Scalar.remsi v35 c2_i32_16
  let v40 : BitVec 32 := Scalar.addi v39 v36
  let c0_i32_164 : BitVec 32 := 0#32
  let c0_i32_165 : BitVec 32 := 0#32
  ![v40.toNat, 0, 0]
def k0_off3 (d28 : Dev nD) : Fin 3 → Nat :=
  let c4_i32_17 : BitVec 32 := 4#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v37 : BitVec 32 := Scalar.muli c4_i32_17 v30
  let c2_i32_18 : BitVec 32 := 2#32
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let v38 : BitVec 32 := Scalar.muli c2_i32_18 v33
  let v39 : BitVec 32 := Scalar.addi v37 v38
  let v34 : BitVec 32 := Dev.word d28
  let c1_i32 : BitVec 32 := 1#32
  let v35 : BitVec 32 := Scalar.divsi v34 c1_i32
  let c2_i32_16 : BitVec 32 := 2#32
  let v36 : BitVec 32 := Scalar.remsi v35 c2_i32_16
  let v40 : BitVec 32 := Scalar.addi v39 v36
  let c0_i32_169 : BitVec 32 := 0#32
  let c0_i32_170 : BitVec 32 := 0#32
  ![v40.toNat, 0, 0]
def k0_off4 (d28 : Dev nD) : Fin 3 → Nat :=
  let c4_i32_20 : BitVec 32 := 4#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v42 : BitVec 32 := Scalar.muli c4_i32_20 v30
  let c2_i32_21 : BitVec 32 := 2#32
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let v43 : BitVec 32 := Scalar.muli c2_i32_21 v33
  let v44 : BitVec 32 := Scalar.addi v42 v43
  let c1_i32_19 : BitVec 32 := 1#32
  let v34 : BitVec 32 := Dev.word d28
  let c1_i32 : BitVec 32 := 1#32
  let v35 : BitVec 32 := Scalar.divsi v34 c1_i32
  let c2_i32_16 : BitVec 32 := 2#32
  let v36 : BitVec 32 := Scalar.remsi v35 c2_i32_16
  let v41 : BitVec 32 := Scalar.subi c1_i32_19 v36
  let v45 : BitVec 32 := Scalar.addi v44 v41
  let c0_i32_181 : BitVec 32 := 0#32
  let c0_i32_182 : BitVec 32 := 0#32
  ![v45.toNat, 0, 0]
def k0_dev1 (d28 : Dev nD) : Nat :=
  let c0_i32_176 : BitVec 32 := 0#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let c4_i32_175 : BitVec 32 := 4#32
  let v271 : BitVec 32 := Scalar.muli v30 c4_i32_175
  let v272 : BitVec 32 := Scalar.addi c0_i32_176 v271
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let c2_i32_177 : BitVec 32 := 2#32
  let v273 : BitVec 32 := Scalar.muli v33 c2_i32_177
  let v274 : BitVec 32 := Scalar.addi v272 v273
  let c1_i32_19 : BitVec 32 := 1#32
  let v34 : BitVec 32 := Dev.word d28
  let c1_i32 : BitVec 32 := 1#32
  let v35 : BitVec 32 := Scalar.divsi v34 c1_i32
  let c2_i32_16 : BitVec 32 := 2#32
  let v36 : BitVec 32 := Scalar.remsi v35 c2_i32_16
  let v41 : BitVec 32 := Scalar.subi c1_i32_19 v36
  let c1_i32_178 : BitVec 32 := 1#32
  let v275 : BitVec 32 := Scalar.muli v41 c1_i32_178
  let v276 : BitVec 32 := Scalar.addi v274 v275
  v276.toNat
def k0_off5 (d28 : Dev nD) : Fin 3 → Nat :=
  let c4_i32_23 : BitVec 32 := 4#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v47 : BitVec 32 := Scalar.muli c4_i32_23 v30
  let c2_i32_24 : BitVec 32 := 2#32
  let c1_i32_22 : BitVec 32 := 1#32
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let v46 : BitVec 32 := Scalar.subi c1_i32_22 v33
  let v48 : BitVec 32 := Scalar.muli c2_i32_24 v46
  let v49 : BitVec 32 := Scalar.addi v47 v48
  let v34 : BitVec 32 := Dev.word d28
  let c1_i32 : BitVec 32 := 1#32
  let v35 : BitVec 32 := Scalar.divsi v34 c1_i32
  let c2_i32_16 : BitVec 32 := 2#32
  let v36 : BitVec 32 := Scalar.remsi v35 c2_i32_16
  let v50 : BitVec 32 := Scalar.addi v49 v36
  let c0_i32_191 : BitVec 32 := 0#32
  let c0_i32_192 : BitVec 32 := 0#32
  ![v50.toNat, 0, 0]
def k0_dev2 (d28 : Dev nD) : Nat :=
  let c0_i32_186 : BitVec 32 := 0#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let c4_i32_185 : BitVec 32 := 4#32
  let v285 : BitVec 32 := Scalar.muli v30 c4_i32_185
  let v286 : BitVec 32 := Scalar.addi c0_i32_186 v285
  let c1_i32_22 : BitVec 32 := 1#32
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let v46 : BitVec 32 := Scalar.subi c1_i32_22 v33
  let c2_i32_187 : BitVec 32 := 2#32
  let v287 : BitVec 32 := Scalar.muli v46 c2_i32_187
  let v288 : BitVec 32 := Scalar.addi v286 v287
  let v34 : BitVec 32 := Dev.word d28
  let c1_i32 : BitVec 32 := 1#32
  let v35 : BitVec 32 := Scalar.divsi v34 c1_i32
  let c2_i32_16 : BitVec 32 := 2#32
  let v36 : BitVec 32 := Scalar.remsi v35 c2_i32_16
  let c1_i32_188 : BitVec 32 := 1#32
  let v289 : BitVec 32 := Scalar.muli v36 c1_i32_188
  let v290 : BitVec 32 := Scalar.addi v288 v289
  v290.toNat
def k0_off6 (d28 : Dev nD) : Fin 3 → Nat :=
  let c4_i32_27 : BitVec 32 := 4#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v53 : BitVec 32 := Scalar.muli c4_i32_27 v30
  let c2_i32_28 : BitVec 32 := 2#32
  let c1_i32_25 : BitVec 32 := 1#32
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let v51 : BitVec 32 := Scalar.subi c1_i32_25 v33
  let v54 : BitVec 32 := Scalar.muli c2_i32_28 v51
  let v55 : BitVec 32 := Scalar.addi v53 v54
  let c1_i32_26 : BitVec 32 := 1#32
  let v34 : BitVec 32 := Dev.word d28
  let c1_i32 : BitVec 32 := 1#32
  let v35 : BitVec 32 := Scalar.divsi v34 c1_i32
  let c2_i32_16 : BitVec 32 := 2#32
  let v36 : BitVec 32 := Scalar.remsi v35 c2_i32_16
  let v52 : BitVec 32 := Scalar.subi c1_i32_26 v36
  let v56 : BitVec 32 := Scalar.addi v55 v52
  let c0_i32_201 : BitVec 32 := 0#32
  let c0_i32_202 : BitVec 32 := 0#32
  ![v56.toNat, 0, 0]
def k0_dev3 (d28 : Dev nD) : Nat :=
  let c0_i32_196 : BitVec 32 := 0#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let c4_i32_195 : BitVec 32 := 4#32
  let v299 : BitVec 32 := Scalar.muli v30 c4_i32_195
  let v300 : BitVec 32 := Scalar.addi c0_i32_196 v299
  let c1_i32_25 : BitVec 32 := 1#32
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let v51 : BitVec 32 := Scalar.subi c1_i32_25 v33
  let c2_i32_197 : BitVec 32 := 2#32
  let v301 : BitVec 32 := Scalar.muli v51 c2_i32_197
  let v302 : BitVec 32 := Scalar.addi v300 v301
  let c1_i32_26 : BitVec 32 := 1#32
  let v34 : BitVec 32 := Dev.word d28
  let c1_i32 : BitVec 32 := 1#32
  let v35 : BitVec 32 := Scalar.divsi v34 c1_i32
  let c2_i32_16 : BitVec 32 := 2#32
  let v36 : BitVec 32 := Scalar.remsi v35 c2_i32_16
  let v52 : BitVec 32 := Scalar.subi c1_i32_26 v36
  let c1_i32_198 : BitVec 32 := 1#32
  let v303 : BitVec 32 := Scalar.muli v52 c1_i32_198
  let v304 : BitVec 32 := Scalar.addi v302 v303
  v304.toNat
def k0_off7 (d28 : Dev nD) : Fin 3 → Nat :=
  let c4_i32_30 : BitVec 32 := 4#32
  let c1_i32_29 : BitVec 32 := 1#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v57 : BitVec 32 := Scalar.subi c1_i32_29 v30
  let v58 : BitVec 32 := Scalar.muli c4_i32_30 v57
  let c2_i32_31 : BitVec 32 := 2#32
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let v59 : BitVec 32 := Scalar.muli c2_i32_31 v33
  let v60 : BitVec 32 := Scalar.addi v58 v59
  let v34 : BitVec 32 := Dev.word d28
  let c1_i32 : BitVec 32 := 1#32
  let v35 : BitVec 32 := Scalar.divsi v34 c1_i32
  let c2_i32_16 : BitVec 32 := 2#32
  let v36 : BitVec 32 := Scalar.remsi v35 c2_i32_16
  let v61 : BitVec 32 := Scalar.addi v60 v36
  let c0_i32_211 : BitVec 32 := 0#32
  let c0_i32_212 : BitVec 32 := 0#32
  ![v61.toNat, 0, 0]
def k0_dev4 (d28 : Dev nD) : Nat :=
  let c0_i32_206 : BitVec 32 := 0#32
  let c1_i32_29 : BitVec 32 := 1#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v57 : BitVec 32 := Scalar.subi c1_i32_29 v30
  let c4_i32_205 : BitVec 32 := 4#32
  let v313 : BitVec 32 := Scalar.muli v57 c4_i32_205
  let v314 : BitVec 32 := Scalar.addi c0_i32_206 v313
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let c2_i32_207 : BitVec 32 := 2#32
  let v315 : BitVec 32 := Scalar.muli v33 c2_i32_207
  let v316 : BitVec 32 := Scalar.addi v314 v315
  let v34 : BitVec 32 := Dev.word d28
  let c1_i32 : BitVec 32 := 1#32
  let v35 : BitVec 32 := Scalar.divsi v34 c1_i32
  let c2_i32_16 : BitVec 32 := 2#32
  let v36 : BitVec 32 := Scalar.remsi v35 c2_i32_16
  let c1_i32_208 : BitVec 32 := 1#32
  let v317 : BitVec 32 := Scalar.muli v36 c1_i32_208
  let v318 : BitVec 32 := Scalar.addi v316 v317
  v318.toNat
def k0_off8 (d28 : Dev nD) : Fin 3 → Nat :=
  let c4_i32_34 : BitVec 32 := 4#32
  let c1_i32_32 : BitVec 32 := 1#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v62 : BitVec 32 := Scalar.subi c1_i32_32 v30
  let v64 : BitVec 32 := Scalar.muli c4_i32_34 v62
  let c2_i32_35 : BitVec 32 := 2#32
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let v65 : BitVec 32 := Scalar.muli c2_i32_35 v33
  let v66 : BitVec 32 := Scalar.addi v64 v65
  let c1_i32_33 : BitVec 32 := 1#32
  let v34 : BitVec 32 := Dev.word d28
  let c1_i32 : BitVec 32 := 1#32
  let v35 : BitVec 32 := Scalar.divsi v34 c1_i32
  let c2_i32_16 : BitVec 32 := 2#32
  let v36 : BitVec 32 := Scalar.remsi v35 c2_i32_16
  let v63 : BitVec 32 := Scalar.subi c1_i32_33 v36
  let v67 : BitVec 32 := Scalar.addi v66 v63
  let c0_i32_221 : BitVec 32 := 0#32
  let c0_i32_222 : BitVec 32 := 0#32
  ![v67.toNat, 0, 0]
def k0_dev5 (d28 : Dev nD) : Nat :=
  let c0_i32_216 : BitVec 32 := 0#32
  let c1_i32_32 : BitVec 32 := 1#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v62 : BitVec 32 := Scalar.subi c1_i32_32 v30
  let c4_i32_215 : BitVec 32 := 4#32
  let v327 : BitVec 32 := Scalar.muli v62 c4_i32_215
  let v328 : BitVec 32 := Scalar.addi c0_i32_216 v327
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let c2_i32_217 : BitVec 32 := 2#32
  let v329 : BitVec 32 := Scalar.muli v33 c2_i32_217
  let v330 : BitVec 32 := Scalar.addi v328 v329
  let c1_i32_33 : BitVec 32 := 1#32
  let v34 : BitVec 32 := Dev.word d28
  let c1_i32 : BitVec 32 := 1#32
  let v35 : BitVec 32 := Scalar.divsi v34 c1_i32
  let c2_i32_16 : BitVec 32 := 2#32
  let v36 : BitVec 32 := Scalar.remsi v35 c2_i32_16
  let v63 : BitVec 32 := Scalar.subi c1_i32_33 v36
  let c1_i32_218 : BitVec 32 := 1#32
  let v331 : BitVec 32 := Scalar.muli v63 c1_i32_218
  let v332 : BitVec 32 := Scalar.addi v330 v331
  v332.toNat
def k0_off9 (d28 : Dev nD) : Fin 3 → Nat :=
  let c4_i32_38 : BitVec 32 := 4#32
  let c1_i32_36 : BitVec 32 := 1#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v68 : BitVec 32 := Scalar.subi c1_i32_36 v30
  let v70 : BitVec 32 := Scalar.muli c4_i32_38 v68
  let c2_i32_39 : BitVec 32 := 2#32
  let c1_i32_37 : BitVec 32 := 1#32
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let v69 : BitVec 32 := Scalar.subi c1_i32_37 v33
  let v71 : BitVec 32 := Scalar.muli c2_i32_39 v69
  let v72 : BitVec 32 := Scalar.addi v70 v71
  let v34 : BitVec 32 := Dev.word d28
  let c1_i32 : BitVec 32 := 1#32
  let v35 : BitVec 32 := Scalar.divsi v34 c1_i32
  let c2_i32_16 : BitVec 32 := 2#32
  let v36 : BitVec 32 := Scalar.remsi v35 c2_i32_16
  let v73 : BitVec 32 := Scalar.addi v72 v36
  let c0_i32_230 : BitVec 32 := 0#32
  let c0_i32_231 : BitVec 32 := 0#32
  ![v73.toNat, 0, 0]
def k0_dev6 (d28 : Dev nD) : Nat :=
  let c0_i32_225 : BitVec 32 := 0#32
  let c1_i32_36 : BitVec 32 := 1#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v68 : BitVec 32 := Scalar.subi c1_i32_36 v30
  let c4_i32_224 : BitVec 32 := 4#32
  let v341 : BitVec 32 := Scalar.muli v68 c4_i32_224
  let v342 : BitVec 32 := Scalar.addi c0_i32_225 v341
  let c1_i32_37 : BitVec 32 := 1#32
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let v69 : BitVec 32 := Scalar.subi c1_i32_37 v33
  let c2_i32_226 : BitVec 32 := 2#32
  let v343 : BitVec 32 := Scalar.muli v69 c2_i32_226
  let v344 : BitVec 32 := Scalar.addi v342 v343
  let v34 : BitVec 32 := Dev.word d28
  let c1_i32 : BitVec 32 := 1#32
  let v35 : BitVec 32 := Scalar.divsi v34 c1_i32
  let c2_i32_16 : BitVec 32 := 2#32
  let v36 : BitVec 32 := Scalar.remsi v35 c2_i32_16
  let c1_i32_227 : BitVec 32 := 1#32
  let v345 : BitVec 32 := Scalar.muli v36 c1_i32_227
  let v346 : BitVec 32 := Scalar.addi v344 v345
  v346.toNat
def k0_off10 (d28 : Dev nD) : Fin 3 → Nat :=
  let c4_i32_43 : BitVec 32 := 4#32
  let c1_i32_40 : BitVec 32 := 1#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v74 : BitVec 32 := Scalar.subi c1_i32_40 v30
  let v77 : BitVec 32 := Scalar.muli c4_i32_43 v74
  let c2_i32_44 : BitVec 32 := 2#32
  let c1_i32_41 : BitVec 32 := 1#32
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let v75 : BitVec 32 := Scalar.subi c1_i32_41 v33
  let v78 : BitVec 32 := Scalar.muli c2_i32_44 v75
  let v79 : BitVec 32 := Scalar.addi v77 v78
  let c1_i32_42 : BitVec 32 := 1#32
  let v34 : BitVec 32 := Dev.word d28
  let c1_i32 : BitVec 32 := 1#32
  let v35 : BitVec 32 := Scalar.divsi v34 c1_i32
  let c2_i32_16 : BitVec 32 := 2#32
  let v36 : BitVec 32 := Scalar.remsi v35 c2_i32_16
  let v76 : BitVec 32 := Scalar.subi c1_i32_42 v36
  let v80 : BitVec 32 := Scalar.addi v79 v76
  let c0_i32_239 : BitVec 32 := 0#32
  let c0_i32_240 : BitVec 32 := 0#32
  ![v80.toNat, 0, 0]
def k0_dev7 (d28 : Dev nD) : Nat :=
  let c0_i32_234 : BitVec 32 := 0#32
  let c1_i32_40 : BitVec 32 := 1#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v74 : BitVec 32 := Scalar.subi c1_i32_40 v30
  let c4_i32_233 : BitVec 32 := 4#32
  let v355 : BitVec 32 := Scalar.muli v74 c4_i32_233
  let v356 : BitVec 32 := Scalar.addi c0_i32_234 v355
  let c1_i32_41 : BitVec 32 := 1#32
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let v75 : BitVec 32 := Scalar.subi c1_i32_41 v33
  let c2_i32_235 : BitVec 32 := 2#32
  let v357 : BitVec 32 := Scalar.muli v75 c2_i32_235
  let v358 : BitVec 32 := Scalar.addi v356 v357
  let c1_i32_42 : BitVec 32 := 1#32
  let v34 : BitVec 32 := Dev.word d28
  let c1_i32 : BitVec 32 := 1#32
  let v35 : BitVec 32 := Scalar.divsi v34 c1_i32
  let c2_i32_16 : BitVec 32 := 2#32
  let v36 : BitVec 32 := Scalar.remsi v35 c2_i32_16
  let v76 : BitVec 32 := Scalar.subi c1_i32_42 v36
  let c1_i32_236 : BitVec 32 := 1#32
  let v359 : BitVec 32 := Scalar.muli v76 c1_i32_236
  let v360 : BitVec 32 := Scalar.addi v358 v359
  v360.toNat
def k0_dev8 (d28 : Dev nD) : Nat :=
  let c0_i32_244 : BitVec 32 := 0#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let c4_i32_243 : BitVec 32 := 4#32
  let v369 : BitVec 32 := Scalar.muli v30 c4_i32_243
  let v370 : BitVec 32 := Scalar.addi c0_i32_244 v369
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let c2_i32_245 : BitVec 32 := 2#32
  let v371 : BitVec 32 := Scalar.muli v33 c2_i32_245
  let v372 : BitVec 32 := Scalar.addi v370 v371
  let c1_i32_45 : BitVec 32 := 1#32
  let v34 : BitVec 32 := Dev.word d28
  let c1_i32 : BitVec 32 := 1#32
  let v35 : BitVec 32 := Scalar.divsi v34 c1_i32
  let c2_i32_16 : BitVec 32 := 2#32
  let v36 : BitVec 32 := Scalar.remsi v35 c2_i32_16
  let v81 : BitVec 32 := Scalar.subi c1_i32_45 v36
  let c1_i32_246 : BitVec 32 := 1#32
  let v373 : BitVec 32 := Scalar.muli v81 c1_i32_246
  let v374 : BitVec 32 := Scalar.addi v372 v373
  v374.toNat
def k0_dev9 (d28 : Dev nD) : Nat :=
  let c0_i32_253 : BitVec 32 := 0#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let c4_i32_252 : BitVec 32 := 4#32
  let v383 : BitVec 32 := Scalar.muli v30 c4_i32_252
  let v384 : BitVec 32 := Scalar.addi c0_i32_253 v383
  let c1_i32_48 : BitVec 32 := 1#32
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let v86 : BitVec 32 := Scalar.subi c1_i32_48 v33
  let c2_i32_254 : BitVec 32 := 2#32
  let v385 : BitVec 32 := Scalar.muli v86 c2_i32_254
  let v386 : BitVec 32 := Scalar.addi v384 v385
  let v34 : BitVec 32 := Dev.word d28
  let c1_i32 : BitVec 32 := 1#32
  let v35 : BitVec 32 := Scalar.divsi v34 c1_i32
  let c2_i32_16 : BitVec 32 := 2#32
  let v36 : BitVec 32 := Scalar.remsi v35 c2_i32_16
  let c1_i32_255 : BitVec 32 := 1#32
  let v387 : BitVec 32 := Scalar.muli v36 c1_i32_255
  let v388 : BitVec 32 := Scalar.addi v386 v387
  v388.toNat
def k0_dev10 (d28 : Dev nD) : Nat :=
  let c0_i32_262 : BitVec 32 := 0#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let c4_i32_261 : BitVec 32 := 4#32
  let v397 : BitVec 32 := Scalar.muli v30 c4_i32_261
  let v398 : BitVec 32 := Scalar.addi c0_i32_262 v397
  let c1_i32_51 : BitVec 32 := 1#32
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let v91 : BitVec 32 := Scalar.subi c1_i32_51 v33
  let c2_i32_263 : BitVec 32 := 2#32
  let v399 : BitVec 32 := Scalar.muli v91 c2_i32_263
  let v400 : BitVec 32 := Scalar.addi v398 v399
  let c1_i32_52 : BitVec 32 := 1#32
  let v34 : BitVec 32 := Dev.word d28
  let c1_i32 : BitVec 32 := 1#32
  let v35 : BitVec 32 := Scalar.divsi v34 c1_i32
  let c2_i32_16 : BitVec 32 := 2#32
  let v36 : BitVec 32 := Scalar.remsi v35 c2_i32_16
  let v92 : BitVec 32 := Scalar.subi c1_i32_52 v36
  let c1_i32_264 : BitVec 32 := 1#32
  let v401 : BitVec 32 := Scalar.muli v92 c1_i32_264
  let v402 : BitVec 32 := Scalar.addi v400 v401
  v402.toNat
def k0_dev11 (d28 : Dev nD) : Nat :=
  let c0_i32_271 : BitVec 32 := 0#32
  let c1_i32_55 : BitVec 32 := 1#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v97 : BitVec 32 := Scalar.subi c1_i32_55 v30
  let c4_i32_270 : BitVec 32 := 4#32
  let v411 : BitVec 32 := Scalar.muli v97 c4_i32_270
  let v412 : BitVec 32 := Scalar.addi c0_i32_271 v411
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let c2_i32_272 : BitVec 32 := 2#32
  let v413 : BitVec 32 := Scalar.muli v33 c2_i32_272
  let v414 : BitVec 32 := Scalar.addi v412 v413
  let v34 : BitVec 32 := Dev.word d28
  let c1_i32 : BitVec 32 := 1#32
  let v35 : BitVec 32 := Scalar.divsi v34 c1_i32
  let c2_i32_16 : BitVec 32 := 2#32
  let v36 : BitVec 32 := Scalar.remsi v35 c2_i32_16
  let c1_i32_273 : BitVec 32 := 1#32
  let v415 : BitVec 32 := Scalar.muli v36 c1_i32_273
  let v416 : BitVec 32 := Scalar.addi v414 v415
  v416.toNat
def k0_dev12 (d28 : Dev nD) : Nat :=
  let c0_i32_280 : BitVec 32 := 0#32
  let c1_i32_58 : BitVec 32 := 1#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v102 : BitVec 32 := Scalar.subi c1_i32_58 v30
  let c4_i32_279 : BitVec 32 := 4#32
  let v425 : BitVec 32 := Scalar.muli v102 c4_i32_279
  let v426 : BitVec 32 := Scalar.addi c0_i32_280 v425
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let c2_i32_281 : BitVec 32 := 2#32
  let v427 : BitVec 32 := Scalar.muli v33 c2_i32_281
  let v428 : BitVec 32 := Scalar.addi v426 v427
  let c1_i32_59 : BitVec 32 := 1#32
  let v34 : BitVec 32 := Dev.word d28
  let c1_i32 : BitVec 32 := 1#32
  let v35 : BitVec 32 := Scalar.divsi v34 c1_i32
  let c2_i32_16 : BitVec 32 := 2#32
  let v36 : BitVec 32 := Scalar.remsi v35 c2_i32_16
  let v103 : BitVec 32 := Scalar.subi c1_i32_59 v36
  let c1_i32_282 : BitVec 32 := 1#32
  let v429 : BitVec 32 := Scalar.muli v103 c1_i32_282
  let v430 : BitVec 32 := Scalar.addi v428 v429
  v430.toNat
def k0_dev13 (d28 : Dev nD) : Nat :=
  let c0_i32_290 : BitVec 32 := 0#32
  let c1_i32_62 : BitVec 32 := 1#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v108 : BitVec 32 := Scalar.subi c1_i32_62 v30
  let c4_i32_289 : BitVec 32 := 4#32
  let v439 : BitVec 32 := Scalar.muli v108 c4_i32_289
  let v440 : BitVec 32 := Scalar.addi c0_i32_290 v439
  let c1_i32_63 : BitVec 32 := 1#32
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let v109 : BitVec 32 := Scalar.subi c1_i32_63 v33
  let c2_i32_291 : BitVec 32 := 2#32
  let v441 : BitVec 32 := Scalar.muli v109 c2_i32_291
  let v442 : BitVec 32 := Scalar.addi v440 v441
  let v34 : BitVec 32 := Dev.word d28
  let c1_i32 : BitVec 32 := 1#32
  let v35 : BitVec 32 := Scalar.divsi v34 c1_i32
  let c2_i32_16 : BitVec 32 := 2#32
  let v36 : BitVec 32 := Scalar.remsi v35 c2_i32_16
  let c1_i32_292 : BitVec 32 := 1#32
  let v443 : BitVec 32 := Scalar.muli v36 c1_i32_292
  let v444 : BitVec 32 := Scalar.addi v442 v443
  v444.toNat
def k0_dev14 (d28 : Dev nD) : Nat :=
  let c0_i32_299 : BitVec 32 := 0#32
  let c1_i32_66 : BitVec 32 := 1#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v114 : BitVec 32 := Scalar.subi c1_i32_66 v30
  let c4_i32_298 : BitVec 32 := 4#32
  let v453 : BitVec 32 := Scalar.muli v114 c4_i32_298
  let v454 : BitVec 32 := Scalar.addi c0_i32_299 v453
  let c1_i32_67 : BitVec 32 := 1#32
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let v115 : BitVec 32 := Scalar.subi c1_i32_67 v33
  let c2_i32_300 : BitVec 32 := 2#32
  let v455 : BitVec 32 := Scalar.muli v115 c2_i32_300
  let v456 : BitVec 32 := Scalar.addi v454 v455
  let c1_i32_68 : BitVec 32 := 1#32
  let v34 : BitVec 32 := Dev.word d28
  let c1_i32 : BitVec 32 := 1#32
  let v35 : BitVec 32 := Scalar.divsi v34 c1_i32
  let c2_i32_16 : BitVec 32 := 2#32
  let v36 : BitVec 32 := Scalar.remsi v35 c2_i32_16
  let v116 : BitVec 32 := Scalar.subi c1_i32_68 v36
  let c1_i32_301 : BitVec 32 := 1#32
  let v457 : BitVec 32 := Scalar.muli v116 c1_i32_301
  let v458 : BitVec 32 := Scalar.addi v456 v457
  v458.toNat
def k0_dev15 (d28 : Dev nD) : Nat :=
  let c0_i32_308 : BitVec 32 := 0#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let c4_i32_307 : BitVec 32 := 4#32
  let v467 : BitVec 32 := Scalar.muli v30 c4_i32_307
  let v468 : BitVec 32 := Scalar.addi c0_i32_308 v467
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let c2_i32_309 : BitVec 32 := 2#32
  let v469 : BitVec 32 := Scalar.muli v33 c2_i32_309
  let v470 : BitVec 32 := Scalar.addi v468 v469
  let c1_i32_71 : BitVec 32 := 1#32
  let v34 : BitVec 32 := Dev.word d28
  let c1_i32 : BitVec 32 := 1#32
  let v35 : BitVec 32 := Scalar.divsi v34 c1_i32
  let c2_i32_16 : BitVec 32 := 2#32
  let v36 : BitVec 32 := Scalar.remsi v35 c2_i32_16
  let v121 : BitVec 32 := Scalar.subi c1_i32_71 v36
  let c1_i32_310 : BitVec 32 := 1#32
  let v471 : BitVec 32 := Scalar.muli v121 c1_i32_310
  let v472 : BitVec 32 := Scalar.addi v470 v471
  v472.toNat
def k0_dev16 (d28 : Dev nD) : Nat :=
  let c0_i32_317 : BitVec 32 := 0#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let c4_i32_316 : BitVec 32 := 4#32
  let v481 : BitVec 32 := Scalar.muli v30 c4_i32_316
  let v482 : BitVec 32 := Scalar.addi c0_i32_317 v481
  let c1_i32_74 : BitVec 32 := 1#32
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let v126 : BitVec 32 := Scalar.subi c1_i32_74 v33
  let c2_i32_318 : BitVec 32 := 2#32
  let v483 : BitVec 32 := Scalar.muli v126 c2_i32_318
  let v484 : BitVec 32 := Scalar.addi v482 v483
  let v34 : BitVec 32 := Dev.word d28
  let c1_i32 : BitVec 32 := 1#32
  let v35 : BitVec 32 := Scalar.divsi v34 c1_i32
  let c2_i32_16 : BitVec 32 := 2#32
  let v36 : BitVec 32 := Scalar.remsi v35 c2_i32_16
  let c1_i32_319 : BitVec 32 := 1#32
  let v485 : BitVec 32 := Scalar.muli v36 c1_i32_319
  let v486 : BitVec 32 := Scalar.addi v484 v485
  v486.toNat
def k0_dev17 (d28 : Dev nD) : Nat :=
  let c0_i32_326 : BitVec 32 := 0#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let c4_i32_325 : BitVec 32 := 4#32
  let v495 : BitVec 32 := Scalar.muli v30 c4_i32_325
  let v496 : BitVec 32 := Scalar.addi c0_i32_326 v495
  let c1_i32_77 : BitVec 32 := 1#32
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let v131 : BitVec 32 := Scalar.subi c1_i32_77 v33
  let c2_i32_327 : BitVec 32 := 2#32
  let v497 : BitVec 32 := Scalar.muli v131 c2_i32_327
  let v498 : BitVec 32 := Scalar.addi v496 v497
  let c1_i32_78 : BitVec 32 := 1#32
  let v34 : BitVec 32 := Dev.word d28
  let c1_i32 : BitVec 32 := 1#32
  let v35 : BitVec 32 := Scalar.divsi v34 c1_i32
  let c2_i32_16 : BitVec 32 := 2#32
  let v36 : BitVec 32 := Scalar.remsi v35 c2_i32_16
  let v132 : BitVec 32 := Scalar.subi c1_i32_78 v36
  let c1_i32_328 : BitVec 32 := 1#32
  let v499 : BitVec 32 := Scalar.muli v132 c1_i32_328
  let v500 : BitVec 32 := Scalar.addi v498 v499
  v500.toNat
def k0_dev18 (d28 : Dev nD) : Nat :=
  let c0_i32_335 : BitVec 32 := 0#32
  let c1_i32_81 : BitVec 32 := 1#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v137 : BitVec 32 := Scalar.subi c1_i32_81 v30
  let c4_i32_334 : BitVec 32 := 4#32
  let v509 : BitVec 32 := Scalar.muli v137 c4_i32_334
  let v510 : BitVec 32 := Scalar.addi c0_i32_335 v509
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let c2_i32_336 : BitVec 32 := 2#32
  let v511 : BitVec 32 := Scalar.muli v33 c2_i32_336
  let v512 : BitVec 32 := Scalar.addi v510 v511
  let v34 : BitVec 32 := Dev.word d28
  let c1_i32 : BitVec 32 := 1#32
  let v35 : BitVec 32 := Scalar.divsi v34 c1_i32
  let c2_i32_16 : BitVec 32 := 2#32
  let v36 : BitVec 32 := Scalar.remsi v35 c2_i32_16
  let c1_i32_337 : BitVec 32 := 1#32
  let v513 : BitVec 32 := Scalar.muli v36 c1_i32_337
  let v514 : BitVec 32 := Scalar.addi v512 v513
  v514.toNat
def k0_dev19 (d28 : Dev nD) : Nat :=
  let c0_i32_344 : BitVec 32 := 0#32
  let c1_i32_84 : BitVec 32 := 1#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v142 : BitVec 32 := Scalar.subi c1_i32_84 v30
  let c4_i32_343 : BitVec 32 := 4#32
  let v523 : BitVec 32 := Scalar.muli v142 c4_i32_343
  let v524 : BitVec 32 := Scalar.addi c0_i32_344 v523
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let c2_i32_345 : BitVec 32 := 2#32
  let v525 : BitVec 32 := Scalar.muli v33 c2_i32_345
  let v526 : BitVec 32 := Scalar.addi v524 v525
  let c1_i32_85 : BitVec 32 := 1#32
  let v34 : BitVec 32 := Dev.word d28
  let c1_i32 : BitVec 32 := 1#32
  let v35 : BitVec 32 := Scalar.divsi v34 c1_i32
  let c2_i32_16 : BitVec 32 := 2#32
  let v36 : BitVec 32 := Scalar.remsi v35 c2_i32_16
  let v143 : BitVec 32 := Scalar.subi c1_i32_85 v36
  let c1_i32_346 : BitVec 32 := 1#32
  let v527 : BitVec 32 := Scalar.muli v143 c1_i32_346
  let v528 : BitVec 32 := Scalar.addi v526 v527
  v528.toNat
def k0_dev20 (d28 : Dev nD) : Nat :=
  let c0_i32_353 : BitVec 32 := 0#32
  let c1_i32_88 : BitVec 32 := 1#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v148 : BitVec 32 := Scalar.subi c1_i32_88 v30
  let c4_i32_352 : BitVec 32 := 4#32
  let v537 : BitVec 32 := Scalar.muli v148 c4_i32_352
  let v538 : BitVec 32 := Scalar.addi c0_i32_353 v537
  let c1_i32_89 : BitVec 32 := 1#32
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let v149 : BitVec 32 := Scalar.subi c1_i32_89 v33
  let c2_i32_354 : BitVec 32 := 2#32
  let v539 : BitVec 32 := Scalar.muli v149 c2_i32_354
  let v540 : BitVec 32 := Scalar.addi v538 v539
  let v34 : BitVec 32 := Dev.word d28
  let c1_i32 : BitVec 32 := 1#32
  let v35 : BitVec 32 := Scalar.divsi v34 c1_i32
  let c2_i32_16 : BitVec 32 := 2#32
  let v36 : BitVec 32 := Scalar.remsi v35 c2_i32_16
  let c1_i32_355 : BitVec 32 := 1#32
  let v541 : BitVec 32 := Scalar.muli v36 c1_i32_355
  let v542 : BitVec 32 := Scalar.addi v540 v541
  v542.toNat
def k0_dev21 (d28 : Dev nD) : Nat :=
  let c0_i32_362 : BitVec 32 := 0#32
  let c1_i32_92 : BitVec 32 := 1#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v154 : BitVec 32 := Scalar.subi c1_i32_92 v30
  let c4_i32_361 : BitVec 32 := 4#32
  let v551 : BitVec 32 := Scalar.muli v154 c4_i32_361
  let v552 : BitVec 32 := Scalar.addi c0_i32_362 v551
  let c1_i32_93 : BitVec 32 := 1#32
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let v155 : BitVec 32 := Scalar.subi c1_i32_93 v33
  let c2_i32_363 : BitVec 32 := 2#32
  let v553 : BitVec 32 := Scalar.muli v155 c2_i32_363
  let v554 : BitVec 32 := Scalar.addi v552 v553
  let c1_i32_94 : BitVec 32 := 1#32
  let v34 : BitVec 32 := Dev.word d28
  let c1_i32 : BitVec 32 := 1#32
  let v35 : BitVec 32 := Scalar.divsi v34 c1_i32
  let c2_i32_16 : BitVec 32 := 2#32
  let v36 : BitVec 32 := Scalar.remsi v35 c2_i32_16
  let v156 : BitVec 32 := Scalar.subi c1_i32_94 v36
  let c1_i32_364 : BitVec 32 := 1#32
  let v555 : BitVec 32 := Scalar.muli v156 c1_i32_364
  let v556 : BitVec 32 := Scalar.addi v554 v555
  v556.toNat
def k0_off11 (d28 : Dev nD) : Fin 3 → Nat :=
  let c4_i32_98 : BitVec 32 := 4#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v162 : BitVec 32 := Scalar.muli c4_i32_98 v30
  let c2_i32_99 : BitVec 32 := 2#32
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let v163 : BitVec 32 := Scalar.muli c2_i32_99 v33
  let v164 : BitVec 32 := Scalar.addi v162 v163
  let c1_i32_97 : BitVec 32 := 1#32
  let v34 : BitVec 32 := Dev.word d28
  let c1_i32 : BitVec 32 := 1#32
  let v35 : BitVec 32 := Scalar.divsi v34 c1_i32
  let c2_i32_16 : BitVec 32 := 2#32
  let v36 : BitVec 32 := Scalar.remsi v35 c2_i32_16
  let v161 : BitVec 32 := Scalar.subi c1_i32_97 v36
  let v165 : BitVec 32 := Scalar.addi v164 v161
  let c0_i32_376 : BitVec 32 := 0#32
  let c0_i32_377 : BitVec 32 := 0#32
  ![v165.toNat, 0, 0]
def k0_dev22 (d28 : Dev nD) : Nat :=
  let c0_i32_371 : BitVec 32 := 0#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let c4_i32_370 : BitVec 32 := 4#32
  let v565 : BitVec 32 := Scalar.muli v30 c4_i32_370
  let v566 : BitVec 32 := Scalar.addi c0_i32_371 v565
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let c2_i32_372 : BitVec 32 := 2#32
  let v567 : BitVec 32 := Scalar.muli v33 c2_i32_372
  let v568 : BitVec 32 := Scalar.addi v566 v567
  let c1_i32_97 : BitVec 32 := 1#32
  let v34 : BitVec 32 := Dev.word d28
  let c1_i32 : BitVec 32 := 1#32
  let v35 : BitVec 32 := Scalar.divsi v34 c1_i32
  let c2_i32_16 : BitVec 32 := 2#32
  let v36 : BitVec 32 := Scalar.remsi v35 c2_i32_16
  let v161 : BitVec 32 := Scalar.subi c1_i32_97 v36
  let c1_i32_373 : BitVec 32 := 1#32
  let v569 : BitVec 32 := Scalar.muli v161 c1_i32_373
  let v570 : BitVec 32 := Scalar.addi v568 v569
  v570.toNat
def k0_off12 (d28 : Dev nD) : Fin 3 → Nat :=
  let c4_i32_101 : BitVec 32 := 4#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v167 : BitVec 32 := Scalar.muli c4_i32_101 v30
  let c2_i32_102 : BitVec 32 := 2#32
  let c1_i32_100 : BitVec 32 := 1#32
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let v166 : BitVec 32 := Scalar.subi c1_i32_100 v33
  let v168 : BitVec 32 := Scalar.muli c2_i32_102 v166
  let v169 : BitVec 32 := Scalar.addi v167 v168
  let v34 : BitVec 32 := Dev.word d28
  let c1_i32 : BitVec 32 := 1#32
  let v35 : BitVec 32 := Scalar.divsi v34 c1_i32
  let c2_i32_16 : BitVec 32 := 2#32
  let v36 : BitVec 32 := Scalar.remsi v35 c2_i32_16
  let v170 : BitVec 32 := Scalar.addi v169 v36
  let c0_i32_385 : BitVec 32 := 0#32
  let c0_i32_386 : BitVec 32 := 0#32
  ![v170.toNat, 0, 0]
def k0_dev23 (d28 : Dev nD) : Nat :=
  let c0_i32_380 : BitVec 32 := 0#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let c4_i32_379 : BitVec 32 := 4#32
  let v579 : BitVec 32 := Scalar.muli v30 c4_i32_379
  let v580 : BitVec 32 := Scalar.addi c0_i32_380 v579
  let c1_i32_100 : BitVec 32 := 1#32
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let v166 : BitVec 32 := Scalar.subi c1_i32_100 v33
  let c2_i32_381 : BitVec 32 := 2#32
  let v581 : BitVec 32 := Scalar.muli v166 c2_i32_381
  let v582 : BitVec 32 := Scalar.addi v580 v581
  let v34 : BitVec 32 := Dev.word d28
  let c1_i32 : BitVec 32 := 1#32
  let v35 : BitVec 32 := Scalar.divsi v34 c1_i32
  let c2_i32_16 : BitVec 32 := 2#32
  let v36 : BitVec 32 := Scalar.remsi v35 c2_i32_16
  let c1_i32_382 : BitVec 32 := 1#32
  let v583 : BitVec 32 := Scalar.muli v36 c1_i32_382
  let v584 : BitVec 32 := Scalar.addi v582 v583
  v584.toNat
def k0_off13 (d28 : Dev nD) : Fin 3 → Nat :=
  let c4_i32_105 : BitVec 32 := 4#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v173 : BitVec 32 := Scalar.muli c4_i32_105 v30
  let c2_i32_106 : BitVec 32 := 2#32
  let c1_i32_103 : BitVec 32 := 1#32
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let v171 : BitVec 32 := Scalar.subi c1_i32_103 v33
  let v174 : BitVec 32 := Scalar.muli c2_i32_106 v171
  let v175 : BitVec 32 := Scalar.addi v173 v174
  let c1_i32_104 : BitVec 32 := 1#32
  let v34 : BitVec 32 := Dev.word d28
  let c1_i32 : BitVec 32 := 1#32
  let v35 : BitVec 32 := Scalar.divsi v34 c1_i32
  let c2_i32_16 : BitVec 32 := 2#32
  let v36 : BitVec 32 := Scalar.remsi v35 c2_i32_16
  let v172 : BitVec 32 := Scalar.subi c1_i32_104 v36
  let v176 : BitVec 32 := Scalar.addi v175 v172
  let c0_i32_394 : BitVec 32 := 0#32
  let c0_i32_395 : BitVec 32 := 0#32
  ![v176.toNat, 0, 0]
def k0_dev24 (d28 : Dev nD) : Nat :=
  let c0_i32_389 : BitVec 32 := 0#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let c4_i32_388 : BitVec 32 := 4#32
  let v593 : BitVec 32 := Scalar.muli v30 c4_i32_388
  let v594 : BitVec 32 := Scalar.addi c0_i32_389 v593
  let c1_i32_103 : BitVec 32 := 1#32
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let v171 : BitVec 32 := Scalar.subi c1_i32_103 v33
  let c2_i32_390 : BitVec 32 := 2#32
  let v595 : BitVec 32 := Scalar.muli v171 c2_i32_390
  let v596 : BitVec 32 := Scalar.addi v594 v595
  let c1_i32_104 : BitVec 32 := 1#32
  let v34 : BitVec 32 := Dev.word d28
  let c1_i32 : BitVec 32 := 1#32
  let v35 : BitVec 32 := Scalar.divsi v34 c1_i32
  let c2_i32_16 : BitVec 32 := 2#32
  let v36 : BitVec 32 := Scalar.remsi v35 c2_i32_16
  let v172 : BitVec 32 := Scalar.subi c1_i32_104 v36
  let c1_i32_391 : BitVec 32 := 1#32
  let v597 : BitVec 32 := Scalar.muli v172 c1_i32_391
  let v598 : BitVec 32 := Scalar.addi v596 v597
  v598.toNat
def k0_off14 (d28 : Dev nD) : Fin 3 → Nat :=
  let c4_i32_108 : BitVec 32 := 4#32
  let c1_i32_107 : BitVec 32 := 1#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v177 : BitVec 32 := Scalar.subi c1_i32_107 v30
  let v178 : BitVec 32 := Scalar.muli c4_i32_108 v177
  let c2_i32_109 : BitVec 32 := 2#32
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let v179 : BitVec 32 := Scalar.muli c2_i32_109 v33
  let v180 : BitVec 32 := Scalar.addi v178 v179
  let v34 : BitVec 32 := Dev.word d28
  let c1_i32 : BitVec 32 := 1#32
  let v35 : BitVec 32 := Scalar.divsi v34 c1_i32
  let c2_i32_16 : BitVec 32 := 2#32
  let v36 : BitVec 32 := Scalar.remsi v35 c2_i32_16
  let v181 : BitVec 32 := Scalar.addi v180 v36
  let c0_i32_403 : BitVec 32 := 0#32
  let c0_i32_404 : BitVec 32 := 0#32
  ![v181.toNat, 0, 0]
def k0_dev25 (d28 : Dev nD) : Nat :=
  let c0_i32_398 : BitVec 32 := 0#32
  let c1_i32_107 : BitVec 32 := 1#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v177 : BitVec 32 := Scalar.subi c1_i32_107 v30
  let c4_i32_397 : BitVec 32 := 4#32
  let v607 : BitVec 32 := Scalar.muli v177 c4_i32_397
  let v608 : BitVec 32 := Scalar.addi c0_i32_398 v607
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let c2_i32_399 : BitVec 32 := 2#32
  let v609 : BitVec 32 := Scalar.muli v33 c2_i32_399
  let v610 : BitVec 32 := Scalar.addi v608 v609
  let v34 : BitVec 32 := Dev.word d28
  let c1_i32 : BitVec 32 := 1#32
  let v35 : BitVec 32 := Scalar.divsi v34 c1_i32
  let c2_i32_16 : BitVec 32 := 2#32
  let v36 : BitVec 32 := Scalar.remsi v35 c2_i32_16
  let c1_i32_400 : BitVec 32 := 1#32
  let v611 : BitVec 32 := Scalar.muli v36 c1_i32_400
  let v612 : BitVec 32 := Scalar.addi v610 v611
  v612.toNat
def k0_off15 (d28 : Dev nD) : Fin 3 → Nat :=
  let c4_i32_112 : BitVec 32 := 4#32
  let c1_i32_110 : BitVec 32 := 1#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v182 : BitVec 32 := Scalar.subi c1_i32_110 v30
  let v184 : BitVec 32 := Scalar.muli c4_i32_112 v182
  let c2_i32_113 : BitVec 32 := 2#32
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let v185 : BitVec 32 := Scalar.muli c2_i32_113 v33
  let v186 : BitVec 32 := Scalar.addi v184 v185
  let c1_i32_111 : BitVec 32 := 1#32
  let v34 : BitVec 32 := Dev.word d28
  let c1_i32 : BitVec 32 := 1#32
  let v35 : BitVec 32 := Scalar.divsi v34 c1_i32
  let c2_i32_16 : BitVec 32 := 2#32
  let v36 : BitVec 32 := Scalar.remsi v35 c2_i32_16
  let v183 : BitVec 32 := Scalar.subi c1_i32_111 v36
  let v187 : BitVec 32 := Scalar.addi v186 v183
  let c0_i32_412 : BitVec 32 := 0#32
  let c0_i32_413 : BitVec 32 := 0#32
  ![v187.toNat, 0, 0]
def k0_dev26 (d28 : Dev nD) : Nat :=
  let c0_i32_407 : BitVec 32 := 0#32
  let c1_i32_110 : BitVec 32 := 1#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v182 : BitVec 32 := Scalar.subi c1_i32_110 v30
  let c4_i32_406 : BitVec 32 := 4#32
  let v621 : BitVec 32 := Scalar.muli v182 c4_i32_406
  let v622 : BitVec 32 := Scalar.addi c0_i32_407 v621
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let c2_i32_408 : BitVec 32 := 2#32
  let v623 : BitVec 32 := Scalar.muli v33 c2_i32_408
  let v624 : BitVec 32 := Scalar.addi v622 v623
  let c1_i32_111 : BitVec 32 := 1#32
  let v34 : BitVec 32 := Dev.word d28
  let c1_i32 : BitVec 32 := 1#32
  let v35 : BitVec 32 := Scalar.divsi v34 c1_i32
  let c2_i32_16 : BitVec 32 := 2#32
  let v36 : BitVec 32 := Scalar.remsi v35 c2_i32_16
  let v183 : BitVec 32 := Scalar.subi c1_i32_111 v36
  let c1_i32_409 : BitVec 32 := 1#32
  let v625 : BitVec 32 := Scalar.muli v183 c1_i32_409
  let v626 : BitVec 32 := Scalar.addi v624 v625
  v626.toNat
def k0_off16 (d28 : Dev nD) : Fin 3 → Nat :=
  let c4_i32_116 : BitVec 32 := 4#32
  let c1_i32_114 : BitVec 32 := 1#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v188 : BitVec 32 := Scalar.subi c1_i32_114 v30
  let v190 : BitVec 32 := Scalar.muli c4_i32_116 v188
  let c2_i32_117 : BitVec 32 := 2#32
  let c1_i32_115 : BitVec 32 := 1#32
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let v189 : BitVec 32 := Scalar.subi c1_i32_115 v33
  let v191 : BitVec 32 := Scalar.muli c2_i32_117 v189
  let v192 : BitVec 32 := Scalar.addi v190 v191
  let v34 : BitVec 32 := Dev.word d28
  let c1_i32 : BitVec 32 := 1#32
  let v35 : BitVec 32 := Scalar.divsi v34 c1_i32
  let c2_i32_16 : BitVec 32 := 2#32
  let v36 : BitVec 32 := Scalar.remsi v35 c2_i32_16
  let v193 : BitVec 32 := Scalar.addi v192 v36
  let c0_i32_421 : BitVec 32 := 0#32
  let c0_i32_422 : BitVec 32 := 0#32
  ![v193.toNat, 0, 0]
def k0_dev27 (d28 : Dev nD) : Nat :=
  let c0_i32_416 : BitVec 32 := 0#32
  let c1_i32_114 : BitVec 32 := 1#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v188 : BitVec 32 := Scalar.subi c1_i32_114 v30
  let c4_i32_415 : BitVec 32 := 4#32
  let v635 : BitVec 32 := Scalar.muli v188 c4_i32_415
  let v636 : BitVec 32 := Scalar.addi c0_i32_416 v635
  let c1_i32_115 : BitVec 32 := 1#32
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let v189 : BitVec 32 := Scalar.subi c1_i32_115 v33
  let c2_i32_417 : BitVec 32 := 2#32
  let v637 : BitVec 32 := Scalar.muli v189 c2_i32_417
  let v638 : BitVec 32 := Scalar.addi v636 v637
  let v34 : BitVec 32 := Dev.word d28
  let c1_i32 : BitVec 32 := 1#32
  let v35 : BitVec 32 := Scalar.divsi v34 c1_i32
  let c2_i32_16 : BitVec 32 := 2#32
  let v36 : BitVec 32 := Scalar.remsi v35 c2_i32_16
  let c1_i32_418 : BitVec 32 := 1#32
  let v639 : BitVec 32 := Scalar.muli v36 c1_i32_418
  let v640 : BitVec 32 := Scalar.addi v638 v639
  v640.toNat
def k0_off17 (d28 : Dev nD) : Fin 3 → Nat :=
  let c4_i32_121 : BitVec 32 := 4#32
  let c1_i32_118 : BitVec 32 := 1#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v194 : BitVec 32 := Scalar.subi c1_i32_118 v30
  let v197 : BitVec 32 := Scalar.muli c4_i32_121 v194
  let c2_i32_122 : BitVec 32 := 2#32
  let c1_i32_119 : BitVec 32 := 1#32
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let v195 : BitVec 32 := Scalar.subi c1_i32_119 v33
  let v198 : BitVec 32 := Scalar.muli c2_i32_122 v195
  let v199 : BitVec 32 := Scalar.addi v197 v198
  let c1_i32_120 : BitVec 32 := 1#32
  let v34 : BitVec 32 := Dev.word d28
  let c1_i32 : BitVec 32 := 1#32
  let v35 : BitVec 32 := Scalar.divsi v34 c1_i32
  let c2_i32_16 : BitVec 32 := 2#32
  let v36 : BitVec 32 := Scalar.remsi v35 c2_i32_16
  let v196 : BitVec 32 := Scalar.subi c1_i32_120 v36
  let v200 : BitVec 32 := Scalar.addi v199 v196
  let c0_i32_430 : BitVec 32 := 0#32
  let c0_i32_431 : BitVec 32 := 0#32
  ![v200.toNat, 0, 0]
def k0_dev28 (d28 : Dev nD) : Nat :=
  let c0_i32_425 : BitVec 32 := 0#32
  let c1_i32_118 : BitVec 32 := 1#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v194 : BitVec 32 := Scalar.subi c1_i32_118 v30
  let c4_i32_424 : BitVec 32 := 4#32
  let v649 : BitVec 32 := Scalar.muli v194 c4_i32_424
  let v650 : BitVec 32 := Scalar.addi c0_i32_425 v649
  let c1_i32_119 : BitVec 32 := 1#32
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let v195 : BitVec 32 := Scalar.subi c1_i32_119 v33
  let c2_i32_426 : BitVec 32 := 2#32
  let v651 : BitVec 32 := Scalar.muli v195 c2_i32_426
  let v652 : BitVec 32 := Scalar.addi v650 v651
  let c1_i32_120 : BitVec 32 := 1#32
  let v34 : BitVec 32 := Dev.word d28
  let c1_i32 : BitVec 32 := 1#32
  let v35 : BitVec 32 := Scalar.divsi v34 c1_i32
  let c2_i32_16 : BitVec 32 := 2#32
  let v36 : BitVec 32 := Scalar.remsi v35 c2_i32_16
  let v196 : BitVec 32 := Scalar.subi c1_i32_120 v36
  let c1_i32_427 : BitVec 32 := 1#32
  let v653 : BitVec 32 := Scalar.muli v196 c1_i32_427
  let v654 : BitVec 32 := Scalar.addi v652 v653
  v654.toNat
def k0_off18 (d28 : Dev nD) : Fin 3 → Nat :=
  let c4_i32_124 : BitVec 32 := 4#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v202 : BitVec 32 := Scalar.muli c4_i32_124 v30
  let c2_i32_125 : BitVec 32 := 2#32
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let v203 : BitVec 32 := Scalar.muli c2_i32_125 v33
  let v204 : BitVec 32 := Scalar.addi v202 v203
  let c1_i32_123 : BitVec 32 := 1#32
  let v34 : BitVec 32 := Dev.word d28
  let c1_i32 : BitVec 32 := 1#32
  let v35 : BitVec 32 := Scalar.divsi v34 c1_i32
  let c2_i32_16 : BitVec 32 := 2#32
  let v36 : BitVec 32 := Scalar.remsi v35 c2_i32_16
  let v201 : BitVec 32 := Scalar.subi c1_i32_123 v36
  let v205 : BitVec 32 := Scalar.addi v204 v201
  let c0_i32_439 : BitVec 32 := 0#32
  let c0_i32_440 : BitVec 32 := 0#32
  ![v205.toNat, 0, 0]
def k0_dev29 (d28 : Dev nD) : Nat :=
  let c0_i32_434 : BitVec 32 := 0#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let c4_i32_433 : BitVec 32 := 4#32
  let v663 : BitVec 32 := Scalar.muli v30 c4_i32_433
  let v664 : BitVec 32 := Scalar.addi c0_i32_434 v663
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let c2_i32_435 : BitVec 32 := 2#32
  let v665 : BitVec 32 := Scalar.muli v33 c2_i32_435
  let v666 : BitVec 32 := Scalar.addi v664 v665
  let c1_i32_123 : BitVec 32 := 1#32
  let v34 : BitVec 32 := Dev.word d28
  let c1_i32 : BitVec 32 := 1#32
  let v35 : BitVec 32 := Scalar.divsi v34 c1_i32
  let c2_i32_16 : BitVec 32 := 2#32
  let v36 : BitVec 32 := Scalar.remsi v35 c2_i32_16
  let v201 : BitVec 32 := Scalar.subi c1_i32_123 v36
  let c1_i32_436 : BitVec 32 := 1#32
  let v667 : BitVec 32 := Scalar.muli v201 c1_i32_436
  let v668 : BitVec 32 := Scalar.addi v666 v667
  v668.toNat
def k0_off19 (d28 : Dev nD) : Fin 3 → Nat :=
  let c4_i32_127 : BitVec 32 := 4#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v207 : BitVec 32 := Scalar.muli c4_i32_127 v30
  let c2_i32_128 : BitVec 32 := 2#32
  let c1_i32_126 : BitVec 32 := 1#32
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let v206 : BitVec 32 := Scalar.subi c1_i32_126 v33
  let v208 : BitVec 32 := Scalar.muli c2_i32_128 v206
  let v209 : BitVec 32 := Scalar.addi v207 v208
  let v34 : BitVec 32 := Dev.word d28
  let c1_i32 : BitVec 32 := 1#32
  let v35 : BitVec 32 := Scalar.divsi v34 c1_i32
  let c2_i32_16 : BitVec 32 := 2#32
  let v36 : BitVec 32 := Scalar.remsi v35 c2_i32_16
  let v210 : BitVec 32 := Scalar.addi v209 v36
  let c0_i32_448 : BitVec 32 := 0#32
  let c0_i32_449 : BitVec 32 := 0#32
  ![v210.toNat, 0, 0]
def k0_dev30 (d28 : Dev nD) : Nat :=
  let c0_i32_443 : BitVec 32 := 0#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let c4_i32_442 : BitVec 32 := 4#32
  let v677 : BitVec 32 := Scalar.muli v30 c4_i32_442
  let v678 : BitVec 32 := Scalar.addi c0_i32_443 v677
  let c1_i32_126 : BitVec 32 := 1#32
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let v206 : BitVec 32 := Scalar.subi c1_i32_126 v33
  let c2_i32_444 : BitVec 32 := 2#32
  let v679 : BitVec 32 := Scalar.muli v206 c2_i32_444
  let v680 : BitVec 32 := Scalar.addi v678 v679
  let v34 : BitVec 32 := Dev.word d28
  let c1_i32 : BitVec 32 := 1#32
  let v35 : BitVec 32 := Scalar.divsi v34 c1_i32
  let c2_i32_16 : BitVec 32 := 2#32
  let v36 : BitVec 32 := Scalar.remsi v35 c2_i32_16
  let c1_i32_445 : BitVec 32 := 1#32
  let v681 : BitVec 32 := Scalar.muli v36 c1_i32_445
  let v682 : BitVec 32 := Scalar.addi v680 v681
  v682.toNat
def k0_off20 (d28 : Dev nD) : Fin 3 → Nat :=
  let c4_i32_131 : BitVec 32 := 4#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v213 : BitVec 32 := Scalar.muli c4_i32_131 v30
  let c2_i32_132 : BitVec 32 := 2#32
  let c1_i32_129 : BitVec 32 := 1#32
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let v211 : BitVec 32 := Scalar.subi c1_i32_129 v33
  let v214 : BitVec 32 := Scalar.muli c2_i32_132 v211
  let v215 : BitVec 32 := Scalar.addi v213 v214
  let c1_i32_130 : BitVec 32 := 1#32
  let v34 : BitVec 32 := Dev.word d28
  let c1_i32 : BitVec 32 := 1#32
  let v35 : BitVec 32 := Scalar.divsi v34 c1_i32
  let c2_i32_16 : BitVec 32 := 2#32
  let v36 : BitVec 32 := Scalar.remsi v35 c2_i32_16
  let v212 : BitVec 32 := Scalar.subi c1_i32_130 v36
  let v216 : BitVec 32 := Scalar.addi v215 v212
  let c0_i32_457 : BitVec 32 := 0#32
  let c0_i32_458 : BitVec 32 := 0#32
  ![v216.toNat, 0, 0]
def k0_dev31 (d28 : Dev nD) : Nat :=
  let c0_i32_452 : BitVec 32 := 0#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let c4_i32_451 : BitVec 32 := 4#32
  let v691 : BitVec 32 := Scalar.muli v30 c4_i32_451
  let v692 : BitVec 32 := Scalar.addi c0_i32_452 v691
  let c1_i32_129 : BitVec 32 := 1#32
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let v211 : BitVec 32 := Scalar.subi c1_i32_129 v33
  let c2_i32_453 : BitVec 32 := 2#32
  let v693 : BitVec 32 := Scalar.muli v211 c2_i32_453
  let v694 : BitVec 32 := Scalar.addi v692 v693
  let c1_i32_130 : BitVec 32 := 1#32
  let v34 : BitVec 32 := Dev.word d28
  let c1_i32 : BitVec 32 := 1#32
  let v35 : BitVec 32 := Scalar.divsi v34 c1_i32
  let c2_i32_16 : BitVec 32 := 2#32
  let v36 : BitVec 32 := Scalar.remsi v35 c2_i32_16
  let v212 : BitVec 32 := Scalar.subi c1_i32_130 v36
  let c1_i32_454 : BitVec 32 := 1#32
  let v695 : BitVec 32 := Scalar.muli v212 c1_i32_454
  let v696 : BitVec 32 := Scalar.addi v694 v695
  v696.toNat
def k0_off21 (d28 : Dev nD) : Fin 3 → Nat :=
  let c4_i32_134 : BitVec 32 := 4#32
  let c1_i32_133 : BitVec 32 := 1#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v217 : BitVec 32 := Scalar.subi c1_i32_133 v30
  let v218 : BitVec 32 := Scalar.muli c4_i32_134 v217
  let c2_i32_135 : BitVec 32 := 2#32
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let v219 : BitVec 32 := Scalar.muli c2_i32_135 v33
  let v220 : BitVec 32 := Scalar.addi v218 v219
  let v34 : BitVec 32 := Dev.word d28
  let c1_i32 : BitVec 32 := 1#32
  let v35 : BitVec 32 := Scalar.divsi v34 c1_i32
  let c2_i32_16 : BitVec 32 := 2#32
  let v36 : BitVec 32 := Scalar.remsi v35 c2_i32_16
  let v221 : BitVec 32 := Scalar.addi v220 v36
  let c0_i32_466 : BitVec 32 := 0#32
  let c0_i32_467 : BitVec 32 := 0#32
  ![v221.toNat, 0, 0]
def k0_dev32 (d28 : Dev nD) : Nat :=
  let c0_i32_461 : BitVec 32 := 0#32
  let c1_i32_133 : BitVec 32 := 1#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v217 : BitVec 32 := Scalar.subi c1_i32_133 v30
  let c4_i32_460 : BitVec 32 := 4#32
  let v705 : BitVec 32 := Scalar.muli v217 c4_i32_460
  let v706 : BitVec 32 := Scalar.addi c0_i32_461 v705
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let c2_i32_462 : BitVec 32 := 2#32
  let v707 : BitVec 32 := Scalar.muli v33 c2_i32_462
  let v708 : BitVec 32 := Scalar.addi v706 v707
  let v34 : BitVec 32 := Dev.word d28
  let c1_i32 : BitVec 32 := 1#32
  let v35 : BitVec 32 := Scalar.divsi v34 c1_i32
  let c2_i32_16 : BitVec 32 := 2#32
  let v36 : BitVec 32 := Scalar.remsi v35 c2_i32_16
  let c1_i32_463 : BitVec 32 := 1#32
  let v709 : BitVec 32 := Scalar.muli v36 c1_i32_463
  let v710 : BitVec 32 := Scalar.addi v708 v709
  v710.toNat
def k0_off22 (d28 : Dev nD) : Fin 3 → Nat :=
  let c4_i32_138 : BitVec 32 := 4#32
  let c1_i32_136 : BitVec 32 := 1#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v222 : BitVec 32 := Scalar.subi c1_i32_136 v30
  let v224 : BitVec 32 := Scalar.muli c4_i32_138 v222
  let c2_i32_139 : BitVec 32 := 2#32
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let v225 : BitVec 32 := Scalar.muli c2_i32_139 v33
  let v226 : BitVec 32 := Scalar.addi v224 v225
  let c1_i32_137 : BitVec 32 := 1#32
  let v34 : BitVec 32 := Dev.word d28
  let c1_i32 : BitVec 32 := 1#32
  let v35 : BitVec 32 := Scalar.divsi v34 c1_i32
  let c2_i32_16 : BitVec 32 := 2#32
  let v36 : BitVec 32 := Scalar.remsi v35 c2_i32_16
  let v223 : BitVec 32 := Scalar.subi c1_i32_137 v36
  let v227 : BitVec 32 := Scalar.addi v226 v223
  let c0_i32_475 : BitVec 32 := 0#32
  let c0_i32_476 : BitVec 32 := 0#32
  ![v227.toNat, 0, 0]
def k0_dev33 (d28 : Dev nD) : Nat :=
  let c0_i32_470 : BitVec 32 := 0#32
  let c1_i32_136 : BitVec 32 := 1#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v222 : BitVec 32 := Scalar.subi c1_i32_136 v30
  let c4_i32_469 : BitVec 32 := 4#32
  let v719 : BitVec 32 := Scalar.muli v222 c4_i32_469
  let v720 : BitVec 32 := Scalar.addi c0_i32_470 v719
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let c2_i32_471 : BitVec 32 := 2#32
  let v721 : BitVec 32 := Scalar.muli v33 c2_i32_471
  let v722 : BitVec 32 := Scalar.addi v720 v721
  let c1_i32_137 : BitVec 32 := 1#32
  let v34 : BitVec 32 := Dev.word d28
  let c1_i32 : BitVec 32 := 1#32
  let v35 : BitVec 32 := Scalar.divsi v34 c1_i32
  let c2_i32_16 : BitVec 32 := 2#32
  let v36 : BitVec 32 := Scalar.remsi v35 c2_i32_16
  let v223 : BitVec 32 := Scalar.subi c1_i32_137 v36
  let c1_i32_472 : BitVec 32 := 1#32
  let v723 : BitVec 32 := Scalar.muli v223 c1_i32_472
  let v724 : BitVec 32 := Scalar.addi v722 v723
  v724.toNat
def k0_off23 (d28 : Dev nD) : Fin 3 → Nat :=
  let c4_i32_142 : BitVec 32 := 4#32
  let c1_i32_140 : BitVec 32 := 1#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v228 : BitVec 32 := Scalar.subi c1_i32_140 v30
  let v230 : BitVec 32 := Scalar.muli c4_i32_142 v228
  let c2_i32_143 : BitVec 32 := 2#32
  let c1_i32_141 : BitVec 32 := 1#32
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let v229 : BitVec 32 := Scalar.subi c1_i32_141 v33
  let v231 : BitVec 32 := Scalar.muli c2_i32_143 v229
  let v232 : BitVec 32 := Scalar.addi v230 v231
  let v34 : BitVec 32 := Dev.word d28
  let c1_i32 : BitVec 32 := 1#32
  let v35 : BitVec 32 := Scalar.divsi v34 c1_i32
  let c2_i32_16 : BitVec 32 := 2#32
  let v36 : BitVec 32 := Scalar.remsi v35 c2_i32_16
  let v233 : BitVec 32 := Scalar.addi v232 v36
  let c0_i32_484 : BitVec 32 := 0#32
  let c0_i32_485 : BitVec 32 := 0#32
  ![v233.toNat, 0, 0]
def k0_dev34 (d28 : Dev nD) : Nat :=
  let c0_i32_479 : BitVec 32 := 0#32
  let c1_i32_140 : BitVec 32 := 1#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v228 : BitVec 32 := Scalar.subi c1_i32_140 v30
  let c4_i32_478 : BitVec 32 := 4#32
  let v733 : BitVec 32 := Scalar.muli v228 c4_i32_478
  let v734 : BitVec 32 := Scalar.addi c0_i32_479 v733
  let c1_i32_141 : BitVec 32 := 1#32
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let v229 : BitVec 32 := Scalar.subi c1_i32_141 v33
  let c2_i32_480 : BitVec 32 := 2#32
  let v735 : BitVec 32 := Scalar.muli v229 c2_i32_480
  let v736 : BitVec 32 := Scalar.addi v734 v735
  let v34 : BitVec 32 := Dev.word d28
  let c1_i32 : BitVec 32 := 1#32
  let v35 : BitVec 32 := Scalar.divsi v34 c1_i32
  let c2_i32_16 : BitVec 32 := 2#32
  let v36 : BitVec 32 := Scalar.remsi v35 c2_i32_16
  let c1_i32_481 : BitVec 32 := 1#32
  let v737 : BitVec 32 := Scalar.muli v36 c1_i32_481
  let v738 : BitVec 32 := Scalar.addi v736 v737
  v738.toNat
def k0_off24 (d28 : Dev nD) : Fin 3 → Nat :=
  let c4_i32_147 : BitVec 32 := 4#32
  let c1_i32_144 : BitVec 32 := 1#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v234 : BitVec 32 := Scalar.subi c1_i32_144 v30
  let v237 : BitVec 32 := Scalar.muli c4_i32_147 v234
  let c2_i32_148 : BitVec 32 := 2#32
  let c1_i32_145 : BitVec 32 := 1#32
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let v235 : BitVec 32 := Scalar.subi c1_i32_145 v33
  let v238 : BitVec 32 := Scalar.muli c2_i32_148 v235
  let v239 : BitVec 32 := Scalar.addi v237 v238
  let c1_i32_146 : BitVec 32 := 1#32
  let v34 : BitVec 32 := Dev.word d28
  let c1_i32 : BitVec 32 := 1#32
  let v35 : BitVec 32 := Scalar.divsi v34 c1_i32
  let c2_i32_16 : BitVec 32 := 2#32
  let v36 : BitVec 32 := Scalar.remsi v35 c2_i32_16
  let v236 : BitVec 32 := Scalar.subi c1_i32_146 v36
  let v240 : BitVec 32 := Scalar.addi v239 v236
  let c0_i32_493 : BitVec 32 := 0#32
  let c0_i32_494 : BitVec 32 := 0#32
  ![v240.toNat, 0, 0]
def k0_dev35 (d28 : Dev nD) : Nat :=
  let c0_i32_488 : BitVec 32 := 0#32
  let c1_i32_144 : BitVec 32 := 1#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v234 : BitVec 32 := Scalar.subi c1_i32_144 v30
  let c4_i32_487 : BitVec 32 := 4#32
  let v747 : BitVec 32 := Scalar.muli v234 c4_i32_487
  let v748 : BitVec 32 := Scalar.addi c0_i32_488 v747
  let c1_i32_145 : BitVec 32 := 1#32
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let v235 : BitVec 32 := Scalar.subi c1_i32_145 v33
  let c2_i32_489 : BitVec 32 := 2#32
  let v749 : BitVec 32 := Scalar.muli v235 c2_i32_489
  let v750 : BitVec 32 := Scalar.addi v748 v749
  let c1_i32_146 : BitVec 32 := 1#32
  let v34 : BitVec 32 := Dev.word d28
  let c1_i32 : BitVec 32 := 1#32
  let v35 : BitVec 32 := Scalar.divsi v34 c1_i32
  let c2_i32_16 : BitVec 32 := 2#32
  let v36 : BitVec 32 := Scalar.remsi v35 c2_i32_16
  let v236 : BitVec 32 := Scalar.subi c1_i32_146 v36
  let c1_i32_490 : BitVec 32 := 1#32
  let v751 : BitVec 32 := Scalar.muli v236 c1_i32_490
  let v752 : BitVec 32 := Scalar.addi v750 v751
  v752.toNat
def k0_cond5 (i : grid0.Coords) : BitVec 1 :=
  let arg0 : BitVec 32 := BitVec.ofNat 32 (i 0).val
  let c0_i32_11 : BitVec 32 := 0#32
  let v21 : BitVec 1 := Scalar.cmpi .eq arg0 c0_i32_11
  let arg1 : BitVec 32 := BitVec.ofNat 32 (i 1).val
  let c7_i32 : BitVec 32 := 7#32
  let v22 : BitVec 1 := Scalar.cmpi .eq arg1 c7_i32
  let v23 : BitVec 1 := Scalar.andi v21 v22
  let arg2 : BitVec 32 := BitVec.ofNat 32 (i 2).val
  let c12_i32_12 : BitVec 32 := 12#32
  let v24 : BitVec 1 := Scalar.cmpi .eq arg2 c12_i32_12
  let v25 : BitVec 1 := Scalar.andi v23 v24
  let v26 : BitVec 32 := Scalar.extui v25
  let c0_i32_13 : BitVec 32 := 0#32
  let v27 : BitVec 1 := Scalar.cmpi .ne v26 c0_i32_13
  v27

def k0_off25 (d28 : Dev nD) : Fin 3 → Nat :=
  let c4_i32_20 : BitVec 32 := 4#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v42 : BitVec 32 := Scalar.muli c4_i32_20 v30
  let c2_i32_21 : BitVec 32 := 2#32
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let v43 : BitVec 32 := Scalar.muli c2_i32_21 v33
  let v44 : BitVec 32 := Scalar.addi v42 v43
  let c1_i32_19 : BitVec 32 := 1#32
  let v34 : BitVec 32 := Dev.word d28
  let c1_i32 : BitVec 32 := 1#32
  let v35 : BitVec 32 := Scalar.divsi v34 c1_i32
  let c2_i32_16 : BitVec 32 := 2#32
  let v36 : BitVec 32 := Scalar.remsi v35 c2_i32_16
  let v41 : BitVec 32 := Scalar.subi c1_i32_19 v36
  let v45 : BitVec 32 := Scalar.addi v44 v41
  let c0_i32_155 : BitVec 32 := 0#32
  let c0_i32_156 : BitVec 32 := 0#32
  ![v45.toNat, 0, 0]
def k0_off26 (d28 : Dev nD) : Fin 3 → Nat :=
  let c4_i32_23 : BitVec 32 := 4#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v47 : BitVec 32 := Scalar.muli c4_i32_23 v30
  let c2_i32_24 : BitVec 32 := 2#32
  let c1_i32_22 : BitVec 32 := 1#32
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let v46 : BitVec 32 := Scalar.subi c1_i32_22 v33
  let v48 : BitVec 32 := Scalar.muli c2_i32_24 v46
  let v49 : BitVec 32 := Scalar.addi v47 v48
  let v34 : BitVec 32 := Dev.word d28
  let c1_i32 : BitVec 32 := 1#32
  let v35 : BitVec 32 := Scalar.divsi v34 c1_i32
  let c2_i32_16 : BitVec 32 := 2#32
  let v36 : BitVec 32 := Scalar.remsi v35 c2_i32_16
  let v50 : BitVec 32 := Scalar.addi v49 v36
  let c0_i32_165 : BitVec 32 := 0#32
  let c0_i32_166 : BitVec 32 := 0#32
  ![v50.toNat, 0, 0]
def k0_off27 (d28 : Dev nD) : Fin 3 → Nat :=
  let c4_i32_27 : BitVec 32 := 4#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v53 : BitVec 32 := Scalar.muli c4_i32_27 v30
  let c2_i32_28 : BitVec 32 := 2#32
  let c1_i32_25 : BitVec 32 := 1#32
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let v51 : BitVec 32 := Scalar.subi c1_i32_25 v33
  let v54 : BitVec 32 := Scalar.muli c2_i32_28 v51
  let v55 : BitVec 32 := Scalar.addi v53 v54
  let c1_i32_26 : BitVec 32 := 1#32
  let v34 : BitVec 32 := Dev.word d28
  let c1_i32 : BitVec 32 := 1#32
  let v35 : BitVec 32 := Scalar.divsi v34 c1_i32
  let c2_i32_16 : BitVec 32 := 2#32
  let v36 : BitVec 32 := Scalar.remsi v35 c2_i32_16
  let v52 : BitVec 32 := Scalar.subi c1_i32_26 v36
  let v56 : BitVec 32 := Scalar.addi v55 v52
  let c0_i32_175 : BitVec 32 := 0#32
  let c0_i32_176 : BitVec 32 := 0#32
  ![v56.toNat, 0, 0]
def k0_off28 (d28 : Dev nD) : Fin 3 → Nat :=
  let c4_i32_30 : BitVec 32 := 4#32
  let c1_i32_29 : BitVec 32 := 1#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v57 : BitVec 32 := Scalar.subi c1_i32_29 v30
  let v58 : BitVec 32 := Scalar.muli c4_i32_30 v57
  let c2_i32_31 : BitVec 32 := 2#32
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let v59 : BitVec 32 := Scalar.muli c2_i32_31 v33
  let v60 : BitVec 32 := Scalar.addi v58 v59
  let v34 : BitVec 32 := Dev.word d28
  let c1_i32 : BitVec 32 := 1#32
  let v35 : BitVec 32 := Scalar.divsi v34 c1_i32
  let c2_i32_16 : BitVec 32 := 2#32
  let v36 : BitVec 32 := Scalar.remsi v35 c2_i32_16
  let v61 : BitVec 32 := Scalar.addi v60 v36
  let c0_i32_184 : BitVec 32 := 0#32
  let c0_i32_185 : BitVec 32 := 0#32
  ![v61.toNat, 0, 0]
def k0_off29 (d28 : Dev nD) : Fin 3 → Nat :=
  let c4_i32_34 : BitVec 32 := 4#32
  let c1_i32_32 : BitVec 32 := 1#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v62 : BitVec 32 := Scalar.subi c1_i32_32 v30
  let v64 : BitVec 32 := Scalar.muli c4_i32_34 v62
  let c2_i32_35 : BitVec 32 := 2#32
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let v65 : BitVec 32 := Scalar.muli c2_i32_35 v33
  let v66 : BitVec 32 := Scalar.addi v64 v65
  let c1_i32_33 : BitVec 32 := 1#32
  let v34 : BitVec 32 := Dev.word d28
  let c1_i32 : BitVec 32 := 1#32
  let v35 : BitVec 32 := Scalar.divsi v34 c1_i32
  let c2_i32_16 : BitVec 32 := 2#32
  let v36 : BitVec 32 := Scalar.remsi v35 c2_i32_16
  let v63 : BitVec 32 := Scalar.subi c1_i32_33 v36
  let v67 : BitVec 32 := Scalar.addi v66 v63
  let c0_i32_194 : BitVec 32 := 0#32
  let c0_i32_195 : BitVec 32 := 0#32
  ![v67.toNat, 0, 0]
def k0_off30 (d28 : Dev nD) : Fin 3 → Nat :=
  let c4_i32_38 : BitVec 32 := 4#32
  let c1_i32_36 : BitVec 32 := 1#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v68 : BitVec 32 := Scalar.subi c1_i32_36 v30
  let v70 : BitVec 32 := Scalar.muli c4_i32_38 v68
  let c2_i32_39 : BitVec 32 := 2#32
  let c1_i32_37 : BitVec 32 := 1#32
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let v69 : BitVec 32 := Scalar.subi c1_i32_37 v33
  let v71 : BitVec 32 := Scalar.muli c2_i32_39 v69
  let v72 : BitVec 32 := Scalar.addi v70 v71
  let v34 : BitVec 32 := Dev.word d28
  let c1_i32 : BitVec 32 := 1#32
  let v35 : BitVec 32 := Scalar.divsi v34 c1_i32
  let c2_i32_16 : BitVec 32 := 2#32
  let v36 : BitVec 32 := Scalar.remsi v35 c2_i32_16
  let v73 : BitVec 32 := Scalar.addi v72 v36
  let c0_i32_203 : BitVec 32 := 0#32
  let c0_i32_204 : BitVec 32 := 0#32
  ![v73.toNat, 0, 0]
def k0_off31 (d28 : Dev nD) : Fin 3 → Nat :=
  let c4_i32_43 : BitVec 32 := 4#32
  let c1_i32_40 : BitVec 32 := 1#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v74 : BitVec 32 := Scalar.subi c1_i32_40 v30
  let v77 : BitVec 32 := Scalar.muli c4_i32_43 v74
  let c2_i32_44 : BitVec 32 := 2#32
  let c1_i32_41 : BitVec 32 := 1#32
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let v75 : BitVec 32 := Scalar.subi c1_i32_41 v33
  let v78 : BitVec 32 := Scalar.muli c2_i32_44 v75
  let v79 : BitVec 32 := Scalar.addi v77 v78
  let c1_i32_42 : BitVec 32 := 1#32
  let v34 : BitVec 32 := Dev.word d28
  let c1_i32 : BitVec 32 := 1#32
  let v35 : BitVec 32 := Scalar.divsi v34 c1_i32
  let c2_i32_16 : BitVec 32 := 2#32
  let v36 : BitVec 32 := Scalar.remsi v35 c2_i32_16
  let v76 : BitVec 32 := Scalar.subi c1_i32_42 v36
  let v80 : BitVec 32 := Scalar.addi v79 v76
  let c0_i32_212 : BitVec 32 := 0#32
  let c0_i32_213 : BitVec 32 := 0#32
  ![v80.toNat, 0, 0]
def k0_off32 (d28 : Dev nD) : Fin 3 → Nat :=
  let c4_i32_98 : BitVec 32 := 4#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v162 : BitVec 32 := Scalar.muli c4_i32_98 v30
  let c2_i32_99 : BitVec 32 := 2#32
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let v163 : BitVec 32 := Scalar.muli c2_i32_99 v33
  let v164 : BitVec 32 := Scalar.addi v162 v163
  let c1_i32_97 : BitVec 32 := 1#32
  let v34 : BitVec 32 := Dev.word d28
  let c1_i32 : BitVec 32 := 1#32
  let v35 : BitVec 32 := Scalar.divsi v34 c1_i32
  let c2_i32_16 : BitVec 32 := 2#32
  let v36 : BitVec 32 := Scalar.remsi v35 c2_i32_16
  let v161 : BitVec 32 := Scalar.subi c1_i32_97 v36
  let v165 : BitVec 32 := Scalar.addi v164 v161
  let c0_i32_349 : BitVec 32 := 0#32
  let c0_i32_350 : BitVec 32 := 0#32
  ![v165.toNat, 0, 0]
def k0_off33 (d28 : Dev nD) : Fin 3 → Nat :=
  let c4_i32_101 : BitVec 32 := 4#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v167 : BitVec 32 := Scalar.muli c4_i32_101 v30
  let c2_i32_102 : BitVec 32 := 2#32
  let c1_i32_100 : BitVec 32 := 1#32
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let v166 : BitVec 32 := Scalar.subi c1_i32_100 v33
  let v168 : BitVec 32 := Scalar.muli c2_i32_102 v166
  let v169 : BitVec 32 := Scalar.addi v167 v168
  let v34 : BitVec 32 := Dev.word d28
  let c1_i32 : BitVec 32 := 1#32
  let v35 : BitVec 32 := Scalar.divsi v34 c1_i32
  let c2_i32_16 : BitVec 32 := 2#32
  let v36 : BitVec 32 := Scalar.remsi v35 c2_i32_16
  let v170 : BitVec 32 := Scalar.addi v169 v36
  let c0_i32_358 : BitVec 32 := 0#32
  let c0_i32_359 : BitVec 32 := 0#32
  ![v170.toNat, 0, 0]
def k0_off34 (d28 : Dev nD) : Fin 3 → Nat :=
  let c4_i32_105 : BitVec 32 := 4#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v173 : BitVec 32 := Scalar.muli c4_i32_105 v30
  let c2_i32_106 : BitVec 32 := 2#32
  let c1_i32_103 : BitVec 32 := 1#32
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let v171 : BitVec 32 := Scalar.subi c1_i32_103 v33
  let v174 : BitVec 32 := Scalar.muli c2_i32_106 v171
  let v175 : BitVec 32 := Scalar.addi v173 v174
  let c1_i32_104 : BitVec 32 := 1#32
  let v34 : BitVec 32 := Dev.word d28
  let c1_i32 : BitVec 32 := 1#32
  let v35 : BitVec 32 := Scalar.divsi v34 c1_i32
  let c2_i32_16 : BitVec 32 := 2#32
  let v36 : BitVec 32 := Scalar.remsi v35 c2_i32_16
  let v172 : BitVec 32 := Scalar.subi c1_i32_104 v36
  let v176 : BitVec 32 := Scalar.addi v175 v172
  let c0_i32_367 : BitVec 32 := 0#32
  let c0_i32_368 : BitVec 32 := 0#32
  ![v176.toNat, 0, 0]
def k0_off35 (d28 : Dev nD) : Fin 3 → Nat :=
  let c4_i32_108 : BitVec 32 := 4#32
  let c1_i32_107 : BitVec 32 := 1#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v177 : BitVec 32 := Scalar.subi c1_i32_107 v30
  let v178 : BitVec 32 := Scalar.muli c4_i32_108 v177
  let c2_i32_109 : BitVec 32 := 2#32
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let v179 : BitVec 32 := Scalar.muli c2_i32_109 v33
  let v180 : BitVec 32 := Scalar.addi v178 v179
  let v34 : BitVec 32 := Dev.word d28
  let c1_i32 : BitVec 32 := 1#32
  let v35 : BitVec 32 := Scalar.divsi v34 c1_i32
  let c2_i32_16 : BitVec 32 := 2#32
  let v36 : BitVec 32 := Scalar.remsi v35 c2_i32_16
  let v181 : BitVec 32 := Scalar.addi v180 v36
  let c0_i32_376 : BitVec 32 := 0#32
  let c0_i32_377 : BitVec 32 := 0#32
  ![v181.toNat, 0, 0]
def k0_off36 (d28 : Dev nD) : Fin 3 → Nat :=
  let c4_i32_112 : BitVec 32 := 4#32
  let c1_i32_110 : BitVec 32 := 1#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v182 : BitVec 32 := Scalar.subi c1_i32_110 v30
  let v184 : BitVec 32 := Scalar.muli c4_i32_112 v182
  let c2_i32_113 : BitVec 32 := 2#32
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let v185 : BitVec 32 := Scalar.muli c2_i32_113 v33
  let v186 : BitVec 32 := Scalar.addi v184 v185
  let c1_i32_111 : BitVec 32 := 1#32
  let v34 : BitVec 32 := Dev.word d28
  let c1_i32 : BitVec 32 := 1#32
  let v35 : BitVec 32 := Scalar.divsi v34 c1_i32
  let c2_i32_16 : BitVec 32 := 2#32
  let v36 : BitVec 32 := Scalar.remsi v35 c2_i32_16
  let v183 : BitVec 32 := Scalar.subi c1_i32_111 v36
  let v187 : BitVec 32 := Scalar.addi v186 v183
  let c0_i32_385 : BitVec 32 := 0#32
  let c0_i32_386 : BitVec 32 := 0#32
  ![v187.toNat, 0, 0]
def k0_off37 (d28 : Dev nD) : Fin 3 → Nat :=
  let c4_i32_116 : BitVec 32 := 4#32
  let c1_i32_114 : BitVec 32 := 1#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v188 : BitVec 32 := Scalar.subi c1_i32_114 v30
  let v190 : BitVec 32 := Scalar.muli c4_i32_116 v188
  let c2_i32_117 : BitVec 32 := 2#32
  let c1_i32_115 : BitVec 32 := 1#32
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let v189 : BitVec 32 := Scalar.subi c1_i32_115 v33
  let v191 : BitVec 32 := Scalar.muli c2_i32_117 v189
  let v192 : BitVec 32 := Scalar.addi v190 v191
  let v34 : BitVec 32 := Dev.word d28
  let c1_i32 : BitVec 32 := 1#32
  let v35 : BitVec 32 := Scalar.divsi v34 c1_i32
  let c2_i32_16 : BitVec 32 := 2#32
  let v36 : BitVec 32 := Scalar.remsi v35 c2_i32_16
  let v193 : BitVec 32 := Scalar.addi v192 v36
  let c0_i32_394 : BitVec 32 := 0#32
  let c0_i32_395 : BitVec 32 := 0#32
  ![v193.toNat, 0, 0]
def k0_off38 (d28 : Dev nD) : Fin 3 → Nat :=
  let c4_i32_121 : BitVec 32 := 4#32
  let c1_i32_118 : BitVec 32 := 1#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v194 : BitVec 32 := Scalar.subi c1_i32_118 v30
  let v197 : BitVec 32 := Scalar.muli c4_i32_121 v194
  let c2_i32_122 : BitVec 32 := 2#32
  let c1_i32_119 : BitVec 32 := 1#32
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let v195 : BitVec 32 := Scalar.subi c1_i32_119 v33
  let v198 : BitVec 32 := Scalar.muli c2_i32_122 v195
  let v199 : BitVec 32 := Scalar.addi v197 v198
  let c1_i32_120 : BitVec 32 := 1#32
  let v34 : BitVec 32 := Dev.word d28
  let c1_i32 : BitVec 32 := 1#32
  let v35 : BitVec 32 := Scalar.divsi v34 c1_i32
  let c2_i32_16 : BitVec 32 := 2#32
  let v36 : BitVec 32 := Scalar.remsi v35 c2_i32_16
  let v196 : BitVec 32 := Scalar.subi c1_i32_120 v36
  let v200 : BitVec 32 := Scalar.addi v199 v196
  let c0_i32_403 : BitVec 32 := 0#32
  let c0_i32_404 : BitVec 32 := 0#32
  ![v200.toNat, 0, 0]
def k0_off39 (d28 : Dev nD) : Fin 3 → Nat :=
  let c4_i32_124 : BitVec 32 := 4#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v202 : BitVec 32 := Scalar.muli c4_i32_124 v30
  let c2_i32_125 : BitVec 32 := 2#32
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let v203 : BitVec 32 := Scalar.muli c2_i32_125 v33
  let v204 : BitVec 32 := Scalar.addi v202 v203
  let c1_i32_123 : BitVec 32 := 1#32
  let v34 : BitVec 32 := Dev.word d28
  let c1_i32 : BitVec 32 := 1#32
  let v35 : BitVec 32 := Scalar.divsi v34 c1_i32
  let c2_i32_16 : BitVec 32 := 2#32
  let v36 : BitVec 32 := Scalar.remsi v35 c2_i32_16
  let v201 : BitVec 32 := Scalar.subi c1_i32_123 v36
  let v205 : BitVec 32 := Scalar.addi v204 v201
  let c0_i32_412 : BitVec 32 := 0#32
  let c0_i32_413 : BitVec 32 := 0#32
  ![v205.toNat, 0, 0]
def k0_off40 (d28 : Dev nD) : Fin 3 → Nat :=
  let c4_i32_127 : BitVec 32 := 4#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v207 : BitVec 32 := Scalar.muli c4_i32_127 v30
  let c2_i32_128 : BitVec 32 := 2#32
  let c1_i32_126 : BitVec 32 := 1#32
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let v206 : BitVec 32 := Scalar.subi c1_i32_126 v33
  let v208 : BitVec 32 := Scalar.muli c2_i32_128 v206
  let v209 : BitVec 32 := Scalar.addi v207 v208
  let v34 : BitVec 32 := Dev.word d28
  let c1_i32 : BitVec 32 := 1#32
  let v35 : BitVec 32 := Scalar.divsi v34 c1_i32
  let c2_i32_16 : BitVec 32 := 2#32
  let v36 : BitVec 32 := Scalar.remsi v35 c2_i32_16
  let v210 : BitVec 32 := Scalar.addi v209 v36
  let c0_i32_421 : BitVec 32 := 0#32
  let c0_i32_422 : BitVec 32 := 0#32
  ![v210.toNat, 0, 0]
def k0_off41 (d28 : Dev nD) : Fin 3 → Nat :=
  let c4_i32_131 : BitVec 32 := 4#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v213 : BitVec 32 := Scalar.muli c4_i32_131 v30
  let c2_i32_132 : BitVec 32 := 2#32
  let c1_i32_129 : BitVec 32 := 1#32
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let v211 : BitVec 32 := Scalar.subi c1_i32_129 v33
  let v214 : BitVec 32 := Scalar.muli c2_i32_132 v211
  let v215 : BitVec 32 := Scalar.addi v213 v214
  let c1_i32_130 : BitVec 32 := 1#32
  let v34 : BitVec 32 := Dev.word d28
  let c1_i32 : BitVec 32 := 1#32
  let v35 : BitVec 32 := Scalar.divsi v34 c1_i32
  let c2_i32_16 : BitVec 32 := 2#32
  let v36 : BitVec 32 := Scalar.remsi v35 c2_i32_16
  let v212 : BitVec 32 := Scalar.subi c1_i32_130 v36
  let v216 : BitVec 32 := Scalar.addi v215 v212
  let c0_i32_430 : BitVec 32 := 0#32
  let c0_i32_431 : BitVec 32 := 0#32
  ![v216.toNat, 0, 0]
def k0_off42 (d28 : Dev nD) : Fin 3 → Nat :=
  let c4_i32_134 : BitVec 32 := 4#32
  let c1_i32_133 : BitVec 32 := 1#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v217 : BitVec 32 := Scalar.subi c1_i32_133 v30
  let v218 : BitVec 32 := Scalar.muli c4_i32_134 v217
  let c2_i32_135 : BitVec 32 := 2#32
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let v219 : BitVec 32 := Scalar.muli c2_i32_135 v33
  let v220 : BitVec 32 := Scalar.addi v218 v219
  let v34 : BitVec 32 := Dev.word d28
  let c1_i32 : BitVec 32 := 1#32
  let v35 : BitVec 32 := Scalar.divsi v34 c1_i32
  let c2_i32_16 : BitVec 32 := 2#32
  let v36 : BitVec 32 := Scalar.remsi v35 c2_i32_16
  let v221 : BitVec 32 := Scalar.addi v220 v36
  let c0_i32_439 : BitVec 32 := 0#32
  let c0_i32_440 : BitVec 32 := 0#32
  ![v221.toNat, 0, 0]
def k0_off43 (d28 : Dev nD) : Fin 3 → Nat :=
  let c4_i32_138 : BitVec 32 := 4#32
  let c1_i32_136 : BitVec 32 := 1#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v222 : BitVec 32 := Scalar.subi c1_i32_136 v30
  let v224 : BitVec 32 := Scalar.muli c4_i32_138 v222
  let c2_i32_139 : BitVec 32 := 2#32
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let v225 : BitVec 32 := Scalar.muli c2_i32_139 v33
  let v226 : BitVec 32 := Scalar.addi v224 v225
  let c1_i32_137 : BitVec 32 := 1#32
  let v34 : BitVec 32 := Dev.word d28
  let c1_i32 : BitVec 32 := 1#32
  let v35 : BitVec 32 := Scalar.divsi v34 c1_i32
  let c2_i32_16 : BitVec 32 := 2#32
  let v36 : BitVec 32 := Scalar.remsi v35 c2_i32_16
  let v223 : BitVec 32 := Scalar.subi c1_i32_137 v36
  let v227 : BitVec 32 := Scalar.addi v226 v223
  let c0_i32_448 : BitVec 32 := 0#32
  let c0_i32_449 : BitVec 32 := 0#32
  ![v227.toNat, 0, 0]
def k0_off44 (d28 : Dev nD) : Fin 3 → Nat :=
  let c4_i32_142 : BitVec 32 := 4#32
  let c1_i32_140 : BitVec 32 := 1#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v228 : BitVec 32 := Scalar.subi c1_i32_140 v30
  let v230 : BitVec 32 := Scalar.muli c4_i32_142 v228
  let c2_i32_143 : BitVec 32 := 2#32
  let c1_i32_141 : BitVec 32 := 1#32
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let v229 : BitVec 32 := Scalar.subi c1_i32_141 v33
  let v231 : BitVec 32 := Scalar.muli c2_i32_143 v229
  let v232 : BitVec 32 := Scalar.addi v230 v231
  let v34 : BitVec 32 := Dev.word d28
  let c1_i32 : BitVec 32 := 1#32
  let v35 : BitVec 32 := Scalar.divsi v34 c1_i32
  let c2_i32_16 : BitVec 32 := 2#32
  let v36 : BitVec 32 := Scalar.remsi v35 c2_i32_16
  let v233 : BitVec 32 := Scalar.addi v232 v36
  let c0_i32_457 : BitVec 32 := 0#32
  let c0_i32_458 : BitVec 32 := 0#32
  ![v233.toNat, 0, 0]
def k0_off45 (d28 : Dev nD) : Fin 3 → Nat :=
  let c4_i32_147 : BitVec 32 := 4#32
  let c1_i32_144 : BitVec 32 := 1#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v234 : BitVec 32 := Scalar.subi c1_i32_144 v30
  let v237 : BitVec 32 := Scalar.muli c4_i32_147 v234
  let c2_i32_148 : BitVec 32 := 2#32
  let c1_i32_145 : BitVec 32 := 1#32
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let v235 : BitVec 32 := Scalar.subi c1_i32_145 v33
  let v238 : BitVec 32 := Scalar.muli c2_i32_148 v235
  let v239 : BitVec 32 := Scalar.addi v237 v238
  let c1_i32_146 : BitVec 32 := 1#32
  let v34 : BitVec 32 := Dev.word d28
  let c1_i32 : BitVec 32 := 1#32
  let v35 : BitVec 32 := Scalar.divsi v34 c1_i32
  let c2_i32_16 : BitVec 32 := 2#32
  let v36 : BitVec 32 := Scalar.remsi v35 c2_i32_16
  let v236 : BitVec 32 := Scalar.subi c1_i32_146 v36
  let v240 : BitVec 32 := Scalar.addi v239 v236
  let c0_i32_466 : BitVec 32 := 0#32
  let c0_i32_467 : BitVec 32 := 0#32
  ![v240.toNat, 0, 0]
def k0_off46 (d28 : Dev nD) : Fin 3 → Nat :=
  let c4_i32_17 : BitVec 32 := 4#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v37 : BitVec 32 := Scalar.muli c4_i32_17 v30
  let c2_i32_18 : BitVec 32 := 2#32
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let v38 : BitVec 32 := Scalar.muli c2_i32_18 v33
  let v39 : BitVec 32 := Scalar.addi v37 v38
  let v34 : BitVec 32 := Dev.word d28
  let c1_i32 : BitVec 32 := 1#32
  let v35 : BitVec 32 := Scalar.divsi v34 c1_i32
  let c2_i32_16 : BitVec 32 := 2#32
  let v36 : BitVec 32 := Scalar.remsi v35 c2_i32_16
  let v40 : BitVec 32 := Scalar.addi v39 v36
  let c0_i32_475 : BitVec 32 := 0#32
  let c0_i32_476 : BitVec 32 := 0#32
  ![v40.toNat, 0, 0]
def k0_off47 (d28 : Dev nD) : Fin 3 → Nat :=
  let c4_i32_17 : BitVec 32 := 4#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v37 : BitVec 32 := Scalar.muli c4_i32_17 v30
  let c2_i32_18 : BitVec 32 := 2#32
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let v38 : BitVec 32 := Scalar.muli c2_i32_18 v33
  let v39 : BitVec 32 := Scalar.addi v37 v38
  let v34 : BitVec 32 := Dev.word d28
  let c1_i32 : BitVec 32 := 1#32
  let v35 : BitVec 32 := Scalar.divsi v34 c1_i32
  let c2_i32_16 : BitVec 32 := 2#32
  let v36 : BitVec 32 := Scalar.remsi v35 c2_i32_16
  let v40 : BitVec 32 := Scalar.addi v39 v36
  let c0_i32_622 : BitVec 32 := 0#32
  let c0_i32_623 : BitVec 32 := 0#32
  ![v40.toNat, 0, 0]
def k0_off48 (d28 : Dev nD) : Fin 3 → Nat :=
  let c4_i32_17 : BitVec 32 := 4#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v37 : BitVec 32 := Scalar.muli c4_i32_17 v30
  let c2_i32_18 : BitVec 32 := 2#32
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let v38 : BitVec 32 := Scalar.muli c2_i32_18 v33
  let v39 : BitVec 32 := Scalar.addi v37 v38
  let v34 : BitVec 32 := Dev.word d28
  let c1_i32 : BitVec 32 := 1#32
  let v35 : BitVec 32 := Scalar.divsi v34 c1_i32
  let c2_i32_16 : BitVec 32 := 2#32
  let v36 : BitVec 32 := Scalar.remsi v35 c2_i32_16
  let v40 : BitVec 32 := Scalar.addi v39 v36
  let c0_i32_671 : BitVec 32 := 0#32
  let c0_i32_672 : BitVec 32 := 0#32
  ![v40.toNat, 0, 0]
def k0_cond4 (i : grid0.Coords) : BitVec 1 :=
  let arg2 : BitVec 32 := BitVec.ofNat 32 (i 2).val
  let c12_i32 : BitVec 32 := 12#32
  let v18 : BitVec 1 := Scalar.cmpi .eq arg2 c12_i32
  let v19 : BitVec 32 := Scalar.extui v18
  let c0_i32_10 : BitVec 32 := 0#32
  let v20 : BitVec 1 := Scalar.cmpi .ne v19 c0_i32_10
  v20

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1280x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1280x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WeightReferenceIdeal.lean ====
abbrev S133120x1024 : Shape := ⟨2, ![133120, 1024]⟩
abbrev S133120x8192 : Shape := ⟨2, ![133120, 8192]⟩
abbrev S64x128x1024 : Shape := ⟨3, ![64, 128, 1024]⟩
abbrev S64x1024x704 : Shape := ⟨3, ![64, 1024, 704]⟩
abbrev S64x352x1024 : Shape := ⟨3, ![64, 352, 1024]⟩
abbrev S8x16640x1024 : Shape := ⟨3, ![8, 16640, 1024]⟩
abbrev S8x16640x8192 : Shape := ⟨3, ![8, 16640, 8192]⟩
abbrev S8x1024x8192 : Shape := ⟨3, ![8, 1024, 8192]⟩
abbrev S8192x8192 : Shape := ⟨2, ![8192, 8192]⟩
abbrev S8x8x128x1024 : Shape := ⟨4, ![8, 8, 128, 1024]⟩
abbrev S8x8x1024x704 : Shape := ⟨4, ![8, 8, 1024, 704]⟩
abbrev S8x8x352x1024 : Shape := ⟨4, ![8, 8, 352, 1024]⟩

abbrev nBuf : Space → Nat
  | .hbm => 27
  | .vmem => 0
  | .smem => 0
  | _ => 0

abbrev bufTy : (tb : Table) → Fin (tcTables nBuf tb) → BufTy
  | .hbm, ⟨0, _⟩ => ⟨S133120x1024, .bf16⟩
  | .hbm, ⟨1, _⟩ => ⟨S133120x8192, .bf16⟩
  | .hbm, ⟨2, _⟩ => ⟨S64x128x1024, .bf16⟩
  | .hbm, ⟨3, _⟩ => ⟨S64x128x1024, .bf16⟩
  | .hbm, ⟨4, _⟩ => ⟨S64x128x1024, .bf16⟩
  | .hbm, ⟨5, _⟩ => ⟨S64x1024x704, .bf16⟩
  | .hbm, ⟨6, _⟩ => ⟨S64x352x1024, .bf16⟩
  | .hbm, ⟨7, _⟩ => ⟨S8x16640x1024, .bf16⟩
  | .hbm, ⟨8, _⟩ => ⟨S8x16640x8192, .bf16⟩
  | .hbm, ⟨9, _⟩ => ⟨S8x1024x8192, .f32⟩
  | .hbm, ⟨10, _⟩ => ⟨S8x1024x8192, .bf16⟩
  | .hbm, ⟨11, _⟩ => ⟨S8192x8192, .bf16⟩
  | .hbm, ⟨12, _⟩ => ⟨S8x8x128x1024, .bf16⟩
  | .hbm, ⟨13, _⟩ => ⟨S8x8x128x1024, .bf16⟩
  | .hbm, ⟨14, _⟩ => ⟨S64x128x1024, .bf16⟩
  | .hbm, ⟨15, _⟩ => ⟨S8x8x128x1024, .bf16⟩
  | .hbm, ⟨16, _⟩ => ⟨S8x8x128x1024, .bf16⟩
  | .hbm, ⟨17, _⟩ => ⟨S64x128x1024, .bf16⟩
  | .hbm, ⟨18, _⟩ => ⟨S8x8x128x1024, .bf16⟩
  | .hbm, ⟨19, _⟩ => ⟨S8x8x128x1024, .bf16⟩
  | .hbm, ⟨20, _⟩ => ⟨S64x128x1024, .bf16⟩
  | .hbm, ⟨21, _⟩ => ⟨S8x8x1024x704, .bf16⟩
  | .hbm, ⟨22, _⟩ => ⟨S8x8x1024x704, .bf16⟩
  | .hbm, ⟨23, _⟩ => ⟨S64x1024x704, .bf16⟩
  | .hbm, ⟨24, _⟩ => ⟨S8x8x352x1024, .bf16⟩
  | .hbm, ⟨25, _⟩ => ⟨S8x8x352x1024, .bf16⟩
  | .hbm, ⟨26, _⟩ => ⟨S64x352x1024, .bf16⟩
  | _, _ => ⟨S133120x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Row.lean ====
abbrev S16640x8192 : Shape := ⟨2, ![16640, 8192]⟩
abbrev S1024x8192 : Shape := ⟨2, ![1024, 8192]⟩
abbrev S8x1024x964 : Shape := ⟨3, ![8, 1024, 964]⟩
abbrev S16640x1024 : Shape := ⟨2, ![16640, 1024]⟩
abbrev S1280x2048 : Shape := ⟨2, ![1280, 2048]⟩
abbrev S1024x2048 : Shape := ⟨2, ![1024, 2048]⟩
abbrev S1280x1024 : Shape := ⟨2, ![1280, 1024]⟩
abbrev S7 : Shape := ⟨1, ![7]⟩
abbrev S1 : Shape := ⟨1, ![1]⟩
abbrev S_ : Shape := ⟨0, ![]⟩
abbrev S1x1024x964 : Shape := ⟨3, ![1, 1024, 964]⟩
abbrev S1024x964 : Shape := ⟨2, ![1024, 964]⟩

abbrev nBuf : Space → Nat
  | .hbm => 5
  | .vmem => 7
  | .smem => 0
  | _ => 0

abbrev bufTy : (tb : Table) → Fin (tcTables nBuf tb) → BufTy
  | .hbm, ⟨0, _⟩ => ⟨S16640x8192, .bf16⟩
  | .hbm, ⟨1, _⟩ => ⟨S1024x8192, .bf16⟩
  | .hbm, ⟨2, _⟩ => ⟨S8x1024x964, .bf16⟩
  | .hbm, ⟨3, _⟩ => ⟨S16640x1024, .f32⟩
  | .hbm, ⟨4, _⟩ => ⟨S8x1024x964, .bf16⟩
  | .local _ .vmem, ⟨0, _⟩ => ⟨S1280x2048, .bf16⟩
  | .local _ .vmem, ⟨1, _⟩ => ⟨S1280x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1280x1024, .f32⟩
  | .local _ .vmem, ⟨5, _⟩ => ⟨S1280x1024, .f32⟩
  | .local _ .vmem, ⟨6, _⟩ => ⟨S1280x1024, .f32⟩
  | _, _ => ⟨S16640x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 8
abbrev τ : Topo := Topo.v7x

variable {F : FTy → Type} [FloatOps F]

abbrev grid0 : Pipeline.Grid := ⟨3, ![13, 1, 4], ![false, false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let arg2 : BitVec 32 := BitVec.ofNat 32 (i 2).val
  let c0_i32_1 : BitVec 32 := 0#32
  let v3 : BitVec 1 := Scalar.cmpi .eq arg2 c0_i32_1
  let v4 : BitVec 1 := Scalar.andi v2 v3
  let v5 : BitVec 32 := Scalar.extui v4
  let c0_i32_2 : BitVec 32 := 0#32
  let v6 : BitVec 1 := Scalar.cmpi .ne v5 c0_i32_2
  v6

def k0_off1 (d28 : Dev nD) : Fin 3 → Nat :=
  let c4_i32_17 : BitVec 32 := 4#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v37 : BitVec 32 := Scalar.muli c4_i32_17 v30
  let c2_i32_18 : BitVec 32 := 2#32
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let v38 : BitVec 32 := Scalar.muli c2_i32_18 v33
  let v39 : BitVec 32 := Scalar.addi v37 v38
  let v34 : BitVec 32 := Dev.word d28
  let c1_i32 : BitVec 32 := 1#32
  let v35 : BitVec 32 := Scalar.divsi v34 c1_i32
  let c2_i32_16 : BitVec 32 := 2#32
  let v36 : BitVec 32 := Scalar.remsi v35 c2_i32_16
  let v40 : BitVec 32 := Scalar.addi v39 v36
  let c0_i32_46 : BitVec 32 := 0#32
  let c0_i32_47 : BitVec 32 := 0#32
  ![v40.toNat, 0, 0]
def k0_off2 (d28 : Dev nD) : Fin 3 → Nat :=
  let c4_i32_20 : BitVec 32 := 4#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v42 : BitVec 32 := Scalar.muli c4_i32_20 v30
  let c2_i32_21 : BitVec 32 := 2#32
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let v43 : BitVec 32 := Scalar.muli c2_i32_21 v33
  let v44 : BitVec 32 := Scalar.addi v42 v43
  let c1_i32_19 : BitVec 32 := 1#32
  let v34 : BitVec 32 := Dev.word d28
  let c1_i32 : BitVec 32 := 1#32
  let v35 : BitVec 32 := Scalar.divsi v34 c1_i32
  let c2_i32_16 : BitVec 32 := 2#32
  let v36 : BitVec 32 := Scalar.remsi v35 c2_i32_16
  let v41 : BitVec 32 := Scalar.subi c1_i32_19 v36
  let v45 : BitVec 32 := Scalar.addi v44 v41
  let c0_i32_58 : BitVec 32 := 0#32
  let c0_i32_59 : BitVec 32 := 0#32
  ![v45.toNat, 0, 0]
def k0_dev1 (d28 : Dev nD) : Nat :=
  let c0_i32_53 : BitVec 32 := 0#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let c4_i32_52 : BitVec 32 := 4#32
  let v87 : BitVec 32 := Scalar.muli v30 c4_i32_52
  let v88 : BitVec 32 := Scalar.addi c0_i32_53 v87
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let c2_i32_54 : BitVec 32 := 2#32
  let v89 : BitVec 32 := Scalar.muli v33 c2_i32_54
  let v90 : BitVec 32 := Scalar.addi v88 v89
  let c1_i32_19 : BitVec 32 := 1#32
  let v34 : BitVec 32 := Dev.word d28
  let c1_i32 : BitVec 32 := 1#32
  let v35 : BitVec 32 := Scalar.divsi v34 c1_i32
  let c2_i32_16 : BitVec 32 := 2#32
  let v36 : BitVec 32 := Scalar.remsi v35 c2_i32_16
  let v41 : BitVec 32 := Scalar.subi c1_i32_19 v36
  let c1_i32_55 : BitVec 32 := 1#32
  let v91 : BitVec 32 := Scalar.muli v41 c1_i32_55
  let v92 : BitVec 32 := Scalar.addi v90 v91
  v92.toNat
def k0_off3 (d28 : Dev nD) : Fin 3 → Nat :=
  let c4_i32_23 : BitVec 32 := 4#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v47 : BitVec 32 := Scalar.muli c4_i32_23 v30
  let c2_i32_24 : BitVec 32 := 2#32
  let c1_i32_22 : BitVec 32 := 1#32
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let v46 : BitVec 32 := Scalar.subi c1_i32_22 v33
  let v48 : BitVec 32 := Scalar.muli c2_i32_24 v46
  let v49 : BitVec 32 := Scalar.addi v47 v48
  let v34 : BitVec 32 := Dev.word d28
  let c1_i32 : BitVec 32 := 1#32
  let v35 : BitVec 32 := Scalar.divsi v34 c1_i32
  let c2_i32_16 : BitVec 32 := 2#32
  let v36 : BitVec 32 := Scalar.remsi v35 c2_i32_16
  let v50 : BitVec 32 := Scalar.addi v49 v36
  let c0_i32_68 : BitVec 32 := 0#32
  let c0_i32_69 : BitVec 32 := 0#32
  ![v50.toNat, 0, 0]
def k0_dev2 (d28 : Dev nD) : Nat :=
  let c0_i32_63 : BitVec 32 := 0#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let c4_i32_62 : BitVec 32 := 4#32
  let v101 : BitVec 32 := Scalar.muli v30 c4_i32_62
  let v102 : BitVec 32 := Scalar.addi c0_i32_63 v101
  let c1_i32_22 : BitVec 32 := 1#32
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let v46 : BitVec 32 := Scalar.subi c1_i32_22 v33
  let c2_i32_64 : BitVec 32 := 2#32
  let v103 : BitVec 32 := Scalar.muli v46 c2_i32_64
  let v104 : BitVec 32 := Scalar.addi v102 v103
  let v34 : BitVec 32 := Dev.word d28
  let c1_i32 : BitVec 32 := 1#32
  let v35 : BitVec 32 := Scalar.divsi v34 c1_i32
  let c2_i32_16 : BitVec 32 := 2#32
  let v36 : BitVec 32 := Scalar.remsi v35 c2_i32_16
  let c1_i32_65 : BitVec 32 := 1#32
  let v105 : BitVec 32 := Scalar.muli v36 c1_i32_65
  let v106 : BitVec 32 := Scalar.addi v104 v105
  v106.toNat
def k0_off4 (d28 : Dev nD) : Fin 3 → Nat :=
  let c4_i32_27 : BitVec 32 := 4#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v53 : BitVec 32 := Scalar.muli c4_i32_27 v30
  let c2_i32_28 : BitVec 32 := 2#32
  let c1_i32_25 : BitVec 32 := 1#32
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let v51 : BitVec 32 := Scalar.subi c1_i32_25 v33
  let v54 : BitVec 32 := Scalar.muli c2_i32_28 v51
  let v55 : BitVec 32 := Scalar.addi v53 v54
  let c1_i32_26 : BitVec 32 := 1#32
  let v34 : BitVec 32 := Dev.word d28
  let c1_i32 : BitVec 32 := 1#32
  let v35 : BitVec 32 := Scalar.divsi v34 c1_i32
  let c2_i32_16 : BitVec 32 := 2#32
  let v36 : BitVec 32 := Scalar.remsi v35 c2_i32_16
  let v52 : BitVec 32 := Scalar.subi c1_i32_26 v36
  let v56 : BitVec 32 := Scalar.addi v55 v52
  let c0_i32_78 : BitVec 32 := 0#32
  let c0_i32_79 : BitVec 32 := 0#32
  ![v56.toNat, 0, 0]
def k0_dev3 (d28 : Dev nD) : Nat :=
  let c0_i32_73 : BitVec 32 := 0#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let c4_i32_72 : BitVec 32 := 4#32
  let v115 : BitVec 32 := Scalar.muli v30 c4_i32_72
  let v116 : BitVec 32 := Scalar.addi c0_i32_73 v115
  let c1_i32_25 : BitVec 32 := 1#32
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let v51 : BitVec 32 := Scalar.subi c1_i32_25 v33
  let c2_i32_74 : BitVec 32 := 2#32
  let v117 : BitVec 32 := Scalar.muli v51 c2_i32_74
  let v118 : BitVec 32 := Scalar.addi v116 v117
  let c1_i32_26 : BitVec 32 := 1#32
  let v34 : BitVec 32 := Dev.word d28
  let c1_i32 : BitVec 32 := 1#32
  let v35 : BitVec 32 := Scalar.divsi v34 c1_i32
  let c2_i32_16 : BitVec 32 := 2#32
  let v36 : BitVec 32 := Scalar.remsi v35 c2_i32_16
  let v52 : BitVec 32 := Scalar.subi c1_i32_26 v36
  let c1_i32_75 : BitVec 32 := 1#32
  let v119 : BitVec 32 := Scalar.muli v52 c1_i32_75
  let v120 : BitVec 32 := Scalar.addi v118 v119
  v120.toNat
def k0_off5 (d28 : Dev nD) : Fin 3 → Nat :=
  let c4_i32_30 : BitVec 32 := 4#32
  let c1_i32_29 : BitVec 32 := 1#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v57 : BitVec 32 := Scalar.subi c1_i32_29 v30
  let v58 : BitVec 32 := Scalar.muli c4_i32_30 v57
  let c2_i32_31 : BitVec 32 := 2#32
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let v59 : BitVec 32 := Scalar.muli c2_i32_31 v33
  let v60 : BitVec 32 := Scalar.addi v58 v59
  let v34 : BitVec 32 := Dev.word d28
  let c1_i32 : BitVec 32 := 1#32
  let v35 : BitVec 32 := Scalar.divsi v34 c1_i32
  let c2_i32_16 : BitVec 32 := 2#32
  let v36 : BitVec 32 := Scalar.remsi v35 c2_i32_16
  let v61 : BitVec 32 := Scalar.addi v60 v36
  let c0_i32_88 : BitVec 32 := 0#32
  let c0_i32_89 : BitVec 32 := 0#32
  ![v61.toNat, 0, 0]
def k0_dev4 (d28 : Dev nD) : Nat :=
  let c0_i32_83 : BitVec 32 := 0#32
  let c1_i32_29 : BitVec 32 := 1#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v57 : BitVec 32 := Scalar.subi c1_i32_29 v30
  let c4_i32_82 : BitVec 32 := 4#32
  let v129 : BitVec 32 := Scalar.muli v57 c4_i32_82
  let v130 : BitVec 32 := Scalar.addi c0_i32_83 v129
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let c2_i32_84 : BitVec 32 := 2#32
  let v131 : BitVec 32 := Scalar.muli v33 c2_i32_84
  let v132 : BitVec 32 := Scalar.addi v130 v131
  let v34 : BitVec 32 := Dev.word d28
  let c1_i32 : BitVec 32 := 1#32
  let v35 : BitVec 32 := Scalar.divsi v34 c1_i32
  let c2_i32_16 : BitVec 32 := 2#32
  let v36 : BitVec 32 := Scalar.remsi v35 c2_i32_16
  let c1_i32_85 : BitVec 32 := 1#32
  let v133 : BitVec 32 := Scalar.muli v36 c1_i32_85
  let v134 : BitVec 32 := Scalar.addi v132 v133
  v134.toNat
def k0_off6 (d28 : Dev nD) : Fin 3 → Nat :=
  let c4_i32_34 : BitVec 32 := 4#32
  let c1_i32_32 : BitVec 32 := 1#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v62 : BitVec 32 := Scalar.subi c1_i32_32 v30
  let v64 : BitVec 32 := Scalar.muli c4_i32_34 v62
  let c2_i32_35 : BitVec 32 := 2#32
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let v65 : BitVec 32 := Scalar.muli c2_i32_35 v33
  let v66 : BitVec 32 := Scalar.addi v64 v65
  let c1_i32_33 : BitVec 32 := 1#32
  let v34 : BitVec 32 := Dev.word d28
  let c1_i32 : BitVec 32 := 1#32
  let v35 : BitVec 32 := Scalar.divsi v34 c1_i32
  let c2_i32_16 : BitVec 32 := 2#32
  let v36 : BitVec 32 := Scalar.remsi v35 c2_i32_16
  let v63 : BitVec 32 := Scalar.subi c1_i32_33 v36
  let v67 : BitVec 32 := Scalar.addi v66 v63
  let c0_i32_98 : BitVec 32 := 0#32
  let c0_i32_99 : BitVec 32 := 0#32
  ![v67.toNat, 0, 0]
def k0_dev5 (d28 : Dev nD) : Nat :=
  let c0_i32_93 : BitVec 32 := 0#32
  let c1_i32_32 : BitVec 32 := 1#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v62 : BitVec 32 := Scalar.subi c1_i32_32 v30
  let c4_i32_92 : BitVec 32 := 4#32
  let v143 : BitVec 32 := Scalar.muli v62 c4_i32_92
  let v144 : BitVec 32 := Scalar.addi c0_i32_93 v143
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let c2_i32_94 : BitVec 32 := 2#32
  let v145 : BitVec 32 := Scalar.muli v33 c2_i32_94
  let v146 : BitVec 32 := Scalar.addi v144 v145
  let c1_i32_33 : BitVec 32 := 1#32
  let v34 : BitVec 32 := Dev.word d28
  let c1_i32 : BitVec 32 := 1#32
  let v35 : BitVec 32 := Scalar.divsi v34 c1_i32
  let c2_i32_16 : BitVec 32 := 2#32
  let v36 : BitVec 32 := Scalar.remsi v35 c2_i32_16
  let v63 : BitVec 32 := Scalar.subi c1_i32_33 v36
  let c1_i32_95 : BitVec 32 := 1#32
  let v147 : BitVec 32 := Scalar.muli v63 c1_i32_95
  let v148 : BitVec 32 := Scalar.addi v146 v147
  v148.toNat
def k0_off7 (d28 : Dev nD) : Fin 3 → Nat :=
  let c4_i32_38 : BitVec 32 := 4#32
  let c1_i32_36 : BitVec 32 := 1#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v68 : BitVec 32 := Scalar.subi c1_i32_36 v30
  let v70 : BitVec 32 := Scalar.muli c4_i32_38 v68
  let c2_i32_39 : BitVec 32 := 2#32
  let c1_i32_37 : BitVec 32 := 1#32
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let v69 : BitVec 32 := Scalar.subi c1_i32_37 v33
  let v71 : BitVec 32 := Scalar.muli c2_i32_39 v69
  let v72 : BitVec 32 := Scalar.addi v70 v71
  let v34 : BitVec 32 := Dev.word d28
  let c1_i32 : BitVec 32 := 1#32
  let v35 : BitVec 32 := Scalar.divsi v34 c1_i32
  let c2_i32_16 : BitVec 32 := 2#32
  let v36 : BitVec 32 := Scalar.remsi v35 c2_i32_16
  let v73 : BitVec 32 := Scalar.addi v72 v36
  let c0_i32_107 : BitVec 32 := 0#32
  let c0_i32_108 : BitVec 32 := 0#32
  ![v73.toNat, 0, 0]
def k0_dev6 (d28 : Dev nD) : Nat :=
  let c0_i32_102 : BitVec 32 := 0#32
  let c1_i32_36 : BitVec 32 := 1#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v68 : BitVec 32 := Scalar.subi c1_i32_36 v30
  let c4_i32_101 : BitVec 32 := 4#32
  let v157 : BitVec 32 := Scalar.muli v68 c4_i32_101
  let v158 : BitVec 32 := Scalar.addi c0_i32_102 v157
  let c1_i32_37 : BitVec 32 := 1#32
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let v69 : BitVec 32 := Scalar.subi c1_i32_37 v33
  let c2_i32_103 : BitVec 32 := 2#32
  let v159 : BitVec 32 := Scalar.muli v69 c2_i32_103
  let v160 : BitVec 32 := Scalar.addi v158 v159
  let v34 : BitVec 32 := Dev.word d28
  let c1_i32 : BitVec 32 := 1#32
  let v35 : BitVec 32 := Scalar.divsi v34 c1_i32
  let c2_i32_16 : BitVec 32 := 2#32
  let v36 : BitVec 32 := Scalar.remsi v35 c2_i32_16
  let c1_i32_104 : BitVec 32 := 1#32
  let v161 : BitVec 32 := Scalar.muli v36 c1_i32_104
  let v162 : BitVec 32 := Scalar.addi v160 v161
  v162.toNat
def k0_off8 (d28 : Dev nD) : Fin 3 → Nat :=
  let c4_i32_43 : BitVec 32 := 4#32
  let c1_i32_40 : BitVec 32 := 1#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v74 : BitVec 32 := Scalar.subi c1_i32_40 v30
  let v77 : BitVec 32 := Scalar.muli c4_i32_43 v74
  let c2_i32_44 : BitVec 32 := 2#32
  let c1_i32_41 : BitVec 32 := 1#32
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let v75 : BitVec 32 := Scalar.subi c1_i32_41 v33
  let v78 : BitVec 32 := Scalar.muli c2_i32_44 v75
  let v79 : BitVec 32 := Scalar.addi v77 v78
  let c1_i32_42 : BitVec 32 := 1#32
  let v34 : BitVec 32 := Dev.word d28
  let c1_i32 : BitVec 32 := 1#32
  let v35 : BitVec 32 := Scalar.divsi v34 c1_i32
  let c2_i32_16 : BitVec 32 := 2#32
  let v36 : BitVec 32 := Scalar.remsi v35 c2_i32_16
  let v76 : BitVec 32 := Scalar.subi c1_i32_42 v36
  let v80 : BitVec 32 := Scalar.addi v79 v76
  let c0_i32_116 : BitVec 32 := 0#32
  let c0_i32_117 : BitVec 32 := 0#32
  ![v80.toNat, 0, 0]
def k0_dev7 (d28 : Dev nD) : Nat :=
  let c0_i32_111 : BitVec 32 := 0#32
  let c1_i32_40 : BitVec 32 := 1#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v74 : BitVec 32 := Scalar.subi c1_i32_40 v30
  let c4_i32_110 : BitVec 32 := 4#32
  let v171 : BitVec 32 := Scalar.muli v74 c4_i32_110
  let v172 : BitVec 32 := Scalar.addi c0_i32_111 v171
  let c1_i32_41 : BitVec 32 := 1#32
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let v75 : BitVec 32 := Scalar.subi c1_i32_41 v33
  let c2_i32_112 : BitVec 32 := 2#32
  let v173 : BitVec 32 := Scalar.muli v75 c2_i32_112
  let v174 : BitVec 32 := Scalar.addi v172 v173
  let c1_i32_42 : BitVec 32 := 1#32
  let v34 : BitVec 32 := Dev.word d28
  let c1_i32 : BitVec 32 := 1#32
  let v35 : BitVec 32 := Scalar.divsi v34 c1_i32
  let c2_i32_16 : BitVec 32 := 2#32
  let v36 : BitVec 32 := Scalar.remsi v35 c2_i32_16
  let v76 : BitVec 32 := Scalar.subi c1_i32_42 v36
  let c1_i32_113 : BitVec 32 := 1#32
  let v175 : BitVec 32 := Scalar.muli v76 c1_i32_113
  let v176 : BitVec 32 := Scalar.addi v174 v175
  v176.toNat
def k0_cond5 (i : grid0.Coords) : BitVec 1 :=
  let arg0 : BitVec 32 := BitVec.ofNat 32 (i 0).val
  let c12_i32 : BitVec 32 := 12#32
  let v21 : BitVec 1 := Scalar.cmpi .eq arg0 c12_i32
  let arg1 : BitVec 32 := BitVec.ofNat 32 (i 1).val
  let c0_i32_11 : BitVec 32 := 0#32
  let v22 : BitVec 1 := Scalar.cmpi .eq arg1 c0_i32_11
  let v23 : BitVec 1 := Scalar.andi v21 v22
  let arg2 : BitVec 32 := BitVec.ofNat 32 (i 2).val
  let c3_i32_12 : BitVec 32 := 3#32
  let v24 : BitVec 1 := Scalar.cmpi .eq arg2 c3_i32_12
  let v25 : BitVec 1 := Scalar.andi v23 v24
  let v26 : BitVec 32 := Scalar.extui v25
  let c0_i32_13 : BitVec 32 := 0#32
  let v27 : BitVec 1 := Scalar.cmpi .ne v26 c0_i32_13
  v27

def k0_off9 (d28 : Dev nD) : Fin 3 → Nat :=
  let c4_i32_20 : BitVec 32 := 4#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v42 : BitVec 32 := Scalar.muli c4_i32_20 v30
  let c2_i32_21 : BitVec 32 := 2#32
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let v43 : BitVec 32 := Scalar.muli c2_i32_21 v33
  let v44 : BitVec 32 := Scalar.addi v42 v43
  let c1_i32_19 : BitVec 32 := 1#32
  let v34 : BitVec 32 := Dev.word d28
  let c1_i32 : BitVec 32 := 1#32
  let v35 : BitVec 32 := Scalar.divsi v34 c1_i32
  let c2_i32_16 : BitVec 32 := 2#32
  let v36 : BitVec 32 := Scalar.remsi v35 c2_i32_16
  let v41 : BitVec 32 := Scalar.subi c1_i32_19 v36
  let v45 : BitVec 32 := Scalar.addi v44 v41
  let c0_i32_51 : BitVec 32 := 0#32
  let c0_i32_52 : BitVec 32 := 0#32
  ![v45.toNat, 0, 0]
def k0_off10 (d28 : Dev nD) : Fin 3 → Nat :=
  let c4_i32_23 : BitVec 32 := 4#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v47 : BitVec 32 := Scalar.muli c4_i32_23 v30
  let c2_i32_24 : BitVec 32 := 2#32
  let c1_i32_22 : BitVec 32 := 1#32
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let v46 : BitVec 32 := Scalar.subi c1_i32_22 v33
  let v48 : BitVec 32 := Scalar.muli c2_i32_24 v46
  let v49 : BitVec 32 := Scalar.addi v47 v48
  let v34 : BitVec 32 := Dev.word d28
  let c1_i32 : BitVec 32 := 1#32
  let v35 : BitVec 32 := Scalar.divsi v34 c1_i32
  let c2_i32_16 : BitVec 32 := 2#32
  let v36 : BitVec 32 := Scalar.remsi v35 c2_i32_16
  let v50 : BitVec 32 := Scalar.addi v49 v36
  let c0_i32_61 : BitVec 32 := 0#32
  let c0_i32_62 : BitVec 32 := 0#32
  ![v50.toNat, 0, 0]
def k0_off11 (d28 : Dev nD) : Fin 3 → Nat :=
  let c4_i32_27 : BitVec 32 := 4#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v53 : BitVec 32 := Scalar.muli c4_i32_27 v30
  let c2_i32_28 : BitVec 32 := 2#32
  let c1_i32_25 : BitVec 32 := 1#32
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let v51 : BitVec 32 := Scalar.subi c1_i32_25 v33
  let v54 : BitVec 32 := Scalar.muli c2_i32_28 v51
  let v55 : BitVec 32 := Scalar.addi v53 v54
  let c1_i32_26 : BitVec 32 := 1#32
  let v34 : BitVec 32 := Dev.word d28
  let c1_i32 : BitVec 32 := 1#32
  let v35 : BitVec 32 := Scalar.divsi v34 c1_i32
  let c2_i32_16 : BitVec 32 := 2#32
  let v36 : BitVec 32 := Scalar.remsi v35 c2_i32_16
  let v52 : BitVec 32 := Scalar.subi c1_i32_26 v36
  let v56 : BitVec 32 := Scalar.addi v55 v52
  let c0_i32_71 : BitVec 32 := 0#32
  let c0_i32_72 : BitVec 32 := 0#32
  ![v56.toNat, 0, 0]
def k0_off12 (d28 : Dev nD) : Fin 3 → Nat :=
  let c4_i32_30 : BitVec 32 := 4#32
  let c1_i32_29 : BitVec 32 := 1#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v57 : BitVec 32 := Scalar.subi c1_i32_29 v30
  let v58 : BitVec 32 := Scalar.muli c4_i32_30 v57
  let c2_i32_31 : BitVec 32 := 2#32
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let v59 : BitVec 32 := Scalar.muli c2_i32_31 v33
  let v60 : BitVec 32 := Scalar.addi v58 v59
  let v34 : BitVec 32 := Dev.word d28
  let c1_i32 : BitVec 32 := 1#32
  let v35 : BitVec 32 := Scalar.divsi v34 c1_i32
  let c2_i32_16 : BitVec 32 := 2#32
  let v36 : BitVec 32 := Scalar.remsi v35 c2_i32_16
  let v61 : BitVec 32 := Scalar.addi v60 v36
  let c0_i32_81 : BitVec 32 := 0#32
  let c0_i32_82 : BitVec 32 := 0#32
  ![v61.toNat, 0, 0]
def k0_off13 (d28 : Dev nD) : Fin 3 → Nat :=
  let c4_i32_34 : BitVec 32 := 4#32
  let c1_i32_32 : BitVec 32 := 1#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v62 : BitVec 32 := Scalar.subi c1_i32_32 v30
  let v64 : BitVec 32 := Scalar.muli c4_i32_34 v62
  let c2_i32_35 : BitVec 32 := 2#32
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let v65 : BitVec 32 := Scalar.muli c2_i32_35 v33
  let v66 : BitVec 32 := Scalar.addi v64 v65
  let c1_i32_33 : BitVec 32 := 1#32
  let v34 : BitVec 32 := Dev.word d28
  let c1_i32 : BitVec 32 := 1#32
  let v35 : BitVec 32 := Scalar.divsi v34 c1_i32
  let c2_i32_16 : BitVec 32 := 2#32
  let v36 : BitVec 32 := Scalar.remsi v35 c2_i32_16
  let v63 : BitVec 32 := Scalar.subi c1_i32_33 v36
  let v67 : BitVec 32 := Scalar.addi v66 v63
  let c0_i32_91 : BitVec 32 := 0#32
  let c0_i32_92 : BitVec 32 := 0#32
  ![v67.toNat, 0, 0]
def k0_off14 (d28 : Dev nD) : Fin 3 → Nat :=
  let c4_i32_38 : BitVec 32 := 4#32
  let c1_i32_36 : BitVec 32 := 1#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v68 : BitVec 32 := Scalar.subi c1_i32_36 v30
  let v70 : BitVec 32 := Scalar.muli c4_i32_38 v68
  let c2_i32_39 : BitVec 32 := 2#32
  let c1_i32_37 : BitVec 32 := 1#32
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let v69 : BitVec 32 := Scalar.subi c1_i32_37 v33
  let v71 : BitVec 32 := Scalar.muli c2_i32_39 v69
  let v72 : BitVec 32 := Scalar.addi v70 v71
  let v34 : BitVec 32 := Dev.word d28
  let c1_i32 : BitVec 32 := 1#32
  let v35 : BitVec 32 := Scalar.divsi v34 c1_i32
  let c2_i32_16 : BitVec 32 := 2#32
  let v36 : BitVec 32 := Scalar.remsi v35 c2_i32_16
  let v73 : BitVec 32 := Scalar.addi v72 v36
  let c0_i32_100 : BitVec 32 := 0#32
  let c0_i32_101 : BitVec 32 := 0#32
  ![v73.toNat, 0, 0]
def k0_off15 (d28 : Dev nD) : Fin 3 → Nat :=
  let c4_i32_43 : BitVec 32 := 4#32
  let c1_i32_40 : BitVec 32 := 1#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v74 : BitVec 32 := Scalar.subi c1_i32_40 v30
  let v77 : BitVec 32 := Scalar.muli c4_i32_43 v74
  let c2_i32_44 : BitVec 32 := 2#32
  let c1_i32_41 : BitVec 32 := 1#32
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let v75 : BitVec 32 := Scalar.subi c1_i32_41 v33
  let v78 : BitVec 32 := Scalar.muli c2_i32_44 v75
  let v79 : BitVec 32 := Scalar.addi v77 v78
  let c1_i32_42 : BitVec 32 := 1#32
  let v34 : BitVec 32 := Dev.word d28
  let c1_i32 : BitVec 32 := 1#32
  let v35 : BitVec 32 := Scalar.divsi v34 c1_i32
  let c2_i32_16 : BitVec 32 := 2#32
  let v36 : BitVec 32 := Scalar.remsi v35 c2_i32_16
  let v76 : BitVec 32 := Scalar.subi c1_i32_42 v36
  let v80 : BitVec 32 := Scalar.addi v79 v76
  let c0_i32_109 : BitVec 32 := 0#32
  let c0_i32_110 : BitVec 32 := 0#32
  ![v80.toNat, 0, 0]
def k0_off16 (d28 : Dev nD) : Fin 3 → Nat :=
  let c4_i32_17 : BitVec 32 := 4#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v37 : BitVec 32 := Scalar.muli c4_i32_17 v30
  let c2_i32_18 : BitVec 32 := 2#32
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let v38 : BitVec 32 := Scalar.muli c2_i32_18 v33
  let v39 : BitVec 32 := Scalar.addi v37 v38
  let v34 : BitVec 32 := Dev.word d28
  let c1_i32 : BitVec 32 := 1#32
  let v35 : BitVec 32 := Scalar.divsi v34 c1_i32
  let c2_i32_16 : BitVec 32 := 2#32
  let v36 : BitVec 32 := Scalar.remsi v35 c2_i32_16
  let v40 : BitVec 32 := Scalar.addi v39 v36
  let c0_i32_118 : BitVec 32 := 0#32
  let c0_i32_119 : BitVec 32 := 0#32
  ![v40.toNat, 0, 0]
def k0_cond4 (i : grid0.Coords) : BitVec 1 :=
  let arg2 : BitVec 32 := BitVec.ofNat 32 (i 2).val
  let c3_i32 : BitVec 32 := 3#32
  let v18 : BitVec 1 := Scalar.cmpi .eq arg2 c3_i32
  let v19 : BitVec 32 := Scalar.extui v18
  let c0_i32_10 : BitVec 32 := 0#32
  let v20 : BitVec 1 := Scalar.cmpi .ne v19 c0_i32_10
  v20

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1280x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1280x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RowReferenceIdeal.lean ====
abbrev S133120x8192 : Shape := ⟨2, ![133120, 8192]⟩
abbrev S1024x8192 : Shape := ⟨2, ![1024, 8192]⟩
abbrev S64x1024x964 : Shape := ⟨3, ![64, 1024, 964]⟩
abbrev S133120x1024 : Shape := ⟨2, ![133120, 1024]⟩
abbrev S8x8x1024x964 : Shape := ⟨4, ![8, 8, 1024, 964]⟩

abbrev nBuf : Space → Nat
  | .hbm => 7
  | .vmem => 0
  | .smem => 0
  | _ => 0

abbrev bufTy : (tb : Table) → Fin (tcTables nBuf tb) → BufTy
  | .hbm, ⟨0, _⟩ => ⟨S133120x8192, .bf16⟩
  | .hbm, ⟨1, _⟩ => ⟨S1024x8192, .bf16⟩
  | .hbm, ⟨2, _⟩ => ⟨S64x1024x964, .bf16⟩
  | .hbm, ⟨3, _⟩ => ⟨S133120x1024, .f32⟩
  | .hbm, ⟨4, _⟩ => ⟨S8x8x1024x964, .bf16⟩
  | .hbm, ⟨5, _⟩ => ⟨S8x8x1024x964, .bf16⟩
  | .hbm, ⟨6, _⟩ => ⟨S64x1024x964, .bf16⟩
  | _, _ => ⟨S133120x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== StepIn.lean ====
abbrev S8x1024x964 : Shape := ⟨3, ![8, 1024, 964]⟩
abbrev S1024x964 : Shape := ⟨2, ![1024, 964]⟩
abbrev S8x128x964 : Shape := ⟨3, ![8, 128, 964]⟩
abbrev S128x964 : Shape := ⟨2, ![128, 964]⟩
abbrev S1x128x964 : Shape := ⟨3, ![1, 128, 964]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x964, .bf16⟩
  | .hbm, ⟨1, _⟩ => ⟨S1024x964, .f32⟩
  | .hbm, ⟨2, _⟩ => ⟨S1024x964, .f32⟩
  | .hbm, ⟨3, _⟩ => ⟨S1024x964, .f32⟩
  | .hbm, ⟨4, _⟩ => ⟨S1024x964, .f32⟩
  | .hbm, ⟨5, _⟩ => ⟨S1024x964, .f32⟩
  | .hbm, ⟨6, _⟩ => ⟨S1024x964, .f32⟩
  | .hbm, ⟨7, _⟩ => ⟨S1024x964, .f32⟩
  | .local _ .vmem, ⟨0, _⟩ => ⟨S8x128x964, .bf16⟩
  | .local _ .vmem, ⟨1, _⟩ => ⟨S8x128x964, .bf16⟩
  | .local _ .vmem, ⟨2, _⟩ => ⟨S128x964, .f32⟩
  | .local _ .vmem, ⟨3, _⟩ => ⟨S128x964, .f32⟩
  | .local _ .vmem, ⟨4, _⟩ => ⟨S128x964, .f32⟩
  | .local _ .vmem, ⟨5, _⟩ => ⟨S128x964, .f32⟩
  | .local _ .vmem, ⟨6, _⟩ => ⟨S128x964, .f32⟩
  | .local _ .vmem, ⟨7, _⟩ => ⟨S128x964, .f32⟩
  | .local _ .vmem, ⟨8, _⟩ => ⟨S128x964, .f32⟩
  | .local _ .vmem, ⟨9, _⟩ => ⟨S128x964, .f32⟩
  | .local _ .vmem, ⟨10, _⟩ => ⟨S128x964, .f32⟩
  | .local _ .vmem, ⟨11, _⟩ => ⟨S128x964, .f32⟩
  | .local _ .vmem, ⟨12, _⟩ => ⟨S128x964, .f32⟩
  | .local _ .vmem, ⟨13, _⟩ => ⟨S128x964, .f32⟩
  | .local _ .vmem, ⟨14, _⟩ => ⟨S128x964, .f32⟩
  | .local _ .vmem, ⟨15, _⟩ => ⟨S128x964, .f32⟩
  | _, _ => ⟨S8x1024x964, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x964 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x964 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x964 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x964 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x964 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x964 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x964 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x964 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== StepInIdeal.lean ====
abbrev S8x1024x964 : Shape := ⟨3, ![8, 1024, 964]⟩
abbrev S1024x964 : Shape := ⟨2, ![1024, 964]⟩
abbrev S8x128x964 : Shape := ⟨3, ![8, 128, 964]⟩
abbrev S128x964 : Shape := ⟨2, ![128, 964]⟩
abbrev S1x128x964 : Shape := ⟨3, ![1, 128, 964]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x964, .bf16⟩
  | .hbm, ⟨1, _⟩ => ⟨S1024x964, .f32⟩
  | .hbm, ⟨2, _⟩ => ⟨S1024x964, .f32⟩
  | .hbm, ⟨3, _⟩ => ⟨S1024x964, .f32⟩
  | .hbm, ⟨4, _⟩ => ⟨S1024x964, .f32⟩
  | .hbm, ⟨5, _⟩ => ⟨S1024x964, .f32⟩
  | .hbm, ⟨6, _⟩ => ⟨S1024x964, .f32⟩
  | .hbm, ⟨7, _⟩ => ⟨S1024x964, .f32⟩
  | .local _ .vmem, ⟨0, _⟩ => ⟨S8x128x964, .bf16⟩
  | .local _ .vmem, ⟨1, _⟩ => ⟨S8x128x964, .bf16⟩
  | .local _ .vmem, ⟨2, _⟩ => ⟨S128x964, .f32⟩
  | .local _ .vmem, ⟨3, _⟩ => ⟨S128x964, .f32⟩
  | .local _ .vmem, ⟨4, _⟩ => ⟨S128x964, .f32⟩
  | .local _ .vmem, ⟨5, _⟩ => ⟨S128x964, .f32⟩
  | .local _ .vmem, ⟨6, _⟩ => ⟨S128x964, .f32⟩
  | .local _ .vmem, ⟨7, _⟩ => ⟨S128x964, .f32⟩
  | .local _ .vmem, ⟨8, _⟩ => ⟨S128x964, .f32⟩
  | .local _ .vmem, ⟨9, _⟩ => ⟨S128x964, .f32⟩
  | .local _ .vmem, ⟨10, _⟩ => ⟨S128x964, .f32⟩
  | .local _ .vmem, ⟨11, _⟩ => ⟨S128x964, .f32⟩
  | .local _ .vmem, ⟨12, _⟩ => ⟨S128x964, .f32⟩
  | .local _ .vmem, ⟨13, _⟩ => ⟨S128x964, .f32⟩
  | .local _ .vmem, ⟨14, _⟩ => ⟨S128x964, .f32⟩
  | .local _ .vmem, ⟨15, _⟩ => ⟨S128x964, .f32⟩
  | _, _ => ⟨S8x1024x964, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x964 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x964 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x964 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x964 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x964 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x964 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x964 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x964 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== StepInReferenceIdeal.lean ====
abbrev S8x1024x964 : Shape := ⟨3, ![8, 1024, 964]⟩
abbrev S1024x964 : Shape := ⟨2, ![1024, 964]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x964, .bf16⟩
  | .hbm, ⟨1, _⟩ => ⟨S1024x964, .f32⟩
  | .hbm, ⟨2, _⟩ => ⟨S1024x964, .f32⟩
  | .hbm, ⟨3, _⟩ => ⟨S1024x964, .f32⟩
  | .hbm, ⟨4, _⟩ => ⟨S8x1024x964, .f32⟩
  | .hbm, ⟨5, _⟩ => ⟨S_, .f32⟩
  | .hbm, ⟨6, _⟩ => ⟨S1024x964, .f32⟩
  | .hbm, ⟨7, _⟩ => ⟨S_, .f32⟩
  | .hbm, ⟨8, _⟩ => ⟨S1024x964, .f32⟩
  | .hbm, ⟨9, _⟩ => ⟨S1024x964, .f32⟩
  | .hbm, ⟨10, _⟩ => ⟨S_, .f32⟩
  | .hbm, ⟨11, _⟩ => ⟨S1024x964, .f32⟩
  | .hbm, ⟨12, _⟩ => ⟨S1024x964, .f32⟩
  | .hbm, ⟨13, _⟩ => ⟨S1024x964, .f32⟩
  | .hbm, ⟨14, _⟩ => ⟨S_, .f32⟩
  | .hbm, ⟨15, _⟩ => ⟨S1024x964, .f32⟩
  | .hbm, ⟨16, _⟩ => ⟨S1024x964, .f32⟩
  | .hbm, ⟨17, _⟩ => ⟨S1024x964, .f32⟩
  | .hbm, ⟨18, _⟩ => ⟨S_, .f32⟩
  | .hbm, ⟨19, _⟩ => ⟨S1024x964, .f32⟩
  | .hbm, ⟨20, _⟩ => ⟨S1024x964, .f32⟩
  | .hbm, ⟨21, _⟩ => ⟨S1024x964, .f32⟩
  | .hbm, ⟨22, _⟩ => ⟨S_, .f32⟩
  | .hbm, ⟨23, _⟩ => ⟨S1024x964, .f32⟩
  | .hbm, ⟨24, _⟩ => ⟨S1024x964, .f32⟩
  | .hbm, ⟨25, _⟩ => ⟨S_, .f32⟩
  | .hbm, ⟨26, _⟩ => ⟨S1024x964, .f32⟩
  | .hbm, ⟨27, _⟩ => ⟨S1024x964, .f32⟩
  | .hbm, ⟨28, _⟩ => ⟨S1024x964, .f32⟩
  | .hbm, ⟨29, _⟩ => ⟨S_, .f32⟩
  | .hbm, ⟨30, _⟩ => ⟨S1024x964, .f32⟩
  | .hbm, ⟨31, _⟩ => ⟨S1024x964, .f32⟩
  | .hbm, ⟨32, _⟩ => ⟨S1024x964, .f32⟩
  | .hbm, ⟨33, _⟩ => ⟨S_, .f32⟩
  | .hbm, ⟨34, _⟩ => ⟨S1024x964, .f32⟩
  | .hbm, ⟨35, _⟩ => ⟨S1024x964, .f32⟩
  | .hbm, ⟨36, _⟩ => ⟨S1024x964, .f32⟩
  | .hbm, ⟨37, _⟩ => ⟨S_, .f32⟩
  | .hbm, ⟨38, _⟩ => ⟨S1024x964, .f32⟩
  | .hbm, ⟨39, _⟩ => ⟨S1024x964, .f32⟩
  | _, _ => ⟨S8x1024x964, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== StepOut.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S8x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== StepOutIdeal.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S8x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== StepOutReferenceIdeal.lean ====
abbrev S8x128x1024 : Shape := ⟨3, ![8, 128, 1024]⟩
abbrev S128x1024 : Shape := ⟨2, ![128, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== StepUp.lean ====
abbrev S8x1024x704 : Shape := ⟨3, ![8, 1024, 704]⟩
abbrev S1024x704 : Shape := ⟨2, ![1024, 704]⟩
abbrev S8x128x704 : Shape := ⟨3, ![8, 128, 704]⟩
abbrev S128x704 : Shape := ⟨2, ![128, 704]⟩
abbrev S1x128x704 : Shape := ⟨3, ![1, 128, 704]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x704, .bf16⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S1024x704, .f32⟩
  | .hbm, ⟨5, _⟩ => ⟨S1024x704, .f32⟩
  | .hbm, ⟨6, _⟩ => ⟨S1024x704, .f32⟩
  | .hbm, ⟨7, _⟩ => ⟨S1024x704, .f32⟩
  | .local _ .vmem, ⟨0, _⟩ => ⟨S8x128x704, .bf16⟩
  | .local _ .vmem, ⟨1, _⟩ => ⟨S8x128x704, .bf16⟩
  | .local _ .vmem, ⟨2, _⟩ => ⟨S128x704, .f32⟩
  | .local _ .vmem, ⟨3, _⟩ => ⟨S128x704, .f32⟩
  | .local _ .vmem, ⟨4, _⟩ => ⟨S128x704, .f32⟩
  | .local _ .vmem, ⟨5, _⟩ => ⟨S128x704, .f32⟩
  | .local _ .vmem, ⟨6, _⟩ => ⟨S128x704, .f32⟩
  | .local _ .vmem, ⟨7, _⟩ => ⟨S128x704, .f32⟩
  | .local _ .vmem, ⟨8, _⟩ => ⟨S128x704, .f32⟩
  | .local _ .vmem, ⟨9, _⟩ => ⟨S128x704, .f32⟩
  | .local _ .vmem, ⟨10, _⟩ => ⟨S128x704, .f32⟩
  | .local _ .vmem, ⟨11, _⟩ => ⟨S128x704, .f32⟩
  | .local _ .vmem, ⟨12, _⟩ => ⟨S128x704, .f32⟩
  | .local _ .vmem, ⟨13, _⟩ => ⟨S128x704, .f32⟩
  | .local _ .vmem, ⟨14, _⟩ => ⟨S128x704, .f32⟩
  | .local _ .vmem, ⟨15, _⟩ => ⟨S128x704, .f32⟩
  | _, _ => ⟨S8x1024x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== StepUpIdeal.lean ====
abbrev S8x1024x704 : Shape := ⟨3, ![8, 1024, 704]⟩
abbrev S1024x704 : Shape := ⟨2, ![1024, 704]⟩
abbrev S8x128x704 : Shape := ⟨3, ![8, 128, 704]⟩
abbrev S128x704 : Shape := ⟨2, ![128, 704]⟩
abbrev S1x128x704 : Shape := ⟨3, ![1, 128, 704]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x704, .bf16⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S1024x704, .f32⟩
  | .hbm, ⟨5, _⟩ => ⟨S1024x704, .f32⟩
  | .hbm, ⟨6, _⟩ => ⟨S1024x704, .f32⟩
  | .hbm, ⟨7, _⟩ => ⟨S1024x704, .f32⟩
  | .local _ .vmem, ⟨0, _⟩ => ⟨S8x128x704, .bf16⟩
  | .local _ .vmem, ⟨1, _⟩ => ⟨S8x128x704, .bf16⟩
  | .local _ .vmem, ⟨2, _⟩ => ⟨S128x704, .f32⟩
  | .local _ .vmem, ⟨3, _⟩ => ⟨S128x704, .f32⟩
  | .local _ .vmem, ⟨4, _⟩ => ⟨S128x704, .f32⟩
  | .local _ .vmem, ⟨5, _⟩ => ⟨S128x704, .f32⟩
  | .local _ .vmem, ⟨6, _⟩ => ⟨S128x704, .f32⟩
  | .local _ .vmem, ⟨7, _⟩ => ⟨S128x704, .f32⟩
  | .local _ .vmem, ⟨8, _⟩ => ⟨S128x704, .f32⟩
  | .local _ .vmem, ⟨9, _⟩ => ⟨S128x704, .f32⟩
  | .local _ .vmem, ⟨10, _⟩ => ⟨S128x704, .f32⟩
  | .local _ .vmem, ⟨11, _⟩ => ⟨S128x704, .f32⟩
  | .local _ .vmem, ⟨12, _⟩ => ⟨S128x704, .f32⟩
  | .local _ .vmem, ⟨13, _⟩ => ⟨S128x704, .f32⟩
  | .local _ .vmem, ⟨14, _⟩ => ⟨S128x704, .f32⟩
  | .local _ .vmem, ⟨15, _⟩ => ⟨S128x704, .f32⟩
  | _, _ => ⟨S8x1024x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== StepUpReferenceIdeal.lean ====
abbrev S8x1024x704 : Shape := ⟨3, ![8, 1024, 704]⟩
abbrev S1024x704 : Shape := ⟨2, ![1024, 704]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x704, .bf16⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S8x1024x704, .f32⟩
  | .hbm, ⟨5, _⟩ => ⟨S_, .f32⟩
  | .hbm, ⟨6, _⟩ => ⟨S1024x704, .f32⟩
  | .hbm, ⟨7, _⟩ => ⟨S_, .f32⟩
  | .hbm, ⟨8, _⟩ => ⟨S1024x704, .f32⟩
  | .hbm, ⟨9, _⟩ => ⟨S1024x704, .f32⟩
  | .hbm, ⟨10, _⟩ => ⟨S_, .f32⟩
  | .hbm, ⟨11, _⟩ => ⟨S1024x704, .f32⟩
  | .hbm, ⟨12, _⟩ => ⟨S1024x704, .f32⟩
  | .hbm, ⟨13, _⟩ => ⟨S1024x704, .f32⟩
  | .hbm, ⟨14, _⟩ => ⟨S_, .f32⟩
  | .hbm, ⟨15, _⟩ => ⟨S1024x704, .f32⟩
  | .hbm, ⟨16, _⟩ => ⟨S1024x704, .f32⟩
  | .hbm, ⟨17, _⟩ => ⟨S1024x704, .f32⟩
  | .hbm, ⟨18, _⟩ => ⟨S_, .f32⟩
  | .hbm, ⟨19, _⟩ => ⟨S1024x704, .f32⟩
  | .hbm, ⟨20, _⟩ => ⟨S1024x704, .f32⟩
  | .hbm, ⟨21, _⟩ => ⟨S1024x704, .f32⟩
  | .hbm, ⟨22, _⟩ => ⟨S_, .f32⟩
  | .hbm, ⟨23, _⟩ => ⟨S1024x704, .f32⟩
  | .hbm, ⟨24, _⟩ => ⟨S1024x704, .f32⟩
  | .hbm, ⟨25, _⟩ => ⟨S_, .f32⟩
  | .hbm, ⟨26, _⟩ => ⟨S1024x704, .f32⟩
  | .hbm, ⟨27, _⟩ => ⟨S1024x704, .f32⟩
  | .hbm, ⟨28, _⟩ => ⟨S1024x704, .f32⟩
  | .hbm, ⟨29, _⟩ => ⟨S_, .f32⟩
  | .hbm, ⟨30, _⟩ => ⟨S1024x704, .f32⟩
  | .hbm, ⟨31, _⟩ => ⟨S1024x704, .f32⟩
  | .hbm, ⟨32, _⟩ => ⟨S1024x704, .f32⟩
  | .hbm, ⟨33, _⟩ => ⟨S_, .f32⟩
  | .hbm, ⟨34, _⟩ => ⟨S1024x704, .f32⟩
  | .hbm, ⟨35, _⟩ => ⟨S1024x704, .f32⟩
  | .hbm, ⟨36, _⟩ => ⟨S1024x704, .f32⟩
  | .hbm, ⟨37, _⟩ => ⟨S_, .f32⟩
  | .hbm, ⟨38, _⟩ => ⟨S1024x704, .f32⟩
  | .hbm, ⟨39, _⟩ => ⟨S1024x704, .f32⟩
  | _, _ => ⟨S8x1024x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== StepDown.lean ====
abbrev S8x352x1024 : Shape := ⟨3, ![8, 352, 1024]⟩
abbrev S352x1024 : Shape := ⟨2, ![352, 1024]⟩
abbrev S8x32x1024 : Shape := ⟨3, ![8, 32, 1024]⟩
abbrev S32x1024 : Shape := ⟨2, ![32, 1024]⟩
abbrev S1x32x1024 : Shape := ⟨3, ![1, 32, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .local _ .vmem, ⟨0, _⟩ => ⟨S8x32x1024, .bf16⟩
  | .local _ .vmem, ⟨1, _⟩ => ⟨S8x32x1024, .bf16⟩
  | .local _ .vmem, ⟨2, _⟩ => ⟨S32x1024, .f32⟩
  | .local _ .vmem, ⟨3, _⟩ => ⟨S32x1024, .f32⟩
  | .local _ .vmem, ⟨4, _⟩ => ⟨S32x1024, .f32⟩
  | .local _ .vmem, ⟨5, _⟩ => ⟨S32x1024, .f32⟩
  | .local _ .vmem, ⟨6, _⟩ => ⟨S32x1024, .f32⟩
  | .local _ .vmem, ⟨7, _⟩ => ⟨S32x1024, .f32⟩
  | .local _ .vmem, ⟨8, _⟩ => ⟨S32x1024, .f32⟩
  | .local _ .vmem, ⟨9, _⟩ => ⟨S32x1024, .f32⟩
  | .local _ .vmem, ⟨10, _⟩ => ⟨S32x1024, .f32⟩
  | .local _ .vmem, ⟨11, _⟩ => ⟨S32x1024, .f32⟩
  | .local _ .vmem, ⟨12, _⟩ => ⟨S32x1024, .f32⟩
  | .local _ .vmem, ⟨13, _⟩ => ⟨S32x1024, .f32⟩
  | .local _ .vmem, ⟨14, _⟩ => ⟨S32x1024, .f32⟩
  | .local _ .vmem, ⟨15, _⟩ => ⟨S32x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x32x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== StepDownIdeal.lean ====
abbrev S8x352x1024 : Shape := ⟨3, ![8, 352, 1024]⟩
abbrev S352x1024 : Shape := ⟨2, ![352, 1024]⟩
abbrev S8x32x1024 : Shape := ⟨3, ![8, 32, 1024]⟩
abbrev S32x1024 : Shape := ⟨2, ![32, 1024]⟩
abbrev S1x32x1024 : Shape := ⟨3, ![1, 32, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .local _ .vmem, ⟨0, _⟩ => ⟨S8x32x1024, .bf16⟩
  | .local _ .vmem, ⟨1, _⟩ => ⟨S8x32x1024, .bf16⟩
  | .local _ .vmem, ⟨2, _⟩ => ⟨S32x1024, .f32⟩
  | .local _ .vmem, ⟨3, _⟩ => ⟨S32x1024, .f32⟩
  | .local _ .vmem, ⟨4, _⟩ => ⟨S32x1024, .f32⟩
  | .local _ .vmem, ⟨5, _⟩ => ⟨S32x1024, .f32⟩
  | .local _ .vmem, ⟨6, _⟩ => ⟨S32x1024, .f32⟩
  | .local _ .vmem, ⟨7, _⟩ => ⟨S32x1024, .f32⟩
  | .local _ .vmem, ⟨8, _⟩ => ⟨S32x1024, .f32⟩
  | .local _ .vmem, ⟨9, _⟩ => ⟨S32x1024, .f32⟩
  | .local _ .vmem, ⟨10, _⟩ => ⟨S32x1024, .f32⟩
  | .local _ .vmem, ⟨11, _⟩ => ⟨S32x1024, .f32⟩
  | .local _ .vmem, ⟨12, _⟩ => ⟨S32x1024, .f32⟩
  | .local _ .vmem, ⟨13, _⟩ => ⟨S32x1024, .f32⟩
  | .local _ .vmem, ⟨14, _⟩ => ⟨S32x1024, .f32⟩
  | .local _ .vmem, ⟨15, _⟩ => ⟨S32x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x32x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== StepDownReferenceIdeal.lean ====
abbrev S8x352x1024 : Shape := ⟨3, ![8, 352, 1024]⟩
abbrev S352x1024 : Shape := ⟨2, ![352, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S8x352x1024, .f32⟩
  | .hbm, ⟨5, _⟩ => ⟨S_, .f32⟩
  | .hbm, ⟨6, _⟩ => ⟨S352x1024, .f32⟩
  | .hbm, ⟨7, _⟩ => ⟨S_, .f32⟩
  | .hbm, ⟨8, _⟩ => ⟨S352x1024, .f32⟩
  | .hbm, ⟨9, _⟩ => ⟨S352x1024, .f32⟩
  | .hbm, ⟨10, _⟩ => ⟨S_, .f32⟩
  | .hbm, ⟨11, _⟩ => ⟨S352x1024, .f32⟩
  | .hbm, ⟨12, _⟩ => ⟨S352x1024, .f32⟩
  | .hbm, ⟨13, _⟩ => ⟨S352x1024, .f32⟩
  | .hbm, ⟨14, _⟩ => ⟨S_, .f32⟩
  | .hbm, ⟨15, _⟩ => ⟨S352x1024, .f32⟩
  | .hbm, ⟨16, _⟩ => ⟨S352x1024, .f32⟩
  | .hbm, ⟨17, _⟩ => ⟨S352x1024, .f32⟩
  | .hbm, ⟨18, _⟩ => ⟨S_, .f32⟩
  | .hbm, ⟨19, _⟩ => ⟨S352x1024, .f32⟩
  | .hbm, ⟨20, _⟩ => ⟨S352x1024, .f32⟩
  | .hbm, ⟨21, _⟩ => ⟨S352x1024, .f32⟩
  | .hbm, ⟨22, _⟩ => ⟨S_, .f32⟩
  | .hbm, ⟨23, _⟩ => ⟨S352x1024, .f32⟩
  | .hbm, ⟨24, _⟩ => ⟨S352x1024, .f32⟩
  | .hbm, ⟨25, _⟩ => ⟨S_, .f32⟩
  | .hbm, ⟨26, _⟩ => ⟨S352x1024, .f32⟩
  | .hbm, ⟨27, _⟩ => ⟨S352x1024, .f32⟩
  | .hbm, ⟨28, _⟩ => ⟨S352x1024, .f32⟩
  | .hbm, ⟨29, _⟩ => ⟨S_, .f32⟩
  | .hbm, ⟨30, _⟩ => ⟨S352x1024, .f32⟩
  | .hbm, ⟨31, _⟩ => ⟨S352x1024, .f32⟩
  | .hbm, ⟨32, _⟩ => ⟨S352x1024, .f32⟩
  | .hbm, ⟨33, _⟩ => ⟨S_, .f32⟩
  | .hbm, ⟨34, _⟩ => ⟨S352x1024, .f32⟩
  | .hbm, ⟨35, _⟩ => ⟨S352x1024, .f32⟩
  | .hbm, ⟨36, _⟩ => ⟨S352x1024, .f32⟩
  | .hbm, ⟨37, _⟩ => ⟨S_, .f32⟩
  | .hbm, ⟨38, _⟩ => ⟨S352x1024, .f32⟩
  | .hbm, ⟨39, _⟩ => ⟨S352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== StepAda.lean ====
abbrev S1x1024x768 : Shape := ⟨3, ![1, 1024, 768]⟩
abbrev S1024x768 : Shape := ⟨2, ![1024, 768]⟩
abbrev S1x128x768 : Shape := ⟨3, ![1, 128, 768]⟩
abbrev S128x768 : Shape := ⟨2, ![128, 768]⟩

abbrev nBuf : Space → Nat
  | .hbm => 8
  | .vmem => 16
  | .smem => 0
  | _ => 0

abbrev bufTy : (tb : Table) → Fin (tcTables nBuf tb) → BufTy
  | .hbm, ⟨0, _⟩ => ⟨S1x1024x768, .f32⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S1024x768, .f32⟩
  | .hbm, ⟨5, _⟩ => ⟨S1024x768, .f32⟩
  | .hbm, ⟨6, _⟩ => ⟨S1024x768, .f32⟩
  | .hbm, ⟨7, _⟩ => ⟨S1024x768, .f32⟩
  | .local _ .vmem, ⟨0, _⟩ => ⟨S1x128x768, .f32⟩
  | .local _ .vmem, ⟨1, _⟩ => ⟨S1x128x768, .f32⟩
  | .local _ .vmem, ⟨2, _⟩ => ⟨S128x768, .f32⟩
  | .local _ .vmem, ⟨3, _⟩ => ⟨S128x768, .f32⟩
  | .local _ .vmem, ⟨4, _⟩ => ⟨S128x768, .f32⟩
  | .local _ .vmem, ⟨5, _⟩ => ⟨S128x768, .f32⟩
  | .local _ .vmem, ⟨6, _⟩ => ⟨S128x768, .f32⟩
  | .local _ .vmem, ⟨7, _⟩ => ⟨S128x768, .f32⟩
  | .local _ .vmem, ⟨8, _⟩ => ⟨S128x768, .f32⟩
  | .local _ .vmem, ⟨9, _⟩ => ⟨S128x768, .f32⟩
  | .local _ .vmem, ⟨10, _⟩ => ⟨S128x768, .f32⟩
  | .local _ .vmem, ⟨11, _⟩ => ⟨S128x768, .f32⟩
  | .local _ .vmem, ⟨12, _⟩ => ⟨S128x768, .f32⟩
  | .local _ .vmem, ⟨13, _⟩ => ⟨S128x768, .f32⟩
  | .local _ .vmem, ⟨14, _⟩ => ⟨S128x768, .f32⟩
  | .local _ .vmem, ⟨15, _⟩ => ⟨S128x768, .f32⟩
  | _, _ => ⟨S1x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x128x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== StepAdaIdeal.lean ====
abbrev S1x1024x768 : Shape := ⟨3, ![1, 1024, 768]⟩
abbrev S1024x768 : Shape := ⟨2, ![1024, 768]⟩
abbrev S1x128x768 : Shape := ⟨3, ![1, 128, 768]⟩
abbrev S128x768 : Shape := ⟨2, ![128, 768]⟩

abbrev nBuf : Space → Nat
  | .hbm => 8
  | .vmem => 16
  | .smem => 0
  | _ => 0

abbrev bufTy : (tb : Table) → Fin (tcTables nBuf tb) → BufTy
  | .hbm, ⟨0, _⟩ => ⟨S1x1024x768, .f32⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S1024x768, .f32⟩
  | .hbm, ⟨5, _⟩ => ⟨S1024x768, .f32⟩
  | .hbm, ⟨6, _⟩ => ⟨S1024x768, .f32⟩
  | .hbm, ⟨7, _⟩ => ⟨S1024x768, .f32⟩
  | .local _ .vmem, ⟨0, _⟩ => ⟨S1x128x768, .f32⟩
  | .local _ .vmem, ⟨1, _⟩ => ⟨S1x128x768, .f32⟩
  | .local _ .vmem, ⟨2, _⟩ => ⟨S128x768, .f32⟩
  | .local _ .vmem, ⟨3, _⟩ => ⟨S128x768, .f32⟩
  | .local _ .vmem, ⟨4, _⟩ => ⟨S128x768, .f32⟩
  | .local _ .vmem, ⟨5, _⟩ => ⟨S128x768, .f32⟩
  | .local _ .vmem, ⟨6, _⟩ => ⟨S128x768, .f32⟩
  | .local _ .vmem, ⟨7, _⟩ => ⟨S128x768, .f32⟩
  | .local _ .vmem, ⟨8, _⟩ => ⟨S128x768, .f32⟩
  | .local _ .vmem, ⟨9, _⟩ => ⟨S128x768, .f32⟩
  | .local _ .vmem, ⟨10, _⟩ => ⟨S128x768, .f32⟩
  | .local _ .vmem, ⟨11, _⟩ => ⟨S128x768, .f32⟩
  | .local _ .vmem, ⟨12, _⟩ => ⟨S128x768, .f32⟩
  | .local _ .vmem, ⟨13, _⟩ => ⟨S128x768, .f32⟩
  | .local _ .vmem, ⟨14, _⟩ => ⟨S128x768, .f32⟩
  | .local _ .vmem, ⟨15, _⟩ => ⟨S128x768, .f32⟩
  | _, _ => ⟨S1x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x128x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== StepAdaReferenceIdeal.lean ====
abbrev S1x1024x768 : Shape := ⟨3, ![1, 1024, 768]⟩
abbrev S1024x768 : Shape := ⟨2, ![1024, 768]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x1024x768, .f32⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S_, .f32⟩
  | .hbm, ⟨5, _⟩ => ⟨S1024x768, .f32⟩
  | .hbm, ⟨6, _⟩ => ⟨S_, .f32⟩
  | .hbm, ⟨7, _⟩ => ⟨S1024x768, .f32⟩
  | .hbm, ⟨8, _⟩ => ⟨S1024x768, .f32⟩
  | .hbm, ⟨9, _⟩ => ⟨S_, .f32⟩
  | .hbm, ⟨10, _⟩ => ⟨S1024x768, .f32⟩
  | .hbm, ⟨11, _⟩ => ⟨S1024x768, .f32⟩
  | .hbm, ⟨12, _⟩ => ⟨S1024x768, .f32⟩
  | .hbm, ⟨13, _⟩ => ⟨S_, .f32⟩
  | .hbm, ⟨14, _⟩ => ⟨S1024x768, .f32⟩
  | .hbm, ⟨15, _⟩ => ⟨S1024x768, .f32⟩
  | .hbm, ⟨16, _⟩ => ⟨S1024x768, .f32⟩
  | .hbm, ⟨17, _⟩ => ⟨S_, .f32⟩
  | .hbm, ⟨18, _⟩ => ⟨S1024x768, .f32⟩
  | .hbm, ⟨19, _⟩ => ⟨S1024x768, .f32⟩
  | .hbm, ⟨20, _⟩ => ⟨S1024x768, .f32⟩
  | .hbm, ⟨21, _⟩ => ⟨S_, .f32⟩
  | .hbm, ⟨22, _⟩ => ⟨S1024x768, .f32⟩
  | .hbm, ⟨23, _⟩ => ⟨S1024x768, .f32⟩
  | .hbm, ⟨24, _⟩ => ⟨S_, .f32⟩
  | .hbm, ⟨25, _⟩ => ⟨S1024x768, .f32⟩
  | .hbm, ⟨26, _⟩ => ⟨S1024x768, .f32⟩
  | .hbm, ⟨27, _⟩ => ⟨S1024x768, .f32⟩
  | .hbm, ⟨28, _⟩ => ⟨S_, .f32⟩
  | .hbm, ⟨29, _⟩ => ⟨S1024x768, .f32⟩
  | .hbm, ⟨30, _⟩ => ⟨S1024x768, .f32⟩
  | .hbm, ⟨31, _⟩ => ⟨S1024x768, .f32⟩
  | .hbm, ⟨32, _⟩ => ⟨S_, .f32⟩
  | .hbm, ⟨33, _⟩ => ⟨S1024x768, .f32⟩
  | .hbm, ⟨34, _⟩ => ⟨S1024x768, .f32⟩
  | .hbm, ⟨35, _⟩ => ⟨S1024x768, .f32⟩
  | .hbm, ⟨36, _⟩ => ⟨S_, .f32⟩
  | .hbm, ⟨37, _⟩ => ⟨S1024x768, .f32⟩
  | .hbm, ⟨38, _⟩ => ⟨S1024x768, .f32⟩
  | _, _ => ⟨S1x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== StepSmall.lean ====
abbrev S8x464x128 : Shape := ⟨3, ![8, 464, 128]⟩
abbrev S464x128 : Shape := ⟨2, ![464, 128]⟩
abbrev S8x16x128 : Shape := ⟨3, ![8, 16, 128]⟩
abbrev S16x128 : Shape := ⟨2, ![16, 128]⟩
abbrev S1x16x128 : Shape := ⟨3, ![1, 16, 128]⟩

abbrev nBuf : Space → Nat
  | .hbm => 8
  | .vmem => 16
  | .smem => 0
  | _ => 0

abbrev bufTy : (tb : Table) → Fin (tcTables nBuf tb) → BufTy
  | .hbm, ⟨0, _⟩ => ⟨S8x464x128, .f32⟩
  | .hbm, ⟨1, _⟩ => ⟨S464x128, .f32⟩
  | .hbm, ⟨2, _⟩ => ⟨S464x128, .f32⟩
  | .hbm, ⟨3, _⟩ => ⟨S464x128, .f32⟩
  | .hbm, ⟨4, _⟩ => ⟨S464x128, .f32⟩
  | .hbm, ⟨5, _⟩ => ⟨S464x128, .f32⟩
  | .hbm, ⟨6, _⟩ => ⟨S464x128, .f32⟩
  | .hbm, ⟨7, _⟩ => ⟨S464x128, .f32⟩
  | .local _ .vmem, ⟨0, _⟩ => ⟨S8x16x128, .f32⟩
  | .local _ .vmem, ⟨1, _⟩ => ⟨S8x16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | .local _ .vmem, ⟨7, _⟩ => ⟨S16x128, .f32⟩
  | .local _ .vmem, ⟨8, _⟩ => ⟨S16x128, .f32⟩
  | .local _ .vmem, ⟨9, _⟩ => ⟨S16x128, .f32⟩
  | .local _ .vmem, ⟨10, _⟩ => ⟨S16x128, .f32⟩
  | .local _ .vmem, ⟨11, _⟩ => ⟨S16x128, .f32⟩
  | .local _ .vmem, ⟨12, _⟩ => ⟨S16x128, .f32⟩
  | .local _ .vmem, ⟨13, _⟩ => ⟨S16x128, .f32⟩
  | .local _ .vmem, ⟨14, _⟩ => ⟨S16x128, .f32⟩
  | .local _ .vmem, ⟨15, _⟩ => ⟨S16x128, .f32⟩
  | _, _ => ⟨S8x464x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![29], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== StepSmallIdeal.lean ====
abbrev S8x464x128 : Shape := ⟨3, ![8, 464, 128]⟩
abbrev S464x128 : Shape := ⟨2, ![464, 128]⟩
abbrev S8x16x128 : Shape := ⟨3, ![8, 16, 128]⟩
abbrev S16x128 : Shape := ⟨2, ![16, 128]⟩
abbrev S1x16x128 : Shape := ⟨3, ![1, 16, 128]⟩

abbrev nBuf : Space → Nat
  | .hbm => 8
  | .vmem => 16
  | .smem => 0
  | _ => 0

abbrev bufTy : (tb : Table) → Fin (tcTables nBuf tb) → BufTy
  | .hbm, ⟨0, _⟩ => ⟨S8x464x128, .f32⟩
  | .hbm, ⟨1, _⟩ => ⟨S464x128, .f32⟩
  | .hbm, ⟨2, _⟩ => ⟨S464x128, .f32⟩
  | .hbm, ⟨3, _⟩ => ⟨S464x128, .f32⟩
  | .hbm, ⟨4, _⟩ => ⟨S464x128, .f32⟩
  | .hbm, ⟨5, _⟩ => ⟨S464x128, .f32⟩
  | .hbm, ⟨6, _⟩ => ⟨S464x128, .f32⟩
  | .hbm, ⟨7, _⟩ => ⟨S464x128, .f32⟩
  | .local _ .vmem, ⟨0, _⟩ => ⟨S8x16x128, .f32⟩
  | .local _ .vmem, ⟨1, _⟩ => ⟨S8x16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | .local _ .vmem, ⟨7, _⟩ => ⟨S16x128, .f32⟩
  | .local _ .vmem, ⟨8, _⟩ => ⟨S16x128, .f32⟩
  | .local _ .vmem, ⟨9, _⟩ => ⟨S16x128, .f32⟩
  | .local _ .vmem, ⟨10, _⟩ => ⟨S16x128, .f32⟩
  | .local _ .vmem, ⟨11, _⟩ => ⟨S16x128, .f32⟩
  | .local _ .vmem, ⟨12, _⟩ => ⟨S16x128, .f32⟩
  | .local _ .vmem, ⟨13, _⟩ => ⟨S16x128, .f32⟩
  | .local _ .vmem, ⟨14, _⟩ => ⟨S16x128, .f32⟩
  | .local _ .vmem, ⟨15, _⟩ => ⟨S16x128, .f32⟩
  | _, _ => ⟨S8x464x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![29], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== StepSmallReferenceIdeal.lean ====
abbrev S8x464x128 : Shape := ⟨3, ![8, 464, 128]⟩
abbrev S464x128 : Shape := ⟨2, ![464, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x464x128, .f32⟩
  | .hbm, ⟨1, _⟩ => ⟨S464x128, .f32⟩
  | .hbm, ⟨2, _⟩ => ⟨S464x128, .f32⟩
  | .hbm, ⟨3, _⟩ => ⟨S464x128, .f32⟩
  | .hbm, ⟨4, _⟩ => ⟨S_, .f32⟩
  | .hbm, ⟨5, _⟩ => ⟨S464x128, .f32⟩
  | .hbm, ⟨6, _⟩ => ⟨S_, .f32⟩
  | .hbm, ⟨7, _⟩ => ⟨S464x128, .f32⟩
  | .hbm, ⟨8, _⟩ => ⟨S464x128, .f32⟩
  | .hbm, ⟨9, _⟩ => ⟨S_, .f32⟩
  | .hbm, ⟨10, _⟩ => ⟨S464x128, .f32⟩
  | .hbm, ⟨11, _⟩ => ⟨S464x128, .f32⟩
  | .hbm, ⟨12, _⟩ => ⟨S464x128, .f32⟩
  | .hbm, ⟨13, _⟩ => ⟨S_, .f32⟩
  | .hbm, ⟨14, _⟩ => ⟨S464x128, .f32⟩
  | .hbm, ⟨15, _⟩ => ⟨S464x128, .f32⟩
  | .hbm, ⟨16, _⟩ => ⟨S464x128, .f32⟩
  | .hbm, ⟨17, _⟩ => ⟨S_, .f32⟩
  | .hbm, ⟨18, _⟩ => ⟨S464x128, .f32⟩
  | .hbm, ⟨19, _⟩ => ⟨S464x128, .f32⟩
  | .hbm, ⟨20, _⟩ => ⟨S464x128, .f32⟩
  | .hbm, ⟨21, _⟩ => ⟨S_, .f32⟩
  | .hbm, ⟨22, _⟩ => ⟨S464x128, .f32⟩
  | .hbm, ⟨23, _⟩ => ⟨S464x128, .f32⟩
  | .hbm, ⟨24, _⟩ => ⟨S_, .f32⟩
  | .hbm, ⟨25, _⟩ => ⟨S464x128, .f32⟩
  | .hbm, ⟨26, _⟩ => ⟨S464x128, .f32⟩
  | .hbm, ⟨27, _⟩ => ⟨S464x128, .f32⟩
  | .hbm, ⟨28, _⟩ => ⟨S_, .f32⟩
  | .hbm, ⟨29, _⟩ => ⟨S464x128, .f32⟩
  | .hbm, ⟨30, _⟩ => ⟨S464x128, .f32⟩
  | .hbm, ⟨31, _⟩ => ⟨S464x128, .f32⟩
  | .hbm, ⟨32, _⟩ => ⟨S_, .f32⟩
  | .hbm, ⟨33, _⟩ => ⟨S464x128, .f32⟩
  | .hbm, ⟨34, _⟩ => ⟨S464x128, .f32⟩
  | .hbm, ⟨35, _⟩ => ⟨S464x128, .f32⟩
  | .hbm, ⟨36, _⟩ => ⟨S_, .f32⟩
  | .hbm, ⟨37, _⟩ => ⟨S464x128, .f32⟩
  | .hbm, ⟨38, _⟩ => ⟨S464x128, .f32⟩
  | _, _ => ⟨S8x464x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== StepConv.lean ====
abbrev S1x8x384 : Shape := ⟨3, ![1, 8, 384]⟩
abbrev S8x384 : Shape := ⟨2, ![8, 384]⟩

abbrev nBuf : Space → Nat
  | .hbm => 8
  | .vmem => 8
  | .smem => 0
  | _ => 0

abbrev bufTy : (tb : Table) → Fin (tcTables nBuf tb) → BufTy
  | .hbm, ⟨0, _⟩ => ⟨S1x8x384, .f32⟩
  | .hbm, ⟨1, _⟩ => ⟨S8x384, .f32⟩
  | .hbm, ⟨2, _⟩ => ⟨S8x384, .f32⟩
  | .hbm, ⟨3, _⟩ => ⟨S8x384, .f32⟩
  | .hbm, ⟨4, _⟩ => ⟨S8x384, .f32⟩
  | .hbm, ⟨5, _⟩ => ⟨S8x384, .f32⟩
  | .hbm, ⟨6, _⟩ => ⟨S8x384, .f32⟩
  | .hbm, ⟨7, _⟩ => ⟨S8x384, .f32⟩
  | .local _ .vmem, ⟨0, _⟩ => ⟨S1x8x384, .f32⟩
  | .local _ .vmem, ⟨1, _⟩ => ⟨S8x384, .f32⟩
  | .local _ .vmem, ⟨2, _⟩ => ⟨S8x384, .f32⟩
  | .local _ .vmem, ⟨3, _⟩ => ⟨S8x384, .f32⟩
  | .local _ .vmem, ⟨4, _⟩ => ⟨S8x384, .f32⟩
  | .local _ .vmem, ⟨5, _⟩ => ⟨S8x384, .f32⟩
  | .local _ .vmem, ⟨6, _⟩ => ⟨S8x384, .f32⟩
  | .local _ .vmem, ⟨7, _⟩ => ⟨S8x384, .f32⟩
  | _, _ => ⟨S1x8x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x8x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S8x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== StepConvIdeal.lean ====
abbrev S1x8x384 : Shape := ⟨3, ![1, 8, 384]⟩
abbrev S8x384 : Shape := ⟨2, ![8, 384]⟩

abbrev nBuf : Space → Nat
  | .hbm => 8
  | .vmem => 8
  | .smem => 0
  | _ => 0

abbrev bufTy : (tb : Table) → Fin (tcTables nBuf tb) → BufTy
  | .hbm, ⟨0, _⟩ => ⟨S1x8x384, .f32⟩
  | .hbm, ⟨1, _⟩ => ⟨S8x384, .f32⟩
  | .hbm, ⟨2, _⟩ => ⟨S8x384, .f32⟩
  | .hbm, ⟨3, _⟩ => ⟨S8x384, .f32⟩
  | .hbm, ⟨4, _⟩ => ⟨S8x384, .f32⟩
  | .hbm, ⟨5, _⟩ => ⟨S8x384, .f32⟩
  | .hbm, ⟨6, _⟩ => ⟨S8x384, .f32⟩
  | .hbm, ⟨7, _⟩ => ⟨S8x384, .f32⟩
  | .local _ .vmem, ⟨0, _⟩ => ⟨S1x8x384, .f32⟩
  | .local _ .vmem, ⟨1, _⟩ => ⟨S8x384, .f32⟩
  | .local _ .vmem, ⟨2, _⟩ => ⟨S8x384, .f32⟩
  | .local _ .vmem, ⟨3, _⟩ => ⟨S8x384, .f32⟩
  | .local _ .vmem, ⟨4, _⟩ => ⟨S8x384, .f32⟩
  | .local _ .vmem, ⟨5, _⟩ => ⟨S8x384, .f32⟩
  | .local _ .vmem, ⟨6, _⟩ => ⟨S8x384, .f32⟩
  | .local _ .vmem, ⟨7, _⟩ => ⟨S8x384, .f32⟩
  | _, _ => ⟨S1x8x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x8x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S8x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== StepConvReferenceIdeal.lean ====
abbrev S1x8x384 : Shape := ⟨3, ![1, 8, 384]⟩
abbrev S8x384 : Shape := ⟨2, ![8, 384]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x8x384, .f32⟩
  | .hbm, ⟨1, _⟩ => ⟨S8x384, .f32⟩
  | .hbm, ⟨2, _⟩ => ⟨S8x384, .f32⟩
  | .hbm, ⟨3, _⟩ => ⟨S8x384, .f32⟩
  | .hbm, ⟨4, _⟩ => ⟨S_, .f32⟩
  | .hbm, ⟨5, _⟩ => ⟨S8x384, .f32⟩
  | .hbm, ⟨6, _⟩ => ⟨S_, .f32⟩
  | .hbm, ⟨7, _⟩ => ⟨S8x384, .f32⟩
  | .hbm, ⟨8, _⟩ => ⟨S8x384, .f32⟩
  | .hbm, ⟨9, _⟩ => ⟨S_, .f32⟩
  | .hbm, ⟨10, _⟩ => ⟨S8x384, .f32⟩
  | .hbm, ⟨11, _⟩ => ⟨S8x384, .f32⟩
  | .hbm, ⟨12, _⟩ => ⟨S8x384, .f32⟩
  | .hbm, ⟨13, _⟩ => ⟨S_, .f32⟩
  | .hbm, ⟨14, _⟩ => ⟨S8x384, .f32⟩
  | .hbm, ⟨15, _⟩ => ⟨S8x384, .f32⟩
  | .hbm, ⟨16, _⟩ => ⟨S8x384, .f32⟩
  | .hbm, ⟨17, _⟩ => ⟨S_, .f32⟩
  | .hbm, ⟨18, _⟩ => ⟨S8x384, .f32⟩
  | .hbm, ⟨19, _⟩ => ⟨S8x384, .f32⟩
  | .hbm, ⟨20, _⟩ => ⟨S8x384, .f32⟩
  | .hbm, ⟨21, _⟩ => ⟨S_, .f32⟩
  | .hbm, ⟨22, _⟩ => ⟨S8x384, .f32⟩
  | .hbm, ⟨23, _⟩ => ⟨S8x384, .f32⟩
  | .hbm, ⟨24, _⟩ => ⟨S_, .f32⟩
  | .hbm, ⟨25, _⟩ => ⟨S8x384, .f32⟩
  | .hbm, ⟨26, _⟩ => ⟨S8x384, .f32⟩
  | .hbm, ⟨27, _⟩ => ⟨S8x384, .f32⟩
  | .hbm, ⟨28, _⟩ => ⟨S_, .f32⟩
  | .hbm, ⟨29, _⟩ => ⟨S8x384, .f32⟩
  | .hbm, ⟨30, _⟩ => ⟨S8x384, .f32⟩
  | .hbm, ⟨31, _⟩ => ⟨S8x384, .f32⟩
  | .hbm, ⟨32, _⟩ => ⟨S_, .f32⟩
  | .hbm, ⟨33, _⟩ => ⟨S8x384, .f32⟩
  | .hbm, ⟨34, _⟩ => ⟨S8x384, .f32⟩
  | .hbm, ⟨35, _⟩ => ⟨S8x384, .f32⟩
  | .hbm, ⟨36, _⟩ => ⟨S_, .f32⟩
  | .hbm, ⟨37, _⟩ => ⟨S8x384, .f32⟩
  | .hbm, ⟨38, _⟩ => ⟨S8x384, .f32⟩
  | _, _ => ⟨S1x8x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== StepFfnConv.lean ====
abbrev S1x8x704 : Shape := ⟨3, ![1, 8, 704]⟩
abbrev S8x704 : Shape := ⟨2, ![8, 704]⟩

abbrev nBuf : Space → Nat
  | .hbm => 8
  | .vmem => 8
  | .smem => 0
  | _ => 0

abbrev bufTy : (tb : Table) → Fin (tcTables nBuf tb) → BufTy
  | .hbm, ⟨0, _⟩ => ⟨S1x8x704, .f32⟩
  | .hbm, ⟨1, _⟩ => ⟨S8x704, .f32⟩
  | .hbm, ⟨2, _⟩ => ⟨S8x704, .f32⟩
  | .hbm, ⟨3, _⟩ => ⟨S8x704, .f32⟩
  | .hbm, ⟨4, _⟩ => ⟨S8x704, .f32⟩
  | .hbm, ⟨5, _⟩ => ⟨S8x704, .f32⟩
  | .hbm, ⟨6, _⟩ => ⟨S8x704, .f32⟩
  | .hbm, ⟨7, _⟩ => ⟨S8x704, .f32⟩
  | .local _ .vmem, ⟨0, _⟩ => ⟨S1x8x704, .f32⟩
  | .local _ .vmem, ⟨1, _⟩ => ⟨S8x704, .f32⟩
  | .local _ .vmem, ⟨2, _⟩ => ⟨S8x704, .f32⟩
  | .local _ .vmem, ⟨3, _⟩ => ⟨S8x704, .f32⟩
  | .local _ .vmem, ⟨4, _⟩ => ⟨S8x704, .f32⟩
  | .local _ .vmem, ⟨5, _⟩ => ⟨S8x704, .f32⟩
  | .local _ .vmem, ⟨6, _⟩ => ⟨S8x704, .f32⟩
  | .local _ .vmem, ⟨7, _⟩ => ⟨S8x704, .f32⟩
  | _, _ => ⟨S1x8x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x8x704 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x704 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x704 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x704 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x704 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x704 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x704 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S8x704 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== StepFfnConvIdeal.lean ====
abbrev S1x8x704 : Shape := ⟨3, ![1, 8, 704]⟩
abbrev S8x704 : Shape := ⟨2, ![8, 704]⟩

abbrev nBuf : Space → Nat
  | .hbm => 8
  | .vmem => 8
  | .smem => 0
  | _ => 0

abbrev bufTy : (tb : Table) → Fin (tcTables nBuf tb) → BufTy
  | .hbm, ⟨0, _⟩ => ⟨S1x8x704, .f32⟩
  | .hbm, ⟨1, _⟩ => ⟨S8x704, .f32⟩
  | .hbm, ⟨2, _⟩ => ⟨S8x704, .f32⟩
  | .hbm, ⟨3, _⟩ => ⟨S8x704, .f32⟩
  | .hbm, ⟨4, _⟩ => ⟨S8x704, .f32⟩
  | .hbm, ⟨5, _⟩ => ⟨S8x704, .f32⟩
  | .hbm, ⟨6, _⟩ => ⟨S8x704, .f32⟩
  | .hbm, ⟨7, _⟩ => ⟨S8x704, .f32⟩
  | .local _ .vmem, ⟨0, _⟩ => ⟨S1x8x704, .f32⟩
  | .local _ .vmem, ⟨1, _⟩ => ⟨S8x704, .f32⟩
  | .local _ .vmem, ⟨2, _⟩ => ⟨S8x704, .f32⟩
  | .local _ .vmem, ⟨3, _⟩ => ⟨S8x704, .f32⟩
  | .local _ .vmem, ⟨4, _⟩ => ⟨S8x704, .f32⟩
  | .local _ .vmem, ⟨5, _⟩ => ⟨S8x704, .f32⟩
  | .local _ .vmem, ⟨6, _⟩ => ⟨S8x704, .f32⟩
  | .local _ .vmem, ⟨7, _⟩ => ⟨S8x704, .f32⟩
  | _, _ => ⟨S1x8x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x8x704 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x704 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x704 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x704 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x704 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x704 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x704 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S8x704 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== StepFfnConvReferenceIdeal.lean ====
abbrev S1x8x704 : Shape := ⟨3, ![1, 8, 704]⟩
abbrev S8x704 : Shape := ⟨2, ![8, 704]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x8x704, .f32⟩
  | .hbm, ⟨1, _⟩ => ⟨S8x704, .f32⟩
  | .hbm, ⟨2, _⟩ => ⟨S8x704, .f32⟩
  | .hbm, ⟨3, _⟩ => ⟨S8x704, .f32⟩
  | .hbm, ⟨4, _⟩ => ⟨S_, .f32⟩
  | .hbm, ⟨5, _⟩ => ⟨S8x704, .f32⟩
  | .hbm, ⟨6, _⟩ => ⟨S_, .f32⟩
  | .hbm, ⟨7, _⟩ => ⟨S8x704, .f32⟩
  | .hbm, ⟨8, _⟩ => ⟨S8x704, .f32⟩
  | .hbm, ⟨9, _⟩ => ⟨S_, .f32⟩
  | .hbm, ⟨10, _⟩ => ⟨S8x704, .f32⟩
  | .hbm, ⟨11, _⟩ => ⟨S8x704, .f32⟩
  | .hbm, ⟨12, _⟩ => ⟨S8x704, .f32⟩
  | .hbm, ⟨13, _⟩ => ⟨S_, .f32⟩
  | .hbm, ⟨14, _⟩ => ⟨S8x704, .f32⟩
  | .hbm, ⟨15, _⟩ => ⟨S8x704, .f32⟩
  | .hbm, ⟨16, _⟩ => ⟨S8x704, .f32⟩
  | .hbm, ⟨17, _⟩ => ⟨S_, .f32⟩
  | .hbm, ⟨18, _⟩ => ⟨S8x704, .f32⟩
  | .hbm, ⟨19, _⟩ => ⟨S8x704, .f32⟩
  | .hbm, ⟨20, _⟩ => ⟨S8x704, .f32⟩
  | .hbm, ⟨21, _⟩ => ⟨S_, .f32⟩
  | .hbm, ⟨22, _⟩ => ⟨S8x704, .f32⟩
  | .hbm, ⟨23, _⟩ => ⟨S8x704, .f32⟩
  | .hbm, ⟨24, _⟩ => ⟨S_, .f32⟩
  | .hbm, ⟨25, _⟩ => ⟨S8x704, .f32⟩
  | .hbm, ⟨26, _⟩ => ⟨S8x704, .f32⟩
  | .hbm, ⟨27, _⟩ => ⟨S8x704, .f32⟩
  | .hbm, ⟨28, _⟩ => ⟨S_, .f32⟩
  | .hbm, ⟨29, _⟩ => ⟨S8x704, .f32⟩
  | .hbm, ⟨30, _⟩ => ⟨S8x704, .f32⟩
  | .hbm, ⟨31, _⟩ => ⟨S8x704, .f32⟩
  | .hbm, ⟨32, _⟩ => ⟨S_, .f32⟩
  | .hbm, ⟨33, _⟩ => ⟨S8x704, .f32⟩
  | .hbm, ⟨34, _⟩ => ⟨S8x704, .f32⟩
  | .hbm, ⟨35, _⟩ => ⟨S8x704, .f32⟩
  | .hbm, ⟨36, _⟩ => ⟨S_, .f32⟩
  | .hbm, ⟨37, _⟩ => ⟨S8x704, .f32⟩
  | .hbm, ⟨38, _⟩ => ⟨S8x704, .f32⟩
  | _, _ => ⟨S1x8x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== StepCtx.lean ====
abbrev S1x8x1024 : Shape := ⟨3, ![1, 8, 1024]⟩
abbrev S8x1024 : Shape := ⟨2, ![8, 1024]⟩

abbrev nBuf : Space → Nat
  | .hbm => 8
  | .vmem => 8
  | .smem => 0
  | _ => 0

abbrev bufTy : (tb : Table) → Fin (tcTables nBuf tb) → BufTy
  | .hbm, ⟨0, _⟩ => ⟨S1x8x1024, .f32⟩
  | .hbm, ⟨1, _⟩ => ⟨S8x1024, .f32⟩
  | .hbm, ⟨2, _⟩ => ⟨S8x1024, .f32⟩
  | .hbm, ⟨3, _⟩ => ⟨S8x1024, .f32⟩
  | .hbm, ⟨4, _⟩ => ⟨S8x1024, .f32⟩
  | .hbm, ⟨5, _⟩ => ⟨S8x1024, .f32⟩
  | .hbm, ⟨6, _⟩ => ⟨S8x1024, .f32⟩
  | .hbm, ⟨7, _⟩ => ⟨S8x1024, .f32⟩
  | .local _ .vmem, ⟨0, _⟩ => ⟨S1x8x1024, .f32⟩
  | .local _ .vmem, ⟨1, _⟩ => ⟨S8x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | _, _ => ⟨S1x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== StepCtxReferenceIdeal.lean ====
abbrev S1x8x1024 : Shape := ⟨3, ![1, 8, 1024]⟩
abbrev S8x1024 : Shape := ⟨2, ![8, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x8x1024, .f32⟩
  | .hbm, ⟨1, _⟩ => ⟨S8x1024, .f32⟩
  | .hbm, ⟨2, _⟩ => ⟨S8x1024, .f32⟩
  | .hbm, ⟨3, _⟩ => ⟨S8x1024, .f32⟩
  | .hbm, ⟨4, _⟩ => ⟨S_, .f32⟩
  | .hbm, ⟨5, _⟩ => ⟨S8x1024, .f32⟩
  | .hbm, ⟨6, _⟩ => ⟨S_, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S_, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S_, .f32⟩
  | .hbm, ⟨18, _⟩ => ⟨S8x1024, .f32⟩
  | .hbm, ⟨19, _⟩ => ⟨S8x1024, .f32⟩
  | .hbm, ⟨20, _⟩ => ⟨S8x1024, .f32⟩
  | .hbm, ⟨21, _⟩ => ⟨S_, .f32⟩
  | .hbm, ⟨22, _⟩ => ⟨S8x1024, .f32⟩
  | .hbm, ⟨23, _⟩ => ⟨S8x1024, .f32⟩
  | .hbm, ⟨24, _⟩ => ⟨S_, .f32⟩
  | .hbm, ⟨25, _⟩ => ⟨S8x1024, .f32⟩
  | .hbm, ⟨26, _⟩ => ⟨S8x1024, .f32⟩
  | .hbm, ⟨27, _⟩ => ⟨S8x1024, .f32⟩
  | .hbm, ⟨28, _⟩ => ⟨S_, .f32⟩
  | .hbm, ⟨29, _⟩ => ⟨S8x1024, .f32⟩
  | .hbm, ⟨30, _⟩ => ⟨S8x1024, .f32⟩
  | .hbm, ⟨31, _⟩ => ⟨S8x1024, .f32⟩
  | .hbm, ⟨32, _⟩ => ⟨S_, .f32⟩
  | .hbm, ⟨33, _⟩ => ⟨S8x1024, .f32⟩
  | .hbm, ⟨34, _⟩ => ⟨S8x1024, .f32⟩
  | .hbm, ⟨35, _⟩ => ⟨S8x1024, .f32⟩
  | .hbm, ⟨36, _⟩ => ⟨S_, .f32⟩
  | .hbm, ⟨37, _⟩ => ⟨S8x1024, .f32⟩
  | .hbm, ⟨38, _⟩ => ⟨S8x1024, .f32⟩
  | _, _ => ⟨S1x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Back.lean ====
abbrev S16384x1024 : Shape := ⟨2, ![16384, 1024]⟩
abbrev S1x1024 : Shape := ⟨2, ![1, 1024]⟩
abbrev S16640x1024 : Shape := ⟨2, ![16640, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S16640x1024, .f32⟩
  | .hbm, ⟨5, _⟩ => ⟨S16384x1024, .f32⟩
  | .hbm, ⟨6, _⟩ => ⟨S16384x1024, .f32⟩
  | .hbm, ⟨7, _⟩ => ⟨S1x1024, .f32⟩
  | .hbm, ⟨8, _⟩ => ⟨S1x1024, .f32⟩
  | .hbm, ⟨9, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== BackReferenceIdeal.lean ====
abbrev S16384x1024 : Shape := ⟨2, ![16384, 1024]⟩
abbrev S1x1024 : Shape := ⟨2, ![1, 1024]⟩
abbrev S16640x1024 : Shape := ⟨2, ![16640, 1024]⟩
abbrev S_ : Shape := ⟨0, ![]⟩
abbrev S16384 : Shape := ⟨1, ![16384]⟩
abbrev S16384x1 : Shape := ⟨2, ![16384, 1]⟩
abbrev S1024 : Shape := ⟨1, ![1024]⟩

abbrev nBuf : Space → Nat
  | .hbm => 66
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S16640x1024, .f32⟩
  | .hbm, ⟨5, _⟩ => ⟨S16384x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S1x1024, .f32⟩
  | .hbm, ⟨27, _⟩ => ⟨S1x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S16384x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S_, .f32⟩
  | .hbm, ⟨50, _⟩ => ⟨S16384, .f32⟩
  | .hbm, ⟨51, _⟩ => ⟨S16384x1, .f32⟩
  | .hbm, ⟨52, _⟩ => ⟨S16384x1024, .f32⟩
  | .hbm, ⟨53, _⟩ => ⟨S16384x1024, .f32⟩
  | .hbm, ⟨54, _⟩ => ⟨S16384x1, .f32⟩
  | .hbm, ⟨55, _⟩ => ⟨S_, .f32⟩
  | .hbm, ⟨56, _⟩ => ⟨S16384x1, .f32⟩
  | .hbm, ⟨57, _⟩ => ⟨S16384x1, .f32⟩
  | .hbm, ⟨58, _⟩ => ⟨S_, .f32⟩
  | .hbm, ⟨59, _⟩ => ⟨S16384, .f32⟩
  | .hbm, ⟨60, _⟩ => ⟨S16384x1024, .f32⟩
  | .hbm, ⟨61, _⟩ => ⟨S16384x1024, .f32⟩
  | .hbm, ⟨62, _⟩ => ⟨S16384x1024, .f32⟩
  | .hbm, ⟨63, _⟩ => ⟨S16384x1024, .f32⟩
  | .hbm, ⟨64, _⟩ => ⟨S16384x1024, .f32⟩
  | .hbm, ⟨65, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_cst_9 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩

abbrev nD : Nat := 1
abbrev τ : Topo := Topo.v7x

variable {F : FTy → Type} [FloatOps F]
-- ==== Loss.lean ====
abbrev S16384x1024 : Shape := ⟨2, ![16384, 1024]⟩
abbrev S1x1024 : Shape := ⟨2, ![1, 1024]⟩
abbrev S2816x1024 : Shape := ⟨2, ![2816, 1024]⟩
abbrev S1x128 : Shape := ⟨2, ![1, 128]⟩
abbrev S16384x2816 : Shape := ⟨2, ![16384, 2816]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1024 : Shape := ⟨1, ![1024]⟩

abbrev nBuf : Space → Nat
  | .hbm => 10
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S16384x1024, .f32⟩
  | .hbm, ⟨3, _⟩ => ⟨S16384x1024, .f32⟩
  | .hbm, ⟨4, _⟩ => ⟨S2816x1024, .bf16⟩
  | .hbm, ⟨5, _⟩ => ⟨S1x128, .f32⟩
  | .hbm, ⟨6, _⟩ => ⟨S16384x1024, .f32⟩
  | .hbm, ⟨7, _⟩ => ⟨S16384x1024, .bf16⟩
  | .hbm, ⟨8, _⟩ => ⟨S1x1024, .f32⟩
  | .hbm, ⟨9, _⟩ => ⟨S16384x2816, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S2816x1024, .bf16⟩
  | .local _ .vmem, ⟨8, _⟩ => ⟨S1x128, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1x1024, .f32⟩
  | .local _ .vmem, ⟨14, _⟩ => ⟨S512x2816, .f32⟩
  | .local _ .vmem, ⟨15, _⟩ => ⟨S512x2816, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2816 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== LossReferenceIdeal.lean ====
abbrev S16384x1024 : Shape := ⟨2, ![16384, 1024]⟩
abbrev S1x1024 : Shape := ⟨2, ![1, 1024]⟩
abbrev S2816x1024 : Shape := ⟨2, ![2816, 1024]⟩
abbrev S_ : Shape := ⟨0, ![]⟩
abbrev S16384 : Shape := ⟨1, ![16384]⟩
abbrev S16384x2816 : Shape := ⟨2, ![16384, 2816]⟩
abbrev S1x128 : Shape := ⟨2, ![1, 128]⟩
abbrev S1024 : Shape := ⟨1, ![1024]⟩

abbrev nBuf : Space → Nat
  | .hbm => 31
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S16384x1024, .f32⟩
  | .hbm, ⟨3, _⟩ => ⟨S16384x1024, .f32⟩
  | .hbm, ⟨4, _⟩ => ⟨S2816x1024, .bf16⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S_, .f32⟩
  | .hbm, ⟨11, _⟩ => ⟨S16384, .f32⟩
  | .hbm, ⟨12, _⟩ => ⟨S_, .f32⟩
  | .hbm, ⟨13, _⟩ => ⟨S16384, .f32⟩
  | .hbm, ⟨14, _⟩ => ⟨S16384, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .bf16⟩
  | .hbm, ⟨25, _⟩ => ⟨S16384x2816, .f32⟩
  | .hbm, ⟨26, _⟩ => ⟨S1x128, .f32⟩
  | .hbm, ⟨27, _⟩ => ⟨S16384x1024, .f32⟩
  | .hbm, ⟨28, _⟩ => ⟨S_, .f32⟩
  | .hbm, ⟨29, _⟩ => ⟨S1024, .f32⟩
  | .hbm, ⟨30, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]
-- ==== BackCtx.lean ====
abbrev S256x1024 : Shape := ⟨2, ![256, 1024]⟩
abbrev S1x1024 : Shape := ⟨2, ![1, 1024]⟩
abbrev S16640x1024 : Shape := ⟨2, ![16640, 1024]⟩
abbrev S256 : Shape := ⟨1, ![256]⟩
abbrev S256x1 : Shape := ⟨2, ![256, 1]⟩
abbrev S1024 : Shape := ⟨1, ![1024]⟩

abbrev nBuf : Space → Nat
  | .hbm => 8
  | .vmem => 8
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S16640x1024, .f32⟩
  | .hbm, ⟨5, _⟩ => ⟨S1x1024, .f32⟩
  | .hbm, ⟨6, _⟩ => ⟨S1x1024, .f32⟩
  | .hbm, ⟨7, _⟩ => ⟨S1x1024, .f32⟩
  | .local _ .vmem, ⟨0, _⟩ => ⟨S256x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S256x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== BackCtxReferenceIdeal.lean ====
abbrev S256x1024 : Shape := ⟨2, ![256, 1024]⟩
abbrev S1x1024 : Shape := ⟨2, ![1, 1024]⟩
abbrev S16640x1024 : Shape := ⟨2, ![16640, 1024]⟩
abbrev S_ : Shape := ⟨0, ![]⟩
abbrev S256 : Shape := ⟨1, ![256]⟩
abbrev S256x1 : Shape := ⟨2, ![256, 1]⟩
abbrev S1024 : Shape := ⟨1, ![1024]⟩

abbrev nBuf : Space → Nat
  | .hbm => 41
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S16640x1024, .f32⟩
  | .hbm, ⟨5, _⟩ => ⟨S256x1024, .f32⟩
  | .hbm, ⟨6, _⟩ => ⟨S_, .f32⟩
  | .hbm, ⟨7, _⟩ => ⟨S256, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S_, .f32⟩
  | .hbm, ⟨13, _⟩ => ⟨S256x1, .f32⟩
  | .hbm, ⟨14, _⟩ => ⟨S256x1, .f32⟩
  | .hbm, ⟨15, _⟩ => ⟨S256x1, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S256x1024, .f32⟩
  | .hbm, ⟨20, _⟩ => ⟨S_, .f32⟩
  | .hbm, ⟨21, _⟩ => ⟨S1x1024, .f32⟩
  | .hbm, ⟨22, _⟩ => ⟨S1x1024, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S256x1024, .f32⟩
  | .hbm, ⟨27, _⟩ => ⟨S256x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S256x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S256x1024, .f32⟩
  | .hbm, ⟨36, _⟩ => ⟨S256x1024, .f32⟩
  | .hbm, ⟨37, _⟩ => ⟨S256x1024, .f32⟩
  | .hbm, ⟨38, _⟩ => ⟨S_, .f32⟩
  | .hbm, ⟨39, _⟩ => ⟨S1024, .f32⟩
  | .hbm, ⟨40, _⟩ => ⟨S1x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]
-- ==== Resid.lean ====
abbrev S16384x1024 : Shape := ⟨2, ![16384, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S16384x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S16384x1024, .f32⟩
  | .hbm, ⟨7, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ResidReferenceIdeal.lean ====
abbrev S16384x1024 : Shape := ⟨2, ![16384, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩

abbrev nBuf : Space → Nat
  | .hbm => 32
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S16384x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S_, .f32⟩
  | .hbm, ⟨25, _⟩ => ⟨S1x1024, .f32⟩
  | .hbm, ⟨26, _⟩ => ⟨S1x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== Cctx.lean ====
abbrev S8x1x1024 : Shape := ⟨3, ![8, 1, 1024]⟩
abbrev S1x1024 : Shape := ⟨2, ![1, 1024]⟩
abbrev S1x1x1024 : Shape := ⟨3, ![1, 1, 1024]⟩

abbrev nBuf : Space → Nat
  | .hbm => 3
  | .vmem => 3
  | .smem => 0
  | _ => 0

abbrev bufTy : (tb : Table) → Fin (tcTables nBuf tb) → BufTy
  | .hbm, ⟨0, _⟩ => ⟨S8x1x1024, .f32⟩
  | .hbm, ⟨1, _⟩ => ⟨S1x1024, .f32⟩
  | .hbm, ⟨2, _⟩ => ⟨S1x1024, .f32⟩
  | .local _ .vmem, ⟨0, _⟩ => ⟨S8x1x1024, .f32⟩
  | .local _ .vmem, ⟨1, _⟩ => ⟨S1x1024, .f32⟩
  | .local _ .vmem, ⟨2, _⟩ => ⟨S1x1024, .f32⟩
  | _, _ => ⟨S8x1x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S8x1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== CctxReferenceIdeal.lean ====
abbrev S8x1x1024 : Shape := ⟨3, ![8, 1, 1024]⟩
abbrev S1x1024 : Shape := ⟨2, ![1, 1024]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S8x1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S_, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1x1024, .f32⟩
  | _, _ => ⟨S8x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_v0_2 : Ref sig .tc := ⟨.hbm, 9, rfl⟩
abbrev main_call0_cst_1 : Ref sig .tc := ⟨.hbm, 10, rfl⟩
abbrev main_call0_v6 : Ref sig .tc := ⟨.hbm, 11, rfl⟩
abbrev main_call0_v7 : Ref sig .tc := ⟨.hbm, 12, rfl⟩
abbrev main_v0_1 : Ref sig .tc := ⟨.hbm, 13, rfl⟩
abbrev main_v0_0 : Ref sig .tc := ⟨.hbm, 14, rfl⟩
abbrev main_cst : Ref sig .tc := ⟨.hbm, 15, rfl⟩
abbrev main_v1 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_v2 : Ref sig .tc := ⟨.hbm, 20, rfl⟩

abbrev nD : Nat := 1
abbrev τ : Topo := Topo.v7x

variable {F : FTy → Type} [FloatOps F]
-- ==== NormFwd.lean ====
abbrev S16384x1024 : Shape := ⟨2, ![16384, 1024]⟩
abbrev S256x1024 : Shape := ⟨2, ![256, 1024]⟩
abbrev S1x1024 : Shape := ⟨2, ![1, 1024]⟩
abbrev S2x1x1024 : Shape := ⟨3, ![2, 1, 1024]⟩
abbrev S16640x1024 : Shape := ⟨2, ![16640, 1024]⟩
abbrev S1x1x1024 : Shape := ⟨3, ![1, 1, 1024]⟩
abbrev S256 : Shape := ⟨1, ![256]⟩
abbrev S256x1 : Shape := ⟨2, ![256, 1]⟩

abbrev nBuf : Space → Nat
  | .hbm => 6
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S256x1024, .f32⟩
  | .hbm, ⟨2, _⟩ => ⟨S1x1024, .f32⟩
  | .hbm, ⟨3, _⟩ => ⟨S2x1x1024, .f32⟩
  | .hbm, ⟨4, _⟩ => ⟨S2x1x1024, .f32⟩
  | .hbm, ⟨5, _⟩ => ⟨S16640x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S256x1024, .bf16⟩
  | .local _ .vmem, ⟨10, _⟩ => ⟨S256x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c64_i32 : BitVec 32 := 64#32
  let v0 : BitVec 1 := Scalar.cmpi .sge arg0 c64_i32
  let c1_i32 : BitVec 32 := 1#32
  let c0_i32 : BitVec 32 := 0#32
  let v1 : BitVec 32 := Scalar.select v0 c1_i32 c0_i32
  let c0_i32_0 : BitVec 32 := 0#32
  let c0_i32_1 : BitVec 32 := 0#32
  let c0_i32_2 : BitVec 32 := 0#32
  ![v1.toNat, c0_i32_0.toNat, c0_i32_1.toNat]

def cc0_transform_4 (i : grid0.Coords) : Fin 3 → Nat :=
  let arg0 : BitVec 32 := BitVec.ofNat 32 (i 0).val
  let c64_i32 : BitVec 32 := 64#32
  let v0 : BitVec 1 := Scalar.cmpi .sge arg0 c64_i32
  let c1_i32 : BitVec 32 := 1#32
  let c0_i32 : BitVec 32 := 0#32
  let v1 : BitVec 32 := Scalar.select v0 c1_i32 c0_i32
  let c0_i32_0 : BitVec 32 := 0#32
  let c0_i32_1 : BitVec 32 := 0#32
  let c0_i32_2 : BitVec 32 := 0#32
  ![v1.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== NormFwdReferenceIdeal.lean ====
abbrev S16384x1024 : Shape := ⟨2, ![16384, 1024]⟩
abbrev S256x1024 : Shape := ⟨2, ![256, 1024]⟩
abbrev S1x1024 : Shape := ⟨2, ![1, 1024]⟩
abbrev S2x1x1024 : Shape := ⟨3, ![2, 1, 1024]⟩
abbrev S_ : Shape := ⟨0, ![]⟩
abbrev S16384 : Shape := ⟨1, ![16384]⟩
abbrev S16384x1 : Shape := ⟨2, ![16384, 1]⟩
abbrev S1x1x1024 : Shape := ⟨3, ![1, 1, 1024]⟩
abbrev S256 : Shape := ⟨1, ![256]⟩
abbrev S256x1 : Shape := ⟨2, ![256, 1]⟩
abbrev S16640x1024 : Shape := ⟨2, ![16640, 1024]⟩

abbrev nBuf : Space → Nat
  | .hbm => 59
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S256x1024, .f32⟩
  | .hbm, ⟨2, _⟩ => ⟨S1x1024, .f32⟩
  | .hbm, ⟨3, _⟩ => ⟨S2x1x1024, .f32⟩
  | .hbm, ⟨4, _⟩ => ⟨S2x1x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S1x1x1024, .f32⟩
  | .hbm, ⟨21, _⟩ => ⟨S1x1024, .f32⟩
  | .hbm, ⟨22, _⟩ => ⟨S1x1x1024, .f32⟩
  | .hbm, ⟨23, _⟩ => ⟨S1x1024, .f32⟩
  | .hbm, ⟨24, _⟩ => ⟨S_, .f32⟩
  | .hbm, ⟨25, _⟩ => ⟨S1x1024, .f32⟩
  | .hbm, ⟨26, _⟩ => ⟨S1x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S256x1024, .f32⟩
  | .hbm, ⟨32, _⟩ => ⟨S_, .f32⟩
  | .hbm, ⟨33, _⟩ => ⟨S256, .f32⟩
  | .hbm, ⟨34, _⟩ => ⟨S256x1, .f32⟩
  | .hbm, ⟨35, _⟩ => ⟨S_, .f32⟩
  | .hbm, ⟨36, _⟩ => ⟨S256x1, .f32⟩
  | .hbm, ⟨37, _⟩ => ⟨S256x1, .f32⟩
  | .hbm, ⟨38, _⟩ => ⟨S_, .f32⟩
  | .hbm, ⟨39, _⟩ => ⟨S256x1, .f32⟩
  | .hbm, ⟨40, _⟩ => ⟨S256x1, .f32⟩
  | .hbm, ⟨41, _⟩ => ⟨S256x1, .f32⟩
  | .hbm, ⟨42, _⟩ => ⟨S256x1024, .f32⟩
  | .hbm, ⟨43, _⟩ => ⟨S256x1024, .f32⟩
  | .hbm, ⟨44, _⟩ => ⟨S256x1024, .f32⟩
  | .hbm, ⟨45, _⟩ => ⟨S256x1024, .f32⟩
  | .hbm, ⟨46, _⟩ => ⟨S1x1x1024, .f32⟩
  | .hbm, ⟨47, _⟩ => ⟨S1x1024, .f32⟩
  | .hbm, ⟨48, _⟩ => ⟨S1x1x1024, .f32⟩
  | .hbm, ⟨49, _⟩ => ⟨S1x1024, .f32⟩
  | .hbm, ⟨50, _⟩ => ⟨S_, .f32⟩
  | .hbm, ⟨51, _⟩ => ⟨S1x1024, .f32⟩
  | .hbm, ⟨52, _⟩ => ⟨S1x1024, .f32⟩
  | .hbm, ⟨53, _⟩ => ⟨S256x1024, .f32⟩
  | .hbm, ⟨54, _⟩ => ⟨S256x1024, .f32⟩
  | .hbm, ⟨55, _⟩ => ⟨S256x1024, .f32⟩
  | .hbm, ⟨56, _⟩ => ⟨S256x1024, .f32⟩
  | .hbm, ⟨57, _⟩ => ⟨S16640x1024, .f32⟩
  | .hbm, ⟨58, _⟩ => ⟨S16640x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩

abbrev nD : Nat := 1
abbrev τ : Topo := Topo.v7x

variable {F : FTy → Type} [FloatOps F]
-- ==== Merge.lean ====
abbrev S16384x1024 : Shape := ⟨2, ![16384, 1024]⟩
abbrev S16640x8192 : Shape := ⟨2, ![16640, 8192]⟩
abbrev S1024x1024 : Shape := ⟨2, ![1024, 1024]⟩
abbrev S512x1024 : Shape := ⟨2, ![512, 1024]⟩

abbrev nBuf : Space → Nat
  | .hbm => 6
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16640x8192, .f32⟩
  | .hbm, ⟨3, _⟩ => ⟨S1024x1024, .bf16⟩
  | .hbm, ⟨4, _⟩ => ⟨S16384x1024, .bf16⟩
  | .hbm, ⟨5, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1024x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .f32⟩
  | .local _ .vmem, ⟨12, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MergeReferenceIdeal.lean ====
abbrev S16384x1024 : Shape := ⟨2, ![16384, 1024]⟩
abbrev S16640x8192 : Shape := ⟨2, ![16640, 8192]⟩
abbrev S1024x1024 : Shape := ⟨2, ![1024, 1024]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16640x8192, .f32⟩
  | .hbm, ⟨3, _⟩ => ⟨S1024x1024, .bf16⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S_, .f32⟩
  | .hbm, ⟨9, _⟩ => ⟨S16384x1024, .f32⟩
  | .hbm, ⟨10, _⟩ => ⟨S16384x1024, .f32⟩
  | .hbm, ⟨11, _⟩ => ⟨S_, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S_, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .bf16⟩
  | .hbm, ⟨26, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Ada.lean ====
abbrev S16x1024 : Shape := ⟨2, ![16, 1024]⟩
abbrev S1024x768 : Shape := ⟨2, ![1024, 768]⟩
abbrev S1x768 : Shape := ⟨2, ![1, 768]⟩
abbrev S16x768 : Shape := ⟨2, ![16, 768]⟩

abbrev nBuf : Space → Nat
  | .hbm => 4
  | .vmem => 4
  | .smem => 0
  | _ => 0

abbrev bufTy : (tb : Table) → Fin (tcTables nBuf tb) → BufTy
  | .hbm, ⟨0, _⟩ => ⟨S16x1024, .f32⟩
  | .hbm, ⟨1, _⟩ => ⟨S1024x768, .f32⟩
  | .hbm, ⟨2, _⟩ => ⟨S1x768, .f32⟩
  | .hbm, ⟨3, _⟩ => ⟨S16x768, .f32⟩
  | .local _ .vmem, ⟨0, _⟩ => ⟨S16x1024, .f32⟩
  | .local _ .vmem, ⟨1, _⟩ => ⟨S1024x768, .f32⟩
  | .local _ .vmem, ⟨2, _⟩ => ⟨S1x768, .f32⟩
  | .local _ .vmem, ⟨3, _⟩ => ⟨S16x768, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== AdaReferenceIdeal.lean ====
abbrev S16x1024 : Shape := ⟨2, ![16, 1024]⟩
abbrev S1024x768 : Shape := ⟨2, ![1024, 768]⟩
abbrev S1x768 : Shape := ⟨2, ![1, 768]⟩
abbrev S_ : Shape := ⟨0, ![]⟩
abbrev S16x768 : Shape := ⟨2, ![16, 768]⟩

abbrev nBuf : Space → Nat
  | .hbm => 15
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1024x768, .f32⟩
  | .hbm, ⟨2, _⟩ => ⟨S1x768, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S16x768, .f32⟩
  | .hbm, ⟨13, _⟩ => ⟨S16x768, .f32⟩
  | .hbm, ⟨14, _⟩ => ⟨S16x768, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩

abbrev nD : Nat := 1
abbrev τ : Topo := Topo.v7x

variable {F : FTy → Type} [FloatOps F]
-- ==== Outer.lean ====
abbrev S16384x1024 : Shape := ⟨2, ![16384, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OuterIdeal.lean ====
abbrev S16384x1024 : Shape := ⟨2, ![16384, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OuterReferenceIdeal.lean ====
abbrev S16384x1024 : Shape := ⟨2, ![16384, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1024x1024, .f32⟩
  | .hbm, ⟨3, _⟩ => ⟨S1024x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== OuterDown.lean ====
abbrev S16384x2816 : Shape := ⟨2, ![16384, 2816]⟩
abbrev S16384x1024 : Shape := ⟨2, ![16384, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OuterDownIdeal.lean ====
abbrev S16384x2816 : Shape := ⟨2, ![16384, 2816]⟩
abbrev S16384x1024 : Shape := ⟨2, ![16384, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OuterDownReferenceIdeal.lean ====
abbrev S16384x2816 : Shape := ⟨2, ![16384, 2816]⟩
abbrev S16384x1024 : Shape := ⟨2, ![16384, 1024]⟩
abbrev S2816x1024 : Shape := ⟨2, ![2816, 1024]⟩

abbrev nBuf : Space → Nat
  | .hbm => 4
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .bf16⟩
  | .hbm, ⟨2, _⟩ => ⟨S2816x1024, .f32⟩
  | .hbm, ⟨3, _⟩ => ⟨S2816x1024, .bf16⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== OuterUp.lean ====
abbrev S16384x1024 : Shape := ⟨2, ![16384, 1024]⟩
abbrev S16384x5632 : Shape := ⟨2, ![16384, 5632]⟩
abbrev S1024x5632 : Shape := ⟨2, ![1024, 5632]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S16384x5632, .bf16⟩
  | .hbm, ⟨2, _⟩ => ⟨S1024x5632, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OuterUpReferenceIdeal.lean ====
abbrev S16384x1024 : Shape := ⟨2, ![16384, 1024]⟩
abbrev S16384x5632 : Shape := ⟨2, ![16384, 5632]⟩
abbrev S1024x5632 : Shape := ⟨2, ![1024, 5632]⟩

abbrev nBuf : Space → Nat
  | .hbm => 4
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x5632, .bf16⟩
  | .hbm, ⟨2, _⟩ => ⟨S1024x5632, .f32⟩
  | .hbm, ⟨3, _⟩ => ⟨S1024x5632, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Launch.lean ====
/-
  The launch of a one-region program whose devices write into each other's UNSCOPED buffers with no handshake.

  A device's copy into a peer's result array may start before the peer has entered its kernel, so what the
  sender needs — the elements it will overwrite, the peer's receive cell — has to be dealt at the launch, for
  all devices at once. The library's `θ_run_region_owing_glob_pf` hands the certificate's global step every
  device's own semaphores; here the step is handed also every device's unscoped buffers that no window is on
  (at their launch contents), and what it makes of both, `G'`, goes whole to the region's entry.
-/
module

public import Idealize.ShloMosaic.Lib.Pipeline.Launch
public import Idealize.ShloMosaic.Lib.Pipeline.Kit
public import Idealize.ShloMosaic.Lib.Tactic

@[expose] public section

set_option Elab.async false

noncomputable section

namespace Cert.Exchange

open Idealize.ShloMosaic Idealize.ShloMosaic.TcCoe Idealize.ShloMosaic.Pipeline Idealize.ShloMosaic.Pipeline.PerCore
open Idealize.ShloMosaic.Rounds Idealize.SL.RA.PCS
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

variable {Λ₀ : Labels} {P : Type} [Fintype P]
variable (pcs : P → PCfg sig Λ₀ Val) (a : Dev nD → (p : P) → (pcs p).Adm)
  (pdats : (p : P) → (c : Dev nD) → Dat τ Val Ix Name U Lvl (pinD pcs a c p) c) (ι : Ix)
  (phinj : Function.Injective (cellOf (nD := nD) (pinD pcs a))) (p : P)
variable {K : Type} [Fintype K] {osem : K → SemLoc sig} (hw : WinFacts₀ (pcs p).spec) (ho : OwnSemFacts (pcs p).spec osem)
  (hp : PreFacts (pcs p).spec (pcs p).pre)
variable (EP : Emb (URounds (GSem nD τ sig) Unit) (MT nD τ sig Ix Val Name U Lvl))
  (defs₀ : Defs nD τ sig Val Λ₀) (𝒱₀ : Variants)

/-- The levels of every cell assigned once for the machine, out of the assignment rights each TensorCore is dealt;
    the other threads' cells have none. -/
theorem assign_levels [Preorder Lvl] (L : GSem nD τ sig → Finset Ix) (lv : GSem nD τ sig → Ix → Lvl)
    (hL : ∀ g : GSem nD τ sig, g.1.2 ≠ .tc → L g = ∅) :
    (bigSep Finset.univ fun c : Dev nD => levels0 (Ix := Ix) (Val := Val) (Name := Name) (U := U) (Lvl := Lvl) (τ := τ) (sig := sig) c)
      ⊢ (|==> levAts L lv : sProp 𝕄) := by
  have hother : ∀ t : Thread nD τ, t.2 ≠ .tc → (coreLevAts t L lv : sProp 𝕄) = BI.emp := fun t ht => by
    unfold coreLevAts
    rw [bigSep_congr (Ψ := fun _ : SemLoc sig => (BI.emp : sProp 𝕄)) fun sm _ => by rw [hL (t, sm) ht, BI.bigSep_empty]]
    exact BI.bigSep_emp_const _
  have hrest : (bigSep Finset.univ fun d : Dev nD => bigSep (Finset.univ.erase Proc.tc) fun q => (coreLevAts ((d, q) : Thread nD τ) L lv : sProp 𝕄)) = BI.emp := by
    rw [bigSep_congr (Ψ := fun _ : Dev nD => (BI.emp : sProp 𝕄)) fun d _ => by
      rw [bigSep_congr (Ψ := fun _ : Proc τ => (BI.emp : sProp 𝕄)) fun q hq => hother (d, q) (Finset.ne_of_mem_erase hq)]
      exact BI.bigSep_emp_const _]
    exact BI.bigSep_emp_const _
  have hall : (levAts L lv : sProp 𝕄) = bigSep Finset.univ fun c : Dev nD => coreLevAts (c.tc : Thread nD τ) L lv := by
    rw [show (levAts L lv : sProp 𝕄) = bigSep Finset.univ fun t : Thread nD τ => coreLevAts t L lv
        from bigSep_univ_prod fun g : GSem nD τ sig => bigSep (L g) fun i => levAt g i (lv g i),
      bigSep_threads (fun t : Thread nD τ => coreLevAts t L lv), hrest]
    exact BI.Entails.antisymm (show _ ⊢ (_ : sProp 𝕄) from by iintro ⟨H, -⟩; iexact H)
      (show _ ⊢ (_ : sProp 𝕄) from by iintro H; isplitl [H]; (· iexact H); iempintro)
  rw [hall]
  refine (bigSep_mono fun c _ => lev_assign_cells (c.tc : Thread nD τ) L lv).trans ((BI.bigSep_bupd _ _).trans (BI.bupd_mono ?_))
  rw [bigSep_sep']
  show iprop(_ ∗ _) ⊢ (_ : sProp 𝕄)
  iintro ⟨-, H⟩; iexact H

include phinj hw ho hp in
/-- `θ_run` of `customCall (entry p) (); ret` when the certificate's global step deals every device's own semaphores AND
    its buffers outside the windows. Hypotheses otherwise as of `PerCore.θ_run_region_owing_glob_pf`; what the step
    leaves each core with enters the region's invariant together with the levels and the core's launch credit. -/
theorem θ_run_shared [DecidableEq P] [Preorder Lvl] [∀ e, Nonempty (Val e)] [Infinite Name]
    [EP.LandsIn (upEmb : UEmb _ 𝕄)]
    (m : (ℓ : Loc nD τ sig) → Buf Val ℓ) (g : Dev nD → PrngReg)
    (main : Dev nD → Prog (TpuEff nD τ sig Val (Sig Λ₀ P fun p => (pcs p).Adm) .tc) PUnit)
    (hmain : ∀ c, main c = .op (.customCall (entry p) ()) fun _ => .ret ⟨⟩)
    (hbody : ∀ c, BodyObligation (pdats p c) defs₀ 𝒱₀ ι Set.univ)
    (hne : ∀ w : Fin (pcs p).W, 0 < ((pcs p).spec w).block.numel)
    (harr : ∀ w, ((pcs p).spec w).arr.IsWhole) (hstage : ∀ w s, (((pcs p).spec w).stage s).IsWhole)
    (hshare : ∀ c w, (pdats p c).share w = fullShare) (hdistinct : Function.Injective (arrRef (pcs p).spec))
    (O₀ : Dev nD → CellTallies nD τ sig Ix) (howed₀ : ∀ c, (pdats p c).owed 0 = O₀ c) (howedN : ∀ c, (pdats p c).owed (Fin.last _) = 0)
    (L : GSem nD τ sig → Finset Ix) (lv : GSem nD τ sig → Ix → Lvl) (hL : ∀ g : GSem nD τ sig, g.1.2 ≠ .tc → L g = ∅)
    (hwaits : ∀ c, (levAts L lv : sProp 𝕄) ⊢ PerCore.RDat.cellsWaits (pinD pcs a) (Dat.toRs pdats) ι p c)
    (G G' : Dev nD → sProp 𝕄) (u₀ : U)
    (hu₀ : (ownU u₀ : sProp 𝕄)
      ⊢ |={Set.univ}=> iprop(BI.own (EP (initOf (PerCore.cells (pinD pcs a) phinj) (PerCore.launchToks (pinD pcs a) phinj))) ∗ bigSep Finset.univ G))
    (hglob : (bigSep Finset.univ fun c => iprop(ownSems0 osem c
          ∗ unscopedRestP (pcs p).pre (pinD pcs a c p).spec c (fun b => m ((c.tc : Thread nD τ).loc b)) ∗ G c) : sProp 𝕄)
      ⊢ |={Set.univ}=> bigSep Finset.univ G')
    (hA : ∀ c w, (pdats p c).A w = m (((pinD pcs a c p).spec w).arr.view.loc (c.tc : Thread nD τ)))
    (hpf : ∀ (c : Dev nD) k, m ((c.tc : Thread nD τ).loc ((pcs p).pre.ref k)) = (a c p).1 k)
    (Y : Dev nD → sProp 𝕄)
    (hin : ∀ c, iprop((levAts L lv ∗ launchCred O₀ c ∗ G' c) ∗ prefHeld (pcs p).pre c (fun _ => fullShare.right) (a c p).1
        ∗ scopedRest (pinD pcs a c p).spec c) ⊢ (pdats p c).Φ 0)
    (hout : ∀ c, (pdats p c).Φ (Fin.last (pinD pcs a c p).N) ⊢ iprop(Y c ∗ ownSems0 osem c ∗ scopedRest (pinD pcs a c p).spec c))
    (QY : Dev nD → MemSt nD τ sig Val → Prop)
    (hY : ∀ c (s' : Phys nD τ sig Val), iprop(Y c ∗ SI s') ⊢ |={Set.univ}=> iprop(⌜QY c s'.mem⌝ ∗ SI s'))
    {Q : PUnit × MemSt nD τ sig Val → Prop}
    (hQ : ∀ s : MemSt nD τ sig Val,
      (∀ c : Dev nD, (∀ w, s.mem (((pinD pcs a c p).spec w).arr.view.loc (c.tc : Thread nD τ)) = (pdats p c).arrAt w (pinD pcs a c p).N)
        ∧ QY c s) →
      (∀ g' : GSem nD τ sig, (g'.1.2 ≠ .tc ∨ g'.2.isScoped .tc = true) → s.sem g' = 0) → Q (⟨⟩, s)) :
    θ_run (Pipeline.defs pcs defs₀) (onTc main) ⟨m, fun _ => 0, g⟩ Q := by
  classical
  have hsems := fun c : Dev nD => PerCore.scopedSems0_split (pinD pcs a) phinj p (fun _ => hw) (fun _ => ho) (Ix := Ix) (Val := Val) (Name := Name) (U := U) (Lvl := Lvl) c
  have hbufs := fun c : Dev nD => PerCore.scopedBufs_split (pinD pcs a) p c hw.stage_scoped hw.stage_inj hstage (nD := nD) (τ := τ) (Ix := Ix) (Val := Val) (Name := Name) (U := U) (Lvl := Lvl)
  -- the buffers behind the windows' arrays, as a core holds them at the launch
  let arrs : Dev nD → sProp 𝕄 := fun c => (Dat.toRs pdats p c).arrays (Dat.toRs pdats p c).A
  let cellsAt : Dev nD → sProp 𝕄 := fun c => iprop(scopedBufs (c.tc : Thread nD τ) ∗ PerCore.cellsSems0 (pinD pcs a) p c ∗ PerCore.idleSems0 (pinD pcs a) phinj p (fun _ => ho) c)
  let restBufs : Dev nD → sProp 𝕄 := fun c => unscopedRestP (pcs p).pre (pinD pcs a c p).spec c (fun b => m ((c.tc : Thread nD τ).loc b))
  let pre : Dev nD → sProp 𝕄 := fun c => iprop(cellsAt c ∗ arrs c ∗ prefHeld (pcs p).pre c (fun _ => fullShare) (a c p).1
    ∗ owes (c.tc : Thread nD τ) (O₀ c) ∅ ∗ levAts L lv ∗ launchCred O₀ c
    ∗ PerCore.cellsGhost (pinD pcs a) EP p c ∗ PerCore.toksInit (pinD pcs a) EP p c ∗ G' c)
  let fin : Dev nD → sProp 𝕄 := fun c => iprop((Dat.toRs pdats p c).arraysAt (pinD pcs a c p).N ∗ Y c ∗ scopedSems0 (c.tc : Thread nD τ))
  refine (θ_run (Pipeline.defs pcs defs₀) _ _).mono (Q := fun r => (∀ c : Dev nD, ((∀ w, (Dat.toRs pdats p c).ArrAt w (pinD pcs a c p).N (r.2.mem (((pinD pcs a c p).spec w).arr.view.loc (c.tc : Thread nD τ))))
      ∧ QY c r.2) ∧ ∀ sm : SemLoc sig, sm.isScoped .tc = true → r.2.sem ((c.tc : Thread nD τ), sm) = 0)
      ∧ ∀ g' : GSem nD τ sig, g'.1.2 ≠ .tc → r.2.sem g' = 0)
    (fun r hr => hQ r.2 (fun c => ⟨fun w => ((pdats p c).toR_arrAt_iff w _ _).mp ((hr.1 c).1.1 w), (hr.1 c).1.2⟩)
      (sems_of_reads (fun c => (hr.1 c).2) hr.2))
    (adequate_tpu (Pipeline.defs pcs defs₀) _ _ _
      (reflect_intro_fupd_tc_sems (X := Unit) (Variants.lift 𝒱₀) (owing O₀) 0 (noBookings fun _ => le_rfl) (owing_of_ne O₀) u₀ (fun _ => pre) (fun _ => fin)
        (fun _ => iprop(emp)) Set.univ ?_ (fun _ c => ?_) fun _ => ?_))
  · -- the launch
    have hsplit (c : Dev nD) : (unscopedBufs c (fun b => m ((c.tc : Thread nD τ).loc b)) : sProp 𝕄)
        ⊢ iprop(arrs c ∗ prefHeld (pcs p).pre c (fun _ => fullShare) (a c p).1 ∗ restBufs c) := by
      have h1 := PerCore.unscopedBufs_split (pinD pcs a) p c hw.arr_unscoped hdistinct (Ix := Ix) (Name := Name) (U := U) (Lvl := Lvl) (fun b => m ((c.tc : Thread nD τ).loc b))
      have h2 := unscopedRest_split (Ix := Ix) (Name := Name) (U := U) (Lvl := Lvl) hp c (fun b => m ((c.tc : Thread nD τ).loc b))
      rw [show (fun k => m ((c.tc : Thread nD τ).loc ((pcs p).pre.ref k))) = (a c p).1 from funext (hpf c)] at h2
      have h3 : (bigSep Finset.univ fun w => (((c.tc : Thread nD τ).loc (arrRef (pinD pcs a c p).spec w)) ↦{fullShare} m ((c.tc : Thread nD τ).loc (arrRef (pinD pcs a c p).spec w)) : sProp 𝕄))
          = arrs c := by
        show _ = (Dat.toRs pdats p c).arrays (Dat.toRs pdats p c).A
        rw [PerCore.RDat.arrays_eq pcs a (Dat.toRs pdats) p c harr (hshare c)]
        exact bigSep_congr fun w _ => by rw [show (Dat.toRs pdats p c).A w = _ from hA c w]
      iintro H
      ihave H := (Entails.of_eq h1) $$ H
      icases H with ⟨Ha, Hr⟩
      ihave Hr := (Entails.of_eq h2) $$ Hr
      ihave Ha := (Entails.of_eq h3) $$ Ha
      isplitl [Ha] <;> iassumption
    have hcore (c : Dev nD) :
        coreInit (Ix := Ix) (Name := Name) (U := U) (Lvl := Lvl) (owing O₀) 0 (⟨m, fun _ => 0, g⟩ : MemSt nD τ sig Val) (c.tc : Thread nD τ)
          ⊢ iprop(cellsAt c ∗ ownSems0 osem c ∗ (arrs c ∗ prefHeld (pcs p).pre c (fun _ => fullShare) (a c p).1 ∗ restBufs c)
              ∗ owes (c.tc : Thread nD τ) (O₀ c) ∅ ∗ levels0 c ∗ launchCred O₀ c) := by
      refine (coreInit_boundary_owing O₀ m g c).trans ?_
      unfold boundary
      rw [hsems c]
      iintro ⟨⟨Hsc, ⟨⟨Hcells, Hos⟩, Hidle⟩, -⟩, Hub, -, HL, Hlv, -, Hcr⟩
      isplitl [Hsc Hcells Hidle]
      · isplitl [Hsc]; · iexact Hsc
        isplitl [Hcells] <;> iassumption
      isplitl [Hos]; · iexact Hos
      isplitl [Hub]; · iapply (hsplit c); iexact Hub
      isplitl [HL]; · iexact HL
      isplitl [Hlv] <;> iassumption
    have hcores := bigSep_mono (s := (Finset.univ : Finset (Dev nD))) fun c _ => hcore c
    simp only [bigSep_sep'] at hcores
    have hpick (Φ : P → Dev nD → sProp 𝕄) :
        (bigSep Finset.univ fun c : Dev nD => bigSep Finset.univ fun p' => Φ p' c) ⊢ bigSep Finset.univ fun c : Dev nD => Φ p c :=
      bigSep_mono fun c _ => BI.bigSep_elim (Finset.mem_univ p)
    iintro ⟨Hcores, Hu⟩
    ihave Hc := (show (_ : sProp 𝕄) ⊢ (_ : sProp 𝕄) from hcores) $$ Hcores
    icases Hc with ⟨Hat, Hos, ⟨Harr, Hpf, Hrest⟩, HL, Hlv, Hcr⟩
    imod (assign_levels L lv hL) $$ Hlv with Hla
    imod hu₀ $$ Hu with ⟨HP, HG⟩
    imod (PerCore.fund_ghost (pinD pcs a) EP phinj) $$ HP with ⟨Hg, Ht⟩
    imod hglob $$ [Hos Hrest HG] with HG'
    · rw [bigSep_sep', bigSep_sep']; isplitl [Hos]; · iexact Hos
      isplitl [Hrest] <;> iassumption
    imodintro
    iexists ()
    isplitr []
    · simp only [pre, cellsAt, bigSep_sep']
      isplitl [Hat]; · iexact Hat
      isplitl [Harr]; · iexact Harr
      isplitl [Hpf]; · iexact Hpf
      isplitl [HL]; · iexact HL
      isplitl [Hla]; · iapply (BI.bigSep_intro_persistent (S := Finset.univ) fun (c : Dev nD) _ => (BI.Entails.refl (levAts L lv : sProp 𝕄))); iexact Hla
      isplitl [Hcr]; · iexact Hcr
      isplitl [Hg]; · iapply (hpick fun p' c => PerCore.cellsGhost (pinD pcs a) EP p' c); iexact Hg
      isplitl [Ht]; · iapply (hpick fun p' c => PerCore.toksInit (pinD pcs a) EP p' c); iexact Ht
      iexact HG'
    · iempintro
  · -- one core's run: the region, then the return
    have hleave : iprop((Dat.toRs pdats p c).Φ (Fin.last (pinD pcs a c p).N) ∗ PerCore.cellsSems0 (pinD pcs a) p c ∗ Dat.staging (pinD pcs a c p) c ∗ PerCore.idleSems0 (pinD pcs a) phinj p (fun _ => ho) c)
        ⊢ iprop(Y c ∗ scopedSems0 (c.tc : Thread nD τ) ∗ scopedBufs (c.tc : Thread nD τ)) := by
      rw [hsems c, hbufs c]
      iintro ⟨HΦ, Hcells, Hst, Hidle⟩
      ihave H := (show (Dat.toRs pdats p c).Φ (Fin.last (pinD pcs a c p).N) ⊢ _ from hout c) $$ HΦ
      icases H with ⟨HY, Hos, Hrest⟩
      isplitl [HY]; · iexact HY
      isplitl [Hcells Hos Hidle]
      · isplitl [Hcells Hos]; · isplitl [Hcells] <;> iassumption
        iexact Hidle
      isplitl [Hst] <;> iassumption
    have hend : PerCore.RDat.EntryPost (pinD pcs a) (Dat.toRs pdats) ι p c
        ⊢ iprop((Dat.toRs pdats p c).arraysAt (pinD pcs a c p).N ∗ ∃ W, owes (c.tc : Thread nD τ) (0 : CellTallies nD τ sig Ix) W) := by
      unfold PerCore.RDat.EntryPost RDat.owesAt owesWithin
      rw [show (Dat.toRs pdats p c).owed (Fin.last _) = 0 from howedN c]
      iintro ⟨Ha, ⟨%W, -, HW⟩⟩
      isplitl [Ha]; · iexact Ha
      iexists W; iexact HW
    simp only [pre, cellsAt, arrs]
    rw [hmain c]
    iintro ⟨⟨Hsc, Hcells, Hidle⟩, Harr, Hpf, HL, #Hla, Hcr, Hg, Ht, HG⟩
    ihave Hpf2 := (prefHeld_share (pcs p).pre c (PosShare.mem_left_op_right fullShare) (a c p).1).1 $$ Hpf
    icases Hpf2 with ⟨-, Hpfr⟩
    ihave Hw := (hwaits c) $$ Hla
    iapply (fupd_wp frame (wpE (Pipeline.defs pcs defs₀) (Variants.lift 𝒱₀) (c.tc : Thread nD τ) none) Set.univ _ _)
    imod (PerCore.RDat.cellsInit_alloc (pinD pcs a) (Dat.toRs pdats) EP phinj p c) $$ [Hcells Hg] with ⟨%κ, -, Hinit⟩
    · isplitl [Hcells] <;> iassumption
    imodintro
    iapply (PerCore.RDat.wp_customCall_entry_frame pcs a (Dat.toRs pdats) ι EP κ phinj p defs₀ 𝒱₀ (fun _ => fullShare.right) c Set.univ (fun _ _ => Set.mem_univ _)
        (BodyObligation.loose _ (hbody c)).toR hne none (fun u h => nomatch h) (X := iprop(levAts L lv ∗ launchCred O₀ c ∗ G' c)) (Y := Y c)
        (R := scopedRest (pinD pcs a c p).spec c) (I := PerCore.idleSems0 (pinD pcs a) phinj p (fun _ => ho) c)
        (Entails.of_eq (hbufs c)) (hin c) hleave
        (k := fun _ => .ret ⟨⟩) (Q := fun _ => post (liftTc fin BI.emp) (c.tc : Thread nD τ))) $$ [Harr HL Hinit Ht Hpfr Hcr HG Hidle Hsc Hw]
    · isplitl [Harr HL Hinit Ht Hw]
      · unfold PerCore.RDat.EntryPre RDat.owesAt owesWithin
        rw [show (Dat.toRs pdats p c).owed 0 = O₀ c from howed₀ c]
        isplitl [Harr]; · iexact Harr
        isplitl [HL]
        · iexists ∅; isplitr; · ipureintro; rw [Finset.coe_empty]; exact Set.empty_subset _
          iexact HL
        isplitl [Hw]; · iexact Hw
        isplitl [Hinit] <;> iassumption
      isplitl [Hpfr]; · iexact Hpfr
      isplitl [Hcr HG]
      · isplitr; · iexact Hla
        isplitl [Hcr] <;> iassumption
      isplitl [Hidle]; · iexact Hidle
      iexact Hsc
    iintro ⟨Hpost, HY, Hss, -⟩
    rw [wp_ret]; imodintro
    unfold post; simp only [liftTc_tc, fin]
    ihave Hp := hend $$ Hpost
    icases Hp with ⟨Ha, HW⟩
    isplitr [HW]
    · isplitl [Ha]; · iexact Ha
      isplitl [HY] <;> iassumption
    · iexact HW
  · -- what the final memory reads
    have hread (c : Dev nD) (s' : Phys nD τ sig Val) : iprop(fin c ∗ SI s') ⊢ |={Set.univ}=>
        iprop(⌜((∀ w, (Dat.toRs pdats p c).ArrAt w (pinD pcs a c p).N (s'.mem.mem (((pinD pcs a c p).spec w).arr.view.loc (c.tc : Thread nD τ)))) ∧ QY c s'.mem)
          ∧ ∀ sm : SemLoc sig, sm.isScoped .tc = true → s'.mem.sem ((c.tc : Thread nD τ), sm) = 0⌝ ∗ SI s') := by
      simp only [fin]
      iintro ⟨⟨Ha, HY, Hss⟩, HSI⟩
      ihave %hz := (tcScoped_read_pers c s') $$ [Hss HSI]
      · isplitl [Hss] <;> iassumption
      ihave Hr := (PerCore.RDat.arraysAt_read pcs a (Dat.toRs pdats) p c harr (pinD pcs a c p).N s') $$ [Ha HSI]
      · isplitl [Ha] <;> iassumption
      icases Hr with ⟨%ha, HSI⟩
      imod (hY c s') $$ [HY HSI] with ⟨%hy, HSI⟩
      · isplitl [HY] <;> iassumption
      imodintro
      isplitr
      · ipureintro; exact ⟨⟨ha, hy⟩, hz⟩
      · iexact HSI
    iintro ⟨H, -, Hsc⟩ %s' HSI
    ihave %hsc := (scSems_read_zero m g s') $$ [Hsc HSI]
    · isplitl [Hsc] <;> iassumption
    imod (posts_fupd Finset.univ hread s') $$ [H HSI] with %h
    · isplitl [H] <;> iassumption
    imodintro
    ipureintro
    exact ⟨fun c => h c (Finset.mem_univ c), hsc⟩

end Cert.Exchange

end
-- ==== Proof.Exchange.lean ====
/-
  The exchange of a kernel whose devices copy into each other's result arrays without a handshake.

  Every device makes, for each `j : J`, one remote copy to its peer `peer j c` and, for each `k : K`, one copy of its
  own. A copy has its own semaphores, used once. So there are three kinds of cell per device — the sending cell and
  the receiving cell of `j`, the cell of the local copy `k` — each with ONE round of ONE duty, which pays, on the cell's
  own device,

      sending `j` on `c`    the share of the source that `c` lent to the copy,
      receiving `j` on `c`  the elements that peer `peer j c` has overwritten, at their new contents,
      local `k` on `c`      the elements overwritten and the source's share.

  Waiter of every cell is its own device, which waits once for the whole amount. What a sender needs of its peer (the
  elements to overwrite, `room`; the duty token of the peer's receiving cell) is dealt at the launch. A device owes, at
  launch, the receiving cells of its peers; it owes nothing once all its copies are started, and it waits only then.

  The state of one device in the middle of its body is ONE assertion `St c l w d`: the copies `l` are still to be
  started, the cells `w` have still to be waited for, the cells `d` are done. `step_push`, `step_copy`, `step_wait` move
  one entry of these lists.
-/
module

public import proofs.«01_k».proof.Proof.Launch
public import Idealize.ShloMosaic.Lib.Pipeline.Launch
public import Idealize.ShloMosaic.Lib.Pipeline.Kit
public import Idealize.ShloMosaic.Lib.Tactic

@[expose] public section

noncomputable section

namespace Cert.Exchange

open Idealize.ShloMosaic Idealize.ShloMosaic.TcCoe
open Idealize.ShloMosaic.Rounds
open Idealize.SL Idealize.SL.RA Idealize.SL.BI
open scoped Idealize.SL.BI
open Idealize.SL.BI.BIBase Idealize.SL.BI.Laws Idealize.SL.ProofMode Idealize.SL.Sem
open Idealize.ShloMosaic.Pipeline (OwnSemFacts ownSems0 launchCred launchCred_sum launchCred_tallyAt)

variable {nD : ℕ} {τ : Topo} {sig : RefSig} {F : FTy → Type} {J K : Type} [Fintype J] [DecidableEq J] [Fintype K] [DecidableEq K]

/-! ## Separating conjunctions over lists -/

section Lists
variable {M : Type} [URA M] {I I' : Type}

theorem seps_cons (x : I) (l : List I) (Φ : I → sProp M) :
    bigSepM ((x :: l : List I) : Multiset I) Φ = iprop(Φ x ∗ bigSepM (l : Multiset I) Φ) := bigSepM_cons x (l : Multiset I) Φ
theorem seps_nil (Φ : I → sProp M) : bigSepM (([] : List I) : Multiset I) Φ = iprop(emp) := rfl
theorem seps_univ [Fintype I] [DecidableEq I] {l : List I} (hl : l.Nodup) (hu : l.toFinset = Finset.univ) (Φ : I → sProp M) :
    bigSepM (l : Multiset I) Φ = bigSep Finset.univ Φ := by
  rw [← hu]; clear hu
  induction l with
  | nil => rfl
  | cons x l ih =>
    obtain ⟨hx, hl⟩ := List.nodup_cons.mp hl
    rw [seps_cons, ih hl, List.toFinset_cons, bigSep_insert (by rwa [List.mem_toFinset])]; rfl
theorem seps_map (f : I → I') (l : List I) (Φ : I' → sProp M) :
    bigSepM ((l.map f : List I') : Multiset I') Φ = bigSepM (l : Multiset I) fun i => Φ (f i) := by
  induction l with
  | nil => rfl
  | cons x l ih => rw [List.map_cons, seps_cons, seps_cons, ih]

end Lists

/-- The pipeline's ghost rounds beside the exchange's. -/
abbrev UU (nD : ℕ) (τ : Topo) (sig : RefSig) : Type := UR sig nD τ × UR sig nD τ

local notation "𝕄" => MT nD τ sig Unit (Elt F) ℕ (UU nD τ sig) ℕ

abbrev EP : Emb (UR sig nD τ) (MT nD τ sig Unit (Elt F) ℕ (UU nD τ sig) ℕ) := embL
abbrev ER : Emb (UR sig nD τ) (MT nD τ sig Unit (Elt F) ℕ (UU nD τ sig) ℕ) := embR

/-- A device's cells: the sending, the receiving and the local ones. -/
abbrev Cell (J K : Type) : Type := J ⊕ J ⊕ K

/-- The cells of remote copy `j`, and of local copy `k`. -/
abbrev snd (j : J) : Cell J K := .inl j
abbrev rcv (j : J) : Cell J K := .inr (.inl j)
abbrev own (k : K) : Cell J K := .inr (.inr k)

variable (J K nD τ sig F) in
structure Plan where
  peer : J → Dev nD → Dev nD
  peer_peer : ∀ j c, peer j (peer j c) = c
  sem : Cell J K → DmaSem sig
  sem_inj : Function.Injective sem
  amt : J ⊕ K → ℕ
  amt_pos : ∀ a, 0 < amt a
  pay : Cell J K → Dev nD → sProp 𝕄
  storable : ∀ x c, BI.Storable (upEmb : UEmb _ 𝕄) (pay x c)
  room : J ⊕ K → Dev nD → sProp 𝕄

namespace Plan

variable (P : Plan nD τ sig F J K)

/-- What one copy credits a cell with. -/
def amount : Cell J K → ℕ
  | .inl j => P.amt (.inl j)
  | .inr (.inl j) => P.amt (.inl j)
  | .inr (.inr k) => P.amt (.inr k)

theorem amount_pos (x : Cell J K) : 0 < P.amount x := by
  rcases x with j | j | k <;> exact P.amt_pos _

abbrev osem (x : Cell J K) : SemLoc sig := .dma (P.sem x)
abbrev cell (c : Dev nD) (x : Cell J K) : GSem nD τ sig := (c.tc, P.osem x)

theorem osem_inj : Function.Injective P.osem := fun _ _ h => P.sem_inj (SemLoc.dma.inj h)

open Classical in
/-- The cell a semaphore is, if it is one of the exchange's. -/
def find (s : SemLoc sig) : Option (Cell J K) := if h : ∃ x, P.osem x = s then some h.choose else none

theorem find_osem (x : Cell J K) : P.find (P.osem x) = some x := by
  have h : ∃ y, P.osem y = P.osem x := ⟨x, rfl⟩
  unfold find; rw [dif_pos h, P.osem_inj h.choose_spec]

/-! ## The schedule -/

def rd : Rounds.Schedule (GSem nD τ sig) Unit 𝕄 where
  duties g r := if r = 0 ∧ g.1.2 = .tc ∧ (P.find g.2).isSome then {()} else ∅
  unitless _ := False
  amount g _ _ := (P.find g.2).elim 1 P.amount
  payload g _ _ := (P.find g.2).elim iprop(emp) fun x => P.pay x g.1.1
  amount_pos g _ _ _ := by
    cases P.find g.2 with
    | none => exact Nat.one_pos
    | some x => exact P.amount_pos x

instance rd_storable (g : GSem nD τ sig) (r : ℕ) (d : Unit) : BI.Storable (upEmb : UEmb _ 𝕄) (P.rd.payload g r d) := by
  show BI.Storable upEmb ((P.find g.2).elim iprop(emp) fun x => P.pay x g.1.1)
  cases P.find g.2 with
  | none => show BI.Storable upEmb iprop(emp); infer_instance
  | some x => exact P.storable x g.1.1

theorem duties_cell (c : Dev nD) (x : Cell J K) : P.rd.duties (P.cell c x) 0 = {()} := by
  dsimp only [rd]; exact if_pos ⟨rfl, rfl, by rw [P.find_osem]; rfl⟩
theorem duties_later (g : GSem nD τ sig) : ∀ r, 1 ≤ r → P.rd.duties g r = ∅ :=
  fun r hr => by dsimp only [rd]; exact if_neg fun h => by omega
theorem amount_cell (c : Dev nD) (x : Cell J K) (u : Unit) : P.rd.amount (P.cell c x) 0 u = P.amount x := by
  dsimp only [rd]; rw [P.find_osem]; rfl
theorem expect_cell (c : Dev nD) (x : Cell J K) : P.rd.expect (P.cell c x) 0 = P.amount x := by
  unfold Schedule.expect Schedule.amountOf; rw [P.duties_cell, Finset.sum_singleton, P.amount_cell]
theorem payload_cell (c : Dev nD) (x : Cell J K) (u : Unit) : P.rd.payload (P.cell c x) 0 u = P.pay x c := by
  dsimp only [rd]; rw [P.find_osem]; rfl
theorem rest_cell (c : Dev nD) (x : Cell J K) :
    bigSep (P.rd.duties (P.cell c x) 0 \ ∅) (fun u => P.rd.payload (P.cell c x) 0 u) = P.pay x c := by
  rw [Finset.sdiff_empty, P.duties_cell, bigSep_singleton, P.payload_cell]

/-! ## What a device owes; the levels -/

/-- What device `c` owes while the copy `a` is not started. -/
def due (c : Dev nD) : J ⊕ K → CellTallies nD τ sig Unit
  | .inl j => tallyAt (P.cell (P.peer j c) (rcv j)) () (P.amount (rcv j))
  | .inr _ => 0

def owed (c : Dev nD) (l : List (J ⊕ K)) : CellTallies nD τ sig Unit := (l.map (P.due c)).sum

def O₀ (c : Dev nD) : CellTallies nD τ sig Unit := ∑ j : J, tallyAt (P.cell (P.peer j c) (rcv j)) () (P.amount (rcv j))

def L (g : GSem nD τ sig) : Finset Unit := if g.1.2 = .tc then {()} else ∅
open Classical in
def lv (g : GSem nD τ sig) (_ : Unit) : ℕ := if ∃ j : J, P.osem (rcv j) = g.2 then 1 else 0
theorem L_of_ne (g : GSem nD τ sig) (h : g.1.2 ≠ .tc) : L g = ∅ := if_neg h

theorem owed_all (c : Dev nD) {l : List (J ⊕ K)} (hl : l.Nodup) (hu : l.toFinset = Finset.univ) : P.owed c l = P.O₀ c := by
  unfold owed O₀
  rw [← List.sum_toFinset _ hl, hu, Fintype.sum_sum_type]
  simp only [due, Finset.sum_const_zero, add_zero]

theorem mayWait_other (c : Dev nD) (s : SemLoc sig) (hs : ∀ j : J, P.osem (rcv j) ≠ s) (O : CellTallies nD τ sig Unit)
    (hO : O = P.O₀ c ∨ O = 0) : (levAts L P.lv : sProp 𝕄) ⊢ MayWait (c.tc : Thread nD τ) s () O := by
  rcases hO with rfl | rfl
  · refine Pipeline.mayWait_of_levAts (by unfold L; rw [if_pos rfl]; exact Finset.mem_singleton_self _) fun g i hg => ?_
    unfold O₀ at hg
    obtain ⟨j, -, hj⟩ := Pipeline.sum_pos_exists hg
    obtain ⟨rfl, rfl⟩ := Pipeline.tallyAt_pos hj
    refine ⟨by unfold L; rw [if_pos rfl]; exact Finset.mem_singleton_self _, ?_⟩
    unfold lv
    rw [if_neg (fun ⟨j, h⟩ => hs j h), if_pos ⟨j, rfl⟩]; exact Nat.one_pos
  · rw [MayWait_zero]; iintro -; iempintro

theorem creds (c : Dev nD) : (launchCred P.O₀ c : sProp 𝕄)
    ⊢ bigSep Finset.univ fun j : J => cred (tallyAt (P.cell c (rcv j)) () (P.amount (rcv j))) := by
  unfold O₀
  rw [launchCred_sum]
  exact bigSep_mono fun j _ => launchCred_tallyAt _ (P.peer j) (P.peer j) (P.peer_peer j) (P.peer_peer j) _ _ _

/-! ## The state of one device -/

/-- Every device's cells are the schedule's, at round 0. -/
def records (κ : Dev nD × Cell J K → ℕ) : sProp 𝕄 :=
  iprop((bigSep Finset.univ fun cx : Dev nD × Cell J K => cellInv ER P.rd (κ cx) (P.cell cx.1 cx.2))
    ∗ bigSep Finset.univ fun cx : Dev nD × Cell J K => reached ER (P.cell cx.1 cx.2) 0)
instance records_persistent (κ : Dev nD × Cell J K → ℕ) : BI.Persistent (P.records κ) := by unfold records; infer_instance

theorem inv_at (κ : Dev nD × Cell J K → ℕ) (c : Dev nD) (x : Cell J K) :
    (bigSep Finset.univ fun cx : Dev nD × Cell J K => (cellInv ER P.rd (κ cx) (P.cell cx.1 cx.2) : sProp 𝕄))
      ⊢ cellInv ER P.rd (κ (c, x)) (P.cell c x) :=
  bigSep_elim (Φ := fun cx : Dev nD × Cell J K => cellInv ER P.rd (κ cx) (P.cell cx.1 cx.2)) (Finset.mem_univ (c, x))
theorem reached_at (c : Dev nD) (x : Cell J K) :
    (bigSep Finset.univ fun cx : Dev nD × Cell J K => (reached ER (P.cell cx.1 cx.2) 0 : sProp 𝕄)) ⊢ reached ER (P.cell c x) 0 :=
  bigSep_elim (Φ := fun cx : Dev nD × Cell J K => reached ER (P.cell cx.1 cx.2) 0) (Finset.mem_univ (c, x))

/-- A copy to be started: its resources, and the positions of the cells the device will wait on for it. -/
def start (c : Dev nD) : J ⊕ K → sProp 𝕄
  | .inl j => iprop((P.pay (snd j) c ∗ P.room (.inl j) c) ∗ atPos ER (P.cell c (snd j)) 0 ∅ 0
      ∗ dutyTok ER (P.cell c (snd j)) 0 () ∗ dutyTok ER (P.cell (P.peer j c) (rcv j)) 0 ())
  | .inr k => iprop(P.room (.inr k) c ∗ atPos ER (P.cell c (own k)) 0 ∅ 0 ∗ dutyTok ER (P.cell c (own k)) 0 ())

/-- A cell to be waited for: its credit and the position in it. -/
def wait (c : Dev nD) (x : Cell J K) : sProp 𝕄 :=
  iprop(cred (tallyAt (P.cell c x) () (P.amount x)) ∗ atPos ER (P.cell c x) 0 ∅ 0)

/-- A cell waited for: its payload, and its counter back. -/
def done (c : Dev nD) (x : Cell J K) : sProp 𝕄 := iprop(P.pay x c ∗ semVal (P.cell c x) 0)

def St (c : Dev nD) (l : List (J ⊕ K)) (w d : List (Cell J K)) : sProp 𝕄 :=
  iprop((∃ κ, P.records κ) ∗ bigSepM (l : Multiset (J ⊕ K)) (P.start c) ∗ bigSepM (w : Multiset (Cell J K)) (P.wait c)
    ∗ bigSepM (d : Multiset (Cell J K)) (P.done c) ∗ ∃ W, owes (c.tc : Thread nD τ) (P.owed c l) W)

/-- The cell waited for first does not matter. -/
theorem St_perm (c : Dev nD) (l : List (J ⊕ K)) {w w' d d' : List (Cell J K)} (h : w.Perm w') (h' : d.Perm d') :
    P.St c l w d = P.St c l w' d' := by
  unfold St; rw [Multiset.coe_eq_coe.mpr h, Multiset.coe_eq_coe.mpr h']

variable {Λ : Labels} {defs : Defs nD τ sig (Elt F) Λ} {𝒱 : Variants}

/-- A remote copy is started. -/
theorem step_push {c n : Dev nD} (j : J) (hn : n = P.peer j c) {sp sp' : Space} {s : Shape} {e : EltTy}
    {src : Memref sig .tc sp s e} {dst : Memref sig .tc sp' s e} {sS sR : DmaSem sig}
    {hsc : (dst : Memref sig (Dev.tc n : Thread nD τ).2.kind sp' s e).view.ref.isScScratch = false}
    {hsrc : src.view.WordExact} {hdst : dst.view.WordExact}
    {hsem : DmaTarget.Typed sp (.dma sR) (.remote (Dev.tc n : Thread nD τ) dst (.dma sS) hsc)}
    {α : Type} {Q : α → sProp 𝕄} {k : PUnit → Prog (TpuEff nD τ sig (Elt F) Λ .tc) α}
    {l : List (J ⊕ K)} {w d : List (Cell J K)} {R : sProp 𝕄}
    (hS : sS = P.sem (snd j)) (hR : sR = P.sem (rcv j)) (hN : dst.view.dmaCredit = P.amt (.inl j))
    {q : PosShare TreeShare} {fs : Buf (Elt F) (src.view.loc (c.tc : Thread nD τ))}
    (hpay : P.pay (snd j) c ⊣⊢ (src.view.loc (c.tc : Thread nD τ) ↦[src.view.set]{q} fs))
    (hroom : P.room (.inl j) c ⊢ iprop(∃ fd, dst.view.loc ((P.peer j c).tc : Thread nD τ) ↦[dst.view.set]{fullShare} fd))
    (hland : ∀ fd, (dst.view.loc ((P.peer j c).tc : Thread nD τ) ↦[dst.view.set]{fullShare} (dst.view.write (Elt F) fd (src.view.read (Elt F) fs) Finset.univ))
      ⊢ P.pay (rcv j) (P.peer j c))
    (hr : τ.routes (c.tc : Thread nD τ) ((P.peer j c).tc : Thread nD τ) = true := by routes)
    (hk : iprop(P.St c l (snd j :: w) d ∗ R) ⊢ wp frame (wpE defs 𝒱 (c.tc : Thread nD τ) none) Set.univ (k ⟨⟩) Q) :
    iprop(P.St c (.inl j :: l) w d ∗ R)
      ⊢ wp frame (wpE defs 𝒱 (c.tc : Thread nD τ) none) Set.univ
          (.op (.enqueueDma src (.remote (Dev.tc n : Thread nD τ) dst (.dma sS) hsc) (.dma sR) hsrc hdst hsem) k) Q := by
  subst hn hS hR
  unfold St
  rw [seps_cons]
  have hO : P.owed c (.inl j :: l) = P.owed c l + tallyAt (P.cell (P.peer j c) (rcv j)) () (P.amount (rcv j)) := by
    unfold owed; rw [List.map_cons, List.sum_cons, add_comm]; rfl
  rw [hO]
  simp only [start, records]
  iintro ⟨⟨⟨%κ, #HI, #HR⟩, ⟨⟨⟨Hp, Hr⟩, Hat, Ht1, Ht2⟩, Hl⟩, Hw, Hd, ⟨%W, HO⟩⟩, HR'⟩
  ihave Hp := hpay.1 $$ Hp
  ihave Hr := hroom $$ Hr
  icases Hr with ⟨%fd, Hr⟩
  iapply (Rounds.wp_send_pointsTo 𝒱 ER P.rd (c.tc : Thread nD τ) none (κ₁ := κ (c, snd j)) (κ₂ := κ (P.peer j c, rcv j))
      (r₁ := 0) (r₂ := 0) (d₁ := ()) (d₂ := ()) (fd := fd) (fs := fs) (q := q)
      (by rw [P.duties_cell]; exact Finset.mem_singleton_self _) (by rw [P.duties_cell]; exact Finset.mem_singleton_self _)
      () () (P.amt (.inl j)) ((View.amount_dma _ _).trans hN) (P.amount_cell c (snd j) ()) (P.amount_cell (P.peer j c) (rcv j) ()) (P.owed c l) rfl (W := W)
      (by rw [P.payload_cell]; exact hpay.2) (by rw [P.payload_cell]; exact hland fd) hr) $$ [Hp Hr HO Ht1 Ht2]
  · isplitr; · iapply (P.inv_at κ c (snd j)); iexact HI
    isplitr; · iapply (P.inv_at κ (P.peer j c) (rcv j)); iexact HI
    isplitl [Hp]; · iexact Hp
    isplitl [Hr]; · iexact Hr
    isplitl [HO]; · iexact HO
    isplitl [Ht1]; · iexact Ht1
    isplitr; · iapply (P.reached_at c (snd j)); iexact HR
    isplitl [Ht2]; · iexact Ht2
    iapply (P.reached_at (P.peer j c) (rcv j)); iexact HR
  iintro ⟨Hc, HO⟩
  iapply hk
  unfold St
  rw [seps_cons]
  simp only [wait, records]
  isplitr [HR']
  · isplitr
    · iexists κ; isplitr; (· iexact HI); iexact HR
    isplitl [Hl]; · iexact Hl
    isplitl [Hc Hat Hw]
    · isplitl [Hc Hat]
      · isplitl [Hc]; (· iexact Hc); iexact Hat
      iexact Hw
    isplitl [Hd]; · iexact Hd
    iexists W; iexact HO
  iexact HR'

/-- A local copy is started. -/
theorem step_copy {c : Dev nD} (i : K) {sp sp' : Space} {s : Shape} {e : EltTy}
    {src : Memref sig .tc sp s e} {dst : Memref sig .tc sp' s e} {sm : DmaSem sig}
    {hsrc : src.view.WordExact} {hdst : dst.view.WordExact}
    {hsem : DmaTarget.Typed (nD := nD) (τ := τ) sp (.dma sm) (.here (p := .tc) dst)}
    {α : Type} {Q : α → sProp 𝕄} {k : PUnit → Prog (TpuEff nD τ sig (Elt F) Λ .tc) α}
    {l : List (J ⊕ K)} {w d : List (Cell J K)} {R : sProp 𝕄}
    (hm : sm = P.sem (own i)) (hN : dst.view.dmaCredit = P.amt (.inr i))
    {q : PosShare TreeShare} {fs : Buf (Elt F) (src.view.loc (c.tc : Thread nD τ))}
    (hroom : P.room (.inr i) c ⊢ iprop((src.view.loc (c.tc : Thread nD τ) ↦[src.view.set]{q} fs)
      ∗ ∃ fd, dst.view.loc (c.tc : Thread nD τ) ↦[dst.view.set]{fullShare} fd))
    (hland : ∀ fd, iprop((dst.view.loc (c.tc : Thread nD τ) ↦[dst.view.set]{fullShare} (dst.view.write (Elt F) fd (src.view.read (Elt F) fs) Finset.univ))
      ∗ (src.view.loc (c.tc : Thread nD τ) ↦[src.view.set]{q} fs)) ⊢ P.pay (own i) c)
    (hk : iprop(P.St c l (own i :: w) d ∗ R) ⊢ wp frame (wpE defs 𝒱 (c.tc : Thread nD τ) none) Set.univ (k ⟨⟩) Q) :
    iprop(P.St c (.inr i :: l) w d ∗ R)
      ⊢ wp frame (wpE defs 𝒱 (c.tc : Thread nD τ) none) Set.univ
          (.op (.enqueueDma src (.here dst) (.dma sm) hsrc hdst hsem) k) Q := by
  subst hm
  unfold St
  rw [seps_cons]
  have hO : P.owed c (.inr i :: l) = P.owed c l := by
    unfold owed; rw [List.map_cons, List.sum_cons]; exact zero_add _
  rw [hO]
  simp only [start, records]
  iintro ⟨⟨⟨%κ, #HI, #HR⟩, ⟨⟨Hr, Hat, Ht⟩, Hl⟩, Hw, Hd, HO⟩, HR'⟩
  ihave Hr := hroom $$ Hr
  icases Hr with ⟨Hs, ⟨%fd, Hr⟩⟩
  iapply (Rounds.wp_copy_pointsTo 𝒱 ER P.rd (c.tc : Thread nD τ) none (κ := κ (c, own i)) (r := 0) (d := ()) (fd := fd) (fs := fs) (q := q)
      (by rw [P.duties_cell]; exact Finset.mem_singleton_self _)
      () (P.amt (.inr i)) ((View.amount_dma _ _).trans hN) (P.amount_cell c (own i) ())
      (by rw [P.payload_cell]; exact hland fd)) $$ [Hs Hr Ht]
  · isplitr; · iapply (P.inv_at κ c (own i)); iexact HI
    isplitl [Hs]; · iexact Hs
    isplitl [Hr]; · iexact Hr
    isplitl [Ht]; · iexact Ht
    iapply (P.reached_at c (own i)); iexact HR
  iintro Hc
  iapply hk
  unfold St
  rw [seps_cons]
  simp only [wait, records]
  isplitr [HR']
  · isplitr
    · iexists κ; isplitr; (· iexact HI); iexact HR
    isplitl [Hl]; · iexact Hl
    isplitl [Hc Hat Hw]
    · isplitl [Hc Hat]
      · isplitl [Hc]; (· iexact Hc); iexact Hat
      iexact Hw
    isplitl [Hd] <;> iassumption
  iexact HR'

/-- A cell is waited for, nothing left to be started. -/
theorem step_wait {c : Dev nD} (x : Cell J K) {sp sp' : Space} {s s' : Shape} {e e' : EltTy} {κ' : Kind} {sm : DmaSem sig}
    {src : Memref sig .tc sp' s' e'} {dst : Memref sig κ' sp s e}
    {hsrc : src.view.WordExact} {hdst : dst.view.WordExact}
    {α : Type} {Q : α → sProp 𝕄} {k : PUnit → Prog (TpuEff nD τ sig (Elt F) Λ .tc) α}
    {w d : List (Cell J K)} {R : sProp 𝕄}
    (hm : sm = P.sem x) (hN : dst.view.dmaCredit = P.amount x)
    (hk : iprop(P.St c [] w (x :: d) ∗ R) ⊢ wp frame (wpE defs 𝒱 (c.tc : Thread nD τ) none) Set.univ (k ⟨⟩) Q) :
    iprop(P.St c [] (x :: w) d ∗ R)
      ⊢ wp frame (wpE defs 𝒱 (c.tc : Thread nD τ) none) Set.univ (.op (.waitDma2 sm src dst hsrc hdst) k) Q := by
  subst hm
  unfold St
  rw [seps_cons]
  simp only [wait, records]
  iintro ⟨⟨⟨%κ, #HI, #HR⟩, Hl, ⟨⟨Hc, Hat⟩, Hw⟩, Hd, ⟨%W, HO⟩⟩, HR'⟩
  rw [show P.owed c [] = 0 from rfl]
  iapply (Rounds.wp_wait_rest_token 𝒱 ER P.rd (c.tc : Thread nD τ) none (κ := κ (c, x))
      (wpE_waitDma2_eq 𝒱 (c.tc : Thread nD τ) none Set.univ) (Set.mem_univ _) () (O := 0) (W := W) (R := 0) (m := 0) (T := ∅)
      (by rw [Nat.zero_add, P.expect_cell]; exact hN)) $$ [Hc HO Hat]
  · isplitr; · iapply (P.inv_at κ c x); iexact HI
    isplitl [Hc]
    · rw [← hN]; iexact Hc
    isplitl [HO]; · iexact HO
    isplitr; · rw [MayWait_zero]; iempintro
    iexact Hat
  iintro ⟨HO, Hat, -, Hpay⟩
  ihave Hp := (Entails.of_eq (P.rest_cell c x)) $$ Hpay
  ihave Hinv := (P.inv_at κ c x) $$ HI
  iapply (fupd_wp frame (wpE defs 𝒱 (c.tc : Thread nD τ) none) Set.univ _ _)
  imod (Rounds.cell_close ER P.rd (Set.mem_univ (κ (c, x))) (fun h => h) (R := 0 + 1) (P.duties_later (P.cell c x))) $$ [Hinv Hat] with Hz
  · isplitl [Hinv] <;> iassumption
  imodintro
  iapply hk
  unfold St
  rw [seps_cons]
  simp only [done, records]
  isplitr [HR']
  · isplitr
    · iexists κ; isplitr; (· iexact HI); iexact HR
    isplitl [Hl]; · iexact Hl
    isplitl [Hw]; · iexact Hw
    isplitl [Hp Hz Hd]
    · isplitl [Hp Hz]
      · isplitl [Hp] <;> iassumption
      iexact Hd
    iexists _; iexact HO
  iexact HR'

/-! ## The states between the grid points -/

/-- Before the first copy. -/
def begin (c : Dev nD) : sProp 𝕄 :=
  iprop((∃ κ, P.records κ) ∗ bigSep Finset.univ (P.start c) ∗ bigSep Finset.univ fun j : J => P.wait c (rcv j))
/-- All copies started, none waited for. -/
def mid (c : Dev nD) : sProp 𝕄 := iprop((∃ κ, P.records κ) ∗ bigSep Finset.univ (P.wait c))
/-- All waited for. -/
def fin (c : Dev nD) : sProp 𝕄 := bigSep Finset.univ (P.done c)

theorem begin_St (c : Dev nD) (l : List (J ⊕ K)) (hl : l.Nodup) (hu : l.toFinset = Finset.univ) (js : List J) (hjs : js.Nodup)
    (hju : js.toFinset = Finset.univ) (W : Waits sig Unit) :
    iprop(P.begin c ∗ owes (c.tc : Thread nD τ) (P.O₀ c) W) ⊢ P.St c l (js.map rcv) [] := by
  unfold begin St
  rw [seps_univ hl hu, seps_map, seps_univ hjs hju, P.owed_all c hl hu, seps_nil]
  iintro ⟨⟨HR, Hs, Hw⟩, HO⟩
  isplitl [HR]; · iexact HR
  isplitl [Hs]; · iexact Hs
  isplitl [Hw]; · iexact Hw
  isplitr; · iempintro
  iexists W; iexact HO

theorem St_mid (c : Dev nD) (w : List (Cell J K)) (hw : w.Nodup) (hu : w.toFinset = Finset.univ) :
    P.St c [] w [] ⊢ iprop(P.mid c ∗ ∃ W, owes (c.tc : Thread nD τ) 0 W) := by
  unfold mid St
  rw [seps_univ hw hu]
  iintro ⟨HR, -, Hw, -, HO⟩
  isplitr [HO]
  · isplitl [HR] <;> iassumption
  iexact HO

theorem mid_St (c : Dev nD) (w : List (Cell J K)) (hw : w.Nodup) (hu : w.toFinset = Finset.univ) (W : Waits sig Unit) :
    iprop(P.mid c ∗ owes (c.tc : Thread nD τ) 0 W) ⊢ P.St c [] w [] := by
  unfold mid St
  rw [seps_univ hw hu, seps_nil, seps_nil]
  iintro ⟨⟨HR, Hw⟩, HO⟩
  isplitl [HR]; · iexact HR
  isplitr; · iempintro
  isplitl [Hw]; · iexact Hw
  isplitr; · iempintro
  iexists W; iexact HO

theorem St_fin (c : Dev nD) (d : List (Cell J K)) (hd : d.Nodup) (hu : d.toFinset = Finset.univ) :
    P.St c [] [] d ⊢ iprop(P.fin c ∗ ∃ W, owes (c.tc : Thread nD τ) 0 W) := by
  unfold fin St
  rw [seps_univ hd hu]
  iintro ⟨-, -, -, Hd, HO⟩
  isplitl [Hd]; (· iexact Hd); iexact HO

theorem fin_split (c : Dev nD) : P.fin c = iprop((bigSep Finset.univ fun x => P.pay x c) ∗ ownSems0 P.osem c) := by
  unfold fin done; rw [bigSep_sep']; rfl

/-! ## The launch -/

theorem cell_inj : Function.Injective (fun cx : Dev nD × Cell J K => P.cell cx.1 cx.2) := by
  rintro ⟨c, x⟩ ⟨c', x'⟩ h
  have h1 : c = c' := congrArg (fun g : GSem nD τ sig => g.1.1) h
  have h2 : x = x' := P.osem_inj (congrArg Prod.snd h)
  subst h1 h2; rfl
def cells : Finset (GSem nD τ sig) := Finset.univ.map ⟨fun cx : Dev nD × Cell J K => P.cell cx.1 cx.2, P.cell_inj⟩
def toks : Finset (GSem nD τ sig × ℕ × Unit) :=
  Finset.univ.map ⟨fun cx : Dev nD × Cell J K => (P.cell cx.1 cx.2, 0, ()), fun _ _ h => P.cell_inj (congrArg Prod.fst h)⟩

/-- One device's ghost state at the launch. -/
def G (c : Dev nD) : sProp 𝕄 :=
  iprop((bigSep Finset.univ fun x => roundState ER P.rd (P.cell c x) 0) ∗ (bigSep Finset.univ fun x => reached ER (P.cell c x) 0)
    ∗ (bigSep Finset.univ fun x => atPos ER (P.cell c x) 0 ∅ 0) ∗ bigSep Finset.univ fun x => dutyTok ER (P.cell c x) 0 ())

theorem fund_cells : BI.own (ER (initOf P.cells P.toks)) ⊢ (|==> bigSep Finset.univ P.G : sProp 𝕄) := by
  have hX (Φ : GSem nD τ sig → sProp 𝕄) : bigSep P.cells Φ = bigSep Finset.univ fun c : Dev nD => bigSep Finset.univ fun x => Φ (P.cell c x) := by
    unfold cells; rw [bigSep_map, bigSep_univ_prod]; rfl
  have hT : bigSep P.toks (fun x => (dutyTok ER x.1 x.2.1 x.2.2 : sProp 𝕄))
      = bigSep Finset.univ fun c : Dev nD => bigSep Finset.univ fun x => dutyTok ER (P.cell c x) 0 () := by
    unfold toks; rw [bigSep_map, bigSep_univ_prod]; rfl
  iintro HX
  imod (Rounds.fund ER P.rd P.cells P.toks) $$ HX with ⟨Hst, Hr, Hat, Htok⟩
  imodintro
  ihave Hst := (Entails.of_eq (hX fun g => roundState ER P.rd g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hr]; · iexact Hr
  isplitl [Hat]; · iexact Hat
  iexact Htok

/-- What a device enters its kernel with, but for the credit. -/
def entry (c : Dev nD) : sProp 𝕄 :=
  iprop((∃ κ, P.records κ) ∗ bigSep Finset.univ (P.start c) ∗ bigSep Finset.univ fun j : J => atPos ER (P.cell c (rcv j)) 0 ∅ 0)

theorem entry_begin (c : Dev nD) : iprop(launchCred P.O₀ c ∗ P.entry c) ⊢ P.begin c := by
  unfold entry begin
  simp only [wait]
  iintro ⟨Hc, HR, Hs, Ha⟩
  ihave Hc := (P.creds c) $$ Hc
  isplitl [HR]; · iexact HR
  isplitl [Hs]; · iexact Hs
  rw [bigSep_sep']
  isplitl [Hc]; (· iexact Hc); iexact Ha

/-- Over the three kinds of cell. -/
theorem over_cells (Φ : Cell J K → sProp 𝕄) : bigSep Finset.univ Φ
    = iprop((bigSep Finset.univ fun j : J => Φ (snd j)) ∗ (bigSep Finset.univ fun j : J => Φ (rcv j)) ∗ bigSep Finset.univ fun k : K => Φ (own k)) := by
  rw [bigSep_univ_sum, bigSep_univ_sum]; rfl
theorem over_copies (Φ : J ⊕ K → sProp 𝕄) : bigSep Finset.univ Φ
    = iprop((bigSep Finset.univ fun j : J => Φ (.inl j)) ∗ bigSep Finset.univ fun k : K => Φ (.inr k)) := by
  rw [bigSep_univ_sum]; rfl

theorem swap (j : J) (Φ : Dev nD → sProp 𝕄) : bigSep Finset.univ Φ = bigSep Finset.univ fun c => Φ (P.peer j c) :=
  bigSep_univ_equiv (⟨P.peer j, P.peer j, P.peer_peer j, P.peer_peer j⟩ : Dev nD ≃ Dev nD) Φ

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The duty tokens of the receiving cells go to the devices that will write there. -/
theorem deal_toks :
    (bigSep Finset.univ fun c : Dev nD => bigSep Finset.univ fun x : Cell J K => (dutyTok ER (P.cell c x) 0 () : sProp 𝕄))
      = bigSep Finset.univ fun c : Dev nD => iprop((bigSep Finset.univ fun j : J => dutyTok ER (P.cell c (snd j)) 0 ())
          ∗ (bigSep Finset.univ fun j : J => dutyTok ER (P.cell (P.peer j c) (rcv j)) 0 ())
          ∗ bigSep Finset.univ fun k : K => dutyTok ER (P.cell c (own k)) 0 ()) := by
  have h : (bigSep Finset.univ fun c : Dev nD => bigSep Finset.univ fun j : J => (dutyTok ER (P.cell c (rcv j)) 0 () : sProp 𝕄))
      = bigSep Finset.univ fun c : Dev nD => bigSep Finset.univ fun j : J => dutyTok ER (P.cell (P.peer j c) (rcv j)) 0 () := by
    rw [bigSep_univ_comm, bigSep_univ_comm (fun (c : Dev nD) (j : J) => (dutyTok ER (P.cell (P.peer j c) (rcv j)) 0 () : sProp 𝕄))]
    exact bigSep_congr fun j _ => P.swap j fun c => dutyTok ER (P.cell c (rcv j)) 0 ()
  simp only [over_cells, bigSep_sep']
  rw [h]

theorem start_all (c : Dev nD) :
    iprop((bigSep Finset.univ fun x : Cell J K => atPos ER (P.cell c x) 0 ∅ 0)
      ∗ ((bigSep Finset.univ fun j : J => dutyTok ER (P.cell c (snd j)) 0 ())
          ∗ (bigSep Finset.univ fun j : J => dutyTok ER (P.cell (P.peer j c) (rcv j)) 0 ())
          ∗ bigSep Finset.univ fun k : K => dutyTok ER (P.cell c (own k)) 0 ())
      ∗ (bigSep Finset.univ fun j : J => iprop(P.pay (snd j) c ∗ P.room (.inl j) c)) ∗ bigSep Finset.univ fun k : K => P.room (.inr k) c)
    ⊢ iprop(bigSep Finset.univ (P.start c) ∗ bigSep Finset.univ fun j : J => (atPos ER (P.cell c (rcv j)) 0 ∅ 0 : sProp 𝕄)) := by
  rw [over_cells, over_copies]
  simp only [start]
  rw [bigSep_sep' Finset.univ (fun j : J => iprop(P.pay (snd j) c ∗ P.room (.inl j) c)), bigSep_sep' Finset.univ (fun j : J => atPos ER (P.cell c (snd j)) 0 ∅ 0),
    bigSep_sep' Finset.univ (fun j : J => dutyTok ER (P.cell c (snd j)) 0 ()), bigSep_sep' Finset.univ (fun k : K => P.room (.inr k) c),
    bigSep_sep' Finset.univ (fun k : K => atPos ER (P.cell c (own k)) 0 ∅ 0)]
  iintro ⟨⟨Ha1, Ha2, Ha3⟩, ⟨Ht1, Ht2, Ht3⟩, Hp, Hk⟩
  isplitr [Ha2]
  · isplitl [Ha1 Ht1 Ht2 Hp]
    · isplitl [Hp]; · iexact Hp
      isplitl [Ha1]; · iexact Ha1
      isplitl [Ht1] <;> iassumption
    isplitl [Hk]; · iexact Hk
    isplitl [Ha3] <;> iassumption
  iexact Ha2

/-- The launch's global step: the cells' invariants, the tokens dealt, and with them the buffers, as `hdeal` deals them. -/
theorem glob (rest keep : Dev nD → sProp 𝕄)
    (hdeal : bigSep Finset.univ rest ⊢ bigSep Finset.univ fun c => iprop(keep c
      ∗ (bigSep Finset.univ fun j : J => iprop(P.pay (snd j) c ∗ P.room (.inl j) c)) ∗ bigSep Finset.univ fun k : K => P.room (.inr k) c)) :
    (bigSep Finset.univ fun c => iprop(ownSems0 P.osem c ∗ rest c ∗ P.G c))
      ⊢ |={Set.univ}=> bigSep Finset.univ fun c => iprop(P.entry c ∗ keep c) := by
  have hinv : iprop((bigSep Finset.univ fun c : Dev nD => ownSems0 P.osem c) ∗ bigSep Finset.univ fun c : Dev nD => bigSep Finset.univ fun x => roundState ER P.rd (P.cell c x) 0)
      ⊢ (|={Set.univ}=> bigSep Finset.univ fun cx : Dev nD × Cell J K => iprop(∃ κ : ℕ, cellInv ER P.rd κ (P.cell cx.1 cx.2)) : sProp 𝕄) := by
    rw [bigSep_univ_prod, ← bigSep_sep']
    refine (bigSep_mono fun c _ => ?_).trans (bigSep_fupd _ _)
    show iprop((bigSep Finset.univ fun x => semVal (P.cell c x) 0) ∗ _) ⊢ _
    rw [← bigSep_sep']
    exact (bigSep_mono fun x _ => (Rounds.body_intro ER P.rd (P.cell c x)).trans inv_alloc).trans (bigSep_fupd _ _)
  unfold G
  rw [bigSep_sep', bigSep_sep', bigSep_sep', bigSep_sep', bigSep_sep', P.deal_toks]
  iintro ⟨Hz, Hrest, Hst, Hre, Hat, Htok⟩
  imod hinv $$ [Hz Hst] with HI
  · isplitl [Hz] <;> iassumption
  ihave HK := (BI.bigSep_exists_pi Finset.univ (fun (cx : Dev nD × Cell J K) (κ : ℕ) => (cellInv ER P.rd κ (P.cell cx.1 cx.2) : sProp 𝕄))) $$ HI
  icases HK with ⟨%κ, #HI⟩
  ihave Hre := (Entails.of_eq (bigSep_univ_prod (fun cx : Dev nD × Cell J K => (reached ER (P.cell cx.1 cx.2) 0 : sProp 𝕄))).symm) $$ Hre
  icases Hre with #HR
  ihave Hd := hdeal $$ Hrest
  ihave Hd := (Entails.of_eq (bigSep_sep' Finset.univ keep _)) $$ Hd
  icases Hd with ⟨Hk, Hd⟩
  imodintro
  iapply (with_persistent (R := P.records κ)
    (Φ := fun c : Dev nD => iprop(keep c ∗ (bigSep Finset.univ fun x : Cell J K => atPos ER (P.cell c x) 0 ∅ 0)
      ∗ ((bigSep Finset.univ fun j : J => dutyTok ER (P.cell c (snd j)) 0 ())
          ∗ (bigSep Finset.univ fun j : J => dutyTok ER (P.cell (P.peer j c) (rcv j)) 0 ())
          ∗ bigSep Finset.univ fun k : K => dutyTok ER (P.cell c (own k)) 0 ())
      ∗ (bigSep Finset.univ fun j : J => iprop(P.pay (snd j) c ∗ P.room (.inl j) c)) ∗ bigSep Finset.univ fun k : K => P.room (.inr k) c))
    fun c _ => ?_)
  · show iprop(P.records κ ∗ keep c ∗ _) ⊢ _
    iintro ⟨#Hrec, Hk, H⟩
    ihave H := (P.start_all c) $$ H
    icases H with ⟨H1, H2⟩
    unfold entry
    isplitr [Hk]
    · isplitr
      · iexists κ; iexact Hrec
      isplitl [H1] <;> iassumption
    iexact Hk
  isplitr
  · unfold records
    isplitr
    · iexact HI
    iexact HR
  · rw [bigSep_sep' Finset.univ keep, bigSep_sep' Finset.univ (fun c : Dev nD => bigSep Finset.univ fun x : Cell J K => (atPos ER (P.cell c x) 0 ∅ 0 : sProp 𝕄)),
      bigSep_sep' Finset.univ (fun c : Dev nD => iprop((bigSep Finset.univ fun j : J => dutyTok ER (P.cell c (snd j)) 0 ())
          ∗ (bigSep Finset.univ fun j : J => dutyTok ER (P.cell (P.peer j c) (rcv j)) 0 ())
          ∗ bigSep Finset.univ fun k : K => dutyTok ER (P.cell c (own k)) 0 ()))]
    isplitl [Hk]; · iexact Hk
    isplitl [Hat]; · iexact Hat
    isplitl [Htok] <;> iassumption

end Plan

end Cert.Exchange

end
-- ==== Proof.Swap.lean ====
/-
  The exchange (Exchange.lean) of arrays: every device sends one part of each of its arrays `inp k` to each device, the
  part for itself by a local copy. Device `c` keeps what device `d` sends it as the elements `B k c d` of its array `out k`.

  `A k c d` is the part for device `d` on device `c`, lent at the share `share k d`: the whole array at an eighth of the share when all
  devices are sent the same, a block at the full share when each is sent its own. `x k c` are the contents of `inp k` on
  device `c`, `y k c` those that `out k` has in the end.
-/
module

public import proofs.«01_k».proof.Proof.Exchange
public import Idealize.ShloMosaic.Lib.Ring

@[expose] public section

noncomputable section

namespace Cert.Exchange

open Idealize.ShloMosaic Idealize.ShloMosaic.TcCoe
open Idealize.ShloMosaic.Rounds
open Idealize.SL Idealize.SL.RA Idealize.SL.BI
open scoped Idealize.SL.BI
open Idealize.SL.BI.BIBase Idealize.SL.BI.Laws Idealize.SL.ProofMode Idealize.SL.Sem

variable {nD : ℕ} {τ : Topo} {sig : RefSig} {F : FTy → Type} {K M : Type} [Fintype M] [DecidableEq M] [Fintype K] [DecidableEq K]

local notation "𝕄" => MT nD τ sig Unit (Elt F) ℕ (UU nD τ sig) ℕ

/-- Contents of an array on device `c`. -/
abbrev On (τ : Topo) (F : FTy → Type) (c : Dev nD) (b : Ref sig .tc) : Type := Buf (Elt F) ((c.tc : Thread nD τ).loc b)

theorem sep_swap (P Q : sProp 𝕄) : iprop(P ∗ Q) = iprop(Q ∗ P) := by
  have h : ∀ P Q : sProp 𝕄, iprop(P ∗ Q) ⊢ iprop(Q ∗ P) := fun P Q => by iintro ⟨H, H'⟩; isplitl [H'] <;> iassumption
  exact BI.Entails.antisymm (h P Q) (h Q P)
theorem seps_mono {I : Type} [Fintype I] {Φ Ψ : I → sProp 𝕄} (h : ∀ i, Φ i ⊢ Ψ i) : (bigSep Finset.univ Φ : sProp 𝕄) ⊢ (bigSep Finset.univ Ψ : sProp 𝕄) :=
  bigSep_mono fun i _ => h i
theorem seps_sep {I : Type} [Fintype I] (Φ Ψ : I → sProp 𝕄) :
    bigSep Finset.univ (fun i => iprop(Φ i ∗ Ψ i)) = iprop(bigSep Finset.univ Φ ∗ bigSep Finset.univ Ψ) := bigSep_sep _ _ _
theorem sep_mono₂ {P P' Q Q' : sProp 𝕄} (h : P ⊢ P') (h' : Q ⊢ Q') : iprop(P ∗ Q) ⊢ iprop(P' ∗ Q') := BI.sep_mono h h'

variable (nD τ sig F K M) in
structure Arrays where
  peer : M → Dev nD → Dev nD
  peer_peer : ∀ m c, peer m (peer m c) = c
  peer_all : ∀ c, Function.Bijective fun o : Option M => o.elim c fun m => peer m c
  inp : K → Ref sig .tc
  out : K → Ref sig .tc
  A : (k : K) → (c d : Dev nD) → Finset (Idx ((c.tc : Thread nD τ).loc (inp k)))
  share : K → Dev nD → PosShare TreeShare
  B : (k : K) → (c d : Dev nD) → Finset (Idx ((c.tc : Thread nD τ).loc (out k)))
  parts : ∀ k (c : Dev nD) (f : On τ F c (inp k)), (((c.tc : Thread nD τ).loc (inp k)) ↦{fullShare} f : sProp 𝕄)
    = bigSep Finset.univ fun d => ((c.tc : Thread nD τ).loc (inp k)) ↦[A k c d]{share k d} f
  disj : ∀ k c d d', d ≠ d' → Disjoint (B k c d) (B k c d')
  cover : ∀ k c, Finset.univ.biUnion (B k c) = Finset.univ
  x : (k : K) → (c : Dev nD) → On τ F c (inp k)
  y : (k : K) → (c : Dev nD) → On τ F c (out k)
  sem : Cell (K × M) K → DmaSem sig
  sem_inj : Function.Injective sem
  size : K → ℕ
  size_pos : ∀ k, 0 < size k

namespace Arrays

variable (E : Arrays nD τ sig F K M)

/-- The part of `inp k` on device `c` that goes to device `d`. -/
def lent (k : K) (c d : Dev nD) : sProp 𝕄 := ((c.tc : Thread nD τ).loc (E.inp k)) ↦[E.A k c d]{E.share k d} E.x k c
/-- The elements of `out k` on device `c` that device `d` writes: before, and after. -/
def free (k : K) (c d : Dev nD) : sProp 𝕄 := iprop(∃ f, ((c.tc : Thread nD τ).loc (E.out k)) ↦[E.B k c d]{fullShare} f)
def landed (k : K) (c d : Dev nD) : sProp 𝕄 := ((c.tc : Thread nD τ).loc (E.out k)) ↦[E.B k c d]{fullShare} E.y k c

instance (k : K) (c d : Dev nD) : BI.Storable (upEmb : UEmb _ 𝕄) (E.lent k c d) := by unfold lent; infer_instance
instance (k : K) (c d : Dev nD) : BI.Storable (upEmb : UEmb _ 𝕄) (E.landed k c d) := by unfold landed; infer_instance

def pay : Cell (K × M) K → Dev nD → sProp 𝕄
  | .inl j, c => E.lent j.1 c (E.peer j.2 c)
  | .inr (.inl j), c => E.landed j.1 c (E.peer j.2 c)
  | .inr (.inr k), c => iprop(E.landed k c c ∗ E.lent k c c)
def room : (K × M) ⊕ K → Dev nD → sProp 𝕄
  | .inl j, c => E.free j.1 (E.peer j.2 c) c
  | .inr k, c => iprop(E.lent k c c ∗ E.free k c c)

def plan : Plan nD τ sig F (K × M) K where
  peer j := E.peer j.2
  peer_peer j := E.peer_peer j.2
  sem := E.sem
  sem_inj := E.sem_inj
  amt a := E.size (a.elim Prod.fst id)
  amt_pos _ := E.size_pos _
  pay := E.pay
  storable x c := by
    rcases x with j | j | k <;> dsimp only [pay] <;> infer_instance
  room := E.room

/-! ## Every device: itself and its peers -/

theorem over_devs (c : Dev nD) (Φ : Dev nD → sProp 𝕄) :
    bigSep Finset.univ Φ = iprop(Φ c ∗ bigSep Finset.univ fun m => Φ (E.peer m c)) := by
  rw [bigSep_univ_equiv (Equiv.ofBijective _ (E.peer_all c)), bigSep_univ_equiv (Equiv.optionEquivSumPUnit.{0} M).symm, bigSep_univ_sum,
    bigSep_univ_of_subsingleton PUnit.unit]
  exact sep_swap _ _

theorem over_all (c : Dev nD) (Φ : K → Dev nD → sProp 𝕄) :
    (bigSep Finset.univ fun k => bigSep Finset.univ fun d => Φ k d)
      = iprop((bigSep Finset.univ fun k => Φ k c) ∗ bigSep Finset.univ fun j : K × M => Φ j.1 (E.peer j.2 c)) := by
  rw [bigSep_univ_prod fun j : K × M => Φ j.1 (E.peer j.2 c), bigSep_congr fun k _ => E.over_devs c (Φ k)]
  exact bigSep_sep _ _ _

theorem cut_inp (k : K) (c : Dev nD) :
    (((c.tc : Thread nD τ).loc (E.inp k)) ↦{fullShare} E.x k c : sProp 𝕄) = bigSep Finset.univ fun d => E.lent k c d :=
  E.parts k c _
theorem cut_out (k : K) (c : Dev nD) (f : On τ F c (E.out k)) :
    (((c.tc : Thread nD τ).loc (E.out k)) ↦{fullShare} f : sProp 𝕄)
      = bigSep Finset.univ fun d => ((c.tc : Thread nD τ).loc (E.out k)) ↦[E.B k c d]{fullShare} f :=
  Ring.pointsTo_blocks (E.B k c) (E.disj k c) (E.cover k c) f

/-! ## The launch deals the parts -/

theorem deal : (bigSep Finset.univ fun c : Dev nD =>
      iprop((bigSep Finset.univ fun k => ((c.tc : Thread nD τ).loc (E.inp k)) ↦{fullShare} E.x k c)
        ∗ bigSep Finset.univ fun k => iprop(∃ f, ((c.tc : Thread nD τ).loc (E.out k)) ↦{fullShare} f)) : sProp 𝕄)
    ⊢ bigSep Finset.univ fun c => iprop((bigSep Finset.univ fun j => iprop(E.plan.pay (snd j) c ∗ E.plan.room (.inl j) c))
        ∗ bigSep Finset.univ fun k => E.plan.room (.inr k) c) := by
  have h1 : (bigSep Finset.univ fun c : Dev nD => bigSep Finset.univ fun k => (((c.tc : Thread nD τ).loc (E.inp k)) ↦{fullShare} E.x k c : sProp 𝕄))
      = bigSep Finset.univ fun c => iprop((bigSep Finset.univ fun k => E.lent k c c) ∗ bigSep Finset.univ fun j : K × M => E.lent j.1 c (E.peer j.2 c)) :=
    bigSep_congr fun c _ => (bigSep_congr fun k _ => E.cut_inp k c).trans (E.over_all c fun k d => E.lent k c d)
  have h2 : (bigSep Finset.univ fun c : Dev nD => bigSep Finset.univ fun k => iprop(∃ f, ((c.tc : Thread nD τ).loc (E.out k)) ↦{fullShare} f) : sProp 𝕄)
      ⊢ bigSep Finset.univ fun c => iprop((bigSep Finset.univ fun k => E.free k c c) ∗ bigSep Finset.univ fun j : K × M => E.free j.1 (E.peer j.2 c) c) := by
    refine (seps_mono fun c => seps_mono fun k => ?_).trans (Entails.of_eq (P := bigSep Finset.univ fun c => bigSep Finset.univ fun k => bigSep Finset.univ fun d => E.free k c d) ?_)
    · iintro ⟨%f, H⟩
      ihave H := (Entails.of_eq (E.cut_out k c f)) $$ H
      iapply (seps_mono (Φ := fun d => iprop(((c.tc : Thread nD τ).loc (E.out k)) ↦[E.B k c d]{fullShare} f)) fun d => ?_) $$ H
      unfold free; iintro H; iexists f; iexact H
    · rw [bigSep_univ_comm, bigSep_congr fun k _ => bigSep_univ_comm fun c d => E.free k c d, bigSep_univ_comm]
      exact bigSep_congr fun c _ => E.over_all c fun k d => E.free k d c
  have e : ∀ (a b a' b' : Dev nD → sProp 𝕄), iprop((bigSep Finset.univ fun c => iprop(a c ∗ b c)) ∗ bigSep Finset.univ fun c => iprop(a' c ∗ b' c))
      ⊢ bigSep Finset.univ fun c => iprop((b c ∗ b' c) ∗ a c ∗ a' c) := fun a b a' b' => by
    rw [← seps_sep]
    refine seps_mono fun c => ?_
    iintro ⟨⟨H1, H2⟩, H3, H4⟩
    isplitl [H2 H4]
    · isplitl [H2] <;> iassumption
    · isplitl [H1] <;> iassumption
  rw [seps_sep]
  refine (sep_mono₂ (Entails.of_eq h1) h2).trans ((e _ _ _ _).trans (seps_mono fun c => sep_mono₂ ?_ ?_))
  · exact Entails.of_eq (seps_sep _ _).symm
  · exact Entails.of_eq (seps_sep _ _).symm

/-! ## In the end -/

theorem regain (c : Dev nD) : (bigSep Finset.univ fun x => E.plan.pay x c)
    ⊢ iprop((bigSep Finset.univ fun k => ((c.tc : Thread nD τ).loc (E.inp k)) ↦{fullShare} E.x k c)
        ∗ bigSep Finset.univ fun k => ((c.tc : Thread nD τ).loc (E.out k)) ↦{fullShare} E.y k c) := by
  have h1 : (bigSep Finset.univ fun k => ((c.tc : Thread nD τ).loc (E.inp k)) ↦{fullShare} E.x k c : sProp 𝕄)
      = iprop((bigSep Finset.univ fun k => E.lent k c c) ∗ bigSep Finset.univ fun j : K × M => E.lent j.1 c (E.peer j.2 c)) :=
    (bigSep_congr fun k _ => E.cut_inp k c).trans (E.over_all c fun k d => E.lent k c d)
  have h2 : (bigSep Finset.univ fun k => ((c.tc : Thread nD τ).loc (E.out k)) ↦{fullShare} E.y k c : sProp 𝕄)
      = iprop((bigSep Finset.univ fun k => E.landed k c c) ∗ bigSep Finset.univ fun j : K × M => E.landed j.1 c (E.peer j.2 c)) :=
    (bigSep_congr fun k _ => E.cut_out k c _).trans (E.over_all c fun k d => E.landed k c d)
  have h3 : (bigSep Finset.univ fun k => E.plan.pay (own k) c : sProp 𝕄)
      = iprop((bigSep Finset.univ fun k => E.landed k c c) ∗ bigSep Finset.univ fun k => E.lent k c c) := bigSep_sep _ _ _
  rw [h1, h2, Plan.over_cells]
  iintro ⟨H1, H2, H3⟩
  ihave H3 := (Entails.of_eq h3) $$ H3
  icases H3 with ⟨H3, H4⟩
  isplitl [H1 H4]
  · isplitl [H4]; (· iexact H4); iexact H1
  · isplitl [H3]; (· iexact H3); iexact H2

end Arrays

end Cert.Exchange

end
-- ==== Proof.Blocks.lean ====
/-
  Blocks along the first axis of an array `[n, p, q]`: block `d` is the elements of first coordinate `d`. A `[p, q]` view of
  block `d` places `(i, j)` at `(d, i, j)`.
-/
module

public import proofs.«01_k».proof.Proof.Swap
public import Idealize.ShloMosaic.Lib.ValueLayout
public import Idealize.ShloMosaic.Lib.ValueIdxCoords

@[expose] public section

noncomputable section

namespace Cert.Exchange

open Idealize.ShloMosaic Idealize.ShloMosaic.ValueIdx Idealize.SL.Sem

variable {n p q : ℕ}

theorem block_inb (d : Fin n) : ∀ a, (![d.val, 0, 0] : Fin 3 → ℕ) a + (![1, p, q] : Fin 3 → ℕ) a ≤ (⟨3, ![n, p, q]⟩ : Shape).size a := by
  intro a; fin_cases a
  · exact d.isLt
  · exact (Nat.zero_add p).le
  · exact (Nat.zero_add q).le

/-- The elements of first coordinate `d`. -/
def blk (d : Fin n) : Finset (⟨3, ![n, p, q]⟩ : Shape).Idx := (Rect.unit (s := ⟨3, ![n, p, q]⟩) ![d.val, 0, 0] ![1, p, q] (block_inb d)).set

theorem mem_blk {d : Fin n} {i : (⟨3, ![n, p, q]⟩ : Shape).Idx} : i ∈ blk d ↔ i 0 = d := by
  unfold blk
  rw [Rect.mem_set_unit]
  constructor
  · intro h
    have h0 := h 0
    exact Fin.ext (Nat.le_antisymm (Nat.lt_succ_iff.mp h0.2) h0.1)
  · rintro h a
    fin_cases a
    · exact ⟨(congrArg Fin.val h).ge, Nat.lt_succ_of_le (congrArg Fin.val h).le⟩
    · exact ⟨Nat.zero_le _, lt_of_lt_of_eq (i 1).isLt (Nat.zero_add p).symm⟩
    · exact ⟨Nat.zero_le _, lt_of_lt_of_eq (i 2).isLt (Nat.zero_add q).symm⟩

theorem blk_disj {d d' : Fin n} (h : d ≠ d') : Disjoint (blk (p := p) (q := q) d) (blk d') :=
  Finset.disjoint_left.mpr fun _ hi hi' => h ((mem_blk.mp hi).symm.trans (mem_blk.mp hi'))

theorem blk_cover : Finset.univ.biUnion (blk (n := n) (p := p) (q := q)) = Finset.univ :=
  Finset.eq_univ_of_forall fun i => Finset.mem_biUnion.mpr ⟨i 0, Finset.mem_univ _, mem_blk.mpr rfl⟩

/-- The array whose block `d` is `x d`. -/
def stack {α : Type} (x : Fin n → (⟨2, ![p, q]⟩ : Shape).Idx → α) : (⟨3, ![n, p, q]⟩ : Shape).Idx → α := fun i => x (i 0) (ix2 (i 1) (i 2))
/-- Block `d` of an array. -/
def layer {α : Type} (x : (⟨3, ![n, p, q]⟩ : Shape).Idx → α) (d : Fin n) : (⟨2, ![p, q]⟩ : Shape).Idx → α := fun j => x (ix3 d (j 0) (j 1))

theorem emb_block {sig : RefSig} {κ : Kind} {sp : Space} {e : EltTy} (v : View sig κ sp ⟨3, ![n, p, q]⟩ e) (d : Fin n)
    {off : Fin 3 → ℕ} (hoff : off = ![d.val, 0, 0]) (inb) (h) (j : (⟨2, ![p, q]⟩ : Shape).Idx) :
    ((v.slice (Rect.unit (s := ⟨3, ![n, p, q]⟩) off ![1, p, q] inb)).reshape ⟨2, ![p, q]⟩ h).emb j = v.emb (ix3 d (j 0) (j 1)) := by
  subst hoff
  rw [View.emb_reshape]
  refine congrArg v.emb ?_
  have e := reshapeEquiv_ix2_1ab h (j 0) (j 1)
  show (Rect.unit (s := ⟨3, ![n, p, q]⟩) ![d.val, 0, 0] ![1, p, q] inb).emb (Shape.reshapeEquiv h j) = _
  rw [show Shape.reshapeEquiv h j = ix3 (⟨0, Nat.one_pos⟩ : Fin 1) (j 0) (j 1) from (congrArg _ (eq_ix2 j)).trans e]
  funext a; apply Fin.ext
  fin_cases a
  · show d.val + 1 * 0 = d.val; omega
  · show 0 + 1 * (j 0).val = (j 0).val; omega
  · show 0 + 1 * (j 1).val = (j 1).val; omega

theorem set_block {sig : RefSig} {κ : Kind} {sp : Space} {e : EltTy} (v : View sig κ sp ⟨3, ![n, p, q]⟩ e) (d : Fin n)
    {off : Fin 3 → ℕ} (hoff : off = ![d.val, 0, 0]) (inb) (h) :
    ((v.slice (Rect.unit (s := ⟨3, ![n, p, q]⟩) off ![1, p, q] inb)).reshape ⟨2, ![p, q]⟩ h).set = (blk d).map v.emb := by
  subst hoff
  rw [View.set_reshape, View.set_slice]; rfl

/-- What the view of block `d` writes, at an element of the block. -/
theorem write_block {sig : RefSig} {κ : Kind} {sp : Space} {e : EltTy} {Val : EltTy → Type} (v : View sig κ sp ⟨3, ![n, p, q]⟩ e) (d : Fin n)
    {off : Fin 3 → ℕ} (hoff : off = ![d.val, 0, 0]) (inb) (h) (f) (w : (⟨2, ![p, q]⟩ : Shape).Idx → Val e) (i : (⟨3, ![n, p, q]⟩ : Shape).Idx) (hi : i ∈ blk d) :
    ((v.slice (Rect.unit (s := ⟨3, ![n, p, q]⟩) off ![1, p, q] inb)).reshape ⟨2, ![p, q]⟩ h).write Val f w Finset.univ (v.emb i)
      = _root_.cast (congrArg Val v.elt_eq.symm) (w (ix2 (i 1) (i 2))) := by
  have hi := mem_blk.mp hi
  subst hi
  have e := emb_block v (i 0) hoff inb h (ix2 (i 1) (i 2))
  have ei : i = ix3 (i 0) (i 1) (i 2) := eq_ix3 i
  rw [show v.emb i = _ from (congrArg v.emb ei).trans e.symm]
  exact View.write_emb_of_mem _ _ (Finset.mem_univ _)

/-- What the view of block `d` reads. -/
theorem read_block {sig : RefSig} {κ : Kind} {sp : Space} {e : EltTy} {Val : EltTy → Type} (v : View sig κ sp ⟨3, ![n, p, q]⟩ e) (d : Fin n)
    {off : Fin 3 → ℕ} (hoff : off = ![d.val, 0, 0]) (inb) (h) (f) :
    ((v.slice (Rect.unit (s := ⟨3, ![n, p, q]⟩) off ![1, p, q] inb)).reshape ⟨2, ![p, q]⟩ h).read Val f = layer (v.read Val f) d := by
  funext j
  exact congrArg (fun i => _root_.cast _ (f i)) (emb_block v d hoff inb h j)

end Cert.Exchange
-- ==== Proof.Steps.lean ====
/-
  Loads and stores of whole memrefs: a grid point of a kernel holds its two input blocks, its output block and, where it sums over grid
  points, an accumulator. One lemma per access, each before what follows it.
-/
module

public import proofs.«01_k».proof.Proof.Blocks
public import proofs.«01_k».proof.Proof.Exchange
public import Idealize.ShloMosaic.Lib.VecWindow
public import Idealize.ShloMosaic.Lib.Pipeline.Frame

@[expose] public section

noncomputable section

namespace Cert.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : ℕ} {τ : Topo} {sig : RefSig} {F : FTy → Type} {Λ : Labels} {defs : Defs nD τ sig (Elt F) Λ} {𝒱 : Variants} {c : Dev nD}

local notation "𝕄" => MT nD τ sig Unit (Elt F) ℕ (UU nD τ sig) ℕ

open Classical in
/-- A load of the whole of a memref reads what its view reads. -/
theorem load_whole {s : Shape} {e : EltTy} (M : Memref sig .tc .vmem s e) (off : Fin s.rank → ℕ) (h0 : off = fun _ => 0)
    (inb : ∀ a, off a + s.size a ≤ s.size a) (f : M.view.ty.Contents (Elt F)) :
    M.view.readAt (Elt F) (Rect.unit off s.size inb).toLoadRect f = M.view.read (Elt F) f := by
  subst h0
  exact congrArg (fun g : s.Idx → s.Idx => fun x => M.view.read (Elt F) f (g x)) (funext fun x => Rect.emb_whole_apply s x)

/-- A store of the whole of a memref leaves what was stored. -/
theorem store_whole {s : Shape} {e : EltTy} (M : Memref sig .tc .vmem s e) (off : Fin s.rank → ℕ) (h0 : off = fun _ => 0)
    (inb : ∀ a, off a + s.size a ≤ s.size a) (f : M.view.ty.Contents (Elt F)) (w : s.Idx → Elt F e) :
    M.view.read (Elt F) ((M.access (Rect.unit off s.size inb)).write (Elt F) f w Finset.univ) = w := by
  rw [← load_whole M off h0 inb]
  exact View.read_write_univ (v := M.access (Rect.unit off s.size inb)) f w

theorem zeros : (![0, 0] : Fin 2 → ℕ) = fun _ => 0 := by funext a; fin_cases a <;> rfl

section
variable {s : Shape} {e : EltTy} {M : Memref sig .tc .vmem s e} {off : Fin s.rank → ℕ} {inb : ∀ a, off a + s.size a ≤ s.size a} {α : Type}

/-- A load of a memref held whole. -/
theorem load_held {Q : α → sProp 𝕄} {l : M.view.LoadsAt (Rect.unit off s.size inb).toLoadRect} {k : (s.Idx → Elt F e) → Prog (TpuEff nD τ sig (Elt F) Λ .tc) α}
    (hM : M.IsWhole) (h0 : off = fun _ => 0) (x : s.Idx → Elt F e) :
    (owns (c.tc : Thread nD τ) M fullShare x : sProp 𝕄)
      ⊢ iprop((owns (c.tc : Thread nD τ) M fullShare x -∗ wp frame (wpE defs 𝒱 (c.tc : Thread nD τ) none) Set.univ (k x) Q)
        -∗ wp frame (wpE defs 𝒱 (c.tc : Thread nD τ) none) Set.univ (.op (.load M (Rect.unit off s.size inb).toLoadRect l) k) Q) := by
  unfold owns
  iintro ⟨%f, %e, H⟩ HK
  iapply (wp_load 𝒱 (c.tc : Thread nD τ) none Set.univ (m := M) (by rw [hM.set_eq_univ]; exact Finset.subset_univ _)) $$ H; iintro H
  rw [load_whole M _ h0 inb, e]
  iapply HK
  iexists f; isplitr; · ipureintro; exact e
  iexact H

/-- A store of a memref held whole. -/
theorem store_held {Q : α → sProp 𝕄} {w : s.Idx → Elt F e} {hx : (M.access (Rect.unit off s.size inb)).Stores Finset.univ}
    {hm : (Finset.univ : Finset (Rect.unit off s.size inb).shape.Idx) = Finset.univ ∨ ∀ a, (Rect.unit off s.size inb).stride a = 1}
    {k : PUnit → Prog (TpuEff nD τ sig (Elt F) Λ .tc) α}
    (hM : M.IsWhole) (h0 : off = fun _ => 0) (x : s.Idx → Elt F e) :
    (owns (c.tc : Thread nD τ) M fullShare x : sProp 𝕄)
      ⊢ iprop((owns (c.tc : Thread nD τ) M fullShare w -∗ wp frame (wpE defs 𝒱 (c.tc : Thread nD τ) none) Set.univ (k ⟨⟩) Q)
        -∗ wp frame (wpE defs 𝒱 (c.tc : Thread nD τ) none) Set.univ (.op (.store M (Rect.unit off s.size inb) w Finset.univ hx hm) k) Q) := by
  unfold owns
  iintro ⟨%f, %e, H⟩ HK
  iapply (wp_store 𝒱 (c.tc : Thread nD τ) none Set.univ (m := M) (r := Rect.unit off s.size inb) (Mk := Finset.univ)
    (S := M.view.set) (f := f) (by rw [hM.set_eq_univ]; exact Finset.subset_univ _)) $$ H; iintro H
  iapply HK
  iexists _; isplitr; · ipureintro; exact store_whole M _ h0 inb f _
  iexact H

end

/-! ## A grid point that sums -/

section
variable {s₀ s₁ s₂ s₃ : Shape} {e₀ e₁ e₂ e₃ : EltTy}
  {M₀ : Memref sig .tc .vmem s₀ e₀} {M₁ : Memref sig .tc .vmem s₁ e₁} {M₂ : Memref sig .tc .vmem s₂ e₂} {M₃ : Memref sig .tc .vmem s₃ e₃} {α : Type}

/-- The two input blocks, the output block and the accumulator. -/
def four (c : Dev nD) (M₀ : Memref sig .tc .vmem s₀ e₀) (M₁ : Memref sig .tc .vmem s₁ e₁) (M₂ : Memref sig .tc .vmem s₂ e₂) (M₃ : Memref sig .tc .vmem s₃ e₃)
    (x : s₀.Idx → Elt F e₀) (y : s₁.Idx → Elt F e₁) (z : s₂.Idx → Elt F e₂) (a : s₃.Idx → Elt F e₃) : sProp 𝕄 :=
  iprop(owns (c.tc : Thread nD τ) M₀ fullShare x ∗ owns (c.tc : Thread nD τ) M₁ fullShare y ∗ owns (c.tc : Thread nD τ) M₂ fullShare z
    ∗ owns (c.tc : Thread nD τ) M₃ fullShare a)

variable {x : s₀.Idx → Elt F e₀} {y : s₁.Idx → Elt F e₁} {z : s₂.Idx → Elt F e₂} {a : s₃.Idx → Elt F e₃}

theorem load_0 {Q : α → sProp 𝕄} {R : sProp 𝕄} {off : Fin s₀.rank → ℕ} {inb : ∀ a, off a + s₀.size a ≤ s₀.size a}
    {l : M₀.view.LoadsAt (Rect.unit off s₀.size inb).toLoadRect} {k : (s₀.Idx → Elt F e₀) → Prog (TpuEff nD τ sig (Elt F) Λ .tc) α}
    (hM : M₀.IsWhole) (h0 : off = fun _ => 0)
    (hk : iprop(R ∗ four c M₀ M₁ M₂ M₃ x y z a) ⊢ wp frame (wpE defs 𝒱 (c.tc : Thread nD τ) none) Set.univ (k x) Q) :
    iprop(R ∗ four c M₀ M₁ M₂ M₃ x y z a) ⊢ wp frame (wpE defs 𝒱 (c.tc : Thread nD τ) none) Set.univ (.op (.load M₀ (Rect.unit off s₀.size inb).toLoadRect l) k) Q := by
  unfold four at hk ⊢
  iintro ⟨HR, H0, H1, H2, H3⟩
  iapply (load_held hM h0 x) $$ H0; iintro H0
  iapply hk
  isplitl [HR]; · iexact HR
  isplitl [H0]; · iexact H0
  isplitl [H1]; · iexact H1
  isplitl [H2]; · iexact H2
  iexact H3

theorem load_1 {Q : α → sProp 𝕄} {R : sProp 𝕄} {off : Fin s₁.rank → ℕ} {inb : ∀ a, off a + s₁.size a ≤ s₁.size a}
    {l : M₁.view.LoadsAt (Rect.unit off s₁.size inb).toLoadRect} {k : (s₁.Idx → Elt F e₁) → Prog (TpuEff nD τ sig (Elt F) Λ .tc) α}
    (hM : M₁.IsWhole) (h0 : off = fun _ => 0)
    (hk : iprop(R ∗ four c M₀ M₁ M₂ M₃ x y z a) ⊢ wp frame (wpE defs 𝒱 (c.tc : Thread nD τ) none) Set.univ (k y) Q) :
    iprop(R ∗ four c M₀ M₁ M₂ M₃ x y z a) ⊢ wp frame (wpE defs 𝒱 (c.tc : Thread nD τ) none) Set.univ (.op (.load M₁ (Rect.unit off s₁.size inb).toLoadRect l) k) Q := by
  unfold four at hk ⊢
  iintro ⟨HR, H0, H1, H2, H3⟩
  iapply (load_held hM h0 y) $$ H1; iintro H1
  iapply hk
  isplitl [HR]; · iexact HR
  isplitl [H0]; · iexact H0
  isplitl [H1]; · iexact H1
  isplitl [H2]; · iexact H2
  iexact H3

theorem load_2 {Q : α → sProp 𝕄} {R : sProp 𝕄} {off : Fin s₂.rank → ℕ} {inb : ∀ a, off a + s₂.size a ≤ s₂.size a}
    {l : M₂.view.LoadsAt (Rect.unit off s₂.size inb).toLoadRect} {k : (s₂.Idx → Elt F e₂) → Prog (TpuEff nD τ sig (Elt F) Λ .tc) α}
    (hM : M₂.IsWhole) (h0 : off = fun _ => 0)
    (hk : iprop(R ∗ four c M₀ M₁ M₂ M₃ x y z a) ⊢ wp frame (wpE defs 𝒱 (c.tc : Thread nD τ) none) Set.univ (k z) Q) :
    iprop(R ∗ four c M₀ M₁ M₂ M₃ x y z a) ⊢ wp frame (wpE defs 𝒱 (c.tc : Thread nD τ) none) Set.univ (.op (.load M₂ (Rect.unit off s₂.size inb).toLoadRect l) k) Q := by
  unfold four at hk ⊢
  iintro ⟨HR, H0, H1, H2, H3⟩
  iapply (load_held hM h0 z) $$ H2; iintro H2
  iapply hk
  isplitl [HR]; · iexact HR
  isplitl [H0]; · iexact H0
  isplitl [H1]; · iexact H1
  isplitl [H2]; · iexact H2
  iexact H3

theorem load_3 {Q : α → sProp 𝕄} {R : sProp 𝕄} {off : Fin s₃.rank → ℕ} {inb : ∀ a, off a + s₃.size a ≤ s₃.size a}
    {l : M₃.view.LoadsAt (Rect.unit off s₃.size inb).toLoadRect} {k : (s₃.Idx → Elt F e₃) → Prog (TpuEff nD τ sig (Elt F) Λ .tc) α}
    (hM : M₃.IsWhole) (h0 : off = fun _ => 0)
    (hk : iprop(R ∗ four c M₀ M₁ M₂ M₃ x y z a) ⊢ wp frame (wpE defs 𝒱 (c.tc : Thread nD τ) none) Set.univ (k a) Q) :
    iprop(R ∗ four c M₀ M₁ M₂ M₃ x y z a) ⊢ wp frame (wpE defs 𝒱 (c.tc : Thread nD τ) none) Set.univ (.op (.load M₃ (Rect.unit off s₃.size inb).toLoadRect l) k) Q := by
  unfold four at hk ⊢
  iintro ⟨HR, H0, H1, H2, H3⟩
  iapply (load_held hM h0 a) $$ H3; iintro H3
  iapply hk
  isplitl [HR]; · iexact HR
  isplitl [H0]; · iexact H0
  isplitl [H1]; · iexact H1
  isplitl [H2]; · iexact H2
  iexact H3

theorem store_2 {Q : α → sProp 𝕄} {R : sProp 𝕄} {off : Fin s₂.rank → ℕ} {inb : ∀ a, off a + s₂.size a ≤ s₂.size a}
    {w : s₂.Idx → Elt F e₂} {hx : (M₂.access (Rect.unit off s₂.size inb)).Stores Finset.univ}
    {hm : (Finset.univ : Finset (Rect.unit off s₂.size inb).shape.Idx) = Finset.univ ∨ ∀ a, (Rect.unit off s₂.size inb).stride a = 1}
    {k : PUnit → Prog (TpuEff nD τ sig (Elt F) Λ .tc) α}
    (hM : M₂.IsWhole) (h0 : off = fun _ => 0)
    (hk : iprop(R ∗ four c M₀ M₁ M₂ M₃ x y w a) ⊢ wp frame (wpE defs 𝒱 (c.tc : Thread nD τ) none) Set.univ (k ⟨⟩) Q) :
    iprop(R ∗ four c M₀ M₁ M₂ M₃ x y z a) ⊢ wp frame (wpE defs 𝒱 (c.tc : Thread nD τ) none) Set.univ (.op (.store M₂ (Rect.unit off s₂.size inb) w Finset.univ hx hm) k) Q := by
  unfold four at hk ⊢
  iintro ⟨HR, H0, H1, H2, H3⟩
  iapply (store_held hM h0 z) $$ H2; iintro H2
  iapply hk
  isplitl [HR]; · iexact HR
  isplitl [H0]; · iexact H0
  isplitl [H1]; · iexact H1
  isplitl [H2]; · iexact H2
  iexact H3

theorem store_3 {Q : α → sProp 𝕄} {R : sProp 𝕄} {off : Fin s₃.rank → ℕ} {inb : ∀ a, off a + s₃.size a ≤ s₃.size a}
    {w : s₃.Idx → Elt F e₃} {hx : (M₃.access (Rect.unit off s₃.size inb)).Stores Finset.univ}
    {hm : (Finset.univ : Finset (Rect.unit off s₃.size inb).shape.Idx) = Finset.univ ∨ ∀ a, (Rect.unit off s₃.size inb).stride a = 1}
    {k : PUnit → Prog (TpuEff nD τ sig (Elt F) Λ .tc) α}
    (hM : M₃.IsWhole) (h0 : off = fun _ => 0)
    (hk : iprop(R ∗ four c M₀ M₁ M₂ M₃ x y z w) ⊢ wp frame (wpE defs 𝒱 (c.tc : Thread nD τ) none) Set.univ (k ⟨⟩) Q) :
    iprop(R ∗ four c M₀ M₁ M₂ M₃ x y z a) ⊢ wp frame (wpE defs 𝒱 (c.tc : Thread nD τ) none) Set.univ (.op (.store M₃ (Rect.unit off s₃.size inb) w Finset.univ hx hm) k) Q := by
  unfold four at hk ⊢
  iintro ⟨HR, H0, H1, H2, H3⟩
  iapply (store_held hM h0 a) $$ H3; iintro H3
  iapply hk
  isplitl [HR]; · iexact HR
  isplitl [H0]; · iexact H0
  isplitl [H1]; · iexact H1
  isplitl [H2]; · iexact H2
  iexact H3

end

end Cert.Exchange
-- ==== Proof.InProj.lean ====
/-
  The exchange of the kernel: five arrays, each gathered along the first axis from the eight devices. Device `c` sends its part to
  device `c xor m` for `m = 1, …, 7`.
-/
module

public import proofs.«01_k».proof.Proof.Steps
public import proofs.«01_k».proof.Proof.Gen.KernelIdeal.Points
public import Idealize.ShloMosaic.Lib.ShareLeaves

@[expose] public section

noncomputable section

namespace Cert.KernelIdeal.Gen

open Cert.Exchange
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ sig) ℕ

/-! ## The devices -/

def peer (m : Fin 7) (c : Dev nD) : Dev nD := ⟨c.val ^^^ (m.val + 1), by revert m c; decide⟩
theorem peer_peer (m : Fin 7) (c : Dev nD) : peer m (peer m c) = c := by revert m c; decide
theorem peer_all (c : Dev nD) : Function.Bijective fun o : Option (Fin 7) => o.elim c fun m => peer m c := by
  have h : ∀ c : Dev nD, Function.Injective fun o : Option (Fin 7) => o.elim c fun m => peer m c := by
    unfold Function.Injective; decide
  exact (Fintype.bijective_iff_injective_and_card _).mpr ⟨h c, by decide⟩

/-! ## The arrays -/

/-- What `k` names: the array and where it is gathered. -/
abbrev inp : Fin 5 → Ref sig .tc
  | 0 => main_arg2
  | 1 => main_arg3
  | 2 => main_arg4
  | 3 => main_arg5
  | 4 => main_arg6
abbrev out : Fin 5 → Ref sig .tc
  | 0 => main_v1_1
  | 1 => main_v1_2
  | 2 => main_v1_3
  | 3 => main_v1_4
  | 4 => main_v1_5

/-- The elements of `out k` that hold device `d`'s part. -/
abbrev part : (k : Fin 5) → (c d : Dev nD) → Finset (Idx ((c.tc : Thread nD τ).loc (out k)))
  | 0, _, d => blk (n := 8) (p := 128) (q := 1024) d
  | 1, _, d => blk (n := 8) (p := 128) (q := 1024) d
  | 2, _, d => blk (n := 8) (p := 128) (q := 1024) d
  | 3, _, d => blk (n := 8) (p := 1024) (q := 704) d
  | 4, _, d => blk (n := 8) (p := 352) (q := 1024) d

/-- The gathered array. -/
abbrev gathered (m : (ℓ : Loc nD τ sig) → Buf (Elt F) ℓ) : (k : Fin 5) → (c : Dev nD) → On τ F c (out k)
  | 0, _ => stack (n := 8) (p := 128) (q := 1024) fun (d : Dev nD) => m ((d.tc : Thread nD τ).loc main_arg2)
  | 1, _ => stack (n := 8) (p := 128) (q := 1024) fun (d : Dev nD) => m ((d.tc : Thread nD τ).loc main_arg3)
  | 2, _ => stack (n := 8) (p := 128) (q := 1024) fun (d : Dev nD) => m ((d.tc : Thread nD τ).loc main_arg4)
  | 3, _ => stack (n := 8) (p := 1024) (q := 704) fun (d : Dev nD) => m ((d.tc : Thread nD τ).loc main_arg5)
  | 4, _ => stack (n := 8) (p := 352) (q := 1024) fun (d : Dev nD) => m ((d.tc : Thread nD τ).loc main_arg6)

/-- The cells' semaphores. -/
abbrev cellSem : Cell (Fin 5 × Fin 7) (Fin 5) → DmaSem sig
  | .inl (k, i) => ⟨6 + 7 * k.val + i.val, by show _ < 81; omega⟩
  | .inr (.inl (k, i)) => ⟨41 + 7 * k.val + i.val, by show _ < 81; omega⟩
  | .inr (.inr k) => ⟨76 + k.val, by show _ < 81; omega⟩

theorem cellSem_inj : Function.Injective cellSem := by
  rintro (⟨k, i⟩ | ⟨k, i⟩ | k) (⟨k', i'⟩ | ⟨k', i'⟩ | k') h <;> have h := congrArg Fin.val h <;> simp only [cellSem] at h <;> try omega
  · obtain ⟨h1, h2⟩ : k = k' ∧ i = i' := ⟨by omega, by omega⟩
    rw [h1, h2]
  · obtain ⟨h1, h2⟩ : k = k' ∧ i = i' := ⟨by omega, by omega⟩
    rw [h1, h2]
  · rw [show k = k' by omega]

variable (m : (ℓ : Loc nD τ sig) → Buf (Elt F) ℓ)

def E : Arrays nD τ sig F (Fin 5) (Fin 7) where
  peer := peer
  peer_peer := peer_peer
  peer_all := peer_all
  inp := inp
  out := out
  A k c d := Finset.univ
  share k d := ShareLeaves.leaf 3 fullShare d
  B := part
  parts k c f := by
    refine (ShareLeaves.pointsTo_leaves Finset.univ f 3 fullShare)
  disj k c d d' h := by
    match k with
    | 0 => exact blk_disj h
    | 1 => exact blk_disj h
    | 2 => exact blk_disj h
    | 3 => exact blk_disj h
    | 4 => exact blk_disj h
  cover k c := by
    match k with
    | 0 => exact blk_cover
    | 1 => exact blk_cover
    | 2 => exact blk_cover
    | 3 => exact blk_cover
    | 4 => exact blk_cover
  x k c := m ((c.tc : Thread nD τ).loc (inp k))
  y := gathered m
  sem := cellSem
  sem_inj := cellSem_inj
  size k := (View.whole (inp k)).dmaCredit
  size_pos k := View.dmaCredit_pos _ (by match k with | 0 | 1 | 2 | 3 | 4 => decide)

abbrev P : Plan nD τ sig F (Fin 5 × Fin 7) (Fin 5) := (E m).plan

abbrev 𝒱₀ : Variants := Variants.none

/-! ## A push and a copy, array by array -/

variable {m}
variable {c : Dev nD} {α : Type} {K : PUnit → Prog (TpuEff nD τ sig (Elt F) Λ₀ .tc) α}
  {l : List ((Fin 5 × Fin 7) ⊕ Fin 5)} {w d : List (Cell (Fin 5 × Fin 7) (Fin 5))}

/-- A part that lands in its block leaves the gathered array's elements there. -/
theorem land {k : Fin 5} {c d : Dev nD} {f : On τ F d ((E m).out k)} {S} (hS : S = (E m).B k d c)
    (hf : ∀ i ∈ (E m).B k d c, f i = (E m).y k d i) :
    (((d.tc : Thread nD τ).loc ((E m).out k)) ↦[S]{fullShare} f : sProp 𝕄) ⊢ (E m).landed k d c := by
  subst hS; unfold Arrays.landed
  rw [pointsTo_congr hf]

theorem open_free {k : Fin 5} {c d : Dev nD} {S} (hS : S = (E m).B k d c) :
    (E m).free k d c ⊢ iprop(∃ f, ((d.tc : Thread nD τ).loc ((E m).out k)) ↦[S]{fullShare} f) := by
  subst hS; exact .rfl

theorem lent_eq (k : Fin 5) (c d : Dev nD) {S} (hS : S = Finset.univ) :
    (E m).lent k c d = (((c.tc : Thread nD τ).loc ((E m).inp k)) ↦[S]{ShareLeaves.leaf 3 fullShare d} m ((c.tc : Thread nD τ).loc ((E m).inp k)) : sProp 𝕄) := by
  subst hS; rfl

theorem pay_rcv (k : Fin 5) (i : Fin 7) (c : Dev nD) : (E m).landed k (peer i c) c = (P m).pay (rcv (k, i)) ((P m).peer (k, i) c) := by
  show _ = (E m).landed k (peer i c) (peer i (peer i c))
  rw [peer_peer]

theorem blockSet_0 (c : Dev nD) {off} (hoff : off = ![c.val, 0, 0]) {inb} :
    (((Memref.whole main_v1_1).slice (Rect.unit (s := S8x128x1024) off S1x128x1024.size inb) (fun _ => rfl)).squeeze S128x1024 squeezes_S1x128x1024_S128x1024).view.set = (blk c : Finset S8x128x1024.Idx) :=
  (set_block (View.whole main_v1_1) c hoff inb _).trans Finset.map_refl

theorem blockWrite_0 (c d : Dev nD) {off} (hoff : off = ![c.val, 0, 0]) {inb} (fd) :
    ∀ i ∈ (blk c : Finset S8x128x1024.Idx), (((Memref.whole main_v1_1).slice (Rect.unit (s := S8x128x1024) off S1x128x1024.size inb) (fun _ => rfl)).squeeze S128x1024 squeezes_S1x128x1024_S128x1024).view.write (Elt F) fd
      ((Memref.whole main_arg2).view.read (Elt F) (m ((c.tc : Thread nD τ).loc main_arg2))) Finset.univ i = (E m).y 0 d i := fun i hi =>
  (write_block (View.whole main_v1_1) c hoff inb _ fd _ i hi).trans
    (congrArg (fun x : Dev nD => m ((x.tc : Thread nD τ).loc main_arg2) (ix2 (n0 := 128) (n1 := 1024) (i 1) (i 2))) (mem_blk.mp hi).symm)

theorem push_0 {Q : α → sProp 𝕄} {R : sProp 𝕄} (i : Fin 7) {n : Dev nD} (hn : n = peer i c) {off} (hoff : off = ![c.val, 0, 0]) {inb} {sS sR : DmaSem sig} {hsc hsrc hdst hsem}
    (hS : sS = cellSem (snd (0, i))) (hR : sR = cellSem (rcv (0, i)))
    (hk : iprop((P m).St c l (snd (0, i) :: w) d ∗ R) ⊢ wp frame (wpE (defs₀ (F := F)) 𝒱₀ (c.tc : Thread nD τ) none) Set.univ (K ⟨⟩) Q) :
    iprop((P m).St c (.inl (0, i) :: l) w d ∗ R)
      ⊢ wp frame (wpE (defs₀ (F := F)) 𝒱₀ (c.tc : Thread nD τ) none) Set.univ
          (.op (.enqueueDma (Memref.whole main_arg2) (.remote (Dev.tc n : Thread nD τ)
            (((Memref.whole main_v1_1).slice (Rect.unit (s := S8x128x1024) off S1x128x1024.size inb) (fun _ => rfl)).squeeze S128x1024 squeezes_S1x128x1024_S128x1024) (.dma sS) hsc) (.dma sR) hsrc hdst hsem) K) Q :=
  (P m).step_push (0, i) hn hS hR rfl (BiEntails.of_eq (lent_eq 0 c (peer i c) (View.set_whole _)))
    (open_free (m := m) (k := 0) (blockSet_0 c hoff))
    (fun fd => (land (m := m) (k := 0) (blockSet_0 c hoff) (blockWrite_0 c (peer i c) hoff fd)).trans
      (Entails.of_eq (pay_rcv 0 i c))) (hk := hk)

theorem copy_0 {Q : α → sProp 𝕄} {R : sProp 𝕄} {off} (hoff : off = ![c.val, 0, 0]) {inb} {sm : DmaSem sig} {hsrc hdst hsem} (hm : sm = cellSem (own 0))
    (hk : iprop((P m).St c l (own 0 :: w) d ∗ R) ⊢ wp frame (wpE (defs₀ (F := F)) 𝒱₀ (c.tc : Thread nD τ) none) Set.univ (K ⟨⟩) Q) :
    iprop((P m).St c (.inr 0 :: l) w d ∗ R)
      ⊢ wp frame (wpE (defs₀ (F := F)) 𝒱₀ (c.tc : Thread nD τ) none) Set.univ
          (.op (.enqueueDma (Memref.whole main_arg2) (.here (((Memref.whole main_v1_1).slice (Rect.unit (s := S8x128x1024) off S1x128x1024.size inb) (fun _ => rfl)).squeeze S128x1024 squeezes_S1x128x1024_S128x1024)) (.dma sm) hsrc hdst hsem) K) Q :=
  (P m).step_copy 0 hm rfl
    (sep_mono₂ (Entails.of_eq (lent_eq 0 c c (View.set_whole _))) (open_free (m := m) (k := 0) (blockSet_0 c hoff)))
    (fun fd => sep_mono₂ (land (m := m) (k := 0) (blockSet_0 c hoff) (blockWrite_0 c c hoff fd))
      (Entails.of_eq (lent_eq 0 c c (View.set_whole _)).symm)) (hk := hk)

theorem blockSet_1 (c : Dev nD) {off} (hoff : off = ![c.val, 0, 0]) {inb} :
    (((Memref.whole main_v1_2).slice (Rect.unit (s := S8x128x1024) off S1x128x1024.size inb) (fun _ => rfl)).squeeze S128x1024 squeezes_S1x128x1024_S128x1024).view.set = (blk c : Finset S8x128x1024.Idx) :=
  (set_block (View.whole main_v1_2) c hoff inb _).trans Finset.map_refl

theorem blockWrite_1 (c d : Dev nD) {off} (hoff : off = ![c.val, 0, 0]) {inb} (fd) :
    ∀ i ∈ (blk c : Finset S8x128x1024.Idx), (((Memref.whole main_v1_2).slice (Rect.unit (s := S8x128x1024) off S1x128x1024.size inb) (fun _ => rfl)).squeeze S128x1024 squeezes_S1x128x1024_S128x1024).view.write (Elt F) fd
      ((Memref.whole main_arg3).view.read (Elt F) (m ((c.tc : Thread nD τ).loc main_arg3))) Finset.univ i = (E m).y 1 d i := fun i hi =>
  (write_block (View.whole main_v1_2) c hoff inb _ fd _ i hi).trans
    (congrArg (fun x : Dev nD => m ((x.tc : Thread nD τ).loc main_arg3) (ix2 (n0 := 128) (n1 := 1024) (i 1) (i 2))) (mem_blk.mp hi).symm)

theorem push_1 {Q : α → sProp 𝕄} {R : sProp 𝕄} (i : Fin 7) {n : Dev nD} (hn : n = peer i c) {off} (hoff : off = ![c.val, 0, 0]) {inb} {sS sR : DmaSem sig} {hsc hsrc hdst hsem}
    (hS : sS = cellSem (snd (1, i))) (hR : sR = cellSem (rcv (1, i)))
    (hk : iprop((P m).St c l (snd (1, i) :: w) d ∗ R) ⊢ wp frame (wpE (defs₀ (F := F)) 𝒱₀ (c.tc : Thread nD τ) none) Set.univ (K ⟨⟩) Q) :
    iprop((P m).St c (.inl (1, i) :: l) w d ∗ R)
      ⊢ wp frame (wpE (defs₀ (F := F)) 𝒱₀ (c.tc : Thread nD τ) none) Set.univ
          (.op (.enqueueDma (Memref.whole main_arg3) (.remote (Dev.tc n : Thread nD τ)
            (((Memref.whole main_v1_2).slice (Rect.unit (s := S8x128x1024) off S1x128x1024.size inb) (fun _ => rfl)).squeeze S128x1024 squeezes_S1x128x1024_S128x1024) (.dma sS) hsc) (.dma sR) hsrc hdst hsem) K) Q :=
  (P m).step_push (1, i) hn hS hR rfl (BiEntails.of_eq (lent_eq 1 c (peer i c) (View.set_whole _)))
    (open_free (m := m) (k := 1) (blockSet_1 c hoff))
    (fun fd => (land (m := m) (k := 1) (blockSet_1 c hoff) (blockWrite_1 c (peer i c) hoff fd)).trans
      (Entails.of_eq (pay_rcv 1 i c))) (hk := hk)

theorem copy_1 {Q : α → sProp 𝕄} {R : sProp 𝕄} {off} (hoff : off = ![c.val, 0, 0]) {inb} {sm : DmaSem sig} {hsrc hdst hsem} (hm : sm = cellSem (own 1))
    (hk : iprop((P m).St c l (own 1 :: w) d ∗ R) ⊢ wp frame (wpE (defs₀ (F := F)) 𝒱₀ (c.tc : Thread nD τ) none) Set.univ (K ⟨⟩) Q) :
    iprop((P m).St c (.inr 1 :: l) w d ∗ R)
      ⊢ wp frame (wpE (defs₀ (F := F)) 𝒱₀ (c.tc : Thread nD τ) none) Set.univ
          (.op (.enqueueDma (Memref.whole main_arg3) (.here (((Memref.whole main_v1_2).slice (Rect.unit (s := S8x128x1024) off S1x128x1024.size inb) (fun _ => rfl)).squeeze S128x1024 squeezes_S1x128x1024_S128x1024)) (.dma sm) hsrc hdst hsem) K) Q :=
  (P m).step_copy 1 hm rfl
    (sep_mono₂ (Entails.of_eq (lent_eq 1 c c (View.set_whole _))) (open_free (m := m) (k := 1) (blockSet_1 c hoff)))
    (fun fd => sep_mono₂ (land (m := m) (k := 1) (blockSet_1 c hoff) (blockWrite_1 c c hoff fd))
      (Entails.of_eq (lent_eq 1 c c (View.set_whole _)).symm)) (hk := hk)

theorem blockSet_2 (c : Dev nD) {off} (hoff : off = ![c.val, 0, 0]) {inb} :
    (((Memref.whole main_v1_3).slice (Rect.unit (s := S8x128x1024) off S1x128x1024.size inb) (fun _ => rfl)).squeeze S128x1024 squeezes_S1x128x1024_S128x1024).view.set = (blk c : Finset S8x128x1024.Idx) :=
  (set_block (View.whole main_v1_3) c hoff inb _).trans Finset.map_refl

theorem blockWrite_2 (c d : Dev nD) {off} (hoff : off = ![c.val, 0, 0]) {inb} (fd) :
    ∀ i ∈ (blk c : Finset S8x128x1024.Idx), (((Memref.whole main_v1_3).slice (Rect.unit (s := S8x128x1024) off S1x128x1024.size inb) (fun _ => rfl)).squeeze S128x1024 squeezes_S1x128x1024_S128x1024).view.write (Elt F) fd
      ((Memref.whole main_arg4).view.read (Elt F) (m ((c.tc : Thread nD τ).loc main_arg4))) Finset.univ i = (E m).y 2 d i := fun i hi =>
  (write_block (View.whole main_v1_3) c hoff inb _ fd _ i hi).trans
    (congrArg (fun x : Dev nD => m ((x.tc : Thread nD τ).loc main_arg4) (ix2 (n0 := 128) (n1 := 1024) (i 1) (i 2))) (mem_blk.mp hi).symm)

theorem push_2 {Q : α → sProp 𝕄} {R : sProp 𝕄} (i : Fin 7) {n : Dev nD} (hn : n = peer i c) {off} (hoff : off = ![c.val, 0, 0]) {inb} {sS sR : DmaSem sig} {hsc hsrc hdst hsem}
    (hS : sS = cellSem (snd (2, i))) (hR : sR = cellSem (rcv (2, i)))
    (hk : iprop((P m).St c l (snd (2, i) :: w) d ∗ R) ⊢ wp frame (wpE (defs₀ (F := F)) 𝒱₀ (c.tc : Thread nD τ) none) Set.univ (K ⟨⟩) Q) :
    iprop((P m).St c (.inl (2, i) :: l) w d ∗ R)
      ⊢ wp frame (wpE (defs₀ (F := F)) 𝒱₀ (c.tc : Thread nD τ) none) Set.univ
          (.op (.enqueueDma (Memref.whole main_arg4) (.remote (Dev.tc n : Thread nD τ)
            (((Memref.whole main_v1_3).slice (Rect.unit (s := S8x128x1024) off S1x128x1024.size inb) (fun _ => rfl)).squeeze S128x1024 squeezes_S1x128x1024_S128x1024) (.dma sS) hsc) (.dma sR) hsrc hdst hsem) K) Q :=
  (P m).step_push (2, i) hn hS hR rfl (BiEntails.of_eq (lent_eq 2 c (peer i c) (View.set_whole _)))
    (open_free (m := m) (k := 2) (blockSet_2 c hoff))
    (fun fd => (land (m := m) (k := 2) (blockSet_2 c hoff) (blockWrite_2 c (peer i c) hoff fd)).trans
      (Entails.of_eq (pay_rcv 2 i c))) (hk := hk)

theorem copy_2 {Q : α → sProp 𝕄} {R : sProp 𝕄} {off} (hoff : off = ![c.val, 0, 0]) {inb} {sm : DmaSem sig} {hsrc hdst hsem} (hm : sm = cellSem (own 2))
    (hk : iprop((P m).St c l (own 2 :: w) d ∗ R) ⊢ wp frame (wpE (defs₀ (F := F)) 𝒱₀ (c.tc : Thread nD τ) none) Set.univ (K ⟨⟩) Q) :
    iprop((P m).St c (.inr 2 :: l) w d ∗ R)
      ⊢ wp frame (wpE (defs₀ (F := F)) 𝒱₀ (c.tc : Thread nD τ) none) Set.univ
          (.op (.enqueueDma (Memref.whole main_arg4) (.here (((Memref.whole main_v1_3).slice (Rect.unit (s := S8x128x1024) off S1x128x1024.size inb) (fun _ => rfl)).squeeze S128x1024 squeezes_S1x128x1024_S128x1024)) (.dma sm) hsrc hdst hsem) K) Q :=
  (P m).step_copy 2 hm rfl
    (sep_mono₂ (Entails.of_eq (lent_eq 2 c c (View.set_whole _))) (open_free (m := m) (k := 2) (blockSet_2 c hoff)))
    (fun fd => sep_mono₂ (land (m := m) (k := 2) (blockSet_2 c hoff) (blockWrite_2 c c hoff fd))
      (Entails.of_eq (lent_eq 2 c c (View.set_whole _)).symm)) (hk := hk)

theorem blockSet_3 (c : Dev nD) {off} (hoff : off = ![c.val, 0, 0]) {inb} :
    (((Memref.whole main_v1_4).slice (Rect.unit (s := S8x1024x704) off S1x1024x704.size inb) (fun _ => rfl)).squeeze S1024x704 squeezes_S1x1024x704_S1024x704).view.set = (blk c : Finset S8x1024x704.Idx) :=
  (set_block (View.whole main_v1_4) c hoff inb _).trans Finset.map_refl

theorem blockWrite_3 (c d : Dev nD) {off} (hoff : off = ![c.val, 0, 0]) {inb} (fd) :
    ∀ i ∈ (blk c : Finset S8x1024x704.Idx), (((Memref.whole main_v1_4).slice (Rect.unit (s := S8x1024x704) off S1x1024x704.size inb) (fun _ => rfl)).squeeze S1024x704 squeezes_S1x1024x704_S1024x704).view.write (Elt F) fd
      ((Memref.whole main_arg5).view.read (Elt F) (m ((c.tc : Thread nD τ).loc main_arg5))) Finset.univ i = (E m).y 3 d i := fun i hi =>
  (write_block (View.whole main_v1_4) c hoff inb _ fd _ i hi).trans
    (congrArg (fun x : Dev nD => m ((x.tc : Thread nD τ).loc main_arg5) (ix2 (n0 := 1024) (n1 := 704) (i 1) (i 2))) (mem_blk.mp hi).symm)

theorem push_3 {Q : α → sProp 𝕄} {R : sProp 𝕄} (i : Fin 7) {n : Dev nD} (hn : n = peer i c) {off} (hoff : off = ![c.val, 0, 0]) {inb} {sS sR : DmaSem sig} {hsc hsrc hdst hsem}
    (hS : sS = cellSem (snd (3, i))) (hR : sR = cellSem (rcv (3, i)))
    (hk : iprop((P m).St c l (snd (3, i) :: w) d ∗ R) ⊢ wp frame (wpE (defs₀ (F := F)) 𝒱₀ (c.tc : Thread nD τ) none) Set.univ (K ⟨⟩) Q) :
    iprop((P m).St c (.inl (3, i) :: l) w d ∗ R)
      ⊢ wp frame (wpE (defs₀ (F := F)) 𝒱₀ (c.tc : Thread nD τ) none) Set.univ
          (.op (.enqueueDma (Memref.whole main_arg5) (.remote (Dev.tc n : Thread nD τ)
            (((Memref.whole main_v1_4).slice (Rect.unit (s := S8x1024x704) off S1x1024x704.size inb) (fun _ => rfl)).squeeze S1024x704 squeezes_S1x1024x704_S1024x704) (.dma sS) hsc) (.dma sR) hsrc hdst hsem) K) Q :=
  (P m).step_push (3, i) hn hS hR rfl (BiEntails.of_eq (lent_eq 3 c (peer i c) (View.set_whole _)))
    (open_free (m := m) (k := 3) (blockSet_3 c hoff))
    (fun fd => (land (m := m) (k := 3) (blockSet_3 c hoff) (blockWrite_3 c (peer i c) hoff fd)).trans
      (Entails.of_eq (pay_rcv 3 i c))) (hk := hk)

theorem copy_3 {Q : α → sProp 𝕄} {R : sProp 𝕄} {off} (hoff : off = ![c.val, 0, 0]) {inb} {sm : DmaSem sig} {hsrc hdst hsem} (hm : sm = cellSem (own 3))
    (hk : iprop((P m).St c l (own 3 :: w) d ∗ R) ⊢ wp frame (wpE (defs₀ (F := F)) 𝒱₀ (c.tc : Thread nD τ) none) Set.univ (K ⟨⟩) Q) :
    iprop((P m).St c (.inr 3 :: l) w d ∗ R)
      ⊢ wp frame (wpE (defs₀ (F := F)) 𝒱₀ (c.tc : Thread nD τ) none) Set.univ
          (.op (.enqueueDma (Memref.whole main_arg5) (.here (((Memref.whole main_v1_4).slice (Rect.unit (s := S8x1024x704) off S1x1024x704.size inb) (fun _ => rfl)).squeeze S1024x704 squeezes_S1x1024x704_S1024x704)) (.dma sm) hsrc hdst hsem) K) Q :=
  (P m).step_copy 3 hm rfl
    (sep_mono₂ (Entails.of_eq (lent_eq 3 c c (View.set_whole _))) (open_free (m := m) (k := 3) (blockSet_3 c hoff)))
    (fun fd => sep_mono₂ (land (m := m) (k := 3) (blockSet_3 c hoff) (blockWrite_3 c c hoff fd))
      (Entails.of_eq (lent_eq 3 c c (View.set_whole _)).symm)) (hk := hk)

theorem blockSet_4 (c : Dev nD) {off} (hoff : off = ![c.val, 0, 0]) {inb} :
    (((Memref.whole main_v1_5).slice (Rect.unit (s := S8x352x1024) off S1x352x1024.size inb) (fun _ => rfl)).squeeze S352x1024 squeezes_S1x352x1024_S352x1024).view.set = (blk c : Finset S8x352x1024.Idx) :=
  (set_block (View.whole main_v1_5) c hoff inb _).trans Finset.map_refl

theorem blockWrite_4 (c d : Dev nD) {off} (hoff : off = ![c.val, 0, 0]) {inb} (fd) :
    ∀ i ∈ (blk c : Finset S8x352x1024.Idx), (((Memref.whole main_v1_5).slice (Rect.unit (s := S8x352x1024) off S1x352x1024.size inb) (fun _ => rfl)).squeeze S352x1024 squeezes_S1x352x1024_S352x1024).view.write (Elt F) fd
      ((Memref.whole main_arg6).view.read (Elt F) (m ((c.tc : Thread nD τ).loc main_arg6))) Finset.univ i = (E m).y 4 d i := fun i hi =>
  (write_block (View.whole main_v1_5) c hoff inb _ fd _ i hi).trans
    (congrArg (fun x : Dev nD => m ((x.tc : Thread nD τ).loc main_arg6) (ix2 (n0 := 352) (n1 := 1024) (i 1) (i 2))) (mem_blk.mp hi).symm)

theorem push_4 {Q : α → sProp 𝕄} {R : sProp 𝕄} (i : Fin 7) {n : Dev nD} (hn : n = peer i c) {off} (hoff : off = ![c.val, 0, 0]) {inb} {sS sR : DmaSem sig} {hsc hsrc hdst hsem}
    (hS : sS = cellSem (snd (4, i))) (hR : sR = cellSem (rcv (4, i)))
    (hk : iprop((P m).St c l (snd (4, i) :: w) d ∗ R) ⊢ wp frame (wpE (defs₀ (F := F)) 𝒱₀ (c.tc : Thread nD τ) none) Set.univ (K ⟨⟩) Q) :
    iprop((P m).St c (.inl (4, i) :: l) w d ∗ R)
      ⊢ wp frame (wpE (defs₀ (F := F)) 𝒱₀ (c.tc : Thread nD τ) none) Set.univ
          (.op (.enqueueDma (Memref.whole main_arg6) (.remote (Dev.tc n : Thread nD τ)
            (((Memref.whole main_v1_5).slice (Rect.unit (s := S8x352x1024) off S1x352x1024.size inb) (fun _ => rfl)).squeeze S352x1024 squeezes_S1x352x1024_S352x1024) (.dma sS) hsc) (.dma sR) hsrc hdst hsem) K) Q :=
  (P m).step_push (4, i) hn hS hR rfl (BiEntails.of_eq (lent_eq 4 c (peer i c) (View.set_whole _)))
    (open_free (m := m) (k := 4) (blockSet_4 c hoff))
    (fun fd => (land (m := m) (k := 4) (blockSet_4 c hoff) (blockWrite_4 c (peer i c) hoff fd)).trans
      (Entails.of_eq (pay_rcv 4 i c))) (hk := hk)

theorem copy_4 {Q : α → sProp 𝕄} {R : sProp 𝕄} {off} (hoff : off = ![c.val, 0, 0]) {inb} {sm : DmaSem sig} {hsrc hdst hsem} (hm : sm = cellSem (own 4))
    (hk : iprop((P m).St c l (own 4 :: w) d ∗ R) ⊢ wp frame (wpE (defs₀ (F := F)) 𝒱₀ (c.tc : Thread nD τ) none) Set.univ (K ⟨⟩) Q) :
    iprop((P m).St c (.inr 4 :: l) w d ∗ R)
      ⊢ wp frame (wpE (defs₀ (F := F)) 𝒱₀ (c.tc : Thread nD τ) none) Set.univ
          (.op (.enqueueDma (Memref.whole main_arg6) (.here (((Memref.whole main_v1_5).slice (Rect.unit (s := S8x352x1024) off S1x352x1024.size inb) (fun _ => rfl)).squeeze S352x1024 squeezes_S1x352x1024_S352x1024)) (.dma sm) hsrc hdst hsem) K) Q :=
  (P m).step_copy 4 hm rfl
    (sep_mono₂ (Entails.of_eq (lent_eq 4 c c (View.set_whole _))) (open_free (m := m) (k := 4) (blockSet_4 c hoff)))
    (fun fd => sep_mono₂ (land (m := m) (k := 4) (blockSet_4 c hoff) (blockWrite_4 c c hoff fd))
      (Entails.of_eq (lent_eq 4 c c (View.set_whole _)).symm)) (hk := hk)

end Cert.KernelIdeal.Gen
-- ==== Proof.Walk.lean ====
/-
  The kernel's steps at the first and at the last grid point, on the state of the exchange: the first starts every copy and every push, the
  last waits for every cell. One lemma per part of the kernel function, each before what follows it.
-/
module

public import proofs.«01_k».proof.Proof.InProj
public import proofs.«01_k».proof.Proof.Gen.KernelIdeal.Skeleton

@[expose] public section

noncomputable section

namespace Cert.KernelIdeal.Gen

open Cert.Exchange
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ sig) ℕ

/-! ## Where the blocks lie and who the peers are -/

theorem here (c : Dev nD) : (![4 * (c.val / 4) + 2 * ((c.val / 2) % 2) + (c.val % 2), 0, 0] : Fin 3 → ℕ) = ![c.val, 0, 0] := by
  rw [show 4 * (c.val / 4) + 2 * ((c.val / 2) % 2) + (c.val % 2) = c.val by revert c; decide]
theorem off1_at (c : Dev nD) : k0_off1 c = ![c.val, 0, 0] := (k0_off1_eq c).trans (here c)
theorem off2_at (c : Dev nD) : k0_off2 c = ![c.val, 0, 0] := (k0_off2_eq c).trans (here c)
theorem off3_at (c : Dev nD) : k0_off3 c = ![c.val, 0, 0] := (k0_off3_eq c).trans (here c)

theorem peer_0 (c : Dev nD) : (4 * (c.val / 4) + 2 * ((c.val / 2) % 2) + 1) - (c.val % 2) = (peer 0 c).val := by revert c; decide
theorem peer_1 (c : Dev nD) : (4 * (c.val / 4) + (c.val % 2) + 2) - 2 * ((c.val / 2) % 2) = (peer 1 c).val := by revert c; decide
theorem peer_2 (c : Dev nD) : (4 * (c.val / 4) + 3) - (2 * ((c.val / 2) % 2) + (c.val % 2)) = (peer 2 c).val := by revert c; decide
theorem peer_3 (c : Dev nD) : (2 * ((c.val / 2) % 2) + (c.val % 2) + 4) - 4 * (c.val / 4) = (peer 3 c).val := by revert c; decide
theorem peer_4 (c : Dev nD) : (2 * ((c.val / 2) % 2) + 5) - (4 * (c.val / 4) + (c.val % 2)) = (peer 4 c).val := by revert c; decide
theorem peer_5 (c : Dev nD) : ((c.val % 2) + 6) - (4 * (c.val / 4) + 2 * ((c.val / 2) % 2)) = (peer 5 c).val := by revert c; decide
theorem peer_6 (c : Dev nD) : 7 - (4 * (c.val / 4) + 2 * ((c.val / 2) % 2) + (c.val % 2)) = (peer 6 c).val := by revert c; decide

variable {m : (ℓ : Loc nD τ sig) → Buf (Elt F) ℓ} {c : Dev nD} {β : Type} {i : grid0.Coords}
  {arg3 : Memref sig .tc .vmem S1280x1024 .bf16} {harg3 : arg3.IsWhole} {arg4 : Memref sig .tc .vmem S1024x1024 .bf16} {harg4 : arg4.IsWhole}
  {arg10 : Memref sig .tc .vmem S1280x1024 .f32} {harg10 : arg10.IsWhole}
  {l : List ((Fin 5 × Fin 7) ⊕ Fin 5)} {w d : List (Cell (Fin 5 × Fin 7) (Fin 5))}

/-! ## The parts -/

theorem walk_1 {Q : β → sProp 𝕄} {G : sProp 𝕄} {k : _ → Prog (TpuEff nD τ sig (Elt F) Λ₀ .tc) β}
    (hk : ∀ r, r.1 = c → (G ⊢ wp frame (wpE (defs₀ (F := F)) 𝒱₀ (c.tc : Thread nD τ) none) Set.univ (k r) Q)) :
    G ⊢ wp frame (wpE (defs₀ (F := F)) 𝒱₀ (c.tc : Thread nD τ) none) Set.univ (k0_part1 (F := F) i arg3 harg3 arg4 harg4 (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) arg10 harg10 (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) cc0_scratch0 cc0_scratch1 cc0_scratch2 >>= k) Q := by
  rw [k0_part1_eq_skeleton]
  simp only [k0_part1_skel, Prog.lift, Prog.bind_op, Prog.bind_ret, Prog.pure_eq_ret, wp_deviceId]
  exact hk _ rfl

theorem walk_2 {Q : β → sProp 𝕄} {G : sProp 𝕄} {v22 v25 v28 : BitVec 32} {k : _ → Prog (TpuEff nD τ sig (Elt F) Λ₀ .tc) β}
    (hk : ∀ r, (G ⊢ wp frame (wpE (defs₀ (F := F)) 𝒱₀ (c.tc : Thread nD τ) none) Set.univ (k r) Q)) :
    G ⊢ wp frame (wpE (defs₀ (F := F)) 𝒱₀ (c.tc : Thread nD τ) none) Set.univ (k0_part2 (F := F) i arg3 harg3 arg4 harg4 (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) arg10 harg10 (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) cc0_scratch0 cc0_scratch1 cc0_scratch2 v22 v25 v28 >>= k) Q := by
  rw [k0_part2_eq_skeleton]
  simp only [k0_part2_skel, Prog.lift, Prog.bind_op, Prog.bind_ret, Prog.pure_eq_ret]
  exact hk _

theorem walk_3 {Q : β → sProp 𝕄} {R : sProp 𝕄} (k0_h1 : k0_cond1 i = 1#1) {v22 v25 v28 : BitVec 32} {k : _ → Prog (TpuEff nD τ sig (Elt F) Λ₀ .tc) β}
    (hk : ∀ r, iprop((P m).St c l (own 3 :: own 2 :: own 1 :: own 0 :: w) d ∗ R) ⊢ wp frame (wpE (defs₀ (F := F)) 𝒱₀ (c.tc : Thread nD τ) none) Set.univ (k r) Q) :
    iprop((P m).St c (.inr 0 :: .inr 1 :: .inr 2 :: .inr 3 :: l) w d ∗ R) ⊢ wp frame (wpE (defs₀ (F := F)) 𝒱₀ (c.tc : Thread nD τ) none) Set.univ (k0_part3 (F := F) i arg3 harg3 arg4 harg4 (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) arg10 harg10 (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) cc0_scratch0 cc0_scratch1 cc0_scratch2 k0_h1 c v22 v25 v28 >>= k) Q := by
  rw [k0_part3_eq_skeleton]
  simp only [k0_part3_skel, Prog.lift, Prog.bind_op, Prog.bind_ret, Prog.pure_eq_ret]
  exact copy_0 (off1_at c) rfl (
    copy_1 (off1_at c) rfl (
    copy_2 (off1_at c) rfl (
    copy_3 (off2_at c) rfl (
    hk _))))

theorem walk_4 {Q : β → sProp 𝕄} {R : sProp 𝕄} (k0_h1 : k0_cond1 i = 1#1) {v22 v25 v28 v33 v34 v35 v36 : BitVec 32} {k : _ → Prog (TpuEff nD τ sig (Elt F) Λ₀ .tc) β}
    (hk : ∀ r, iprop((P m).St c l (snd (0, 1) :: snd (0, 0) :: own 4 :: w) d ∗ R) ⊢ wp frame (wpE (defs₀ (F := F)) 𝒱₀ (c.tc : Thread nD τ) none) Set.univ (k r) Q) :
    iprop((P m).St c (.inr 4 :: .inl (0, 0) :: .inl (0, 1) :: l) w d ∗ R) ⊢ wp frame (wpE (defs₀ (F := F)) 𝒱₀ (c.tc : Thread nD τ) none) Set.univ (k0_part4 (F := F) i arg3 harg3 arg4 harg4 (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) arg10 harg10 (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) cc0_scratch0 cc0_scratch1 cc0_scratch2 k0_h1 c v22 v25 v28 v33 v34 v35 v36 >>= k) Q := by
  rw [k0_part4_eq_skeleton]
  simp only [k0_part4_skel, Prog.lift, Prog.bind_op, Prog.bind_ret, Prog.pure_eq_ret]
  exact copy_4 (off3_at c) rfl (
    push_0 0 (Fin.ext ((k0_dev1_eq c).trans (peer_0 c))) (off1_at c) rfl rfl (
    push_0 1 (Fin.ext ((k0_dev2_eq c).trans (peer_1 c))) (off1_at c) rfl rfl (
    hk _)))

theorem walk_5 {Q : β → sProp 𝕄} {R : sProp 𝕄} (k0_h1 : k0_cond1 i = 1#1) {v25 v28 v37 v38 v39 v40 v41 : BitVec 32} {k : _ → Prog (TpuEff nD τ sig (Elt F) Λ₀ .tc) β}
    (hk : ∀ r, iprop((P m).St c l (snd (0, 4) :: snd (0, 3) :: snd (0, 2) :: w) d ∗ R) ⊢ wp frame (wpE (defs₀ (F := F)) 𝒱₀ (c.tc : Thread nD τ) none) Set.univ (k r) Q) :
    iprop((P m).St c (.inl (0, 2) :: .inl (0, 3) :: .inl (0, 4) :: l) w d ∗ R) ⊢ wp frame (wpE (defs₀ (F := F)) 𝒱₀ (c.tc : Thread nD τ) none) Set.univ (k0_part5 (F := F) i arg3 harg3 arg4 harg4 (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) arg10 harg10 (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) cc0_scratch0 cc0_scratch1 cc0_scratch2 k0_h1 c v25 v28 v37 v38 v39 v40 v41 >>= k) Q := by
  rw [k0_part5_eq_skeleton]
  simp only [k0_part5_skel, Prog.lift, Prog.bind_op, Prog.bind_ret, Prog.pure_eq_ret]
  exact push_0 2 (Fin.ext ((k0_dev3_eq c).trans (peer_2 c))) (off1_at c) rfl rfl (
    push_0 3 (Fin.ext ((k0_dev4_eq c).trans (peer_3 c))) (off1_at c) rfl rfl (
    push_0 4 (Fin.ext ((k0_dev5_eq c).trans (peer_4 c))) (off1_at c) rfl rfl (
    hk _)))

theorem walk_6 {Q : β → sProp 𝕄} {R : sProp 𝕄} (k0_h1 : k0_cond1 i = 1#1) {v22 v25 v42 v43 v44 v45 v46 : BitVec 32} {k : _ → Prog (TpuEff nD τ sig (Elt F) Λ₀ .tc) β}
    (hk : ∀ r, iprop((P m).St c l (snd (1, 0) :: snd (0, 6) :: snd (0, 5) :: w) d ∗ R) ⊢ wp frame (wpE (defs₀ (F := F)) 𝒱₀ (c.tc : Thread nD τ) none) Set.univ (k r) Q) :
    iprop((P m).St c (.inl (0, 5) :: .inl (0, 6) :: .inl (1, 0) :: l) w d ∗ R) ⊢ wp frame (wpE (defs₀ (F := F)) 𝒱₀ (c.tc : Thread nD τ) none) Set.univ (k0_part6 (F := F) i arg3 harg3 arg4 harg4 (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) arg10 harg10 (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) cc0_scratch0 cc0_scratch1 cc0_scratch2 k0_h1 c v22 v25 v42 v43 v44 v45 v46 >>= k) Q := by
  rw [k0_part6_eq_skeleton]
  simp only [k0_part6_skel, Prog.lift, Prog.bind_op, Prog.bind_ret, Prog.pure_eq_ret]
  exact push_0 5 (Fin.ext ((k0_dev6_eq c).trans (peer_5 c))) (off1_at c) rfl rfl (
    push_0 6 (Fin.ext ((k0_dev7_eq c).trans (peer_6 c))) (off1_at c) rfl rfl (
    push_1 0 (Fin.ext ((k0_dev8_eq c).trans (peer_0 c))) (off1_at c) rfl rfl (
    hk _)))

theorem walk_7 {Q : β → sProp 𝕄} {R : sProp 𝕄} (k0_h1 : k0_cond1 i = 1#1) {v22 v25 v28 v47 v48 v49 v50 v212 c1_i32_155 : BitVec 32} {k : _ → Prog (TpuEff nD τ sig (Elt F) Λ₀ .tc) β}
    (hk : ∀ r, iprop((P m).St c l (snd (1, 3) :: snd (1, 2) :: snd (1, 1) :: w) d ∗ R) ⊢ wp frame (wpE (defs₀ (F := F)) 𝒱₀ (c.tc : Thread nD τ) none) Set.univ (k r) Q) :
    iprop((P m).St c (.inl (1, 1) :: .inl (1, 2) :: .inl (1, 3) :: l) w d ∗ R) ⊢ wp frame (wpE (defs₀ (F := F)) 𝒱₀ (c.tc : Thread nD τ) none) Set.univ (k0_part7 (F := F) i arg3 harg3 arg4 harg4 (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) arg10 harg10 (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) cc0_scratch0 cc0_scratch1 cc0_scratch2 k0_h1 c v22 v25 v28 v47 v48 v49 v50 v212 c1_i32_155 >>= k) Q := by
  rw [k0_part7_eq_skeleton]
  simp only [k0_part7_skel, Prog.lift, Prog.bind_op, Prog.bind_ret, Prog.pure_eq_ret]
  exact push_1 1 (Fin.ext ((k0_dev9_eq c).trans (peer_1 c))) (off1_at c) rfl rfl (
    push_1 2 (Fin.ext ((k0_dev10_eq c).trans (peer_2 c))) (off1_at c) rfl rfl (
    push_1 3 (Fin.ext ((k0_dev11_eq c).trans (peer_3 c))) (off1_at c) rfl rfl (
    hk _)))

theorem walk_8 {Q : β → sProp 𝕄} {R : sProp 𝕄} (k0_h1 : k0_cond1 i = 1#1) {v22 v25 v28 v51 v52 v53 v54 v55 v56 v246 c2_i32_175 : BitVec 32} {k : _ → Prog (TpuEff nD τ sig (Elt F) Λ₀ .tc) β}
    (hk : ∀ r, iprop((P m).St c l (snd (1, 6) :: snd (1, 5) :: snd (1, 4) :: w) d ∗ R) ⊢ wp frame (wpE (defs₀ (F := F)) 𝒱₀ (c.tc : Thread nD τ) none) Set.univ (k r) Q) :
    iprop((P m).St c (.inl (1, 4) :: .inl (1, 5) :: .inl (1, 6) :: l) w d ∗ R) ⊢ wp frame (wpE (defs₀ (F := F)) 𝒱₀ (c.tc : Thread nD τ) none) Set.univ (k0_part8 (F := F) i arg3 harg3 arg4 harg4 (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) arg10 harg10 (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) cc0_scratch0 cc0_scratch1 cc0_scratch2 k0_h1 c v22 v25 v28 v51 v52 v53 v54 v55 v56 v246 c2_i32_175 >>= k) Q := by
  rw [k0_part8_eq_skeleton]
  simp only [k0_part8_skel, Prog.lift, Prog.bind_op, Prog.bind_ret, Prog.pure_eq_ret]
  exact push_1 4 (Fin.ext ((k0_dev12_eq c).trans (peer_4 c))) (off1_at c) rfl rfl (
    push_1 5 (Fin.ext ((k0_dev13_eq c).trans (peer_5 c))) (off1_at c) rfl rfl (
    push_1 6 (Fin.ext ((k0_dev14_eq c).trans (peer_6 c))) (off1_at c) rfl rfl (
    hk _)))

theorem walk_9 {Q : β → sProp 𝕄} {R : sProp 𝕄} (k0_h1 : k0_cond1 i = 1#1) {v22 v25 v28 v57 v58 v59 v60 v281 : BitVec 32} {k : _ → Prog (TpuEff nD τ sig (Elt F) Λ₀ .tc) β}
    (hk : ∀ r, iprop((P m).St c l (snd (2, 2) :: snd (2, 1) :: snd (2, 0) :: w) d ∗ R) ⊢ wp frame (wpE (defs₀ (F := F)) 𝒱₀ (c.tc : Thread nD τ) none) Set.univ (k r) Q) :
    iprop((P m).St c (.inl (2, 0) :: .inl (2, 1) :: .inl (2, 2) :: l) w d ∗ R) ⊢ wp frame (wpE (defs₀ (F := F)) 𝒱₀ (c.tc : Thread nD τ) none) Set.univ (k0_part9 (F := F) i arg3 harg3 arg4 harg4 (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) arg10 harg10 (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) cc0_scratch0 cc0_scratch1 cc0_scratch2 k0_h1 c v22 v25 v28 v57 v58 v59 v60 v281 >>= k) Q := by
  rw [k0_part9_eq_skeleton]
  simp only [k0_part9_skel, Prog.lift, Prog.bind_op, Prog.bind_ret, Prog.pure_eq_ret]
  exact push_2 0 (Fin.ext ((k0_dev15_eq c).trans (peer_0 c))) (off1_at c) rfl rfl (
    push_2 1 (Fin.ext ((k0_dev16_eq c).trans (peer_1 c))) (off1_at c) rfl rfl (
    push_2 2 (Fin.ext ((k0_dev17_eq c).trans (peer_2 c))) (off1_at c) rfl rfl (
    hk _)))

theorem walk_10 {Q : β → sProp 𝕄} {R : sProp 𝕄} (k0_h1 : k0_cond1 i = 1#1) {v25 v28 v61 v62 v63 v64 v65 : BitVec 32} {k : _ → Prog (TpuEff nD τ sig (Elt F) Λ₀ .tc) β}
    (hk : ∀ r, iprop((P m).St c l (snd (2, 4) :: snd (2, 3) :: w) d ∗ R) ⊢ wp frame (wpE (defs₀ (F := F)) 𝒱₀ (c.tc : Thread nD τ) none) Set.univ (k r) Q) :
    iprop((P m).St c (.inl (2, 3) :: .inl (2, 4) :: l) w d ∗ R) ⊢ wp frame (wpE (defs₀ (F := F)) 𝒱₀ (c.tc : Thread nD τ) none) Set.univ (k0_part10 (F := F) i arg3 harg3 arg4 harg4 (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) arg10 harg10 (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) cc0_scratch0 cc0_scratch1 cc0_scratch2 k0_h1 c v25 v28 v61 v62 v63 v64 v65 >>= k) Q := by
  rw [k0_part10_eq_skeleton]
  simp only [k0_part10_skel, Prog.lift, Prog.bind_op, Prog.bind_ret, Prog.pure_eq_ret]
  exact push_2 3 (Fin.ext ((k0_dev18_eq c).trans (peer_3 c))) (off1_at c) rfl rfl (
    push_2 4 (Fin.ext ((k0_dev19_eq c).trans (peer_4 c))) (off1_at c) rfl rfl (
    hk _))

theorem walk_11 {Q : β → sProp 𝕄} {R : sProp 𝕄} (k0_h1 : k0_cond1 i = 1#1) {v22 v25 v28 v66 v67 v68 v69 v70 : BitVec 32} {k : _ → Prog (TpuEff nD τ sig (Elt F) Λ₀ .tc) β}
    (hk : ∀ r, iprop((P m).St c l (snd (3, 0) :: snd (2, 6) :: snd (2, 5) :: w) d ∗ R) ⊢ wp frame (wpE (defs₀ (F := F)) 𝒱₀ (c.tc : Thread nD τ) none) Set.univ (k r) Q) :
    iprop((P m).St c (.inl (2, 5) :: .inl (2, 6) :: .inl (3, 0) :: l) w d ∗ R) ⊢ wp frame (wpE (defs₀ (F := F)) 𝒱₀ (c.tc : Thread nD τ) none) Set.univ (k0_part11 (F := F) i arg3 harg3 arg4 harg4 (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) arg10 harg10 (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) cc0_scratch0 cc0_scratch1 cc0_scratch2 k0_h1 c v22 v25 v28 v66 v67 v68 v69 v70 >>= k) Q := by
  rw [k0_part11_eq_skeleton]
  simp only [k0_part11_skel, Prog.lift, Prog.bind_op, Prog.bind_ret, Prog.pure_eq_ret]
  exact push_2 5 (Fin.ext ((k0_dev20_eq c).trans (peer_5 c))) (off1_at c) rfl rfl (
    push_2 6 (Fin.ext ((k0_dev21_eq c).trans (peer_6 c))) (off1_at c) rfl rfl (
    push_3 0 (Fin.ext ((k0_dev22_eq c).trans (peer_0 c))) (off2_at c) rfl rfl (
    hk _)))

theorem walk_12 {Q : β → sProp 𝕄} {R : sProp 𝕄} (k0_h1 : k0_cond1 i = 1#1) {v22 v25 v28 v71 v72 v73 v74 v75 : BitVec 32} {k : _ → Prog (TpuEff nD τ sig (Elt F) Λ₀ .tc) β}
    (hk : ∀ r, iprop((P m).St c l (snd (3, 3) :: snd (3, 2) :: snd (3, 1) :: w) d ∗ R) ⊢ wp frame (wpE (defs₀ (F := F)) 𝒱₀ (c.tc : Thread nD τ) none) Set.univ (k r) Q) :
    iprop((P m).St c (.inl (3, 1) :: .inl (3, 2) :: .inl (3, 3) :: l) w d ∗ R) ⊢ wp frame (wpE (defs₀ (F := F)) 𝒱₀ (c.tc : Thread nD τ) none) Set.univ (k0_part12 (F := F) i arg3 harg3 arg4 harg4 (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) arg10 harg10 (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) cc0_scratch0 cc0_scratch1 cc0_scratch2 k0_h1 c v22 v25 v28 v71 v72 v73 v74 v75 >>= k) Q := by
  rw [k0_part12_eq_skeleton]
  simp only [k0_part12_skel, Prog.lift, Prog.bind_op, Prog.bind_ret, Prog.pure_eq_ret]
  exact push_3 1 (Fin.ext ((k0_dev23_eq c).trans (peer_1 c))) (off2_at c) rfl rfl (
    push_3 2 (Fin.ext ((k0_dev24_eq c).trans (peer_2 c))) (off2_at c) rfl rfl (
    push_3 3 (Fin.ext ((k0_dev25_eq c).trans (peer_3 c))) (off2_at c) rfl rfl (
    hk _)))

theorem walk_13 {Q : β → sProp 𝕄} {R : sProp 𝕄} (k0_h1 : k0_cond1 i = 1#1) {v22 v25 v28 v76 v77 v78 v79 v80 : BitVec 32} {k : _ → Prog (TpuEff nD τ sig (Elt F) Λ₀ .tc) β}
    (hk : ∀ r, iprop((P m).St c l (snd (3, 6) :: snd (3, 5) :: snd (3, 4) :: w) d ∗ R) ⊢ wp frame (wpE (defs₀ (F := F)) 𝒱₀ (c.tc : Thread nD τ) none) Set.univ (k r) Q) :
    iprop((P m).St c (.inl (3, 4) :: .inl (3, 5) :: .inl (3, 6) :: l) w d ∗ R) ⊢ wp frame (wpE (defs₀ (F := F)) 𝒱₀ (c.tc : Thread nD τ) none) Set.univ (k0_part13 (F := F) i arg3 harg3 arg4 harg4 (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) arg10 harg10 (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) cc0_scratch0 cc0_scratch1 cc0_scratch2 k0_h1 c v22 v25 v28 v76 v77 v78 v79 v80 >>= k) Q := by
  rw [k0_part13_eq_skeleton]
  simp only [k0_part13_skel, Prog.lift, Prog.bind_op, Prog.bind_ret, Prog.pure_eq_ret]
  exact push_3 4 (Fin.ext ((k0_dev26_eq c).trans (peer_4 c))) (off2_at c) rfl rfl (
    push_3 5 (Fin.ext ((k0_dev27_eq c).trans (peer_5 c))) (off2_at c) rfl rfl (
    push_3 6 (Fin.ext ((k0_dev28_eq c).trans (peer_6 c))) (off2_at c) rfl rfl (
    hk _)))

theorem walk_14 {Q : β → sProp 𝕄} {R : sProp 𝕄} (k0_h1 : k0_cond1 i = 1#1) {v22 v28 v81 v82 v83 v84 v85 v452 c1_i32_296 : BitVec 32} {k : _ → Prog (TpuEff nD τ sig (Elt F) Λ₀ .tc) β}
    (hk : ∀ r, iprop((P m).St c l (snd (4, 2) :: snd (4, 1) :: snd (4, 0) :: w) d ∗ R) ⊢ wp frame (wpE (defs₀ (F := F)) 𝒱₀ (c.tc : Thread nD τ) none) Set.univ (k r) Q) :
    iprop((P m).St c (.inl (4, 0) :: .inl (4, 1) :: .inl (4, 2) :: l) w d ∗ R) ⊢ wp frame (wpE (defs₀ (F := F)) 𝒱₀ (c.tc : Thread nD τ) none) Set.univ (k0_part14 (F := F) i arg3 harg3 arg4 harg4 (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) arg10 harg10 (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) cc0_scratch0 cc0_scratch1 cc0_scratch2 k0_h1 c v22 v28 v81 v82 v83 v84 v85 v452 c1_i32_296 >>= k) Q := by
  rw [k0_part14_eq_skeleton]
  simp only [k0_part14_skel, Prog.lift, Prog.bind_op, Prog.bind_ret, Prog.pure_eq_ret]
  exact push_4 0 (Fin.ext ((k0_dev29_eq c).trans (peer_0 c))) (off3_at c) rfl rfl (
    push_4 1 (Fin.ext ((k0_dev30_eq c).trans (peer_1 c))) (off3_at c) rfl rfl (
    push_4 2 (Fin.ext ((k0_dev31_eq c).trans (peer_2 c))) (off3_at c) rfl rfl (
    hk _)))

theorem walk_15 {Q : β → sProp 𝕄} {R : sProp 𝕄} (k0_h1 : k0_cond1 i = 1#1) {v25 v28 v86 v87 v88 v89 v90 v486 c2_i32_316 : BitVec 32} {k : _ → Prog (TpuEff nD τ sig (Elt F) Λ₀ .tc) β}
    (hk : ∀ r, iprop((P m).St c l (snd (4, 5) :: snd (4, 4) :: snd (4, 3) :: w) d ∗ R) ⊢ wp frame (wpE (defs₀ (F := F)) 𝒱₀ (c.tc : Thread nD τ) none) Set.univ (k r) Q) :
    iprop((P m).St c (.inl (4, 3) :: .inl (4, 4) :: .inl (4, 5) :: l) w d ∗ R) ⊢ wp frame (wpE (defs₀ (F := F)) 𝒱₀ (c.tc : Thread nD τ) none) Set.univ (k0_part15 (F := F) i arg3 harg3 arg4 harg4 (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) arg10 harg10 (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) cc0_scratch0 cc0_scratch1 cc0_scratch2 k0_h1 c v25 v28 v86 v87 v88 v89 v90 v486 c2_i32_316 >>= k) Q := by
  rw [k0_part15_eq_skeleton]
  simp only [k0_part15_skel, Prog.lift, Prog.bind_op, Prog.bind_ret, Prog.pure_eq_ret]
  exact push_4 3 (Fin.ext ((k0_dev32_eq c).trans (peer_3 c))) (off3_at c) rfl rfl (
    push_4 4 (Fin.ext ((k0_dev33_eq c).trans (peer_4 c))) (off3_at c) rfl rfl (
    push_4 5 (Fin.ext ((k0_dev34_eq c).trans (peer_5 c))) (off3_at c) rfl rfl (
    hk _)))

theorem walk_16 {Q : β → sProp 𝕄} {G : sProp 𝕄} {k : _ → Prog (TpuEff nD τ sig (Elt F) Λ₀ .tc) β}
    (hk : ∀ r, r.1 = c → (G ⊢ wp frame (wpE (defs₀ (F := F)) 𝒱₀ (c.tc : Thread nD τ) none) Set.univ (k r) Q)) :
    G ⊢ wp frame (wpE (defs₀ (F := F)) 𝒱₀ (c.tc : Thread nD τ) none) Set.univ (k0_part16 (F := F) i arg3 harg3 arg4 harg4 (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) arg10 harg10 (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) cc0_scratch0 cc0_scratch1 cc0_scratch2 >>= k) Q := by
  rw [k0_part16_eq_skeleton]
  simp only [k0_part16_skel, Prog.lift, Prog.bind_op, Prog.bind_ret, Prog.pure_eq_ret, wp_deviceId]
  exact hk _ rfl

theorem walk_17 {Q : β → sProp 𝕄} {G : sProp 𝕄} {v22 v25 v28 v54 v55 : BitVec 32} {k : _ → Prog (TpuEff nD τ sig (Elt F) Λ₀ .tc) β}
    (hk : ∀ r, (G ⊢ wp frame (wpE (defs₀ (F := F)) 𝒱₀ (c.tc : Thread nD τ) none) Set.univ (k r) Q)) :
    G ⊢ wp frame (wpE (defs₀ (F := F)) 𝒱₀ (c.tc : Thread nD τ) none) Set.univ (k0_part17 (F := F) i arg3 harg3 arg4 harg4 (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) arg10 harg10 (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) cc0_scratch0 cc0_scratch1 cc0_scratch2 v22 v25 v28 v54 v55 >>= k) Q := by
  rw [k0_part17_eq_skeleton]
  simp only [k0_part17_skel, Prog.lift, Prog.bind_op, Prog.bind_ret, Prog.pure_eq_ret]
  exact hk _

theorem walk_18 {Q : β → sProp 𝕄} {G : sProp 𝕄} {v22 v25 v28 v90 v91 : BitVec 32} {k : _ → Prog (TpuEff nD τ sig (Elt F) Λ₀ .tc) β}
    (hk : ∀ r, (G ⊢ wp frame (wpE (defs₀ (F := F)) 𝒱₀ (c.tc : Thread nD τ) none) Set.univ (k r) Q)) :
    G ⊢ wp frame (wpE (defs₀ (F := F)) 𝒱₀ (c.tc : Thread nD τ) none) Set.univ (k0_part18 (F := F) i arg3 harg3 arg4 harg4 (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) arg10 harg10 (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) cc0_scratch0 cc0_scratch1 cc0_scratch2 v22 v25 v28 v90 v91 >>= k) Q := by
  rw [k0_part18_eq_skeleton]
  simp only [k0_part18_skel, Prog.lift, Prog.bind_op, Prog.bind_ret, Prog.pure_eq_ret]
  exact hk _

theorem walk_19 {Q : β → sProp 𝕄} {G : sProp 𝕄} {v22 v25 v28 : BitVec 32} {k : _ → Prog (TpuEff nD τ sig (Elt F) Λ₀ .tc) β}
    (hk : ∀ r, (G ⊢ wp frame (wpE (defs₀ (F := F)) 𝒱₀ (c.tc : Thread nD τ) none) Set.univ (k r) Q)) :
    G ⊢ wp frame (wpE (defs₀ (F := F)) 𝒱₀ (c.tc : Thread nD τ) none) Set.univ (k0_part19 (F := F) i arg3 harg3 arg4 harg4 (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) arg10 harg10 (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) cc0_scratch0 cc0_scratch1 cc0_scratch2 v22 v25 v28 >>= k) Q := by
  rw [k0_part19_eq_skeleton]
  simp only [k0_part19_skel, Prog.lift, Prog.bind_op, Prog.bind_ret, Prog.pure_eq_ret]
  exact hk _

theorem walk_20 {Q : β → sProp 𝕄} {G : sProp 𝕄} {v22 v25 v28 v163 v164 : BitVec 32} {k : _ → Prog (TpuEff nD τ sig (Elt F) Λ₀ .tc) β}
    (hk : ∀ r, (G ⊢ wp frame (wpE (defs₀ (F := F)) 𝒱₀ (c.tc : Thread nD τ) none) Set.univ (k r) Q)) :
    G ⊢ wp frame (wpE (defs₀ (F := F)) 𝒱₀ (c.tc : Thread nD τ) none) Set.univ (k0_part20 (F := F) i arg3 harg3 arg4 harg4 (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) arg10 harg10 (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) cc0_scratch0 cc0_scratch1 cc0_scratch2 v22 v25 v28 v163 v164 >>= k) Q := by
  rw [k0_part20_eq_skeleton]
  simp only [k0_part20_skel, Prog.lift, Prog.bind_op, Prog.bind_ret, Prog.pure_eq_ret]
  exact hk _

theorem walk_21 {Q : β → sProp 𝕄} {G : sProp 𝕄} {v22 v25 v28 v199 v200 : BitVec 32} {k : _ → Prog (TpuEff nD τ sig (Elt F) Λ₀ .tc) β}
    (hk : ∀ r, (G ⊢ wp frame (wpE (defs₀ (F := F)) 𝒱₀ (c.tc : Thread nD τ) none) Set.univ (k r) Q)) :
    G ⊢ wp frame (wpE (defs₀ (F := F)) 𝒱₀ (c.tc : Thread nD τ) none) Set.univ (k0_part21 (F := F) i arg3 harg3 arg4 harg4 (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) arg10 harg10 (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) cc0_scratch0 cc0_scratch1 cc0_scratch2 v22 v25 v28 v199 v200 >>= k) Q := by
  rw [k0_part21_eq_skeleton]
  simp only [k0_part21_skel, Prog.lift, Prog.bind_op, Prog.bind_ret, Prog.pure_eq_ret]
  exact hk _

theorem walk_22 {Q : β → sProp 𝕄} {R : sProp 𝕄} (k0_h2 : k0_cond2 i = 1#1) {v22 v25 v28 v33 v38 v43 v44 v49 v234 v235 : BitVec 32} {k : _ → Prog (TpuEff nD τ sig (Elt F) Λ₀ .tc) β}
    (hk : ∀ r, iprop((P m).St c [] w (rcv (0, 2) :: rcv (0, 1) :: rcv (0, 0) :: d) ∗ R) ⊢ wp frame (wpE (defs₀ (F := F)) 𝒱₀ (c.tc : Thread nD τ) none) Set.univ (k r) Q) :
    iprop((P m).St c [] (rcv (0, 0) :: rcv (0, 1) :: rcv (0, 2) :: w) d ∗ R) ⊢ wp frame (wpE (defs₀ (F := F)) 𝒱₀ (c.tc : Thread nD τ) none) Set.univ (k0_part22 (F := F) i arg3 harg3 arg4 harg4 (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) arg10 harg10 (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) cc0_scratch0 cc0_scratch1 cc0_scratch2 k0_h2 c v22 v25 v28 v33 v38 v43 v44 v49 v234 v235 >>= k) Q := by
  rw [k0_part22_eq_skeleton]
  simp only [k0_part22_skel, Prog.lift, Prog.bind_op, Prog.bind_ret, Prog.pure_eq_ret]
  exact (P m).step_wait (rcv (0, 0)) rfl rfl (
    (P m).step_wait (rcv (0, 1)) rfl rfl (
    (P m).step_wait (rcv (0, 2)) rfl rfl (
    hk _)))

theorem walk_23 {Q : β → sProp 𝕄} {R : sProp 𝕄} (k0_h2 : k0_cond2 i = 1#1) {v25 v28 v54 v55 v60 v61 v66 v67 v68 v266 v267 : BitVec 32} {k : _ → Prog (TpuEff nD τ sig (Elt F) Λ₀ .tc) β}
    (hk : ∀ r, iprop((P m).St c [] w (rcv (0, 5) :: rcv (0, 4) :: rcv (0, 3) :: d) ∗ R) ⊢ wp frame (wpE (defs₀ (F := F)) 𝒱₀ (c.tc : Thread nD τ) none) Set.univ (k r) Q) :
    iprop((P m).St c [] (rcv (0, 3) :: rcv (0, 4) :: rcv (0, 5) :: w) d ∗ R) ⊢ wp frame (wpE (defs₀ (F := F)) 𝒱₀ (c.tc : Thread nD τ) none) Set.univ (k0_part23 (F := F) i arg3 harg3 arg4 harg4 (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) arg10 harg10 (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) cc0_scratch0 cc0_scratch1 cc0_scratch2 k0_h2 c v25 v28 v54 v55 v60 v61 v66 v67 v68 v266 v267 >>= k) Q := by
  rw [k0_part23_eq_skeleton]
  simp only [k0_part23_skel, Prog.lift, Prog.bind_op, Prog.bind_ret, Prog.pure_eq_ret]
  exact (P m).step_wait (rcv (0, 3)) rfl rfl (
    (P m).step_wait (rcv (0, 4)) rfl rfl (
    (P m).step_wait (rcv (0, 5)) rfl rfl (
    hk _)))

theorem walk_24 {Q : β → sProp 𝕄} {R : sProp 𝕄} (k0_h2 : k0_cond2 i = 1#1) {v22 v25 v28 v73 v78 v83 v84 : BitVec 32} {k : _ → Prog (TpuEff nD τ sig (Elt F) Λ₀ .tc) β}
    (hk : ∀ r, iprop((P m).St c [] w (rcv (1, 1) :: rcv (1, 0) :: rcv (0, 6) :: d) ∗ R) ⊢ wp frame (wpE (defs₀ (F := F)) 𝒱₀ (c.tc : Thread nD τ) none) Set.univ (k r) Q) :
    iprop((P m).St c [] (rcv (0, 6) :: rcv (1, 0) :: rcv (1, 1) :: w) d ∗ R) ⊢ wp frame (wpE (defs₀ (F := F)) 𝒱₀ (c.tc : Thread nD τ) none) Set.univ (k0_part24 (F := F) i arg3 harg3 arg4 harg4 (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) arg10 harg10 (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) cc0_scratch0 cc0_scratch1 cc0_scratch2 k0_h2 c v22 v25 v28 v73 v78 v83 v84 >>= k) Q := by
  rw [k0_part24_eq_skeleton]
  simp only [k0_part24_skel, Prog.lift, Prog.bind_op, Prog.bind_ret, Prog.pure_eq_ret]
  exact (P m).step_wait (rcv (0, 6)) rfl rfl (
    (P m).step_wait (rcv (1, 0)) rfl rfl (
    (P m).step_wait (rcv (1, 1)) rfl rfl (
    hk _)))

theorem walk_25 {Q : β → sProp 𝕄} {R : sProp 𝕄} (k0_h2 : k0_cond2 i = 1#1) {v25 v28 v89 v94 v95 v100 v101 : BitVec 32} {k : _ → Prog (TpuEff nD τ sig (Elt F) Λ₀ .tc) β}
    (hk : ∀ r, iprop((P m).St c [] w (rcv (1, 5) :: rcv (1, 4) :: rcv (1, 3) :: rcv (1, 2) :: d) ∗ R) ⊢ wp frame (wpE (defs₀ (F := F)) 𝒱₀ (c.tc : Thread nD τ) none) Set.univ (k r) Q) :
    iprop((P m).St c [] (rcv (1, 2) :: rcv (1, 3) :: rcv (1, 4) :: rcv (1, 5) :: w) d ∗ R) ⊢ wp frame (wpE (defs₀ (F := F)) 𝒱₀ (c.tc : Thread nD τ) none) Set.univ (k0_part25 (F := F) i arg3 harg3 arg4 harg4 (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) arg10 harg10 (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) cc0_scratch0 cc0_scratch1 cc0_scratch2 k0_h2 c v25 v28 v89 v94 v95 v100 v101 >>= k) Q := by
  rw [k0_part25_eq_skeleton]
  simp only [k0_part25_skel, Prog.lift, Prog.bind_op, Prog.bind_ret, Prog.pure_eq_ret]
  exact (P m).step_wait (rcv (1, 2)) rfl rfl (
    (P m).step_wait (rcv (1, 3)) rfl rfl (
    (P m).step_wait (rcv (1, 4)) rfl rfl (
    (P m).step_wait (rcv (1, 5)) rfl rfl (
    hk _))))

theorem walk_26 {Q : β → sProp 𝕄} {R : sProp 𝕄} (k0_h2 : k0_cond2 i = 1#1) {v22 v25 v28 v106 v107 v108 v113 v118 : BitVec 32} {k : _ → Prog (TpuEff nD τ sig (Elt F) Λ₀ .tc) β}
    (hk : ∀ r, iprop((P m).St c [] w (rcv (2, 1) :: rcv (2, 0) :: rcv (1, 6) :: d) ∗ R) ⊢ wp frame (wpE (defs₀ (F := F)) 𝒱₀ (c.tc : Thread nD τ) none) Set.univ (k r) Q) :
    iprop((P m).St c [] (rcv (1, 6) :: rcv (2, 0) :: rcv (2, 1) :: w) d ∗ R) ⊢ wp frame (wpE (defs₀ (F := F)) 𝒱₀ (c.tc : Thread nD τ) none) Set.univ (k0_part26 (F := F) i arg3 harg3 arg4 harg4 (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) arg10 harg10 (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) cc0_scratch0 cc0_scratch1 cc0_scratch2 k0_h2 c v22 v25 v28 v106 v107 v108 v113 v118 >>= k) Q := by
  rw [k0_part26_eq_skeleton]
  simp only [k0_part26_skel, Prog.lift, Prog.bind_op, Prog.bind_ret, Prog.pure_eq_ret]
  exact (P m).step_wait (rcv (1, 6)) rfl rfl (
    (P m).step_wait (rcv (2, 0)) rfl rfl (
    (P m).step_wait (rcv (2, 1)) rfl rfl (
    hk _)))

theorem walk_27 {Q : β → sProp 𝕄} {R : sProp 𝕄} (k0_h2 : k0_cond2 i = 1#1) {v25 v28 v123 v124 v129 v134 v135 v140 v393 : BitVec 32} {k : _ → Prog (TpuEff nD τ sig (Elt F) Λ₀ .tc) β}
    (hk : ∀ r, iprop((P m).St c [] w (rcv (2, 4) :: rcv (2, 3) :: rcv (2, 2) :: d) ∗ R) ⊢ wp frame (wpE (defs₀ (F := F)) 𝒱₀ (c.tc : Thread nD τ) none) Set.univ (k r) Q) :
    iprop((P m).St c [] (rcv (2, 2) :: rcv (2, 3) :: rcv (2, 4) :: w) d ∗ R) ⊢ wp frame (wpE (defs₀ (F := F)) 𝒱₀ (c.tc : Thread nD τ) none) Set.univ (k0_part27 (F := F) i arg3 harg3 arg4 harg4 (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) arg10 harg10 (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) cc0_scratch0 cc0_scratch1 cc0_scratch2 k0_h2 c v25 v28 v123 v124 v129 v134 v135 v140 v393 >>= k) Q := by
  rw [k0_part27_eq_skeleton]
  simp only [k0_part27_skel, Prog.lift, Prog.bind_op, Prog.bind_ret, Prog.pure_eq_ret]
  exact (P m).step_wait (rcv (2, 2)) rfl rfl (
    (P m).step_wait (rcv (2, 3)) rfl rfl (
    (P m).step_wait (rcv (2, 4)) rfl rfl (
    hk _)))

theorem walk_28 {Q : β → sProp 𝕄} {R : sProp 𝕄} (k0_h2 : k0_cond2 i = 1#1) {v22 v25 v28 v141 v146 v147 v148 v153 v158 v424 c2_i32_287 : BitVec 32} {k : _ → Prog (TpuEff nD τ sig (Elt F) Λ₀ .tc) β}
    (hk : ∀ r, iprop((P m).St c [] w (rcv (3, 0) :: rcv (2, 6) :: rcv (2, 5) :: d) ∗ R) ⊢ wp frame (wpE (defs₀ (F := F)) 𝒱₀ (c.tc : Thread nD τ) none) Set.univ (k r) Q) :
    iprop((P m).St c [] (rcv (2, 5) :: rcv (2, 6) :: rcv (3, 0) :: w) d ∗ R) ⊢ wp frame (wpE (defs₀ (F := F)) 𝒱₀ (c.tc : Thread nD τ) none) Set.univ (k0_part28 (F := F) i arg3 harg3 arg4 harg4 (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) arg10 harg10 (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) cc0_scratch0 cc0_scratch1 cc0_scratch2 k0_h2 c v22 v25 v28 v141 v146 v147 v148 v153 v158 v424 c2_i32_287 >>= k) Q := by
  rw [k0_part28_eq_skeleton]
  simp only [k0_part28_skel, Prog.lift, Prog.bind_op, Prog.bind_ret, Prog.pure_eq_ret]
  exact (P m).step_wait (rcv (2, 5)) rfl rfl (
    (P m).step_wait (rcv (2, 6)) rfl rfl (
    (P m).step_wait (rcv (3, 0)) rfl rfl (
    hk _)))

theorem walk_29 {Q : β → sProp 𝕄} {R : sProp 𝕄} (k0_h2 : k0_cond2 i = 1#1) {v22 v25 v28 v163 v164 v169 v174 v175 v456 c1_i32_309 : BitVec 32} {k : _ → Prog (TpuEff nD τ sig (Elt F) Λ₀ .tc) β}
    (hk : ∀ r, iprop((P m).St c [] w (rcv (3, 3) :: rcv (3, 2) :: rcv (3, 1) :: d) ∗ R) ⊢ wp frame (wpE (defs₀ (F := F)) 𝒱₀ (c.tc : Thread nD τ) none) Set.univ (k r) Q) :
    iprop((P m).St c [] (rcv (3, 1) :: rcv (3, 2) :: rcv (3, 3) :: w) d ∗ R) ⊢ wp frame (wpE (defs₀ (F := F)) 𝒱₀ (c.tc : Thread nD τ) none) Set.univ (k0_part29 (F := F) i arg3 harg3 arg4 harg4 (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) arg10 harg10 (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) cc0_scratch0 cc0_scratch1 cc0_scratch2 k0_h2 c v22 v25 v28 v163 v164 v169 v174 v175 v456 c1_i32_309 >>= k) Q := by
  rw [k0_part29_eq_skeleton]
  simp only [k0_part29_skel, Prog.lift, Prog.bind_op, Prog.bind_ret, Prog.pure_eq_ret]
  exact (P m).step_wait (rcv (3, 1)) rfl rfl (
    (P m).step_wait (rcv (3, 2)) rfl rfl (
    (P m).step_wait (rcv (3, 3)) rfl rfl (
    hk _)))

theorem walk_30 {Q : β → sProp 𝕄} {R : sProp 𝕄} (k0_h2 : k0_cond2 i = 1#1) {v22 v25 v28 v180 v181 v186 v187 v188 v193 : BitVec 32} {k : _ → Prog (TpuEff nD τ sig (Elt F) Λ₀ .tc) β}
    (hk : ∀ r, iprop((P m).St c [] w (rcv (3, 6) :: rcv (3, 5) :: rcv (3, 4) :: d) ∗ R) ⊢ wp frame (wpE (defs₀ (F := F)) 𝒱₀ (c.tc : Thread nD τ) none) Set.univ (k r) Q) :
    iprop((P m).St c [] (rcv (3, 4) :: rcv (3, 5) :: rcv (3, 6) :: w) d ∗ R) ⊢ wp frame (wpE (defs₀ (F := F)) 𝒱₀ (c.tc : Thread nD τ) none) Set.univ (k0_part30 (F := F) i arg3 harg3 arg4 harg4 (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) arg10 harg10 (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) cc0_scratch0 cc0_scratch1 cc0_scratch2 k0_h2 c v22 v25 v28 v180 v181 v186 v187 v188 v193 >>= k) Q := by
  rw [k0_part30_eq_skeleton]
  simp only [k0_part30_skel, Prog.lift, Prog.bind_op, Prog.bind_ret, Prog.pure_eq_ret]
  exact (P m).step_wait (rcv (3, 4)) rfl rfl (
    (P m).step_wait (rcv (3, 5)) rfl rfl (
    (P m).step_wait (rcv (3, 6)) rfl rfl (
    hk _)))

theorem walk_31 {Q : β → sProp 𝕄} {R : sProp 𝕄} (k0_h2 : k0_cond2 i = 1#1) {v22 v25 v28 v198 v203 v204 v209 : BitVec 32} {k : _ → Prog (TpuEff nD τ sig (Elt F) Λ₀ .tc) β}
    (hk : ∀ r, iprop((P m).St c [] w (rcv (4, 3) :: rcv (4, 2) :: rcv (4, 1) :: rcv (4, 0) :: d) ∗ R) ⊢ wp frame (wpE (defs₀ (F := F)) 𝒱₀ (c.tc : Thread nD τ) none) Set.univ (k r) Q) :
    iprop((P m).St c [] (rcv (4, 0) :: rcv (4, 1) :: rcv (4, 2) :: rcv (4, 3) :: w) d ∗ R) ⊢ wp frame (wpE (defs₀ (F := F)) 𝒱₀ (c.tc : Thread nD τ) none) Set.univ (k0_part31 (F := F) i arg3 harg3 arg4 harg4 (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) arg10 harg10 (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) cc0_scratch0 cc0_scratch1 cc0_scratch2 k0_h2 c v22 v25 v28 v198 v203 v204 v209 >>= k) Q := by
  rw [k0_part31_eq_skeleton]
  simp only [k0_part31_skel, Prog.lift, Prog.bind_op, Prog.bind_ret, Prog.pure_eq_ret]
  exact (P m).step_wait (rcv (4, 0)) rfl rfl (
    (P m).step_wait (rcv (4, 1)) rfl rfl (
    (P m).step_wait (rcv (4, 2)) rfl rfl (
    (P m).step_wait (rcv (4, 3)) rfl rfl (
    hk _))))

theorem walk_32 {Q : β → sProp 𝕄} {R : sProp 𝕄} (k0_h2 : k0_cond2 i = 1#1) {v25 v28 v214 v215 v220 v221 v226 v227 v228 : BitVec 32} {k : _ → Prog (TpuEff nD τ sig (Elt F) Λ₀ .tc) β}
    (hk : ∀ r, iprop((P m).St c [] w (rcv (4, 6) :: rcv (4, 5) :: rcv (4, 4) :: d) ∗ R) ⊢ wp frame (wpE (defs₀ (F := F)) 𝒱₀ (c.tc : Thread nD τ) none) Set.univ (k r) Q) :
    iprop((P m).St c [] (rcv (4, 4) :: rcv (4, 5) :: rcv (4, 6) :: w) d ∗ R) ⊢ wp frame (wpE (defs₀ (F := F)) 𝒱₀ (c.tc : Thread nD τ) none) Set.univ (k0_part32 (F := F) i arg3 harg3 arg4 harg4 (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) arg10 harg10 (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) cc0_scratch0 cc0_scratch1 cc0_scratch2 k0_h2 c v25 v28 v214 v215 v220 v221 v226 v227 v228 >>= k) Q := by
  rw [k0_part32_eq_skeleton]
  simp only [k0_part32_skel, Prog.lift, Prog.bind_op, Prog.bind_ret, Prog.pure_eq_ret]
  exact (P m).step_wait (rcv (4, 4)) rfl rfl (
    (P m).step_wait (rcv (4, 5)) rfl rfl (
    (P m).step_wait (rcv (4, 6)) rfl rfl (
    hk _)))

theorem walk_33 {Q : β → sProp 𝕄} {R : sProp 𝕄} (k0_h2 : k0_cond2 i = 1#1) {k : _ → Prog (TpuEff nD τ sig (Elt F) Λ₀ .tc) β}
    (hk : ∀ r, iprop((P m).St c [] w (snd (0, 5) :: snd (0, 4) :: snd (0, 3) :: snd (0, 2) :: snd (0, 1) :: snd (0, 0) :: d) ∗ R) ⊢ wp frame (wpE (defs₀ (F := F)) 𝒱₀ (c.tc : Thread nD τ) none) Set.univ (k r) Q) :
    iprop((P m).St c [] (snd (0, 0) :: snd (0, 1) :: snd (0, 2) :: snd (0, 3) :: snd (0, 4) :: snd (0, 5) :: w) d ∗ R) ⊢ wp frame (wpE (defs₀ (F := F)) 𝒱₀ (c.tc : Thread nD τ) none) Set.univ (k0_part33 (F := F) i arg3 harg3 arg4 harg4 (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) arg10 harg10 (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) cc0_scratch0 cc0_scratch1 cc0_scratch2 k0_h2 c >>= k) Q := by
  rw [k0_part33_eq_skeleton]
  simp only [k0_part33_skel, Prog.lift, Prog.bind_op, Prog.bind_ret, Prog.pure_eq_ret]
  exact (P m).step_wait (snd (0, 0)) rfl rfl (
    (P m).step_wait (snd (0, 1)) rfl rfl (
    (P m).step_wait (snd (0, 2)) rfl rfl (
    (P m).step_wait (snd (0, 3)) rfl rfl (
    (P m).step_wait (snd (0, 4)) rfl rfl (
    (P m).step_wait (snd (0, 5)) rfl rfl (
    hk _))))))

theorem walk_34 {Q : β → sProp 𝕄} {R : sProp 𝕄} (k0_h2 : k0_cond2 i = 1#1) {k : _ → Prog (TpuEff nD τ sig (Elt F) Λ₀ .tc) β}
    (hk : ∀ r, iprop((P m).St c [] w (snd (1, 4) :: snd (1, 3) :: snd (1, 2) :: snd (1, 1) :: snd (1, 0) :: snd (0, 6) :: d) ∗ R) ⊢ wp frame (wpE (defs₀ (F := F)) 𝒱₀ (c.tc : Thread nD τ) none) Set.univ (k r) Q) :
    iprop((P m).St c [] (snd (0, 6) :: snd (1, 0) :: snd (1, 1) :: snd (1, 2) :: snd (1, 3) :: snd (1, 4) :: w) d ∗ R) ⊢ wp frame (wpE (defs₀ (F := F)) 𝒱₀ (c.tc : Thread nD τ) none) Set.univ (k0_part34 (F := F) i arg3 harg3 arg4 harg4 (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) arg10 harg10 (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) cc0_scratch0 cc0_scratch1 cc0_scratch2 k0_h2 c >>= k) Q := by
  rw [k0_part34_eq_skeleton]
  simp only [k0_part34_skel, Prog.lift, Prog.bind_op, Prog.bind_ret, Prog.pure_eq_ret]
  exact (P m).step_wait (snd (0, 6)) rfl rfl (
    (P m).step_wait (snd (1, 0)) rfl rfl (
    (P m).step_wait (snd (1, 1)) rfl rfl (
    (P m).step_wait (snd (1, 2)) rfl rfl (
    (P m).step_wait (snd (1, 3)) rfl rfl (
    (P m).step_wait (snd (1, 4)) rfl rfl (
    hk _))))))

theorem walk_35 {Q : β → sProp 𝕄} {R : sProp 𝕄} (k0_h2 : k0_cond2 i = 1#1) {k : _ → Prog (TpuEff nD τ sig (Elt F) Λ₀ .tc) β}
    (hk : ∀ r, iprop((P m).St c [] w (snd (2, 3) :: snd (2, 2) :: snd (2, 1) :: snd (2, 0) :: snd (1, 6) :: snd (1, 5) :: d) ∗ R) ⊢ wp frame (wpE (defs₀ (F := F)) 𝒱₀ (c.tc : Thread nD τ) none) Set.univ (k r) Q) :
    iprop((P m).St c [] (snd (1, 5) :: snd (1, 6) :: snd (2, 0) :: snd (2, 1) :: snd (2, 2) :: snd (2, 3) :: w) d ∗ R) ⊢ wp frame (wpE (defs₀ (F := F)) 𝒱₀ (c.tc : Thread nD τ) none) Set.univ (k0_part35 (F := F) i arg3 harg3 arg4 harg4 (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) arg10 harg10 (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) cc0_scratch0 cc0_scratch1 cc0_scratch2 k0_h2 c >>= k) Q := by
  rw [k0_part35_eq_skeleton]
  simp only [k0_part35_skel, Prog.lift, Prog.bind_op, Prog.bind_ret, Prog.pure_eq_ret]
  exact (P m).step_wait (snd (1, 5)) rfl rfl (
    (P m).step_wait (snd (1, 6)) rfl rfl (
    (P m).step_wait (snd (2, 0)) rfl rfl (
    (P m).step_wait (snd (2, 1)) rfl rfl (
    (P m).step_wait (snd (2, 2)) rfl rfl (
    (P m).step_wait (snd (2, 3)) rfl rfl (
    hk _))))))

theorem walk_36 {Q : β → sProp 𝕄} {R : sProp 𝕄} (k0_h2 : k0_cond2 i = 1#1) {k : _ → Prog (TpuEff nD τ sig (Elt F) Λ₀ .tc) β}
    (hk : ∀ r, iprop((P m).St c [] w (snd (3, 2) :: snd (3, 1) :: snd (3, 0) :: snd (2, 6) :: snd (2, 5) :: snd (2, 4) :: d) ∗ R) ⊢ wp frame (wpE (defs₀ (F := F)) 𝒱₀ (c.tc : Thread nD τ) none) Set.univ (k r) Q) :
    iprop((P m).St c [] (snd (2, 4) :: snd (2, 5) :: snd (2, 6) :: snd (3, 0) :: snd (3, 1) :: snd (3, 2) :: w) d ∗ R) ⊢ wp frame (wpE (defs₀ (F := F)) 𝒱₀ (c.tc : Thread nD τ) none) Set.univ (k0_part36 (F := F) i arg3 harg3 arg4 harg4 (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) arg10 harg10 (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) cc0_scratch0 cc0_scratch1 cc0_scratch2 k0_h2 c >>= k) Q := by
  rw [k0_part36_eq_skeleton]
  simp only [k0_part36_skel, Prog.lift, Prog.bind_op, Prog.bind_ret, Prog.pure_eq_ret]
  exact (P m).step_wait (snd (2, 4)) rfl rfl (
    (P m).step_wait (snd (2, 5)) rfl rfl (
    (P m).step_wait (snd (2, 6)) rfl rfl (
    (P m).step_wait (snd (3, 0)) rfl rfl (
    (P m).step_wait (snd (3, 1)) rfl rfl (
    (P m).step_wait (snd (3, 2)) rfl rfl (
    hk _))))))

theorem walk_37 {Q : β → sProp 𝕄} {R : sProp 𝕄} (k0_h2 : k0_cond2 i = 1#1) {k : _ → Prog (TpuEff nD τ sig (Elt F) Λ₀ .tc) β}
    (hk : ∀ r, iprop((P m).St c [] w (snd (4, 1) :: snd (4, 0) :: snd (3, 6) :: snd (3, 5) :: snd (3, 4) :: snd (3, 3) :: d) ∗ R) ⊢ wp frame (wpE (defs₀ (F := F)) 𝒱₀ (c.tc : Thread nD τ) none) Set.univ (k r) Q) :
    iprop((P m).St c [] (snd (3, 3) :: snd (3, 4) :: snd (3, 5) :: snd (3, 6) :: snd (4, 0) :: snd (4, 1) :: w) d ∗ R) ⊢ wp frame (wpE (defs₀ (F := F)) 𝒱₀ (c.tc : Thread nD τ) none) Set.univ (k0_part37 (F := F) i arg3 harg3 arg4 harg4 (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) arg10 harg10 (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) cc0_scratch0 cc0_scratch1 cc0_scratch2 k0_h2 c >>= k) Q := by
  rw [k0_part37_eq_skeleton]
  simp only [k0_part37_skel, Prog.lift, Prog.bind_op, Prog.bind_ret, Prog.pure_eq_ret]
  exact (P m).step_wait (snd (3, 3)) rfl rfl (
    (P m).step_wait (snd (3, 4)) rfl rfl (
    (P m).step_wait (snd (3, 5)) rfl rfl (
    (P m).step_wait (snd (3, 6)) rfl rfl (
    (P m).step_wait (snd (4, 0)) rfl rfl (
    (P m).step_wait (snd (4, 1)) rfl rfl (
    hk _))))))

theorem walk_38 {Q : β → sProp 𝕄} {R : sProp 𝕄} (k0_h2 : k0_cond2 i = 1#1) {k : _ → Prog (TpuEff nD τ sig (Elt F) Λ₀ .tc) β}
    (hk : ∀ r, iprop((P m).St c [] w (own 0 :: snd (4, 6) :: snd (4, 5) :: snd (4, 4) :: snd (4, 3) :: snd (4, 2) :: d) ∗ R) ⊢ wp frame (wpE (defs₀ (F := F)) 𝒱₀ (c.tc : Thread nD τ) none) Set.univ (k r) Q) :
    iprop((P m).St c [] (snd (4, 2) :: snd (4, 3) :: snd (4, 4) :: snd (4, 5) :: snd (4, 6) :: own 0 :: w) d ∗ R) ⊢ wp frame (wpE (defs₀ (F := F)) 𝒱₀ (c.tc : Thread nD τ) none) Set.univ (k0_part38 (F := F) i arg3 harg3 arg4 harg4 (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) arg10 harg10 (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) cc0_scratch0 cc0_scratch1 cc0_scratch2 k0_h2 c >>= k) Q := by
  rw [k0_part38_eq_skeleton]
  simp only [k0_part38_skel, Prog.lift, Prog.bind_op, Prog.bind_ret, Prog.pure_eq_ret]
  exact (P m).step_wait (snd (4, 2)) rfl rfl (
    (P m).step_wait (snd (4, 3)) rfl rfl (
    (P m).step_wait (snd (4, 4)) rfl rfl (
    (P m).step_wait (snd (4, 5)) rfl rfl (
    (P m).step_wait (snd (4, 6)) rfl rfl (
    (P m).step_wait (own 0) rfl rfl (
    hk _))))))

/-! ## What is started and what is waited for, in order -/

abbrev starts : List ((Fin 5 × Fin 7) ⊕ Fin 5) := [.inr 0, .inr 1, .inr 2, .inr 3, .inr 4, .inl (0, 0), .inl (0, 1), .inl (0, 2), .inl (0, 3), .inl (0, 4),
  .inl (0, 5), .inl (0, 6), .inl (1, 0), .inl (1, 1), .inl (1, 2), .inl (1, 3), .inl (1, 4), .inl (1, 5), .inl (1, 6), .inl (2, 0),
  .inl (2, 1), .inl (2, 2), .inl (2, 3), .inl (2, 4), .inl (2, 5), .inl (2, 6), .inl (3, 0), .inl (3, 1), .inl (3, 2), .inl (3, 3),
  .inl (3, 4), .inl (3, 5), .inl (3, 6), .inl (4, 0), .inl (4, 1), .inl (4, 2), .inl (4, 3), .inl (4, 4), .inl (4, 5), .inl (4, 6)]
abbrev started : List (Cell (Fin 5 × Fin 7) (Fin 5)) := [.inl (4, 6), .inl (4, 5), .inl (4, 4), .inl (4, 3), .inl (4, 2), .inl (4, 1), .inl (4, 0), .inl (3, 6), .inl (3, 5), .inl (3, 4),
  .inl (3, 3), .inl (3, 2), .inl (3, 1), .inl (3, 0), .inl (2, 6), .inl (2, 5), .inl (2, 4), .inl (2, 3), .inl (2, 2), .inl (2, 1),
  .inl (2, 0), .inl (1, 6), .inl (1, 5), .inl (1, 4), .inl (1, 3), .inl (1, 2), .inl (1, 1), .inl (1, 0), .inl (0, 6), .inl (0, 5),
  .inl (0, 4), .inl (0, 3), .inl (0, 2), .inl (0, 1), .inl (0, 0), .inr (.inr 4), .inr (.inr 3), .inr (.inr 2), .inr (.inr 1), .inr (.inr 0)]
abbrev waits : List (Cell (Fin 5 × Fin 7) (Fin 5)) := [.inr (.inl (0, 0)), .inr (.inl (0, 1)), .inr (.inl (0, 2)), .inr (.inl (0, 3)), .inr (.inl (0, 4)), .inr (.inl (0, 5)), .inr (.inl (0, 6)), .inr (.inl (1, 0)), .inr (.inl (1, 1)), .inr (.inl (1, 2)),
  .inr (.inl (1, 3)), .inr (.inl (1, 4)), .inr (.inl (1, 5)), .inr (.inl (1, 6)), .inr (.inl (2, 0)), .inr (.inl (2, 1)), .inr (.inl (2, 2)), .inr (.inl (2, 3)), .inr (.inl (2, 4)), .inr (.inl (2, 5)),
  .inr (.inl (2, 6)), .inr (.inl (3, 0)), .inr (.inl (3, 1)), .inr (.inl (3, 2)), .inr (.inl (3, 3)), .inr (.inl (3, 4)), .inr (.inl (3, 5)), .inr (.inl (3, 6)), .inr (.inl (4, 0)), .inr (.inl (4, 1)),
  .inr (.inl (4, 2)), .inr (.inl (4, 3)), .inr (.inl (4, 4)), .inr (.inl (4, 5)), .inr (.inl (4, 6)), .inl (0, 0), .inl (0, 1), .inl (0, 2), .inl (0, 3), .inl (0, 4),
  .inl (0, 5), .inl (0, 6), .inl (1, 0), .inl (1, 1), .inl (1, 2), .inl (1, 3), .inl (1, 4), .inl (1, 5), .inl (1, 6), .inl (2, 0),
  .inl (2, 1), .inl (2, 2), .inl (2, 3), .inl (2, 4), .inl (2, 5), .inl (2, 6), .inl (3, 0), .inl (3, 1), .inl (3, 2), .inl (3, 3),
  .inl (3, 4), .inl (3, 5), .inl (3, 6), .inl (4, 0), .inl (4, 1), .inl (4, 2), .inl (4, 3), .inl (4, 4), .inl (4, 5), .inl (4, 6),
  .inr (.inr 0), .inr (.inr 1), .inr (.inr 2), .inr (.inr 3), .inr (.inr 4)]
abbrev waited : List (Cell (Fin 5 × Fin 7) (Fin 5)) := [.inr (.inr 4), .inr (.inr 3), .inr (.inr 2), .inr (.inr 1), .inr (.inr 0), .inl (4, 6), .inl (4, 5), .inl (4, 4), .inl (4, 3), .inl (4, 2),
  .inl (4, 1), .inl (4, 0), .inl (3, 6), .inl (3, 5), .inl (3, 4), .inl (3, 3), .inl (3, 2), .inl (3, 1), .inl (3, 0), .inl (2, 6),
  .inl (2, 5), .inl (2, 4), .inl (2, 3), .inl (2, 2), .inl (2, 1), .inl (2, 0), .inl (1, 6), .inl (1, 5), .inl (1, 4), .inl (1, 3),
  .inl (1, 2), .inl (1, 1), .inl (1, 0), .inl (0, 6), .inl (0, 5), .inl (0, 4), .inl (0, 3), .inl (0, 2), .inl (0, 1), .inl (0, 0),
  .inr (.inl (4, 6)), .inr (.inl (4, 5)), .inr (.inl (4, 4)), .inr (.inl (4, 3)), .inr (.inl (4, 2)), .inr (.inl (4, 1)), .inr (.inl (4, 0)), .inr (.inl (3, 6)), .inr (.inl (3, 5)), .inr (.inl (3, 4)),
  .inr (.inl (3, 3)), .inr (.inl (3, 2)), .inr (.inl (3, 1)), .inr (.inl (3, 0)), .inr (.inl (2, 6)), .inr (.inl (2, 5)), .inr (.inl (2, 4)), .inr (.inl (2, 3)), .inr (.inl (2, 2)), .inr (.inl (2, 1)),
  .inr (.inl (2, 0)), .inr (.inl (1, 6)), .inr (.inl (1, 5)), .inr (.inl (1, 4)), .inr (.inl (1, 3)), .inr (.inl (1, 2)), .inr (.inl (1, 1)), .inr (.inl (1, 0)), .inr (.inl (0, 6)), .inr (.inl (0, 5)),
  .inr (.inl (0, 4)), .inr (.inl (0, 3)), .inr (.inl (0, 2)), .inr (.inl (0, 1)), .inr (.inl (0, 0))]

end Cert.KernelIdeal.Gen
-- ==== Proof.Body.lean ====
/-
  The kernel body at a grid point: it multiplies its block of rows by its block of the weights; before that the first point starts the exchange, and
  after it the last point waits for all of it.
-/
module

public import proofs.«01_k».proof.Proof.Walk
public import Idealize.ShloMosaic.Lib.VecWindow
public import Idealize.ShloMosaic.Lib.Pipeline.Frame

@[expose] public section

noncomputable section

namespace Cert.KernelIdeal.Gen

open Cert.Exchange
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ sig) ℕ

variable {m : (ℓ : Loc nD τ sig) → Buf (Elt F) ℓ} {c : Dev nD} {β : Type} {i : grid0.Coords}
  {arg3 : Memref sig .tc .vmem S1280x1024 .bf16} {harg3 : arg3.IsWhole} {arg4 : Memref sig .tc .vmem S1024x1024 .bf16} {harg4 : arg4.IsWhole}
  {arg10 : Memref sig .tc .vmem S1280x1024 .f32} {harg10 : arg10.IsWhole}
  {l : List ((Fin 5 × Fin 7) ⊕ Fin 5)} {w d : List (Cell (Fin 5 × Fin 7) (Fin 5))}

/-- The three blocks of a grid point: the rows, the weights and the product's place. -/
abbrev held (c : Dev nD) (arg3 : Memref sig .tc .vmem S1280x1024 .bf16) (arg4 : Memref sig .tc .vmem S1024x1024 .bf16) (arg10 : Memref sig .tc .vmem S1280x1024 .f32)
    (x : Vec F S1280x1024 .bf16) (y : Vec F S1024x1024 .bf16) (z : Vec F S1280x1024 .f32) : sProp 𝕄 :=
  iprop(owns (c.tc : Thread nD τ) arg3 fullShare x ∗ owns (c.tc : Thread nD τ) arg4 fullShare y ∗ owns (c.tc : Thread nD τ) arg10 fullShare z)

/-- The product: the rows and the weights are read, and their product is stored. -/
theorem product {Q : β → sProp 𝕄} {S : sProp 𝕄} (h3 : arg3.IsWhole) (h4 : arg4.IsWhole) (h10 : arg10.IsWhole)
    {x : Vec F S1280x1024 .bf16} {y : Vec F S1024x1024 .bf16} {z : Vec F S1280x1024 .f32}
    {i3 : ∀ a, (![0, 0] : Fin 2 → ℕ) a + S1280x1024.size a ≤ S1280x1024.size a} {i4 : ∀ a, (![0, 0] : Fin 2 → ℕ) a + S1024x1024.size a ≤ S1024x1024.size a}
    {l3 : arg3.view.LoadsAt (Rect.unit (s := S1280x1024) ![0, 0] S1280x1024.size i3).toLoadRect}
    {l4 : arg4.view.LoadsAt (Rect.unit (s := S1024x1024) ![0, 0] S1024x1024.size i4).toLoadRect}
    {l10 : arg10.view.LoadsAt (Rect.unit (s := S1280x1024) ![0, 0] S1280x1024.size i3).toLoadRect}
    {hx : (arg10.access (Rect.unit (s := S1280x1024) ![0, 0] S1280x1024.size i3)).Stores Finset.univ}
    {hm : (Finset.univ : Finset (Rect.unit (s := S1280x1024) ![0, 0] S1280x1024.size i3).shape.Idx) = Finset.univ ∨ ∀ a, (Rect.unit (s := S1280x1024) ![0, 0] S1280x1024.size i3).stride a = 1}
    {k : PUnit → Prog (TpuEff nD τ sig (Elt F) Λ₀ .tc) β}
    (hk : iprop(S ∗ held c arg3 arg4 arg10 x y (k0_pay1 x y)) ⊢ wp frame (wpE (defs₀ (F := F)) 𝒱₀ (c.tc : Thread nD τ) none) Set.univ (k ⟨⟩) Q) :
    iprop(S ∗ held c arg3 arg4 arg10 x y z) ⊢ wp frame (wpE (defs₀ (F := F)) 𝒱₀ (c.tc : Thread nD τ) none) Set.univ
      (.op (.load arg3 (Rect.unit (s := S1280x1024) ![0, 0] S1280x1024.size i3).toLoadRect l3) fun v7 =>
        .op (.load arg4 (Rect.unit (s := S1024x1024) ![0, 0] S1024x1024.size i4).toLoadRect l4) fun v9 =>
        .op (.load arg10 (Rect.unit (s := S1280x1024) ![0, 0] S1280x1024.size i3).toLoadRect l10) fun _ =>
        .op (.store arg10 (Rect.unit (s := S1280x1024) ![0, 0] S1280x1024.size i3) (k0_pay1 v7 v9) Finset.univ hx hm) k) Q := by
  unfold held owns
  iintro ⟨HS, ⟨%f3, %e3, H3⟩, ⟨%f4, %e4, H4⟩, ⟨%f10, %e10, H10⟩⟩
  iapply (wp_load 𝒱₀ (c.tc : Thread nD τ) none Set.univ (m := arg3) (by rw [h3.set_eq_univ]; exact Finset.subset_univ _)) $$ H3; iintro H3
  rw [load_whole arg3 _ zeros i3, e3]
  iapply (wp_load 𝒱₀ (c.tc : Thread nD τ) none Set.univ (m := arg4) (by rw [h4.set_eq_univ]; exact Finset.subset_univ _)) $$ H4; iintro H4
  rw [load_whole arg4 _ zeros i4, e4]
  iapply (wp_load 𝒱₀ (c.tc : Thread nD τ) none Set.univ (m := arg10) (by rw [h10.set_eq_univ]; exact Finset.subset_univ _)) $$ H10; iintro H10
  iapply (wp_store 𝒱₀ (c.tc : Thread nD τ) none Set.univ (m := arg10) (r := Rect.unit (s := S1280x1024) ![0, 0] S1280x1024.size i3) (Mk := Finset.univ)
    (S := arg10.view.set) (f := f10) (by rw [h10.set_eq_univ]; exact Finset.subset_univ _)) $$ H10; iintro H10
  iapply hk
  isplitl [HS]; · iexact HS
  unfold held owns
  isplitl [H3]
  · iexists f3; isplitr; · ipureintro; exact e3
    iexact H3
  isplitl [H4]
  · iexists f4; isplitr; · ipureintro; exact e4
    iexact H4
  iexists _; isplitr; · ipureintro; exact store_whole arg10 _ zeros i3 f10 _
  iexact H10

variable {x : Vec F S1280x1024 .bf16} {y : Vec F S1024x1024 .bf16} {z : Vec F S1280x1024 .f32}

/-- A point that is neither the first nor the last. -/
theorem body_mid {S : sProp 𝕄} (h1 : ¬ k0_cond1 i = 1#1) (h2 : ¬ k0_cond2 i = 1#1) :
    iprop(S ∗ held c arg3 arg4 arg10 x y z) ⊢ wp frame (wpE (defs₀ (F := F)) 𝒱₀ (c.tc : Thread nD τ) none) Set.univ
      (cc0_in_proj (F := F) i arg3 harg3 arg4 harg4 (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) arg10 harg10 (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) cc0_scratch0 cc0_scratch1 cc0_scratch2) (fun _ => iprop(S ∗ held c arg3 arg4 arg10 x y (k0_pay1 x y))) := by
  rw [cc0_in_proj_eq_skeleton]
  unfold cc0_in_proj_skel
  rw [dif_neg h1, dif_neg h2]
  simp only [Prog.lift, Prog.bind_op, Prog.bind_ret, Prog.pure_eq_ret]
  refine product harg3 harg4 harg10 ?_
  rw [wp_ret]; exact fupd_intro

set_option maxRecDepth 65536 in
/-- The first point. -/
theorem body_first (h1 : k0_cond1 i = 1#1) (h2 : ¬ k0_cond2 i = 1#1) :
    iprop((P m).St c starts w d ∗ held c arg3 arg4 arg10 x y z) ⊢ wp frame (wpE (defs₀ (F := F)) 𝒱₀ (c.tc : Thread nD τ) none) Set.univ
      (cc0_in_proj (F := F) i arg3 harg3 arg4 harg4 (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) arg10 harg10 (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) cc0_scratch0 cc0_scratch1 cc0_scratch2) (fun _ => iprop((P m).St c [] (started ++ w) d ∗ held c arg3 arg4 arg10 x y (k0_pay1 x y))) := by
  rw [cc0_in_proj_eq_skeleton]
  unfold cc0_in_proj_skel
  rw [dif_pos h1, dif_neg h2]
  refine walk_1 (fun r hr => ?_)
  obtain ⟨d, _, _, _, _, _, _, _, _, _, _, _, _, _, _, _, _, _, _, _, _, _, _⟩ := r
  obtain rfl : c = d := hr.symm
  refine walk_2 (fun r => ?_)
  obtain ⟨_, _, _, _, _, _, _, _, _, _, _, _, _, _, _, _, _, _, _, _, _, _, _, _, _, _, _, _, _, _⟩ := r
  refine walk_3 h1 (fun r => ?_)
  obtain ⟨_, _, _, _, _, _, _, _, _, _, _⟩ := r
  refine walk_4 h1 (fun _ => ?_)
  refine walk_5 h1 (fun _ => ?_)
  refine walk_6 h1 (fun r => ?_)
  obtain ⟨_, _⟩ := r
  refine walk_7 h1 (fun r => ?_)
  obtain ⟨_, _⟩ := r
  refine walk_8 h1 (fun _ => ?_)
  refine walk_9 h1 (fun _ => ?_)
  refine walk_10 h1 (fun _ => ?_)
  refine walk_11 h1 (fun _ => ?_)
  refine walk_12 h1 (fun _ => ?_)
  refine walk_13 h1 (fun r => ?_)
  obtain ⟨_, _⟩ := r
  refine walk_14 h1 (fun r => ?_)
  obtain ⟨_, _⟩ := r
  refine walk_15 h1 (fun _ => ?_)
  simp only [Prog.lift, Prog.bind_op, Prog.bind_ret, Prog.pure_eq_ret]
  refine push_4 6 (Fin.ext ((k0_dev35_eq c).trans (peer_6 c))) (off3_at c) rfl rfl ?_
  refine product harg3 harg4 harg10 ?_
  rw [wp_ret]; exact fupd_intro

set_option maxRecDepth 65536 in
/-- The last point. -/
theorem body_last (h1 : ¬ k0_cond1 i = 1#1) (h2 : k0_cond2 i = 1#1) :
    iprop((P m).St c [] waits [] ∗ held c arg3 arg4 arg10 x y z) ⊢ wp frame (wpE (defs₀ (F := F)) 𝒱₀ (c.tc : Thread nD τ) none) Set.univ
      (cc0_in_proj (F := F) i arg3 harg3 arg4 harg4 (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) arg10 harg10 (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) cc0_scratch0 cc0_scratch1 cc0_scratch2) (fun _ => iprop((P m).St c [] [] waited ∗ held c arg3 arg4 arg10 x y (k0_pay1 x y))) := by
  rw [cc0_in_proj_eq_skeleton]
  unfold cc0_in_proj_skel
  rw [dif_neg h1, dif_pos h2]
  simp only [Prog.lift, Prog.bind_op, Prog.bind_ret, Prog.pure_eq_ret]
  refine product harg3 harg4 harg10 ?_
  refine walk_16 (fun r hr => ?_)
  obtain ⟨d, _, _, _, _, _, _, _, _, _, _⟩ := r
  obtain rfl : c = d := hr.symm
  refine walk_17 (fun r => ?_)
  obtain ⟨_, _, _, _, _, _, _, _, _, _, _, _⟩ := r
  refine walk_18 (fun r => ?_)
  obtain ⟨_, _, _, _, _, _, _, _, _, _, _⟩ := r
  refine walk_19 (fun r => ?_)
  obtain ⟨_, _, _, _, _, _, _, _, _, _, _, _⟩ := r
  refine walk_20 (fun r => ?_)
  obtain ⟨_, _, _, _, _, _, _, _, _, _, _, _⟩ := r
  refine walk_21 (fun r => ?_)
  obtain ⟨_, _, _, _, _, _, _, _, _, _, _, _⟩ := r
  refine walk_22 h2 (fun r => ?_)
  obtain ⟨_, _⟩ := r
  refine walk_23 h2 (fun _ => ?_)
  refine walk_24 h2 (fun _ => ?_)
  refine walk_25 h2 (fun _ => ?_)
  refine walk_26 h2 (fun _ => ?_)
  refine walk_27 h2 (fun r => ?_)
  obtain ⟨_, _⟩ := r
  refine walk_28 h2 (fun r => ?_)
  obtain ⟨_, _⟩ := r
  refine walk_29 h2 (fun _ => ?_)
  refine walk_30 h2 (fun _ => ?_)
  refine walk_31 h2 (fun _ => ?_)
  refine walk_32 h2 (fun _ => ?_)
  refine walk_33 h2 (fun _ => ?_)
  refine walk_34 h2 (fun _ => ?_)
  refine walk_35 h2 (fun _ => ?_)
  refine walk_36 h2 (fun _ => ?_)
  refine walk_37 h2 (fun _ => ?_)
  refine walk_38 h2 (fun _ => ?_)
  simp only [Prog.lift, Prog.bind_op, Prog.bind_ret, Prog.pure_eq_ret]
  refine (P m).step_wait (own 1) rfl rfl ((P m).step_wait (own 2) rfl rfl ((P m).step_wait (own 3) rfl rfl ((P m).step_wait (own 4) rfl rfl ?_)))
  rw [wp_ret]; exact fupd_intro

end Cert.KernelIdeal.Gen
-- ==== Proof.Run.lean ====
/-
  The run of the kernel: the protocol of the exchange at each grid point, the windows' blocks, and what every final state holds.
-/
module

public import proofs.«01_k».proof.Proof.Body
public import proofs.«01_k».proof.Proof.Launch
public import proofs.«01_k».proof.Proof.Gen.KernelIdeal.Launch
public import Idealize.ShloMosaic.Lib.Pipeline.FrameBody

@[expose] public section

noncomputable section

namespace Cert.KernelIdeal.Gen

open Cert.Exchange
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UU nD τ sig) ℕ

variable (m : (ℓ : Loc nD τ sig) → Buf (Elt F) ℓ) (ρ : Dev nD → PrngReg)

/-! ## The grid -/

theorem cond1_iff : ∀ t : Fin cfg0.N, k0_cond1 (grid0.coords t) = 1#1 ↔ t.val = 0 := by
  show ∀ t : Fin grid0.N, k0_cond1 (grid0.coords t) = 1#1 ↔ t.val = 0
  decide +kernel
theorem cond2_iff : ∀ t : Fin cfg0.N, k0_cond2 (grid0.coords t) = 1#1 ↔ t.val = 103 := by
  show ∀ t : Fin grid0.N, k0_cond2 (grid0.coords t) = 1#1 ↔ t.val = 103
  decide +kernel

/-! ## The proof data -/

/-- Input block `w` at point `t`. -/
def blockAt (c : Dev nD) (w : Fin cfg0.W) (t : Fin cfg0.N) : ((cfg0.win w).xblock (cfg0.grid.coords t)).Idx → Elt F (cfg0.win w).elt :=
  ((cfg0.win w).blk t).view.read (Elt F) (m ((c.tc : Thread nD τ).loc (Pipeline.arrRef spec0 w)))

/-- The product that point `t` stores. -/
def prodAt (c : Dev nD) (t : Fin cfg0.N) : Vec F S1280x1024 .f32 := k0_pay1 (blockAt m c 0 t) (blockAt m c 1 t)

def dats (_ : Fin 1) (c : Dev nD) : Dat τ (Elt F) Unit ℕ (UU nD τ sig) ℕ cfg0 c where
  A w := m ((c.tc : Thread nD τ).loc (Pipeline.arrRef spec0 w))
  after w t := match w with
    | ⟨0, _⟩ => blockAt m c 0 t
    | ⟨1, _⟩ => blockAt m c 1 t
    | ⟨2, _⟩ => prodAt m c t
  Φ t := if t.val = 0 then (P m).begin c else if t.val = 104 then (P m).fin c else (P m).mid c
  q _ := fullShare
  owed t := if t.val = 0 then (P m).O₀ c else 0

theorem before_0 (c : Dev nD) (t : Fin cfg0.N) (d) : (dats m 0 c).before 0 t d = blockAt m c 0 t :=
  ((dats m 0 c).before_in_eq_fetched 0 rfl (fun _ => rfl) (fun _ _ _ => rfl) (fun _ => rfl) t d).trans rfl
theorem before_1 (c : Dev nD) (t : Fin cfg0.N) (d) : (dats m 0 c).before 1 t d = blockAt m c 1 t :=
  ((dats m 0 c).before_in_eq_fetched 1 rfl (fun _ => rfl) (fun _ _ _ => rfl) (fun _ => rfl) t d).trans rfl

theorem Φ_eq (c : Dev nD) (t : Fin (cfg0.N + 1)) : (dats m 0 c).Φ t
    = if t.val = 0 then (P m).begin c else if t.val = 104 then (P m).fin c else (P m).mid c := rfl
theorem owed_later (c : Dev nD) (t : Fin (cfg0.N + 1)) (h : ¬ t.val = 0) : (dats m 0 c).owed t = 0 := if_neg h
theorem owes_out (c : Dev nD) (t : Fin (cfg0.N + 1)) (O : CellTallies nD τ sig Unit) (h : (dats m 0 c).owed t = O) :
    ((dats m 0 c).owesAt () t : sProp 𝕄) ⊢ iprop(∃ W, owes (c.tc : Thread nD τ) O W) := by
  subst h
  unfold Dat.owesAt Pipeline.owesWithin
  iintro ⟨%W, -, H⟩
  iexists W; iexact H
theorem owes_in (c : Dev nD) (t : Fin (cfg0.N + 1)) (O : CellTallies nD τ sig Unit) (h : (dats m 0 c).owed t = O) :
    iprop(∃ W, owes (c.tc : Thread nD τ) O W) ⊢ ((dats m 0 c).owesAt () t : sProp 𝕄) := by
  subst h
  unfold Dat.owesAt Pipeline.owesWithin
  iintro ⟨%W, H⟩
  iexists W; isplitr; · ipureintro; exact fun _ _ => Or.inl trivial
  iexact H

/-! ## The body at each point -/

theorem windows (Φ : Fin cfg0.W → sProp 𝕄) : bigSep Finset.univ Φ = iprop(Φ (0 : Fin 3) ∗ Φ (1 : Fin 3) ∗ Φ (2 : Fin 3)) := bigSep_W0 Φ

set_option maxRecDepth 8000 in
/-- The body at a point from the state's steps before and after it. -/
theorem at_point (c : Dev nD) (t : Fin cfg0.N) (S T : sProp 𝕄)
    (hS : iprop((dats m 0 c).Φ t.castSucc ∗ (dats m 0 c).owesAt () t.castSucc) ⊢ S)
    (hT : T ⊢ iprop((dats m 0 c).Φ t.succ ∗ (dats m 0 c).owesAt () t.succ))
    (hb : ∀ z, iprop(S ∗ held c (st0_0 t) (st0_1 t) (st0_2 t) (blockAt m c 0 t) (blockAt m c 1 t) z)
      ⊢ wp frame (wpE (defs₀ (F := F)) 𝒱₀ (c.tc : Thread nD τ) none) Set.univ (bodyAt0 t)
          (fun _ => iprop(T ∗ held c (st0_0 t) (st0_1 t) (st0_2 t) (blockAt m c 0 t) (blockAt m c 1 t) (prodAt m c t)))) :
    iprop((dats m 0 c).Φ t.castSucc ∗ (dats m 0 c).owesAt () t.castSucc
        ∗ bigSep Finset.univ fun w : Fin cfg0.W => iprop(∃ d, owns (c.tc : Thread nD τ) ((cfg0.win w).stage (cfg0.slots t w)) fullShare ((dats m 0 c).before w t d)))
      ⊢ wp frame (wpE (defs₀ (F := F)) 𝒱₀ (c.tc : Thread nD τ) none) Set.univ (bodyAt0 t) fun _ =>
          iprop((dats m 0 c).Φ t.succ ∗ (dats m 0 c).owesAt () t.succ
            ∗ bigSep Finset.univ fun w : Fin cfg0.W => iprop(owns (c.tc : Thread nD τ) ((cfg0.win w).stage (cfg0.slots t w)) fullShare ((dats m 0 c).after w t))) := by
  rw [windows, windows]
  have hT' : iprop(T ∗ held c (st0_0 t) (st0_1 t) (st0_2 t) (blockAt m c 0 t) (blockAt m c 1 t) (prodAt m c t))
      ⊢ iprop((dats m 0 c).Φ t.succ ∗ (dats m 0 c).owesAt () t.succ
        ∗ owns (c.tc : Thread nD τ) ((cfg0.win 0).stage (cfg0.slots t 0)) fullShare ((dats m 0 c).after 0 t)
        ∗ owns (c.tc : Thread nD τ) ((cfg0.win 1).stage (cfg0.slots t 1)) fullShare ((dats m 0 c).after 1 t)
        ∗ owns (c.tc : Thread nD τ) ((cfg0.win 2).stage (cfg0.slots t 2)) fullShare ((dats m 0 c).after 2 t)) := by
    refine (sep_mono_left hT).trans ?_
    unfold held
    iintro ⟨⟨HΦ, HO⟩, H0, H1, H2⟩
    isplitl [HΦ]; · iexact HΦ
    isplitl [HO]; · iexact HO
    isplitl [H0]; · iexact H0
    isplitl [H1]; · iexact H1
    iexact H2
  have hX := fun z => (hb z).trans (wp_mono _ _ _ fun _ => hT')
  iintro ⟨HΦ, HO, ⟨%d0, H0⟩, ⟨%d1, H1⟩, ⟨%d2, H2⟩⟩
  iapply (hX ((dats m 0 c).before 2 t d2))
  rw [before_0, before_1]
  isplitl [HΦ HO]
  · iapply hS; isplitl [HΦ] <;> iassumption
  unfold held
  isplitl [H0]; · iexact H0
  isplitl [H1]; · iexact H1
  iexact H2

abbrev lands : List (Fin 5 × Fin 7) := (List.finRange 5).flatMap fun k => (List.finRange 7).map fun i => (k, i)

set_option maxRecDepth 8000 in
theorem body_obligation (c : Dev nD) : BodyObligation (dats (F := F) m 0 c) (defs₀ (F := F)) 𝒱₀ () Set.univ := fun t => by
  have hN : cfg0.N = 104 := N_0
  have ht := t.isLt
  rcases Nat.lt_trichotomy 0 t.val with h0 | h0 | h0
  · by_cases h1 : t.val = 103
    · -- the last point
      refine at_point m c t ((P m).St c [] waits []) ((P m).St c [] [] waited) ?_ ?_ fun z => body_last (fun h => absurd ((cond1_iff t).mp h) (by omega)) ((cond2_iff t).mpr h1)
      · rw [Φ_eq, if_neg (show ¬ t.castSucc.val = 0 by show ¬ t.val = 0; omega), if_neg (show ¬ t.castSucc.val = 104 by show ¬ t.val = 104; omega)]
        refine (sep_mono_right (owes_out m c t.castSucc 0 (owed_later m c t.castSucc (show ¬ t.val = 0 by omega)))).trans ?_
        iintro ⟨HM, %W, HO⟩
        iapply ((P m).mid_St c waits (by decide) (by decide) W)
        isplitl [HM] <;> iassumption
      · refine ((P m).St_fin c waited (by decide) (by decide)).trans ?_
        rw [Φ_eq, if_neg (show ¬ t.succ.val = 0 by show ¬ t.val + 1 = 0; omega), if_pos (show t.succ.val = 104 by show t.val + 1 = 104; omega)]
        exact sep_mono_right (owes_in m c t.succ 0 (owed_later m c t.succ (show ¬ t.val + 1 = 0 by omega)))
    · -- a point between
      refine at_point m c t iprop((P m).mid c ∗ ∃ W, owes (c.tc : Thread nD τ) 0 W) iprop((P m).mid c ∗ ∃ W, owes (c.tc : Thread nD τ) 0 W) ?_ ?_
        fun z => body_mid (fun h => absurd ((cond1_iff t).mp h) (by omega)) (fun h => h1 ((cond2_iff t).mp h))
      · rw [Φ_eq, if_neg (show ¬ t.castSucc.val = 0 by show ¬ t.val = 0; omega), if_neg (show ¬ t.castSucc.val = 104 by show ¬ t.val = 104; omega)]
        exact sep_mono_right (owes_out m c t.castSucc 0 (owed_later m c t.castSucc (show ¬ t.val = 0 by omega)))
      · rw [Φ_eq, if_neg (show ¬ t.succ.val = 0 by show ¬ t.val + 1 = 0; omega), if_neg (show ¬ t.succ.val = 104 by show ¬ t.val + 1 = 104; omega)]
        exact sep_mono_right (owes_in m c t.succ 0 (owed_later m c t.succ (show ¬ t.val + 1 = 0 by omega)))
  · -- the first point
    refine at_point m c t ((P m).St c starts (lands.map rcv) []) ((P m).St c [] (started ++ lands.map rcv) []) ?_ ?_
      fun z => body_first ((cond1_iff t).mpr h0.symm) (fun h => absurd ((cond2_iff t).mp h) (by omega))
    · rw [Φ_eq, if_pos (show t.castSucc.val = 0 from h0.symm)]
      refine (sep_mono_right (owes_out m c t.castSucc ((P m).O₀ c) (if_pos (show t.val = 0 by omega)))).trans ?_
      iintro ⟨HM, %W, HO⟩
      iapply ((P m).begin_St c starts (by decide) (by decide) lands (by decide) (by decide) W)
      isplitl [HM] <;> iassumption
    · refine ((P m).St_mid c (started ++ lands.map rcv) (by decide) (by decide)).trans ?_
      rw [Φ_eq, if_neg (show ¬ t.succ.val = 0 by show ¬ t.val + 1 = 0; omega), if_neg (show ¬ t.succ.val = 104 by show ¬ t.val + 1 = 104; omega)]
      exact sep_mono_right (owes_in m c t.succ 0 (owed_later m c t.succ (show ¬ t.val + 1 = 0 by omega)))
  · omega

/-! ## The launch -/

theorem arrays_dealt : (bigSep Finset.univ fun c : Dev nD => Pipeline.unscopedRestP (Pipeline.Prefetch.none (sig := sig)) cfg0.spec c (fun b => m ((c.tc : Thread nD τ).loc b)) : sProp 𝕄)
    ⊢ bigSep Finset.univ fun c => iprop(emp
        ∗ (bigSep Finset.univ fun j => iprop((P m).pay (snd j) c ∗ (P m).room (.inl j) c)) ∗ bigSep Finset.univ fun k => (P m).room (.inr k) c) := by
  have h5 (Φ : Fin 5 → sProp 𝕄) : bigSep Finset.univ Φ = iprop(Φ 0 ∗ Φ 1 ∗ Φ 2 ∗ Φ 3 ∗ Φ 4) :=
    bigSep_univ_eq_bigSepL [0, 1, 2, 3, 4] (by decide) (by decide) Φ
  refine (seps_mono fun c => ?_).trans ((E m).deal.trans (seps_mono fun c => ?_))
  · rw [Pipeline.unscopedRestP_none, show cfg0.spec = spec0 from rfl, unscopedRest0_eq, h5, h5]
    iintro ⟨H0, H1, H2, H3, H4, G0, G1, G2, G3, G4⟩
    isplitl [H0 H1 H2 H3 H4]
    · isplitl [H0]; · iexact H0
      isplitl [H1]; · iexact H1
      isplitl [H2]; · iexact H2
      isplitl [H3]; · iexact H3
      iexact H4
    isplitl [G0]; · iexists _; iexact G0
    isplitl [G1]; · iexists _; iexact G1
    isplitl [G2]; · iexists _; iexact G2
    isplitl [G3]; · iexists _; iexact G3
    iexists _; iexact G4
  · iintro H
    isplitr; · iempintro
    iexact H

/-- What a device holds in the end: its parts as they were, and the gathered arrays. -/
def kept (c : Dev nD) : sProp 𝕄 :=
  iprop((bigSep Finset.univ fun k => ((c.tc : Thread nD τ).loc (inp k)) ↦{fullShare} m ((c.tc : Thread nD τ).loc (inp k)))
    ∗ bigSep Finset.univ fun k => ((c.tc : Thread nD τ).loc (out k)) ↦{fullShare} gathered m k c)

theorem kept_read (c : Dev nD) (s' : Phys nD τ sig (Elt F)) : iprop(kept m c ∗ SI s')
    ⊢ |={Set.univ}=> iprop(⌜(∀ k, s'.mem.mem ((c.tc : Thread nD τ).loc (inp k)) = m ((c.tc : Thread nD τ).loc (inp k)))
        ∧ ∀ k, s'.mem.mem ((c.tc : Thread nD τ).loc (out k)) = gathered m k c⌝ ∗ SI s') := by
  unfold kept
  iintro ⟨⟨H1, H2⟩, HSI⟩
  ihave H := (pointsTo_read_all Finset.univ (fun k => (c.tc : Thread nD τ).loc (inp k)) (fun k => m ((c.tc : Thread nD τ).loc (inp k))) s') $$ [H1 HSI]
  · isplitl [H1] <;> iassumption
  icases H with ⟨%h1, HSI⟩
  ihave H := (pointsTo_read_all Finset.univ (fun k => (c.tc : Thread nD τ).loc (out k)) (fun k => gathered m k c) s') $$ [H2 HSI]
  · isplitl [H2] <;> iassumption
  icases H with ⟨%h2, HSI⟩
  imodintro
  isplitr; · ipureintro; exact ⟨fun k => h1 k (Finset.mem_univ _), fun k => h2 k (Finset.mem_univ _)⟩
  iexact HSI

theorem own_sems : Pipeline.OwnSemFacts cfg0.spec (P m).osem := by
  show Pipeline.OwnSemFacts cfg0.spec fun x => (.dma (cellSem x) : SemLoc sig)
  decide

theorem share_full (c : Dev nD) (w : Fin cfg0.W) : (dats m 0 c).share w = fullShare := by unfold Dat.share; split <;> rfl

theorem recv_ne_stage (j : Fin 5 × Fin 7) (w : Fin cfg0.W) (s : Fin (cfg0.win w).nbuf) : (P m).osem (rcv j) ≠ .dma ((cfg0.win w).sem s) := by
  show (.dma (cellSem (rcv j)) : SemLoc sig) ≠ _
  revert j w s
  decide

/-- What every final state holds. -/
def Final (r : PUnit × MemSt nD τ sig (Elt F)) : Prop := ∀ c : Dev nD,
  (∀ w : Fin cfg0.W, r.2.mem ((cfg0.win w).arr.view.loc (c.tc : Thread nD τ)) = (dats m 0 c).arrAt w cfg0.N)
    ∧ (∀ k, r.2.mem ((c.tc : Thread nD τ).loc (inp k)) = m ((c.tc : Thread nD τ).loc (inp k)))
    ∧ ∀ k, r.2.mem ((c.tc : Thread nD τ).loc (out k)) = gathered m k c

set_option maxRecDepth 8000 in
/-- From any memory with zero counters every weakly fair execution ends, and every final state holds the products, the gathered arrays and the parts as
    they were, every counter at zero. -/
theorem run_main : θ_run defs (onTc (τ := τ) (main (F := F))) ⟨m, fun _ => 0, ρ⟩ (fun r => Final m r ∧ r.2.sem = fun _ => 0) :=
  θ_run_shared (fun p => (cfgs p).toPCfg) (fun _ p => (cfgs p).toPCfg_adm) (dats m) () cellOf_inj (0 : Fin 1)
    winFacts0.to₀ (own_sems m) (Pipeline.PreFacts.none _) EP defs₀ 𝒱₀ m ρ main
    (hmain := fun _ => rfl)
    (hbody := body_obligation m) (hne := block_pos0) (harr := arr_whole0) (hstage := stage_whole0) (hshare := share_full m)
    (hdistinct := winFacts0.arr_inj)
    (O₀ := (P m).O₀) (howed₀ := fun _ => rfl) (howedN := fun c => owed_later m c (Fin.last cfg0.N) (show ¬ grid0.N = 0 by rw [N_0]; decide))
    (L := Plan.L) (lv := (P m).lv) (hL := Plan.L_of_ne)
    (hwaits := fun c => Pipeline.PerCore.cellsWaits_intro _ _ () 0 c fun w s t =>
      (P m).mayWait_other c _ (fun j => recv_ne_stage m j w s) _ (by
        by_cases h : t.val = 0
        · exact Or.inl (if_pos h)
        · exact Or.inr (if_neg h)))
    (G := (P m).G) (G' := fun c => iprop((P m).entry c ∗ emp))
    (u₀ := (initOf (Pipeline.cells cfgs cellOf_inj) (Pipeline.launchToks cfgs cellOf_inj), initOf (P m).cells (P m).toks))
    (hu₀ := by
      iintro Hu
      ihave H := (ownU_pair _ _) $$ Hu
      icases H with ⟨HP, HX⟩
      imod ((P m).fund_cells) $$ HX with HG
      imodintro
      isplitl [HP] <;> iassumption)
    (hglob := (P m).glob _ _ (arrays_dealt m))
    (hA := fun _ w => by fin_cases w <;> rfl) (hpf := fun _ k => k.elim0)
    (Y := kept m)
    (hin := fun c => by
      rw [show (dats m 0 c).Φ 0 = (P m).begin c from rfl]
      iintro ⟨⟨-, Hc, HE, -⟩, -⟩
      iapply ((P m).entry_begin c)
      isplitl [Hc] <;> iassumption)
    (hout := fun c => by
      rw [show (dats m 0 c).Φ (Fin.last cfg0.N) = (P m).fin c from by
        rw [Φ_eq, if_neg (show ¬ (Fin.last cfg0.N).val = 0 by show ¬ grid0.N = 0; rw [N_0]; decide), if_pos (show (Fin.last cfg0.N).val = 104 from N_0)], Plan.fin_split]
      iintro ⟨HP, HS⟩
      ihave HP := ((E m).regain c) $$ HP
      isplitl [HP]; · unfold kept; iexact HP
      isplitl [HS]; · iexact HS
      rw [show cfg0.spec = spec0 from rfl, scopedRest0_eq]; iempintro)
    (QY := fun c s => (∀ k, s.mem ((c.tc : Thread nD τ).loc (inp k)) = m ((c.tc : Thread nD τ).loc (inp k)))
        ∧ ∀ k, s.mem ((c.tc : Thread nD τ).loc (out k)) = gathered m k c)
    (hY := kept_read m)
    (hQ := fun _ h hs => ⟨fun c => ⟨fun w => (h c).1 w, (h c).2.1, (h c).2.2⟩, sem_eq_zero_of_scoped (by decide) hs⟩)

end Cert.KernelIdeal.Gen
-- ==== Proof.Values.lean ====
/-
  What the final states hold, at the real numbers: on device `c` the product array is block `c` of the reference's product,
  and each gathered array is the reference's rearrangement of the whole weight.
-/
module

public import proofs.«01_k».proof.Proof.Run
public import proofs.«01_k».proof.Proof.Gen.ReferenceIdeal.Run
public import Idealize.ShloMosaic.Lib.Pipeline.ValueKit
public import Idealize.ShloMosaic.Lib.Layout
public import Idealize.ShloMosaic.Lib.Pointwise

@[expose] public section

noncomputable section

namespace Cert.KernelIdeal.Gen

open Cert.Exchange
open Idealize.ShloMosaic Idealize.ShloMosaic.TcCoe Idealize.ShloMosaic.ValueIdx
open Idealize.SL.Sem

/-! ## The product -/

/-- The windows' index maps, decided once. -/
theorem index_facts : ∀ t : Fin cfg0.N,
    ((cfg0.win 0).index t 0 = t.val / 8 ∧ (cfg0.win 0).index t 1 = 0) ∧ ((cfg0.win 1).index t 0 = 0 ∧ (cfg0.win 1).index t 1 = t.val % 8)
      ∧ ((cfg0.win 2).index t 0 = t.val / 8 ∧ (cfg0.win 2).index t 1 = t.val % 8) := by
  decide +kernel

variable (m : (ℓ : Loc nD τ sig) → Buf (Elt Ideal) ℓ)

/-- The product array once every point has stored its block, against the whole product's block `c`. -/
theorem product_final (c : Dev nD) (X : (⟨2, ![133120, 1024]⟩ : Shape).Idx → Elt Ideal .bf16) (Y : (⟨2, ![1024, 8192]⟩ : Shape).Idx → Elt Ideal .bf16)
    (h : Layout.Tiles ⟨2, ![16640, 8192]⟩ ⟨2, ![133120, 8192]⟩ 0 8) (hx : Layout.Tiles ⟨2, ![16640, 1024]⟩ ⟨2, ![133120, 1024]⟩ 0 8)
    (hX : m ((c.tc : Thread nD τ).loc main_arg0) = Layout.block ⟨2, ![16640, 1024]⟩ ⟨2, ![133120, 1024]⟩ 0 8 c X hx)
    (hY : m ((c.tc : Thread nD τ).loc main_arg1) = Y) :
    (dats m 0 c).arrAt 2 cfg0.N = Layout.block ⟨2, ![16640, 8192]⟩ ⟨2, ![133120, 8192]⟩ 0 8 c
      (Host.dotGeneral (F := Ideal) (φ₁ := .bf16) (φ₂ := .bf16) Cert.ReferenceIdeal.dot_S133120x1024_S1024x8192_S133120x8192_1_0_0_1_n_n none X Y :
        (⟨2, ![133120, 8192]⟩ : Shape).Idx → Elt Ideal .f32) h := by
  refine (dats m 0 c).arrAt_eq_of_covers 2 _ (by decide +kernel) fun t hf y => ?_
  blk_simp
  rw [Layout.block_apply]
  show k0_pay1 (blockAt m c 0 t) (blockAt m c 1 t) y = _
  unfold k0_pay1
  pointwise
  refine Finset.sum_congr rfl fun k _ => ?_
  obtain ⟨⟨e00, e01⟩, ⟨e10, e11⟩, e20, e21⟩ := index_facts t
  have hr := fun i => Layout.idx_rows_val h c i
  have hq := fun i => Layout.idx_rows_val hx c i
  congr 1
  · show m ((c.tc : Thread nD τ).loc main_arg0) _ = _
    rw [hX, Layout.block_apply]
    blk_ext [e00, e01, e20, e21]
    · rw [(hr _).1, (hq _).1]
      blk_simp [e00, e20]
    · rw [(hq _).2]
      blk_simp [e01]
  · show m ((c.tc : Thread nD τ).loc main_arg1) _ = _
    rw [hY]
    blk_ext [e10, e11, e20, e21]
    rw [(hr _).2]
    blk_simp [e21]
/-! ## The gathered weights -/

variable {α : Type}

theorem stacked_128 (X : (⟨2, ![1024, 1024]⟩ : Shape).Idx → α) (hx : Layout.Tiles ⟨2, ![128, 1024]⟩ ⟨2, ![1024, 1024]⟩ 0 8)
    (h : (⟨2, ![1024, 1024]⟩ : Shape).ShapeCasts ⟨3, ![8, 128, 1024]⟩) :
    stack (n := 8) (p := 128) (q := 1024) (fun d => Layout.block ⟨2, ![128, 1024]⟩ ⟨2, ![1024, 1024]⟩ 0 8 d X hx) = shapeCast ⟨3, ![8, 128, 1024]⟩ X h := by
  funext i
  have hq := fun d i => Layout.idx_rows_val hx d i
  show X (hx.idx (i 0) (ValueIdx.ix2 (i 1) (i 2))) = _
  pointwise
  blk_ext []
  · exact (hq _ _).1
  · exact (hq _ _).2

theorem stacked_352 (X : (⟨2, ![2816, 1024]⟩ : Shape).Idx → α) (hx : Layout.Tiles ⟨2, ![352, 1024]⟩ ⟨2, ![2816, 1024]⟩ 0 8)
    (h : (⟨2, ![2816, 1024]⟩ : Shape).ShapeCasts ⟨3, ![8, 352, 1024]⟩) :
    stack (n := 8) (p := 352) (q := 1024) (fun d => Layout.block ⟨2, ![352, 1024]⟩ ⟨2, ![2816, 1024]⟩ 0 8 d X hx) = shapeCast ⟨3, ![8, 352, 1024]⟩ X h := by
  funext i
  have hq := fun d i => Layout.idx_rows_val hx d i
  show X (hx.idx (i 0) (ValueIdx.ix2 (i 1) (i 2))) = _
  pointwise
  blk_ext []
  · exact (hq _ _).1
  · exact (hq _ _).2

theorem stacked_704 (X : (⟨2, ![1024, 5632]⟩ : Shape).Idx → α) (hx : Layout.Tiles ⟨2, ![1024, 704]⟩ ⟨2, ![1024, 5632]⟩ 1 8)
    (h : (⟨2, ![1024, 5632]⟩ : Shape).ShapeCasts ⟨3, ![1024, 8, 704]⟩) (h' : (⟨3, ![1024, 8, 704]⟩ : Shape).Transposes [1, 0, 2] ⟨3, ![8, 1024, 704]⟩) :
    stack (n := 8) (p := 1024) (q := 704) (fun d => Layout.block ⟨2, ![1024, 704]⟩ ⟨2, ![1024, 5632]⟩ 1 8 d X hx)
      = transpose ⟨3, ![8, 1024, 704]⟩ [1, 0, 2] (shapeCast ⟨3, ![1024, 8, 704]⟩ X h) h' := by
  funext i
  have hq := fun d i => Layout.idx_cols_val hx d i
  show X (hx.idx (i 0) (ValueIdx.ix2 (i 1) (i 2))) = _
  pointwise
  blk_ext []
  · exact (hq _ _).1
  · exact (hq _ _).2

end Cert.KernelIdeal.Gen

end
-- ==== Proof.RowCall.lean ====
/-
  The exchange of this kernel: one array of eight blocks each; every device sends block `d` to device `d`, and keeps what device `d` sends it as block `d`.
  Device `c` sends to device `c xor m` for `m = 1, …, 7` and copies its own block.
-/
module

public import proofs.«01_k».proof.Proof.Values
public import proofs.«01_k».proof.Proof.Gen.RowIdeal.Points

@[expose] public section

noncomputable section

namespace Cert.RowIdeal.Gen

open Cert.Exchange
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ sig) ℕ

/-! ## The devices -/

def peer (m : Fin 7) (c : Dev nD) : Dev nD := ⟨c.val ^^^ (m.val + 1), by revert m c; decide⟩
theorem peer_peer (m : Fin 7) (c : Dev nD) : peer m (peer m c) = c := by revert m c; decide
theorem peer_all (c : Dev nD) : Function.Bijective fun o : Option (Fin 7) => o.elim c fun m => peer m c := by
  have h : ∀ c : Dev nD, Function.Injective fun o : Option (Fin 7) => o.elim c fun m => peer m c := by
    unfold Function.Injective; decide
  exact (Fintype.bijective_iff_injective_and_card _).mpr ⟨h c, by decide⟩

/-! ## The arrays -/

abbrev inp : Fin 1 → Ref sig .tc
  | 0 => main_arg2
abbrev out : Fin 1 → Ref sig .tc
  | 0 => main_v1_1

/-- Block `d` of `inp k` and of `out k`. -/
abbrev cut : (k : Fin 1) → (c d : Dev nD) → Finset (Idx ((c.tc : Thread nD τ).loc (inp k)))
  | 0, _, d => blk (n := 8) (p := 1024) (q := 964) d
abbrev part : (k : Fin 1) → (c d : Dev nD) → Finset (Idx ((c.tc : Thread nD τ).loc (out k)))
  | 0, _, d => blk (n := 8) (p := 1024) (q := 964) d

/-- What device `c` has in the end: as block `d`, block `c` of device `d`. -/
abbrev dealt (m : (ℓ : Loc nD τ sig) → Buf (Elt F) ℓ) : (k : Fin 1) → (c : Dev nD) → On τ F c (out k)
  | 0, c => stack (n := 8) (p := 1024) (q := 964) fun (d : Dev nD) => layer (m ((d.tc : Thread nD τ).loc main_arg2)) c

/-- The amount of a block's copy. -/
abbrev amount : Fin 1 → ℕ
  | 0 => (((Memref.whole main_v1_1).slice (Rect.unit (s := S8x1024x964) ![0, 0, 0] S1x1024x964.size (by decide)) (fun _ => rfl)).squeeze S1024x964 squeezes_S1x1024x964_S1024x964).view.dmaCredit

/-- The cells' semaphores. -/
abbrev cellSem : Cell (Fin 1 × Fin 7) (Fin 1) → DmaSem sig
  | .inl (k, i) => ⟨6 + 7 * k.val + i.val, by show _ < 21; omega⟩
  | .inr (.inl (k, i)) => ⟨13 + 7 * k.val + i.val, by show _ < 21; omega⟩
  | .inr (.inr k) => ⟨20 + k.val, by show _ < 21; omega⟩

theorem cellSem_inj : Function.Injective cellSem := by
  rintro (⟨k, i⟩ | ⟨k, i⟩ | k) (⟨k', i'⟩ | ⟨k', i'⟩ | k') h <;> have h := congrArg Fin.val h <;> simp only [cellSem] at h <;> try omega
  · obtain ⟨h1, h2⟩ : k = k' ∧ i = i' := ⟨by omega, by omega⟩
    rw [h1, h2]
  · obtain ⟨h1, h2⟩ : k = k' ∧ i = i' := ⟨by omega, by omega⟩
    rw [h1, h2]
  · rw [show k = k' by omega]

variable (m : (ℓ : Loc nD τ sig) → Buf (Elt F) ℓ)

def E : Arrays nD τ sig F (Fin 1) (Fin 7) where
  peer := peer
  peer_peer := peer_peer
  peer_all := peer_all
  inp := inp
  out := out
  A := cut
  share _ _ := fullShare
  B := part
  parts k c f := by
    match k with
    | 0 => exact Ring.pointsTo_blocks (cut 0 c) (fun d d' h => blk_disj h) blk_cover f
  disj k c d d' h := by
    match k with
    | 0 => exact blk_disj h
  cover k c := by
    match k with
    | 0 => exact blk_cover
  x k c := m ((c.tc : Thread nD τ).loc (inp k))
  y := dealt m
  sem := cellSem
  sem_inj := cellSem_inj
  size := amount
  size_pos k := by
    match k with
    | 0 => exact View.dmaCredit_pos _ (by decide)

abbrev P : Plan nD τ sig F (Fin 1 × Fin 7) (Fin 1) := (E m).plan

abbrev 𝒱₀ : Variants := Variants.none

/-! ## A push and a copy, array by array -/

variable {m}
variable {c : Dev nD} {α : Type} {K : PUnit → Prog (TpuEff nD τ sig (Elt F) Λ₀ .tc) α}
  {l : List ((Fin 1 × Fin 7) ⊕ Fin 1)} {w d : List (Cell (Fin 1 × Fin 7) (Fin 1))}

/-- A block that lands in its place leaves the final array's elements there. -/
theorem land {k : Fin 1} {c d : Dev nD} {f : On τ F d ((E m).out k)} {S} (hS : S = (E m).B k d c)
    (hf : ∀ i ∈ (E m).B k d c, f i = (E m).y k d i) :
    (((d.tc : Thread nD τ).loc ((E m).out k)) ↦[S]{fullShare} f : sProp 𝕄) ⊢ (E m).landed k d c := by
  subst hS; unfold Arrays.landed
  rw [pointsTo_congr hf]

theorem open_free {k : Fin 1} {c d : Dev nD} {S} (hS : S = (E m).B k d c) :
    (E m).free k d c ⊢ iprop(∃ f, ((d.tc : Thread nD τ).loc ((E m).out k)) ↦[S]{fullShare} f) := by
  subst hS; exact .rfl

theorem lent_eq (k : Fin 1) (c d : Dev nD) {S} (hS : S = (E m).A k c d) :
    (E m).lent k c d = (((c.tc : Thread nD τ).loc ((E m).inp k)) ↦[S]{fullShare} m ((c.tc : Thread nD τ).loc ((E m).inp k)) : sProp 𝕄) := by
  subst hS; rfl

theorem pay_rcv (k : Fin 1) (i : Fin 7) (c : Dev nD) : (E m).landed k (peer i c) c = (P m).pay (rcv (k, i)) ((P m).peer (k, i) c) := by
  show _ = (E m).landed k (peer i c) (peer i (peer i c))
  rw [peer_peer]

theorem outSet_0 (c : Dev nD) {off} (hoff : off = ![c.val, 0, 0]) {inb} :
    (((Memref.whole main_v1_1).slice (Rect.unit (s := S8x1024x964) off S1x1024x964.size inb) (fun _ => rfl)).squeeze S1024x964 squeezes_S1x1024x964_S1024x964).view.set = (blk c : Finset S8x1024x964.Idx) :=
  (set_block (View.whole main_v1_1) c hoff inb _).trans Finset.map_refl

theorem inpSet_0 (d : Dev nD) {off'} (hoff' : off' = ![d.val, 0, 0]) {inb'} :
    (((Memref.whole main_arg2).slice (Rect.unit (s := S8x1024x964) off' S1x1024x964.size inb') (fun _ => rfl)).squeeze S1024x964 squeezes_S1x1024x964_S1024x964).view.set = (blk d : Finset S8x1024x964.Idx) :=
  (set_block (View.whole main_arg2) d hoff' inb' _).trans Finset.map_refl

theorem reads_0 (d : Dev nD) {off'} (hoff' : off' = ![d.val, 0, 0]) {inb'} (f : (⟨3, ![8, 1024, 964]⟩ : Shape).Idx → Elt F .bf16) :
    (((Memref.whole main_arg2).slice (Rect.unit (s := S8x1024x964) off' S1x1024x964.size inb') (fun _ => rfl)).squeeze S1024x964 squeezes_S1x1024x964_S1024x964).view.read (Elt F) f = layer f d :=
  read_block (Val := Elt F) (View.whole main_arg2) d hoff' inb' squeezes_S1x1024x964_S1024x964.numel_eq f

theorem moved_0 (c d : Dev nD) {off off'} (hoff : off = ![c.val, 0, 0]) (hoff' : off' = ![d.val, 0, 0]) {inb inb'} (fd) :
    ∀ i ∈ (blk c : Finset S8x1024x964.Idx), (((Memref.whole main_v1_1).slice (Rect.unit (s := S8x1024x964) off S1x1024x964.size inb) (fun _ => rfl)).squeeze S1024x964 squeezes_S1x1024x964_S1024x964).view.write (Elt F) fd
      ((((Memref.whole main_arg2).slice (Rect.unit (s := S8x1024x964) off' S1x1024x964.size inb') (fun _ => rfl)).squeeze S1024x964 squeezes_S1x1024x964_S1024x964).view.read (Elt F) (m ((c.tc : Thread nD τ).loc main_arg2))) Finset.univ i = (E m).y 0 d i := fun i hi =>
  (write_block (View.whole main_v1_1) c hoff inb _ fd _ i hi).trans
    ((congrFun (reads_0 d hoff' (m ((c.tc : Thread nD τ).loc main_arg2))) (ValueIdx.ix2 (n0 := 1024) (n1 := 964) (i 1) (i 2))).trans
      (congrArg (fun x : Dev nD => layer (n := 8) (p := 1024) (q := 964) (m ((x.tc : Thread nD τ).loc main_arg2)) d (ValueIdx.ix2 (n0 := 1024) (n1 := 964) (i 1) (i 2))) (mem_blk.mp hi).symm))

theorem push_0 {Q : α → sProp 𝕄} {R : sProp 𝕄} (i : Fin 7) {n : Dev nD} (hn : n = peer i c) {off off'} (hoff : off = ![c.val, 0, 0]) (hoff' : off' = ![(peer i c).val, 0, 0])
    {inb inb'} {sS sR : DmaSem sig} {hsc hsrc hdst hsem} (hS : sS = cellSem (snd (0, i))) (hR : sR = cellSem (rcv (0, i)))
    (hk : iprop((P m).St c l (snd (0, i) :: w) d ∗ R) ⊢ wp frame (wpE (defs₀ (F := F)) 𝒱₀ (c.tc : Thread nD τ) none) Set.univ (K ⟨⟩) Q) :
    iprop((P m).St c (.inl (0, i) :: l) w d ∗ R)
      ⊢ wp frame (wpE (defs₀ (F := F)) 𝒱₀ (c.tc : Thread nD τ) none) Set.univ
          (.op (.enqueueDma (((Memref.whole main_arg2).slice (Rect.unit (s := S8x1024x964) off' S1x1024x964.size inb') (fun _ => rfl)).squeeze S1024x964 squeezes_S1x1024x964_S1024x964) (.remote (Dev.tc n : Thread nD τ)
            (((Memref.whole main_v1_1).slice (Rect.unit (s := S8x1024x964) off S1x1024x964.size inb) (fun _ => rfl)).squeeze S1024x964 squeezes_S1x1024x964_S1024x964) (.dma sS) hsc) (.dma sR) hsrc hdst hsem) K) Q :=
  (P m).step_push (0, i) hn hS hR rfl (BiEntails.of_eq (lent_eq 0 c (peer i c) (inpSet_0 _ hoff')))
    (open_free (m := m) (k := 0) (outSet_0 c hoff))
    (fun fd => (land (m := m) (k := 0) (outSet_0 c hoff) (moved_0 c (peer i c) hoff hoff' fd)).trans
      (Entails.of_eq (pay_rcv 0 i c))) (hk := hk)

theorem copy_0 {Q : α → sProp 𝕄} {R : sProp 𝕄} {off off'} (hoff : off = ![c.val, 0, 0]) (hoff' : off' = ![c.val, 0, 0]) {inb inb'} {sm : DmaSem sig} {hsrc hdst hsem}
    (hm : sm = cellSem (own 0))
    (hk : iprop((P m).St c l (own 0 :: w) d ∗ R) ⊢ wp frame (wpE (defs₀ (F := F)) 𝒱₀ (c.tc : Thread nD τ) none) Set.univ (K ⟨⟩) Q) :
    iprop((P m).St c (.inr 0 :: l) w d ∗ R)
      ⊢ wp frame (wpE (defs₀ (F := F)) 𝒱₀ (c.tc : Thread nD τ) none) Set.univ
          (.op (.enqueueDma (((Memref.whole main_arg2).slice (Rect.unit (s := S8x1024x964) off' S1x1024x964.size inb') (fun _ => rfl)).squeeze S1024x964 squeezes_S1x1024x964_S1024x964) (.here (((Memref.whole main_v1_1).slice (Rect.unit (s := S8x1024x964) off S1x1024x964.size inb) (fun _ => rfl)).squeeze S1024x964 squeezes_S1x1024x964_S1024x964)) (.dma sm) hsrc hdst hsem) K) Q :=
  (P m).step_copy 0 hm rfl
    (sep_mono₂ (Entails.of_eq (lent_eq 0 c c (inpSet_0 _ hoff'))) (open_free (m := m) (k := 0) (outSet_0 c hoff)))
    (fun fd => sep_mono₂ (land (m := m) (k := 0) (outSet_0 c hoff) (moved_0 c c hoff hoff' fd))
      (Entails.of_eq (lent_eq 0 c c (inpSet_0 _ hoff')).symm)) (hk := hk)

end Cert.RowIdeal.Gen
-- ==== Proof.RowWalk.lean ====
/-
  The kernel's steps at the first and at the last grid point, on the state of the exchange: the first starts every copy and every push, the
  last waits for every cell. One lemma per part of the kernel function, each before what follows it.
-/
module

public import proofs.«01_k».proof.Proof.RowCall
public import proofs.«01_k».proof.Proof.Gen.RowIdeal.Skeleton

@[expose] public section

noncomputable section

namespace Cert.RowIdeal.Gen

open Cert.Exchange
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ sig) ℕ

/-! ## Where the blocks lie and who the peers are -/

theorem peer_0 (c : Dev nD) : (4 * (c.val / 4) + 2 * ((c.val / 2) % 2) + 1) - (c.val % 2) = (peer 0 c).val := by revert c; decide
theorem peer_1 (c : Dev nD) : (4 * (c.val / 4) + (c.val % 2) + 2) - 2 * ((c.val / 2) % 2) = (peer 1 c).val := by revert c; decide
theorem peer_2 (c : Dev nD) : (4 * (c.val / 4) + 3) - (2 * ((c.val / 2) % 2) + (c.val % 2)) = (peer 2 c).val := by revert c; decide
theorem peer_3 (c : Dev nD) : (2 * ((c.val / 2) % 2) + (c.val % 2) + 4) - 4 * (c.val / 4) = (peer 3 c).val := by revert c; decide
theorem peer_4 (c : Dev nD) : (2 * ((c.val / 2) % 2) + 5) - (4 * (c.val / 4) + (c.val % 2)) = (peer 4 c).val := by revert c; decide
theorem peer_5 (c : Dev nD) : ((c.val % 2) + 6) - (4 * (c.val / 4) + 2 * ((c.val / 2) % 2)) = (peer 5 c).val := by revert c; decide
theorem peer_6 (c : Dev nD) : 7 - (4 * (c.val / 4) + 2 * ((c.val / 2) % 2) + (c.val % 2)) = (peer 6 c).val := by revert c; decide
theorem here (c : Dev nD) : 4 * (c.val / 4) + 2 * ((c.val / 2) % 2) + (c.val % 2) = c.val := by revert c; decide
theorem off1_at (c : Dev nD) : k0_off1 c = ![c.val, 0, 0] := (k0_off1_eq c).trans (by rw [here])
theorem off2_at (c : Dev nD) : k0_off2 c = ![(peer 0 c).val, 0, 0] := (k0_off2_eq c).trans (by rw [peer_0])
theorem off3_at (c : Dev nD) : k0_off3 c = ![(peer 1 c).val, 0, 0] := (k0_off3_eq c).trans (by rw [peer_1])
theorem off4_at (c : Dev nD) : k0_off4 c = ![(peer 2 c).val, 0, 0] := (k0_off4_eq c).trans (by rw [peer_2])
theorem off5_at (c : Dev nD) : k0_off5 c = ![(peer 3 c).val, 0, 0] := (k0_off5_eq c).trans (by rw [peer_3])
theorem off6_at (c : Dev nD) : k0_off6 c = ![(peer 4 c).val, 0, 0] := (k0_off6_eq c).trans (by rw [peer_4])
theorem off7_at (c : Dev nD) : k0_off7 c = ![(peer 5 c).val, 0, 0] := (k0_off7_eq c).trans (by rw [peer_5])
theorem off8_at (c : Dev nD) : k0_off8 c = ![(peer 6 c).val, 0, 0] := (k0_off8_eq c).trans (by rw [peer_6])

variable {m : (ℓ : Loc nD τ sig) → Buf (Elt F) ℓ} {c : Dev nD} {β : Type} {i : grid0.Coords}
  {arg3 : Memref sig .tc .vmem S1280x2048 .bf16} {harg3 : arg3.IsWhole} {arg4 : Memref sig .tc .vmem S1024x2048 .bf16} {harg4 : arg4.IsWhole}
  {arg6 : Memref sig .tc .vmem S1280x1024 .f32} {harg6 : arg6.IsWhole}
  {l : List ((Fin 1 × Fin 7) ⊕ Fin 1)} {w d : List (Cell (Fin 1 × Fin 7) (Fin 1))}

/-! ## The parts -/

theorem walk_1 {Q : β → sProp 𝕄} {G : sProp 𝕄} {k : _ → Prog (TpuEff nD τ sig (Elt F) Λ₀ .tc) β}
    (hk : ∀ r, r.1 = c → (G ⊢ wp frame (wpE (defs₀ (F := F)) 𝒱₀ (c.tc : Thread nD τ) none) Set.univ (k r) Q)) :
    G ⊢ wp frame (wpE (defs₀ (F := F)) 𝒱₀ (c.tc : Thread nD τ) none) Set.univ (k0_part1 (F := F) i arg3 harg3 arg4 harg4 (Memref.whole main_arg2) (Memref.isWhole_whole _) arg6 harg6 (Memref.whole main_v1_1) (Memref.isWhole_whole _) (Memref.whole cc0_scratch0) (Memref.isWhole_whole _) cc0_scratch1 cc0_scratch2 cc0_scratch3 >>= k) Q := by
  rw [k0_part1_eq_skeleton]
  simp only [k0_part1_skel, Prog.lift, Prog.bind_op, Prog.bind_ret, Prog.pure_eq_ret, wp_deviceId]
  exact hk _ rfl

theorem walk_2 {Q : β → sProp 𝕄} {R : sProp 𝕄} (k0_h1 : k0_cond1 i = 1#1) {v30 v33 v36 v41 v62 v63 : BitVec 32} {k : _ → Prog (TpuEff nD τ sig (Elt F) Λ₀ .tc) β}
    (hk : ∀ r, (iprop((P m).St c l (own 0 :: w) d ∗ R) ⊢ wp frame (wpE (defs₀ (F := F)) 𝒱₀ (c.tc : Thread nD τ) none) Set.univ (k r) Q)) :
    iprop((P m).St c (.inr 0 :: l) w d ∗ R) ⊢ wp frame (wpE (defs₀ (F := F)) 𝒱₀ (c.tc : Thread nD τ) none) Set.univ (k0_part2 (F := F) i arg3 harg3 arg4 harg4 (Memref.whole main_arg2) (Memref.isWhole_whole _) arg6 harg6 (Memref.whole main_v1_1) (Memref.isWhole_whole _) (Memref.whole cc0_scratch0) (Memref.isWhole_whole _) cc0_scratch1 cc0_scratch2 cc0_scratch3 k0_h1 c v30 v33 v36 v41 v62 v63 >>= k) Q := by
  rw [k0_part2_eq_skeleton]
  simp only [k0_part2_skel, Prog.lift, Prog.bind_op, Prog.bind_ret, Prog.pure_eq_ret]
  exact copy_0 (off1_at c) (off1_at c) rfl (
    hk _)

theorem walk_3 {Q : β → sProp 𝕄} {R : sProp 𝕄} (k0_h1 : k0_cond1 i = 1#1) {v30 v36 v46 v51 v52 v57 : BitVec 32} {k : _ → Prog (TpuEff nD τ sig (Elt F) Λ₀ .tc) β}
    (hk : ∀ r, (iprop((P m).St c l (snd (0, 2) :: snd (0, 1) :: snd (0, 0) :: w) d ∗ R) ⊢ wp frame (wpE (defs₀ (F := F)) 𝒱₀ (c.tc : Thread nD τ) none) Set.univ (k r) Q)) :
    iprop((P m).St c (.inl (0, 0) :: .inl (0, 1) :: .inl (0, 2) :: l) w d ∗ R) ⊢ wp frame (wpE (defs₀ (F := F)) 𝒱₀ (c.tc : Thread nD τ) none) Set.univ (k0_part3 (F := F) i arg3 harg3 arg4 harg4 (Memref.whole main_arg2) (Memref.isWhole_whole _) arg6 harg6 (Memref.whole main_v1_1) (Memref.isWhole_whole _) (Memref.whole cc0_scratch0) (Memref.isWhole_whole _) cc0_scratch1 cc0_scratch2 cc0_scratch3 k0_h1 c v30 v36 v46 v51 v52 v57 >>= k) Q := by
  rw [k0_part3_eq_skeleton]
  simp only [k0_part3_skel, Prog.lift, Prog.bind_op, Prog.bind_ret, Prog.pure_eq_ret]
  exact push_0 0 (Fin.ext ((k0_dev1_eq c).trans (peer_0 c))) (off1_at c) (off2_at c) rfl rfl (
    push_0 1 (Fin.ext ((k0_dev2_eq c).trans (peer_1 c))) (off1_at c) (off3_at c) rfl rfl (
    push_0 2 (Fin.ext ((k0_dev3_eq c).trans (peer_2 c))) (off1_at c) (off4_at c) rfl rfl (
    hk _)))

theorem walk_4 {Q : β → sProp 𝕄} {R : sProp 𝕄} (k0_h1 : k0_cond1 i = 1#1) {v33 v36 v62 v63 v68 v69 v129 c0_i32_83 : BitVec 32} {k : _ → Prog (TpuEff nD τ sig (Elt F) Λ₀ .tc) β}
    (hk : ∀ r, (iprop((P m).St c l (snd (0, 4) :: snd (0, 3) :: w) d ∗ R) ⊢ wp frame (wpE (defs₀ (F := F)) 𝒱₀ (c.tc : Thread nD τ) none) Set.univ (k r) Q)) :
    iprop((P m).St c (.inl (0, 3) :: .inl (0, 4) :: l) w d ∗ R) ⊢ wp frame (wpE (defs₀ (F := F)) 𝒱₀ (c.tc : Thread nD τ) none) Set.univ (k0_part4 (F := F) i arg3 harg3 arg4 harg4 (Memref.whole main_arg2) (Memref.isWhole_whole _) arg6 harg6 (Memref.whole main_v1_1) (Memref.isWhole_whole _) (Memref.whole cc0_scratch0) (Memref.isWhole_whole _) cc0_scratch1 cc0_scratch2 cc0_scratch3 k0_h1 c v33 v36 v62 v63 v68 v69 v129 c0_i32_83 >>= k) Q := by
  rw [k0_part4_eq_skeleton]
  simp only [k0_part4_skel, Prog.lift, Prog.bind_op, Prog.bind_ret, Prog.pure_eq_ret]
  exact push_0 3 (Fin.ext ((k0_dev4_eq c).trans (peer_3 c))) (off1_at c) (off5_at c) rfl rfl (
    push_0 4 (Fin.ext ((k0_dev5_eq c).trans (peer_4 c))) (off1_at c) (off6_at c) rfl rfl (
    hk _))

theorem walk_5 {Q : β → sProp 𝕄} {G : sProp 𝕄} {k : _ → Prog (TpuEff nD τ sig (Elt F) Λ₀ .tc) β}
    (hk : ∀ r, r.1 = c → (G ⊢ wp frame (wpE (defs₀ (F := F)) 𝒱₀ (c.tc : Thread nD τ) none) Set.univ (k r) Q)) :
    G ⊢ wp frame (wpE (defs₀ (F := F)) 𝒱₀ (c.tc : Thread nD τ) none) Set.univ (k0_part5 (F := F) i arg3 harg3 arg4 harg4 (Memref.whole main_arg2) (Memref.isWhole_whole _) arg6 harg6 (Memref.whole main_v1_1) (Memref.isWhole_whole _) (Memref.whole cc0_scratch0) (Memref.isWhole_whole _) cc0_scratch1 cc0_scratch2 cc0_scratch3 >>= k) Q := by
  rw [k0_part5_eq_skeleton]
  simp only [k0_part5_skel, Prog.lift, Prog.bind_op, Prog.bind_ret, Prog.pure_eq_ret, wp_deviceId]
  exact hk _ rfl

theorem walk_6 {Q : β → sProp 𝕄} {R : sProp 𝕄} (k0_h5 : k0_cond5 i = 1#1) {v30 v33 v36 v41 v46 v62 v63 : BitVec 32} {k : _ → Prog (TpuEff nD τ sig (Elt F) Λ₀ .tc) β}
    (hk : ∀ r, (iprop((P m).St c [] w (rcv (0, 0) :: d) ∗ R) ⊢ wp frame (wpE (defs₀ (F := F)) 𝒱₀ (c.tc : Thread nD τ) none) Set.univ (k r) Q)) :
    iprop((P m).St c [] (rcv (0, 0) :: w) d ∗ R) ⊢ wp frame (wpE (defs₀ (F := F)) 𝒱₀ (c.tc : Thread nD τ) none) Set.univ (k0_part6 (F := F) i arg3 harg3 arg4 harg4 (Memref.whole main_arg2) (Memref.isWhole_whole _) arg6 harg6 (Memref.whole main_v1_1) (Memref.isWhole_whole _) (Memref.whole cc0_scratch0) (Memref.isWhole_whole _) cc0_scratch1 cc0_scratch2 cc0_scratch3 k0_h5 c v30 v33 v36 v41 v46 v62 v63 >>= k) Q := by
  rw [k0_part6_eq_skeleton]
  simp only [k0_part6_skel, Prog.lift, Prog.bind_op, Prog.bind_ret, Prog.pure_eq_ret]
  exact (P m).step_wait (rcv (0, 0)) rfl rfl (
    hk _)

theorem walk_7 {Q : β → sProp 𝕄} {R : sProp 𝕄} (k0_h5 : k0_cond5 i = 1#1) {v30 v33 v36 v51 v52 v57 v96 : BitVec 32} {k : _ → Prog (TpuEff nD τ sig (Elt F) Λ₀ .tc) β}
    (hk : ∀ r, (iprop((P m).St c [] w (rcv (0, 3) :: rcv (0, 2) :: rcv (0, 1) :: d) ∗ R) ⊢ wp frame (wpE (defs₀ (F := F)) 𝒱₀ (c.tc : Thread nD τ) none) Set.univ (k r) Q)) :
    iprop((P m).St c [] (rcv (0, 1) :: rcv (0, 2) :: rcv (0, 3) :: w) d ∗ R) ⊢ wp frame (wpE (defs₀ (F := F)) 𝒱₀ (c.tc : Thread nD τ) none) Set.univ (k0_part7 (F := F) i arg3 harg3 arg4 harg4 (Memref.whole main_arg2) (Memref.isWhole_whole _) arg6 harg6 (Memref.whole main_v1_1) (Memref.isWhole_whole _) (Memref.whole cc0_scratch0) (Memref.isWhole_whole _) cc0_scratch1 cc0_scratch2 cc0_scratch3 k0_h5 c v30 v33 v36 v51 v52 v57 v96 >>= k) Q := by
  rw [k0_part7_eq_skeleton]
  simp only [k0_part7_skel, Prog.lift, Prog.bind_op, Prog.bind_ret, Prog.pure_eq_ret]
  exact (P m).step_wait (rcv (0, 1)) rfl rfl (
    (P m).step_wait (rcv (0, 2)) rfl rfl (
    (P m).step_wait (rcv (0, 3)) rfl rfl (
    hk _)))

theorem walk_8 {Q : β → sProp 𝕄} {R : sProp 𝕄} (k0_h5 : k0_cond5 i = 1#1) {v33 v36 v62 v63 v68 v69 v74 v75 v76 : BitVec 32} {k : _ → Prog (TpuEff nD τ sig (Elt F) Λ₀ .tc) β}
    (hk : ∀ r, (iprop((P m).St c [] w (rcv (0, 5) :: rcv (0, 4) :: d) ∗ R) ⊢ wp frame (wpE (defs₀ (F := F)) 𝒱₀ (c.tc : Thread nD τ) none) Set.univ (k r) Q)) :
    iprop((P m).St c [] (rcv (0, 4) :: rcv (0, 5) :: w) d ∗ R) ⊢ wp frame (wpE (defs₀ (F := F)) 𝒱₀ (c.tc : Thread nD τ) none) Set.univ (k0_part8 (F := F) i arg3 harg3 arg4 harg4 (Memref.whole main_arg2) (Memref.isWhole_whole _) arg6 harg6 (Memref.whole main_v1_1) (Memref.isWhole_whole _) (Memref.whole cc0_scratch0) (Memref.isWhole_whole _) cc0_scratch1 cc0_scratch2 cc0_scratch3 k0_h5 c v33 v36 v62 v63 v68 v69 v74 v75 v76 >>= k) Q := by
  rw [k0_part8_eq_skeleton]
  simp only [k0_part8_skel, Prog.lift, Prog.bind_op, Prog.bind_ret, Prog.pure_eq_ret]
  exact (P m).step_wait (rcv (0, 4)) rfl rfl (
    (P m).step_wait (rcv (0, 5)) rfl rfl (
    hk _))

theorem walk_9 {Q : β → sProp 𝕄} {R : sProp 𝕄} (k0_h5 : k0_cond5 i = 1#1) {k : _ → Prog (TpuEff nD τ sig (Elt F) Λ₀ .tc) β}
    (hk : ∀ r, (iprop((P m).St c [] w (snd (0, 2) :: snd (0, 1) :: snd (0, 0) :: rcv (0, 6) :: d) ∗ R) ⊢ wp frame (wpE (defs₀ (F := F)) 𝒱₀ (c.tc : Thread nD τ) none) Set.univ (k r) Q)) :
    iprop((P m).St c [] (rcv (0, 6) :: snd (0, 0) :: snd (0, 1) :: snd (0, 2) :: w) d ∗ R) ⊢ wp frame (wpE (defs₀ (F := F)) 𝒱₀ (c.tc : Thread nD τ) none) Set.univ (k0_part9 (F := F) i arg3 harg3 arg4 harg4 (Memref.whole main_arg2) (Memref.isWhole_whole _) arg6 harg6 (Memref.whole main_v1_1) (Memref.isWhole_whole _) (Memref.whole cc0_scratch0) (Memref.isWhole_whole _) cc0_scratch1 cc0_scratch2 cc0_scratch3 k0_h5 c >>= k) Q := by
  rw [k0_part9_eq_skeleton]
  simp only [k0_part9_skel, Prog.lift, Prog.bind_op, Prog.bind_ret, Prog.pure_eq_ret]
  exact (P m).step_wait (rcv (0, 6)) rfl rfl (
    (P m).step_wait (snd (0, 0)) rfl rfl (
    (P m).step_wait (snd (0, 1)) rfl rfl (
    (P m).step_wait (snd (0, 2)) rfl rfl (
    hk _))))

theorem walk_10 {Q : β → sProp 𝕄} {R : sProp 𝕄} (k0_h5 : k0_cond5 i = 1#1) {k : _ → Prog (TpuEff nD τ sig (Elt F) Λ₀ .tc) β}
    (hk : ∀ r, r = c → (iprop((P m).St c [] w (snd (0, 6) :: snd (0, 5) :: snd (0, 4) :: snd (0, 3) :: snd (0, 2) :: snd (0, 1) :: snd (0, 0) :: rcv (0, 6) :: rcv (0, 5) :: rcv (0, 4) :: rcv (0, 3) :: rcv (0, 2) :: rcv (0, 1) :: rcv (0, 0) :: d) ∗ R) ⊢ wp frame (wpE (defs₀ (F := F)) 𝒱₀ (c.tc : Thread nD τ) none) Set.univ (k r) Q)) :
    iprop((P m).St c [] (rcv (0, 0) :: rcv (0, 1) :: rcv (0, 2) :: rcv (0, 3) :: rcv (0, 4) :: rcv (0, 5) :: rcv (0, 6) :: snd (0, 0) :: snd (0, 1) :: snd (0, 2) :: snd (0, 3) :: snd (0, 4) :: snd (0, 5) :: snd (0, 6) :: w) d ∗ R) ⊢ wp frame (wpE (defs₀ (F := F)) 𝒱₀ (c.tc : Thread nD τ) none) Set.univ (k0_part10 (F := F) i arg3 harg3 arg4 harg4 (Memref.whole main_arg2) (Memref.isWhole_whole _) arg6 harg6 (Memref.whole main_v1_1) (Memref.isWhole_whole _) (Memref.whole cc0_scratch0) (Memref.isWhole_whole _) cc0_scratch1 cc0_scratch2 cc0_scratch3 k0_h5 >>= k) Q := by
  rw [k0_part10_eq_skeleton]
  unfold k0_part10_skel
  simp only [Prog.bind_assoc]
  refine walk_5 (fun r hr => ?_)
  obtain ⟨d, _, _, _, _, _, _, _, _, _, _⟩ := r
  obtain rfl : c = d := hr.symm
  refine walk_6 k0_h5 (fun r => ?_)
  obtain ⟨_, _, _, _, _, _⟩ := r
  refine walk_7 k0_h5 (fun _ => ?_)
  refine walk_8 k0_h5 (fun _ => ?_)
  refine walk_9 k0_h5 (fun _ => ?_)
  simp only [Prog.lift, Prog.bind_op, Prog.bind_ret, Prog.pure_eq_ret]
  refine (P m).step_wait (snd (0, 3)) rfl rfl (
    (P m).step_wait (snd (0, 4)) rfl rfl (
    (P m).step_wait (snd (0, 5)) rfl rfl (
    (P m).step_wait (snd (0, 6)) rfl rfl (
    ?_))))
  exact hk _ rfl

/-! ## What is started and what is waited for, in order -/

abbrev starts : List ((Fin 1 × Fin 7) ⊕ Fin 1) := [.inr 0, .inl (0, 0), .inl (0, 1), .inl (0, 2), .inl (0, 3), .inl (0, 4), .inl (0, 5), .inl (0, 6)]
abbrev started : List (Cell (Fin 1 × Fin 7) (Fin 1)) := [.inl (0, 6), .inl (0, 5), .inl (0, 4), .inl (0, 3), .inl (0, 2), .inl (0, 1), .inl (0, 0), .inr (.inr 0)]
abbrev waits : List (Cell (Fin 1 × Fin 7) (Fin 1)) := [.inr (.inl (0, 0)), .inr (.inl (0, 1)), .inr (.inl (0, 2)), .inr (.inl (0, 3)), .inr (.inl (0, 4)), .inr (.inl (0, 5)), .inr (.inl (0, 6)), .inl (0, 0), .inl (0, 1), .inl (0, 2),
  .inl (0, 3), .inl (0, 4), .inl (0, 5), .inl (0, 6), .inr (.inr 0)]
abbrev waited : List (Cell (Fin 1 × Fin 7) (Fin 1)) := [.inr (.inr 0), .inl (0, 6), .inl (0, 5), .inl (0, 4), .inl (0, 3), .inl (0, 2), .inl (0, 1), .inl (0, 0), .inr (.inl (0, 6)), .inr (.inl (0, 5)),
  .inr (.inl (0, 4)), .inr (.inl (0, 3)), .inr (.inl (0, 2)), .inr (.inl (0, 1)), .inr (.inl (0, 0))]

end Cert.RowIdeal.Gen
-- ==== Proof.RowBody.lean ====
/-
  The kernel body at a grid point: it multiplies its two input blocks and puts the product into the accumulator (at the first of the points that share
  an output block) or adds it there; the last of these points stores the sum. The first point of the grid starts the exchange before that, and the last
  one waits for all of it afterwards.
-/
module

public import proofs.«01_k».proof.Proof.RowWalk

@[expose] public section

noncomputable section

namespace Cert.RowIdeal.Gen

open Cert.Exchange
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ sig) ℕ

variable {m : (ℓ : Loc nD τ sig) → Buf (Elt F) ℓ} {c : Dev nD} {β : Type} {i : grid0.Coords}
  {arg3 : Memref sig .tc .vmem S1280x2048 .bf16} {harg3 : arg3.IsWhole} {arg4 : Memref sig .tc .vmem S1024x2048 .bf16} {harg4 : arg4.IsWhole}
  {arg6 : Memref sig .tc .vmem S1280x1024 .f32} {harg6 : arg6.IsWhole}
  {l : List ((Fin 1 × Fin 7) ⊕ Fin 1)} {w d : List (Cell (Fin 1 × Fin 7) (Fin 1))}
  {x : Vec F S1280x2048 .bf16} {y : Vec F S1024x2048 .bf16} {z : Vec F S1280x1024 .f32} {a : Vec F S1280x1024 .f32}

/-- What a grid point holds besides the exchange. -/
abbrev point (c : Dev nD) (arg3 : Memref sig .tc .vmem S1280x2048 .bf16) (arg4 : Memref sig .tc .vmem S1024x2048 .bf16) (arg6 : Memref sig .tc .vmem S1280x1024 .f32)
    (x : Vec F S1280x2048 .bf16) (y : Vec F S1024x2048 .bf16) (z : Vec F S1280x1024 .f32) (a : Vec F S1280x1024 .f32) : sProp 𝕄 :=
  four c arg3 arg4 arg6 (Memref.whole cc0_scratch0) x y z a

/-- A point starts its sum, or adds to it. -/
abbrev resets (i : grid0.Coords) : Prop := Scalar.cmpi .ne (Scalar.extui (Scalar.cmpi .eq (BitVec.ofNat 32 (i 2).val) 0#32) : BitVec 32) 0#32 = 1#1
abbrev adds (i : grid0.Coords) : Prop := Scalar.cmpi .ne (Scalar.extui (Scalar.cmpi .sgt (BitVec.ofNat 32 (i 2).val) 0#32) : BitVec 32) 0#32 = 1#1

set_option maxRecDepth 65536 in
/-- A point that starts a sum. -/
theorem body_reset {S : sProp 𝕄} (h1 : ¬ k0_cond1 i = 1#1) (h2 : resets i) (h3 : ¬ adds i) (h4 : ¬ k0_cond4 i = 1#1) (h5 : ¬ k0_cond5 i = 1#1) :
    iprop(S ∗ point c arg3 arg4 arg6 x y z a) ⊢ wp frame (wpE (defs₀ (F := F)) 𝒱₀ (c.tc : Thread nD τ) none) Set.univ
      (cc0_d_h1 (F := F) i arg3 harg3 arg4 harg4 (Memref.whole main_arg2) (Memref.isWhole_whole _) arg6 harg6 (Memref.whole main_v1_1) (Memref.isWhole_whole _) (Memref.whole cc0_scratch0) (Memref.isWhole_whole _) cc0_scratch1 cc0_scratch2 cc0_scratch3) (fun _ => iprop(S ∗ point c arg3 arg4 arg6 x y z (k0_pay2 x y))) := by
  rw [cc0_d_h1_eq_skeleton]
  unfold cc0_d_h1_skel
  rw [dif_neg h1]
  simp only [Prog.lift, Prog.bind_op, Prog.bind_ret, Prog.pure_eq_ret]
  refine load_0 harg3 zeros ?_
  refine load_1 harg4 zeros ?_
  rw [dif_pos h2, dif_neg h3]
  simp only [Prog.lift, Prog.bind_op, Prog.bind_ret, Prog.pure_eq_ret]
  refine load_3 (Memref.isWhole_whole _) zeros ?_
  refine store_3 (Memref.isWhole_whole _) zeros ?_
  rw [dif_neg h4, dif_neg h5]
  simp only [Prog.lift, Prog.bind_op, Prog.bind_ret, Prog.pure_eq_ret]
  rw [wp_ret]; exact fupd_intro

set_option maxRecDepth 65536 in
/-- A point that adds to a sum. -/
theorem body_add {S : sProp 𝕄} (h1 : ¬ k0_cond1 i = 1#1) (h2 : ¬ resets i) (h3 : adds i) (h4 : ¬ k0_cond4 i = 1#1) (h5 : ¬ k0_cond5 i = 1#1) :
    iprop(S ∗ point c arg3 arg4 arg6 x y z a) ⊢ wp frame (wpE (defs₀ (F := F)) 𝒱₀ (c.tc : Thread nD τ) none) Set.univ
      (cc0_d_h1 (F := F) i arg3 harg3 arg4 harg4 (Memref.whole main_arg2) (Memref.isWhole_whole _) arg6 harg6 (Memref.whole main_v1_1) (Memref.isWhole_whole _) (Memref.whole cc0_scratch0) (Memref.isWhole_whole _) cc0_scratch1 cc0_scratch2 cc0_scratch3) (fun _ => iprop(S ∗ point c arg3 arg4 arg6 x y z (k0_pay3 x y a))) := by
  rw [cc0_d_h1_eq_skeleton]
  unfold cc0_d_h1_skel
  rw [dif_neg h1]
  simp only [Prog.lift, Prog.bind_op, Prog.bind_ret, Prog.pure_eq_ret]
  refine load_0 harg3 zeros ?_
  refine load_1 harg4 zeros ?_
  rw [dif_neg h2, dif_pos h3]
  simp only [Prog.lift, Prog.bind_op, Prog.bind_ret, Prog.pure_eq_ret]
  refine load_3 (Memref.isWhole_whole _) zeros ?_
  refine load_3 (Memref.isWhole_whole _) zeros ?_
  refine store_3 (Memref.isWhole_whole _) zeros ?_
  rw [dif_neg h4, dif_neg h5]
  simp only [Prog.lift, Prog.bind_op, Prog.bind_ret, Prog.pure_eq_ret]
  rw [wp_ret]; exact fupd_intro

set_option maxRecDepth 65536 in
/-- A point that ends a sum. -/
theorem body_store {S : sProp 𝕄} (h1 : ¬ k0_cond1 i = 1#1) (h2 : ¬ resets i) (h3 : adds i) (h4 : k0_cond4 i = 1#1) (h5 : ¬ k0_cond5 i = 1#1) :
    iprop(S ∗ point c arg3 arg4 arg6 x y z a) ⊢ wp frame (wpE (defs₀ (F := F)) 𝒱₀ (c.tc : Thread nD τ) none) Set.univ
      (cc0_d_h1 (F := F) i arg3 harg3 arg4 harg4 (Memref.whole main_arg2) (Memref.isWhole_whole _) arg6 harg6 (Memref.whole main_v1_1) (Memref.isWhole_whole _) (Memref.whole cc0_scratch0) (Memref.isWhole_whole _) cc0_scratch1 cc0_scratch2 cc0_scratch3) (fun _ => iprop(S ∗ point c arg3 arg4 arg6 x y (k0_pay3 x y a) (k0_pay3 x y a))) := by
  rw [cc0_d_h1_eq_skeleton]
  unfold cc0_d_h1_skel
  rw [dif_neg h1]
  simp only [Prog.lift, Prog.bind_op, Prog.bind_ret, Prog.pure_eq_ret]
  refine load_0 harg3 zeros ?_
  refine load_1 harg4 zeros ?_
  rw [dif_neg h2, dif_pos h3]
  simp only [Prog.lift, Prog.bind_op, Prog.bind_ret, Prog.pure_eq_ret]
  refine load_3 (Memref.isWhole_whole _) zeros ?_
  refine load_3 (Memref.isWhole_whole _) zeros ?_
  refine store_3 (Memref.isWhole_whole _) zeros ?_
  rw [dif_pos h4]
  simp only [Prog.lift, Prog.bind_op, Prog.bind_ret, Prog.pure_eq_ret]
  refine load_3 (Memref.isWhole_whole _) zeros ?_
  refine load_2 harg6 zeros ?_
  refine store_2 harg6 zeros ?_
  rw [dif_neg h5]
  simp only [Prog.lift, Prog.bind_op, Prog.bind_ret, Prog.pure_eq_ret]
  rw [wp_ret]; exact fupd_intro

set_option maxRecDepth 65536 in
/-- The first point. -/
theorem body_first (h1 : k0_cond1 i = 1#1) (h2 : resets i) (h3 : ¬ adds i) (h4 : ¬ k0_cond4 i = 1#1) (h5 : ¬ k0_cond5 i = 1#1) :
    iprop((P m).St c starts w d ∗ point c arg3 arg4 arg6 x y z a) ⊢ wp frame (wpE (defs₀ (F := F)) 𝒱₀ (c.tc : Thread nD τ) none) Set.univ
      (cc0_d_h1 (F := F) i arg3 harg3 arg4 harg4 (Memref.whole main_arg2) (Memref.isWhole_whole _) arg6 harg6 (Memref.whole main_v1_1) (Memref.isWhole_whole _) (Memref.whole cc0_scratch0) (Memref.isWhole_whole _) cc0_scratch1 cc0_scratch2 cc0_scratch3) (fun _ => iprop((P m).St c [] (started ++ w) d ∗ point c arg3 arg4 arg6 x y z (k0_pay2 x y))) := by
  rw [cc0_d_h1_eq_skeleton]
  unfold cc0_d_h1_skel
  rw [dif_pos h1]
  refine walk_1 (fun r hr => ?_)
  obtain ⟨d, _, _, _, _, _, _, _, _, _, _⟩ := r
  obtain rfl : c = d := hr.symm
  refine walk_2 h1 (fun r => ?_)
  obtain ⟨_, _, _, _, _⟩ := r
  refine walk_3 h1 (fun r => ?_)
  obtain ⟨_, _⟩ := r
  refine walk_4 h1 (fun _ => ?_)
  simp only [Prog.lift, Prog.bind_op, Prog.bind_ret, Prog.pure_eq_ret]
  refine push_0 5 (Fin.ext ((k0_dev6_eq c).trans (peer_5 c))) (off1_at c) (off7_at c) rfl rfl (
    push_0 6 (Fin.ext ((k0_dev7_eq c).trans (peer_6 c))) (off1_at c) (off8_at c) rfl rfl (
    ?_))
  refine load_0 harg3 zeros ?_
  refine load_1 harg4 zeros ?_
  rw [dif_pos h2, dif_neg h3]
  simp only [Prog.lift, Prog.bind_op, Prog.bind_ret, Prog.pure_eq_ret]
  refine load_3 (Memref.isWhole_whole _) zeros ?_
  refine store_3 (Memref.isWhole_whole _) zeros ?_
  rw [dif_neg h4, dif_neg h5]
  simp only [Prog.lift, Prog.bind_op, Prog.bind_ret, Prog.pure_eq_ret]
  rw [wp_ret]; exact fupd_intro

set_option maxRecDepth 65536 in
/-- The last point. -/
theorem body_last (h1 : ¬ k0_cond1 i = 1#1) (h2 : ¬ resets i) (h3 : adds i) (h4 : k0_cond4 i = 1#1) (h5 : k0_cond5 i = 1#1) :
    iprop((P m).St c [] waits [] ∗ point c arg3 arg4 arg6 x y z a) ⊢ wp frame (wpE (defs₀ (F := F)) 𝒱₀ (c.tc : Thread nD τ) none) Set.univ
      (cc0_d_h1 (F := F) i arg3 harg3 arg4 harg4 (Memref.whole main_arg2) (Memref.isWhole_whole _) arg6 harg6 (Memref.whole main_v1_1) (Memref.isWhole_whole _) (Memref.whole cc0_scratch0) (Memref.isWhole_whole _) cc0_scratch1 cc0_scratch2 cc0_scratch3) (fun _ => iprop((P m).St c [] [] waited ∗ point c arg3 arg4 arg6 x y (k0_pay3 x y a) (k0_pay3 x y a))) := by
  rw [cc0_d_h1_eq_skeleton]
  unfold cc0_d_h1_skel
  rw [dif_neg h1]
  simp only [Prog.lift, Prog.bind_op, Prog.bind_ret, Prog.pure_eq_ret]
  refine load_0 harg3 zeros ?_
  refine load_1 harg4 zeros ?_
  rw [dif_neg h2, dif_pos h3]
  simp only [Prog.lift, Prog.bind_op, Prog.bind_ret, Prog.pure_eq_ret]
  refine load_3 (Memref.isWhole_whole _) zeros ?_
  refine load_3 (Memref.isWhole_whole _) zeros ?_
  refine store_3 (Memref.isWhole_whole _) zeros ?_
  rw [dif_pos h4]
  simp only [Prog.lift, Prog.bind_op, Prog.bind_ret, Prog.pure_eq_ret]
  refine load_3 (Memref.isWhole_whole _) zeros ?_
  refine load_2 harg6 zeros ?_
  refine store_2 harg6 zeros ?_
  rw [dif_pos h5]
  refine walk_10 h5 (fun r hr => ?_)
  obtain rfl : c = r := hr.symm
  simp only [Prog.lift, Prog.bind_op, Prog.bind_ret, Prog.pure_eq_ret]
  refine (P m).step_wait (own 0) rfl rfl (
    ?_)
  rw [wp_ret]; exact fupd_intro

end Cert.RowIdeal.Gen
-- ==== Proof.RowRun.lean ====
/-
  The run of the kernel: the sums that the accumulator goes through, the protocol of the exchange at each grid point, and what every final state holds.
-/
module

public import proofs.«01_k».proof.Proof.RowBody
public import proofs.«01_k».proof.Proof.Gen.RowIdeal.Launch
public import Idealize.ShloMosaic.Lib.Pipeline.FrameBody

@[expose] public section

noncomputable section

namespace Cert.RowIdeal.Gen

open Cert.Exchange
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

open Idealize.ShloMosaic.Rounds
open Idealize.ShloMosaic.Pipeline (Dat BodyObligation)

variable {F : FTy → Type} [FloatOps F]

local notation "𝕄" => MT nD τ sig Unit (Elt F) ℕ (UU nD τ sig) ℕ

variable (m : (ℓ : Loc nD τ sig) → Buf (Elt F) ℓ) (ρ : Dev nD → PrngReg)

/-! ## The grid -/

theorem cond1_iff : ∀ t : Fin cfg0.N, k0_cond1 (grid0.coords t) = 1#1 ↔ t.val = 0 := by
  show ∀ t : Fin grid0.N, k0_cond1 (grid0.coords t) = 1#1 ↔ t.val = 0
  decide +kernel
theorem resets_iff : ∀ t : Fin cfg0.N, resets (grid0.coords t) ↔ t.val % 4 = 0 := by
  show ∀ t : Fin grid0.N, resets (grid0.coords t) ↔ t.val % 4 = 0
  decide +kernel
theorem adds_iff : ∀ t : Fin cfg0.N, adds (grid0.coords t) ↔ ¬ t.val % 4 = 0 := by
  show ∀ t : Fin grid0.N, adds (grid0.coords t) ↔ ¬ t.val % 4 = 0
  decide +kernel
theorem cond4_iff : ∀ t : Fin cfg0.N, k0_cond4 (grid0.coords t) = 1#1 ↔ t.val % 4 = 3 := by
  show ∀ t : Fin grid0.N, k0_cond4 (grid0.coords t) = 1#1 ↔ t.val % 4 = 3
  decide +kernel
theorem cond5_iff : ∀ t : Fin cfg0.N, k0_cond5 (grid0.coords t) = 1#1 ↔ t.val = 51 := by
  show ∀ t : Fin grid0.N, k0_cond5 (grid0.coords t) = 1#1 ↔ t.val = 51
  decide +kernel
theorem idle_iff : ∀ t : Fin cfg0.N, cfg0.idle 2 (cfg0.grid.coords t) = true ↔ ¬ t.val % 4 = 3 := by
  show ∀ t : Fin grid0.N, idle0 2 (grid0.coords t) = true ↔ ¬ t.val % 4 = 3
  decide +kernel

/-! ## The sums -/

/-- Input block `w` at point `t`. -/
def blockAt (c : Dev nD) (w : Fin cfg0.W) (t : Fin cfg0.N) : ((cfg0.win w).xblock (cfg0.grid.coords t)).Idx → Elt F (cfg0.win w).elt :=
  ((cfg0.win w).blk t).view.read (Elt F) (m ((c.tc : Thread nD τ).loc (Pipeline.arrRef spec0 w)))

/-- The accumulator after point `n`. -/
def sumAt (c : Dev nD) : ℕ → Vec F S1280x1024 .f32
  | 0 => k0_pay2 (blockAt m c 0 ⟨0, by decide⟩) (blockAt m c 1 ⟨0, by decide⟩)
  | n + 1 =>
    if h : n + 1 < cfg0.N then
      if (n + 1) % 4 = 0 then k0_pay2 (blockAt m c 0 ⟨n + 1, h⟩) (blockAt m c 1 ⟨n + 1, h⟩)
      else k0_pay3 (blockAt m c 0 ⟨n + 1, h⟩) (blockAt m c 1 ⟨n + 1, h⟩) (sumAt c n)
    else sumAt c n

theorem sumAt_reset (c : Dev nD) (t : Fin cfg0.N) (h : t.val % 4 = 0) : sumAt m c t.val = k0_pay2 (blockAt m c 0 t) (blockAt m c 1 t) := by
  obtain ⟨n, hn⟩ := t
  cases n with
  | zero => rfl
  | succ n =>
    show sumAt m c (n + 1) = _
    rw [sumAt, dif_pos hn, if_pos h]
theorem sumAt_add (c : Dev nD) (t : Fin cfg0.N) (h : ¬ t.val % 4 = 0) :
    sumAt m c t.val = k0_pay3 (blockAt m c 0 t) (blockAt m c 1 t) (sumAt m c (t.val - 1)) := by
  obtain ⟨n, hn⟩ := t
  cases n with
  | zero => exact absurd rfl h
  | succ n =>
    show sumAt m c (n + 1) = _
    rw [sumAt, dif_pos hn, if_neg h]; rfl

/-- The block that a sum's last point stores. -/
def outAt (c : Dev nD) (t : Fin cfg0.N) : Vec F S1280x1024 .f32 := sumAt m c t.val

/-- The accumulator before point `n`: anything at first, afterwards what the point before has left. -/
def scratch (c : Dev nD) (n : ℕ) : sProp 𝕄 :=
  iprop(∃ a : Vec F S1280x1024 .f32, ⌜n ≠ 0 → a = sumAt m c (n - 1)⌝ ∗ owns (c.tc : Thread nD τ) (Memref.whole cc0_scratch0) fullShare a)

/-- The exchange before point `n`. -/
def stage (c : Dev nD) (n : ℕ) : sProp 𝕄 := if n = 0 then (P m).begin c else if n = 52 then (P m).fin c else (P m).mid c

def dats (_ : Fin 1) (c : Dev nD) : Dat τ (Elt F) Unit ℕ (UU nD τ sig) ℕ cfg0 c where
  A w := m ((c.tc : Thread nD τ).loc (Pipeline.arrRef spec0 w))
  after w t := match w with
    | ⟨0, _⟩ => blockAt m c 0 t
    | ⟨1, _⟩ => blockAt m c 1 t
    | ⟨2, _⟩ => outAt m c t
  Φ t := iprop(stage m c t.val ∗ scratch m c t.val)
  q _ := fullShare
  owed t := if t.val = 0 then (P m).O₀ c else 0

theorem before_0 (c : Dev nD) (t : Fin cfg0.N) (d) : (dats m 0 c).before 0 t d = blockAt m c 0 t :=
  ((dats m 0 c).before_in_eq_fetched 0 rfl (fun _ => rfl) (fun _ _ _ => rfl) (fun _ => rfl) t d).trans rfl
theorem before_1 (c : Dev nD) (t : Fin cfg0.N) (d) : (dats m 0 c).before 1 t d = blockAt m c 1 t :=
  ((dats m 0 c).before_in_eq_fetched 1 rfl (fun _ => rfl) (fun _ _ _ => rfl) (fun _ => rfl) t d).trans rfl

theorem Φ_eq (c : Dev nD) (t : Fin (cfg0.N + 1)) : (dats m 0 c).Φ t = iprop(stage m c t.val ∗ scratch m c t.val) := rfl
theorem owed_later (c : Dev nD) (t : Fin (cfg0.N + 1)) (h : ¬ t.val = 0) : (dats m 0 c).owed t = 0 := if_neg h
theorem owes_out (c : Dev nD) (t : Fin (cfg0.N + 1)) (O : CellTallies nD τ sig Unit) (h : (dats m 0 c).owed t = O) :
    ((dats m 0 c).owesAt () t : sProp 𝕄) ⊢ iprop(∃ W, owes (c.tc : Thread nD τ) O W) := by
  subst h
  unfold Dat.owesAt Pipeline.owesWithin
  iintro ⟨%W, -, H⟩
  iexists W; iexact H
theorem owes_in (c : Dev nD) (t : Fin (cfg0.N + 1)) (O : CellTallies nD τ sig Unit) (h : (dats m 0 c).owed t = O) :
    iprop(∃ W, owes (c.tc : Thread nD τ) O W) ⊢ ((dats m 0 c).owesAt () t : sProp 𝕄) := by
  subst h
  unfold Dat.owesAt Pipeline.owesWithin
  iintro ⟨%W, H⟩
  iexists W; isplitr; · ipureintro; exact fun _ _ => Or.inl trivial
  iexact H

/-! ## The body at each point -/

theorem windows (Φ : Fin cfg0.W → sProp 𝕄) : bigSep Finset.univ Φ = iprop(Φ (0 : Fin 3) ∗ Φ (1 : Fin 3) ∗ Φ (2 : Fin 3)) := bigSep_W0 Φ

/-- The output block where a sum goes on, and where it ends. -/
theorem leave_on (c : Dev nD) (t : Fin cfg0.N) (h : ¬ t.val % 4 = 3) (d) :
    (owns (c.tc : Thread nD τ) (st0_2 t) fullShare ((dats m 0 c).before 2 t d) : sProp 𝕄) ⊢ (dats m 0 c).leavesExact 2 t := by
  rw [(dats m 0 c).leavesExact_idle 2 t ((idle_iff t).mpr h) (Bool.eq_false_iff.mpr fun hf => h ((flush0_2 t).mp hf))]
  iintro H; iexists d; iexact H
theorem leave_end (c : Dev nD) (t : Fin cfg0.N) (h : t.val % 4 = 3) :
    (owns (c.tc : Thread nD τ) (st0_2 t) fullShare (outAt m c t) : sProp 𝕄) ⊢ (dats m 0 c).leavesExact 2 t := by
  have hi : cfg0.idle 2 (cfg0.grid.coords t) = false := Bool.eq_false_iff.mpr fun hi => (idle_iff t).mp hi h
  unfold Dat.leavesExact; rw [hi]
  iintro H; iexact H

set_option maxRecDepth 8000 in
/-- The body at a point from the exchange's steps before and after it. -/
theorem at_point (c : Dev nD) (t : Fin cfg0.N) (S T : sProp 𝕄) (out : Vec F S1280x1024 .f32 → Vec F S1280x1024 .f32)
    (hS : iprop(stage m c t.val ∗ (dats m 0 c).owesAt () t.castSucc) ⊢ S)
    (hT : T ⊢ iprop(stage m c (t.val + 1) ∗ (dats m 0 c).owesAt () t.succ))
    (hz : ∀ d, (owns (c.tc : Thread nD τ) (st0_2 t) fullShare (out ((dats m 0 c).before 2 t d)) : sProp 𝕄) ⊢ (dats m 0 c).leavesExact 2 t)
    (hb : ∀ z a, (t.val ≠ 0 → a = sumAt m c (t.val - 1)) → (iprop(S ∗ point c (st0_0 t) (st0_1 t) (st0_2 t) (blockAt m c 0 t) (blockAt m c 1 t) z a)
      ⊢ wp frame (wpE (defs₀ (F := F)) 𝒱₀ (c.tc : Thread nD τ) none) Set.univ (bodyAt0 t)
          (fun _ => iprop(T ∗ point c (st0_0 t) (st0_1 t) (st0_2 t) (blockAt m c 0 t) (blockAt m c 1 t) (out z) (sumAt m c t.val))))) :
    iprop((dats m 0 c).Φ t.castSucc ∗ (dats m 0 c).owesAt () t.castSucc
        ∗ bigSep Finset.univ fun w : Fin cfg0.W => iprop(∃ d, owns (c.tc : Thread nD τ) ((cfg0.win w).stage (cfg0.slots t w)) fullShare ((dats m 0 c).before w t d)))
      ⊢ wp frame (wpE (defs₀ (F := F)) 𝒱₀ (c.tc : Thread nD τ) none) Set.univ (bodyAt0 t) fun _ =>
          iprop((dats m 0 c).Φ t.succ ∗ (dats m 0 c).owesAt () t.succ ∗ bigSep Finset.univ fun w : Fin cfg0.W => (dats m 0 c).leavesExact w t) := by
  rw [windows, windows, Φ_eq, Φ_eq]
  have hT' (d) : iprop(T ∗ point c (st0_0 t) (st0_1 t) (st0_2 t) (blockAt m c 0 t) (blockAt m c 1 t) (out ((dats m 0 c).before 2 t d)) (sumAt m c t.val))
      ⊢ iprop((stage m c t.succ.val ∗ scratch m c t.succ.val) ∗ (dats m 0 c).owesAt () t.succ
        ∗ (dats m 0 c).leavesExact 0 t ∗ (dats m 0 c).leavesExact 1 t ∗ (dats m 0 c).leavesExact 2 t) := by
    refine (sep_mono_left hT).trans ?_
    unfold point four
    iintro ⟨⟨HΦ, HO⟩, H0, H1, H2, HA⟩
    isplitl [HΦ HA]
    · isplitl [HΦ]; · iexact HΦ
      unfold scratch
      iexists sumAt m c t.val
      isplitr; · ipureintro; exact fun _ => rfl
      iexact HA
    isplitl [HO]; · iexact HO
    isplitl [H0]; · iexact H0
    isplitl [H1]; · iexact H1
    iapply (hz d); iexact H2
  iintro ⟨⟨HΦ, HA⟩, HO, ⟨%d0, H0⟩, ⟨%d1, H1⟩, ⟨%d2, H2⟩⟩
  unfold scratch
  icases HA with ⟨%a, %ha, HA⟩
  iapply ((hb ((dats m 0 c).before 2 t d2) a ha).trans (wp_mono _ _ _ fun _ => hT' d2))
  rw [before_0, before_1]
  isplitl [HΦ HO]
  · iapply hS; isplitl [HΦ]; · iexact HΦ
    iexact HO
  unfold point four
  isplitl [H0]; · iexact H0
  isplitl [H1]; · iexact H1
  isplitl [H2]; · iexact H2
  iexact HA

abbrev lands : List (Fin 1 × Fin 7) := (List.finRange 1).flatMap fun k => (List.finRange 7).map fun i => (k, i)

theorem stage_mid (c : Dev nD) (n : ℕ) (h0 : ¬ n = 0) (hN : ¬ n = 52) : stage m c n = (P m).mid c := by unfold stage; rw [if_neg h0, if_neg hN]
theorem stage_fin (c : Dev nD) : stage m c 52 = (P m).fin c := rfl
theorem stage_begin (c : Dev nD) : stage m c 0 = (P m).begin c := rfl

/-- A point at which the exchange rests. -/
theorem rest_in (c : Dev nD) (t : Fin cfg0.N) (h0 : ¬ t.val = 0) :
    iprop(stage m c t.val ∗ (dats m 0 c).owesAt () t.castSucc) ⊢ iprop((P m).mid c ∗ ∃ W, owes (c.tc : Thread nD τ) 0 W) := by
  have hN : cfg0.N = 52 := N_0
  have ht := t.isLt
  rw [stage_mid m c t.val h0 (by omega)]
  exact sep_mono_right (owes_out m c t.castSucc 0 (owed_later m c t.castSucc h0))
theorem rest_out (c : Dev nD) (t : Fin cfg0.N) (hl : ¬ t.val = 51) :
    iprop((P m).mid c ∗ ∃ W, owes (c.tc : Thread nD τ) 0 W) ⊢ iprop(stage m c (t.val + 1) ∗ (dats m 0 c).owesAt () t.succ) := by
  rw [stage_mid m c (t.val + 1) (by omega) (by omega)]
  exact sep_mono_right (owes_in m c t.succ 0 (owed_later m c t.succ (show ¬ t.val + 1 = 0 by omega)))

set_option maxRecDepth 8000 in
theorem body_obligation (c : Dev nD) : BodyObligation (dats (F := F) m 0 c) (defs₀ (F := F)) 𝒱₀ () Set.univ := fun t => by
  have hN : cfg0.N = 52 := N_0
  have ht := t.isLt
  by_cases h0 : t.val = 0
  · -- the first point
    refine at_point m c t ((P m).St c starts (lands.map rcv) []) ((P m).St c [] (started ++ lands.map rcv) []) id ?_ ?_ (leave_on m c t (by omega))
      fun z a ha => ?_
    · rw [h0, stage_begin]
      refine (sep_mono_right (owes_out m c t.castSucc ((P m).O₀ c) (if_pos h0))).trans ?_
      iintro ⟨HM, %W, HO⟩
      iapply ((P m).begin_St c starts (by decide) (by decide) lands (by decide) (by decide) W)
      isplitl [HM] <;> iassumption
    · refine ((P m).St_mid c (started ++ lands.map rcv) (by decide) (by decide)).trans ?_
      exact rest_out m c t (by omega)
    · rw [sumAt_reset m c t (by omega)]
      exact body_first ((cond1_iff t).mpr h0) ((resets_iff t).mpr (by omega)) (fun h => absurd ((adds_iff t).mp h) (by omega))
        (fun h => absurd ((cond4_iff t).mp h) (by omega)) (fun h => absurd ((cond5_iff t).mp h) (by omega))
  have h1 : ¬ k0_cond1 (grid0.coords t) = 1#1 := fun h => h0 ((cond1_iff t).mp h)
  by_cases hr : t.val % 4 = 0
  · -- a sum starts
    refine at_point m c t _ _ id (rest_in m c t h0) (rest_out m c t (by omega)) (leave_on m c t (by omega)) fun z a ha => ?_
    rw [sumAt_reset m c t hr]
    exact body_reset h1 ((resets_iff t).mpr hr) (fun h => (adds_iff t).mp h hr) (fun h => absurd ((cond4_iff t).mp h) (by omega)) (fun h => absurd ((cond5_iff t).mp h) (by omega))
  have h2 : ¬ resets (grid0.coords t) := fun h => hr ((resets_iff t).mp h)
  have h3 : adds (grid0.coords t) := (adds_iff t).mpr hr
  by_cases he : t.val % 4 = 3
  · by_cases hl : t.val = 51
    · -- the last point
      refine at_point m c t ((P m).St c [] waits []) ((P m).St c [] [] waited) (fun _ => outAt m c t) ?_ ?_ (fun _ => leave_end m c t he) fun z a ha => ?_
      · refine (rest_in m c t h0).trans ?_
        iintro ⟨HM, %W, HO⟩
        iapply ((P m).mid_St c waits (by decide) (by decide) W)
        isplitl [HM] <;> iassumption
      · refine ((P m).St_fin c waited (by decide) (by decide)).trans ?_
        rw [hl, stage_fin]
        exact sep_mono_right (owes_in m c t.succ 0 (owed_later m c t.succ (show ¬ t.val + 1 = 0 by omega)))
      · unfold outAt
        rw [sumAt_add m c t hr, ← ha h0]
        exact body_last h1 h2 h3 ((cond4_iff t).mpr he) ((cond5_iff t).mpr hl)
    · -- a sum ends
      refine at_point m c t _ _ (fun _ => outAt m c t) (rest_in m c t h0) (rest_out m c t hl) (fun _ => leave_end m c t he) fun z a ha => ?_
      unfold outAt
      rw [sumAt_add m c t hr, ← ha h0]
      exact body_store h1 h2 h3 ((cond4_iff t).mpr he) (fun h => hl ((cond5_iff t).mp h))
  · -- a sum goes on
    refine at_point m c t _ _ id (rest_in m c t h0) (rest_out m c t (by omega)) (leave_on m c t he) fun z a ha => ?_
    rw [sumAt_add m c t hr, ← ha h0]
    exact body_add h1 h2 h3 (fun h => he ((cond4_iff t).mp h)) (fun h => absurd ((cond5_iff t).mp h) (by omega))

/-! ## The launch -/

theorem arrays_dealt : (bigSep Finset.univ fun c : Dev nD => Pipeline.unscopedRestP (Pipeline.Prefetch.none (sig := sig)) cfg0.spec c (fun b => m ((c.tc : Thread nD τ).loc b)) : sProp 𝕄)
    ⊢ bigSep Finset.univ fun c => iprop(emp
        ∗ (bigSep Finset.univ fun j => iprop((P m).pay (snd j) c ∗ (P m).room (.inl j) c)) ∗ bigSep Finset.univ fun k => (P m).room (.inr k) c) := by
  have hK (Φ : Fin 1 → sProp 𝕄) : bigSep Finset.univ Φ = iprop(Φ 0) :=
    bigSep_univ_eq_bigSepL [0] (by decide) (by decide) Φ
  refine (seps_mono fun c => ?_).trans ((E m).deal.trans (seps_mono fun c => ?_))
  · rw [Pipeline.unscopedRestP_none, show cfg0.spec = spec0 from rfl, unscopedRest0_eq, hK, hK]
    iintro ⟨H0, G0⟩
    isplitl [H0]
    · iexact H0
    iexists _; iexact G0
  · iintro H
    isplitr; · iempintro
    iexact H

/-- What a device holds in the end: its arrays as they were, and the exchanged ones. -/
def kept (c : Dev nD) : sProp 𝕄 :=
  iprop((bigSep Finset.univ fun k => ((c.tc : Thread nD τ).loc (inp k)) ↦{fullShare} m ((c.tc : Thread nD τ).loc (inp k)))
    ∗ bigSep Finset.univ fun k => ((c.tc : Thread nD τ).loc (out k)) ↦{fullShare} dealt m k c)

theorem kept_read (c : Dev nD) (s' : Phys nD τ sig (Elt F)) : iprop(kept m c ∗ SI s')
    ⊢ |={Set.univ}=> iprop(⌜(∀ k, s'.mem.mem ((c.tc : Thread nD τ).loc (inp k)) = m ((c.tc : Thread nD τ).loc (inp k)))
        ∧ ∀ k, s'.mem.mem ((c.tc : Thread nD τ).loc (out k)) = dealt m k c⌝ ∗ SI s') := by
  unfold kept
  iintro ⟨⟨H1, H2⟩, HSI⟩
  ihave H := (pointsTo_read_all Finset.univ (fun k => (c.tc : Thread nD τ).loc (inp k)) (fun k => m ((c.tc : Thread nD τ).loc (inp k))) s') $$ [H1 HSI]
  · isplitl [H1] <;> iassumption
  icases H with ⟨%h1, HSI⟩
  ihave H := (pointsTo_read_all Finset.univ (fun k => (c.tc : Thread nD τ).loc (out k)) (fun k => dealt m k c) s') $$ [H2 HSI]
  · isplitl [H2] <;> iassumption
  icases H with ⟨%h2, HSI⟩
  imodintro
  isplitr; · ipureintro; exact ⟨fun k => h1 k (Finset.mem_univ _), fun k => h2 k (Finset.mem_univ _)⟩
  iexact HSI

theorem own_sems : Pipeline.OwnSemFacts cfg0.spec (P m).osem := by
  show Pipeline.OwnSemFacts cfg0.spec fun x => (.dma (cellSem x) : SemLoc sig)
  decide

theorem share_full (c : Dev nD) (w : Fin cfg0.W) : (dats m 0 c).share w = fullShare := by unfold Dat.share; split <;> rfl

theorem recv_ne_stage (j : Fin 1 × Fin 7) (w : Fin cfg0.W) (s : Fin (cfg0.win w).nbuf) : (P m).osem (rcv j) ≠ .dma ((cfg0.win w).sem s) := by
  show (.dma (cellSem (rcv j)) : SemLoc sig) ≠ _
  revert j w s
  decide

/-- What every final state holds. -/
def Final (r : PUnit × MemSt nD τ sig (Elt F)) : Prop := ∀ c : Dev nD,
  (∀ w : Fin cfg0.W, r.2.mem ((cfg0.win w).arr.view.loc (c.tc : Thread nD τ)) = (dats m 0 c).arrAt w cfg0.N)
    ∧ (∀ k, r.2.mem ((c.tc : Thread nD τ).loc (inp k)) = m ((c.tc : Thread nD τ).loc (inp k)))
    ∧ ∀ k, r.2.mem ((c.tc : Thread nD τ).loc (out k)) = dealt m k c

set_option maxRecDepth 8000 in
/-- From any memory with zero counters every weakly fair execution ends, and every final state holds the sums, the exchanged arrays and the arrays
    read as they were, every counter at zero. -/
theorem run_main : θ_run defs (onTc (τ := τ) (main (F := F))) ⟨m, fun _ => 0, ρ⟩ (fun r => Final m r ∧ r.2.sem = fun _ => 0) :=
  θ_run_shared (fun p => (cfgs p).toPCfg) (fun _ p => (cfgs p).toPCfg_adm) (dats m) () cellOf_inj (0 : Fin 1)
    winFacts0.to₀ (own_sems m) (Pipeline.PreFacts.none _) EP defs₀ 𝒱₀ m ρ main
    (hmain := fun _ => rfl)
    (hbody := body_obligation m) (hne := block_pos0) (harr := arr_whole0) (hstage := stage_whole0) (hshare := share_full m)
    (hdistinct := winFacts0.arr_inj)
    (O₀ := (P m).O₀) (howed₀ := fun _ => rfl) (howedN := fun c => owed_later m c (Fin.last cfg0.N) (show ¬ grid0.N = 0 by rw [N_0]; decide))
    (L := Plan.L) (lv := (P m).lv) (hL := Plan.L_of_ne)
    (hwaits := fun c => Pipeline.PerCore.cellsWaits_intro _ _ () 0 c fun w s t =>
      (P m).mayWait_other c _ (fun j => recv_ne_stage m j w s) _ (by
        by_cases h : t.val = 0
        · exact Or.inl (if_pos h)
        · exact Or.inr (if_neg h)))
    (G := (P m).G) (G' := fun c => iprop((P m).entry c ∗ emp))
    (u₀ := (initOf (Pipeline.cells cfgs cellOf_inj) (Pipeline.launchToks cfgs cellOf_inj), initOf (P m).cells (P m).toks))
    (hu₀ := by
      iintro Hu
      ihave H := (ownU_pair _ _) $$ Hu
      icases H with ⟨HP, HX⟩
      imod ((P m).fund_cells) $$ HX with HG
      imodintro
      isplitl [HP] <;> iassumption)
    (hglob := (P m).glob _ _ (arrays_dealt m))
    (hA := fun _ w => by fin_cases w <;> rfl) (hpf := fun _ k => k.elim0)
    (Y := kept m)
    (hin := fun c => by
      rw [show (dats m 0 c).Φ 0 = iprop((P m).begin c ∗ scratch m c 0) from rfl, show cfg0.spec = spec0 from rfl, scopedRest0_eq]
      iintro ⟨⟨-, Hc, HE, -⟩, -, %f, Hf⟩
      isplitl [Hc HE]
      · iapply ((P m).entry_begin c)
        isplitl [Hc] <;> iassumption
      unfold scratch owns
      iexists ((Memref.whole cc0_scratch0).view.read (Elt F) f); isplitr; · ipureintro; exact fun h => absurd rfl h
      iexists f; isplitr; · ipureintro; rfl
      rw [show (Memref.whole cc0_scratch0).view.set = Finset.univ from View.set_whole _]
      iexact Hf)
    (hout := fun c => by
      rw [Φ_eq, show (Fin.last cfg0.N).val = 52 from N_0, stage_fin, Plan.fin_split]
      unfold scratch owns
      iintro ⟨⟨HP, HS⟩, %a, -, %f, -, Hf⟩
      ihave HP := ((E m).regain c) $$ HP
      isplitl [HP]; · unfold kept; iexact HP
      isplitl [HS]; · iexact HS
      rw [show cfg0.spec = spec0 from rfl, scopedRest0_eq, show (Memref.whole cc0_scratch0).view.set = Finset.univ from View.set_whole _]
      iexists f; iexact Hf)
    (QY := fun c s => (∀ k, s.mem ((c.tc : Thread nD τ).loc (inp k)) = m ((c.tc : Thread nD τ).loc (inp k)))
        ∧ ∀ k, s.mem ((c.tc : Thread nD τ).loc (out k)) = dealt m k c)
    (hY := kept_read m)
    (hQ := fun _ h hs => ⟨fun c => ⟨fun w => (h c).1 w, (h c).2.1, (h c).2.2⟩, sem_eq_zero_of_scoped (by decide) hs⟩)

end Cert.RowIdeal.Gen
-- ==== Proof.RowValues.lean ====
/-
  What the final states hold, at the real numbers: on device `c` the array of sums is block `c` of the reference's product, and the exchanged
  array is block `c` of the reference's rearrangement.
-/
module

public import proofs.«01_k».proof.Proof.RowRun
public import proofs.«01_k».proof.Proof.Gen.RowReferenceIdeal.Run
public import Idealize.ShloMosaic.Lib.Pipeline.ValueKit
public import Idealize.ShloMosaic.Lib.Layout
public import Idealize.ShloMosaic.Lib.Pointwise

@[expose] public section

noncomputable section

namespace Cert.RowIdeal.Gen

open Cert.Exchange
open Idealize.ShloMosaic Idealize.ShloMosaic.TcCoe Idealize.ShloMosaic.ValueIdx
open Idealize.SL.Sem

/-! ## The sums -/

/-- The windows' index maps, decided once. -/
theorem index_facts : ∀ t : Fin cfg0.N,
    ((cfg0.win 0).index t 0 = t.val / 4 ∧ (cfg0.win 0).index t 1 = t.val % 4) ∧ ((cfg0.win 1).index t 0 = 0 ∧ (cfg0.win 1).index t 1 = t.val % 4)
      ∧ ((cfg0.win 2).index t 0 = t.val / 4 ∧ (cfg0.win 2).index t 1 = 0) := by
  decide +kernel

variable (m : (ℓ : Loc nD τ sig) → Buf (Elt Ideal) ℓ)

/-- The accumulator where a sum ends: the sum over the points of the sum. -/
theorem sumAt_end (c : Dev nD) (t : Fin cfg0.N) (h : t.val % 4 = 3) (j : S1280x1024.Idx) :
    sumAt m c t.val j = (0 : EReal) + ∑ s : Fin 4, k0_pay1 (F := Ideal) (blockAt m c 0 ⟨4 * (t.val / 4) + s.val, Pipeline.run_point_lt_of_flush t h s⟩)
      (blockAt m c 1 ⟨4 * (t.val / 4) + s.val, Pipeline.run_point_lt_of_flush t h s⟩) j := by
  refine Pipeline.eq_sum_fin_of_reset_step_apply_of_flush (fun n _ => sumAt m c n) 4 (fun _ => (0 : EReal))
    (fun t => k0_pay1 (F := Ideal) (blockAt m c 0 t) (blockAt m c 1 t)) ?_ ?_ t h j
  · intro t h j
    rw [sumAt_reset m c t h, k0_pay2]
    pointwise
  · intro t h j
    rw [sumAt_add m c t h, k0_pay3]
    pointwise

/-- The array of sums once every point has stored its block, against the whole product's block `c`. -/
theorem product_final (c : Dev nD) (X : (⟨2, ![133120, 8192]⟩ : Shape).Idx → Elt Ideal .bf16) (Y : (⟨2, ![1024, 8192]⟩ : Shape).Idx → Elt Ideal .bf16)
    (h : Layout.Tiles ⟨2, ![16640, 1024]⟩ ⟨2, ![133120, 1024]⟩ 0 8) (hx : Layout.Tiles ⟨2, ![16640, 8192]⟩ ⟨2, ![133120, 8192]⟩ 0 8)
    (hX : m ((c.tc : Thread nD τ).loc main_arg0) = Layout.block ⟨2, ![16640, 8192]⟩ ⟨2, ![133120, 8192]⟩ 0 8 c X hx)
    (hY : m ((c.tc : Thread nD τ).loc main_arg1) = Y) :
    (dats m 0 c).arrAt 2 cfg0.N = Layout.block ⟨2, ![16640, 1024]⟩ ⟨2, ![133120, 1024]⟩ 0 8 c
      (Host.dotGeneral (F := Ideal) (φ₁ := .bf16) (φ₂ := .bf16) Cert.RowReferenceIdeal.dot_S133120x8192_S1024x8192_S133120x1024_1_1_0_0_n_n none X Y :
        (⟨2, ![133120, 1024]⟩ : Shape).Idx → Elt Ideal .f32) h := by
  refine (dats m 0 c).arrAt_eq_of_covers 2 _ (by decide +kernel) fun t hf y => ?_
  blk_simp
  rw [Layout.block_apply]
  show sumAt m c t.val y = _
  rw [sumAt_end m c t ((flush0_2 t).mp hf), zero_add]
  unfold k0_pay1
  pointwise
  refine Fin.sum_mul_add_congr fun s k hl => ?_
  obtain ⟨-, -, e20, e21⟩ := index_facts t
  obtain ⟨⟨e00, e01⟩, ⟨e10, e11⟩, -⟩ := index_facts ⟨4 * (t.val / 4) + s.val, Pipeline.run_point_lt_of_flush t ((flush0_2 t).mp hf) s⟩
  have hr := fun i => Layout.idx_rows_val h c i
  have hq := fun i => Layout.idx_rows_val hx c i
  have hs := s.isLt
  have d1 : (4 * (t.val / 4) + s.val) / 4 = t.val / 4 := by omega
  have d2 : (4 * (t.val / 4) + s.val) % 4 = s.val := by omega
  simp only [d1, d2] at e00 e01 e10 e11
  congr 1
  · show m ((c.tc : Thread nD τ).loc main_arg0) _ = _
    rw [hX, Layout.block_apply]
    blk_ext [e00, e01, e20, e21]
    · rw [(hr _).1, (hq _).1]
      blk_simp [e00, e20]
    · rw [(hq _).2]
      blk_simp [e01]
  · show m ((c.tc : Thread nD τ).loc main_arg1) _ = _
    rw [hY]
    blk_ext [e10, e11, e20, e21]
    rw [(hr _).2]
    blk_simp [e21]

/-! ## The exchanged array -/

theorem swapped_1024_964 {α : Type} (c : Dev nD) (Z : (⟨3, ![64, 1024, 964]⟩ : Shape).Idx → α) (h : Layout.Tiles ⟨3, ![8, 1024, 964]⟩ ⟨3, ![64, 1024, 964]⟩ 0 8)
    (h₁ : (⟨3, ![64, 1024, 964]⟩ : Shape).ShapeCasts ⟨4, ![8, 8, 1024, 964]⟩)
    (h₂ : (⟨4, ![8, 8, 1024, 964]⟩ : Shape).Transposes [1, 0, 2, 3] ⟨4, ![8, 8, 1024, 964]⟩)
    (h₃ : (⟨4, ![8, 8, 1024, 964]⟩ : Shape).ShapeCasts ⟨3, ![64, 1024, 964]⟩) :
    stack (n := 8) (p := 1024) (q := 964) (fun d => layer (Layout.block ⟨3, ![8, 1024, 964]⟩ ⟨3, ![64, 1024, 964]⟩ 0 8 d Z h) c)
      = Layout.block ⟨3, ![8, 1024, 964]⟩ ⟨3, ![64, 1024, 964]⟩ 0 8 c
        (shapeCast ⟨3, ![64, 1024, 964]⟩ (transpose ⟨4, ![8, 8, 1024, 964]⟩ [1, 0, 2, 3] (shapeCast ⟨4, ![8, 8, 1024, 964]⟩ Z h₁) h₂) h₃) h := by
  funext i
  rw [Layout.block_apply]
  show Z (h.idx (i 0) (ValueIdx.ix3 c (i 1) (i 2))) = _
  have e0 : ∀ (c : Fin 8) i, (h.idx c i 0).val = c.val * 8 + (i 0).val := fun _ _ => rfl
  have e1 : ∀ (c : Fin 8) i, (h.idx c i 1).val = (i 1).val := fun _ _ => rfl
  have e2 : ∀ (c : Fin 8) i, (h.idx c i 2).val = (i 2).val := fun _ _ => rfl
  pointwise
  blk_ext [e0, e1, e2]
  · refine (e0 _ _).trans ?_
    show (i 0).val * 8 + c.val = _
    have := (i 0).isLt
    omega
  · exact e1 _ _
  · exact e2 _ _

end Cert.RowIdeal.Gen

end
-- ==== Proof.WeightCall.lean ====
/-
  The exchange of this kernel: five arrays of eight blocks each; every device sends block `d` to device `d`, and keeps what device `d` sends it as block `d`.
  Device `c` sends to device `c xor m` for `m = 1, …, 7` and copies its own block.
-/
module

public import proofs.«01_k».proof.Proof.RowValues
public import proofs.«01_k».proof.Proof.Gen.WeightIdeal.Points

@[expose] public section

noncomputable section

namespace Cert.WeightIdeal.Gen

open Cert.Exchange
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ sig) ℕ

/-! ## The devices -/

def peer (m : Fin 7) (c : Dev nD) : Dev nD := ⟨c.val ^^^ (m.val + 1), by revert m c; decide⟩
theorem peer_peer (m : Fin 7) (c : Dev nD) : peer m (peer m c) = c := by revert m c; decide
theorem peer_all (c : Dev nD) : Function.Bijective fun o : Option (Fin 7) => o.elim c fun m => peer m c := by
  have h : ∀ c : Dev nD, Function.Injective fun o : Option (Fin 7) => o.elim c fun m => peer m c := by
    unfold Function.Injective; decide
  exact (Fintype.bijective_iff_injective_and_card _).mpr ⟨h c, by decide⟩

/-! ## The arrays -/

abbrev inp : Fin 5 → Ref sig .tc
  | 0 => main_arg2
  | 1 => main_arg3
  | 2 => main_arg4
  | 3 => main_arg5
  | 4 => main_arg6
abbrev out : Fin 5 → Ref sig .tc
  | 0 => main_v1_1
  | 1 => main_v1_2
  | 2 => main_v1_3
  | 3 => main_v1_4
  | 4 => main_v1_5

/-- Block `d` of `inp k` and of `out k`. -/
abbrev cut : (k : Fin 5) → (c d : Dev nD) → Finset (Idx ((c.tc : Thread nD τ).loc (inp k)))
  | 0, _, d => blk (n := 8) (p := 128) (q := 1024) d
  | 1, _, d => blk (n := 8) (p := 128) (q := 1024) d
  | 2, _, d => blk (n := 8) (p := 128) (q := 1024) d
  | 3, _, d => blk (n := 8) (p := 1024) (q := 704) d
  | 4, _, d => blk (n := 8) (p := 352) (q := 1024) d
abbrev part : (k : Fin 5) → (c d : Dev nD) → Finset (Idx ((c.tc : Thread nD τ).loc (out k)))
  | 0, _, d => blk (n := 8) (p := 128) (q := 1024) d
  | 1, _, d => blk (n := 8) (p := 128) (q := 1024) d
  | 2, _, d => blk (n := 8) (p := 128) (q := 1024) d
  | 3, _, d => blk (n := 8) (p := 1024) (q := 704) d
  | 4, _, d => blk (n := 8) (p := 352) (q := 1024) d

/-- What device `c` has in the end: as block `d`, block `c` of device `d`. -/
abbrev dealt (m : (ℓ : Loc nD τ sig) → Buf (Elt F) ℓ) : (k : Fin 5) → (c : Dev nD) → On τ F c (out k)
  | 0, c => stack (n := 8) (p := 128) (q := 1024) fun (d : Dev nD) => layer (m ((d.tc : Thread nD τ).loc main_arg2)) c
  | 1, c => stack (n := 8) (p := 128) (q := 1024) fun (d : Dev nD) => layer (m ((d.tc : Thread nD τ).loc main_arg3)) c
  | 2, c => stack (n := 8) (p := 128) (q := 1024) fun (d : Dev nD) => layer (m ((d.tc : Thread nD τ).loc main_arg4)) c
  | 3, c => stack (n := 8) (p := 1024) (q := 704) fun (d : Dev nD) => layer (m ((d.tc : Thread nD τ).loc main_arg5)) c
  | 4, c => stack (n := 8) (p := 352) (q := 1024) fun (d : Dev nD) => layer (m ((d.tc : Thread nD τ).loc main_arg6)) c

/-- The amount of a block's copy. -/
abbrev amount : Fin 5 → ℕ
  | 0 => (((Memref.whole main_v1_1).slice (Rect.unit (s := S8x128x1024) ![0, 0, 0] S1x128x1024.size (by decide)) (fun _ => rfl)).squeeze S128x1024 squeezes_S1x128x1024_S128x1024).view.dmaCredit
  | 1 => (((Memref.whole main_v1_2).slice (Rect.unit (s := S8x128x1024) ![0, 0, 0] S1x128x1024.size (by decide)) (fun _ => rfl)).squeeze S128x1024 squeezes_S1x128x1024_S128x1024).view.dmaCredit
  | 2 => (((Memref.whole main_v1_3).slice (Rect.unit (s := S8x128x1024) ![0, 0, 0] S1x128x1024.size (by decide)) (fun _ => rfl)).squeeze S128x1024 squeezes_S1x128x1024_S128x1024).view.dmaCredit
  | 3 => (((Memref.whole main_v1_4).slice (Rect.unit (s := S8x1024x704) ![0, 0, 0] S1x1024x704.size (by decide)) (fun _ => rfl)).squeeze S1024x704 squeezes_S1x1024x704_S1024x704).view.dmaCredit
  | 4 => (((Memref.whole main_v1_5).slice (Rect.unit (s := S8x352x1024) ![0, 0, 0] S1x352x1024.size (by decide)) (fun _ => rfl)).squeeze S352x1024 squeezes_S1x352x1024_S352x1024).view.dmaCredit

/-- The cells' semaphores. -/
abbrev cellSem : Cell (Fin 5 × Fin 7) (Fin 5) → DmaSem sig
  | .inl (k, i) => ⟨6 + 7 * k.val + i.val, by show _ < 81; omega⟩
  | .inr (.inl (k, i)) => ⟨41 + 7 * k.val + i.val, by show _ < 81; omega⟩
  | .inr (.inr k) => ⟨76 + k.val, by show _ < 81; omega⟩

theorem cellSem_inj : Function.Injective cellSem := by
  rintro (⟨k, i⟩ | ⟨k, i⟩ | k) (⟨k', i'⟩ | ⟨k', i'⟩ | k') h <;> have h := congrArg Fin.val h <;> simp only [cellSem] at h <;> try omega
  · obtain ⟨h1, h2⟩ : k = k' ∧ i = i' := ⟨by omega, by omega⟩
    rw [h1, h2]
  · obtain ⟨h1, h2⟩ : k = k' ∧ i = i' := ⟨by omega, by omega⟩
    rw [h1, h2]
  · rw [show k = k' by omega]

variable (m : (ℓ : Loc nD τ sig) → Buf (Elt F) ℓ)

def E : Arrays nD τ sig F (Fin 5) (Fin 7) where
  peer := peer
  peer_peer := peer_peer
  peer_all := peer_all
  inp := inp
  out := out
  A := cut
  share _ _ := fullShare
  B := part
  parts k c f := by
    match k with
    | 0 => exact Ring.pointsTo_blocks (cut 0 c) (fun d d' h => blk_disj h) blk_cover f
    | 1 => exact Ring.pointsTo_blocks (cut 1 c) (fun d d' h => blk_disj h) blk_cover f
    | 2 => exact Ring.pointsTo_blocks (cut 2 c) (fun d d' h => blk_disj h) blk_cover f
    | 3 => exact Ring.pointsTo_blocks (cut 3 c) (fun d d' h => blk_disj h) blk_cover f
    | 4 => exact Ring.pointsTo_blocks (cut 4 c) (fun d d' h => blk_disj h) blk_cover f
  disj k c d d' h := by
    match k with
    | 0 => exact blk_disj h
    | 1 => exact blk_disj h
    | 2 => exact blk_disj h
    | 3 => exact blk_disj h
    | 4 => exact blk_disj h
  cover k c := by
    match k with
    | 0 => exact blk_cover
    | 1 => exact blk_cover
    | 2 => exact blk_cover
    | 3 => exact blk_cover
    | 4 => exact blk_cover
  x k c := m ((c.tc : Thread nD τ).loc (inp k))
  y := dealt m
  sem := cellSem
  sem_inj := cellSem_inj
  size := amount
  size_pos k := by
    match k with
    | 0 | 1 | 2 | 3 | 4 => exact View.dmaCredit_pos _ (by decide)

abbrev P : Plan nD τ sig F (Fin 5 × Fin 7) (Fin 5) := (E m).plan

abbrev 𝒱₀ : Variants := Variants.none

/-! ## A push and a copy, array by array -/

variable {m}
variable {c : Dev nD} {α : Type} {K : PUnit → Prog (TpuEff nD τ sig (Elt F) Λ₀ .tc) α}
  {l : List ((Fin 5 × Fin 7) ⊕ Fin 5)} {w d : List (Cell (Fin 5 × Fin 7) (Fin 5))}

/-- A block that lands in its place leaves the final array's elements there. -/
theorem land {k : Fin 5} {c d : Dev nD} {f : On τ F d ((E m).out k)} {S} (hS : S = (E m).B k d c)
    (hf : ∀ i ∈ (E m).B k d c, f i = (E m).y k d i) :
    (((d.tc : Thread nD τ).loc ((E m).out k)) ↦[S]{fullShare} f : sProp 𝕄) ⊢ (E m).landed k d c := by
  subst hS; unfold Arrays.landed
  rw [pointsTo_congr hf]

theorem open_free {k : Fin 5} {c d : Dev nD} {S} (hS : S = (E m).B k d c) :
    (E m).free k d c ⊢ iprop(∃ f, ((d.tc : Thread nD τ).loc ((E m).out k)) ↦[S]{fullShare} f) := by
  subst hS; exact .rfl

theorem lent_eq (k : Fin 5) (c d : Dev nD) {S} (hS : S = (E m).A k c d) :
    (E m).lent k c d = (((c.tc : Thread nD τ).loc ((E m).inp k)) ↦[S]{fullShare} m ((c.tc : Thread nD τ).loc ((E m).inp k)) : sProp 𝕄) := by
  subst hS; rfl

theorem pay_rcv (k : Fin 5) (i : Fin 7) (c : Dev nD) : (E m).landed k (peer i c) c = (P m).pay (rcv (k, i)) ((P m).peer (k, i) c) := by
  show _ = (E m).landed k (peer i c) (peer i (peer i c))
  rw [peer_peer]

theorem outSet_0 (c : Dev nD) {off} (hoff : off = ![c.val, 0, 0]) {inb} :
    (((Memref.whole main_v1_1).slice (Rect.unit (s := S8x128x1024) off S1x128x1024.size inb) (fun _ => rfl)).squeeze S128x1024 squeezes_S1x128x1024_S128x1024).view.set = (blk c : Finset S8x128x1024.Idx) :=
  (set_block (View.whole main_v1_1) c hoff inb _).trans Finset.map_refl

theorem inpSet_0 (d : Dev nD) {off'} (hoff' : off' = ![d.val, 0, 0]) {inb'} :
    (((Memref.whole main_arg2).slice (Rect.unit (s := S8x128x1024) off' S1x128x1024.size inb') (fun _ => rfl)).squeeze S128x1024 squeezes_S1x128x1024_S128x1024).view.set = (blk d : Finset S8x128x1024.Idx) :=
  (set_block (View.whole main_arg2) d hoff' inb' _).trans Finset.map_refl

theorem reads_0 (d : Dev nD) {off'} (hoff' : off' = ![d.val, 0, 0]) {inb'} (f : (⟨3, ![8, 128, 1024]⟩ : Shape).Idx → Elt F .bf16) :
    (((Memref.whole main_arg2).slice (Rect.unit (s := S8x128x1024) off' S1x128x1024.size inb') (fun _ => rfl)).squeeze S128x1024 squeezes_S1x128x1024_S128x1024).view.read (Elt F) f = layer f d :=
  read_block (Val := Elt F) (View.whole main_arg2) d hoff' inb' squeezes_S1x128x1024_S128x1024.numel_eq f

theorem moved_0 (c d : Dev nD) {off off'} (hoff : off = ![c.val, 0, 0]) (hoff' : off' = ![d.val, 0, 0]) {inb inb'} (fd) :
    ∀ i ∈ (blk c : Finset S8x128x1024.Idx), (((Memref.whole main_v1_1).slice (Rect.unit (s := S8x128x1024) off S1x128x1024.size inb) (fun _ => rfl)).squeeze S128x1024 squeezes_S1x128x1024_S128x1024).view.write (Elt F) fd
      ((((Memref.whole main_arg2).slice (Rect.unit (s := S8x128x1024) off' S1x128x1024.size inb') (fun _ => rfl)).squeeze S128x1024 squeezes_S1x128x1024_S128x1024).view.read (Elt F) (m ((c.tc : Thread nD τ).loc main_arg2))) Finset.univ i = (E m).y 0 d i := fun i hi =>
  (write_block (View.whole main_v1_1) c hoff inb _ fd _ i hi).trans
    ((congrFun (reads_0 d hoff' (m ((c.tc : Thread nD τ).loc main_arg2))) (ValueIdx.ix2 (n0 := 128) (n1 := 1024) (i 1) (i 2))).trans
      (congrArg (fun x : Dev nD => layer (n := 8) (p := 128) (q := 1024) (m ((x.tc : Thread nD τ).loc main_arg2)) d (ValueIdx.ix2 (n0 := 128) (n1 := 1024) (i 1) (i 2))) (mem_blk.mp hi).symm))

theorem push_0 {Q : α → sProp 𝕄} {R : sProp 𝕄} (i : Fin 7) {n : Dev nD} (hn : n = peer i c) {off off'} (hoff : off = ![c.val, 0, 0]) (hoff' : off' = ![(peer i c).val, 0, 0])
    {inb inb'} {sS sR : DmaSem sig} {hsc hsrc hdst hsem} (hS : sS = cellSem (snd (0, i))) (hR : sR = cellSem (rcv (0, i)))
    (hk : iprop((P m).St c l (snd (0, i) :: w) d ∗ R) ⊢ wp frame (wpE (defs₀ (F := F)) 𝒱₀ (c.tc : Thread nD τ) none) Set.univ (K ⟨⟩) Q) :
    iprop((P m).St c (.inl (0, i) :: l) w d ∗ R)
      ⊢ wp frame (wpE (defs₀ (F := F)) 𝒱₀ (c.tc : Thread nD τ) none) Set.univ
          (.op (.enqueueDma (((Memref.whole main_arg2).slice (Rect.unit (s := S8x128x1024) off' S1x128x1024.size inb') (fun _ => rfl)).squeeze S128x1024 squeezes_S1x128x1024_S128x1024) (.remote (Dev.tc n : Thread nD τ)
            (((Memref.whole main_v1_1).slice (Rect.unit (s := S8x128x1024) off S1x128x1024.size inb) (fun _ => rfl)).squeeze S128x1024 squeezes_S1x128x1024_S128x1024) (.dma sS) hsc) (.dma sR) hsrc hdst hsem) K) Q :=
  (P m).step_push (0, i) hn hS hR rfl (BiEntails.of_eq (lent_eq 0 c (peer i c) (inpSet_0 _ hoff')))
    (open_free (m := m) (k := 0) (outSet_0 c hoff))
    (fun fd => (land (m := m) (k := 0) (outSet_0 c hoff) (moved_0 c (peer i c) hoff hoff' fd)).trans
      (Entails.of_eq (pay_rcv 0 i c))) (hk := hk)

theorem copy_0 {Q : α → sProp 𝕄} {R : sProp 𝕄} {off off'} (hoff : off = ![c.val, 0, 0]) (hoff' : off' = ![c.val, 0, 0]) {inb inb'} {sm : DmaSem sig} {hsrc hdst hsem}
    (hm : sm = cellSem (own 0))
    (hk : iprop((P m).St c l (own 0 :: w) d ∗ R) ⊢ wp frame (wpE (defs₀ (F := F)) 𝒱₀ (c.tc : Thread nD τ) none) Set.univ (K ⟨⟩) Q) :
    iprop((P m).St c (.inr 0 :: l) w d ∗ R)
      ⊢ wp frame (wpE (defs₀ (F := F)) 𝒱₀ (c.tc : Thread nD τ) none) Set.univ
          (.op (.enqueueDma (((Memref.whole main_arg2).slice (Rect.unit (s := S8x128x1024) off' S1x128x1024.size inb') (fun _ => rfl)).squeeze S128x1024 squeezes_S1x128x1024_S128x1024) (.here (((Memref.whole main_v1_1).slice (Rect.unit (s := S8x128x1024) off S1x128x1024.size inb) (fun _ => rfl)).squeeze S128x1024 squeezes_S1x128x1024_S128x1024)) (.dma sm) hsrc hdst hsem) K) Q :=
  (P m).step_copy 0 hm rfl
    (sep_mono₂ (Entails.of_eq (lent_eq 0 c c (inpSet_0 _ hoff'))) (open_free (m := m) (k := 0) (outSet_0 c hoff)))
    (fun fd => sep_mono₂ (land (m := m) (k := 0) (outSet_0 c hoff) (moved_0 c c hoff hoff' fd))
      (Entails.of_eq (lent_eq 0 c c (inpSet_0 _ hoff')).symm)) (hk := hk)

theorem outSet_1 (c : Dev nD) {off} (hoff : off = ![c.val, 0, 0]) {inb} :
    (((Memref.whole main_v1_2).slice (Rect.unit (s := S8x128x1024) off S1x128x1024.size inb) (fun _ => rfl)).squeeze S128x1024 squeezes_S1x128x1024_S128x1024).view.set = (blk c : Finset S8x128x1024.Idx) :=
  (set_block (View.whole main_v1_2) c hoff inb _).trans Finset.map_refl

theorem inpSet_1 (d : Dev nD) {off'} (hoff' : off' = ![d.val, 0, 0]) {inb'} :
    (((Memref.whole main_arg3).slice (Rect.unit (s := S8x128x1024) off' S1x128x1024.size inb') (fun _ => rfl)).squeeze S128x1024 squeezes_S1x128x1024_S128x1024).view.set = (blk d : Finset S8x128x1024.Idx) :=
  (set_block (View.whole main_arg3) d hoff' inb' _).trans Finset.map_refl

theorem reads_1 (d : Dev nD) {off'} (hoff' : off' = ![d.val, 0, 0]) {inb'} (f : (⟨3, ![8, 128, 1024]⟩ : Shape).Idx → Elt F .bf16) :
    (((Memref.whole main_arg3).slice (Rect.unit (s := S8x128x1024) off' S1x128x1024.size inb') (fun _ => rfl)).squeeze S128x1024 squeezes_S1x128x1024_S128x1024).view.read (Elt F) f = layer f d :=
  read_block (Val := Elt F) (View.whole main_arg3) d hoff' inb' squeezes_S1x128x1024_S128x1024.numel_eq f

theorem moved_1 (c d : Dev nD) {off off'} (hoff : off = ![c.val, 0, 0]) (hoff' : off' = ![d.val, 0, 0]) {inb inb'} (fd) :
    ∀ i ∈ (blk c : Finset S8x128x1024.Idx), (((Memref.whole main_v1_2).slice (Rect.unit (s := S8x128x1024) off S1x128x1024.size inb) (fun _ => rfl)).squeeze S128x1024 squeezes_S1x128x1024_S128x1024).view.write (Elt F) fd
      ((((Memref.whole main_arg3).slice (Rect.unit (s := S8x128x1024) off' S1x128x1024.size inb') (fun _ => rfl)).squeeze S128x1024 squeezes_S1x128x1024_S128x1024).view.read (Elt F) (m ((c.tc : Thread nD τ).loc main_arg3))) Finset.univ i = (E m).y 1 d i := fun i hi =>
  (write_block (View.whole main_v1_2) c hoff inb _ fd _ i hi).trans
    ((congrFun (reads_1 d hoff' (m ((c.tc : Thread nD τ).loc main_arg3))) (ValueIdx.ix2 (n0 := 128) (n1 := 1024) (i 1) (i 2))).trans
      (congrArg (fun x : Dev nD => layer (n := 8) (p := 128) (q := 1024) (m ((x.tc : Thread nD τ).loc main_arg3)) d (ValueIdx.ix2 (n0 := 128) (n1 := 1024) (i 1) (i 2))) (mem_blk.mp hi).symm))

theorem push_1 {Q : α → sProp 𝕄} {R : sProp 𝕄} (i : Fin 7) {n : Dev nD} (hn : n = peer i c) {off off'} (hoff : off = ![c.val, 0, 0]) (hoff' : off' = ![(peer i c).val, 0, 0])
    {inb inb'} {sS sR : DmaSem sig} {hsc hsrc hdst hsem} (hS : sS = cellSem (snd (1, i))) (hR : sR = cellSem (rcv (1, i)))
    (hk : iprop((P m).St c l (snd (1, i) :: w) d ∗ R) ⊢ wp frame (wpE (defs₀ (F := F)) 𝒱₀ (c.tc : Thread nD τ) none) Set.univ (K ⟨⟩) Q) :
    iprop((P m).St c (.inl (1, i) :: l) w d ∗ R)
      ⊢ wp frame (wpE (defs₀ (F := F)) 𝒱₀ (c.tc : Thread nD τ) none) Set.univ
          (.op (.enqueueDma (((Memref.whole main_arg3).slice (Rect.unit (s := S8x128x1024) off' S1x128x1024.size inb') (fun _ => rfl)).squeeze S128x1024 squeezes_S1x128x1024_S128x1024) (.remote (Dev.tc n : Thread nD τ)
            (((Memref.whole main_v1_2).slice (Rect.unit (s := S8x128x1024) off S1x128x1024.size inb) (fun _ => rfl)).squeeze S128x1024 squeezes_S1x128x1024_S128x1024) (.dma sS) hsc) (.dma sR) hsrc hdst hsem) K) Q :=
  (P m).step_push (1, i) hn hS hR rfl (BiEntails.of_eq (lent_eq 1 c (peer i c) (inpSet_1 _ hoff')))
    (open_free (m := m) (k := 1) (outSet_1 c hoff))
    (fun fd => (land (m := m) (k := 1) (outSet_1 c hoff) (moved_1 c (peer i c) hoff hoff' fd)).trans
      (Entails.of_eq (pay_rcv 1 i c))) (hk := hk)

theorem copy_1 {Q : α → sProp 𝕄} {R : sProp 𝕄} {off off'} (hoff : off = ![c.val, 0, 0]) (hoff' : off' = ![c.val, 0, 0]) {inb inb'} {sm : DmaSem sig} {hsrc hdst hsem}
    (hm : sm = cellSem (own 1))
    (hk : iprop((P m).St c l (own 1 :: w) d ∗ R) ⊢ wp frame (wpE (defs₀ (F := F)) 𝒱₀ (c.tc : Thread nD τ) none) Set.univ (K ⟨⟩) Q) :
    iprop((P m).St c (.inr 1 :: l) w d ∗ R)
      ⊢ wp frame (wpE (defs₀ (F := F)) 𝒱₀ (c.tc : Thread nD τ) none) Set.univ
          (.op (.enqueueDma (((Memref.whole main_arg3).slice (Rect.unit (s := S8x128x1024) off' S1x128x1024.size inb') (fun _ => rfl)).squeeze S128x1024 squeezes_S1x128x1024_S128x1024) (.here (((Memref.whole main_v1_2).slice (Rect.unit (s := S8x128x1024) off S1x128x1024.size inb) (fun _ => rfl)).squeeze S128x1024 squeezes_S1x128x1024_S128x1024)) (.dma sm) hsrc hdst hsem) K) Q :=
  (P m).step_copy 1 hm rfl
    (sep_mono₂ (Entails.of_eq (lent_eq 1 c c (inpSet_1 _ hoff'))) (open_free (m := m) (k := 1) (outSet_1 c hoff)))
    (fun fd => sep_mono₂ (land (m := m) (k := 1) (outSet_1 c hoff) (moved_1 c c hoff hoff' fd))
      (Entails.of_eq (lent_eq 1 c c (inpSet_1 _ hoff')).symm)) (hk := hk)

theorem outSet_2 (c : Dev nD) {off} (hoff : off = ![c.val, 0, 0]) {inb} :
    (((Memref.whole main_v1_3).slice (Rect.unit (s := S8x128x1024) off S1x128x1024.size inb) (fun _ => rfl)).squeeze S128x1024 squeezes_S1x128x1024_S128x1024).view.set = (blk c : Finset S8x128x1024.Idx) :=
  (set_block (View.whole main_v1_3) c hoff inb _).trans Finset.map_refl

theorem inpSet_2 (d : Dev nD) {off'} (hoff' : off' = ![d.val, 0, 0]) {inb'} :
    (((Memref.whole main_arg4).slice (Rect.unit (s := S8x128x1024) off' S1x128x1024.size inb') (fun _ => rfl)).squeeze S128x1024 squeezes_S1x128x1024_S128x1024).view.set = (blk d : Finset S8x128x1024.Idx) :=
  (set_block (View.whole main_arg4) d hoff' inb' _).trans Finset.map_refl

theorem reads_2 (d : Dev nD) {off'} (hoff' : off' = ![d.val, 0, 0]) {inb'} (f : (⟨3, ![8, 128, 1024]⟩ : Shape).Idx → Elt F .bf16) :
    (((Memref.whole main_arg4).slice (Rect.unit (s := S8x128x1024) off' S1x128x1024.size inb') (fun _ => rfl)).squeeze S128x1024 squeezes_S1x128x1024_S128x1024).view.read (Elt F) f = layer f d :=
  read_block (Val := Elt F) (View.whole main_arg4) d hoff' inb' squeezes_S1x128x1024_S128x1024.numel_eq f

theorem moved_2 (c d : Dev nD) {off off'} (hoff : off = ![c.val, 0, 0]) (hoff' : off' = ![d.val, 0, 0]) {inb inb'} (fd) :
    ∀ i ∈ (blk c : Finset S8x128x1024.Idx), (((Memref.whole main_v1_3).slice (Rect.unit (s := S8x128x1024) off S1x128x1024.size inb) (fun _ => rfl)).squeeze S128x1024 squeezes_S1x128x1024_S128x1024).view.write (Elt F) fd
      ((((Memref.whole main_arg4).slice (Rect.unit (s := S8x128x1024) off' S1x128x1024.size inb') (fun _ => rfl)).squeeze S128x1024 squeezes_S1x128x1024_S128x1024).view.read (Elt F) (m ((c.tc : Thread nD τ).loc main_arg4))) Finset.univ i = (E m).y 2 d i := fun i hi =>
  (write_block (View.whole main_v1_3) c hoff inb _ fd _ i hi).trans
    ((congrFun (reads_2 d hoff' (m ((c.tc : Thread nD τ).loc main_arg4))) (ValueIdx.ix2 (n0 := 128) (n1 := 1024) (i 1) (i 2))).trans
      (congrArg (fun x : Dev nD => layer (n := 8) (p := 128) (q := 1024) (m ((x.tc : Thread nD τ).loc main_arg4)) d (ValueIdx.ix2 (n0 := 128) (n1 := 1024) (i 1) (i 2))) (mem_blk.mp hi).symm))

theorem push_2 {Q : α → sProp 𝕄} {R : sProp 𝕄} (i : Fin 7) {n : Dev nD} (hn : n = peer i c) {off off'} (hoff : off = ![c.val, 0, 0]) (hoff' : off' = ![(peer i c).val, 0, 0])
    {inb inb'} {sS sR : DmaSem sig} {hsc hsrc hdst hsem} (hS : sS = cellSem (snd (2, i))) (hR : sR = cellSem (rcv (2, i)))
    (hk : iprop((P m).St c l (snd (2, i) :: w) d ∗ R) ⊢ wp frame (wpE (defs₀ (F := F)) 𝒱₀ (c.tc : Thread nD τ) none) Set.univ (K ⟨⟩) Q) :
    iprop((P m).St c (.inl (2, i) :: l) w d ∗ R)
      ⊢ wp frame (wpE (defs₀ (F := F)) 𝒱₀ (c.tc : Thread nD τ) none) Set.univ
          (.op (.enqueueDma (((Memref.whole main_arg4).slice (Rect.unit (s := S8x128x1024) off' S1x128x1024.size inb') (fun _ => rfl)).squeeze S128x1024 squeezes_S1x128x1024_S128x1024) (.remote (Dev.tc n : Thread nD τ)
            (((Memref.whole main_v1_3).slice (Rect.unit (s := S8x128x1024) off S1x128x1024.size inb) (fun _ => rfl)).squeeze S128x1024 squeezes_S1x128x1024_S128x1024) (.dma sS) hsc) (.dma sR) hsrc hdst hsem) K) Q :=
  (P m).step_push (2, i) hn hS hR rfl (BiEntails.of_eq (lent_eq 2 c (peer i c) (inpSet_2 _ hoff')))
    (open_free (m := m) (k := 2) (outSet_2 c hoff))
    (fun fd => (land (m := m) (k := 2) (outSet_2 c hoff) (moved_2 c (peer i c) hoff hoff' fd)).trans
      (Entails.of_eq (pay_rcv 2 i c))) (hk := hk)

theorem copy_2 {Q : α → sProp 𝕄} {R : sProp 𝕄} {off off'} (hoff : off = ![c.val, 0, 0]) (hoff' : off' = ![c.val, 0, 0]) {inb inb'} {sm : DmaSem sig} {hsrc hdst hsem}
    (hm : sm = cellSem (own 2))
    (hk : iprop((P m).St c l (own 2 :: w) d ∗ R) ⊢ wp frame (wpE (defs₀ (F := F)) 𝒱₀ (c.tc : Thread nD τ) none) Set.univ (K ⟨⟩) Q) :
    iprop((P m).St c (.inr 2 :: l) w d ∗ R)
      ⊢ wp frame (wpE (defs₀ (F := F)) 𝒱₀ (c.tc : Thread nD τ) none) Set.univ
          (.op (.enqueueDma (((Memref.whole main_arg4).slice (Rect.unit (s := S8x128x1024) off' S1x128x1024.size inb') (fun _ => rfl)).squeeze S128x1024 squeezes_S1x128x1024_S128x1024) (.here (((Memref.whole main_v1_3).slice (Rect.unit (s := S8x128x1024) off S1x128x1024.size inb) (fun _ => rfl)).squeeze S128x1024 squeezes_S1x128x1024_S128x1024)) (.dma sm) hsrc hdst hsem) K) Q :=
  (P m).step_copy 2 hm rfl
    (sep_mono₂ (Entails.of_eq (lent_eq 2 c c (inpSet_2 _ hoff'))) (open_free (m := m) (k := 2) (outSet_2 c hoff)))
    (fun fd => sep_mono₂ (land (m := m) (k := 2) (outSet_2 c hoff) (moved_2 c c hoff hoff' fd))
      (Entails.of_eq (lent_eq 2 c c (inpSet_2 _ hoff')).symm)) (hk := hk)

theorem outSet_3 (c : Dev nD) {off} (hoff : off = ![c.val, 0, 0]) {inb} :
    (((Memref.whole main_v1_4).slice (Rect.unit (s := S8x1024x704) off S1x1024x704.size inb) (fun _ => rfl)).squeeze S1024x704 squeezes_S1x1024x704_S1024x704).view.set = (blk c : Finset S8x1024x704.Idx) :=
  (set_block (View.whole main_v1_4) c hoff inb _).trans Finset.map_refl

theorem inpSet_3 (d : Dev nD) {off'} (hoff' : off' = ![d.val, 0, 0]) {inb'} :
    (((Memref.whole main_arg5).slice (Rect.unit (s := S8x1024x704) off' S1x1024x704.size inb') (fun _ => rfl)).squeeze S1024x704 squeezes_S1x1024x704_S1024x704).view.set = (blk d : Finset S8x1024x704.Idx) :=
  (set_block (View.whole main_arg5) d hoff' inb' _).trans Finset.map_refl

theorem reads_3 (d : Dev nD) {off'} (hoff' : off' = ![d.val, 0, 0]) {inb'} (f : (⟨3, ![8, 1024, 704]⟩ : Shape).Idx → Elt F .bf16) :
    (((Memref.whole main_arg5).slice (Rect.unit (s := S8x1024x704) off' S1x1024x704.size inb') (fun _ => rfl)).squeeze S1024x704 squeezes_S1x1024x704_S1024x704).view.read (Elt F) f = layer f d :=
  read_block (Val := Elt F) (View.whole main_arg5) d hoff' inb' squeezes_S1x1024x704_S1024x704.numel_eq f

theorem moved_3 (c d : Dev nD) {off off'} (hoff : off = ![c.val, 0, 0]) (hoff' : off' = ![d.val, 0, 0]) {inb inb'} (fd) :
    ∀ i ∈ (blk c : Finset S8x1024x704.Idx), (((Memref.whole main_v1_4).slice (Rect.unit (s := S8x1024x704) off S1x1024x704.size inb) (fun _ => rfl)).squeeze S1024x704 squeezes_S1x1024x704_S1024x704).view.write (Elt F) fd
      ((((Memref.whole main_arg5).slice (Rect.unit (s := S8x1024x704) off' S1x1024x704.size inb') (fun _ => rfl)).squeeze S1024x704 squeezes_S1x1024x704_S1024x704).view.read (Elt F) (m ((c.tc : Thread nD τ).loc main_arg5))) Finset.univ i = (E m).y 3 d i := fun i hi =>
  (write_block (View.whole main_v1_4) c hoff inb _ fd _ i hi).trans
    ((congrFun (reads_3 d hoff' (m ((c.tc : Thread nD τ).loc main_arg5))) (ValueIdx.ix2 (n0 := 1024) (n1 := 704) (i 1) (i 2))).trans
      (congrArg (fun x : Dev nD => layer (n := 8) (p := 1024) (q := 704) (m ((x.tc : Thread nD τ).loc main_arg5)) d (ValueIdx.ix2 (n0 := 1024) (n1 := 704) (i 1) (i 2))) (mem_blk.mp hi).symm))

theorem push_3 {Q : α → sProp 𝕄} {R : sProp 𝕄} (i : Fin 7) {n : Dev nD} (hn : n = peer i c) {off off'} (hoff : off = ![c.val, 0, 0]) (hoff' : off' = ![(peer i c).val, 0, 0])
    {inb inb'} {sS sR : DmaSem sig} {hsc hsrc hdst hsem} (hS : sS = cellSem (snd (3, i))) (hR : sR = cellSem (rcv (3, i)))
    (hk : iprop((P m).St c l (snd (3, i) :: w) d ∗ R) ⊢ wp frame (wpE (defs₀ (F := F)) 𝒱₀ (c.tc : Thread nD τ) none) Set.univ (K ⟨⟩) Q) :
    iprop((P m).St c (.inl (3, i) :: l) w d ∗ R)
      ⊢ wp frame (wpE (defs₀ (F := F)) 𝒱₀ (c.tc : Thread nD τ) none) Set.univ
          (.op (.enqueueDma (((Memref.whole main_arg5).slice (Rect.unit (s := S8x1024x704) off' S1x1024x704.size inb') (fun _ => rfl)).squeeze S1024x704 squeezes_S1x1024x704_S1024x704) (.remote (Dev.tc n : Thread nD τ)
            (((Memref.whole main_v1_4).slice (Rect.unit (s := S8x1024x704) off S1x1024x704.size inb) (fun _ => rfl)).squeeze S1024x704 squeezes_S1x1024x704_S1024x704) (.dma sS) hsc) (.dma sR) hsrc hdst hsem) K) Q :=
  (P m).step_push (3, i) hn hS hR rfl (BiEntails.of_eq (lent_eq 3 c (peer i c) (inpSet_3 _ hoff')))
    (open_free (m := m) (k := 3) (outSet_3 c hoff))
    (fun fd => (land (m := m) (k := 3) (outSet_3 c hoff) (moved_3 c (peer i c) hoff hoff' fd)).trans
      (Entails.of_eq (pay_rcv 3 i c))) (hk := hk)

theorem copy_3 {Q : α → sProp 𝕄} {R : sProp 𝕄} {off off'} (hoff : off = ![c.val, 0, 0]) (hoff' : off' = ![c.val, 0, 0]) {inb inb'} {sm : DmaSem sig} {hsrc hdst hsem}
    (hm : sm = cellSem (own 3))
    (hk : iprop((P m).St c l (own 3 :: w) d ∗ R) ⊢ wp frame (wpE (defs₀ (F := F)) 𝒱₀ (c.tc : Thread nD τ) none) Set.univ (K ⟨⟩) Q) :
    iprop((P m).St c (.inr 3 :: l) w d ∗ R)
      ⊢ wp frame (wpE (defs₀ (F := F)) 𝒱₀ (c.tc : Thread nD τ) none) Set.univ
          (.op (.enqueueDma (((Memref.whole main_arg5).slice (Rect.unit (s := S8x1024x704) off' S1x1024x704.size inb') (fun _ => rfl)).squeeze S1024x704 squeezes_S1x1024x704_S1024x704) (.here (((Memref.whole main_v1_4).slice (Rect.unit (s := S8x1024x704) off S1x1024x704.size inb) (fun _ => rfl)).squeeze S1024x704 squeezes_S1x1024x704_S1024x704)) (.dma sm) hsrc hdst hsem) K) Q :=
  (P m).step_copy 3 hm rfl
    (sep_mono₂ (Entails.of_eq (lent_eq 3 c c (inpSet_3 _ hoff'))) (open_free (m := m) (k := 3) (outSet_3 c hoff)))
    (fun fd => sep_mono₂ (land (m := m) (k := 3) (outSet_3 c hoff) (moved_3 c c hoff hoff' fd))
      (Entails.of_eq (lent_eq 3 c c (inpSet_3 _ hoff')).symm)) (hk := hk)

theorem outSet_4 (c : Dev nD) {off} (hoff : off = ![c.val, 0, 0]) {inb} :
    (((Memref.whole main_v1_5).slice (Rect.unit (s := S8x352x1024) off S1x352x1024.size inb) (fun _ => rfl)).squeeze S352x1024 squeezes_S1x352x1024_S352x1024).view.set = (blk c : Finset S8x352x1024.Idx) :=
  (set_block (View.whole main_v1_5) c hoff inb _).trans Finset.map_refl

theorem inpSet_4 (d : Dev nD) {off'} (hoff' : off' = ![d.val, 0, 0]) {inb'} :
    (((Memref.whole main_arg6).slice (Rect.unit (s := S8x352x1024) off' S1x352x1024.size inb') (fun _ => rfl)).squeeze S352x1024 squeezes_S1x352x1024_S352x1024).view.set = (blk d : Finset S8x352x1024.Idx) :=
  (set_block (View.whole main_arg6) d hoff' inb' _).trans Finset.map_refl

theorem reads_4 (d : Dev nD) {off'} (hoff' : off' = ![d.val, 0, 0]) {inb'} (f : (⟨3, ![8, 352, 1024]⟩ : Shape).Idx → Elt F .bf16) :
    (((Memref.whole main_arg6).slice (Rect.unit (s := S8x352x1024) off' S1x352x1024.size inb') (fun _ => rfl)).squeeze S352x1024 squeezes_S1x352x1024_S352x1024).view.read (Elt F) f = layer f d :=
  read_block (Val := Elt F) (View.whole main_arg6) d hoff' inb' squeezes_S1x352x1024_S352x1024.numel_eq f

theorem moved_4 (c d : Dev nD) {off off'} (hoff : off = ![c.val, 0, 0]) (hoff' : off' = ![d.val, 0, 0]) {inb inb'} (fd) :
    ∀ i ∈ (blk c : Finset S8x352x1024.Idx), (((Memref.whole main_v1_5).slice (Rect.unit (s := S8x352x1024) off S1x352x1024.size inb) (fun _ => rfl)).squeeze S352x1024 squeezes_S1x352x1024_S352x1024).view.write (Elt F) fd
      ((((Memref.whole main_arg6).slice (Rect.unit (s := S8x352x1024) off' S1x352x1024.size inb') (fun _ => rfl)).squeeze S352x1024 squeezes_S1x352x1024_S352x1024).view.read (Elt F) (m ((c.tc : Thread nD τ).loc main_arg6))) Finset.univ i = (E m).y 4 d i := fun i hi =>
  (write_block (View.whole main_v1_5) c hoff inb _ fd _ i hi).trans
    ((congrFun (reads_4 d hoff' (m ((c.tc : Thread nD τ).loc main_arg6))) (ValueIdx.ix2 (n0 := 352) (n1 := 1024) (i 1) (i 2))).trans
      (congrArg (fun x : Dev nD => layer (n := 8) (p := 352) (q := 1024) (m ((x.tc : Thread nD τ).loc main_arg6)) d (ValueIdx.ix2 (n0 := 352) (n1 := 1024) (i 1) (i 2))) (mem_blk.mp hi).symm))

theorem push_4 {Q : α → sProp 𝕄} {R : sProp 𝕄} (i : Fin 7) {n : Dev nD} (hn : n = peer i c) {off off'} (hoff : off = ![c.val, 0, 0]) (hoff' : off' = ![(peer i c).val, 0, 0])
    {inb inb'} {sS sR : DmaSem sig} {hsc hsrc hdst hsem} (hS : sS = cellSem (snd (4, i))) (hR : sR = cellSem (rcv (4, i)))
    (hk : iprop((P m).St c l (snd (4, i) :: w) d ∗ R) ⊢ wp frame (wpE (defs₀ (F := F)) 𝒱₀ (c.tc : Thread nD τ) none) Set.univ (K ⟨⟩) Q) :
    iprop((P m).St c (.inl (4, i) :: l) w d ∗ R)
      ⊢ wp frame (wpE (defs₀ (F := F)) 𝒱₀ (c.tc : Thread nD τ) none) Set.univ
          (.op (.enqueueDma (((Memref.whole main_arg6).slice (Rect.unit (s := S8x352x1024) off' S1x352x1024.size inb') (fun _ => rfl)).squeeze S352x1024 squeezes_S1x352x1024_S352x1024) (.remote (Dev.tc n : Thread nD τ)
            (((Memref.whole main_v1_5).slice (Rect.unit (s := S8x352x1024) off S1x352x1024.size inb) (fun _ => rfl)).squeeze S352x1024 squeezes_S1x352x1024_S352x1024) (.dma sS) hsc) (.dma sR) hsrc hdst hsem) K) Q :=
  (P m).step_push (4, i) hn hS hR rfl (BiEntails.of_eq (lent_eq 4 c (peer i c) (inpSet_4 _ hoff')))
    (open_free (m := m) (k := 4) (outSet_4 c hoff))
    (fun fd => (land (m := m) (k := 4) (outSet_4 c hoff) (moved_4 c (peer i c) hoff hoff' fd)).trans
      (Entails.of_eq (pay_rcv 4 i c))) (hk := hk)

theorem copy_4 {Q : α → sProp 𝕄} {R : sProp 𝕄} {off off'} (hoff : off = ![c.val, 0, 0]) (hoff' : off' = ![c.val, 0, 0]) {inb inb'} {sm : DmaSem sig} {hsrc hdst hsem}
    (hm : sm = cellSem (own 4))
    (hk : iprop((P m).St c l (own 4 :: w) d ∗ R) ⊢ wp frame (wpE (defs₀ (F := F)) 𝒱₀ (c.tc : Thread nD τ) none) Set.univ (K ⟨⟩) Q) :
    iprop((P m).St c (.inr 4 :: l) w d ∗ R)
      ⊢ wp frame (wpE (defs₀ (F := F)) 𝒱₀ (c.tc : Thread nD τ) none) Set.univ
          (.op (.enqueueDma (((Memref.whole main_arg6).slice (Rect.unit (s := S8x352x1024) off' S1x352x1024.size inb') (fun _ => rfl)).squeeze S352x1024 squeezes_S1x352x1024_S352x1024) (.here (((Memref.whole main_v1_5).slice (Rect.unit (s := S8x352x1024) off S1x352x1024.size inb) (fun _ => rfl)).squeeze S352x1024 squeezes_S1x352x1024_S352x1024)) (.dma sm) hsrc hdst hsem) K) Q :=
  (P m).step_copy 4 hm rfl
    (sep_mono₂ (Entails.of_eq (lent_eq 4 c c (inpSet_4 _ hoff'))) (open_free (m := m) (k := 4) (outSet_4 c hoff)))
    (fun fd => sep_mono₂ (land (m := m) (k := 4) (outSet_4 c hoff) (moved_4 c c hoff hoff' fd))
      (Entails.of_eq (lent_eq 4 c c (inpSet_4 _ hoff')).symm)) (hk := hk)

end Cert.WeightIdeal.Gen
-- ==== Proof.WeightWalk.lean ====
/-
  The kernel's steps at the first and at the last grid point, on the state of the exchange: the first starts every copy and every push, the
  last waits for every cell. One lemma per part of the kernel function, each before what follows it.
-/
module

public import proofs.«01_k».proof.Proof.WeightCall
public import proofs.«01_k».proof.Proof.Gen.WeightIdeal.Skeleton

@[expose] public section

noncomputable section

namespace Cert.WeightIdeal.Gen

open Cert.Exchange
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ sig) ℕ

/-! ## Where the blocks lie and who the peers are -/

theorem peer_0 (c : Dev nD) : (4 * (c.val / 4) + 2 * ((c.val / 2) % 2) + 1) - (c.val % 2) = (peer 0 c).val := by revert c; decide
theorem peer_1 (c : Dev nD) : (4 * (c.val / 4) + (c.val % 2) + 2) - 2 * ((c.val / 2) % 2) = (peer 1 c).val := by revert c; decide
theorem peer_2 (c : Dev nD) : (4 * (c.val / 4) + 3) - (2 * ((c.val / 2) % 2) + (c.val % 2)) = (peer 2 c).val := by revert c; decide
theorem peer_3 (c : Dev nD) : (2 * ((c.val / 2) % 2) + (c.val % 2) + 4) - 4 * (c.val / 4) = (peer 3 c).val := by revert c; decide
theorem peer_4 (c : Dev nD) : (2 * ((c.val / 2) % 2) + 5) - (4 * (c.val / 4) + (c.val % 2)) = (peer 4 c).val := by revert c; decide
theorem peer_5 (c : Dev nD) : ((c.val % 2) + 6) - (4 * (c.val / 4) + 2 * ((c.val / 2) % 2)) = (peer 5 c).val := by revert c; decide
theorem peer_6 (c : Dev nD) : 7 - (4 * (c.val / 4) + 2 * ((c.val / 2) % 2) + (c.val % 2)) = (peer 6 c).val := by revert c; decide
theorem here (c : Dev nD) : 4 * (c.val / 4) + 2 * ((c.val / 2) % 2) + (c.val % 2) = c.val := by revert c; decide
theorem off1_at (c : Dev nD) : k0_off1 c = ![c.val, 0, 0] := (k0_off1_eq c).trans (by rw [here])
theorem off2_at (c : Dev nD) : k0_off2 c = ![c.val, 0, 0] := (k0_off2_eq c).trans (by rw [here])
theorem off3_at (c : Dev nD) : k0_off3 c = ![c.val, 0, 0] := (k0_off3_eq c).trans (by rw [here])
theorem off4_at (c : Dev nD) : k0_off4 c = ![(peer 0 c).val, 0, 0] := (k0_off4_eq c).trans (by rw [peer_0])
theorem off5_at (c : Dev nD) : k0_off5 c = ![(peer 1 c).val, 0, 0] := (k0_off5_eq c).trans (by rw [peer_1])
theorem off6_at (c : Dev nD) : k0_off6 c = ![(peer 2 c).val, 0, 0] := (k0_off6_eq c).trans (by rw [peer_2])
theorem off7_at (c : Dev nD) : k0_off7 c = ![(peer 3 c).val, 0, 0] := (k0_off7_eq c).trans (by rw [peer_3])
theorem off8_at (c : Dev nD) : k0_off8 c = ![(peer 4 c).val, 0, 0] := (k0_off8_eq c).trans (by rw [peer_4])
theorem off9_at (c : Dev nD) : k0_off9 c = ![(peer 5 c).val, 0, 0] := (k0_off9_eq c).trans (by rw [peer_5])
theorem off10_at (c : Dev nD) : k0_off10 c = ![(peer 6 c).val, 0, 0] := (k0_off10_eq c).trans (by rw [peer_6])
theorem off11_at (c : Dev nD) : k0_off11 c = ![(peer 0 c).val, 0, 0] := (k0_off11_eq c).trans (by rw [peer_0])
theorem off12_at (c : Dev nD) : k0_off12 c = ![(peer 1 c).val, 0, 0] := (k0_off12_eq c).trans (by rw [peer_1])
theorem off13_at (c : Dev nD) : k0_off13 c = ![(peer 2 c).val, 0, 0] := (k0_off13_eq c).trans (by rw [peer_2])
theorem off14_at (c : Dev nD) : k0_off14 c = ![(peer 3 c).val, 0, 0] := (k0_off14_eq c).trans (by rw [peer_3])
theorem off15_at (c : Dev nD) : k0_off15 c = ![(peer 4 c).val, 0, 0] := (k0_off15_eq c).trans (by rw [peer_4])
theorem off16_at (c : Dev nD) : k0_off16 c = ![(peer 5 c).val, 0, 0] := (k0_off16_eq c).trans (by rw [peer_5])
theorem off17_at (c : Dev nD) : k0_off17 c = ![(peer 6 c).val, 0, 0] := (k0_off17_eq c).trans (by rw [peer_6])
theorem off18_at (c : Dev nD) : k0_off18 c = ![(peer 0 c).val, 0, 0] := (k0_off18_eq c).trans (by rw [peer_0])
theorem off19_at (c : Dev nD) : k0_off19 c = ![(peer 1 c).val, 0, 0] := (k0_off19_eq c).trans (by rw [peer_1])
theorem off20_at (c : Dev nD) : k0_off20 c = ![(peer 2 c).val, 0, 0] := (k0_off20_eq c).trans (by rw [peer_2])
theorem off21_at (c : Dev nD) : k0_off21 c = ![(peer 3 c).val, 0, 0] := (k0_off21_eq c).trans (by rw [peer_3])
theorem off22_at (c : Dev nD) : k0_off22 c = ![(peer 4 c).val, 0, 0] := (k0_off22_eq c).trans (by rw [peer_4])
theorem off23_at (c : Dev nD) : k0_off23 c = ![(peer 5 c).val, 0, 0] := (k0_off23_eq c).trans (by rw [peer_5])
theorem off24_at (c : Dev nD) : k0_off24 c = ![(peer 6 c).val, 0, 0] := (k0_off24_eq c).trans (by rw [peer_6])

variable {m : (ℓ : Loc nD τ sig) → Buf (Elt F) ℓ} {c : Dev nD} {β : Type} {i : grid0.Coords}
  {arg3 : Memref sig .tc .vmem S1280x1024 .bf16} {harg3 : arg3.IsWhole} {arg4 : Memref sig .tc .vmem S1280x1024 .bf16} {harg4 : arg4.IsWhole}
  {arg10 : Memref sig .tc .vmem S1024x1024 .bf16} {harg10 : arg10.IsWhole}
  {l : List ((Fin 5 × Fin 7) ⊕ Fin 5)} {w d : List (Cell (Fin 5 × Fin 7) (Fin 5))}

/-! ## The parts -/

theorem walk_1 {Q : β → sProp 𝕄} {G : sProp 𝕄} {k : _ → Prog (TpuEff nD τ sig (Elt F) Λ₀ .tc) β}
    (hk : ∀ r, r.1 = c → (G ⊢ wp frame (wpE (defs₀ (F := F)) 𝒱₀ (c.tc : Thread nD τ) none) Set.univ (k r) Q)) :
    G ⊢ wp frame (wpE (defs₀ (F := F)) 𝒱₀ (c.tc : Thread nD τ) none) Set.univ (k0_part1 (F := F) i arg3 harg3 arg4 harg4 (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) arg10 harg10 (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) (Memref.whole cc0_scratch0) (Memref.isWhole_whole _) cc0_scratch1 cc0_scratch2 cc0_scratch3 >>= k) Q := by
  rw [k0_part1_eq_skeleton]
  simp only [k0_part1_skel, Prog.lift, Prog.bind_op, Prog.bind_ret, Prog.pure_eq_ret, wp_deviceId]
  exact hk _ rfl

theorem walk_2 {Q : β → sProp 𝕄} {G : sProp 𝕄} {v30 v33 v36 v62 v63 : BitVec 32} {k : _ → Prog (TpuEff nD τ sig (Elt F) Λ₀ .tc) β}
    (hk : ∀ r, (G ⊢ wp frame (wpE (defs₀ (F := F)) 𝒱₀ (c.tc : Thread nD τ) none) Set.univ (k r) Q)) :
    G ⊢ wp frame (wpE (defs₀ (F := F)) 𝒱₀ (c.tc : Thread nD τ) none) Set.univ (k0_part2 (F := F) i arg3 harg3 arg4 harg4 (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) arg10 harg10 (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) (Memref.whole cc0_scratch0) (Memref.isWhole_whole _) cc0_scratch1 cc0_scratch2 cc0_scratch3 v30 v33 v36 v62 v63 >>= k) Q := by
  rw [k0_part2_eq_skeleton]
  simp only [k0_part2_skel, Prog.lift, Prog.bind_op, Prog.bind_ret, Prog.pure_eq_ret]
  exact hk _

theorem walk_3 {Q : β → sProp 𝕄} {G : sProp 𝕄} {v30 v33 v36 v98 v99 : BitVec 32} {k : _ → Prog (TpuEff nD τ sig (Elt F) Λ₀ .tc) β}
    (hk : ∀ r, (G ⊢ wp frame (wpE (defs₀ (F := F)) 𝒱₀ (c.tc : Thread nD τ) none) Set.univ (k r) Q)) :
    G ⊢ wp frame (wpE (defs₀ (F := F)) 𝒱₀ (c.tc : Thread nD τ) none) Set.univ (k0_part3 (F := F) i arg3 harg3 arg4 harg4 (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) arg10 harg10 (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) (Memref.whole cc0_scratch0) (Memref.isWhole_whole _) cc0_scratch1 cc0_scratch2 cc0_scratch3 v30 v33 v36 v98 v99 >>= k) Q := by
  rw [k0_part3_eq_skeleton]
  simp only [k0_part3_skel, Prog.lift, Prog.bind_op, Prog.bind_ret, Prog.pure_eq_ret]
  exact hk _

theorem walk_4 {Q : β → sProp 𝕄} {G : sProp 𝕄} {v30 v33 v36 : BitVec 32} {k : _ → Prog (TpuEff nD τ sig (Elt F) Λ₀ .tc) β}
    (hk : ∀ r, (G ⊢ wp frame (wpE (defs₀ (F := F)) 𝒱₀ (c.tc : Thread nD τ) none) Set.univ (k r) Q)) :
    G ⊢ wp frame (wpE (defs₀ (F := F)) 𝒱₀ (c.tc : Thread nD τ) none) Set.univ (k0_part4 (F := F) i arg3 harg3 arg4 harg4 (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) arg10 harg10 (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) (Memref.whole cc0_scratch0) (Memref.isWhole_whole _) cc0_scratch1 cc0_scratch2 cc0_scratch3 v30 v33 v36 >>= k) Q := by
  rw [k0_part4_eq_skeleton]
  simp only [k0_part4_skel, Prog.lift, Prog.bind_op, Prog.bind_ret, Prog.pure_eq_ret]
  exact hk _

theorem walk_5 {Q : β → sProp 𝕄} {G : sProp 𝕄} {v30 v33 v36 v171 v172 : BitVec 32} {k : _ → Prog (TpuEff nD τ sig (Elt F) Λ₀ .tc) β}
    (hk : ∀ r, (G ⊢ wp frame (wpE (defs₀ (F := F)) 𝒱₀ (c.tc : Thread nD τ) none) Set.univ (k r) Q)) :
    G ⊢ wp frame (wpE (defs₀ (F := F)) 𝒱₀ (c.tc : Thread nD τ) none) Set.univ (k0_part5 (F := F) i arg3 harg3 arg4 harg4 (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) arg10 harg10 (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) (Memref.whole cc0_scratch0) (Memref.isWhole_whole _) cc0_scratch1 cc0_scratch2 cc0_scratch3 v30 v33 v36 v171 v172 >>= k) Q := by
  rw [k0_part5_eq_skeleton]
  simp only [k0_part5_skel, Prog.lift, Prog.bind_op, Prog.bind_ret, Prog.pure_eq_ret]
  exact hk _

theorem walk_6 {Q : β → sProp 𝕄} {G : sProp 𝕄} (k0_h1 : k0_cond1 i = 1#1) {v30 v33 v36 v207 v208 : BitVec 32} {k : _ → Prog (TpuEff nD τ sig (Elt F) Λ₀ .tc) β}
    (hk : ∀ r, (G ⊢ wp frame (wpE (defs₀ (F := F)) 𝒱₀ (c.tc : Thread nD τ) none) Set.univ (k r) Q)) :
    G ⊢ wp frame (wpE (defs₀ (F := F)) 𝒱₀ (c.tc : Thread nD τ) none) Set.univ (k0_part6 (F := F) i arg3 harg3 arg4 harg4 (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) arg10 harg10 (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) (Memref.whole cc0_scratch0) (Memref.isWhole_whole _) cc0_scratch1 cc0_scratch2 cc0_scratch3 k0_h1 c v30 v33 v36 v207 v208 >>= k) Q := by
  rw [k0_part6_eq_skeleton]
  simp only [k0_part6_skel, Prog.lift, Prog.bind_op, Prog.bind_ret, Prog.pure_eq_ret]
  exact hk _

theorem walk_7 {Q : β → sProp 𝕄} {R : sProp 𝕄} (k0_h1 : k0_cond1 i = 1#1) {v30 v33 : BitVec 32} {k : _ → Prog (TpuEff nD τ sig (Elt F) Λ₀ .tc) β}
    (hk : ∀ r, (iprop((P m).St c l (own 4 :: own 3 :: own 2 :: own 1 :: own 0 :: w) d ∗ R) ⊢ wp frame (wpE (defs₀ (F := F)) 𝒱₀ (c.tc : Thread nD τ) none) Set.univ (k r) Q)) :
    iprop((P m).St c (.inr 0 :: .inr 1 :: .inr 2 :: .inr 3 :: .inr 4 :: l) w d ∗ R) ⊢ wp frame (wpE (defs₀ (F := F)) 𝒱₀ (c.tc : Thread nD τ) none) Set.univ (k0_part7 (F := F) i arg3 harg3 arg4 harg4 (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) arg10 harg10 (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) (Memref.whole cc0_scratch0) (Memref.isWhole_whole _) cc0_scratch1 cc0_scratch2 cc0_scratch3 k0_h1 c v30 v33 >>= k) Q := by
  rw [k0_part7_eq_skeleton]
  simp only [k0_part7_skel, Prog.lift, Prog.bind_op, Prog.bind_ret, Prog.pure_eq_ret]
  exact copy_0 (off1_at c) (off1_at c) rfl (
    copy_1 (off1_at c) (off1_at c) rfl (
    copy_2 (off1_at c) (off1_at c) rfl (
    copy_3 (off2_at c) (off2_at c) rfl (
    copy_4 (off3_at c) (off3_at c) rfl (
    hk _)))))

theorem walk_8 {Q : β → sProp 𝕄} {R : sProp 𝕄} (k0_h1 : k0_cond1 i = 1#1) {v30 v36 v41 v46 v51 v52 v272 v273 : BitVec 32} {k : _ → Prog (TpuEff nD τ sig (Elt F) Λ₀ .tc) β}
    (hk : ∀ r, (iprop((P m).St c l (snd (0, 1) :: snd (0, 0) :: w) d ∗ R) ⊢ wp frame (wpE (defs₀ (F := F)) 𝒱₀ (c.tc : Thread nD τ) none) Set.univ (k r) Q)) :
    iprop((P m).St c (.inl (0, 0) :: .inl (0, 1) :: l) w d ∗ R) ⊢ wp frame (wpE (defs₀ (F := F)) 𝒱₀ (c.tc : Thread nD τ) none) Set.univ (k0_part8 (F := F) i arg3 harg3 arg4 harg4 (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) arg10 harg10 (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) (Memref.whole cc0_scratch0) (Memref.isWhole_whole _) cc0_scratch1 cc0_scratch2 cc0_scratch3 k0_h1 c v30 v36 v41 v46 v51 v52 v272 v273 >>= k) Q := by
  rw [k0_part8_eq_skeleton]
  simp only [k0_part8_skel, Prog.lift, Prog.bind_op, Prog.bind_ret, Prog.pure_eq_ret]
  exact push_0 0 (Fin.ext ((k0_dev1_eq c).trans (peer_0 c))) (off1_at c) (off4_at c) rfl rfl (
    push_0 1 (Fin.ext ((k0_dev2_eq c).trans (peer_1 c))) (off1_at c) (off5_at c) rfl rfl (
    hk _))

theorem walk_9 {Q : β → sProp 𝕄} {R : sProp 𝕄} (k0_h1 : k0_cond1 i = 1#1) {v33 v36 v57 v62 v63 : BitVec 32} {k : _ → Prog (TpuEff nD τ sig (Elt F) Λ₀ .tc) β}
    (hk : ∀ r, (iprop((P m).St c l (snd (0, 4) :: snd (0, 3) :: snd (0, 2) :: w) d ∗ R) ⊢ wp frame (wpE (defs₀ (F := F)) 𝒱₀ (c.tc : Thread nD τ) none) Set.univ (k r) Q)) :
    iprop((P m).St c (.inl (0, 2) :: .inl (0, 3) :: .inl (0, 4) :: l) w d ∗ R) ⊢ wp frame (wpE (defs₀ (F := F)) 𝒱₀ (c.tc : Thread nD τ) none) Set.univ (k0_part9 (F := F) i arg3 harg3 arg4 harg4 (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) arg10 harg10 (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) (Memref.whole cc0_scratch0) (Memref.isWhole_whole _) cc0_scratch1 cc0_scratch2 cc0_scratch3 k0_h1 c v33 v36 v57 v62 v63 >>= k) Q := by
  rw [k0_part9_eq_skeleton]
  simp only [k0_part9_skel, Prog.lift, Prog.bind_op, Prog.bind_ret, Prog.pure_eq_ret]
  exact push_0 2 (Fin.ext ((k0_dev3_eq c).trans (peer_2 c))) (off1_at c) (off6_at c) rfl rfl (
    push_0 3 (Fin.ext ((k0_dev4_eq c).trans (peer_3 c))) (off1_at c) (off7_at c) rfl rfl (
    push_0 4 (Fin.ext ((k0_dev5_eq c).trans (peer_4 c))) (off1_at c) (off8_at c) rfl rfl (
    hk _)))

theorem walk_10 {Q : β → sProp 𝕄} {R : sProp 𝕄} (k0_h1 : k0_cond1 i = 1#1) {v30 v33 v36 v68 v69 v74 v75 v76 v81 c4_i32_224 : BitVec 32} {k : _ → Prog (TpuEff nD τ sig (Elt F) Λ₀ .tc) β}
    (hk : ∀ r, (iprop((P m).St c l (snd (0, 6) :: snd (0, 5) :: w) d ∗ R) ⊢ wp frame (wpE (defs₀ (F := F)) 𝒱₀ (c.tc : Thread nD τ) none) Set.univ (k r) Q)) :
    iprop((P m).St c (.inl (0, 5) :: .inl (0, 6) :: l) w d ∗ R) ⊢ wp frame (wpE (defs₀ (F := F)) 𝒱₀ (c.tc : Thread nD τ) none) Set.univ (k0_part10 (F := F) i arg3 harg3 arg4 harg4 (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) arg10 harg10 (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) (Memref.whole cc0_scratch0) (Memref.isWhole_whole _) cc0_scratch1 cc0_scratch2 cc0_scratch3 k0_h1 c v30 v33 v36 v68 v69 v74 v75 v76 v81 c4_i32_224 >>= k) Q := by
  rw [k0_part10_eq_skeleton]
  simp only [k0_part10_skel, Prog.lift, Prog.bind_op, Prog.bind_ret, Prog.pure_eq_ret]
  exact push_0 5 (Fin.ext ((k0_dev6_eq c).trans (peer_5 c))) (off1_at c) (off9_at c) rfl rfl (
    push_0 6 (Fin.ext ((k0_dev7_eq c).trans (peer_6 c))) (off1_at c) (off10_at c) rfl rfl (
    hk _))

theorem walk_11 {Q : β → sProp 𝕄} {R : sProp 𝕄} (k0_h1 : k0_cond1 i = 1#1) {v30 v36 v86 v91 v92 : BitVec 32} {k : _ → Prog (TpuEff nD τ sig (Elt F) Λ₀ .tc) β}
    (hk : ∀ r, (iprop((P m).St c l (snd (1, 1) :: snd (1, 0) :: w) d ∗ R) ⊢ wp frame (wpE (defs₀ (F := F)) 𝒱₀ (c.tc : Thread nD τ) none) Set.univ (k r) Q)) :
    iprop((P m).St c (.inl (1, 0) :: .inl (1, 1) :: l) w d ∗ R) ⊢ wp frame (wpE (defs₀ (F := F)) 𝒱₀ (c.tc : Thread nD τ) none) Set.univ (k0_part11 (F := F) i arg3 harg3 arg4 harg4 (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) arg10 harg10 (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) (Memref.whole cc0_scratch0) (Memref.isWhole_whole _) cc0_scratch1 cc0_scratch2 cc0_scratch3 k0_h1 c v30 v36 v86 v91 v92 >>= k) Q := by
  rw [k0_part11_eq_skeleton]
  simp only [k0_part11_skel, Prog.lift, Prog.bind_op, Prog.bind_ret, Prog.pure_eq_ret]
  exact push_1 0 (Fin.ext ((k0_dev8_eq c).trans (peer_0 c))) (off1_at c) (off4_at c) rfl rfl (
    push_1 1 (Fin.ext ((k0_dev9_eq c).trans (peer_1 c))) (off1_at c) (off5_at c) rfl rfl (
    hk _))

theorem walk_12 {Q : β → sProp 𝕄} {R : sProp 𝕄} (k0_h1 : k0_cond1 i = 1#1) {v33 v36 v97 v102 v103 v108 v109 : BitVec 32} {k : _ → Prog (TpuEff nD τ sig (Elt F) Λ₀ .tc) β}
    (hk : ∀ r, (iprop((P m).St c l (snd (1, 4) :: snd (1, 3) :: snd (1, 2) :: w) d ∗ R) ⊢ wp frame (wpE (defs₀ (F := F)) 𝒱₀ (c.tc : Thread nD τ) none) Set.univ (k r) Q)) :
    iprop((P m).St c (.inl (1, 2) :: .inl (1, 3) :: .inl (1, 4) :: l) w d ∗ R) ⊢ wp frame (wpE (defs₀ (F := F)) 𝒱₀ (c.tc : Thread nD τ) none) Set.univ (k0_part12 (F := F) i arg3 harg3 arg4 harg4 (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) arg10 harg10 (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) (Memref.whole cc0_scratch0) (Memref.isWhole_whole _) cc0_scratch1 cc0_scratch2 cc0_scratch3 k0_h1 c v33 v36 v97 v102 v103 v108 v109 >>= k) Q := by
  rw [k0_part12_eq_skeleton]
  simp only [k0_part12_skel, Prog.lift, Prog.bind_op, Prog.bind_ret, Prog.pure_eq_ret]
  exact push_1 2 (Fin.ext ((k0_dev10_eq c).trans (peer_2 c))) (off1_at c) (off6_at c) rfl rfl (
    push_1 3 (Fin.ext ((k0_dev11_eq c).trans (peer_3 c))) (off1_at c) (off7_at c) rfl rfl (
    push_1 4 (Fin.ext ((k0_dev12_eq c).trans (peer_4 c))) (off1_at c) (off8_at c) rfl rfl (
    hk _)))

theorem walk_13 {Q : β → sProp 𝕄} {R : sProp 𝕄} (k0_h1 : k0_cond1 i = 1#1) {v30 v33 v36 v114 v115 v116 v121 v440 v441 : BitVec 32} {k : _ → Prog (TpuEff nD τ sig (Elt F) Λ₀ .tc) β}
    (hk : ∀ r, (iprop((P m).St c l (snd (1, 6) :: snd (1, 5) :: w) d ∗ R) ⊢ wp frame (wpE (defs₀ (F := F)) 𝒱₀ (c.tc : Thread nD τ) none) Set.univ (k r) Q)) :
    iprop((P m).St c (.inl (1, 5) :: .inl (1, 6) :: l) w d ∗ R) ⊢ wp frame (wpE (defs₀ (F := F)) 𝒱₀ (c.tc : Thread nD τ) none) Set.univ (k0_part13 (F := F) i arg3 harg3 arg4 harg4 (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) arg10 harg10 (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) (Memref.whole cc0_scratch0) (Memref.isWhole_whole _) cc0_scratch1 cc0_scratch2 cc0_scratch3 k0_h1 c v30 v33 v36 v114 v115 v116 v121 v440 v441 >>= k) Q := by
  rw [k0_part13_eq_skeleton]
  simp only [k0_part13_skel, Prog.lift, Prog.bind_op, Prog.bind_ret, Prog.pure_eq_ret]
  exact push_1 5 (Fin.ext ((k0_dev13_eq c).trans (peer_5 c))) (off1_at c) (off9_at c) rfl rfl (
    push_1 6 (Fin.ext ((k0_dev14_eq c).trans (peer_6 c))) (off1_at c) (off10_at c) rfl rfl (
    hk _))

theorem walk_14 {Q : β → sProp 𝕄} {R : sProp 𝕄} (k0_h1 : k0_cond1 i = 1#1) {v30 v36 v126 v131 v132 : BitVec 32} {k : _ → Prog (TpuEff nD τ sig (Elt F) Λ₀ .tc) β}
    (hk : ∀ r, (iprop((P m).St c l (snd (2, 2) :: snd (2, 1) :: snd (2, 0) :: w) d ∗ R) ⊢ wp frame (wpE (defs₀ (F := F)) 𝒱₀ (c.tc : Thread nD τ) none) Set.univ (k r) Q)) :
    iprop((P m).St c (.inl (2, 0) :: .inl (2, 1) :: .inl (2, 2) :: l) w d ∗ R) ⊢ wp frame (wpE (defs₀ (F := F)) 𝒱₀ (c.tc : Thread nD τ) none) Set.univ (k0_part14 (F := F) i arg3 harg3 arg4 harg4 (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) arg10 harg10 (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) (Memref.whole cc0_scratch0) (Memref.isWhole_whole _) cc0_scratch1 cc0_scratch2 cc0_scratch3 k0_h1 c v30 v36 v126 v131 v132 >>= k) Q := by
  rw [k0_part14_eq_skeleton]
  simp only [k0_part14_skel, Prog.lift, Prog.bind_op, Prog.bind_ret, Prog.pure_eq_ret]
  exact push_2 0 (Fin.ext ((k0_dev15_eq c).trans (peer_0 c))) (off1_at c) (off4_at c) rfl rfl (
    push_2 1 (Fin.ext ((k0_dev16_eq c).trans (peer_1 c))) (off1_at c) (off5_at c) rfl rfl (
    push_2 2 (Fin.ext ((k0_dev17_eq c).trans (peer_2 c))) (off1_at c) (off6_at c) rfl rfl (
    hk _)))

theorem walk_15 {Q : β → sProp 𝕄} {R : sProp 𝕄} (k0_h1 : k0_cond1 i = 1#1) {v33 v36 v137 v142 v143 v148 v149 c4_i32_334 : BitVec 32} {k : _ → Prog (TpuEff nD τ sig (Elt F) Λ₀ .tc) β}
    (hk : ∀ r, (iprop((P m).St c l (snd (2, 4) :: snd (2, 3) :: w) d ∗ R) ⊢ wp frame (wpE (defs₀ (F := F)) 𝒱₀ (c.tc : Thread nD τ) none) Set.univ (k r) Q)) :
    iprop((P m).St c (.inl (2, 3) :: .inl (2, 4) :: l) w d ∗ R) ⊢ wp frame (wpE (defs₀ (F := F)) 𝒱₀ (c.tc : Thread nD τ) none) Set.univ (k0_part15 (F := F) i arg3 harg3 arg4 harg4 (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) arg10 harg10 (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) (Memref.whole cc0_scratch0) (Memref.isWhole_whole _) cc0_scratch1 cc0_scratch2 cc0_scratch3 k0_h1 c v33 v36 v137 v142 v143 v148 v149 c4_i32_334 >>= k) Q := by
  rw [k0_part15_eq_skeleton]
  simp only [k0_part15_skel, Prog.lift, Prog.bind_op, Prog.bind_ret, Prog.pure_eq_ret]
  exact push_2 3 (Fin.ext ((k0_dev18_eq c).trans (peer_3 c))) (off1_at c) (off7_at c) rfl rfl (
    push_2 4 (Fin.ext ((k0_dev19_eq c).trans (peer_4 c))) (off1_at c) (off8_at c) rfl rfl (
    hk _))

theorem walk_16 {Q : β → sProp 𝕄} {R : sProp 𝕄} (k0_h1 : k0_cond1 i = 1#1) {v30 v33 v154 v155 v156 v161 : BitVec 32} {k : _ → Prog (TpuEff nD τ sig (Elt F) Λ₀ .tc) β}
    (hk : ∀ r, (iprop((P m).St c l (snd (2, 6) :: snd (2, 5) :: w) d ∗ R) ⊢ wp frame (wpE (defs₀ (F := F)) 𝒱₀ (c.tc : Thread nD τ) none) Set.univ (k r) Q)) :
    iprop((P m).St c (.inl (2, 5) :: .inl (2, 6) :: l) w d ∗ R) ⊢ wp frame (wpE (defs₀ (F := F)) 𝒱₀ (c.tc : Thread nD τ) none) Set.univ (k0_part16 (F := F) i arg3 harg3 arg4 harg4 (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) arg10 harg10 (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) (Memref.whole cc0_scratch0) (Memref.isWhole_whole _) cc0_scratch1 cc0_scratch2 cc0_scratch3 k0_h1 c v30 v33 v154 v155 v156 v161 >>= k) Q := by
  rw [k0_part16_eq_skeleton]
  simp only [k0_part16_skel, Prog.lift, Prog.bind_op, Prog.bind_ret, Prog.pure_eq_ret]
  exact push_2 5 (Fin.ext ((k0_dev20_eq c).trans (peer_5 c))) (off1_at c) (off9_at c) rfl rfl (
    push_2 6 (Fin.ext ((k0_dev21_eq c).trans (peer_6 c))) (off1_at c) (off10_at c) rfl rfl (
    hk _))

theorem walk_17 {Q : β → sProp 𝕄} {R : sProp 𝕄} (k0_h1 : k0_cond1 i = 1#1) {v30 v33 v36 v166 v171 v172 v177 : BitVec 32} {k : _ → Prog (TpuEff nD τ sig (Elt F) Λ₀ .tc) β}
    (hk : ∀ r, (iprop((P m).St c l (snd (3, 2) :: snd (3, 1) :: snd (3, 0) :: w) d ∗ R) ⊢ wp frame (wpE (defs₀ (F := F)) 𝒱₀ (c.tc : Thread nD τ) none) Set.univ (k r) Q)) :
    iprop((P m).St c (.inl (3, 0) :: .inl (3, 1) :: .inl (3, 2) :: l) w d ∗ R) ⊢ wp frame (wpE (defs₀ (F := F)) 𝒱₀ (c.tc : Thread nD τ) none) Set.univ (k0_part17 (F := F) i arg3 harg3 arg4 harg4 (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) arg10 harg10 (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) (Memref.whole cc0_scratch0) (Memref.isWhole_whole _) cc0_scratch1 cc0_scratch2 cc0_scratch3 k0_h1 c v30 v33 v36 v166 v171 v172 v177 >>= k) Q := by
  rw [k0_part17_eq_skeleton]
  simp only [k0_part17_skel, Prog.lift, Prog.bind_op, Prog.bind_ret, Prog.pure_eq_ret]
  exact push_3 0 (Fin.ext ((k0_dev22_eq c).trans (peer_0 c))) (off2_at c) (off11_at c) rfl rfl (
    push_3 1 (Fin.ext ((k0_dev23_eq c).trans (peer_1 c))) (off2_at c) (off12_at c) rfl rfl (
    push_3 2 (Fin.ext ((k0_dev24_eq c).trans (peer_2 c))) (off2_at c) (off13_at c) rfl rfl (
    hk _)))

theorem walk_18 {Q : β → sProp 𝕄} {R : sProp 𝕄} (k0_h1 : k0_cond1 i = 1#1) {v33 v36 v182 v183 v188 v189 v608 v609 : BitVec 32} {k : _ → Prog (TpuEff nD τ sig (Elt F) Λ₀ .tc) β}
    (hk : ∀ r, (iprop((P m).St c l (snd (3, 4) :: snd (3, 3) :: w) d ∗ R) ⊢ wp frame (wpE (defs₀ (F := F)) 𝒱₀ (c.tc : Thread nD τ) none) Set.univ (k r) Q)) :
    iprop((P m).St c (.inl (3, 3) :: .inl (3, 4) :: l) w d ∗ R) ⊢ wp frame (wpE (defs₀ (F := F)) 𝒱₀ (c.tc : Thread nD τ) none) Set.univ (k0_part18 (F := F) i arg3 harg3 arg4 harg4 (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) arg10 harg10 (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) (Memref.whole cc0_scratch0) (Memref.isWhole_whole _) cc0_scratch1 cc0_scratch2 cc0_scratch3 k0_h1 c v33 v36 v182 v183 v188 v189 v608 v609 >>= k) Q := by
  rw [k0_part18_eq_skeleton]
  simp only [k0_part18_skel, Prog.lift, Prog.bind_op, Prog.bind_ret, Prog.pure_eq_ret]
  exact push_3 3 (Fin.ext ((k0_dev25_eq c).trans (peer_3 c))) (off2_at c) (off14_at c) rfl rfl (
    push_3 4 (Fin.ext ((k0_dev26_eq c).trans (peer_4 c))) (off2_at c) (off15_at c) rfl rfl (
    hk _))

theorem walk_19 {Q : β → sProp 𝕄} {R : sProp 𝕄} (k0_h1 : k0_cond1 i = 1#1) {v30 v33 v194 v195 v196 v201 : BitVec 32} {k : _ → Prog (TpuEff nD τ sig (Elt F) Λ₀ .tc) β}
    (hk : ∀ r, (iprop((P m).St c l (snd (4, 0) :: snd (3, 6) :: snd (3, 5) :: w) d ∗ R) ⊢ wp frame (wpE (defs₀ (F := F)) 𝒱₀ (c.tc : Thread nD τ) none) Set.univ (k r) Q)) :
    iprop((P m).St c (.inl (3, 5) :: .inl (3, 6) :: .inl (4, 0) :: l) w d ∗ R) ⊢ wp frame (wpE (defs₀ (F := F)) 𝒱₀ (c.tc : Thread nD τ) none) Set.univ (k0_part19 (F := F) i arg3 harg3 arg4 harg4 (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) arg10 harg10 (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) (Memref.whole cc0_scratch0) (Memref.isWhole_whole _) cc0_scratch1 cc0_scratch2 cc0_scratch3 k0_h1 c v30 v33 v194 v195 v196 v201 >>= k) Q := by
  rw [k0_part19_eq_skeleton]
  simp only [k0_part19_skel, Prog.lift, Prog.bind_op, Prog.bind_ret, Prog.pure_eq_ret]
  exact push_3 5 (Fin.ext ((k0_dev27_eq c).trans (peer_5 c))) (off2_at c) (off16_at c) rfl rfl (
    push_3 6 (Fin.ext ((k0_dev28_eq c).trans (peer_6 c))) (off2_at c) (off17_at c) rfl rfl (
    push_4 0 (Fin.ext ((k0_dev29_eq c).trans (peer_0 c))) (off3_at c) (off18_at c) rfl rfl (
    hk _)))

theorem walk_20 {Q : β → sProp 𝕄} {R : sProp 𝕄} (k0_h1 : k0_cond1 i = 1#1) {v30 v33 v36 v206 v211 v212 v217 c4_i32_442 : BitVec 32} {k : _ → Prog (TpuEff nD τ sig (Elt F) Λ₀ .tc) β}
    (hk : ∀ r, (iprop((P m).St c l (snd (4, 2) :: snd (4, 1) :: w) d ∗ R) ⊢ wp frame (wpE (defs₀ (F := F)) 𝒱₀ (c.tc : Thread nD τ) none) Set.univ (k r) Q)) :
    iprop((P m).St c (.inl (4, 1) :: .inl (4, 2) :: l) w d ∗ R) ⊢ wp frame (wpE (defs₀ (F := F)) 𝒱₀ (c.tc : Thread nD τ) none) Set.univ (k0_part20 (F := F) i arg3 harg3 arg4 harg4 (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) arg10 harg10 (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) (Memref.whole cc0_scratch0) (Memref.isWhole_whole _) cc0_scratch1 cc0_scratch2 cc0_scratch3 k0_h1 c v30 v33 v36 v206 v211 v212 v217 c4_i32_442 >>= k) Q := by
  rw [k0_part20_eq_skeleton]
  simp only [k0_part20_skel, Prog.lift, Prog.bind_op, Prog.bind_ret, Prog.pure_eq_ret]
  exact push_4 1 (Fin.ext ((k0_dev30_eq c).trans (peer_1 c))) (off3_at c) (off19_at c) rfl rfl (
    push_4 2 (Fin.ext ((k0_dev31_eq c).trans (peer_2 c))) (off3_at c) (off20_at c) rfl rfl (
    hk _))

theorem walk_21 {Q : β → sProp 𝕄} {R : sProp 𝕄} (k0_h1 : k0_cond1 i = 1#1) {v33 v36 v222 v223 v228 v229 : BitVec 32} {k : _ → Prog (TpuEff nD τ sig (Elt F) Λ₀ .tc) β}
    (hk : ∀ r, (iprop((P m).St c l (snd (4, 4) :: snd (4, 3) :: w) d ∗ R) ⊢ wp frame (wpE (defs₀ (F := F)) 𝒱₀ (c.tc : Thread nD τ) none) Set.univ (k r) Q)) :
    iprop((P m).St c (.inl (4, 3) :: .inl (4, 4) :: l) w d ∗ R) ⊢ wp frame (wpE (defs₀ (F := F)) 𝒱₀ (c.tc : Thread nD τ) none) Set.univ (k0_part21 (F := F) i arg3 harg3 arg4 harg4 (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) arg10 harg10 (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) (Memref.whole cc0_scratch0) (Memref.isWhole_whole _) cc0_scratch1 cc0_scratch2 cc0_scratch3 k0_h1 c v33 v36 v222 v223 v228 v229 >>= k) Q := by
  rw [k0_part21_eq_skeleton]
  simp only [k0_part21_skel, Prog.lift, Prog.bind_op, Prog.bind_ret, Prog.pure_eq_ret]
  exact push_4 3 (Fin.ext ((k0_dev32_eq c).trans (peer_3 c))) (off3_at c) (off21_at c) rfl rfl (
    push_4 4 (Fin.ext ((k0_dev33_eq c).trans (peer_4 c))) (off3_at c) (off22_at c) rfl rfl (
    hk _))

theorem walk_22 {Q : β → sProp 𝕄} {G : sProp 𝕄} {k : _ → Prog (TpuEff nD τ sig (Elt F) Λ₀ .tc) β}
    (hk : ∀ r, r.1 = c → (G ⊢ wp frame (wpE (defs₀ (F := F)) 𝒱₀ (c.tc : Thread nD τ) none) Set.univ (k r) Q)) :
    G ⊢ wp frame (wpE (defs₀ (F := F)) 𝒱₀ (c.tc : Thread nD τ) none) Set.univ (k0_part22 (F := F) i arg3 harg3 arg4 harg4 (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) arg10 harg10 (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) (Memref.whole cc0_scratch0) (Memref.isWhole_whole _) cc0_scratch1 cc0_scratch2 cc0_scratch3 >>= k) Q := by
  rw [k0_part22_eq_skeleton]
  simp only [k0_part22_skel, Prog.lift, Prog.bind_op, Prog.bind_ret, Prog.pure_eq_ret, wp_deviceId]
  exact hk _ rfl

theorem walk_23 {Q : β → sProp 𝕄} {G : sProp 𝕄} {v30 v33 v36 v62 v63 : BitVec 32} {k : _ → Prog (TpuEff nD τ sig (Elt F) Λ₀ .tc) β}
    (hk : ∀ r, (G ⊢ wp frame (wpE (defs₀ (F := F)) 𝒱₀ (c.tc : Thread nD τ) none) Set.univ (k r) Q)) :
    G ⊢ wp frame (wpE (defs₀ (F := F)) 𝒱₀ (c.tc : Thread nD τ) none) Set.univ (k0_part23 (F := F) i arg3 harg3 arg4 harg4 (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) arg10 harg10 (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) (Memref.whole cc0_scratch0) (Memref.isWhole_whole _) cc0_scratch1 cc0_scratch2 cc0_scratch3 v30 v33 v36 v62 v63 >>= k) Q := by
  rw [k0_part23_eq_skeleton]
  simp only [k0_part23_skel, Prog.lift, Prog.bind_op, Prog.bind_ret, Prog.pure_eq_ret]
  exact hk _

theorem walk_24 {Q : β → sProp 𝕄} {G : sProp 𝕄} {v30 v33 v36 v98 v99 : BitVec 32} {k : _ → Prog (TpuEff nD τ sig (Elt F) Λ₀ .tc) β}
    (hk : ∀ r, (G ⊢ wp frame (wpE (defs₀ (F := F)) 𝒱₀ (c.tc : Thread nD τ) none) Set.univ (k r) Q)) :
    G ⊢ wp frame (wpE (defs₀ (F := F)) 𝒱₀ (c.tc : Thread nD τ) none) Set.univ (k0_part24 (F := F) i arg3 harg3 arg4 harg4 (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) arg10 harg10 (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) (Memref.whole cc0_scratch0) (Memref.isWhole_whole _) cc0_scratch1 cc0_scratch2 cc0_scratch3 v30 v33 v36 v98 v99 >>= k) Q := by
  rw [k0_part24_eq_skeleton]
  simp only [k0_part24_skel, Prog.lift, Prog.bind_op, Prog.bind_ret, Prog.pure_eq_ret]
  exact hk _

theorem walk_25 {Q : β → sProp 𝕄} {G : sProp 𝕄} {v30 v33 v36 : BitVec 32} {k : _ → Prog (TpuEff nD τ sig (Elt F) Λ₀ .tc) β}
    (hk : ∀ r, (G ⊢ wp frame (wpE (defs₀ (F := F)) 𝒱₀ (c.tc : Thread nD τ) none) Set.univ (k r) Q)) :
    G ⊢ wp frame (wpE (defs₀ (F := F)) 𝒱₀ (c.tc : Thread nD τ) none) Set.univ (k0_part25 (F := F) i arg3 harg3 arg4 harg4 (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) arg10 harg10 (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) (Memref.whole cc0_scratch0) (Memref.isWhole_whole _) cc0_scratch1 cc0_scratch2 cc0_scratch3 v30 v33 v36 >>= k) Q := by
  rw [k0_part25_eq_skeleton]
  simp only [k0_part25_skel, Prog.lift, Prog.bind_op, Prog.bind_ret, Prog.pure_eq_ret]
  exact hk _

theorem walk_26 {Q : β → sProp 𝕄} {G : sProp 𝕄} {v30 v33 v36 v171 v172 : BitVec 32} {k : _ → Prog (TpuEff nD τ sig (Elt F) Λ₀ .tc) β}
    (hk : ∀ r, (G ⊢ wp frame (wpE (defs₀ (F := F)) 𝒱₀ (c.tc : Thread nD τ) none) Set.univ (k r) Q)) :
    G ⊢ wp frame (wpE (defs₀ (F := F)) 𝒱₀ (c.tc : Thread nD τ) none) Set.univ (k0_part26 (F := F) i arg3 harg3 arg4 harg4 (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) arg10 harg10 (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) (Memref.whole cc0_scratch0) (Memref.isWhole_whole _) cc0_scratch1 cc0_scratch2 cc0_scratch3 v30 v33 v36 v171 v172 >>= k) Q := by
  rw [k0_part26_eq_skeleton]
  simp only [k0_part26_skel, Prog.lift, Prog.bind_op, Prog.bind_ret, Prog.pure_eq_ret]
  exact hk _

theorem walk_27 {Q : β → sProp 𝕄} {G : sProp 𝕄} {v30 v33 v36 v207 v208 : BitVec 32} {k : _ → Prog (TpuEff nD τ sig (Elt F) Λ₀ .tc) β}
    (hk : ∀ r, (G ⊢ wp frame (wpE (defs₀ (F := F)) 𝒱₀ (c.tc : Thread nD τ) none) Set.univ (k r) Q)) :
    G ⊢ wp frame (wpE (defs₀ (F := F)) 𝒱₀ (c.tc : Thread nD τ) none) Set.univ (k0_part27 (F := F) i arg3 harg3 arg4 harg4 (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) arg10 harg10 (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) (Memref.whole cc0_scratch0) (Memref.isWhole_whole _) cc0_scratch1 cc0_scratch2 cc0_scratch3 v30 v33 v36 v207 v208 >>= k) Q := by
  rw [k0_part27_eq_skeleton]
  simp only [k0_part27_skel, Prog.lift, Prog.bind_op, Prog.bind_ret, Prog.pure_eq_ret]
  exact hk _

theorem walk_28 {Q : β → sProp 𝕄} {R : sProp 𝕄} (k0_h5 : k0_cond5 i = 1#1) {v30 v36 v41 v46 v51 v52 v242 v243 : BitVec 32} {k : _ → Prog (TpuEff nD τ sig (Elt F) Λ₀ .tc) β}
    (hk : ∀ r, (iprop((P m).St c [] w (rcv (0, 1) :: rcv (0, 0) :: d) ∗ R) ⊢ wp frame (wpE (defs₀ (F := F)) 𝒱₀ (c.tc : Thread nD τ) none) Set.univ (k r) Q)) :
    iprop((P m).St c [] (rcv (0, 0) :: rcv (0, 1) :: w) d ∗ R) ⊢ wp frame (wpE (defs₀ (F := F)) 𝒱₀ (c.tc : Thread nD τ) none) Set.univ (k0_part28 (F := F) i arg3 harg3 arg4 harg4 (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) arg10 harg10 (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) (Memref.whole cc0_scratch0) (Memref.isWhole_whole _) cc0_scratch1 cc0_scratch2 cc0_scratch3 k0_h5 c v30 v36 v41 v46 v51 v52 v242 v243 >>= k) Q := by
  rw [k0_part28_eq_skeleton]
  simp only [k0_part28_skel, Prog.lift, Prog.bind_op, Prog.bind_ret, Prog.pure_eq_ret]
  exact (P m).step_wait (rcv (0, 0)) rfl rfl (
    (P m).step_wait (rcv (0, 1)) rfl rfl (
    hk _))

theorem walk_29 {Q : β → sProp 𝕄} {R : sProp 𝕄} (k0_h5 : k0_cond5 i = 1#1) {v33 v36 v57 v62 v63 v68 v69 : BitVec 32} {k : _ → Prog (TpuEff nD τ sig (Elt F) Λ₀ .tc) β}
    (hk : ∀ r, (iprop((P m).St c [] w (rcv (0, 4) :: rcv (0, 3) :: rcv (0, 2) :: d) ∗ R) ⊢ wp frame (wpE (defs₀ (F := F)) 𝒱₀ (c.tc : Thread nD τ) none) Set.univ (k r) Q)) :
    iprop((P m).St c [] (rcv (0, 2) :: rcv (0, 3) :: rcv (0, 4) :: w) d ∗ R) ⊢ wp frame (wpE (defs₀ (F := F)) 𝒱₀ (c.tc : Thread nD τ) none) Set.univ (k0_part29 (F := F) i arg3 harg3 arg4 harg4 (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) arg10 harg10 (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) (Memref.whole cc0_scratch0) (Memref.isWhole_whole _) cc0_scratch1 cc0_scratch2 cc0_scratch3 k0_h5 c v33 v36 v57 v62 v63 v68 v69 >>= k) Q := by
  rw [k0_part29_eq_skeleton]
  simp only [k0_part29_skel, Prog.lift, Prog.bind_op, Prog.bind_ret, Prog.pure_eq_ret]
  exact (P m).step_wait (rcv (0, 2)) rfl rfl (
    (P m).step_wait (rcv (0, 3)) rfl rfl (
    (P m).step_wait (rcv (0, 4)) rfl rfl (
    hk _)))

theorem walk_30 {Q : β → sProp 𝕄} {R : sProp 𝕄} (k0_h5 : k0_cond5 i = 1#1) {v30 v33 v74 v75 v76 v81 : BitVec 32} {k : _ → Prog (TpuEff nD τ sig (Elt F) Λ₀ .tc) β}
    (hk : ∀ r, (iprop((P m).St c [] w (rcv (1, 0) :: rcv (0, 6) :: rcv (0, 5) :: d) ∗ R) ⊢ wp frame (wpE (defs₀ (F := F)) 𝒱₀ (c.tc : Thread nD τ) none) Set.univ (k r) Q)) :
    iprop((P m).St c [] (rcv (0, 5) :: rcv (0, 6) :: rcv (1, 0) :: w) d ∗ R) ⊢ wp frame (wpE (defs₀ (F := F)) 𝒱₀ (c.tc : Thread nD τ) none) Set.univ (k0_part30 (F := F) i arg3 harg3 arg4 harg4 (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) arg10 harg10 (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) (Memref.whole cc0_scratch0) (Memref.isWhole_whole _) cc0_scratch1 cc0_scratch2 cc0_scratch3 k0_h5 c v30 v33 v74 v75 v76 v81 >>= k) Q := by
  rw [k0_part30_eq_skeleton]
  simp only [k0_part30_skel, Prog.lift, Prog.bind_op, Prog.bind_ret, Prog.pure_eq_ret]
  exact (P m).step_wait (rcv (0, 5)) rfl rfl (
    (P m).step_wait (rcv (0, 6)) rfl rfl (
    (P m).step_wait (rcv (1, 0)) rfl rfl (
    hk _)))

theorem walk_31 {Q : β → sProp 𝕄} {R : sProp 𝕄} (k0_h5 : k0_cond5 i = 1#1) {v30 v33 v36 v86 v91 v92 v97 v337 : BitVec 32} {k : _ → Prog (TpuEff nD τ sig (Elt F) Λ₀ .tc) β}
    (hk : ∀ r, (iprop((P m).St c [] w (rcv (1, 2) :: rcv (1, 1) :: d) ∗ R) ⊢ wp frame (wpE (defs₀ (F := F)) 𝒱₀ (c.tc : Thread nD τ) none) Set.univ (k r) Q)) :
    iprop((P m).St c [] (rcv (1, 1) :: rcv (1, 2) :: w) d ∗ R) ⊢ wp frame (wpE (defs₀ (F := F)) 𝒱₀ (c.tc : Thread nD τ) none) Set.univ (k0_part31 (F := F) i arg3 harg3 arg4 harg4 (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) arg10 harg10 (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) (Memref.whole cc0_scratch0) (Memref.isWhole_whole _) cc0_scratch1 cc0_scratch2 cc0_scratch3 k0_h5 c v30 v33 v36 v86 v91 v92 v97 v337 >>= k) Q := by
  rw [k0_part31_eq_skeleton]
  simp only [k0_part31_skel, Prog.lift, Prog.bind_op, Prog.bind_ret, Prog.pure_eq_ret]
  exact (P m).step_wait (rcv (1, 1)) rfl rfl (
    (P m).step_wait (rcv (1, 2)) rfl rfl (
    hk _))

theorem walk_32 {Q : β → sProp 𝕄} {R : sProp 𝕄} (k0_h5 : k0_cond5 i = 1#1) {v33 v36 v102 v103 v108 v109 v114 v115 : BitVec 32} {k : _ → Prog (TpuEff nD τ sig (Elt F) Λ₀ .tc) β}
    (hk : ∀ r, (iprop((P m).St c [] w (rcv (1, 5) :: rcv (1, 4) :: rcv (1, 3) :: d) ∗ R) ⊢ wp frame (wpE (defs₀ (F := F)) 𝒱₀ (c.tc : Thread nD τ) none) Set.univ (k r) Q)) :
    iprop((P m).St c [] (rcv (1, 3) :: rcv (1, 4) :: rcv (1, 5) :: w) d ∗ R) ⊢ wp frame (wpE (defs₀ (F := F)) 𝒱₀ (c.tc : Thread nD τ) none) Set.univ (k0_part32 (F := F) i arg3 harg3 arg4 harg4 (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) arg10 harg10 (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) (Memref.whole cc0_scratch0) (Memref.isWhole_whole _) cc0_scratch1 cc0_scratch2 cc0_scratch3 k0_h5 c v33 v36 v102 v103 v108 v109 v114 v115 >>= k) Q := by
  rw [k0_part32_eq_skeleton]
  simp only [k0_part32_skel, Prog.lift, Prog.bind_op, Prog.bind_ret, Prog.pure_eq_ret]
  exact (P m).step_wait (rcv (1, 3)) rfl rfl (
    (P m).step_wait (rcv (1, 4)) rfl rfl (
    (P m).step_wait (rcv (1, 5)) rfl rfl (
    hk _)))

theorem walk_33 {Q : β → sProp 𝕄} {R : sProp 𝕄} (k0_h5 : k0_cond5 i = 1#1) {v30 v33 v36 v116 v121 v126 v400 : BitVec 32} {k : _ → Prog (TpuEff nD τ sig (Elt F) Λ₀ .tc) β}
    (hk : ∀ r, (iprop((P m).St c [] w (rcv (2, 1) :: rcv (2, 0) :: rcv (1, 6) :: d) ∗ R) ⊢ wp frame (wpE (defs₀ (F := F)) 𝒱₀ (c.tc : Thread nD τ) none) Set.univ (k r) Q)) :
    iprop((P m).St c [] (rcv (1, 6) :: rcv (2, 0) :: rcv (2, 1) :: w) d ∗ R) ⊢ wp frame (wpE (defs₀ (F := F)) 𝒱₀ (c.tc : Thread nD τ) none) Set.univ (k0_part33 (F := F) i arg3 harg3 arg4 harg4 (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) arg10 harg10 (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) (Memref.whole cc0_scratch0) (Memref.isWhole_whole _) cc0_scratch1 cc0_scratch2 cc0_scratch3 k0_h5 c v30 v33 v36 v116 v121 v126 v400 >>= k) Q := by
  rw [k0_part33_eq_skeleton]
  simp only [k0_part33_skel, Prog.lift, Prog.bind_op, Prog.bind_ret, Prog.pure_eq_ret]
  exact (P m).step_wait (rcv (1, 6)) rfl rfl (
    (P m).step_wait (rcv (2, 0)) rfl rfl (
    (P m).step_wait (rcv (2, 1)) rfl rfl (
    hk _)))

theorem walk_34 {Q : β → sProp 𝕄} {R : sProp 𝕄} (k0_h5 : k0_cond5 i = 1#1) {v30 v33 v36 v131 v132 v137 v142 v143 : BitVec 32} {k : _ → Prog (TpuEff nD τ sig (Elt F) Λ₀ .tc) β}
    (hk : ∀ r, (iprop((P m).St c [] w (rcv (2, 3) :: rcv (2, 2) :: d) ∗ R) ⊢ wp frame (wpE (defs₀ (F := F)) 𝒱₀ (c.tc : Thread nD τ) none) Set.univ (k r) Q)) :
    iprop((P m).St c [] (rcv (2, 2) :: rcv (2, 3) :: w) d ∗ R) ⊢ wp frame (wpE (defs₀ (F := F)) 𝒱₀ (c.tc : Thread nD τ) none) Set.univ (k0_part34 (F := F) i arg3 harg3 arg4 harg4 (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) arg10 harg10 (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) (Memref.whole cc0_scratch0) (Memref.isWhole_whole _) cc0_scratch1 cc0_scratch2 cc0_scratch3 k0_h5 c v30 v33 v36 v131 v132 v137 v142 v143 >>= k) Q := by
  rw [k0_part34_eq_skeleton]
  simp only [k0_part34_skel, Prog.lift, Prog.bind_op, Prog.bind_ret, Prog.pure_eq_ret]
  exact (P m).step_wait (rcv (2, 2)) rfl rfl (
    (P m).step_wait (rcv (2, 3)) rfl rfl (
    hk _))

theorem walk_35 {Q : β → sProp 𝕄} {R : sProp 𝕄} (k0_h5 : k0_cond5 i = 1#1) {v30 v36 v148 v149 v154 v155 v156 : BitVec 32} {k : _ → Prog (TpuEff nD τ sig (Elt F) Λ₀ .tc) β}
    (hk : ∀ r, (iprop((P m).St c [] w (rcv (2, 6) :: rcv (2, 5) :: rcv (2, 4) :: d) ∗ R) ⊢ wp frame (wpE (defs₀ (F := F)) 𝒱₀ (c.tc : Thread nD τ) none) Set.univ (k r) Q)) :
    iprop((P m).St c [] (rcv (2, 4) :: rcv (2, 5) :: rcv (2, 6) :: w) d ∗ R) ⊢ wp frame (wpE (defs₀ (F := F)) 𝒱₀ (c.tc : Thread nD τ) none) Set.univ (k0_part35 (F := F) i arg3 harg3 arg4 harg4 (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) arg10 harg10 (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) (Memref.whole cc0_scratch0) (Memref.isWhole_whole _) cc0_scratch1 cc0_scratch2 cc0_scratch3 k0_h5 c v30 v36 v148 v149 v154 v155 v156 >>= k) Q := by
  rw [k0_part35_eq_skeleton]
  simp only [k0_part35_skel, Prog.lift, Prog.bind_op, Prog.bind_ret, Prog.pure_eq_ret]
  exact (P m).step_wait (rcv (2, 4)) rfl rfl (
    (P m).step_wait (rcv (2, 5)) rfl rfl (
    (P m).step_wait (rcv (2, 6)) rfl rfl (
    hk _)))

theorem walk_36 {Q : β → sProp 𝕄} {R : sProp 𝕄} (k0_h5 : k0_cond5 i = 1#1) {v30 v33 v36 v161 v166 v171 v172 v493 c0_i32_346 : BitVec 32} {k : _ → Prog (TpuEff nD τ sig (Elt F) Λ₀ .tc) β}
    (hk : ∀ r, (iprop((P m).St c [] w (rcv (3, 1) :: rcv (3, 0) :: d) ∗ R) ⊢ wp frame (wpE (defs₀ (F := F)) 𝒱₀ (c.tc : Thread nD τ) none) Set.univ (k r) Q)) :
    iprop((P m).St c [] (rcv (3, 0) :: rcv (3, 1) :: w) d ∗ R) ⊢ wp frame (wpE (defs₀ (F := F)) 𝒱₀ (c.tc : Thread nD τ) none) Set.univ (k0_part36 (F := F) i arg3 harg3 arg4 harg4 (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) arg10 harg10 (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) (Memref.whole cc0_scratch0) (Memref.isWhole_whole _) cc0_scratch1 cc0_scratch2 cc0_scratch3 k0_h5 c v30 v33 v36 v161 v166 v171 v172 v493 c0_i32_346 >>= k) Q := by
  rw [k0_part36_eq_skeleton]
  simp only [k0_part36_skel, Prog.lift, Prog.bind_op, Prog.bind_ret, Prog.pure_eq_ret]
  exact (P m).step_wait (rcv (3, 0)) rfl rfl (
    (P m).step_wait (rcv (3, 1)) rfl rfl (
    hk _))

theorem walk_37 {Q : β → sProp 𝕄} {R : sProp 𝕄} (k0_h5 : k0_cond5 i = 1#1) {v33 v36 v177 v182 v183 v188 v189 : BitVec 32} {k : _ → Prog (TpuEff nD τ sig (Elt F) Λ₀ .tc) β}
    (hk : ∀ r, (iprop((P m).St c [] w (rcv (3, 4) :: rcv (3, 3) :: rcv (3, 2) :: d) ∗ R) ⊢ wp frame (wpE (defs₀ (F := F)) 𝒱₀ (c.tc : Thread nD τ) none) Set.univ (k r) Q)) :
    iprop((P m).St c [] (rcv (3, 2) :: rcv (3, 3) :: rcv (3, 4) :: w) d ∗ R) ⊢ wp frame (wpE (defs₀ (F := F)) 𝒱₀ (c.tc : Thread nD τ) none) Set.univ (k0_part37 (F := F) i arg3 harg3 arg4 harg4 (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) arg10 harg10 (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) (Memref.whole cc0_scratch0) (Memref.isWhole_whole _) cc0_scratch1 cc0_scratch2 cc0_scratch3 k0_h5 c v33 v36 v177 v182 v183 v188 v189 >>= k) Q := by
  rw [k0_part37_eq_skeleton]
  simp only [k0_part37_skel, Prog.lift, Prog.bind_op, Prog.bind_ret, Prog.pure_eq_ret]
  exact (P m).step_wait (rcv (3, 2)) rfl rfl (
    (P m).step_wait (rcv (3, 3)) rfl rfl (
    (P m).step_wait (rcv (3, 4)) rfl rfl (
    hk _)))

theorem walk_38 {Q : β → sProp 𝕄} {R : sProp 𝕄} (k0_h5 : k0_cond5 i = 1#1) {v30 v33 v36 v194 v195 v196 v201 v556 c1_i32_393 : BitVec 32} {k : _ → Prog (TpuEff nD τ sig (Elt F) Λ₀ .tc) β}
    (hk : ∀ r, (iprop((P m).St c [] w (rcv (4, 0) :: rcv (3, 6) :: rcv (3, 5) :: d) ∗ R) ⊢ wp frame (wpE (defs₀ (F := F)) 𝒱₀ (c.tc : Thread nD τ) none) Set.univ (k r) Q)) :
    iprop((P m).St c [] (rcv (3, 5) :: rcv (3, 6) :: rcv (4, 0) :: w) d ∗ R) ⊢ wp frame (wpE (defs₀ (F := F)) 𝒱₀ (c.tc : Thread nD τ) none) Set.univ (k0_part38 (F := F) i arg3 harg3 arg4 harg4 (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) arg10 harg10 (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) (Memref.whole cc0_scratch0) (Memref.isWhole_whole _) cc0_scratch1 cc0_scratch2 cc0_scratch3 k0_h5 c v30 v33 v36 v194 v195 v196 v201 v556 c1_i32_393 >>= k) Q := by
  rw [k0_part38_eq_skeleton]
  simp only [k0_part38_skel, Prog.lift, Prog.bind_op, Prog.bind_ret, Prog.pure_eq_ret]
  exact (P m).step_wait (rcv (3, 5)) rfl rfl (
    (P m).step_wait (rcv (3, 6)) rfl rfl (
    (P m).step_wait (rcv (4, 0)) rfl rfl (
    hk _)))

theorem walk_39 {Q : β → sProp 𝕄} {R : sProp 𝕄} (k0_h5 : k0_cond5 i = 1#1) {v30 v33 v36 v206 v211 v212 v217 : BitVec 32} {k : _ → Prog (TpuEff nD τ sig (Elt F) Λ₀ .tc) β}
    (hk : ∀ r, (iprop((P m).St c [] w (rcv (4, 2) :: rcv (4, 1) :: d) ∗ R) ⊢ wp frame (wpE (defs₀ (F := F)) 𝒱₀ (c.tc : Thread nD τ) none) Set.univ (k r) Q)) :
    iprop((P m).St c [] (rcv (4, 1) :: rcv (4, 2) :: w) d ∗ R) ⊢ wp frame (wpE (defs₀ (F := F)) 𝒱₀ (c.tc : Thread nD τ) none) Set.univ (k0_part39 (F := F) i arg3 harg3 arg4 harg4 (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) arg10 harg10 (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) (Memref.whole cc0_scratch0) (Memref.isWhole_whole _) cc0_scratch1 cc0_scratch2 cc0_scratch3 k0_h5 c v30 v33 v36 v206 v211 v212 v217 >>= k) Q := by
  rw [k0_part39_eq_skeleton]
  simp only [k0_part39_skel, Prog.lift, Prog.bind_op, Prog.bind_ret, Prog.pure_eq_ret]
  exact (P m).step_wait (rcv (4, 1)) rfl rfl (
    (P m).step_wait (rcv (4, 2)) rfl rfl (
    hk _))

theorem walk_40 {Q : β → sProp 𝕄} {R : sProp 𝕄} (k0_h5 : k0_cond5 i = 1#1) {v33 v36 v222 v223 v228 v229 v234 : BitVec 32} {k : _ → Prog (TpuEff nD τ sig (Elt F) Λ₀ .tc) β}
    (hk : ∀ r, (iprop((P m).St c [] w (rcv (4, 5) :: rcv (4, 4) :: rcv (4, 3) :: d) ∗ R) ⊢ wp frame (wpE (defs₀ (F := F)) 𝒱₀ (c.tc : Thread nD τ) none) Set.univ (k r) Q)) :
    iprop((P m).St c [] (rcv (4, 3) :: rcv (4, 4) :: rcv (4, 5) :: w) d ∗ R) ⊢ wp frame (wpE (defs₀ (F := F)) 𝒱₀ (c.tc : Thread nD τ) none) Set.univ (k0_part40 (F := F) i arg3 harg3 arg4 harg4 (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) arg10 harg10 (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) (Memref.whole cc0_scratch0) (Memref.isWhole_whole _) cc0_scratch1 cc0_scratch2 cc0_scratch3 k0_h5 c v33 v36 v222 v223 v228 v229 v234 >>= k) Q := by
  rw [k0_part40_eq_skeleton]
  simp only [k0_part40_skel, Prog.lift, Prog.bind_op, Prog.bind_ret, Prog.pure_eq_ret]
  exact (P m).step_wait (rcv (4, 3)) rfl rfl (
    (P m).step_wait (rcv (4, 4)) rfl rfl (
    (P m).step_wait (rcv (4, 5)) rfl rfl (
    hk _)))

theorem walk_41 {Q : β → sProp 𝕄} {R : sProp 𝕄} (k0_h5 : k0_cond5 i = 1#1) {v235 v236 v650 : BitVec 32} {k : _ → Prog (TpuEff nD τ sig (Elt F) Λ₀ .tc) β}
    (hk : ∀ r, (iprop((P m).St c [] w (snd (0, 2) :: snd (0, 1) :: snd (0, 0) :: rcv (4, 6) :: d) ∗ R) ⊢ wp frame (wpE (defs₀ (F := F)) 𝒱₀ (c.tc : Thread nD τ) none) Set.univ (k r) Q)) :
    iprop((P m).St c [] (rcv (4, 6) :: snd (0, 0) :: snd (0, 1) :: snd (0, 2) :: w) d ∗ R) ⊢ wp frame (wpE (defs₀ (F := F)) 𝒱₀ (c.tc : Thread nD τ) none) Set.univ (k0_part41 (F := F) i arg3 harg3 arg4 harg4 (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) arg10 harg10 (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) (Memref.whole cc0_scratch0) (Memref.isWhole_whole _) cc0_scratch1 cc0_scratch2 cc0_scratch3 k0_h5 c v235 v236 v650 >>= k) Q := by
  rw [k0_part41_eq_skeleton]
  simp only [k0_part41_skel, Prog.lift, Prog.bind_op, Prog.bind_ret, Prog.pure_eq_ret]
  exact (P m).step_wait (rcv (4, 6)) rfl rfl (
    (P m).step_wait (snd (0, 0)) rfl rfl (
    (P m).step_wait (snd (0, 1)) rfl rfl (
    (P m).step_wait (snd (0, 2)) rfl rfl (
    hk _))))

theorem walk_42 {Q : β → sProp 𝕄} {R : sProp 𝕄} (k0_h5 : k0_cond5 i = 1#1) {k : _ → Prog (TpuEff nD τ sig (Elt F) Λ₀ .tc) β}
    (hk : ∀ r, (iprop((P m).St c [] w (snd (0, 6) :: snd (0, 5) :: snd (0, 4) :: snd (0, 3) :: d) ∗ R) ⊢ wp frame (wpE (defs₀ (F := F)) 𝒱₀ (c.tc : Thread nD τ) none) Set.univ (k r) Q)) :
    iprop((P m).St c [] (snd (0, 3) :: snd (0, 4) :: snd (0, 5) :: snd (0, 6) :: w) d ∗ R) ⊢ wp frame (wpE (defs₀ (F := F)) 𝒱₀ (c.tc : Thread nD τ) none) Set.univ (k0_part42 (F := F) i arg3 harg3 arg4 harg4 (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) arg10 harg10 (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) (Memref.whole cc0_scratch0) (Memref.isWhole_whole _) cc0_scratch1 cc0_scratch2 cc0_scratch3 k0_h5 c >>= k) Q := by
  rw [k0_part42_eq_skeleton]
  simp only [k0_part42_skel, Prog.lift, Prog.bind_op, Prog.bind_ret, Prog.pure_eq_ret]
  exact (P m).step_wait (snd (0, 3)) rfl rfl (
    (P m).step_wait (snd (0, 4)) rfl rfl (
    (P m).step_wait (snd (0, 5)) rfl rfl (
    (P m).step_wait (snd (0, 6)) rfl rfl (
    hk _))))

theorem walk_43 {Q : β → sProp 𝕄} {R : sProp 𝕄} (k0_h5 : k0_cond5 i = 1#1) {k : _ → Prog (TpuEff nD τ sig (Elt F) Λ₀ .tc) β}
    (hk : ∀ r, (iprop((P m).St c [] w (snd (1, 3) :: snd (1, 2) :: snd (1, 1) :: snd (1, 0) :: d) ∗ R) ⊢ wp frame (wpE (defs₀ (F := F)) 𝒱₀ (c.tc : Thread nD τ) none) Set.univ (k r) Q)) :
    iprop((P m).St c [] (snd (1, 0) :: snd (1, 1) :: snd (1, 2) :: snd (1, 3) :: w) d ∗ R) ⊢ wp frame (wpE (defs₀ (F := F)) 𝒱₀ (c.tc : Thread nD τ) none) Set.univ (k0_part43 (F := F) i arg3 harg3 arg4 harg4 (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) arg10 harg10 (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) (Memref.whole cc0_scratch0) (Memref.isWhole_whole _) cc0_scratch1 cc0_scratch2 cc0_scratch3 k0_h5 c >>= k) Q := by
  rw [k0_part43_eq_skeleton]
  simp only [k0_part43_skel, Prog.lift, Prog.bind_op, Prog.bind_ret, Prog.pure_eq_ret]
  exact (P m).step_wait (snd (1, 0)) rfl rfl (
    (P m).step_wait (snd (1, 1)) rfl rfl (
    (P m).step_wait (snd (1, 2)) rfl rfl (
    (P m).step_wait (snd (1, 3)) rfl rfl (
    hk _))))

theorem walk_44 {Q : β → sProp 𝕄} {R : sProp 𝕄} (k0_h5 : k0_cond5 i = 1#1) {k : _ → Prog (TpuEff nD τ sig (Elt F) Λ₀ .tc) β}
    (hk : ∀ r, (iprop((P m).St c [] w (snd (2, 0) :: snd (1, 6) :: snd (1, 5) :: snd (1, 4) :: d) ∗ R) ⊢ wp frame (wpE (defs₀ (F := F)) 𝒱₀ (c.tc : Thread nD τ) none) Set.univ (k r) Q)) :
    iprop((P m).St c [] (snd (1, 4) :: snd (1, 5) :: snd (1, 6) :: snd (2, 0) :: w) d ∗ R) ⊢ wp frame (wpE (defs₀ (F := F)) 𝒱₀ (c.tc : Thread nD τ) none) Set.univ (k0_part44 (F := F) i arg3 harg3 arg4 harg4 (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) arg10 harg10 (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) (Memref.whole cc0_scratch0) (Memref.isWhole_whole _) cc0_scratch1 cc0_scratch2 cc0_scratch3 k0_h5 c >>= k) Q := by
  rw [k0_part44_eq_skeleton]
  simp only [k0_part44_skel, Prog.lift, Prog.bind_op, Prog.bind_ret, Prog.pure_eq_ret]
  exact (P m).step_wait (snd (1, 4)) rfl rfl (
    (P m).step_wait (snd (1, 5)) rfl rfl (
    (P m).step_wait (snd (1, 6)) rfl rfl (
    (P m).step_wait (snd (2, 0)) rfl rfl (
    hk _))))

theorem walk_45 {Q : β → sProp 𝕄} {R : sProp 𝕄} (k0_h5 : k0_cond5 i = 1#1) {k : _ → Prog (TpuEff nD τ sig (Elt F) Λ₀ .tc) β}
    (hk : ∀ r, (iprop((P m).St c [] w (snd (2, 5) :: snd (2, 4) :: snd (2, 3) :: snd (2, 2) :: snd (2, 1) :: d) ∗ R) ⊢ wp frame (wpE (defs₀ (F := F)) 𝒱₀ (c.tc : Thread nD τ) none) Set.univ (k r) Q)) :
    iprop((P m).St c [] (snd (2, 1) :: snd (2, 2) :: snd (2, 3) :: snd (2, 4) :: snd (2, 5) :: w) d ∗ R) ⊢ wp frame (wpE (defs₀ (F := F)) 𝒱₀ (c.tc : Thread nD τ) none) Set.univ (k0_part45 (F := F) i arg3 harg3 arg4 harg4 (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) arg10 harg10 (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) (Memref.whole cc0_scratch0) (Memref.isWhole_whole _) cc0_scratch1 cc0_scratch2 cc0_scratch3 k0_h5 c >>= k) Q := by
  rw [k0_part45_eq_skeleton]
  simp only [k0_part45_skel, Prog.lift, Prog.bind_op, Prog.bind_ret, Prog.pure_eq_ret]
  exact (P m).step_wait (snd (2, 1)) rfl rfl (
    (P m).step_wait (snd (2, 2)) rfl rfl (
    (P m).step_wait (snd (2, 3)) rfl rfl (
    (P m).step_wait (snd (2, 4)) rfl rfl (
    (P m).step_wait (snd (2, 5)) rfl rfl (
    hk _)))))

theorem walk_46 {Q : β → sProp 𝕄} {R : sProp 𝕄} (k0_h5 : k0_cond5 i = 1#1) {k : _ → Prog (TpuEff nD τ sig (Elt F) Λ₀ .tc) β}
    (hk : ∀ r, (iprop((P m).St c [] w (snd (3, 2) :: snd (3, 1) :: snd (3, 0) :: snd (2, 6) :: d) ∗ R) ⊢ wp frame (wpE (defs₀ (F := F)) 𝒱₀ (c.tc : Thread nD τ) none) Set.univ (k r) Q)) :
    iprop((P m).St c [] (snd (2, 6) :: snd (3, 0) :: snd (3, 1) :: snd (3, 2) :: w) d ∗ R) ⊢ wp frame (wpE (defs₀ (F := F)) 𝒱₀ (c.tc : Thread nD τ) none) Set.univ (k0_part46 (F := F) i arg3 harg3 arg4 harg4 (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) arg10 harg10 (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) (Memref.whole cc0_scratch0) (Memref.isWhole_whole _) cc0_scratch1 cc0_scratch2 cc0_scratch3 k0_h5 c >>= k) Q := by
  rw [k0_part46_eq_skeleton]
  simp only [k0_part46_skel, Prog.lift, Prog.bind_op, Prog.bind_ret, Prog.pure_eq_ret]
  exact (P m).step_wait (snd (2, 6)) rfl rfl (
    (P m).step_wait (snd (3, 0)) rfl rfl (
    (P m).step_wait (snd (3, 1)) rfl rfl (
    (P m).step_wait (snd (3, 2)) rfl rfl (
    hk _))))

theorem walk_47 {Q : β → sProp 𝕄} {R : sProp 𝕄} (k0_h5 : k0_cond5 i = 1#1) {k : _ → Prog (TpuEff nD τ sig (Elt F) Λ₀ .tc) β}
    (hk : ∀ r, (iprop((P m).St c [] w (snd (3, 6) :: snd (3, 5) :: snd (3, 4) :: snd (3, 3) :: d) ∗ R) ⊢ wp frame (wpE (defs₀ (F := F)) 𝒱₀ (c.tc : Thread nD τ) none) Set.univ (k r) Q)) :
    iprop((P m).St c [] (snd (3, 3) :: snd (3, 4) :: snd (3, 5) :: snd (3, 6) :: w) d ∗ R) ⊢ wp frame (wpE (defs₀ (F := F)) 𝒱₀ (c.tc : Thread nD τ) none) Set.univ (k0_part47 (F := F) i arg3 harg3 arg4 harg4 (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) arg10 harg10 (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) (Memref.whole cc0_scratch0) (Memref.isWhole_whole _) cc0_scratch1 cc0_scratch2 cc0_scratch3 k0_h5 c >>= k) Q := by
  rw [k0_part47_eq_skeleton]
  simp only [k0_part47_skel, Prog.lift, Prog.bind_op, Prog.bind_ret, Prog.pure_eq_ret]
  exact (P m).step_wait (snd (3, 3)) rfl rfl (
    (P m).step_wait (snd (3, 4)) rfl rfl (
    (P m).step_wait (snd (3, 5)) rfl rfl (
    (P m).step_wait (snd (3, 6)) rfl rfl (
    hk _))))

theorem walk_48 {Q : β → sProp 𝕄} {R : sProp 𝕄} (k0_h5 : k0_cond5 i = 1#1) {k : _ → Prog (TpuEff nD τ sig (Elt F) Λ₀ .tc) β}
    (hk : ∀ r, (iprop((P m).St c [] w (snd (4, 4) :: snd (4, 3) :: snd (4, 2) :: snd (4, 1) :: snd (4, 0) :: d) ∗ R) ⊢ wp frame (wpE (defs₀ (F := F)) 𝒱₀ (c.tc : Thread nD τ) none) Set.univ (k r) Q)) :
    iprop((P m).St c [] (snd (4, 0) :: snd (4, 1) :: snd (4, 2) :: snd (4, 3) :: snd (4, 4) :: w) d ∗ R) ⊢ wp frame (wpE (defs₀ (F := F)) 𝒱₀ (c.tc : Thread nD τ) none) Set.univ (k0_part48 (F := F) i arg3 harg3 arg4 harg4 (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) arg10 harg10 (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) (Memref.whole cc0_scratch0) (Memref.isWhole_whole _) cc0_scratch1 cc0_scratch2 cc0_scratch3 k0_h5 c >>= k) Q := by
  rw [k0_part48_eq_skeleton]
  simp only [k0_part48_skel, Prog.lift, Prog.bind_op, Prog.bind_ret, Prog.pure_eq_ret]
  exact (P m).step_wait (snd (4, 0)) rfl rfl (
    (P m).step_wait (snd (4, 1)) rfl rfl (
    (P m).step_wait (snd (4, 2)) rfl rfl (
    (P m).step_wait (snd (4, 3)) rfl rfl (
    (P m).step_wait (snd (4, 4)) rfl rfl (
    hk _)))))

theorem walk_49 {Q : β → sProp 𝕄} {R : sProp 𝕄} (k0_h5 : k0_cond5 i = 1#1) {k : _ → Prog (TpuEff nD τ sig (Elt F) Λ₀ .tc) β}
    (hk : ∀ r, (iprop((P m).St c [] w (own 1 :: own 0 :: snd (4, 6) :: snd (4, 5) :: d) ∗ R) ⊢ wp frame (wpE (defs₀ (F := F)) 𝒱₀ (c.tc : Thread nD τ) none) Set.univ (k r) Q)) :
    iprop((P m).St c [] (snd (4, 5) :: snd (4, 6) :: own 0 :: own 1 :: w) d ∗ R) ⊢ wp frame (wpE (defs₀ (F := F)) 𝒱₀ (c.tc : Thread nD τ) none) Set.univ (k0_part49 (F := F) i arg3 harg3 arg4 harg4 (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) arg10 harg10 (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) (Memref.whole cc0_scratch0) (Memref.isWhole_whole _) cc0_scratch1 cc0_scratch2 cc0_scratch3 k0_h5 c >>= k) Q := by
  rw [k0_part49_eq_skeleton]
  simp only [k0_part49_skel, Prog.lift, Prog.bind_op, Prog.bind_ret, Prog.pure_eq_ret]
  exact (P m).step_wait (snd (4, 5)) rfl rfl (
    (P m).step_wait (snd (4, 6)) rfl rfl (
    (P m).step_wait (own 0) rfl rfl (
    (P m).step_wait (own 1) rfl rfl (
    hk _))))

/-! ## What is started and what is waited for, in order -/

abbrev starts : List ((Fin 5 × Fin 7) ⊕ Fin 5) := [.inr 0, .inr 1, .inr 2, .inr 3, .inr 4, .inl (0, 0), .inl (0, 1), .inl (0, 2), .inl (0, 3), .inl (0, 4),
  .inl (0, 5), .inl (0, 6), .inl (1, 0), .inl (1, 1), .inl (1, 2), .inl (1, 3), .inl (1, 4), .inl (1, 5), .inl (1, 6), .inl (2, 0),
  .inl (2, 1), .inl (2, 2), .inl (2, 3), .inl (2, 4), .inl (2, 5), .inl (2, 6), .inl (3, 0), .inl (3, 1), .inl (3, 2), .inl (3, 3),
  .inl (3, 4), .inl (3, 5), .inl (3, 6), .inl (4, 0), .inl (4, 1), .inl (4, 2), .inl (4, 3), .inl (4, 4), .inl (4, 5), .inl (4, 6)]
abbrev started : List (Cell (Fin 5 × Fin 7) (Fin 5)) := [.inl (4, 6), .inl (4, 5), .inl (4, 4), .inl (4, 3), .inl (4, 2), .inl (4, 1), .inl (4, 0), .inl (3, 6), .inl (3, 5), .inl (3, 4),
  .inl (3, 3), .inl (3, 2), .inl (3, 1), .inl (3, 0), .inl (2, 6), .inl (2, 5), .inl (2, 4), .inl (2, 3), .inl (2, 2), .inl (2, 1),
  .inl (2, 0), .inl (1, 6), .inl (1, 5), .inl (1, 4), .inl (1, 3), .inl (1, 2), .inl (1, 1), .inl (1, 0), .inl (0, 6), .inl (0, 5),
  .inl (0, 4), .inl (0, 3), .inl (0, 2), .inl (0, 1), .inl (0, 0), .inr (.inr 4), .inr (.inr 3), .inr (.inr 2), .inr (.inr 1), .inr (.inr 0)]
abbrev waits : List (Cell (Fin 5 × Fin 7) (Fin 5)) := [.inr (.inl (0, 0)), .inr (.inl (0, 1)), .inr (.inl (0, 2)), .inr (.inl (0, 3)), .inr (.inl (0, 4)), .inr (.inl (0, 5)), .inr (.inl (0, 6)), .inr (.inl (1, 0)), .inr (.inl (1, 1)), .inr (.inl (1, 2)),
  .inr (.inl (1, 3)), .inr (.inl (1, 4)), .inr (.inl (1, 5)), .inr (.inl (1, 6)), .inr (.inl (2, 0)), .inr (.inl (2, 1)), .inr (.inl (2, 2)), .inr (.inl (2, 3)), .inr (.inl (2, 4)), .inr (.inl (2, 5)),
  .inr (.inl (2, 6)), .inr (.inl (3, 0)), .inr (.inl (3, 1)), .inr (.inl (3, 2)), .inr (.inl (3, 3)), .inr (.inl (3, 4)), .inr (.inl (3, 5)), .inr (.inl (3, 6)), .inr (.inl (4, 0)), .inr (.inl (4, 1)),
  .inr (.inl (4, 2)), .inr (.inl (4, 3)), .inr (.inl (4, 4)), .inr (.inl (4, 5)), .inr (.inl (4, 6)), .inl (0, 0), .inl (0, 1), .inl (0, 2), .inl (0, 3), .inl (0, 4),
  .inl (0, 5), .inl (0, 6), .inl (1, 0), .inl (1, 1), .inl (1, 2), .inl (1, 3), .inl (1, 4), .inl (1, 5), .inl (1, 6), .inl (2, 0),
  .inl (2, 1), .inl (2, 2), .inl (2, 3), .inl (2, 4), .inl (2, 5), .inl (2, 6), .inl (3, 0), .inl (3, 1), .inl (3, 2), .inl (3, 3),
  .inl (3, 4), .inl (3, 5), .inl (3, 6), .inl (4, 0), .inl (4, 1), .inl (4, 2), .inl (4, 3), .inl (4, 4), .inl (4, 5), .inl (4, 6),
  .inr (.inr 0), .inr (.inr 1), .inr (.inr 2), .inr (.inr 3), .inr (.inr 4)]
abbrev waited : List (Cell (Fin 5 × Fin 7) (Fin 5)) := [.inr (.inr 4), .inr (.inr 3), .inr (.inr 2), .inr (.inr 1), .inr (.inr 0), .inl (4, 6), .inl (4, 5), .inl (4, 4), .inl (4, 3), .inl (4, 2),
  .inl (4, 1), .inl (4, 0), .inl (3, 6), .inl (3, 5), .inl (3, 4), .inl (3, 3), .inl (3, 2), .inl (3, 1), .inl (3, 0), .inl (2, 6),
  .inl (2, 5), .inl (2, 4), .inl (2, 3), .inl (2, 2), .inl (2, 1), .inl (2, 0), .inl (1, 6), .inl (1, 5), .inl (1, 4), .inl (1, 3),
  .inl (1, 2), .inl (1, 1), .inl (1, 0), .inl (0, 6), .inl (0, 5), .inl (0, 4), .inl (0, 3), .inl (0, 2), .inl (0, 1), .inl (0, 0),
  .inr (.inl (4, 6)), .inr (.inl (4, 5)), .inr (.inl (4, 4)), .inr (.inl (4, 3)), .inr (.inl (4, 2)), .inr (.inl (4, 1)), .inr (.inl (4, 0)), .inr (.inl (3, 6)), .inr (.inl (3, 5)), .inr (.inl (3, 4)),
  .inr (.inl (3, 3)), .inr (.inl (3, 2)), .inr (.inl (3, 1)), .inr (.inl (3, 0)), .inr (.inl (2, 6)), .inr (.inl (2, 5)), .inr (.inl (2, 4)), .inr (.inl (2, 3)), .inr (.inl (2, 2)), .inr (.inl (2, 1)),
  .inr (.inl (2, 0)), .inr (.inl (1, 6)), .inr (.inl (1, 5)), .inr (.inl (1, 4)), .inr (.inl (1, 3)), .inr (.inl (1, 2)), .inr (.inl (1, 1)), .inr (.inl (1, 0)), .inr (.inl (0, 6)), .inr (.inl (0, 5)),
  .inr (.inl (0, 4)), .inr (.inl (0, 3)), .inr (.inl (0, 2)), .inr (.inl (0, 1)), .inr (.inl (0, 0))]

end Cert.WeightIdeal.Gen
-- ==== Proof.WeightBody.lean ====
/-
  The kernel body at a grid point: it multiplies its two input blocks and puts the product into the accumulator (at the first of the points that share
  an output block) or adds it there; the last of these points stores the sum. The first point of the grid starts the exchange before that, and the last
  one waits for all of it afterwards.
-/
module

public import proofs.«01_k».proof.Proof.WeightWalk

@[expose] public section

noncomputable section

namespace Cert.WeightIdeal.Gen

open Cert.Exchange
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ sig) ℕ

variable {m : (ℓ : Loc nD τ sig) → Buf (Elt F) ℓ} {c : Dev nD} {β : Type} {i : grid0.Coords}
  {arg3 : Memref sig .tc .vmem S1280x1024 .bf16} {harg3 : arg3.IsWhole} {arg4 : Memref sig .tc .vmem S1280x1024 .bf16} {harg4 : arg4.IsWhole}
  {arg10 : Memref sig .tc .vmem S1024x1024 .bf16} {harg10 : arg10.IsWhole}
  {l : List ((Fin 5 × Fin 7) ⊕ Fin 5)} {w d : List (Cell (Fin 5 × Fin 7) (Fin 5))}
  {x : Vec F S1280x1024 .bf16} {y : Vec F S1280x1024 .bf16} {z : Vec F S1024x1024 .bf16} {a : Vec F S1024x1024 .f32}

/-- What a grid point holds besides the exchange. -/
abbrev point (c : Dev nD) (arg3 : Memref sig .tc .vmem S1280x1024 .bf16) (arg4 : Memref sig .tc .vmem S1280x1024 .bf16) (arg10 : Memref sig .tc .vmem S1024x1024 .bf16)
    (x : Vec F S1280x1024 .bf16) (y : Vec F S1280x1024 .bf16) (z : Vec F S1024x1024 .bf16) (a : Vec F S1024x1024 .f32) : sProp 𝕄 :=
  four c arg3 arg4 arg10 (Memref.whole cc0_scratch0) x y z a

/-- A point starts its sum, or adds to it. -/
abbrev resets (i : grid0.Coords) : Prop := Scalar.cmpi .ne (Scalar.extui (Scalar.cmpi .eq (BitVec.ofNat 32 (i 2).val) 0#32) : BitVec 32) 0#32 = 1#1
abbrev adds (i : grid0.Coords) : Prop := Scalar.cmpi .ne (Scalar.extui (Scalar.cmpi .sgt (BitVec.ofNat 32 (i 2).val) 0#32) : BitVec 32) 0#32 = 1#1

set_option maxRecDepth 65536 in
/-- A point that starts a sum. -/
theorem body_reset {S : sProp 𝕄} (h1 : ¬ k0_cond1 i = 1#1) (h2 : resets i) (h3 : ¬ adds i) (h4 : ¬ k0_cond4 i = 1#1) (h5 : ¬ k0_cond5 i = 1#1) :
    iprop(S ∗ point c arg3 arg4 arg10 x y z a) ⊢ wp frame (wpE (defs₀ (F := F)) 𝒱₀ (c.tc : Thread nD τ) none) Set.univ
      (cc0_g_w_in (F := F) i arg3 harg3 arg4 harg4 (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) arg10 harg10 (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) (Memref.whole cc0_scratch0) (Memref.isWhole_whole _) cc0_scratch1 cc0_scratch2 cc0_scratch3) (fun _ => iprop(S ∗ point c arg3 arg4 arg10 x y z (k0_pay2 x y))) := by
  rw [cc0_g_w_in_eq_skeleton]
  unfold cc0_g_w_in_skel
  rw [dif_neg h1]
  simp only [Prog.lift, Prog.bind_op, Prog.bind_ret, Prog.pure_eq_ret]
  refine load_0 harg3 zeros ?_
  refine load_1 harg4 zeros ?_
  rw [dif_pos h2, dif_neg h3]
  simp only [Prog.lift, Prog.bind_op, Prog.bind_ret, Prog.pure_eq_ret]
  refine load_3 (Memref.isWhole_whole _) zeros ?_
  refine store_3 (Memref.isWhole_whole _) zeros ?_
  rw [dif_neg h4, dif_neg h5]
  simp only [Prog.lift, Prog.bind_op, Prog.bind_ret, Prog.pure_eq_ret]
  rw [wp_ret]; exact fupd_intro

set_option maxRecDepth 65536 in
/-- A point that adds to a sum. -/
theorem body_add {S : sProp 𝕄} (h1 : ¬ k0_cond1 i = 1#1) (h2 : ¬ resets i) (h3 : adds i) (h4 : ¬ k0_cond4 i = 1#1) (h5 : ¬ k0_cond5 i = 1#1) :
    iprop(S ∗ point c arg3 arg4 arg10 x y z a) ⊢ wp frame (wpE (defs₀ (F := F)) 𝒱₀ (c.tc : Thread nD τ) none) Set.univ
      (cc0_g_w_in (F := F) i arg3 harg3 arg4 harg4 (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) arg10 harg10 (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) (Memref.whole cc0_scratch0) (Memref.isWhole_whole _) cc0_scratch1 cc0_scratch2 cc0_scratch3) (fun _ => iprop(S ∗ point c arg3 arg4 arg10 x y z (k0_pay3 x y a))) := by
  rw [cc0_g_w_in_eq_skeleton]
  unfold cc0_g_w_in_skel
  rw [dif_neg h1]
  simp only [Prog.lift, Prog.bind_op, Prog.bind_ret, Prog.pure_eq_ret]
  refine load_0 harg3 zeros ?_
  refine load_1 harg4 zeros ?_
  rw [dif_neg h2, dif_pos h3]
  simp only [Prog.lift, Prog.bind_op, Prog.bind_ret, Prog.pure_eq_ret]
  refine load_3 (Memref.isWhole_whole _) zeros ?_
  refine load_3 (Memref.isWhole_whole _) zeros ?_
  refine store_3 (Memref.isWhole_whole _) zeros ?_
  rw [dif_neg h4, dif_neg h5]
  simp only [Prog.lift, Prog.bind_op, Prog.bind_ret, Prog.pure_eq_ret]
  rw [wp_ret]; exact fupd_intro

set_option maxRecDepth 65536 in
/-- A point that ends a sum. -/
theorem body_store {S : sProp 𝕄} (h1 : ¬ k0_cond1 i = 1#1) (h2 : ¬ resets i) (h3 : adds i) (h4 : k0_cond4 i = 1#1) (h5 : ¬ k0_cond5 i = 1#1) :
    iprop(S ∗ point c arg3 arg4 arg10 x y z a) ⊢ wp frame (wpE (defs₀ (F := F)) 𝒱₀ (c.tc : Thread nD τ) none) Set.univ
      (cc0_g_w_in (F := F) i arg3 harg3 arg4 harg4 (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) arg10 harg10 (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) (Memref.whole cc0_scratch0) (Memref.isWhole_whole _) cc0_scratch1 cc0_scratch2 cc0_scratch3) (fun _ => iprop(S ∗ point c arg3 arg4 arg10 x y (k0_pay4 (k0_pay3 x y a)) (k0_pay3 x y a))) := by
  rw [cc0_g_w_in_eq_skeleton]
  unfold cc0_g_w_in_skel
  rw [dif_neg h1]
  simp only [Prog.lift, Prog.bind_op, Prog.bind_ret, Prog.pure_eq_ret]
  refine load_0 harg3 zeros ?_
  refine load_1 harg4 zeros ?_
  rw [dif_neg h2, dif_pos h3]
  simp only [Prog.lift, Prog.bind_op, Prog.bind_ret, Prog.pure_eq_ret]
  refine load_3 (Memref.isWhole_whole _) zeros ?_
  refine load_3 (Memref.isWhole_whole _) zeros ?_
  refine store_3 (Memref.isWhole_whole _) zeros ?_
  rw [dif_pos h4]
  simp only [Prog.lift, Prog.bind_op, Prog.bind_ret, Prog.pure_eq_ret]
  refine load_3 (Memref.isWhole_whole _) zeros ?_
  refine load_2 harg10 zeros ?_
  refine store_2 harg10 zeros ?_
  rw [dif_neg h5]
  simp only [Prog.lift, Prog.bind_op, Prog.bind_ret, Prog.pure_eq_ret]
  rw [wp_ret]; exact fupd_intro

set_option maxRecDepth 65536 in
/-- The first point. -/
theorem body_first (h1 : k0_cond1 i = 1#1) (h2 : resets i) (h3 : ¬ adds i) (h4 : ¬ k0_cond4 i = 1#1) (h5 : ¬ k0_cond5 i = 1#1) :
    iprop((P m).St c starts w d ∗ point c arg3 arg4 arg10 x y z a) ⊢ wp frame (wpE (defs₀ (F := F)) 𝒱₀ (c.tc : Thread nD τ) none) Set.univ
      (cc0_g_w_in (F := F) i arg3 harg3 arg4 harg4 (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) arg10 harg10 (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) (Memref.whole cc0_scratch0) (Memref.isWhole_whole _) cc0_scratch1 cc0_scratch2 cc0_scratch3) (fun _ => iprop((P m).St c [] (started ++ w) d ∗ point c arg3 arg4 arg10 x y z (k0_pay2 x y))) := by
  rw [cc0_g_w_in_eq_skeleton]
  unfold cc0_g_w_in_skel
  rw [dif_pos h1]
  refine walk_1 (fun r hr => ?_)
  obtain ⟨d, _, _, _, _, _, _, _, _, _, _⟩ := r
  obtain rfl : c = d := hr.symm
  refine walk_2 (fun r => ?_)
  obtain ⟨_, _, _, _, _, _, _, _, _, _, _, _⟩ := r
  refine walk_3 (fun r => ?_)
  obtain ⟨_, _, _, _, _, _, _, _, _, _, _⟩ := r
  refine walk_4 (fun r => ?_)
  obtain ⟨_, _, _, _, _, _, _, _, _, _, _, _⟩ := r
  refine walk_5 (fun r => ?_)
  obtain ⟨_, _, _, _, _, _, _, _, _, _, _, _⟩ := r
  refine walk_6 h1 (fun r => ?_)
  obtain ⟨_, _, _, _, _, _, _, _, _, _⟩ := r
  refine walk_7 h1 (fun r => ?_)
  obtain ⟨_, _⟩ := r
  refine walk_8 h1 (fun _ => ?_)
  refine walk_9 h1 (fun _ => ?_)
  refine walk_10 h1 (fun _ => ?_)
  refine walk_11 h1 (fun _ => ?_)
  refine walk_12 h1 (fun r => ?_)
  obtain ⟨_, _⟩ := r
  refine walk_13 h1 (fun _ => ?_)
  refine walk_14 h1 (fun _ => ?_)
  refine walk_15 h1 (fun _ => ?_)
  refine walk_16 h1 (fun _ => ?_)
  refine walk_17 h1 (fun r => ?_)
  obtain ⟨_, _⟩ := r
  refine walk_18 h1 (fun _ => ?_)
  refine walk_19 h1 (fun _ => ?_)
  refine walk_20 h1 (fun _ => ?_)
  refine walk_21 h1 (fun _ => ?_)
  simp only [Prog.lift, Prog.bind_op, Prog.bind_ret, Prog.pure_eq_ret]
  refine push_4 5 (Fin.ext ((k0_dev34_eq c).trans (peer_5 c))) (off3_at c) (off23_at c) rfl rfl (
    push_4 6 (Fin.ext ((k0_dev35_eq c).trans (peer_6 c))) (off3_at c) (off24_at c) rfl rfl (
    ?_))
  refine load_0 harg3 zeros ?_
  refine load_1 harg4 zeros ?_
  rw [dif_pos h2, dif_neg h3]
  simp only [Prog.lift, Prog.bind_op, Prog.bind_ret, Prog.pure_eq_ret]
  refine load_3 (Memref.isWhole_whole _) zeros ?_
  refine store_3 (Memref.isWhole_whole _) zeros ?_
  rw [dif_neg h4, dif_neg h5]
  simp only [Prog.lift, Prog.bind_op, Prog.bind_ret, Prog.pure_eq_ret]
  rw [wp_ret]; exact fupd_intro

set_option maxRecDepth 65536 in
/-- The last point. -/
theorem body_last (h1 : ¬ k0_cond1 i = 1#1) (h2 : ¬ resets i) (h3 : adds i) (h4 : k0_cond4 i = 1#1) (h5 : k0_cond5 i = 1#1) :
    iprop((P m).St c [] waits [] ∗ point c arg3 arg4 arg10 x y z a) ⊢ wp frame (wpE (defs₀ (F := F)) 𝒱₀ (c.tc : Thread nD τ) none) Set.univ
      (cc0_g_w_in (F := F) i arg3 harg3 arg4 harg4 (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) arg10 harg10 (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) (Memref.whole cc0_scratch0) (Memref.isWhole_whole _) cc0_scratch1 cc0_scratch2 cc0_scratch3) (fun _ => iprop((P m).St c [] [] waited ∗ point c arg3 arg4 arg10 x y (k0_pay4 (k0_pay3 x y a)) (k0_pay3 x y a))) := by
  rw [cc0_g_w_in_eq_skeleton]
  unfold cc0_g_w_in_skel
  rw [dif_neg h1]
  simp only [Prog.lift, Prog.bind_op, Prog.bind_ret, Prog.pure_eq_ret]
  refine load_0 harg3 zeros ?_
  refine load_1 harg4 zeros ?_
  rw [dif_neg h2, dif_pos h3]
  simp only [Prog.lift, Prog.bind_op, Prog.bind_ret, Prog.pure_eq_ret]
  refine load_3 (Memref.isWhole_whole _) zeros ?_
  refine load_3 (Memref.isWhole_whole _) zeros ?_
  refine store_3 (Memref.isWhole_whole _) zeros ?_
  rw [dif_pos h4]
  simp only [Prog.lift, Prog.bind_op, Prog.bind_ret, Prog.pure_eq_ret]
  refine load_3 (Memref.isWhole_whole _) zeros ?_
  refine load_2 harg10 zeros ?_
  refine store_2 harg10 zeros ?_
  rw [dif_pos h5]
  refine walk_22 (fun r hr => ?_)
  obtain ⟨d, _, _, _, _, _, _, _, _, _, _⟩ := r
  obtain rfl : c = d := hr.symm
  refine walk_23 (fun r => ?_)
  obtain ⟨_, _, _, _, _, _, _, _, _, _, _, _⟩ := r
  refine walk_24 (fun r => ?_)
  obtain ⟨_, _, _, _, _, _, _, _, _, _, _⟩ := r
  refine walk_25 (fun r => ?_)
  obtain ⟨_, _, _, _, _, _, _, _, _, _, _, _⟩ := r
  refine walk_26 (fun r => ?_)
  obtain ⟨_, _, _, _, _, _, _, _, _, _, _, _⟩ := r
  refine walk_27 (fun r => ?_)
  obtain ⟨_, _, _, _, _, _, _, _, _, _, _, _⟩ := r
  refine walk_28 h5 (fun _ => ?_)
  refine walk_29 h5 (fun _ => ?_)
  refine walk_30 h5 (fun _ => ?_)
  refine walk_31 h5 (fun _ => ?_)
  refine walk_32 h5 (fun _ => ?_)
  refine walk_33 h5 (fun _ => ?_)
  refine walk_34 h5 (fun _ => ?_)
  refine walk_35 h5 (fun r => ?_)
  obtain ⟨_, _⟩ := r
  refine walk_36 h5 (fun _ => ?_)
  refine walk_37 h5 (fun r => ?_)
  obtain ⟨_, _⟩ := r
  refine walk_38 h5 (fun _ => ?_)
  refine walk_39 h5 (fun _ => ?_)
  refine walk_40 h5 (fun _ => ?_)
  refine walk_41 h5 (fun _ => ?_)
  refine walk_42 h5 (fun _ => ?_)
  refine walk_43 h5 (fun _ => ?_)
  refine walk_44 h5 (fun _ => ?_)
  refine walk_45 h5 (fun _ => ?_)
  refine walk_46 h5 (fun _ => ?_)
  refine walk_47 h5 (fun _ => ?_)
  refine walk_48 h5 (fun _ => ?_)
  refine walk_49 h5 (fun _ => ?_)
  simp only [Prog.lift, Prog.bind_op, Prog.bind_ret, Prog.pure_eq_ret]
  refine (P m).step_wait (own 2) rfl rfl (
    (P m).step_wait (own 3) rfl rfl (
    (P m).step_wait (own 4) rfl rfl (
    ?_)))
  rw [wp_ret]; exact fupd_intro

end Cert.WeightIdeal.Gen
-- ==== Proof.WeightRun.lean ====
/-
  The run of the kernel: the sums that the accumulator goes through, the protocol of the exchange at each grid point, and what every final state holds.
-/
module

public import proofs.«01_k».proof.Proof.WeightBody
public import proofs.«01_k».proof.Proof.Gen.WeightIdeal.Launch
public import Idealize.ShloMosaic.Lib.Pipeline.FrameBody

@[expose] public section

noncomputable section

namespace Cert.WeightIdeal.Gen

open Cert.Exchange
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

open Idealize.ShloMosaic.Rounds
open Idealize.ShloMosaic.Pipeline (Dat BodyObligation)

variable {F : FTy → Type} [FloatOps F]

local notation "𝕄" => MT nD τ sig Unit (Elt F) ℕ (UU nD τ sig) ℕ

variable (m : (ℓ : Loc nD τ sig) → Buf (Elt F) ℓ) (ρ : Dev nD → PrngReg)

/-! ## The grid -/

theorem cond1_iff : ∀ t : Fin cfg0.N, k0_cond1 (grid0.coords t) = 1#1 ↔ t.val = 0 := by
  show ∀ t : Fin grid0.N, k0_cond1 (grid0.coords t) = 1#1 ↔ t.val = 0
  decide +kernel
theorem resets_iff : ∀ t : Fin cfg0.N, resets (grid0.coords t) ↔ t.val % 13 = 0 := by
  show ∀ t : Fin grid0.N, resets (grid0.coords t) ↔ t.val % 13 = 0
  decide +kernel
theorem adds_iff : ∀ t : Fin cfg0.N, adds (grid0.coords t) ↔ ¬ t.val % 13 = 0 := by
  show ∀ t : Fin grid0.N, adds (grid0.coords t) ↔ ¬ t.val % 13 = 0
  decide +kernel
theorem cond4_iff : ∀ t : Fin cfg0.N, k0_cond4 (grid0.coords t) = 1#1 ↔ t.val % 13 = 12 := by
  show ∀ t : Fin grid0.N, k0_cond4 (grid0.coords t) = 1#1 ↔ t.val % 13 = 12
  decide +kernel
theorem cond5_iff : ∀ t : Fin cfg0.N, k0_cond5 (grid0.coords t) = 1#1 ↔ t.val = 103 := by
  show ∀ t : Fin grid0.N, k0_cond5 (grid0.coords t) = 1#1 ↔ t.val = 103
  decide +kernel
theorem idle_iff : ∀ t : Fin cfg0.N, cfg0.idle 2 (cfg0.grid.coords t) = true ↔ ¬ t.val % 13 = 12 := by
  show ∀ t : Fin grid0.N, idle0 2 (grid0.coords t) = true ↔ ¬ t.val % 13 = 12
  decide +kernel

/-! ## The sums -/

/-- Input block `w` at point `t`. -/
def blockAt (c : Dev nD) (w : Fin cfg0.W) (t : Fin cfg0.N) : ((cfg0.win w).xblock (cfg0.grid.coords t)).Idx → Elt F (cfg0.win w).elt :=
  ((cfg0.win w).blk t).view.read (Elt F) (m ((c.tc : Thread nD τ).loc (Pipeline.arrRef spec0 w)))

/-- The accumulator after point `n`. -/
def sumAt (c : Dev nD) : ℕ → Vec F S1024x1024 .f32
  | 0 => k0_pay2 (blockAt m c 0 ⟨0, by decide⟩) (blockAt m c 1 ⟨0, by decide⟩)
  | n + 1 =>
    if h : n + 1 < cfg0.N then
      if (n + 1) % 13 = 0 then k0_pay2 (blockAt m c 0 ⟨n + 1, h⟩) (blockAt m c 1 ⟨n + 1, h⟩)
      else k0_pay3 (blockAt m c 0 ⟨n + 1, h⟩) (blockAt m c 1 ⟨n + 1, h⟩) (sumAt c n)
    else sumAt c n

theorem sumAt_reset (c : Dev nD) (t : Fin cfg0.N) (h : t.val % 13 = 0) : sumAt m c t.val = k0_pay2 (blockAt m c 0 t) (blockAt m c 1 t) := by
  obtain ⟨n, hn⟩ := t
  cases n with
  | zero => rfl
  | succ n =>
    show sumAt m c (n + 1) = _
    rw [sumAt, dif_pos hn, if_pos h]
theorem sumAt_add (c : Dev nD) (t : Fin cfg0.N) (h : ¬ t.val % 13 = 0) :
    sumAt m c t.val = k0_pay3 (blockAt m c 0 t) (blockAt m c 1 t) (sumAt m c (t.val - 1)) := by
  obtain ⟨n, hn⟩ := t
  cases n with
  | zero => exact absurd rfl h
  | succ n =>
    show sumAt m c (n + 1) = _
    rw [sumAt, dif_pos hn, if_neg h]; rfl

/-- The block that a sum's last point stores. -/
def outAt (c : Dev nD) (t : Fin cfg0.N) : Vec F S1024x1024 .bf16 := k0_pay4 (sumAt m c t.val)

/-- The accumulator before point `n`: anything at first, afterwards what the point before has left. -/
def scratch (c : Dev nD) (n : ℕ) : sProp 𝕄 :=
  iprop(∃ a : Vec F S1024x1024 .f32, ⌜n ≠ 0 → a = sumAt m c (n - 1)⌝ ∗ owns (c.tc : Thread nD τ) (Memref.whole cc0_scratch0) fullShare a)

/-- The exchange before point `n`. -/
def stage (c : Dev nD) (n : ℕ) : sProp 𝕄 := if n = 0 then (P m).begin c else if n = 104 then (P m).fin c else (P m).mid c

def dats (_ : Fin 1) (c : Dev nD) : Dat τ (Elt F) Unit ℕ (UU nD τ sig) ℕ cfg0 c where
  A w := m ((c.tc : Thread nD τ).loc (Pipeline.arrRef spec0 w))
  after w t := match w with
    | ⟨0, _⟩ => blockAt m c 0 t
    | ⟨1, _⟩ => blockAt m c 1 t
    | ⟨2, _⟩ => outAt m c t
  Φ t := iprop(stage m c t.val ∗ scratch m c t.val)
  q _ := fullShare
  owed t := if t.val = 0 then (P m).O₀ c else 0

theorem before_0 (c : Dev nD) (t : Fin cfg0.N) (d) : (dats m 0 c).before 0 t d = blockAt m c 0 t :=
  ((dats m 0 c).before_in_eq_fetched 0 rfl (fun _ => rfl) (fun _ _ _ => rfl) (fun _ => rfl) t d).trans rfl
theorem before_1 (c : Dev nD) (t : Fin cfg0.N) (d) : (dats m 0 c).before 1 t d = blockAt m c 1 t :=
  ((dats m 0 c).before_in_eq_fetched 1 rfl (fun _ => rfl) (fun _ _ _ => rfl) (fun _ => rfl) t d).trans rfl

theorem Φ_eq (c : Dev nD) (t : Fin (cfg0.N + 1)) : (dats m 0 c).Φ t = iprop(stage m c t.val ∗ scratch m c t.val) := rfl
theorem owed_later (c : Dev nD) (t : Fin (cfg0.N + 1)) (h : ¬ t.val = 0) : (dats m 0 c).owed t = 0 := if_neg h
theorem owes_out (c : Dev nD) (t : Fin (cfg0.N + 1)) (O : CellTallies nD τ sig Unit) (h : (dats m 0 c).owed t = O) :
    ((dats m 0 c).owesAt () t : sProp 𝕄) ⊢ iprop(∃ W, owes (c.tc : Thread nD τ) O W) := by
  subst h
  unfold Dat.owesAt Pipeline.owesWithin
  iintro ⟨%W, -, H⟩
  iexists W; iexact H
theorem owes_in (c : Dev nD) (t : Fin (cfg0.N + 1)) (O : CellTallies nD τ sig Unit) (h : (dats m 0 c).owed t = O) :
    iprop(∃ W, owes (c.tc : Thread nD τ) O W) ⊢ ((dats m 0 c).owesAt () t : sProp 𝕄) := by
  subst h
  unfold Dat.owesAt Pipeline.owesWithin
  iintro ⟨%W, H⟩
  iexists W; isplitr; · ipureintro; exact fun _ _ => Or.inl trivial
  iexact H

/-! ## The body at each point -/

theorem windows (Φ : Fin cfg0.W → sProp 𝕄) : bigSep Finset.univ Φ = iprop(Φ (0 : Fin 3) ∗ Φ (1 : Fin 3) ∗ Φ (2 : Fin 3)) := bigSep_W0 Φ

/-- The output block where a sum goes on, and where it ends. -/
theorem leave_on (c : Dev nD) (t : Fin cfg0.N) (h : ¬ t.val % 13 = 12) (d) :
    (owns (c.tc : Thread nD τ) (st0_2 t) fullShare ((dats m 0 c).before 2 t d) : sProp 𝕄) ⊢ (dats m 0 c).leavesExact 2 t := by
  rw [(dats m 0 c).leavesExact_idle 2 t ((idle_iff t).mpr h) (Bool.eq_false_iff.mpr fun hf => h ((flush0_2 t).mp hf))]
  iintro H; iexists d; iexact H
theorem leave_end (c : Dev nD) (t : Fin cfg0.N) (h : t.val % 13 = 12) :
    (owns (c.tc : Thread nD τ) (st0_2 t) fullShare (outAt m c t) : sProp 𝕄) ⊢ (dats m 0 c).leavesExact 2 t := by
  have hi : cfg0.idle 2 (cfg0.grid.coords t) = false := Bool.eq_false_iff.mpr fun hi => (idle_iff t).mp hi h
  unfold Dat.leavesExact; rw [hi]
  iintro H; iexact H

set_option maxRecDepth 8000 in
/-- The body at a point from the exchange's steps before and after it. -/
theorem at_point (c : Dev nD) (t : Fin cfg0.N) (S T : sProp 𝕄) (out : Vec F S1024x1024 .bf16 → Vec F S1024x1024 .bf16)
    (hS : iprop(stage m c t.val ∗ (dats m 0 c).owesAt () t.castSucc) ⊢ S)
    (hT : T ⊢ iprop(stage m c (t.val + 1) ∗ (dats m 0 c).owesAt () t.succ))
    (hz : ∀ d, (owns (c.tc : Thread nD τ) (st0_2 t) fullShare (out ((dats m 0 c).before 2 t d)) : sProp 𝕄) ⊢ (dats m 0 c).leavesExact 2 t)
    (hb : ∀ z a, (t.val ≠ 0 → a = sumAt m c (t.val - 1)) → (iprop(S ∗ point c (st0_0 t) (st0_1 t) (st0_2 t) (blockAt m c 0 t) (blockAt m c 1 t) z a)
      ⊢ wp frame (wpE (defs₀ (F := F)) 𝒱₀ (c.tc : Thread nD τ) none) Set.univ (bodyAt0 t)
          (fun _ => iprop(T ∗ point c (st0_0 t) (st0_1 t) (st0_2 t) (blockAt m c 0 t) (blockAt m c 1 t) (out z) (sumAt m c t.val))))) :
    iprop((dats m 0 c).Φ t.castSucc ∗ (dats m 0 c).owesAt () t.castSucc
        ∗ bigSep Finset.univ fun w : Fin cfg0.W => iprop(∃ d, owns (c.tc : Thread nD τ) ((cfg0.win w).stage (cfg0.slots t w)) fullShare ((dats m 0 c).before w t d)))
      ⊢ wp frame (wpE (defs₀ (F := F)) 𝒱₀ (c.tc : Thread nD τ) none) Set.univ (bodyAt0 t) fun _ =>
          iprop((dats m 0 c).Φ t.succ ∗ (dats m 0 c).owesAt () t.succ ∗ bigSep Finset.univ fun w : Fin cfg0.W => (dats m 0 c).leavesExact w t) := by
  rw [windows, windows, Φ_eq, Φ_eq]
  have hT' (d) : iprop(T ∗ point c (st0_0 t) (st0_1 t) (st0_2 t) (blockAt m c 0 t) (blockAt m c 1 t) (out ((dats m 0 c).before 2 t d)) (sumAt m c t.val))
      ⊢ iprop((stage m c t.succ.val ∗ scratch m c t.succ.val) ∗ (dats m 0 c).owesAt () t.succ
        ∗ (dats m 0 c).leavesExact 0 t ∗ (dats m 0 c).leavesExact 1 t ∗ (dats m 0 c).leavesExact 2 t) := by
    refine (sep_mono_left hT).trans ?_
    unfold point four
    iintro ⟨⟨HΦ, HO⟩, H0, H1, H2, HA⟩
    isplitl [HΦ HA]
    · isplitl [HΦ]; · iexact HΦ
      unfold scratch
      iexists sumAt m c t.val
      isplitr; · ipureintro; exact fun _ => rfl
      iexact HA
    isplitl [HO]; · iexact HO
    isplitl [H0]; · iexact H0
    isplitl [H1]; · iexact H1
    iapply (hz d); iexact H2
  iintro ⟨⟨HΦ, HA⟩, HO, ⟨%d0, H0⟩, ⟨%d1, H1⟩, ⟨%d2, H2⟩⟩
  unfold scratch
  icases HA with ⟨%a, %ha, HA⟩
  iapply ((hb ((dats m 0 c).before 2 t d2) a ha).trans (wp_mono _ _ _ fun _ => hT' d2))
  rw [before_0, before_1]
  isplitl [HΦ HO]
  · iapply hS; isplitl [HΦ]; · iexact HΦ
    iexact HO
  unfold point four
  isplitl [H0]; · iexact H0
  isplitl [H1]; · iexact H1
  isplitl [H2]; · iexact H2
  iexact HA

abbrev lands : List (Fin 5 × Fin 7) := (List.finRange 5).flatMap fun k => (List.finRange 7).map fun i => (k, i)

theorem stage_mid (c : Dev nD) (n : ℕ) (h0 : ¬ n = 0) (hN : ¬ n = 104) : stage m c n = (P m).mid c := by unfold stage; rw [if_neg h0, if_neg hN]
theorem stage_fin (c : Dev nD) : stage m c 104 = (P m).fin c := rfl
theorem stage_begin (c : Dev nD) : stage m c 0 = (P m).begin c := rfl

/-- A point at which the exchange rests. -/
theorem rest_in (c : Dev nD) (t : Fin cfg0.N) (h0 : ¬ t.val = 0) :
    iprop(stage m c t.val ∗ (dats m 0 c).owesAt () t.castSucc) ⊢ iprop((P m).mid c ∗ ∃ W, owes (c.tc : Thread nD τ) 0 W) := by
  have hN : cfg0.N = 104 := N_0
  have ht := t.isLt
  rw [stage_mid m c t.val h0 (by omega)]
  exact sep_mono_right (owes_out m c t.castSucc 0 (owed_later m c t.castSucc h0))
theorem rest_out (c : Dev nD) (t : Fin cfg0.N) (hl : ¬ t.val = 103) :
    iprop((P m).mid c ∗ ∃ W, owes (c.tc : Thread nD τ) 0 W) ⊢ iprop(stage m c (t.val + 1) ∗ (dats m 0 c).owesAt () t.succ) := by
  rw [stage_mid m c (t.val + 1) (by omega) (by omega)]
  exact sep_mono_right (owes_in m c t.succ 0 (owed_later m c t.succ (show ¬ t.val + 1 = 0 by omega)))

set_option maxRecDepth 8000 in
theorem body_obligation (c : Dev nD) : BodyObligation (dats (F := F) m 0 c) (defs₀ (F := F)) 𝒱₀ () Set.univ := fun t => by
  have hN : cfg0.N = 104 := N_0
  have ht := t.isLt
  by_cases h0 : t.val = 0
  · -- the first point
    refine at_point m c t ((P m).St c starts (lands.map rcv) []) ((P m).St c [] (started ++ lands.map rcv) []) id ?_ ?_ (leave_on m c t (by omega))
      fun z a ha => ?_
    · rw [h0, stage_begin]
      refine (sep_mono_right (owes_out m c t.castSucc ((P m).O₀ c) (if_pos h0))).trans ?_
      iintro ⟨HM, %W, HO⟩
      iapply ((P m).begin_St c starts (by decide) (by decide) lands (by decide) (by decide) W)
      isplitl [HM] <;> iassumption
    · refine ((P m).St_mid c (started ++ lands.map rcv) (by decide) (by decide)).trans ?_
      exact rest_out m c t (by omega)
    · rw [sumAt_reset m c t (by omega)]
      exact body_first ((cond1_iff t).mpr h0) ((resets_iff t).mpr (by omega)) (fun h => absurd ((adds_iff t).mp h) (by omega))
        (fun h => absurd ((cond4_iff t).mp h) (by omega)) (fun h => absurd ((cond5_iff t).mp h) (by omega))
  have h1 : ¬ k0_cond1 (grid0.coords t) = 1#1 := fun h => h0 ((cond1_iff t).mp h)
  by_cases hr : t.val % 13 = 0
  · -- a sum starts
    refine at_point m c t _ _ id (rest_in m c t h0) (rest_out m c t (by omega)) (leave_on m c t (by omega)) fun z a ha => ?_
    rw [sumAt_reset m c t hr]
    exact body_reset h1 ((resets_iff t).mpr hr) (fun h => (adds_iff t).mp h hr) (fun h => absurd ((cond4_iff t).mp h) (by omega)) (fun h => absurd ((cond5_iff t).mp h) (by omega))
  have h2 : ¬ resets (grid0.coords t) := fun h => hr ((resets_iff t).mp h)
  have h3 : adds (grid0.coords t) := (adds_iff t).mpr hr
  by_cases he : t.val % 13 = 12
  · by_cases hl : t.val = 103
    · -- the last point
      refine at_point m c t ((P m).St c [] waits []) ((P m).St c [] [] waited) (fun _ => outAt m c t) ?_ ?_ (fun _ => leave_end m c t he) fun z a ha => ?_
      · refine (rest_in m c t h0).trans ?_
        iintro ⟨HM, %W, HO⟩
        iapply ((P m).mid_St c waits (by decide) (by decide) W)
        isplitl [HM] <;> iassumption
      · refine ((P m).St_fin c waited (by decide) (by decide)).trans ?_
        rw [hl, stage_fin]
        exact sep_mono_right (owes_in m c t.succ 0 (owed_later m c t.succ (show ¬ t.val + 1 = 0 by omega)))
      · unfold outAt
        rw [sumAt_add m c t hr, ← ha h0]
        exact body_last h1 h2 h3 ((cond4_iff t).mpr he) ((cond5_iff t).mpr hl)
    · -- a sum ends
      refine at_point m c t _ _ (fun _ => outAt m c t) (rest_in m c t h0) (rest_out m c t hl) (fun _ => leave_end m c t he) fun z a ha => ?_
      unfold outAt
      rw [sumAt_add m c t hr, ← ha h0]
      exact body_store h1 h2 h3 ((cond4_iff t).mpr he) (fun h => hl ((cond5_iff t).mp h))
  · -- a sum goes on
    refine at_point m c t _ _ id (rest_in m c t h0) (rest_out m c t (by omega)) (leave_on m c t he) fun z a ha => ?_
    rw [sumAt_add m c t hr, ← ha h0]
    exact body_add h1 h2 h3 (fun h => he ((cond4_iff t).mp h)) (fun h => absurd ((cond5_iff t).mp h) (by omega))

/-! ## The launch -/

theorem arrays_dealt : (bigSep Finset.univ fun c : Dev nD => Pipeline.unscopedRestP (Pipeline.Prefetch.none (sig := sig)) cfg0.spec c (fun b => m ((c.tc : Thread nD τ).loc b)) : sProp 𝕄)
    ⊢ bigSep Finset.univ fun c => iprop(emp
        ∗ (bigSep Finset.univ fun j => iprop((P m).pay (snd j) c ∗ (P m).room (.inl j) c)) ∗ bigSep Finset.univ fun k => (P m).room (.inr k) c) := by
  have hK (Φ : Fin 5 → sProp 𝕄) : bigSep Finset.univ Φ = iprop(Φ 0 ∗ Φ 1 ∗ Φ 2 ∗ Φ 3 ∗ Φ 4) :=
    bigSep_univ_eq_bigSepL [0, 1, 2, 3, 4] (by decide) (by decide) Φ
  refine (seps_mono fun c => ?_).trans ((E m).deal.trans (seps_mono fun c => ?_))
  · rw [Pipeline.unscopedRestP_none, show cfg0.spec = spec0 from rfl, unscopedRest0_eq, hK, hK]
    iintro ⟨H0, H1, H2, H3, H4, G0, G1, G2, G3, G4⟩
    isplitl [H0 H1 H2 H3 H4]
    · isplitl [H0]; · iexact H0
      isplitl [H1]; · iexact H1
      isplitl [H2]; · iexact H2
      isplitl [H3]; · iexact H3
      iexact H4
    isplitl [G0]; · iexists _; iexact G0
    isplitl [G1]; · iexists _; iexact G1
    isplitl [G2]; · iexists _; iexact G2
    isplitl [G3]; · iexists _; iexact G3
    iexists _; iexact G4
  · iintro H
    isplitr; · iempintro
    iexact H

/-- What a device holds in the end: its arrays as they were, and the exchanged ones. -/
def kept (c : Dev nD) : sProp 𝕄 :=
  iprop((bigSep Finset.univ fun k => ((c.tc : Thread nD τ).loc (inp k)) ↦{fullShare} m ((c.tc : Thread nD τ).loc (inp k)))
    ∗ bigSep Finset.univ fun k => ((c.tc : Thread nD τ).loc (out k)) ↦{fullShare} dealt m k c)

theorem kept_read (c : Dev nD) (s' : Phys nD τ sig (Elt F)) : iprop(kept m c ∗ SI s')
    ⊢ |={Set.univ}=> iprop(⌜(∀ k, s'.mem.mem ((c.tc : Thread nD τ).loc (inp k)) = m ((c.tc : Thread nD τ).loc (inp k)))
        ∧ ∀ k, s'.mem.mem ((c.tc : Thread nD τ).loc (out k)) = dealt m k c⌝ ∗ SI s') := by
  unfold kept
  iintro ⟨⟨H1, H2⟩, HSI⟩
  ihave H := (pointsTo_read_all Finset.univ (fun k => (c.tc : Thread nD τ).loc (inp k)) (fun k => m ((c.tc : Thread nD τ).loc (inp k))) s') $$ [H1 HSI]
  · isplitl [H1] <;> iassumption
  icases H with ⟨%h1, HSI⟩
  ihave H := (pointsTo_read_all Finset.univ (fun k => (c.tc : Thread nD τ).loc (out k)) (fun k => dealt m k c) s') $$ [H2 HSI]
  · isplitl [H2] <;> iassumption
  icases H with ⟨%h2, HSI⟩
  imodintro
  isplitr; · ipureintro; exact ⟨fun k => h1 k (Finset.mem_univ _), fun k => h2 k (Finset.mem_univ _)⟩
  iexact HSI

theorem own_sems : Pipeline.OwnSemFacts cfg0.spec (P m).osem := by
  show Pipeline.OwnSemFacts cfg0.spec fun x => (.dma (cellSem x) : SemLoc sig)
  decide

theorem share_full (c : Dev nD) (w : Fin cfg0.W) : (dats m 0 c).share w = fullShare := by unfold Dat.share; split <;> rfl

theorem recv_ne_stage (j : Fin 5 × Fin 7) (w : Fin cfg0.W) (s : Fin (cfg0.win w).nbuf) : (P m).osem (rcv j) ≠ .dma ((cfg0.win w).sem s) := by
  show (.dma (cellSem (rcv j)) : SemLoc sig) ≠ _
  revert j w s
  decide

/-- What every final state holds. -/
def Final (r : PUnit × MemSt nD τ sig (Elt F)) : Prop := ∀ c : Dev nD,
  (∀ w : Fin cfg0.W, r.2.mem ((cfg0.win w).arr.view.loc (c.tc : Thread nD τ)) = (dats m 0 c).arrAt w cfg0.N)
    ∧ (∀ k, r.2.mem ((c.tc : Thread nD τ).loc (inp k)) = m ((c.tc : Thread nD τ).loc (inp k)))
    ∧ ∀ k, r.2.mem ((c.tc : Thread nD τ).loc (out k)) = dealt m k c

set_option maxRecDepth 8000 in
/-- From any memory with zero counters every weakly fair execution ends, and every final state holds the sums, the exchanged arrays and the arrays
    read as they were, every counter at zero. -/
theorem run_main : θ_run defs (onTc (τ := τ) (main (F := F))) ⟨m, fun _ => 0, ρ⟩ (fun r => Final m r ∧ r.2.sem = fun _ => 0) :=
  θ_run_shared (fun p => (cfgs p).toPCfg) (fun _ p => (cfgs p).toPCfg_adm) (dats m) () cellOf_inj (0 : Fin 1)
    winFacts0.to₀ (own_sems m) (Pipeline.PreFacts.none _) EP defs₀ 𝒱₀ m ρ main
    (hmain := fun _ => rfl)
    (hbody := body_obligation m) (hne := block_pos0) (harr := arr_whole0) (hstage := stage_whole0) (hshare := share_full m)
    (hdistinct := winFacts0.arr_inj)
    (O₀ := (P m).O₀) (howed₀ := fun _ => rfl) (howedN := fun c => owed_later m c (Fin.last cfg0.N) (show ¬ grid0.N = 0 by rw [N_0]; decide))
    (L := Plan.L) (lv := (P m).lv) (hL := Plan.L_of_ne)
    (hwaits := fun c => Pipeline.PerCore.cellsWaits_intro _ _ () 0 c fun w s t =>
      (P m).mayWait_other c _ (fun j => recv_ne_stage m j w s) _ (by
        by_cases h : t.val = 0
        · exact Or.inl (if_pos h)
        · exact Or.inr (if_neg h)))
    (G := (P m).G) (G' := fun c => iprop((P m).entry c ∗ emp))
    (u₀ := (initOf (Pipeline.cells cfgs cellOf_inj) (Pipeline.launchToks cfgs cellOf_inj), initOf (P m).cells (P m).toks))
    (hu₀ := by
      iintro Hu
      ihave H := (ownU_pair _ _) $$ Hu
      icases H with ⟨HP, HX⟩
      imod ((P m).fund_cells) $$ HX with HG
      imodintro
      isplitl [HP] <;> iassumption)
    (hglob := (P m).glob _ _ (arrays_dealt m))
    (hA := fun _ w => by fin_cases w <;> rfl) (hpf := fun _ k => k.elim0)
    (Y := kept m)
    (hin := fun c => by
      rw [show (dats m 0 c).Φ 0 = iprop((P m).begin c ∗ scratch m c 0) from rfl, show cfg0.spec = spec0 from rfl, scopedRest0_eq]
      iintro ⟨⟨-, Hc, HE, -⟩, -, %f, Hf⟩
      isplitl [Hc HE]
      · iapply ((P m).entry_begin c)
        isplitl [Hc] <;> iassumption
      unfold scratch owns
      iexists ((Memref.whole cc0_scratch0).view.read (Elt F) f); isplitr; · ipureintro; exact fun h => absurd rfl h
      iexists f; isplitr; · ipureintro; rfl
      rw [show (Memref.whole cc0_scratch0).view.set = Finset.univ from View.set_whole _]
      iexact Hf)
    (hout := fun c => by
      rw [Φ_eq, show (Fin.last cfg0.N).val = 104 from N_0, stage_fin, Plan.fin_split]
      unfold scratch owns
      iintro ⟨⟨HP, HS⟩, %a, -, %f, -, Hf⟩
      ihave HP := ((E m).regain c) $$ HP
      isplitl [HP]; · unfold kept; iexact HP
      isplitl [HS]; · iexact HS
      rw [show cfg0.spec = spec0 from rfl, scopedRest0_eq, show (Memref.whole cc0_scratch0).view.set = Finset.univ from View.set_whole _]
      iexists f; iexact Hf)
    (QY := fun c s => (∀ k, s.mem ((c.tc : Thread nD τ).loc (inp k)) = m ((c.tc : Thread nD τ).loc (inp k)))
        ∧ ∀ k, s.mem ((c.tc : Thread nD τ).loc (out k)) = dealt m k c)
    (hY := kept_read m)
    (hQ := fun _ h hs => ⟨fun c => ⟨fun w => (h c).1 w, (h c).2.1, (h c).2.2⟩, sem_eq_zero_of_scoped (by decide) hs⟩)

end Cert.WeightIdeal.Gen
-- ==== Proof.WeightValues.lean ====
/-
  What the final states hold, at the real numbers: on device `c` the array of sums is block `c` of the reference's products, and each exchanged
  array is block `c` of the reference's rearrangement.
-/
module

public import proofs.«01_k».proof.Proof.WeightRun
public import proofs.«01_k».proof.Proof.Gen.WeightReferenceIdeal.Run
public import Idealize.ShloMosaic.Lib.Pipeline.ValueKit
public import Idealize.ShloMosaic.Lib.Layout
public import Idealize.ShloMosaic.Lib.Pointwise

@[expose] public section

noncomputable section

namespace Cert.WeightIdeal.Gen

open Cert.Exchange
open Idealize.ShloMosaic Idealize.ShloMosaic.TcCoe Idealize.ShloMosaic.ValueIdx
open Idealize.SL.Sem

/-! ## The sums -/

/-- The windows' index maps, decided once. -/
theorem index_facts : ∀ t : Fin cfg0.N,
    ((cfg0.win 0).index t 0 = t.val % 13 ∧ (cfg0.win 0).index t 1 = 0) ∧ ((cfg0.win 1).index t 0 = t.val % 13 ∧ (cfg0.win 1).index t 1 = t.val / 13)
      ∧ ((cfg0.win 2).index t 0 = 0 ∧ (cfg0.win 2).index t 1 = t.val / 13) := by
  decide +kernel

variable (m : (ℓ : Loc nD τ sig) → Buf (Elt Ideal) ℓ)

/-- The accumulator where a sum ends: the sum over the points of the sum. -/
theorem sumAt_end (c : Dev nD) (t : Fin cfg0.N) (h : t.val % 13 = 12) (j : S1024x1024.Idx) :
    sumAt m c t.val j = (0 : EReal) + ∑ s : Fin 13, k0_pay1 (F := Ideal) (blockAt m c 0 ⟨13 * (t.val / 13) + s.val, Pipeline.run_point_lt_of_flush t h s⟩)
      (blockAt m c 1 ⟨13 * (t.val / 13) + s.val, Pipeline.run_point_lt_of_flush t h s⟩) j := by
  refine Pipeline.eq_sum_fin_of_reset_step_apply_of_flush (fun n _ => sumAt m c n) 13 (fun _ => (0 : EReal))
    (fun t => k0_pay1 (F := Ideal) (blockAt m c 0 t) (blockAt m c 1 t)) ?_ ?_ t h j
  · intro t h j
    rw [sumAt_reset m c t h, k0_pay2]
    pointwise
  · intro t h j
    rw [sumAt_add m c t h, k0_pay3]
    pointwise

/-- The array of sums once every point has stored its block, against block `c` of the devices' products. -/
theorem product_final (c : Dev nD) (X : (⟨2, ![133120, 1024]⟩ : Shape).Idx → Elt Ideal .bf16) (Y : (⟨2, ![133120, 8192]⟩ : Shape).Idx → Elt Ideal .bf16)
    (h : Layout.Tiles ⟨2, ![1024, 8192]⟩ ⟨2, ![8192, 8192]⟩ 0 8) (hx : Layout.Tiles ⟨2, ![16640, 1024]⟩ ⟨2, ![133120, 1024]⟩ 0 8)
    (hy : Layout.Tiles ⟨2, ![16640, 8192]⟩ ⟨2, ![133120, 8192]⟩ 0 8)
    (hX : m ((c.tc : Thread nD τ).loc main_arg0) = Layout.block ⟨2, ![16640, 1024]⟩ ⟨2, ![133120, 1024]⟩ 0 8 c X hx)
    (hY : m ((c.tc : Thread nD τ).loc main_arg1) = Layout.block ⟨2, ![16640, 8192]⟩ ⟨2, ![133120, 8192]⟩ 0 8 c Y hy) :
    (dats m 0 c).arrAt 2 cfg0.N = Layout.block ⟨2, ![1024, 8192]⟩ ⟨2, ![8192, 8192]⟩ 0 8 c
      (shapeCast Cert.WeightReferenceIdeal.S8192x8192 (truncf .bf16 ((Host.dotGeneral (F := Ideal) (φ₁ := .bf16) (φ₂ := .bf16)
        Cert.WeightReferenceIdeal.dot_S8x16640x1024_S8x16640x8192_S8x1024x8192_1_1_2_2_0_0 none
        (shapeCast _ X Cert.WeightReferenceIdeal.Gen.shapeCasts_S133120x1024_S8x16640x1024)
        (shapeCast _ Y Cert.WeightReferenceIdeal.Gen.shapeCasts_S133120x8192_S8x16640x8192)) : Cert.WeightReferenceIdeal.S8x1024x8192.Idx → Elt Ideal .f32) Cert.WeightReferenceIdeal.Gen.bitsLt_bf16_f32)
        Cert.WeightReferenceIdeal.Gen.shapeCasts_S8x1024x8192_S8192x8192) h := by
  refine (dats m 0 c).arrAt_eq_of_covers 2 _ (by decide +kernel) fun t hf y => ?_
  blk_simp
  rw [Layout.block_apply]
  show k0_pay4 (sumAt m c t.val) y = _
  unfold k0_pay4
  have hr := fun i => Layout.idx_rows_val h c i
  pointwise
  rw [sumAt_end m c t ((flush0_2 t).mp hf), zero_add]
  unfold k0_pay1
  pointwise
  refine Fin.sum_mul_add_congr fun s k hl => ?_
  obtain ⟨-, -, e20, e21⟩ := index_facts t
  obtain ⟨⟨e00, e01⟩, ⟨e10, e11⟩, -⟩ := index_facts ⟨13 * (t.val / 13) + s.val, Pipeline.run_point_lt_of_flush t ((flush0_2 t).mp hf) s⟩
  have hq := fun i => Layout.idx_rows_val hx c i
  have hp := fun i => Layout.idx_rows_val hy c i
  have hs := s.isLt
  have d1 : (13 * (t.val / 13) + s.val) / 13 = t.val / 13 := by omega
  have d2 : (13 * (t.val / 13) + s.val) % 13 = s.val := by omega
  simp only [d1, d2] at e00 e01 e10 e11
  congr 1
  · show m ((c.tc : Thread nD τ).loc main_arg0) _ = _
    rw [hX, Layout.block_apply]
    blk_ext [e00, e01, e20, e21]
    · rw [(hr _).1, (hq _).1]
      blk_simp [e00, e20]
      omega
    · rw [(hr _).1, (hq _).2]
      blk_simp [e01, e20]
      omega
  · show m ((c.tc : Thread nD τ).loc main_arg1) _ = _
    rw [hY, Layout.block_apply]
    blk_ext [e10, e11, e20, e21]
    · rw [(hr _).1, (hp _).1]
      blk_simp [e10, e20]
      omega
    · rw [(hr _).2, (hp _).2]
      blk_simp [e11, e21]

/-! ## The exchanged arrays -/

theorem swapped_128_1024 {α : Type} (c : Dev nD) (Z : (⟨3, ![64, 128, 1024]⟩ : Shape).Idx → α) (h : Layout.Tiles ⟨3, ![8, 128, 1024]⟩ ⟨3, ![64, 128, 1024]⟩ 0 8)
    (h₁ : (⟨3, ![64, 128, 1024]⟩ : Shape).ShapeCasts ⟨4, ![8, 8, 128, 1024]⟩)
    (h₂ : (⟨4, ![8, 8, 128, 1024]⟩ : Shape).Transposes [1, 0, 2, 3] ⟨4, ![8, 8, 128, 1024]⟩)
    (h₃ : (⟨4, ![8, 8, 128, 1024]⟩ : Shape).ShapeCasts ⟨3, ![64, 128, 1024]⟩) :
    stack (n := 8) (p := 128) (q := 1024) (fun d => layer (Layout.block ⟨3, ![8, 128, 1024]⟩ ⟨3, ![64, 128, 1024]⟩ 0 8 d Z h) c)
      = Layout.block ⟨3, ![8, 128, 1024]⟩ ⟨3, ![64, 128, 1024]⟩ 0 8 c
        (shapeCast ⟨3, ![64, 128, 1024]⟩ (transpose ⟨4, ![8, 8, 128, 1024]⟩ [1, 0, 2, 3] (shapeCast ⟨4, ![8, 8, 128, 1024]⟩ Z h₁) h₂) h₃) h := by
  funext i
  rw [Layout.block_apply]
  show Z (h.idx (i 0) (ValueIdx.ix3 c (i 1) (i 2))) = _
  have e0 : ∀ (c : Fin 8) i, (h.idx c i 0).val = c.val * 8 + (i 0).val := fun _ _ => rfl
  have e1 : ∀ (c : Fin 8) i, (h.idx c i 1).val = (i 1).val := fun _ _ => rfl
  have e2 : ∀ (c : Fin 8) i, (h.idx c i 2).val = (i 2).val := fun _ _ => rfl
  pointwise
  blk_ext [e0, e1, e2]
  · refine (e0 _ _).trans ?_
    show (i 0).val * 8 + c.val = _
    have := (i 0).isLt
    omega
  · exact e1 _ _
  · exact e2 _ _

theorem swapped_1024_704 {α : Type} (c : Dev nD) (Z : (⟨3, ![64, 1024, 704]⟩ : Shape).Idx → α) (h : Layout.Tiles ⟨3, ![8, 1024, 704]⟩ ⟨3, ![64, 1024, 704]⟩ 0 8)
    (h₁ : (⟨3, ![64, 1024, 704]⟩ : Shape).ShapeCasts ⟨4, ![8, 8, 1024, 704]⟩)
    (h₂ : (⟨4, ![8, 8, 1024, 704]⟩ : Shape).Transposes [1, 0, 2, 3] ⟨4, ![8, 8, 1024, 704]⟩)
    (h₃ : (⟨4, ![8, 8, 1024, 704]⟩ : Shape).ShapeCasts ⟨3, ![64, 1024, 704]⟩) :
    stack (n := 8) (p := 1024) (q := 704) (fun d => layer (Layout.block ⟨3, ![8, 1024, 704]⟩ ⟨3, ![64, 1024, 704]⟩ 0 8 d Z h) c)
      = Layout.block ⟨3, ![8, 1024, 704]⟩ ⟨3, ![64, 1024, 704]⟩ 0 8 c
        (shapeCast ⟨3, ![64, 1024, 704]⟩ (transpose ⟨4, ![8, 8, 1024, 704]⟩ [1, 0, 2, 3] (shapeCast ⟨4, ![8, 8, 1024, 704]⟩ Z h₁) h₂) h₃) h := by
  funext i
  rw [Layout.block_apply]
  show Z (h.idx (i 0) (ValueIdx.ix3 c (i 1) (i 2))) = _
  have e0 : ∀ (c : Fin 8) i, (h.idx c i 0).val = c.val * 8 + (i 0).val := fun _ _ => rfl
  have e1 : ∀ (c : Fin 8) i, (h.idx c i 1).val = (i 1).val := fun _ _ => rfl
  have e2 : ∀ (c : Fin 8) i, (h.idx c i 2).val = (i 2).val := fun _ _ => rfl
  pointwise
  blk_ext [e0, e1, e2]
  · refine (e0 _ _).trans ?_
    show (i 0).val * 8 + c.val = _
    have := (i 0).isLt
    omega
  · exact e1 _ _
  · exact e2 _ _

theorem swapped_352_1024 {α : Type} (c : Dev nD) (Z : (⟨3, ![64, 352, 1024]⟩ : Shape).Idx → α) (h : Layout.Tiles ⟨3, ![8, 352, 1024]⟩ ⟨3, ![64, 352, 1024]⟩ 0 8)
    (h₁ : (⟨3, ![64, 352, 1024]⟩ : Shape).ShapeCasts ⟨4, ![8, 8, 352, 1024]⟩)
    (h₂ : (⟨4, ![8, 8, 352, 1024]⟩ : Shape).Transposes [1, 0, 2, 3] ⟨4, ![8, 8, 352, 1024]⟩)
    (h₃ : (⟨4, ![8, 8, 352, 1024]⟩ : Shape).ShapeCasts ⟨3, ![64, 352, 1024]⟩) :
    stack (n := 8) (p := 352) (q := 1024) (fun d => layer (Layout.block ⟨3, ![8, 352, 1024]⟩ ⟨3, ![64, 352, 1024]⟩ 0 8 d Z h) c)
      = Layout.block ⟨3, ![8, 352, 1024]⟩ ⟨3, ![64, 352, 1024]⟩ 0 8 c
        (shapeCast ⟨3, ![64, 352, 1024]⟩ (transpose ⟨4, ![8, 8, 352, 1024]⟩ [1, 0, 2, 3] (shapeCast ⟨4, ![8, 8, 352, 1024]⟩ Z h₁) h₂) h₃) h := by
  funext i
  rw [Layout.block_apply]
  show Z (h.idx (i 0) (ValueIdx.ix3 c (i 1) (i 2))) = _
  have e0 : ∀ (c : Fin 8) i, (h.idx c i 0).val = c.val * 8 + (i 0).val := fun _ _ => rfl
  have e1 : ∀ (c : Fin 8) i, (h.idx c i 1).val = (i 1).val := fun _ _ => rfl
  have e2 : ∀ (c : Fin 8) i, (h.idx c i 2).val = (i 2).val := fun _ _ => rfl
  pointwise
  blk_ext [e0, e1, e2]
  · refine (e0 _ _).trans ?_
    show (i 0).val * 8 + c.val = _
    have := (i 0).isLt
    omega
  · exact e1 _ _
  · exact e2 _ _

end Cert.WeightIdeal.Gen

end
-- ==== Proof.Updates.lean ====
/-
  AdamW, one step for each shape of a weight's gradient: at the real numbers, the sum of the parts, the change of the weight, the new mean and the
  new mean square, block by block, are the whole arrays' ones. With the frames of the programs.
-/
module

public import proofs.«01_k».proof.Defs
public import proofs.«01_k».proof.Proof.WeightValues
public import proofs.«01_k».proof.Proof.Gen.StepIn.Frame
public import proofs.«01_k».proof.Proof.Gen.StepInIdeal.Frame
public import proofs.«01_k».proof.Proof.Gen.StepInIdeal.Value
public import proofs.«01_k».proof.Proof.Gen.StepInReferenceIdeal.Run
public import proofs.«01_k».proof.Proof.Gen.StepOut.Frame
public import proofs.«01_k».proof.Proof.Gen.StepOutIdeal.Frame
public import proofs.«01_k».proof.Proof.Gen.StepOutIdeal.Value
public import proofs.«01_k».proof.Proof.Gen.StepOutReferenceIdeal.Run
public import proofs.«01_k».proof.Proof.Gen.StepUp.Frame
public import proofs.«01_k».proof.Proof.Gen.StepUpIdeal.Frame
public import proofs.«01_k».proof.Proof.Gen.StepUpIdeal.Value
public import proofs.«01_k».proof.Proof.Gen.StepUpReferenceIdeal.Run
public import proofs.«01_k».proof.Proof.Gen.StepDown.Frame
public import proofs.«01_k».proof.Proof.Gen.StepDownIdeal.Frame
public import proofs.«01_k».proof.Proof.Gen.StepDownIdeal.Value
public import proofs.«01_k».proof.Proof.Gen.StepDownReferenceIdeal.Run
public import proofs.«01_k».proof.Proof.Gen.StepSmall.Frame
public import proofs.«01_k».proof.Proof.Gen.StepSmallIdeal.Frame
public import proofs.«01_k».proof.Proof.Gen.StepSmallIdeal.Value
public import proofs.«01_k».proof.Proof.Gen.StepSmallReferenceIdeal.Run
public import proofs.«01_k».proof.Proof.Gen.StepAda.Frame
public import proofs.«01_k».proof.Proof.Gen.StepAdaIdeal.Frame
public import proofs.«01_k».proof.Proof.Gen.StepAdaIdeal.Value
public import proofs.«01_k».proof.Proof.Gen.StepAdaReferenceIdeal.Run
public import proofs.«01_k».proof.Proof.Gen.StepConv.Frame
public import proofs.«01_k».proof.Proof.Gen.StepConvIdeal.Frame
public import proofs.«01_k».proof.Proof.Gen.StepConvIdeal.Value
public import proofs.«01_k».proof.Proof.Gen.StepConvReferenceIdeal.Run
public import proofs.«01_k».proof.Proof.Gen.StepFfnConv.Frame
public import proofs.«01_k».proof.Proof.Gen.StepFfnConvIdeal.Frame
public import proofs.«01_k».proof.Proof.Gen.StepFfnConvIdeal.Value
public import proofs.«01_k».proof.Proof.Gen.StepFfnConvReferenceIdeal.Run
public import proofs.«01_k».proof.Proof.Gen.StepCtx.Frame
public import proofs.«01_k».proof.Proof.Gen.StepCtxIdeal.Frame
public import proofs.«01_k».proof.Proof.Gen.StepCtxIdeal.Value
public import proofs.«01_k».proof.Proof.Gen.StepCtxReferenceIdeal.Run
public import Idealize.ShloMosaic.Lib.Pipeline.ValueKit
public import Idealize.ShloMosaic.Lib.Pointwise
public import Idealize.ShloMosaic.Lib.Quiescent

@[expose] public section

noncomputable section

/-! ## The step of `w_in` -/

namespace Cert.StepInIdeal.Gen

open Idealize.ShloMosaic Idealize.ShloMosaic.TcCoe
open Idealize.SL.Sem

/-- The windows' index maps, decided once. -/
theorem index_facts : ∀ t : Fin cfg0.N,
    ((cfg0.win 0).index t 0 = 0 ∧ (cfg0.win 0).index t 1 = t.val ∧ (cfg0.win 0).index t 2 = 0)
      ∧ ((cfg0.win 1).index t 0 = t.val ∧ (cfg0.win 1).index t 1 = 0) ∧ ((cfg0.win 2).index t 0 = t.val ∧ (cfg0.win 2).index t 1 = 0)
      ∧ ((cfg0.win 3).index t 0 = t.val ∧ (cfg0.win 3).index t 1 = 0) ∧ ((cfg0.win 4).index t 0 = t.val ∧ (cfg0.win 4).index t 1 = 0)
      ∧ ((cfg0.win 5).index t 0 = t.val ∧ (cfg0.win 5).index t 1 = 0) ∧ ((cfg0.win 6).index t 0 = t.val ∧ (cfg0.win 6).index t 1 = 0)
      ∧ ((cfg0.win 7).index t 0 = t.val ∧ (cfg0.win 7).index t 1 = 0) := by
  decide +kernel

variable (m : (ℓ : Loc nD τ sig) → Buf (Elt Ideal) ℓ)

/-- The parts on device `c`, as extended reals. -/
abbrev parts (c : Dev nD) : S8x1024x964.Idx → EReal := m ((c.tc : Thread nD τ).loc main_arg0)

/-- The sum of the parts, at an element of a block. -/
theorem total (c : Dev nD) (t : Fin cfg0.N) (y : S128x964.Idx) (a : Fin 1024) (b : Fin 964) (ha : a.val = t.val * 128 + (y 0).val) (hb : b.val = (y 1).val) :
    k0_pay5 (F := Ideal) (iblk m c 0 t) (iblk m c 1 t) (iblk m c 2 t) (iblk m c 3 t) y = ∑ x : Fin 8, parts m c (ix3 x a b) := by
  obtain ⟨⟨e00, e01, e02⟩, -⟩ := index_facts t
  unfold k0_pay5 k0_pay4
  pointwise
  rw [Fin.sum_univ_eight]
  (repeat' refine congrArg₂ (fun a b : EReal => a + b) ?_ ?_)
  all_goals blk_ext [iblk, V, e00, e01, e02, ha, hb]

/-- The weight, at an element of a block. -/
theorem weight_at (c : Dev nD) (t : Fin cfg0.N) (y : S128x964.Idx) (z : S1024x964.Idx) (h0 : (z 0).val = t.val * 128 + (y 0).val) (h1 : (z 1).val = (y 1).val) :
    iblk m c 1 t y = m ((c.tc : Thread nD τ).loc main_arg1) z := by
  obtain ⟨-, ⟨e0, e1⟩, -⟩ := index_facts t
  blk_ext [iblk, V, e0, e1, h0, h1]

/-- The mean, at an element of a block. -/
theorem mean_at (c : Dev nD) (t : Fin cfg0.N) (y : S128x964.Idx) (z : S1024x964.Idx) (h0 : (z 0).val = t.val * 128 + (y 0).val) (h1 : (z 1).val = (y 1).val) :
    iblk m c 2 t y = m ((c.tc : Thread nD τ).loc main_arg2) z := by
  obtain ⟨-, -, ⟨e0, e1⟩, -⟩ := index_facts t
  blk_ext [iblk, V, e0, e1, h0, h1]

/-- The mean square, at an element of a block. -/
theorem square_at (c : Dev nD) (t : Fin cfg0.N) (y : S128x964.Idx) (z : S1024x964.Idx) (h0 : (z 0).val = t.val * 128 + (y 0).val) (h1 : (z 1).val = (y 1).val) :
    iblk m c 3 t y = m ((c.tc : Thread nD τ).loc main_arg3) z := by
  obtain ⟨-, -, -, ⟨e0, e1⟩, -⟩ := index_facts t
  blk_ext [iblk, V, e0, e1, h0, h1]

theorem frame_bits : Cert.quiescent_StepIn := fun m ρ _ => Cert.StepIn.Gen.frame m ρ

theorem frame_ideal : Cert.quiescent_StepInIdeal := fun m ρ _ => Cert.StepInIdeal.Gen.frame m ρ

theorem frame_reference : Cert.quiescent_StepInReferenceIdeal := fun m ρ _ =>
  (θ_run Cert.StepInReferenceIdeal.defs _ _).mono (fun r h => ⟨fun c => (h c).2.2.2.2, sem_eq_zero_of_no_sems (by decide) r.2⟩) (Cert.StepInReferenceIdeal.Value.run (F := Ideal) m ρ)

theorem value : Cert.algebraic_StepInIdeal_StepInReferenceIdeal := by
  intro m ρ m' ρ' _ hagree
  refine ⟨_, _, _, _, Cert.StepInIdeal.Value.run_blocks (F := Ideal) m ρ, ?_⟩
  refine (θ_run Cert.StepInReferenceIdeal.defs _ _).mono (fun r h c => ?_) (Cert.StepInReferenceIdeal.Value.run (F := Ideal) m' ρ')
  obtain ⟨h0, h1, h2, h3, h4⟩ := h c
  refine ⟨h0.trans ?_, h1.trans ?_, h2.trans ?_, h3.trans ?_, h4⟩
  all_goals
    simp only [(hagree c).1, (hagree c).2.1, (hagree c).2.2.1, (hagree c).2.2.2]
    symm
    clear h h0 h1 h2 h3 h4 hagree
  · refine (dats m 0 c).arrAt_eq_of_covers 4 _ (by decide +kernel) fun t hf y => ?_
    obtain ⟨-, -, -, -, ⟨e0, e1⟩, -⟩ := index_facts t
    blk_simp
    rw [after0_4]
    frame_out
    pointwise
    generalize hz : ((View.whole main_v0_0).slice (win0_4.rect t)).emb y = z
    have h0 : (z 0).val = t.val * 128 + (y 0).val := by rw [← hz]; blk_simp [e0]
    have h1 : (z 1).val = (y 1).val := by rw [← hz]; blk_simp [e1]
    rw [total m c t y (z 0) (z 1) h0 h1]
  · refine (dats m 0 c).arrAt_eq_of_covers 5 _ (by decide +kernel) fun t hf y => ?_
    obtain ⟨-, -, -, -, -, ⟨e0, e1⟩, -⟩ := index_facts t
    blk_simp
    rw [after0_5]
    frame_out
    unfold k0_pay3 k0_pay1 k0_pay2
    pointwise
    generalize hz : ((View.whole main_v0_1).slice (win0_5.rect t)).emb y = z
    have h0 : (z 0).val = t.val * 128 + (y 0).val := by rw [← hz]; blk_simp [e0]
    have h1 : (z 1).val = (y 1).val := by rw [← hz]; blk_simp [e1]
    rw [total m c t y (z 0) (z 1) h0 h1, weight_at m c t y z h0 h1, mean_at m c t y z h0 h1, square_at m c t y z h0 h1]
  · refine (dats m 0 c).arrAt_eq_of_covers 6 _ (by decide +kernel) fun t hf y => ?_
    obtain ⟨-, -, -, -, -, -, ⟨e0, e1⟩, -⟩ := index_facts t
    blk_simp
    rw [after0_6]
    frame_out
    unfold k0_pay1
    pointwise
    generalize hz : ((View.whole main_v0_2).slice (win0_6.rect t)).emb y = z
    have h0 : (z 0).val = t.val * 128 + (y 0).val := by rw [← hz]; blk_simp [e0]
    have h1 : (z 1).val = (y 1).val := by rw [← hz]; blk_simp [e1]
    rw [total m c t y (z 0) (z 1) h0 h1, mean_at m c t y z h0 h1]
  · refine (dats m 0 c).arrAt_eq_of_covers 7 _ (by decide +kernel) fun t hf y => ?_
    obtain ⟨-, -, -, -, -, -, -, e0, e1⟩ := index_facts t
    blk_simp
    rw [after0_7]
    frame_out
    unfold k0_pay2
    pointwise
    generalize hz : ((View.whole main_v0_3).slice (win0_7.rect t)).emb y = z
    have h0 : (z 0).val = t.val * 128 + (y 0).val := by rw [← hz]; blk_simp [e0]
    have h1 : (z 1).val = (y 1).val := by rw [← hz]; blk_simp [e1]
    rw [total m c t y (z 0) (z 1) h0 h1, square_at m c t y z h0 h1]

end Cert.StepInIdeal.Gen

/-! ## The step of `w_branch_dn`, `w_branch_attn` and `w_out` -/

namespace Cert.StepOutIdeal.Gen

open Idealize.ShloMosaic Idealize.ShloMosaic.TcCoe
open Idealize.SL.Sem

/-- The windows' index maps, decided once. -/
theorem index_facts : ∀ t : Fin cfg0.N,
    ((cfg0.win 0).index t 0 = 0 ∧ (cfg0.win 0).index t 1 = t.val ∧ (cfg0.win 0).index t 2 = 0)
      ∧ ((cfg0.win 1).index t 0 = t.val ∧ (cfg0.win 1).index t 1 = 0) ∧ ((cfg0.win 2).index t 0 = t.val ∧ (cfg0.win 2).index t 1 = 0)
      ∧ ((cfg0.win 3).index t 0 = t.val ∧ (cfg0.win 3).index t 1 = 0) ∧ ((cfg0.win 4).index t 0 = t.val ∧ (cfg0.win 4).index t 1 = 0)
      ∧ ((cfg0.win 5).index t 0 = t.val ∧ (cfg0.win 5).index t 1 = 0) ∧ ((cfg0.win 6).index t 0 = t.val ∧ (cfg0.win 6).index t 1 = 0)
      ∧ ((cfg0.win 7).index t 0 = t.val ∧ (cfg0.win 7).index t 1 = 0) := by
  decide +kernel

variable (m : (ℓ : Loc nD τ sig) → Buf (Elt Ideal) ℓ)

/-- The parts on device `c`, as extended reals. -/
abbrev parts (c : Dev nD) : S8x128x1024.Idx → EReal := m ((c.tc : Thread nD τ).loc main_arg0)

/-- The sum of the parts, at an element of a block. -/
theorem total (c : Dev nD) (t : Fin cfg0.N) (y : S128x1024.Idx) (a : Fin 128) (b : Fin 1024) (ha : a.val = t.val * 128 + (y 0).val) (hb : b.val = (y 1).val) :
    k0_pay5 (F := Ideal) (iblk m c 0 t) (iblk m c 1 t) (iblk m c 2 t) (iblk m c 3 t) y = ∑ x : Fin 8, parts m c (ix3 x a b) := by
  obtain ⟨⟨e00, e01, e02⟩, -⟩ := index_facts t
  unfold k0_pay5 k0_pay4
  pointwise
  rw [Fin.sum_univ_eight]
  (repeat' refine congrArg₂ (fun a b : EReal => a + b) ?_ ?_)
  all_goals blk_ext [iblk, V, e00, e01, e02, ha, hb]

/-- The weight, at an element of a block. -/
theorem weight_at (c : Dev nD) (t : Fin cfg0.N) (y : S128x1024.Idx) (z : S128x1024.Idx) (h0 : (z 0).val = t.val * 128 + (y 0).val) (h1 : (z 1).val = (y 1).val) :
    iblk m c 1 t y = m ((c.tc : Thread nD τ).loc main_arg1) z := by
  obtain ⟨-, ⟨e0, e1⟩, -⟩ := index_facts t
  blk_ext [iblk, V, e0, e1, h0, h1]

/-- The mean, at an element of a block. -/
theorem mean_at (c : Dev nD) (t : Fin cfg0.N) (y : S128x1024.Idx) (z : S128x1024.Idx) (h0 : (z 0).val = t.val * 128 + (y 0).val) (h1 : (z 1).val = (y 1).val) :
    iblk m c 2 t y = m ((c.tc : Thread nD τ).loc main_arg2) z := by
  obtain ⟨-, -, ⟨e0, e1⟩, -⟩ := index_facts t
  blk_ext [iblk, V, e0, e1, h0, h1]

/-- The mean square, at an element of a block. -/
theorem square_at (c : Dev nD) (t : Fin cfg0.N) (y : S128x1024.Idx) (z : S128x1024.Idx) (h0 : (z 0).val = t.val * 128 + (y 0).val) (h1 : (z 1).val = (y 1).val) :
    iblk m c 3 t y = m ((c.tc : Thread nD τ).loc main_arg3) z := by
  obtain ⟨-, -, -, ⟨e0, e1⟩, -⟩ := index_facts t
  blk_ext [iblk, V, e0, e1, h0, h1]

theorem frame_bits : Cert.quiescent_StepOut := fun m ρ _ => Cert.StepOut.Gen.frame m ρ

theorem frame_ideal : Cert.quiescent_StepOutIdeal := fun m ρ _ => Cert.StepOutIdeal.Gen.frame m ρ

theorem frame_reference : Cert.quiescent_StepOutReferenceIdeal := fun m ρ _ =>
  (θ_run Cert.StepOutReferenceIdeal.defs _ _).mono (fun r h => ⟨fun c => (h c).2.2.2.2, sem_eq_zero_of_no_sems (by decide) r.2⟩) (Cert.StepOutReferenceIdeal.Value.run (F := Ideal) m ρ)

theorem value : Cert.algebraic_StepOutIdeal_StepOutReferenceIdeal := by
  intro m ρ m' ρ' _ hagree
  refine ⟨_, _, _, _, Cert.StepOutIdeal.Value.run_blocks (F := Ideal) m ρ, ?_⟩
  refine (θ_run Cert.StepOutReferenceIdeal.defs _ _).mono (fun r h c => ?_) (Cert.StepOutReferenceIdeal.Value.run (F := Ideal) m' ρ')
  obtain ⟨h0, h1, h2, h3, h4⟩ := h c
  refine ⟨h0.trans ?_, h1.trans ?_, h2.trans ?_, h3.trans ?_, h4⟩
  all_goals
    simp only [(hagree c).1, (hagree c).2.1, (hagree c).2.2.1, (hagree c).2.2.2]
    symm
    clear h h0 h1 h2 h3 h4 hagree
  · refine (dats m 0 c).arrAt_eq_of_covers 4 _ (by decide +kernel) fun t hf y => ?_
    obtain ⟨-, -, -, -, ⟨e0, e1⟩, -⟩ := index_facts t
    blk_simp
    rw [after0_4]
    frame_out
    pointwise
    generalize hz : ((View.whole main_v0_0).slice (win0_4.rect t)).emb y = z
    have h0 : (z 0).val = t.val * 128 + (y 0).val := by rw [← hz]; blk_simp [e0]
    have h1 : (z 1).val = (y 1).val := by rw [← hz]; blk_simp [e1]
    rw [total m c t y (z 0) (z 1) h0 h1]
  · refine (dats m 0 c).arrAt_eq_of_covers 5 _ (by decide +kernel) fun t hf y => ?_
    obtain ⟨-, -, -, -, -, ⟨e0, e1⟩, -⟩ := index_facts t
    blk_simp
    rw [after0_5]
    frame_out
    unfold k0_pay3 k0_pay1 k0_pay2
    pointwise
    generalize hz : ((View.whole main_v0_1).slice (win0_5.rect t)).emb y = z
    have h0 : (z 0).val = t.val * 128 + (y 0).val := by rw [← hz]; blk_simp [e0]
    have h1 : (z 1).val = (y 1).val := by rw [← hz]; blk_simp [e1]
    rw [total m c t y (z 0) (z 1) h0 h1, weight_at m c t y z h0 h1, mean_at m c t y z h0 h1, square_at m c t y z h0 h1]
  · refine (dats m 0 c).arrAt_eq_of_covers 6 _ (by decide +kernel) fun t hf y => ?_
    obtain ⟨-, -, -, -, -, -, ⟨e0, e1⟩, -⟩ := index_facts t
    blk_simp
    rw [after0_6]
    frame_out
    unfold k0_pay1
    pointwise
    generalize hz : ((View.whole main_v0_2).slice (win0_6.rect t)).emb y = z
    have h0 : (z 0).val = t.val * 128 + (y 0).val := by rw [← hz]; blk_simp [e0]
    have h1 : (z 1).val = (y 1).val := by rw [← hz]; blk_simp [e1]
    rw [total m c t y (z 0) (z 1) h0 h1, mean_at m c t y z h0 h1]
  · refine (dats m 0 c).arrAt_eq_of_covers 7 _ (by decide +kernel) fun t hf y => ?_
    obtain ⟨-, -, -, -, -, -, -, e0, e1⟩ := index_facts t
    blk_simp
    rw [after0_7]
    frame_out
    unfold k0_pay2
    pointwise
    generalize hz : ((View.whole main_v0_3).slice (win0_7.rect t)).emb y = z
    have h0 : (z 0).val = t.val * 128 + (y 0).val := by rw [← hz]; blk_simp [e0]
    have h1 : (z 1).val = (y 1).val := by rw [← hz]; blk_simp [e1]
    rw [total m c t y (z 0) (z 1) h0 h1, square_at m c t y z h0 h1]

end Cert.StepOutIdeal.Gen

/-! ## The step of `ffn_up` -/

namespace Cert.StepUpIdeal.Gen

open Idealize.ShloMosaic Idealize.ShloMosaic.TcCoe
open Idealize.SL.Sem

/-- The windows' index maps, decided once. -/
theorem index_facts : ∀ t : Fin cfg0.N,
    ((cfg0.win 0).index t 0 = 0 ∧ (cfg0.win 0).index t 1 = t.val ∧ (cfg0.win 0).index t 2 = 0)
      ∧ ((cfg0.win 1).index t 0 = t.val ∧ (cfg0.win 1).index t 1 = 0) ∧ ((cfg0.win 2).index t 0 = t.val ∧ (cfg0.win 2).index t 1 = 0)
      ∧ ((cfg0.win 3).index t 0 = t.val ∧ (cfg0.win 3).index t 1 = 0) ∧ ((cfg0.win 4).index t 0 = t.val ∧ (cfg0.win 4).index t 1 = 0)
      ∧ ((cfg0.win 5).index t 0 = t.val ∧ (cfg0.win 5).index t 1 = 0) ∧ ((cfg0.win 6).index t 0 = t.val ∧ (cfg0.win 6).index t 1 = 0)
      ∧ ((cfg0.win 7).index t 0 = t.val ∧ (cfg0.win 7).index t 1 = 0) := by
  decide +kernel

variable (m : (ℓ : Loc nD τ sig) → Buf (Elt Ideal) ℓ)

/-- The parts on device `c`, as extended reals. -/
abbrev parts (c : Dev nD) : S8x1024x704.Idx → EReal := m ((c.tc : Thread nD τ).loc main_arg0)

/-- The sum of the parts, at an element of a block. -/
theorem total (c : Dev nD) (t : Fin cfg0.N) (y : S128x704.Idx) (a : Fin 1024) (b : Fin 704) (ha : a.val = t.val * 128 + (y 0).val) (hb : b.val = (y 1).val) :
    k0_pay5 (F := Ideal) (iblk m c 0 t) (iblk m c 1 t) (iblk m c 2 t) (iblk m c 3 t) y = ∑ x : Fin 8, parts m c (ix3 x a b) := by
  obtain ⟨⟨e00, e01, e02⟩, -⟩ := index_facts t
  unfold k0_pay5 k0_pay4
  pointwise
  rw [Fin.sum_univ_eight]
  (repeat' refine congrArg₂ (fun a b : EReal => a + b) ?_ ?_)
  all_goals blk_ext [iblk, V, e00, e01, e02, ha, hb]

/-- The weight, at an element of a block. -/
theorem weight_at (c : Dev nD) (t : Fin cfg0.N) (y : S128x704.Idx) (z : S1024x704.Idx) (h0 : (z 0).val = t.val * 128 + (y 0).val) (h1 : (z 1).val = (y 1).val) :
    iblk m c 1 t y = m ((c.tc : Thread nD τ).loc main_arg1) z := by
  obtain ⟨-, ⟨e0, e1⟩, -⟩ := index_facts t
  blk_ext [iblk, V, e0, e1, h0, h1]

/-- The mean, at an element of a block. -/
theorem mean_at (c : Dev nD) (t : Fin cfg0.N) (y : S128x704.Idx) (z : S1024x704.Idx) (h0 : (z 0).val = t.val * 128 + (y 0).val) (h1 : (z 1).val = (y 1).val) :
    iblk m c 2 t y = m ((c.tc : Thread nD τ).loc main_arg2) z := by
  obtain ⟨-, -, ⟨e0, e1⟩, -⟩ := index_facts t
  blk_ext [iblk, V, e0, e1, h0, h1]

/-- The mean square, at an element of a block. -/
theorem square_at (c : Dev nD) (t : Fin cfg0.N) (y : S128x704.Idx) (z : S1024x704.Idx) (h0 : (z 0).val = t.val * 128 + (y 0).val) (h1 : (z 1).val = (y 1).val) :
    iblk m c 3 t y = m ((c.tc : Thread nD τ).loc main_arg3) z := by
  obtain ⟨-, -, -, ⟨e0, e1⟩, -⟩ := index_facts t
  blk_ext [iblk, V, e0, e1, h0, h1]

theorem frame_bits : Cert.quiescent_StepUp := fun m ρ _ => Cert.StepUp.Gen.frame m ρ

theorem frame_ideal : Cert.quiescent_StepUpIdeal := fun m ρ _ => Cert.StepUpIdeal.Gen.frame m ρ

theorem frame_reference : Cert.quiescent_StepUpReferenceIdeal := fun m ρ _ =>
  (θ_run Cert.StepUpReferenceIdeal.defs _ _).mono (fun r h => ⟨fun c => (h c).2.2.2.2, sem_eq_zero_of_no_sems (by decide) r.2⟩) (Cert.StepUpReferenceIdeal.Value.run (F := Ideal) m ρ)

theorem value : Cert.algebraic_StepUpIdeal_StepUpReferenceIdeal := by
  intro m ρ m' ρ' _ hagree
  refine ⟨_, _, _, _, Cert.StepUpIdeal.Value.run_blocks (F := Ideal) m ρ, ?_⟩
  refine (θ_run Cert.StepUpReferenceIdeal.defs _ _).mono (fun r h c => ?_) (Cert.StepUpReferenceIdeal.Value.run (F := Ideal) m' ρ')
  obtain ⟨h0, h1, h2, h3, h4⟩ := h c
  refine ⟨h0.trans ?_, h1.trans ?_, h2.trans ?_, h3.trans ?_, h4⟩
  all_goals
    simp only [(hagree c).1, (hagree c).2.1, (hagree c).2.2.1, (hagree c).2.2.2]
    symm
    clear h h0 h1 h2 h3 h4 hagree
  · refine (dats m 0 c).arrAt_eq_of_covers 4 _ (by decide +kernel) fun t hf y => ?_
    obtain ⟨-, -, -, -, ⟨e0, e1⟩, -⟩ := index_facts t
    blk_simp
    rw [after0_4]
    frame_out
    pointwise
    generalize hz : ((View.whole main_v0_0).slice (win0_4.rect t)).emb y = z
    have h0 : (z 0).val = t.val * 128 + (y 0).val := by rw [← hz]; blk_simp [e0]
    have h1 : (z 1).val = (y 1).val := by rw [← hz]; blk_simp [e1]
    rw [total m c t y (z 0) (z 1) h0 h1]
  · refine (dats m 0 c).arrAt_eq_of_covers 5 _ (by decide +kernel) fun t hf y => ?_
    obtain ⟨-, -, -, -, -, ⟨e0, e1⟩, -⟩ := index_facts t
    blk_simp
    rw [after0_5]
    frame_out
    unfold k0_pay3 k0_pay1 k0_pay2
    pointwise
    generalize hz : ((View.whole main_v0_1).slice (win0_5.rect t)).emb y = z
    have h0 : (z 0).val = t.val * 128 + (y 0).val := by rw [← hz]; blk_simp [e0]
    have h1 : (z 1).val = (y 1).val := by rw [← hz]; blk_simp [e1]
    rw [total m c t y (z 0) (z 1) h0 h1, weight_at m c t y z h0 h1, mean_at m c t y z h0 h1, square_at m c t y z h0 h1]
  · refine (dats m 0 c).arrAt_eq_of_covers 6 _ (by decide +kernel) fun t hf y => ?_
    obtain ⟨-, -, -, -, -, -, ⟨e0, e1⟩, -⟩ := index_facts t
    blk_simp
    rw [after0_6]
    frame_out
    unfold k0_pay1
    pointwise
    generalize hz : ((View.whole main_v0_2).slice (win0_6.rect t)).emb y = z
    have h0 : (z 0).val = t.val * 128 + (y 0).val := by rw [← hz]; blk_simp [e0]
    have h1 : (z 1).val = (y 1).val := by rw [← hz]; blk_simp [e1]
    rw [total m c t y (z 0) (z 1) h0 h1, mean_at m c t y z h0 h1]
  · refine (dats m 0 c).arrAt_eq_of_covers 7 _ (by decide +kernel) fun t hf y => ?_
    obtain ⟨-, -, -, -, -, -, -, e0, e1⟩ := index_facts t
    blk_simp
    rw [after0_7]
    frame_out
    unfold k0_pay2
    pointwise
    generalize hz : ((View.whole main_v0_3).slice (win0_7.rect t)).emb y = z
    have h0 : (z 0).val = t.val * 128 + (y 0).val := by rw [← hz]; blk_simp [e0]
    have h1 : (z 1).val = (y 1).val := by rw [← hz]; blk_simp [e1]
    rw [total m c t y (z 0) (z 1) h0 h1, square_at m c t y z h0 h1]

end Cert.StepUpIdeal.Gen

/-! ## The step of `ffn_down` -/

namespace Cert.StepDownIdeal.Gen

open Idealize.ShloMosaic Idealize.ShloMosaic.TcCoe
open Idealize.SL.Sem

/-- The windows' index maps, decided once. -/
theorem index_facts : ∀ t : Fin cfg0.N,
    ((cfg0.win 0).index t 0 = 0 ∧ (cfg0.win 0).index t 1 = t.val ∧ (cfg0.win 0).index t 2 = 0)
      ∧ ((cfg0.win 1).index t 0 = t.val ∧ (cfg0.win 1).index t 1 = 0) ∧ ((cfg0.win 2).index t 0 = t.val ∧ (cfg0.win 2).index t 1 = 0)
      ∧ ((cfg0.win 3).index t 0 = t.val ∧ (cfg0.win 3).index t 1 = 0) ∧ ((cfg0.win 4).index t 0 = t.val ∧ (cfg0.win 4).index t 1 = 0)
      ∧ ((cfg0.win 5).index t 0 = t.val ∧ (cfg0.win 5).index t 1 = 0) ∧ ((cfg0.win 6).index t 0 = t.val ∧ (cfg0.win 6).index t 1 = 0)
      ∧ ((cfg0.win 7).index t 0 = t.val ∧ (cfg0.win 7).index t 1 = 0) := by
  decide +kernel

variable (m : (ℓ : Loc nD τ sig) → Buf (Elt Ideal) ℓ)

/-- The parts on device `c`, as extended reals. -/
abbrev parts (c : Dev nD) : S8x352x1024.Idx → EReal := m ((c.tc : Thread nD τ).loc main_arg0)

/-- The sum of the parts, at an element of a block. -/
theorem total (c : Dev nD) (t : Fin cfg0.N) (y : S32x1024.Idx) (a : Fin 352) (b : Fin 1024) (ha : a.val = t.val * 32 + (y 0).val) (hb : b.val = (y 1).val) :
    k0_pay5 (F := Ideal) (iblk m c 0 t) (iblk m c 1 t) (iblk m c 2 t) (iblk m c 3 t) y = ∑ x : Fin 8, parts m c (ix3 x a b) := by
  obtain ⟨⟨e00, e01, e02⟩, -⟩ := index_facts t
  unfold k0_pay5 k0_pay4
  pointwise
  rw [Fin.sum_univ_eight]
  (repeat' refine congrArg₂ (fun a b : EReal => a + b) ?_ ?_)
  all_goals blk_ext [iblk, V, e00, e01, e02, ha, hb]

/-- The weight, at an element of a block. -/
theorem weight_at (c : Dev nD) (t : Fin cfg0.N) (y : S32x1024.Idx) (z : S352x1024.Idx) (h0 : (z 0).val = t.val * 32 + (y 0).val) (h1 : (z 1).val = (y 1).val) :
    iblk m c 1 t y = m ((c.tc : Thread nD τ).loc main_arg1) z := by
  obtain ⟨-, ⟨e0, e1⟩, -⟩ := index_facts t
  blk_ext [iblk, V, e0, e1, h0, h1]

/-- The mean, at an element of a block. -/
theorem mean_at (c : Dev nD) (t : Fin cfg0.N) (y : S32x1024.Idx) (z : S352x1024.Idx) (h0 : (z 0).val = t.val * 32 + (y 0).val) (h1 : (z 1).val = (y 1).val) :
    iblk m c 2 t y = m ((c.tc : Thread nD τ).loc main_arg2) z := by
  obtain ⟨-, -, ⟨e0, e1⟩, -⟩ := index_facts t
  blk_ext [iblk, V, e0, e1, h0, h1]

/-- The mean square, at an element of a block. -/
theorem square_at (c : Dev nD) (t : Fin cfg0.N) (y : S32x1024.Idx) (z : S352x1024.Idx) (h0 : (z 0).val = t.val * 32 + (y 0).val) (h1 : (z 1).val = (y 1).val) :
    iblk m c 3 t y = m ((c.tc : Thread nD τ).loc main_arg3) z := by
  obtain ⟨-, -, -, ⟨e0, e1⟩, -⟩ := index_facts t
  blk_ext [iblk, V, e0, e1, h0, h1]

theorem frame_bits : Cert.quiescent_StepDown := fun m ρ _ => Cert.StepDown.Gen.frame m ρ

theorem frame_ideal : Cert.quiescent_StepDownIdeal := fun m ρ _ => Cert.StepDownIdeal.Gen.frame m ρ

theorem frame_reference : Cert.quiescent_StepDownReferenceIdeal := fun m ρ _ =>
  (θ_run Cert.StepDownReferenceIdeal.defs _ _).mono (fun r h => ⟨fun c => (h c).2.2.2.2, sem_eq_zero_of_no_sems (by decide) r.2⟩) (Cert.StepDownReferenceIdeal.Value.run (F := Ideal) m ρ)

theorem value : Cert.algebraic_StepDownIdeal_StepDownReferenceIdeal := by
  intro m ρ m' ρ' _ hagree
  refine ⟨_, _, _, _, Cert.StepDownIdeal.Value.run_blocks (F := Ideal) m ρ, ?_⟩
  refine (θ_run Cert.StepDownReferenceIdeal.defs _ _).mono (fun r h c => ?_) (Cert.StepDownReferenceIdeal.Value.run (F := Ideal) m' ρ')
  obtain ⟨h0, h1, h2, h3, h4⟩ := h c
  refine ⟨h0.trans ?_, h1.trans ?_, h2.trans ?_, h3.trans ?_, h4⟩
  all_goals
    simp only [(hagree c).1, (hagree c).2.1, (hagree c).2.2.1, (hagree c).2.2.2]
    symm
    clear h h0 h1 h2 h3 h4 hagree
  · refine (dats m 0 c).arrAt_eq_of_covers 4 _ (by decide +kernel) fun t hf y => ?_
    obtain ⟨-, -, -, -, ⟨e0, e1⟩, -⟩ := index_facts t
    blk_simp
    rw [after0_4]
    frame_out
    pointwise
    generalize hz : ((View.whole main_v0_0).slice (win0_4.rect t)).emb y = z
    have h0 : (z 0).val = t.val * 32 + (y 0).val := by rw [← hz]; blk_simp [e0]
    have h1 : (z 1).val = (y 1).val := by rw [← hz]; blk_simp [e1]
    rw [total m c t y (z 0) (z 1) h0 h1]
  · refine (dats m 0 c).arrAt_eq_of_covers 5 _ (by decide +kernel) fun t hf y => ?_
    obtain ⟨-, -, -, -, -, ⟨e0, e1⟩, -⟩ := index_facts t
    blk_simp
    rw [after0_5]
    frame_out
    unfold k0_pay3 k0_pay1 k0_pay2
    pointwise
    generalize hz : ((View.whole main_v0_1).slice (win0_5.rect t)).emb y = z
    have h0 : (z 0).val = t.val * 32 + (y 0).val := by rw [← hz]; blk_simp [e0]
    have h1 : (z 1).val = (y 1).val := by rw [← hz]; blk_simp [e1]
    rw [total m c t y (z 0) (z 1) h0 h1, weight_at m c t y z h0 h1, mean_at m c t y z h0 h1, square_at m c t y z h0 h1]
  · refine (dats m 0 c).arrAt_eq_of_covers 6 _ (by decide +kernel) fun t hf y => ?_
    obtain ⟨-, -, -, -, -, -, ⟨e0, e1⟩, -⟩ := index_facts t
    blk_simp
    rw [after0_6]
    frame_out
    unfold k0_pay1
    pointwise
    generalize hz : ((View.whole main_v0_2).slice (win0_6.rect t)).emb y = z
    have h0 : (z 0).val = t.val * 32 + (y 0).val := by rw [← hz]; blk_simp [e0]
    have h1 : (z 1).val = (y 1).val := by rw [← hz]; blk_simp [e1]
    rw [total m c t y (z 0) (z 1) h0 h1, mean_at m c t y z h0 h1]
  · refine (dats m 0 c).arrAt_eq_of_covers 7 _ (by decide +kernel) fun t hf y => ?_
    obtain ⟨-, -, -, -, -, -, -, e0, e1⟩ := index_facts t
    blk_simp
    rw [after0_7]
    frame_out
    unfold k0_pay2
    pointwise
    generalize hz : ((View.whole main_v0_3).slice (win0_7.rect t)).emb y = z
    have h0 : (z 0).val = t.val * 32 + (y 0).val := by rw [← hz]; blk_simp [e0]
    have h1 : (z 1).val = (y 1).val := by rw [← hz]; blk_simp [e1]
    rw [total m c t y (z 0) (z 1) h0 h1, square_at m c t y z h0 h1]

end Cert.StepDownIdeal.Gen

/-! ## The step of the small weights packed into one array -/

namespace Cert.StepSmallIdeal.Gen

open Idealize.ShloMosaic Idealize.ShloMosaic.TcCoe
open Idealize.SL.Sem

/-- The windows' index maps, decided once. -/
theorem index_facts : ∀ t : Fin cfg0.N,
    ((cfg0.win 0).index t 0 = 0 ∧ (cfg0.win 0).index t 1 = t.val ∧ (cfg0.win 0).index t 2 = 0)
      ∧ ((cfg0.win 1).index t 0 = t.val ∧ (cfg0.win 1).index t 1 = 0) ∧ ((cfg0.win 2).index t 0 = t.val ∧ (cfg0.win 2).index t 1 = 0)
      ∧ ((cfg0.win 3).index t 0 = t.val ∧ (cfg0.win 3).index t 1 = 0) ∧ ((cfg0.win 4).index t 0 = t.val ∧ (cfg0.win 4).index t 1 = 0)
      ∧ ((cfg0.win 5).index t 0 = t.val ∧ (cfg0.win 5).index t 1 = 0) ∧ ((cfg0.win 6).index t 0 = t.val ∧ (cfg0.win 6).index t 1 = 0)
      ∧ ((cfg0.win 7).index t 0 = t.val ∧ (cfg0.win 7).index t 1 = 0) := by
  decide +kernel

variable (m : (ℓ : Loc nD τ sig) → Buf (Elt Ideal) ℓ)

/-- The parts on device `c`, as extended reals. -/
abbrev parts (c : Dev nD) : S8x464x128.Idx → EReal := m ((c.tc : Thread nD τ).loc main_arg0)

/-- The sum of the parts, at an element of a block. -/
theorem total (c : Dev nD) (t : Fin cfg0.N) (y : S16x128.Idx) (a : Fin 464) (b : Fin 128) (ha : a.val = t.val * 16 + (y 0).val) (hb : b.val = (y 1).val) :
    k0_pay5 (F := Ideal) (iblk m c 0 t) (iblk m c 1 t) (iblk m c 2 t) (iblk m c 3 t) y = ∑ x : Fin 8, parts m c (ix3 x a b) := by
  obtain ⟨⟨e00, e01, e02⟩, -⟩ := index_facts t
  unfold k0_pay5 k0_pay3
  pointwise
  rw [Fin.sum_univ_eight]
  (repeat' refine congrArg₂ (fun a b : EReal => a + b) ?_ ?_)
  all_goals blk_ext [iblk, V, e00, e01, e02, ha, hb]

/-- The weight, at an element of a block. -/
theorem weight_at (c : Dev nD) (t : Fin cfg0.N) (y : S16x128.Idx) (z : S464x128.Idx) (h0 : (z 0).val = t.val * 16 + (y 0).val) (h1 : (z 1).val = (y 1).val) :
    iblk m c 1 t y = m ((c.tc : Thread nD τ).loc main_arg1) z := by
  obtain ⟨-, ⟨e0, e1⟩, -⟩ := index_facts t
  blk_ext [iblk, V, e0, e1, h0, h1]

/-- The mean, at an element of a block. -/
theorem mean_at (c : Dev nD) (t : Fin cfg0.N) (y : S16x128.Idx) (z : S464x128.Idx) (h0 : (z 0).val = t.val * 16 + (y 0).val) (h1 : (z 1).val = (y 1).val) :
    iblk m c 2 t y = m ((c.tc : Thread nD τ).loc main_arg2) z := by
  obtain ⟨-, -, ⟨e0, e1⟩, -⟩ := index_facts t
  blk_ext [iblk, V, e0, e1, h0, h1]

/-- The mean square, at an element of a block. -/
theorem square_at (c : Dev nD) (t : Fin cfg0.N) (y : S16x128.Idx) (z : S464x128.Idx) (h0 : (z 0).val = t.val * 16 + (y 0).val) (h1 : (z 1).val = (y 1).val) :
    iblk m c 3 t y = m ((c.tc : Thread nD τ).loc main_arg3) z := by
  obtain ⟨-, -, -, ⟨e0, e1⟩, -⟩ := index_facts t
  blk_ext [iblk, V, e0, e1, h0, h1]

/-- The new mean, at an element of a block. -/
theorem next_mean (c : Dev nD) (t : Fin cfg0.N) (y : S16x128.Idx) (z : S464x128.Idx) (h0 : (z 0).val = t.val * 16 + (y 0).val) (h1 : (z 1).val = (y 1).val) :
    k0_pay6 (F := Ideal) (iblk m c 0 t) (iblk m c 1 t) (iblk m c 2 t) (iblk m c 3 t) y
      = Ideal.ofBits .f32 1063675494#32 * m ((c.tc : Thread nD τ).loc main_arg2) z + Ideal.ofBits .f32 1036831949#32 * ∑ x : Fin 8, parts m c (ix3 x (z 0) (z 1)) := by
  rw [← total m c t y (z 0) (z 1) h0 h1, ← mean_at m c t y z h0 h1]
  unfold k0_pay6 k0_pay4 k0_pay5
  pointwise

theorem frame_bits : Cert.quiescent_StepSmall := fun m ρ _ => Cert.StepSmall.Gen.frame m ρ

theorem frame_ideal : Cert.quiescent_StepSmallIdeal := fun m ρ _ => Cert.StepSmallIdeal.Gen.frame m ρ

theorem frame_reference : Cert.quiescent_StepSmallReferenceIdeal := fun m ρ _ =>
  (θ_run Cert.StepSmallReferenceIdeal.defs _ _).mono (fun r h => ⟨fun c => (h c).2.2.2.2, sem_eq_zero_of_no_sems (by decide) r.2⟩) (Cert.StepSmallReferenceIdeal.Value.run (F := Ideal) m ρ)

theorem value : Cert.algebraic_StepSmallIdeal_StepSmallReferenceIdeal := by
  intro m ρ m' ρ' _ hagree
  refine ⟨_, _, _, _, Cert.StepSmallIdeal.Value.run_blocks (F := Ideal) m ρ, ?_⟩
  refine (θ_run Cert.StepSmallReferenceIdeal.defs _ _).mono (fun r h c => ?_) (Cert.StepSmallReferenceIdeal.Value.run (F := Ideal) m' ρ')
  obtain ⟨h0, h1, h2, h3, h4⟩ := h c
  refine ⟨h0.trans ?_, h1.trans ?_, h2.trans ?_, h3.trans ?_, h4⟩
  all_goals
    simp only [(hagree c).1, (hagree c).2.1, (hagree c).2.2.1, (hagree c).2.2.2]
    symm
    clear h h0 h1 h2 h3 h4 hagree
  · refine (dats m 0 c).arrAt_eq_of_covers 4 _ (by decide +kernel) fun t hf y => ?_
    obtain ⟨-, -, -, -, ⟨e0, e1⟩, -⟩ := index_facts t
    blk_simp
    rw [after0_4]
    frame_out
    pointwise
    generalize hz : ((View.whole main_v0_0).slice (win0_4.rect t)).emb y = z
    have h0 : (z 0).val = t.val * 16 + (y 0).val := by rw [← hz]; blk_simp [e0]
    have h1 : (z 1).val = (y 1).val := by rw [← hz]; blk_simp [e1]
    rw [total m c t y (z 0) (z 1) h0 h1]
  · refine (dats m 0 c).arrAt_eq_of_covers 5 _ (by decide +kernel) fun t hf y => ?_
    obtain ⟨-, -, -, -, -, ⟨e0, e1⟩, -⟩ := index_facts t
    blk_simp
    rw [after0_5]
    frame_out
    unfold k0_pay2 k0_pay1
    pointwise
    generalize hz : ((View.whole main_v0_1).slice (win0_5.rect t)).emb y = z
    have h0 : (z 0).val = t.val * 16 + (y 0).val := by rw [← hz]; blk_simp [e0]
    have h1 : (z 1).val = (y 1).val := by rw [← hz]; blk_simp [e1]
    rw [total m c t y (z 0) (z 1) h0 h1, weight_at m c t y z h0 h1, next_mean m c t y z h0 h1, square_at m c t y z h0 h1]
  · refine (dats m 0 c).arrAt_eq_of_covers 6 _ (by decide +kernel) fun t hf y => ?_
    obtain ⟨-, -, -, -, -, -, ⟨e0, e1⟩, -⟩ := index_facts t
    blk_simp
    rw [after0_6]
    frame_out
    pointwise
    generalize hz : ((View.whole main_v0_2).slice (win0_6.rect t)).emb y = z
    have h0 : (z 0).val = t.val * 16 + (y 0).val := by rw [← hz]; blk_simp [e0]
    have h1 : (z 1).val = (y 1).val := by rw [← hz]; blk_simp [e1]
    rw [next_mean m c t y z h0 h1]
  · refine (dats m 0 c).arrAt_eq_of_covers 7 _ (by decide +kernel) fun t hf y => ?_
    obtain ⟨-, -, -, -, -, -, -, e0, e1⟩ := index_facts t
    blk_simp
    rw [after0_7]
    frame_out
    unfold k0_pay1
    pointwise
    generalize hz : ((View.whole main_v0_3).slice (win0_7.rect t)).emb y = z
    have h0 : (z 0).val = t.val * 16 + (y 0).val := by rw [← hz]; blk_simp [e0]
    have h1 : (z 1).val = (y 1).val := by rw [← hz]; blk_simp [e1]
    rw [total m c t y (z 0) (z 1) h0 h1, square_at m c t y z h0 h1]

end Cert.StepSmallIdeal.Gen

/-! ## The step of `w_ada` -/

namespace Cert.StepAdaIdeal.Gen

open Idealize.ShloMosaic Idealize.ShloMosaic.TcCoe
open Idealize.SL.Sem

/-- The windows' index maps, decided once. -/
theorem index_facts : ∀ t : Fin cfg0.N,
    ((cfg0.win 0).index t 0 = 0 ∧ (cfg0.win 0).index t 1 = t.val ∧ (cfg0.win 0).index t 2 = 0)
      ∧ ((cfg0.win 1).index t 0 = t.val ∧ (cfg0.win 1).index t 1 = 0) ∧ ((cfg0.win 2).index t 0 = t.val ∧ (cfg0.win 2).index t 1 = 0)
      ∧ ((cfg0.win 3).index t 0 = t.val ∧ (cfg0.win 3).index t 1 = 0) ∧ ((cfg0.win 4).index t 0 = t.val ∧ (cfg0.win 4).index t 1 = 0)
      ∧ ((cfg0.win 5).index t 0 = t.val ∧ (cfg0.win 5).index t 1 = 0) ∧ ((cfg0.win 6).index t 0 = t.val ∧ (cfg0.win 6).index t 1 = 0)
      ∧ ((cfg0.win 7).index t 0 = t.val ∧ (cfg0.win 7).index t 1 = 0) := by
  decide +kernel

variable (m : (ℓ : Loc nD τ sig) → Buf (Elt Ideal) ℓ)

/-- The parts on device `c`, as extended reals. -/
abbrev parts (c : Dev nD) : S1x1024x768.Idx → EReal := m ((c.tc : Thread nD τ).loc main_arg0)

/-- The sum of the parts, at an element of a block. -/
theorem total (c : Dev nD) (t : Fin cfg0.N) (y : S128x768.Idx) (a : Fin 1024) (b : Fin 768) (ha : a.val = t.val * 128 + (y 0).val) (hb : b.val = (y 1).val) :
    k0_pay1 (F := Ideal) (iblk m c 0 t) y = ∑ x : Fin 1, parts m c (ix3 x a b) := by
  obtain ⟨⟨e00, e01, e02⟩, -⟩ := index_facts t
  unfold k0_pay1
  pointwise
  refine Eq.trans ?_ (Fintype.sum_unique _).symm
  blk_ext [iblk, V, e00, e01, e02, ha, hb]

/-- The weight, at an element of a block. -/
theorem weight_at (c : Dev nD) (t : Fin cfg0.N) (y : S128x768.Idx) (z : S1024x768.Idx) (h0 : (z 0).val = t.val * 128 + (y 0).val) (h1 : (z 1).val = (y 1).val) :
    iblk m c 1 t y = m ((c.tc : Thread nD τ).loc main_arg1) z := by
  obtain ⟨-, ⟨e0, e1⟩, -⟩ := index_facts t
  blk_ext [iblk, V, e0, e1, h0, h1]

/-- The mean, at an element of a block. -/
theorem mean_at (c : Dev nD) (t : Fin cfg0.N) (y : S128x768.Idx) (z : S1024x768.Idx) (h0 : (z 0).val = t.val * 128 + (y 0).val) (h1 : (z 1).val = (y 1).val) :
    iblk m c 2 t y = m ((c.tc : Thread nD τ).loc main_arg2) z := by
  obtain ⟨-, -, ⟨e0, e1⟩, -⟩ := index_facts t
  blk_ext [iblk, V, e0, e1, h0, h1]

/-- The mean square, at an element of a block. -/
theorem square_at (c : Dev nD) (t : Fin cfg0.N) (y : S128x768.Idx) (z : S1024x768.Idx) (h0 : (z 0).val = t.val * 128 + (y 0).val) (h1 : (z 1).val = (y 1).val) :
    iblk m c 3 t y = m ((c.tc : Thread nD τ).loc main_arg3) z := by
  obtain ⟨-, -, -, ⟨e0, e1⟩, -⟩ := index_facts t
  blk_ext [iblk, V, e0, e1, h0, h1]

theorem frame_bits : Cert.quiescent_StepAda := fun m ρ _ => Cert.StepAda.Gen.frame m ρ

theorem frame_ideal : Cert.quiescent_StepAdaIdeal := fun m ρ _ => Cert.StepAdaIdeal.Gen.frame m ρ

theorem frame_reference : Cert.quiescent_StepAdaReferenceIdeal := fun m ρ _ =>
  (θ_run Cert.StepAdaReferenceIdeal.defs _ _).mono (fun r h => ⟨fun c => (h c).2.2.2.2, sem_eq_zero_of_no_sems (by decide) r.2⟩) (Cert.StepAdaReferenceIdeal.Value.run (F := Ideal) m ρ)

theorem value : Cert.algebraic_StepAdaIdeal_StepAdaReferenceIdeal := by
  intro m ρ m' ρ' _ hagree
  refine ⟨_, _, _, _, Cert.StepAdaIdeal.Value.run_blocks (F := Ideal) m ρ, ?_⟩
  refine (θ_run Cert.StepAdaReferenceIdeal.defs _ _).mono (fun r h c => ?_) (Cert.StepAdaReferenceIdeal.Value.run (F := Ideal) m' ρ')
  obtain ⟨h0, h1, h2, h3, h4⟩ := h c
  refine ⟨h0.trans ?_, h1.trans ?_, h2.trans ?_, h3.trans ?_, h4⟩
  all_goals
    simp only [(hagree c).1, (hagree c).2.1, (hagree c).2.2.1, (hagree c).2.2.2]
    symm
    clear h h0 h1 h2 h3 h4 hagree
  · refine (dats m 0 c).arrAt_eq_of_covers 4 _ (by decide +kernel) fun t hf y => ?_
    obtain ⟨-, -, -, -, ⟨e0, e1⟩, -⟩ := index_facts t
    blk_simp
    rw [after0_4]
    frame_out
    pointwise
    generalize hz : ((View.whole main_v0_0).slice (win0_4.rect t)).emb y = z
    have h0 : (z 0).val = t.val * 128 + (y 0).val := by rw [← hz]; blk_simp [e0]
    have h1 : (z 1).val = (y 1).val := by rw [← hz]; blk_simp [e1]
    rw [total m c t y (z 0) (z 1) h0 h1]
  · refine (dats m 0 c).arrAt_eq_of_covers 5 _ (by decide +kernel) fun t hf y => ?_
    obtain ⟨-, -, -, -, -, ⟨e0, e1⟩, -⟩ := index_facts t
    blk_simp
    rw [after0_5]
    frame_out
    unfold k0_pay4 k0_pay3 k0_pay2
    pointwise
    generalize hz : ((View.whole main_v0_1).slice (win0_5.rect t)).emb y = z
    have h0 : (z 0).val = t.val * 128 + (y 0).val := by rw [← hz]; blk_simp [e0]
    have h1 : (z 1).val = (y 1).val := by rw [← hz]; blk_simp [e1]
    rw [total m c t y (z 0) (z 1) h0 h1, weight_at m c t y z h0 h1, mean_at m c t y z h0 h1, square_at m c t y z h0 h1]
  · refine (dats m 0 c).arrAt_eq_of_covers 6 _ (by decide +kernel) fun t hf y => ?_
    obtain ⟨-, -, -, -, -, -, ⟨e0, e1⟩, -⟩ := index_facts t
    blk_simp
    rw [after0_6]
    frame_out
    unfold k0_pay2
    pointwise
    generalize hz : ((View.whole main_v0_2).slice (win0_6.rect t)).emb y = z
    have h0 : (z 0).val = t.val * 128 + (y 0).val := by rw [← hz]; blk_simp [e0]
    have h1 : (z 1).val = (y 1).val := by rw [← hz]; blk_simp [e1]
    rw [total m c t y (z 0) (z 1) h0 h1, mean_at m c t y z h0 h1]
  · refine (dats m 0 c).arrAt_eq_of_covers 7 _ (by decide +kernel) fun t hf y => ?_
    obtain ⟨-, -, -, -, -, -, -, e0, e1⟩ := index_facts t
    blk_simp
    rw [after0_7]
    frame_out
    unfold k0_pay3
    pointwise
    generalize hz : ((View.whole main_v0_3).slice (win0_7.rect t)).emb y = z
    have h0 : (z 0).val = t.val * 128 + (y 0).val := by rw [← hz]; blk_simp [e0]
    have h1 : (z 1).val = (y 1).val := by rw [← hz]; blk_simp [e1]
    rw [total m c t y (z 0) (z 1) h0 h1, square_at m c t y z h0 h1]

end Cert.StepAdaIdeal.Gen

/-! ## The step of `dn_conv` -/

namespace Cert.StepConvIdeal.Gen

open Idealize.ShloMosaic Idealize.ShloMosaic.TcCoe
open Idealize.SL.Sem

/-- The windows' index maps, decided once. -/
theorem index_facts : ∀ t : Fin cfg0.N,
    ((cfg0.win 0).index t 0 = 0 ∧ (cfg0.win 0).index t 1 = t.val ∧ (cfg0.win 0).index t 2 = 0)
      ∧ ((cfg0.win 1).index t 0 = t.val ∧ (cfg0.win 1).index t 1 = 0) ∧ ((cfg0.win 2).index t 0 = t.val ∧ (cfg0.win 2).index t 1 = 0)
      ∧ ((cfg0.win 3).index t 0 = t.val ∧ (cfg0.win 3).index t 1 = 0) ∧ ((cfg0.win 4).index t 0 = t.val ∧ (cfg0.win 4).index t 1 = 0)
      ∧ ((cfg0.win 5).index t 0 = t.val ∧ (cfg0.win 5).index t 1 = 0) ∧ ((cfg0.win 6).index t 0 = t.val ∧ (cfg0.win 6).index t 1 = 0)
      ∧ ((cfg0.win 7).index t 0 = t.val ∧ (cfg0.win 7).index t 1 = 0) := by
  decide +kernel

variable (m : (ℓ : Loc nD τ sig) → Buf (Elt Ideal) ℓ)

/-- The parts on device `c`, as extended reals. -/
abbrev parts (c : Dev nD) : S1x8x384.Idx → EReal := m ((c.tc : Thread nD τ).loc main_arg0)

/-- The sum of the parts, at an element of a block. -/
theorem total (c : Dev nD) (t : Fin cfg0.N) (y : S8x384.Idx) (a : Fin 8) (b : Fin 384) (ha : a.val = t.val * 8 + (y 0).val) (hb : b.val = (y 1).val) :
    k0_pay1 (F := Ideal) (iblk m c 0 t) y = ∑ x : Fin 1, parts m c (ix3 x a b) := by
  obtain ⟨⟨e00, e01, e02⟩, -⟩ := index_facts t
  unfold k0_pay1
  pointwise
  refine Eq.trans ?_ (Fintype.sum_unique _).symm
  blk_ext [iblk, V, e00, e01, e02, ha, hb]

/-- The weight, at an element of a block. -/
theorem weight_at (c : Dev nD) (t : Fin cfg0.N) (y : S8x384.Idx) (z : S8x384.Idx) (h0 : (z 0).val = t.val * 8 + (y 0).val) (h1 : (z 1).val = (y 1).val) :
    iblk m c 1 t y = m ((c.tc : Thread nD τ).loc main_arg1) z := by
  obtain ⟨-, ⟨e0, e1⟩, -⟩ := index_facts t
  blk_ext [iblk, V, e0, e1, h0, h1]

/-- The mean, at an element of a block. -/
theorem mean_at (c : Dev nD) (t : Fin cfg0.N) (y : S8x384.Idx) (z : S8x384.Idx) (h0 : (z 0).val = t.val * 8 + (y 0).val) (h1 : (z 1).val = (y 1).val) :
    iblk m c 2 t y = m ((c.tc : Thread nD τ).loc main_arg2) z := by
  obtain ⟨-, -, ⟨e0, e1⟩, -⟩ := index_facts t
  blk_ext [iblk, V, e0, e1, h0, h1]

/-- The mean square, at an element of a block. -/
theorem square_at (c : Dev nD) (t : Fin cfg0.N) (y : S8x384.Idx) (z : S8x384.Idx) (h0 : (z 0).val = t.val * 8 + (y 0).val) (h1 : (z 1).val = (y 1).val) :
    iblk m c 3 t y = m ((c.tc : Thread nD τ).loc main_arg3) z := by
  obtain ⟨-, -, -, ⟨e0, e1⟩, -⟩ := index_facts t
  blk_ext [iblk, V, e0, e1, h0, h1]

theorem frame_bits : Cert.quiescent_StepConv := fun m ρ _ => Cert.StepConv.Gen.frame m ρ

theorem frame_ideal : Cert.quiescent_StepConvIdeal := fun m ρ _ => Cert.StepConvIdeal.Gen.frame m ρ

theorem frame_reference : Cert.quiescent_StepConvReferenceIdeal := fun m ρ _ =>
  (θ_run Cert.StepConvReferenceIdeal.defs _ _).mono (fun r h => ⟨fun c => (h c).2.2.2.2, sem_eq_zero_of_no_sems (by decide) r.2⟩) (Cert.StepConvReferenceIdeal.Value.run (F := Ideal) m ρ)

theorem value : Cert.algebraic_StepConvIdeal_StepConvReferenceIdeal := by
  intro m ρ m' ρ' _ hagree
  refine ⟨_, _, _, _, Cert.StepConvIdeal.Value.run_blocks (F := Ideal) m ρ, ?_⟩
  refine (θ_run Cert.StepConvReferenceIdeal.defs _ _).mono (fun r h c => ?_) (Cert.StepConvReferenceIdeal.Value.run (F := Ideal) m' ρ')
  obtain ⟨h0, h1, h2, h3, h4⟩ := h c
  refine ⟨h0.trans ?_, h1.trans ?_, h2.trans ?_, h3.trans ?_, h4⟩
  all_goals
    simp only [(hagree c).1, (hagree c).2.1, (hagree c).2.2.1, (hagree c).2.2.2]
    symm
    clear h h0 h1 h2 h3 h4 hagree
  · refine (dats m 0 c).arrAt_eq_of_covers 4 _ (by decide +kernel) fun t hf y => ?_
    obtain ⟨-, -, -, -, ⟨e0, e1⟩, -⟩ := index_facts t
    blk_simp
    rw [after0_4]
    frame_out
    pointwise
    generalize hz : ((View.whole main_v0_0).slice (win0_4.rect t)).emb y = z
    have h0 : (z 0).val = t.val * 8 + (y 0).val := by rw [← hz]; blk_simp [e0]
    have h1 : (z 1).val = (y 1).val := by rw [← hz]; blk_simp [e1]
    rw [total m c t y (z 0) (z 1) h0 h1]
  · refine (dats m 0 c).arrAt_eq_of_covers 5 _ (by decide +kernel) fun t hf y => ?_
    obtain ⟨-, -, -, -, -, ⟨e0, e1⟩, -⟩ := index_facts t
    blk_simp
    rw [after0_5]
    frame_out
    unfold k0_pay4 k0_pay3 k0_pay2
    pointwise
    generalize hz : ((View.whole main_v0_1).slice (win0_5.rect t)).emb y = z
    have h0 : (z 0).val = t.val * 8 + (y 0).val := by rw [← hz]; blk_simp [e0]
    have h1 : (z 1).val = (y 1).val := by rw [← hz]; blk_simp [e1]
    rw [total m c t y (z 0) (z 1) h0 h1, weight_at m c t y z h0 h1, mean_at m c t y z h0 h1, square_at m c t y z h0 h1]
  · refine (dats m 0 c).arrAt_eq_of_covers 6 _ (by decide +kernel) fun t hf y => ?_
    obtain ⟨-, -, -, -, -, -, ⟨e0, e1⟩, -⟩ := index_facts t
    blk_simp
    rw [after0_6]
    frame_out
    unfold k0_pay2
    pointwise
    generalize hz : ((View.whole main_v0_2).slice (win0_6.rect t)).emb y = z
    have h0 : (z 0).val = t.val * 8 + (y 0).val := by rw [← hz]; blk_simp [e0]
    have h1 : (z 1).val = (y 1).val := by rw [← hz]; blk_simp [e1]
    rw [total m c t y (z 0) (z 1) h0 h1, mean_at m c t y z h0 h1]
  · refine (dats m 0 c).arrAt_eq_of_covers 7 _ (by decide +kernel) fun t hf y => ?_
    obtain ⟨-, -, -, -, -, -, -, e0, e1⟩ := index_facts t
    blk_simp
    rw [after0_7]
    frame_out
    unfold k0_pay3
    pointwise
    generalize hz : ((View.whole main_v0_3).slice (win0_7.rect t)).emb y = z
    have h0 : (z 0).val = t.val * 8 + (y 0).val := by rw [← hz]; blk_simp [e0]
    have h1 : (z 1).val = (y 1).val := by rw [← hz]; blk_simp [e1]
    rw [total m c t y (z 0) (z 1) h0 h1, square_at m c t y z h0 h1]

end Cert.StepConvIdeal.Gen

/-! ## The step of `ffn_conv` -/

namespace Cert.StepFfnConvIdeal.Gen

open Idealize.ShloMosaic Idealize.ShloMosaic.TcCoe
open Idealize.SL.Sem

/-- The windows' index maps, decided once. -/
theorem index_facts : ∀ t : Fin cfg0.N,
    ((cfg0.win 0).index t 0 = 0 ∧ (cfg0.win 0).index t 1 = t.val ∧ (cfg0.win 0).index t 2 = 0)
      ∧ ((cfg0.win 1).index t 0 = t.val ∧ (cfg0.win 1).index t 1 = 0) ∧ ((cfg0.win 2).index t 0 = t.val ∧ (cfg0.win 2).index t 1 = 0)
      ∧ ((cfg0.win 3).index t 0 = t.val ∧ (cfg0.win 3).index t 1 = 0) ∧ ((cfg0.win 4).index t 0 = t.val ∧ (cfg0.win 4).index t 1 = 0)
      ∧ ((cfg0.win 5).index t 0 = t.val ∧ (cfg0.win 5).index t 1 = 0) ∧ ((cfg0.win 6).index t 0 = t.val ∧ (cfg0.win 6).index t 1 = 0)
      ∧ ((cfg0.win 7).index t 0 = t.val ∧ (cfg0.win 7).index t 1 = 0) := by
  decide +kernel

variable (m : (ℓ : Loc nD τ sig) → Buf (Elt Ideal) ℓ)

/-- The parts on device `c`, as extended reals. -/
abbrev parts (c : Dev nD) : S1x8x704.Idx → EReal := m ((c.tc : Thread nD τ).loc main_arg0)

/-- The sum of the parts, at an element of a block. -/
theorem total (c : Dev nD) (t : Fin cfg0.N) (y : S8x704.Idx) (a : Fin 8) (b : Fin 704) (ha : a.val = t.val * 8 + (y 0).val) (hb : b.val = (y 1).val) :
    k0_pay1 (F := Ideal) (iblk m c 0 t) y = ∑ x : Fin 1, parts m c (ix3 x a b) := by
  obtain ⟨⟨e00, e01, e02⟩, -⟩ := index_facts t
  unfold k0_pay1
  pointwise
  refine Eq.trans ?_ (Fintype.sum_unique _).symm
  blk_ext [iblk, V, e00, e01, e02, ha, hb]

/-- The weight, at an element of a block. -/
theorem weight_at (c : Dev nD) (t : Fin cfg0.N) (y : S8x704.Idx) (z : S8x704.Idx) (h0 : (z 0).val = t.val * 8 + (y 0).val) (h1 : (z 1).val = (y 1).val) :
    iblk m c 1 t y = m ((c.tc : Thread nD τ).loc main_arg1) z := by
  obtain ⟨-, ⟨e0, e1⟩, -⟩ := index_facts t
  blk_ext [iblk, V, e0, e1, h0, h1]

/-- The mean, at an element of a block. -/
theorem mean_at (c : Dev nD) (t : Fin cfg0.N) (y : S8x704.Idx) (z : S8x704.Idx) (h0 : (z 0).val = t.val * 8 + (y 0).val) (h1 : (z 1).val = (y 1).val) :
    iblk m c 2 t y = m ((c.tc : Thread nD τ).loc main_arg2) z := by
  obtain ⟨-, -, ⟨e0, e1⟩, -⟩ := index_facts t
  blk_ext [iblk, V, e0, e1, h0, h1]

/-- The mean square, at an element of a block. -/
theorem square_at (c : Dev nD) (t : Fin cfg0.N) (y : S8x704.Idx) (z : S8x704.Idx) (h0 : (z 0).val = t.val * 8 + (y 0).val) (h1 : (z 1).val = (y 1).val) :
    iblk m c 3 t y = m ((c.tc : Thread nD τ).loc main_arg3) z := by
  obtain ⟨-, -, -, ⟨e0, e1⟩, -⟩ := index_facts t
  blk_ext [iblk, V, e0, e1, h0, h1]

theorem frame_bits : Cert.quiescent_StepFfnConv := fun m ρ _ => Cert.StepFfnConv.Gen.frame m ρ

theorem frame_ideal : Cert.quiescent_StepFfnConvIdeal := fun m ρ _ => Cert.StepFfnConvIdeal.Gen.frame m ρ

theorem frame_reference : Cert.quiescent_StepFfnConvReferenceIdeal := fun m ρ _ =>
  (θ_run Cert.StepFfnConvReferenceIdeal.defs _ _).mono (fun r h => ⟨fun c => (h c).2.2.2.2, sem_eq_zero_of_no_sems (by decide) r.2⟩) (Cert.StepFfnConvReferenceIdeal.Value.run (F := Ideal) m ρ)

theorem value : Cert.algebraic_StepFfnConvIdeal_StepFfnConvReferenceIdeal := by
  intro m ρ m' ρ' _ hagree
  refine ⟨_, _, _, _, Cert.StepFfnConvIdeal.Value.run_blocks (F := Ideal) m ρ, ?_⟩
  refine (θ_run Cert.StepFfnConvReferenceIdeal.defs _ _).mono (fun r h c => ?_) (Cert.StepFfnConvReferenceIdeal.Value.run (F := Ideal) m' ρ')
  obtain ⟨h0, h1, h2, h3, h4⟩ := h c
  refine ⟨h0.trans ?_, h1.trans ?_, h2.trans ?_, h3.trans ?_, h4⟩
  all_goals
    simp only [(hagree c).1, (hagree c).2.1, (hagree c).2.2.1, (hagree c).2.2.2]
    symm
    clear h h0 h1 h2 h3 h4 hagree
  · refine (dats m 0 c).arrAt_eq_of_covers 4 _ (by decide +kernel) fun t hf y => ?_
    obtain ⟨-, -, -, -, ⟨e0, e1⟩, -⟩ := index_facts t
    blk_simp
    rw [after0_4]
    frame_out
    pointwise
    generalize hz : ((View.whole main_v0_0).slice (win0_4.rect t)).emb y = z
    have h0 : (z 0).val = t.val * 8 + (y 0).val := by rw [← hz]; blk_simp [e0]
    have h1 : (z 1).val = (y 1).val := by rw [← hz]; blk_simp [e1]
    rw [total m c t y (z 0) (z 1) h0 h1]
  · refine (dats m 0 c).arrAt_eq_of_covers 5 _ (by decide +kernel) fun t hf y => ?_
    obtain ⟨-, -, -, -, -, ⟨e0, e1⟩, -⟩ := index_facts t
    blk_simp
    rw [after0_5]
    frame_out
    unfold k0_pay4 k0_pay3 k0_pay2
    pointwise
    generalize hz : ((View.whole main_v0_1).slice (win0_5.rect t)).emb y = z
    have h0 : (z 0).val = t.val * 8 + (y 0).val := by rw [← hz]; blk_simp [e0]
    have h1 : (z 1).val = (y 1).val := by rw [← hz]; blk_simp [e1]
    rw [total m c t y (z 0) (z 1) h0 h1, weight_at m c t y z h0 h1, mean_at m c t y z h0 h1, square_at m c t y z h0 h1]
  · refine (dats m 0 c).arrAt_eq_of_covers 6 _ (by decide +kernel) fun t hf y => ?_
    obtain ⟨-, -, -, -, -, -, ⟨e0, e1⟩, -⟩ := index_facts t
    blk_simp
    rw [after0_6]
    frame_out
    unfold k0_pay2
    pointwise
    generalize hz : ((View.whole main_v0_2).slice (win0_6.rect t)).emb y = z
    have h0 : (z 0).val = t.val * 8 + (y 0).val := by rw [← hz]; blk_simp [e0]
    have h1 : (z 1).val = (y 1).val := by rw [← hz]; blk_simp [e1]
    rw [total m c t y (z 0) (z 1) h0 h1, mean_at m c t y z h0 h1]
  · refine (dats m 0 c).arrAt_eq_of_covers 7 _ (by decide +kernel) fun t hf y => ?_
    obtain ⟨-, -, -, -, -, -, -, e0, e1⟩ := index_facts t
    blk_simp
    rw [after0_7]
    frame_out
    unfold k0_pay3
    pointwise
    generalize hz : ((View.whole main_v0_3).slice (win0_7.rect t)).emb y = z
    have h0 : (z 0).val = t.val * 8 + (y 0).val := by rw [← hz]; blk_simp [e0]
    have h1 : (z 1).val = (y 1).val := by rw [← hz]; blk_simp [e1]
    rw [total m c t y (z 0) (z 1) h0 h1, square_at m c t y z h0 h1]

end Cert.StepFfnConvIdeal.Gen

/-! ## The step of `c_ctx` -/

namespace Cert.StepCtxIdeal.Gen

open Idealize.ShloMosaic Idealize.ShloMosaic.TcCoe
open Idealize.SL.Sem

/-- The windows' index maps, decided once. -/
theorem index_facts : ∀ t : Fin cfg0.N,
    ((cfg0.win 0).index t 0 = 0 ∧ (cfg0.win 0).index t 1 = t.val ∧ (cfg0.win 0).index t 2 = 0)
      ∧ ((cfg0.win 1).index t 0 = t.val ∧ (cfg0.win 1).index t 1 = 0) ∧ ((cfg0.win 2).index t 0 = t.val ∧ (cfg0.win 2).index t 1 = 0)
      ∧ ((cfg0.win 3).index t 0 = t.val ∧ (cfg0.win 3).index t 1 = 0) ∧ ((cfg0.win 4).index t 0 = t.val ∧ (cfg0.win 4).index t 1 = 0)
      ∧ ((cfg0.win 5).index t 0 = t.val ∧ (cfg0.win 5).index t 1 = 0) ∧ ((cfg0.win 6).index t 0 = t.val ∧ (cfg0.win 6).index t 1 = 0)
      ∧ ((cfg0.win 7).index t 0 = t.val ∧ (cfg0.win 7).index t 1 = 0) := by
  decide +kernel

variable (m : (ℓ : Loc nD τ sig) → Buf (Elt Ideal) ℓ)

/-- The parts on device `c`, as extended reals. -/
abbrev parts (c : Dev nD) : S1x8x1024.Idx → EReal := m ((c.tc : Thread nD τ).loc main_arg0)

/-- The sum of the parts, at an element of a block. -/
theorem total (c : Dev nD) (t : Fin cfg0.N) (y : S8x1024.Idx) (a : Fin 8) (b : Fin 1024) (ha : a.val = t.val * 8 + (y 0).val) (hb : b.val = (y 1).val) :
    k0_pay1 (F := Ideal) (iblk m c 0 t) y = ∑ x : Fin 1, parts m c (ix3 x a b) := by
  obtain ⟨⟨e00, e01, e02⟩, -⟩ := index_facts t
  unfold k0_pay1
  pointwise
  refine Eq.trans ?_ (Fintype.sum_unique _).symm
  blk_ext [iblk, V, e00, e01, e02, ha, hb]

/-- The weight, at an element of a block. -/
theorem weight_at (c : Dev nD) (t : Fin cfg0.N) (y : S8x1024.Idx) (z : S8x1024.Idx) (h0 : (z 0).val = t.val * 8 + (y 0).val) (h1 : (z 1).val = (y 1).val) :
    iblk m c 1 t y = m ((c.tc : Thread nD τ).loc main_arg1) z := by
  obtain ⟨-, ⟨e0, e1⟩, -⟩ := index_facts t
  blk_ext [iblk, V, e0, e1, h0, h1]

/-- The mean, at an element of a block. -/
theorem mean_at (c : Dev nD) (t : Fin cfg0.N) (y : S8x1024.Idx) (z : S8x1024.Idx) (h0 : (z 0).val = t.val * 8 + (y 0).val) (h1 : (z 1).val = (y 1).val) :
    iblk m c 2 t y = m ((c.tc : Thread nD τ).loc main_arg2) z := by
  obtain ⟨-, -, ⟨e0, e1⟩, -⟩ := index_facts t
  blk_ext [iblk, V, e0, e1, h0, h1]

/-- The mean square, at an element of a block. -/
theorem square_at (c : Dev nD) (t : Fin cfg0.N) (y : S8x1024.Idx) (z : S8x1024.Idx) (h0 : (z 0).val = t.val * 8 + (y 0).val) (h1 : (z 1).val = (y 1).val) :
    iblk m c 3 t y = m ((c.tc : Thread nD τ).loc main_arg3) z := by
  obtain ⟨-, -, -, ⟨e0, e1⟩, -⟩ := index_facts t
  blk_ext [iblk, V, e0, e1, h0, h1]

theorem frame_bits : Cert.quiescent_StepCtx := fun m ρ _ => Cert.StepCtx.Gen.frame m ρ

theorem frame_ideal : Cert.quiescent_StepCtxIdeal := fun m ρ _ => Cert.StepCtxIdeal.Gen.frame m ρ

theorem frame_reference : Cert.quiescent_StepCtxReferenceIdeal := fun m ρ _ =>
  (θ_run Cert.StepCtxReferenceIdeal.defs _ _).mono (fun r h => ⟨fun c => (h c).2.2.2.2, sem_eq_zero_of_no_sems (by decide) r.2⟩) (Cert.StepCtxReferenceIdeal.Value.run (F := Ideal) m ρ)

theorem value : Cert.algebraic_StepCtxIdeal_StepCtxReferenceIdeal := by
  intro m ρ m' ρ' _ hagree
  refine ⟨_, _, _, _, Cert.StepCtxIdeal.Value.run_blocks (F := Ideal) m ρ, ?_⟩
  refine (θ_run Cert.StepCtxReferenceIdeal.defs _ _).mono (fun r h c => ?_) (Cert.StepCtxReferenceIdeal.Value.run (F := Ideal) m' ρ')
  obtain ⟨h0, h1, h2, h3, h4⟩ := h c
  refine ⟨h0.trans ?_, h1.trans ?_, h2.trans ?_, h3.trans ?_, h4⟩
  all_goals
    simp only [(hagree c).1, (hagree c).2.1, (hagree c).2.2.1, (hagree c).2.2.2]
    symm
    clear h h0 h1 h2 h3 h4 hagree
  · refine (dats m 0 c).arrAt_eq_of_covers 4 _ (by decide +kernel) fun t hf y => ?_
    obtain ⟨-, -, -, -, ⟨e0, e1⟩, -⟩ := index_facts t
    blk_simp
    rw [after0_4]
    frame_out
    pointwise
    generalize hz : ((View.whole main_v0_0).slice (win0_4.rect t)).emb y = z
    have h0 : (z 0).val = t.val * 8 + (y 0).val := by rw [← hz]; blk_simp [e0]
    have h1 : (z 1).val = (y 1).val := by rw [← hz]; blk_simp [e1]
    rw [total m c t y (z 0) (z 1) h0 h1]
  · refine (dats m 0 c).arrAt_eq_of_covers 5 _ (by decide +kernel) fun t hf y => ?_
    obtain ⟨-, -, -, -, -, ⟨e0, e1⟩, -⟩ := index_facts t
    blk_simp
    rw [after0_5]
    frame_out
    unfold k0_pay4 k0_pay3 k0_pay2
    pointwise
    generalize hz : ((View.whole main_v0_1).slice (win0_5.rect t)).emb y = z
    have h0 : (z 0).val = t.val * 8 + (y 0).val := by rw [← hz]; blk_simp [e0]
    have h1 : (z 1).val = (y 1).val := by rw [← hz]; blk_simp [e1]
    rw [total m c t y (z 0) (z 1) h0 h1, weight_at m c t y z h0 h1, mean_at m c t y z h0 h1, square_at m c t y z h0 h1]
  · refine (dats m 0 c).arrAt_eq_of_covers 6 _ (by decide +kernel) fun t hf y => ?_
    obtain ⟨-, -, -, -, -, -, ⟨e0, e1⟩, -⟩ := index_facts t
    blk_simp
    rw [after0_6]
    frame_out
    unfold k0_pay2
    pointwise
    generalize hz : ((View.whole main_v0_2).slice (win0_6.rect t)).emb y = z
    have h0 : (z 0).val = t.val * 8 + (y 0).val := by rw [← hz]; blk_simp [e0]
    have h1 : (z 1).val = (y 1).val := by rw [← hz]; blk_simp [e1]
    rw [total m c t y (z 0) (z 1) h0 h1, mean_at m c t y z h0 h1]
  · refine (dats m 0 c).arrAt_eq_of_covers 7 _ (by decide +kernel) fun t hf y => ?_
    obtain ⟨-, -, -, -, -, -, -, e0, e1⟩ := index_facts t
    blk_simp
    rw [after0_7]
    frame_out
    unfold k0_pay3
    pointwise
    generalize hz : ((View.whole main_v0_3).slice (win0_7.rect t)).emb y = z
    have h0 : (z 0).val = t.val * 8 + (y 0).val := by rw [← hz]; blk_simp [e0]
    have h1 : (z 1).val = (y 1).val := by rw [← hz]; blk_simp [e1]
    rw [total m c t y (z 0) (z 1) h0 h1, square_at m c t y z h0 h1]

end Cert.StepCtxIdeal.Gen

end
-- ==== Proof.NormBack.lean ====
/-
  The backward pass of the first modulated norm, on one device: at the real numbers, the gradient of the rows block by block, and the gradients of the
  norm's weight, of the shift and of the scale summed block after block, are the whole arrays' ones. With the frames of the programs.
-/
module

public import proofs.«01_k».proof.Proof.Updates
public import proofs.«01_k».proof.Proof.Gen.Back.Frame
public import proofs.«01_k».proof.Proof.Gen.BackIdeal.Frame
public import proofs.«01_k».proof.Proof.Gen.BackReferenceIdeal.Run
public import Idealize.ShloMosaic.Lib.Pipeline.ValueKit
public import Idealize.ShloMosaic.Lib.Pointwise
public import Idealize.ShloMosaic.Lib.Quiescent

@[expose] public section

noncomputable section

namespace Cert.BackIdeal.Gen

open Idealize.ShloMosaic Idealize.ShloMosaic.TcCoe
open Idealize.SL.Sem

variable (m : (ℓ : Loc nD τ sig) → Buf (Elt Ideal) ℓ)

theorem origin : (![0, 0] : Fin 2 → Nat) = fun _ => 0 := funext fun a => by fin_cases a <;> rfl

/-! ## What a point leaves -/

/-- The block of the rows' gradient. -/
theorem left_6 (c : Dev nD) (t : Fin cfg0.N) : (outsAt0 m c t.val t.isLt).1
    = k0_pay1 (F := Ideal) (iblk m c 0 t) (k0_pay17 (iblk m c 0 t) (iblk m c 1 t) (iblk m c 3 t) (X0_4 m c t))
        (k0_pay18 (iblk m c 0 t) (iblk m c 1 t) (iblk m c 3 t) (X0_4 m c t)) k0_pay19 (iblk m c 5 t) := by
  by_cases h0 : t.val % 32 = 0
  · rw [outsAt0_A m c t h0]
    dsimp only
    unfold out0_A_6
    rw [View.read_writes_eq_canon _ _ _ (fun y => cover0_A_6 (y := y) ..)]
    unfold kernelRun0_A
    dsimp only
    sl_unfold_words
    rw [View.canon_unit_zero origin]
    simp only [View.readAt_eq_ld, Memref.IsWhole.read_unread, View.ld_unit_zero (S := S512x1024) origin, View.ld_unit_zero (S := S1x1024) origin]
  · rw [outsAt0_B m c t h0]
    dsimp only
    unfold out0_B_6
    rw [View.read_writes_eq_canon _ _ _ (fun y => cover0_B_6 (y := y) ..)]
    unfold kernelRun0_B
    dsimp only
    sl_unfold_words
    rw [View.canon_unit_zero origin]
    simp only [View.readAt_eq_ld, Memref.IsWhole.read_unread, View.ld_unit_zero (S := S512x1024) origin, View.ld_unit_zero (S := S1x1024) origin]

/-- The first point leaves the first block's sum in the gradient of the norm's weight. -/
theorem left_7_A (c : Dev nD) (t : Fin cfg0.N) (h0 : t.val % 32 = 0) : (outsAt0 m c t.val t.isLt).2.1
    = k0_pay5 (F := Ideal) (k0_pay15 (iblk m c 0 t) (iblk m c 3 t) (X0_4 m c t)) (k0_pay2 : FVec Ideal S1x1024 .f32) := by
  rw [outsAt0_A m c t h0]
  dsimp only
  unfold out0_A_7
  rw [View.read_writes_eq_canon _ _ _ (fun y => cover0_A_7 (y := y) ..)]
  unfold kernelRun0_A
  dsimp only
  sl_unfold_words
  rw [View.canon_cons_unit_zero (S := S1x1024) origin]
  simp only [View.readCov_unit_zero (S := S1x1024) _ origin, View.readAt_eq_ld, Memref.IsWhole.read_unread, View.ld_unit_zero (S := S512x1024) origin, View.ld_unit_zero (S := S1x1024) origin]

/-- A later point adds its block's sum to what the point before left. -/
theorem left_7_B (c : Dev nD) (t : Fin cfg0.N) (h0 : ¬t.val % 32 = 0) : (outsAt0 m c t.val t.isLt).2.1
    = k0_pay5 (F := Ideal) (k0_pay15 (iblk m c 0 t) (iblk m c 3 t) (X0_4 m c t)) (outsAt0 m c (t.val - 1) (Nat.lt_of_le_of_lt (Nat.sub_le _ _) t.isLt)).2.1 := by
  rw [outsAt0_B m c t h0]
  dsimp only
  unfold out0_B_7
  rw [View.read_writes_eq_canon _ _ _ (fun y => cover0_B_7 (y := y) ..)]
  unfold kernelRun0_B
  dsimp only
  sl_unfold_words
  rw [View.canon_unit_zero origin]
  simp only [View.readAt_eq_ld, Memref.IsWhole.read_unread, View.ld_unit_zero (S := S512x1024) origin, View.ld_unit_zero (S := S1x1024) origin]

/-- The first point leaves the first block's sum in the gradient of the shift. -/
theorem left_8_A (c : Dev nD) (t : Fin cfg0.N) (h0 : t.val % 32 = 0) : (outsAt0 m c t.val t.isLt).2.2.1
    = k0_pay6 (F := Ideal) (k0_pay12 (X0_4 m c t)) (k0_pay3 : FVec Ideal S1x1024 .f32) := by
  rw [outsAt0_A m c t h0]
  dsimp only
  unfold out0_A_8
  rw [View.read_writes_eq_canon _ _ _ (fun y => cover0_A_8 (y := y) ..)]
  unfold kernelRun0_A
  dsimp only
  sl_unfold_words
  rw [View.canon_cons_unit_zero (S := S1x1024) origin]
  simp only [View.readCov_unit_zero (S := S1x1024) _ origin, View.readAt_eq_ld, Memref.IsWhole.read_unread, View.ld_unit_zero (S := S512x1024) origin, View.ld_unit_zero (S := S1x1024) origin]

/-- A later point adds its block's sum to what the point before left. -/
theorem left_8_B (c : Dev nD) (t : Fin cfg0.N) (h0 : ¬t.val % 32 = 0) : (outsAt0 m c t.val t.isLt).2.2.1
    = k0_pay6 (F := Ideal) (k0_pay12 (X0_4 m c t)) (outsAt0 m c (t.val - 1) (Nat.lt_of_le_of_lt (Nat.sub_le _ _) t.isLt)).2.2.1 := by
  rw [outsAt0_B m c t h0]
  dsimp only
  unfold out0_B_8
  rw [View.read_writes_eq_canon _ _ _ (fun y => cover0_B_8 (y := y) ..)]
  unfold kernelRun0_B
  dsimp only
  sl_unfold_words
  rw [View.canon_unit_zero origin]
  simp only [View.readAt_eq_ld, Memref.IsWhole.read_unread, View.ld_unit_zero (S := S512x1024) origin, View.ld_unit_zero (S := S1x1024) origin]

/-- The first point leaves the first block's sum in the gradient of the scale. -/
theorem left_9_A (c : Dev nD) (t : Fin cfg0.N) (h0 : t.val % 32 = 0) : (outsAt0 m c t.val t.isLt).2.2.2
    = k0_pay7 (F := Ideal) (k0_pay13 (iblk m c 0 t) (iblk m c 1 t) (X0_4 m c t)) (k0_pay4 : FVec Ideal S1x1024 .f32) := by
  rw [outsAt0_A m c t h0]
  dsimp only
  unfold out0_A_9
  rw [View.read_writes_eq_canon _ _ _ (fun y => cover0_A_9 (y := y) ..)]
  unfold kernelRun0_A
  dsimp only
  sl_unfold_words
  rw [View.canon_cons_unit_zero (S := S1x1024) origin]
  simp only [View.readCov_unit_zero (S := S1x1024) _ origin, View.readAt_eq_ld, Memref.IsWhole.read_unread, View.ld_unit_zero (S := S512x1024) origin, View.ld_unit_zero (S := S1x1024) origin]

/-- A later point adds its block's sum to what the point before left. -/
theorem left_9_B (c : Dev nD) (t : Fin cfg0.N) (h0 : ¬t.val % 32 = 0) : (outsAt0 m c t.val t.isLt).2.2.2
    = k0_pay7 (F := Ideal) (k0_pay13 (iblk m c 0 t) (iblk m c 1 t) (X0_4 m c t)) (outsAt0 m c (t.val - 1) (Nat.lt_of_le_of_lt (Nat.sub_le _ _) t.isLt)).2.2.2 := by
  rw [outsAt0_B m c t h0]
  dsimp only
  unfold out0_B_9
  rw [View.read_writes_eq_canon _ _ _ (fun y => cover0_B_9 (y := y) ..)]
  unfold kernelRun0_B
  dsimp only
  sl_unfold_words
  rw [View.canon_unit_zero origin]
  simp only [View.readAt_eq_ld, Memref.IsWhole.read_unread, View.ld_unit_zero (S := S512x1024) origin, View.ld_unit_zero (S := S1x1024) origin]

/-! ## The gradient of the rows -/

/-- The windows' index maps, decided once. -/
theorem index_facts : ∀ t : Fin cfg0.N,
    ((cfg0.win 0).index t 0 = t.val ∧ (cfg0.win 0).index t 1 = 0) ∧ ((cfg0.win 1).index t 0 = 0 ∧ (cfg0.win 1).index t 1 = 0)
      ∧ ((cfg0.win 3).index t 0 = 0 ∧ (cfg0.win 3).index t 1 = 0) ∧ ((cfg0.win 4).index t 0 = t.val ∧ (cfg0.win 4).index t 1 = 0)
      ∧ ((cfg0.win 5).index t 0 = t.val ∧ (cfg0.win 5).index t 1 = 0) ∧ ((cfg0.win 6).index t 0 = t.val ∧ (cfg0.win 6).index t 1 = 0)
      ∧ ((cfg0.win 7).index t 1 = 0 ∧ (cfg0.win 8).index t 1 = 0 ∧ (cfg0.win 9).index t 1 = 0) := by
  decide +kernel

/-- The rows, at an element of a block. -/
theorem rows_at (c : Dev nD) (t : Fin cfg0.N) (y : S512x1024.Idx) (z : S16384x1024.Idx) (h0 : (z 0).val = t.val * 512 + (y 0).val) (h1 : (z 1).val = (y 1).val) :
    iblk m c 0 t y = m ((c.tc : Thread nD τ).loc main_arg0) z := by
  obtain ⟨⟨e0, e1⟩, -⟩ := index_facts t
  blk_ext [iblk, V, e0, e1, h0, h1]

/-- The norm's weight. -/
theorem weight_at (c : Dev nD) (t : Fin cfg0.N) (y : S1x1024.Idx) (z : S1x1024.Idx) (h0 : (z 0).val = (y 0).val) (h1 : (z 1).val = (y 1).val) :
    iblk m c 1 t y = m ((c.tc : Thread nD τ).loc main_arg1) z := by
  obtain ⟨-, ⟨e0, e1⟩, -⟩ := index_facts t
  blk_ext [iblk, V, e0, e1, h0, h1]

/-- The scale. -/
theorem scale_at (c : Dev nD) (t : Fin cfg0.N) (y : S1x1024.Idx) (z : S1x1024.Idx) (h0 : (z 0).val = (y 0).val) (h1 : (z 1).val = (y 1).val) :
    iblk m c 3 t y = m ((c.tc : Thread nD τ).loc main_arg3) z := by
  obtain ⟨-, -, ⟨e0, e1⟩, -⟩ := index_facts t
  blk_ext [iblk, V, e0, e1, h0, h1]

/-- The gradient coming in, at an element of a block. -/
theorem coming_at (c : Dev nD) (t : Fin cfg0.N) (y : S512x1024.Idx) (z : S16640x1024.Idx) (h0 : (z 0).val = t.val * 512 + (y 0).val) (h1 : (z 1).val = (y 1).val) :
    X0_4 m c t y = m ((c.tc : Thread nD τ).loc main_arg4) z := by
  obtain ⟨-, -, -, ⟨e0, e1⟩, -⟩ := index_facts t
  unfold X0_4 Pipeline.Window.fill
  rw [dif_pos (moved0_4 t y)]
  blk_ext [iblk, V, e0, e1, h0, h1]

/-- The gradient passed by, at an element of a block. -/
theorem passed_at (c : Dev nD) (t : Fin cfg0.N) (y : S512x1024.Idx) (z : S16384x1024.Idx) (h0 : (z 0).val = t.val * 512 + (y 0).val) (h1 : (z 1).val = (y 1).val) :
    iblk m c 5 t y = m ((c.tc : Thread nD τ).loc main_arg5) z := by
  obtain ⟨-, -, -, -, ⟨e0, e1⟩, -⟩ := index_facts t
  blk_ext [iblk, V, e0, e1, h0, h1]

/-! ## Sums over the blocks -/

/-- A sum carried from block to block of 512 rows is the sum over all the rows. -/
theorem carried (f b : (n : ℕ) → n < 32 → EReal) (g : Fin 16384 → EReal)
    (hb : ∀ (n : ℕ) (h : n < 32), b n h = ∑ x : Fin 512, g ⟨n * 512 + x.val, by omega⟩) (h0 : f 0 (by decide) = b 0 (by decide))
    (hs : ∀ (n : ℕ) (h : n + 1 < 32), f (n + 1) h = f n (by omega) + b (n + 1) h) :
    f 31 (by decide) = ∑ r : Fin 16384, g r := by
  let e : ℕ → EReal := fun r => if h : r < 16384 then g ⟨r, h⟩ else 0
  have he : ∀ (n : ℕ) (h : n < 32), b n h = ∑ x ∈ Finset.range 512, e (n * 512 + x) := by
    intro n h
    rw [hb n h, Finset.sum_range (fun x => e (n * 512 + x))]
    refine Finset.sum_congr rfl fun x _ => ?_
    have hx : n * 512 + x.val < 16384 := by omega
    show _ = dite _ _ _
    rw [dif_pos hx]
  have key : ∀ (n : ℕ) (h : n < 32), f n h = ∑ r ∈ Finset.range ((n + 1) * 512), e r := by
    intro n
    induction n with
    | zero =>
      intro _
      rw [h0, he]
      simp
    | succ n ih =>
      intro h
      rw [hs n h, ih (by omega), he, show (n + 1 + 1) * 512 = (n + 1) * 512 + 512 by omega, Finset.sum_range_add]
  rw [key 31 (by decide), Finset.sum_range]
  exact Finset.sum_congr rfl fun r _ => dif_pos r.isLt

/-- The rows, as extended reals. -/
abbrev rows (c : Dev nD) (r : Fin 16384) (j : Fin 1024) : EReal := m ((c.tc : Thread nD τ).loc main_arg0) (ix2 r j)

/-- The norm's weight, as extended reals. -/
abbrev weight (c : Dev nD) (j : Fin 1024) : EReal := m ((c.tc : Thread nD τ).loc main_arg1) (ix2 0 j)

/-- The scale, as extended reals. -/
abbrev scale (c : Dev nD) (j : Fin 1024) : EReal := m ((c.tc : Thread nD τ).loc main_arg3) (ix2 0 j)

/-- A row normalised. -/
abbrev normal (c : Dev nD) (r : Fin 16384) (j : Fin 1024) : EReal :=
  rows m c r j * Ideal.rsqrt (Ideal.div (∑ k : Fin 1024, rows m c r k * rows m c r k) (Ideal.ofBits .f32 0x44800000#32) + Ideal.ofBits .f32 0x358637BD#32)

/-- The gradient coming in, at a row. -/
abbrev coming (c : Dev nD) (r : Fin 16384) (j : Fin 1024) : EReal := m ((c.tc : Thread nD τ).loc main_arg4) (ix2 ⟨r.val, by omega⟩ j)

/-- A block's part of the gradient of the norm's weight. -/
theorem part_7 (c : Dev nD) (n : ℕ) (h : n < 32) (hN : n < cfg0.N) (y : S1x1024.Idx) (j : Fin 1024) (hj : j.val = (y 1).val) :
    k0_pay15 (F := Ideal) (iblk m c 0 ⟨n, hN⟩) (iblk m c 3 ⟨n, hN⟩) (X0_4 m c ⟨n, hN⟩) y
      = ∑ x : Fin 512, normal m c ⟨n * 512 + x.val, by omega⟩ j * (coming m c ⟨n * 512 + x.val, by omega⟩ j * (1 + scale m c j)) := by
  unfold k0_pay15 k0_pay14 k0_pay11 k0_pay10 k0_pay9 k0_pay8
  pointwise
  refine Finset.sum_congr rfl fun x _ => ?_
  have u3 := scale_at m c ⟨n, hN⟩ (ix2 0 (y 1)) (ix2 0 j) rfl hj
  have k0 := rows_at m c ⟨n, hN⟩ (ix2 x (y 1)) (ix2 ⟨n * 512 + x.val, by omega⟩ j) rfl hj
  have k4 := coming_at m c ⟨n, hN⟩ (ix2 x (y 1)) (ix2 ⟨n * 512 + x.val, by omega⟩ j) rfl hj
  have r0 := fun k : Fin 1024 => rows_at m c ⟨n, hN⟩ (ix2 x k) (ix2 ⟨n * 512 + x.val, by omega⟩ k) rfl rfl
  simp only [u3, k0, k4, r0]

/-- A block's part of the gradient of the shift. -/
theorem part_8 (c : Dev nD) (n : ℕ) (h : n < 32) (hN : n < cfg0.N) (y : S1x1024.Idx) (j : Fin 1024) (hj : j.val = (y 1).val) :
    k0_pay12 (F := Ideal) (X0_4 m c ⟨n, hN⟩) y = ∑ x : Fin 512, coming m c ⟨n * 512 + x.val, by omega⟩ j := by
  unfold k0_pay12
  pointwise
  exact Finset.sum_congr rfl fun x _ => coming_at m c ⟨n, hN⟩ (ix2 x (y 1)) (ix2 ⟨n * 512 + x.val, by omega⟩ j) rfl hj

/-- A block's part of the gradient of the scale. -/
theorem part_9 (c : Dev nD) (n : ℕ) (h : n < 32) (hN : n < cfg0.N) (y : S1x1024.Idx) (j : Fin 1024) (hj : j.val = (y 1).val) :
    k0_pay13 (F := Ideal) (iblk m c 0 ⟨n, hN⟩) (iblk m c 1 ⟨n, hN⟩) (X0_4 m c ⟨n, hN⟩) y
      = ∑ x : Fin 512, normal m c ⟨n * 512 + x.val, by omega⟩ j * weight m c j * coming m c ⟨n * 512 + x.val, by omega⟩ j := by
  unfold k0_pay13 k0_pay11 k0_pay10 k0_pay9 k0_pay8
  pointwise
  refine Finset.sum_congr rfl fun x _ => ?_
  have u1 := weight_at m c ⟨n, hN⟩ (ix2 0 (y 1)) (ix2 0 j) rfl hj
  have k0 := rows_at m c ⟨n, hN⟩ (ix2 x (y 1)) (ix2 ⟨n * 512 + x.val, by omega⟩ j) rfl hj
  have k4 := coming_at m c ⟨n, hN⟩ (ix2 x (y 1)) (ix2 ⟨n * 512 + x.val, by omega⟩ j) rfl hj
  have r0 := fun k : Fin 1024 => rows_at m c ⟨n, hN⟩ (ix2 x k) (ix2 ⟨n * 512 + x.val, by omega⟩ k) rfl rfl
  simp only [u1, k0, k4, r0]

/-- What the last point leaves of the gradient of the norm's weight. -/
theorem whole_7 (c : Dev nD) (t : Fin cfg0.N) (ht : t.val = 31) (y : S1x1024.Idx) (j : Fin 1024) (hj : j.val = (y 1).val) :
    (outsAt0 m c t.val t.isLt).2.1 y = ∑ r : Fin 16384, normal m c r j * (coming m c r j * (1 + scale m c j)) := by
  have lt : ∀ n, n < 32 → n < cfg0.N := fun n h => by rw [show cfg0.N = 32 from N_0]; exact h
  have hb := fun (n : ℕ) (h : n < 32) => part_7 m c n h (lt n h) y j hj
  obtain ⟨f, hf⟩ : ∃ f : (n : ℕ) → n < 32 → EReal, ∀ (n : ℕ) (h : n < 32) (k : ℕ) (hk : k < cfg0.N), k = n → f n h = (outsAt0 m c k hk).2.1 y :=
    ⟨fun n h => (outsAt0 m c n (lt n h)).2.1 y, fun n h k hk e => by subst e; rfl⟩
  refine (hf 31 (by decide) t.val t.isLt ht).symm.trans ?_
  refine carried f (fun n h => k0_pay15 (F := Ideal) (iblk m c 0 ⟨n, lt n h⟩) (iblk m c 3 ⟨n, lt n h⟩) (X0_4 m c ⟨n, lt n h⟩) y) (fun r => normal m c r j * (coming m c r j * (1 + scale m c j))) hb ?_ fun n h => ?_
  · rw [hf 0 _ (⟨0, lt 0 (by decide)⟩ : Fin cfg0.N).val (Fin.isLt _) rfl, left_7_A m c _ rfl]
    unfold k0_pay5 k0_pay2
    pointwise
  · rw [hf (n + 1) _ (⟨n + 1, lt _ h⟩ : Fin cfg0.N).val (Fin.isLt _) rfl, left_7_B m c _ (by dsimp only; omega),
      hf n _ ((⟨n + 1, lt _ h⟩ : Fin cfg0.N).val - 1) (Nat.lt_of_le_of_lt (Nat.sub_le _ _) (Fin.isLt _)) rfl]
    unfold k0_pay5
    pointwise

/-- What the last point leaves of the gradient of the shift. -/
theorem whole_8 (c : Dev nD) (t : Fin cfg0.N) (ht : t.val = 31) (y : S1x1024.Idx) (j : Fin 1024) (hj : j.val = (y 1).val) :
    (outsAt0 m c t.val t.isLt).2.2.1 y = ∑ r : Fin 16384, coming m c r j := by
  have lt : ∀ n, n < 32 → n < cfg0.N := fun n h => by rw [show cfg0.N = 32 from N_0]; exact h
  have hb := fun (n : ℕ) (h : n < 32) => part_8 m c n h (lt n h) y j hj
  obtain ⟨f, hf⟩ : ∃ f : (n : ℕ) → n < 32 → EReal, ∀ (n : ℕ) (h : n < 32) (k : ℕ) (hk : k < cfg0.N), k = n → f n h = (outsAt0 m c k hk).2.2.1 y :=
    ⟨fun n h => (outsAt0 m c n (lt n h)).2.2.1 y, fun n h k hk e => by subst e; rfl⟩
  refine (hf 31 (by decide) t.val t.isLt ht).symm.trans ?_
  refine carried f (fun n h => k0_pay12 (F := Ideal) (X0_4 m c ⟨n, lt n h⟩) y) (fun r => coming m c r j) hb ?_ fun n h => ?_
  · rw [hf 0 _ (⟨0, lt 0 (by decide)⟩ : Fin cfg0.N).val (Fin.isLt _) rfl, left_8_A m c _ rfl]
    unfold k0_pay6 k0_pay3
    pointwise
  · rw [hf (n + 1) _ (⟨n + 1, lt _ h⟩ : Fin cfg0.N).val (Fin.isLt _) rfl, left_8_B m c _ (by dsimp only; omega),
      hf n _ ((⟨n + 1, lt _ h⟩ : Fin cfg0.N).val - 1) (Nat.lt_of_le_of_lt (Nat.sub_le _ _) (Fin.isLt _)) rfl]
    unfold k0_pay6
    pointwise

/-- What the last point leaves of the gradient of the scale. -/
theorem whole_9 (c : Dev nD) (t : Fin cfg0.N) (ht : t.val = 31) (y : S1x1024.Idx) (j : Fin 1024) (hj : j.val = (y 1).val) :
    (outsAt0 m c t.val t.isLt).2.2.2 y = ∑ r : Fin 16384, normal m c r j * weight m c j * coming m c r j := by
  have lt : ∀ n, n < 32 → n < cfg0.N := fun n h => by rw [show cfg0.N = 32 from N_0]; exact h
  have hb := fun (n : ℕ) (h : n < 32) => part_9 m c n h (lt n h) y j hj
  obtain ⟨f, hf⟩ : ∃ f : (n : ℕ) → n < 32 → EReal, ∀ (n : ℕ) (h : n < 32) (k : ℕ) (hk : k < cfg0.N), k = n → f n h = (outsAt0 m c k hk).2.2.2 y :=
    ⟨fun n h => (outsAt0 m c n (lt n h)).2.2.2 y, fun n h k hk e => by subst e; rfl⟩
  refine (hf 31 (by decide) t.val t.isLt ht).symm.trans ?_
  refine carried f (fun n h => k0_pay13 (F := Ideal) (iblk m c 0 ⟨n, lt n h⟩) (iblk m c 1 ⟨n, lt n h⟩) (X0_4 m c ⟨n, lt n h⟩) y) (fun r => normal m c r j * weight m c j * coming m c r j) hb ?_ fun n h => ?_
  · rw [hf 0 _ (⟨0, lt 0 (by decide)⟩ : Fin cfg0.N).val (Fin.isLt _) rfl, left_9_A m c _ rfl]
    unfold k0_pay7 k0_pay4
    pointwise
  · rw [hf (n + 1) _ (⟨n + 1, lt _ h⟩ : Fin cfg0.N).val (Fin.isLt _) rfl, left_9_B m c _ (by dsimp only; omega),
      hf n _ ((⟨n + 1, lt _ h⟩ : Fin cfg0.N).val - 1) (Nat.lt_of_le_of_lt (Nat.sub_le _ _) (Fin.isLt _)) rfl]
    unfold k0_pay7
    pointwise

theorem frame_bits : Cert.quiescent_Back := fun m ρ _ => Cert.Back.Gen.frame m ρ

theorem frame_ideal : Cert.quiescent_BackIdeal := fun m ρ _ => Cert.BackIdeal.Gen.frame m ρ

theorem frame_reference : Cert.quiescent_BackReferenceIdeal := fun m ρ _ =>
  (θ_run Cert.BackReferenceIdeal.defs _ _).mono (fun r h => ⟨fun c => (h c).2.2.2.2, sem_eq_zero_of_no_sems (by decide) r.2⟩) (Cert.BackReferenceIdeal.Value.run (F := Ideal) m ρ)

theorem value : Cert.algebraic_BackIdeal_BackReferenceIdeal := by
  intro m ρ m' ρ' _ hagree
  refine ⟨_, _, _, _, (θ_run Cert.BackIdeal.defs _ _).mono
    (fun r h c => ⟨(h c).1 6, (h c).1 7, (h c).1 8, (h c).1 9,
      ((h c).1 0).trans ((dats m 0 c).arrAt_in 0 rfl _), ((h c).1 1).trans ((dats m 0 c).arrAt_in 1 rfl _),
      ((h c).1 2).trans ((dats m 0 c).arrAt_in 2 rfl _), ((h c).1 3).trans ((dats m 0 c).arrAt_in 3 rfl _),
      ((h c).1 4).trans ((dats m 0 c).arrAt_in 4 rfl _), ((h c).1 5).trans ((dats m 0 c).arrAt_in 5 rfl _)⟩)
    (run_main (F := Ideal) m ρ), ?_⟩
  refine (θ_run Cert.BackReferenceIdeal.defs _ _).mono (fun r h c => ?_) (Cert.BackReferenceIdeal.Value.run (F := Ideal) m' ρ')
  obtain ⟨h0, h1, h2, h3, h4⟩ := h c
  refine ⟨h0.trans ?_, h1.trans ?_, h2.trans ?_, h3.trans ?_, h4⟩
  all_goals
    try unfold Cert.BackReferenceIdeal.Value.res_main_v48
    simp only [(hagree c).1, (hagree c).2.1, (hagree c).2.2.1, (hagree c).2.2.2.1, (hagree c).2.2.2.2.1, (hagree c).2.2.2.2.2]
    symm
    clear h h0 h1 h2 h3 h4 hagree
  · refine (dats m 0 c).arrAt_eq_of_covers 6 _ (by decide +kernel) fun t hf y => ?_
    obtain ⟨-, -, -, -, -, ⟨e0, e1⟩, -⟩ := index_facts t
    blk_simp
    rw [after0_6, left_6]
    generalize hz : ((View.whole main_v0_0).slice (win0_6.rect t)).emb y = z
    have h0 : (z 0).val = t.val * 512 + (y 0).val := by rw [← hz]; blk_simp [e0]
    have h1 : (z 1).val = (y 1).val := by rw [← hz]; blk_simp [e1]
    unfold k0_pay1 k0_pay17 k0_pay18 k0_pay19 k0_pay16 k0_pay14 k0_pay11 k0_pay9 k0_pay8
    pointwise
    have hb : (z 0).val < 16384 := (z 0).isLt
    have k0 := rows_at m c t y z h0 h1
    have k5 := passed_at m c t y z h0 h1
    have k4 := coming_at m c t y (ix2 ⟨(z 0).val, by omega⟩ (z 1)) h0 h1
    have r0 := fun x : Fin 1024 => rows_at m c t (ix2 (y 0) x) (ix2 (z 0) x) h0 rfl
    have r4 := fun x : Fin 1024 => coming_at m c t (ix2 (y 0) x) (ix2 ⟨(z 0).val, by omega⟩ x) h0 rfl
    have w1 := fun x : Fin 1024 => weight_at m c t (ix2 0 x) (ix2 0 x) rfl rfl
    have w3 := fun x : Fin 1024 => scale_at m c t (ix2 0 x) (ix2 0 x) rfl rfl
    have u1 := weight_at m c t (ix2 0 (y 1)) (ix2 0 (z 1)) rfl h1
    have u3 := scale_at m c t (ix2 0 (y 1)) (ix2 0 (z 1)) rfl h1
    simp only [k0, k5, k4, r0, r4, w1, w3, u1, u3]
  · refine (dats m 0 c).arrAt_eq_of_covers 7 _ (by decide +kernel) fun t hf y => ?_
    have hN : cfg0.N = 32 := N_0
    have ht : t.val = 31 := by have := (flush0_7 t).mp hf; have := t.isLt; have := hN; omega
    blk_simp
    rw [after0_7]
    generalize hz : ((View.whole main_v0_1).slice (win0_7.rect t)).emb y = z
    have h1 : (z 1).val = (y 1).val := by rw [← hz]; blk_simp [(index_facts _).2.2.2.2.2.2.1]
    pointwise
    exact whole_7 m c t ht y (z 1) h1
  · refine (dats m 0 c).arrAt_eq_of_covers 8 _ (by decide +kernel) fun t hf y => ?_
    have hN : cfg0.N = 32 := N_0
    have ht : t.val = 31 := by have := (flush0_8 t).mp hf; have := t.isLt; have := hN; omega
    blk_simp
    rw [after0_8]
    generalize hz : ((View.whole main_v0_2).slice (win0_8.rect t)).emb y = z
    have h1 : (z 1).val = (y 1).val := by rw [← hz]; blk_simp [(index_facts _).2.2.2.2.2.2.2.1]
    pointwise
    exact whole_8 m c t ht y (z 1) h1
  · refine (dats m 0 c).arrAt_eq_of_covers 9 _ (by decide +kernel) fun t hf y => ?_
    have hN : cfg0.N = 32 := N_0
    have ht : t.val = 31 := by have := (flush0_9 t).mp hf; have := t.isLt; have := hN; omega
    blk_simp
    rw [after0_9]
    generalize hz : ((View.whole main_v0_3).slice (win0_9.rect t)).emb y = z
    have h1 : (z 1).val = (y 1).val := by rw [← hz]; blk_simp [(index_facts _).2.2.2.2.2.2.2.2]
    pointwise
    exact whole_9 m c t ht y (z 1) h1

end Cert.BackIdeal.Gen

end
-- ==== Proof.LossValue.lean ====
/-
  The loss, on one device: at the real numbers, half the sum of the rows' mean squares, carried from block to block, is the whole array's one; so are the
  gradient of the output, block by block, its products with the gate and with the last weight, and the gate's gradient, carried too. With the frames
  of the programs.
-/
module

public import proofs.«01_k».proof.Proof.NormBack
public import proofs.«01_k».proof.Proof.Gen.Loss.Frame
public import proofs.«01_k».proof.Proof.Gen.LossIdeal.Frame
public import proofs.«01_k».proof.Proof.Gen.LossReferenceIdeal.Run
public import Idealize.ShloMosaic.Lib.Pipeline.ValueKit
public import Idealize.ShloMosaic.Lib.Pointwise
public import Idealize.ShloMosaic.Lib.Quiescent

@[expose] public section

noncomputable section

namespace Cert.LossIdeal.Gen

open Idealize.ShloMosaic Idealize.ShloMosaic.TcCoe
open Idealize.SL.Sem

variable (m : (ℓ : Loc nD τ sig) → Buf (Elt Ideal) ℓ)

theorem origin : (![0, 0] : Fin 2 → Nat) = fun _ => 0 := funext fun a => by fin_cases a <;> rfl

/-! ## What a point leaves -/

/-- The gradient of the output. -/
theorem left_6 (c : Dev nD) (t : Fin cfg0.N) : (outsAt0 m c t.val t.isLt).2.1 = k0_pay4 (F := Ideal) (iblk m c 0 t) (iblk m c 1 t) (iblk m c 2 t) (iblk m c 3 t) := by
  by_cases h0 : t.val % 32 = 0
  · rw [outsAt0_A m c t h0]
    dsimp only
    unfold out0_A_6
    rw [View.read_writes_eq_canon _ _ _ (fun y => cover0_A_6 (y := y) ..)]
    unfold kernelRun0_A
    dsimp only
    sl_unfold_words
    rw [View.canon_unit_zero origin]
    simp only [View.readCov_unit_zero (S := S1x128) _ origin, View.readCov_unit_zero (S := S1x1024) _ origin, View.readCov_unit_zero (S := S512x1024) _ origin,
      View.readAt_eq_ld, Memref.IsWhole.read_unread, View.ld_unit_zero (S := S512x1024) origin, View.ld_unit_zero (S := S1x1024) origin,
      View.ld_unit_zero (S := S1x128) origin, View.ld_unit_zero (S := S2816x1024) origin]
  · rw [outsAt0_B m c t h0]
    dsimp only
    unfold out0_B_6
    rw [View.read_writes_eq_canon _ _ _ (fun y => cover0_B_6 (y := y) ..)]
    unfold kernelRun0_B
    dsimp only
    sl_unfold_words
    rw [View.canon_unit_zero origin]
    simp only [View.readCov_unit_zero (S := S1x128) _ origin, View.readCov_unit_zero (S := S1x1024) _ origin, View.readCov_unit_zero (S := S512x1024) _ origin,
      View.readAt_eq_ld, Memref.IsWhole.read_unread, View.ld_unit_zero (S := S512x1024) origin, View.ld_unit_zero (S := S1x1024) origin,
      View.ld_unit_zero (S := S1x128) origin, View.ld_unit_zero (S := S2816x1024) origin]

/-- Its product with the gate. -/
theorem left_7 (c : Dev nD) (t : Fin cfg0.N) : (outsAt0 m c t.val t.isLt).2.2.1 = k0_pay5 (F := Ideal) (iblk m c 0 t) (iblk m c 1 t) (iblk m c 2 t) (iblk m c 3 t) (iblk m c 1 t) := by
  by_cases h0 : t.val % 32 = 0
  · rw [outsAt0_A m c t h0]
    dsimp only
    unfold out0_A_7
    rw [View.read_writes_eq_canon _ _ _ (fun y => cover0_A_7 (y := y) ..)]
    unfold kernelRun0_A
    dsimp only
    sl_unfold_words
    rw [View.canon_unit_zero origin]
    simp only [View.readCov_unit_zero (S := S1x128) _ origin, View.readCov_unit_zero (S := S1x1024) _ origin, View.readCov_unit_zero (S := S512x1024) _ origin,
      View.readAt_eq_ld, Memref.IsWhole.read_unread, View.ld_unit_zero (S := S512x1024) origin, View.ld_unit_zero (S := S1x1024) origin,
      View.ld_unit_zero (S := S1x128) origin, View.ld_unit_zero (S := S2816x1024) origin]
  · rw [outsAt0_B m c t h0]
    dsimp only
    unfold out0_B_7
    rw [View.read_writes_eq_canon _ _ _ (fun y => cover0_B_7 (y := y) ..)]
    unfold kernelRun0_B
    dsimp only
    sl_unfold_words
    rw [View.canon_unit_zero origin]
    simp only [View.readCov_unit_zero (S := S1x128) _ origin, View.readCov_unit_zero (S := S1x1024) _ origin, View.readCov_unit_zero (S := S512x1024) _ origin,
      View.readAt_eq_ld, Memref.IsWhole.read_unread, View.ld_unit_zero (S := S512x1024) origin, View.ld_unit_zero (S := S1x1024) origin,
      View.ld_unit_zero (S := S1x128) origin, View.ld_unit_zero (S := S2816x1024) origin]

/-- That one's product with the last weight. -/
theorem left_9 (c : Dev nD) (t : Fin cfg0.N) : (outsAt0 m c t.val t.isLt).2.2.2.2 = k0_pay6 (F := Ideal) (k0_pay5 (iblk m c 0 t) (iblk m c 1 t) (iblk m c 2 t) (iblk m c 3 t) (iblk m c 1 t) : FVec Ideal S512x1024 .bf16) (iblk m c 4 t) := by
  by_cases h0 : t.val % 32 = 0
  · rw [outsAt0_A m c t h0]
    dsimp only
    unfold out0_A_9
    rw [View.read_writes_eq_canon _ _ _ (fun y => cover0_A_9 (y := y) ..)]
    unfold kernelRun0_A
    dsimp only
    sl_unfold_words
    rw [View.canon_unit_zero origin]
    simp only [View.readCov_unit_zero (S := S1x128) _ origin, View.readCov_unit_zero (S := S1x1024) _ origin, View.readCov_unit_zero (S := S512x1024) _ origin,
      View.readAt_eq_ld, Memref.IsWhole.read_unread, View.ld_unit_zero (S := S512x1024) origin, View.ld_unit_zero (S := S1x1024) origin,
      View.ld_unit_zero (S := S1x128) origin, View.ld_unit_zero (S := S2816x1024) origin]
  · rw [outsAt0_B m c t h0]
    dsimp only
    unfold out0_B_9
    rw [View.read_writes_eq_canon _ _ _ (fun y => cover0_B_9 (y := y) ..)]
    unfold kernelRun0_B
    dsimp only
    sl_unfold_words
    rw [View.canon_unit_zero origin]
    simp only [View.readCov_unit_zero (S := S1x128) _ origin, View.readCov_unit_zero (S := S1x1024) _ origin, View.readCov_unit_zero (S := S512x1024) _ origin,
      View.readAt_eq_ld, Memref.IsWhole.read_unread, View.ld_unit_zero (S := S512x1024) origin, View.ld_unit_zero (S := S1x1024) origin,
      View.ld_unit_zero (S := S1x128) origin, View.ld_unit_zero (S := S2816x1024) origin]

/-- The first point leaves the first block's part of the loss. -/
theorem left_5_A (c : Dev nD) (t : Fin cfg0.N) (h0 : t.val % 32 = 0) : (outsAt0 m c t.val t.isLt).1 = k0_pay1 (F := Ideal) (k0_pay9 (iblk m c 0 t) (iblk m c 1 t) (iblk m c 2 t) (iblk m c 3 t)) (k0_pay7 : FVec Ideal S1x128 .f32) := by
  rw [outsAt0_A m c t h0]
  dsimp only
  unfold out0_A_5
  rw [View.read_writes_eq_canon _ _ _ (fun y => cover0_A_5 (y := y) ..)]
  unfold kernelRun0_A
  dsimp only
  sl_unfold_words
  rw [View.canon_cons_unit_zero (S := S1x128) origin]
  simp only [View.readCov_unit_zero (S := S1x128) _ origin, View.readCov_unit_zero (S := S1x1024) _ origin, View.readCov_unit_zero (S := S512x1024) _ origin,
    View.readAt_eq_ld, Memref.IsWhole.read_unread, View.ld_unit_zero (S := S512x1024) origin, View.ld_unit_zero (S := S1x1024) origin,
    View.ld_unit_zero (S := S1x128) origin, View.ld_unit_zero (S := S2816x1024) origin]

/-- A later point adds its block's part. -/
theorem left_5_B (c : Dev nD) (t : Fin cfg0.N) (h0 : ¬t.val % 32 = 0) : (outsAt0 m c t.val t.isLt).1
    = k0_pay1 (F := Ideal) (k0_pay9 (iblk m c 0 t) (iblk m c 1 t) (iblk m c 2 t) (iblk m c 3 t)) (outsAt0 m c (t.val - 1) (Nat.lt_of_le_of_lt (Nat.sub_le _ _) t.isLt)).1 := by
  rw [outsAt0_B m c t h0]
  dsimp only
  unfold out0_B_5
  rw [View.read_writes_eq_canon _ _ _ (fun y => cover0_B_5 (y := y) ..)]
  unfold kernelRun0_B
  dsimp only
  sl_unfold_words
  rw [View.canon_unit_zero origin]
  simp only [View.readCov_unit_zero (S := S1x128) _ origin, View.readCov_unit_zero (S := S1x1024) _ origin, View.readCov_unit_zero (S := S512x1024) _ origin,
    View.readAt_eq_ld, Memref.IsWhole.read_unread, View.ld_unit_zero (S := S512x1024) origin, View.ld_unit_zero (S := S1x1024) origin,
    View.ld_unit_zero (S := S1x128) origin, View.ld_unit_zero (S := S2816x1024) origin]

/-- The first point leaves the first block's part of the gate's gradient. -/
theorem left_8_A (c : Dev nD) (t : Fin cfg0.N) (h0 : t.val % 32 = 0) : (outsAt0 m c t.val t.isLt).2.2.2.1 = k0_pay2 (F := Ideal) (k0_pay4 (iblk m c 0 t) (iblk m c 1 t) (iblk m c 2 t) (iblk m c 3 t)) (k0_pay8 : FVec Ideal S1x1024 .f32) (iblk m c 2 t) := by
  rw [outsAt0_A m c t h0]
  dsimp only
  unfold out0_A_8
  rw [View.read_writes_eq_canon _ _ _ (fun y => cover0_A_8 (y := y) ..)]
  unfold kernelRun0_A
  dsimp only
  sl_unfold_words
  rw [View.canon_cons_unit_zero (S := S1x1024) origin]
  simp only [View.readCov_unit_zero (S := S1x128) _ origin, View.readCov_unit_zero (S := S1x1024) _ origin, View.readCov_unit_zero (S := S512x1024) _ origin,
    View.readAt_eq_ld, Memref.IsWhole.read_unread, View.ld_unit_zero (S := S512x1024) origin, View.ld_unit_zero (S := S1x1024) origin,
    View.ld_unit_zero (S := S1x128) origin, View.ld_unit_zero (S := S2816x1024) origin]

/-- A later point adds its block's part. -/
theorem left_8_B (c : Dev nD) (t : Fin cfg0.N) (h0 : ¬t.val % 32 = 0) : (outsAt0 m c t.val t.isLt).2.2.2.1
    = k0_pay2 (F := Ideal) (k0_pay4 (iblk m c 0 t) (iblk m c 1 t) (iblk m c 2 t) (iblk m c 3 t)) (outsAt0 m c (t.val - 1) (Nat.lt_of_le_of_lt (Nat.sub_le _ _) t.isLt)).2.2.2.1 (iblk m c 2 t) := by
  rw [outsAt0_B m c t h0]
  dsimp only
  unfold out0_B_8
  rw [View.read_writes_eq_canon _ _ _ (fun y => cover0_B_8 (y := y) ..)]
  unfold kernelRun0_B
  dsimp only
  sl_unfold_words
  rw [View.canon_unit_zero origin]
  simp only [View.readCov_unit_zero (S := S1x128) _ origin, View.readCov_unit_zero (S := S1x1024) _ origin, View.readCov_unit_zero (S := S512x1024) _ origin,
    View.readAt_eq_ld, Memref.IsWhole.read_unread, View.ld_unit_zero (S := S512x1024) origin, View.ld_unit_zero (S := S1x1024) origin,
    View.ld_unit_zero (S := S1x128) origin, View.ld_unit_zero (S := S2816x1024) origin]

/-! ## The blocks -/

/-- The windows' index maps, decided once. -/
theorem index_facts : ∀ t : Fin cfg0.N,
    ((cfg0.win 0).index t 0 = t.val ∧ (cfg0.win 0).index t 1 = 0) ∧ ((cfg0.win 1).index t 0 = 0 ∧ (cfg0.win 1).index t 1 = 0)
      ∧ ((cfg0.win 2).index t 0 = t.val ∧ (cfg0.win 2).index t 1 = 0) ∧ ((cfg0.win 3).index t 0 = t.val ∧ (cfg0.win 3).index t 1 = 0)
      ∧ ((cfg0.win 4).index t 0 = 0 ∧ (cfg0.win 4).index t 1 = 0) ∧ ((cfg0.win 6).index t 0 = t.val ∧ (cfg0.win 6).index t 1 = 0)
      ∧ ((cfg0.win 7).index t 0 = t.val ∧ (cfg0.win 7).index t 1 = 0) ∧ ((cfg0.win 9).index t 0 = t.val ∧ (cfg0.win 9).index t 1 = 0)
      ∧ (cfg0.win 8).index t 1 = 0 := by
  decide +kernel

/-- The hidden rows, at an element of a block. -/
theorem hidden_at (c : Dev nD) (t : Fin cfg0.N) (y : S512x1024.Idx) (z : S16384x1024.Idx) (h0 : (z 0).val = t.val * 512 + (y 0).val) (h1 : (z 1).val = (y 1).val) :
    iblk m c 0 t y = m ((c.tc : Thread nD τ).loc main_arg0) z := by
  obtain ⟨⟨e0, e1⟩, -⟩ := index_facts t
  blk_ext [iblk, V, e0, e1, h0, h1]

/-- The last layer's rows, at an element of a block. -/
theorem forward_at (c : Dev nD) (t : Fin cfg0.N) (y : S512x1024.Idx) (z : S16384x1024.Idx) (h0 : (z 0).val = t.val * 512 + (y 0).val) (h1 : (z 1).val = (y 1).val) :
    iblk m c 2 t y = m ((c.tc : Thread nD τ).loc main_arg2) z := by
  obtain ⟨-, -, ⟨e0, e1⟩, -⟩ := index_facts t
  blk_ext [iblk, V, e0, e1, h0, h1]

/-- The target, at an element of a block. -/
theorem target_at (c : Dev nD) (t : Fin cfg0.N) (y : S512x1024.Idx) (z : S16384x1024.Idx) (h0 : (z 0).val = t.val * 512 + (y 0).val) (h1 : (z 1).val = (y 1).val) :
    iblk m c 3 t y = m ((c.tc : Thread nD τ).loc main_arg3) z := by
  obtain ⟨-, -, -, ⟨e0, e1⟩, -⟩ := index_facts t
  blk_ext [iblk, V, e0, e1, h0, h1]

/-- The gate. -/
theorem gate_at (c : Dev nD) (t : Fin cfg0.N) (y : S1x1024.Idx) (z : S1x1024.Idx) (h0 : (z 0).val = (y 0).val) (h1 : (z 1).val = (y 1).val) :
    iblk m c 1 t y = m ((c.tc : Thread nD τ).loc main_arg1) z := by
  obtain ⟨-, ⟨e0, e1⟩, -⟩ := index_facts t
  blk_ext [iblk, V, e0, e1, h0, h1]

/-- The last weight. -/
theorem last_at (c : Dev nD) (t : Fin cfg0.N) (y : S2816x1024.Idx) (z : S2816x1024.Idx) (h0 : (z 0).val = (y 0).val) (h1 : (z 1).val = (y 1).val) :
    iblk m c 4 t y = m ((c.tc : Thread nD τ).loc main_arg4) z := by
  obtain ⟨-, -, -, -, ⟨e0, e1⟩, -⟩ := index_facts t
  blk_ext [iblk, V, e0, e1, h0, h1]

/-! ## Constants -/

/-- 1024 as a number. -/
theorem const_1024 : Ideal.ofBits .f32 0x44800000#32 = ((1024 : ℝ) : EReal) := by
  simp [Ideal.ofBits, Ideal.ieee, -EReal.coe_mul]; norm_num

/-- 1 / 1024 as a number. -/
theorem const_over : Ideal.ofBits .f32 0x3A800000#32 = ((1 / 1024 : ℝ) : EReal) := by
  simp [Ideal.ofBits, Ideal.ieee, -EReal.coe_mul]; norm_num

/-- 1 / 2 as a number. -/
theorem const_half : Ideal.ofBits .f32 0x3F000000#32 = ((1 / 2 : ℝ) : EReal) := by
  simp [Ideal.ofBits, Ideal.ieee, -EReal.coe_mul]; norm_num

/-- A product by 1 / 1024 is a quotient by 1024. -/
theorem over (x : EReal) : x * Ideal.ofBits .f32 0x3A800000#32 = Ideal.div x (Ideal.ofBits .f32 0x44800000#32) := by
  rw [const_over, const_1024, Ideal.div_coe (by norm_num)]

/-- Half of a sum is the sum of the halves. -/
theorem half_sum {n : ℕ} (g : Fin n → EReal) : Ideal.ofBits .f32 0x3F000000#32 * ∑ x, g x = ∑ x, Ideal.ofBits .f32 0x3F000000#32 * g x := by
  rw [const_half]
  refine Finset.induction_on (Finset.univ : Finset (Fin n)) (by simp) fun a s ha ih => ?_
  rw [Finset.sum_insert ha, Finset.sum_insert ha, EReal.left_distrib_of_nonneg_of_ne_top (by exact_mod_cast (by norm_num : (0 : ℝ) ≤ 1 / 2)) (EReal.coe_ne_top _), ih]

/-! ## What the last point leaves -/

/-- The hidden rows, as extended reals. -/
abbrev hidden (c : Dev nD) (r : Fin 16384) (j : Fin 1024) : EReal := m ((c.tc : Thread nD τ).loc main_arg0) (ix2 r j)

/-- The gate, as extended reals. -/
abbrev gate (c : Dev nD) (j : Fin 1024) : EReal := m ((c.tc : Thread nD τ).loc main_arg1) (ix2 0 j)

/-- The last layer's rows, as extended reals. -/
abbrev forward (c : Dev nD) (r : Fin 16384) (j : Fin 1024) : EReal := m ((c.tc : Thread nD τ).loc main_arg2) (ix2 r j)

/-- The target, as extended reals. -/
abbrev target (c : Dev nD) (r : Fin 16384) (j : Fin 1024) : EReal := m ((c.tc : Thread nD τ).loc main_arg3) (ix2 r j)

/-- The error at an element of a row. -/
abbrev error (c : Dev nD) (r : Fin 16384) (j : Fin 1024) : EReal := hidden m c r j + gate m c j * forward m c r j - target m c r j

/-- A row's mean squared error. -/
abbrev mean (c : Dev nD) (r : Fin 16384) : EReal := Ideal.div (∑ k : Fin 1024, error m c r k * error m c r k) (Ideal.ofBits .f32 0x44800000#32)

/-- A row's part of the gate's gradient. -/
abbrev share (c : Dev nD) (r : Fin 16384) (j : Fin 1024) : EReal := Ideal.div (error m c r j) (Ideal.ofBits .f32 0x44800000#32) * forward m c r j

/-- A block's part of the loss. -/
theorem part_5 (c : Dev nD) (n : ℕ) (h : n < 32) (hN : n < cfg0.N) (y : S1x128.Idx) :
    k0_pay1 (F := Ideal) (k0_pay9 (iblk m c 0 ⟨n, hN⟩) (iblk m c 1 ⟨n, hN⟩) (iblk m c 2 ⟨n, hN⟩) (iblk m c 3 ⟨n, hN⟩)) (k0_pay7 : FVec Ideal S1x128 .f32) y
      = ∑ x : Fin 512, Ideal.ofBits .f32 0x3F000000#32 * mean m c ⟨n * 512 + x.val, by omega⟩ := by
  unfold k0_pay1 k0_pay9 k0_pay7 k0_pay3
  pointwise
  rw [← half_sum]
  simp only [over]
  have k0 := fun (x : Fin 512) (k : Fin 1024) => hidden_at m c ⟨n, hN⟩ (ix2 x k) (ix2 ⟨n * 512 + x.val, by omega⟩ k) rfl rfl
  have k1 := fun k : Fin 1024 => gate_at m c ⟨n, hN⟩ (ix2 0 k) (ix2 0 k) rfl rfl
  have k2 := fun (x : Fin 512) (k : Fin 1024) => forward_at m c ⟨n, hN⟩ (ix2 x k) (ix2 ⟨n * 512 + x.val, by omega⟩ k) rfl rfl
  have k3 := fun (x : Fin 512) (k : Fin 1024) => target_at m c ⟨n, hN⟩ (ix2 x k) (ix2 ⟨n * 512 + x.val, by omega⟩ k) rfl rfl
  simp only [k0, k1, k2, k3]

/-- A block's part of the gate's gradient. -/
theorem part_8 (c : Dev nD) (n : ℕ) (h : n < 32) (hN : n < cfg0.N) (y : S1x1024.Idx) (j : Fin 1024) (hj : j.val = (y 1).val) :
    k0_pay2 (F := Ideal) (k0_pay4 (iblk m c 0 ⟨n, hN⟩) (iblk m c 1 ⟨n, hN⟩) (iblk m c 2 ⟨n, hN⟩) (iblk m c 3 ⟨n, hN⟩)) (k0_pay8 : FVec Ideal S1x1024 .f32) (iblk m c 2 ⟨n, hN⟩) y
      = ∑ x : Fin 512, share m c ⟨n * 512 + x.val, by omega⟩ j := by
  unfold k0_pay2 k0_pay4 k0_pay3 k0_pay8
  pointwise
  simp only [over]
  have k0 := fun x : Fin 512 => hidden_at m c ⟨n, hN⟩ (ix2 x (y 1)) (ix2 ⟨n * 512 + x.val, by omega⟩ j) rfl hj
  have k1 := gate_at m c ⟨n, hN⟩ (ix2 0 (y 1)) (ix2 0 j) rfl hj
  have k2 := fun x : Fin 512 => forward_at m c ⟨n, hN⟩ (ix2 x (y 1)) (ix2 ⟨n * 512 + x.val, by omega⟩ j) rfl hj
  have k3 := fun x : Fin 512 => target_at m c ⟨n, hN⟩ (ix2 x (y 1)) (ix2 ⟨n * 512 + x.val, by omega⟩ j) rfl hj
  simp only [k0, k1, k2, k3]

/-- What the last point leaves of the loss. -/
theorem whole_5 (c : Dev nD) (t : Fin cfg0.N) (ht : t.val = 31) (y : S1x128.Idx) :
    (outsAt0 m c t.val t.isLt).1 y = Ideal.ofBits .f32 0x3F000000#32 * ∑ r : Fin 16384, mean m c r := by
  rw [half_sum]
  have lt : ∀ n, n < 32 → n < cfg0.N := fun n h => by rw [show cfg0.N = 32 from N_0]; exact h
  have hb := fun (n : ℕ) (h : n < 32) => part_5 m c n h (lt n h) y
  obtain ⟨f, hf⟩ : ∃ f : (n : ℕ) → n < 32 → EReal, ∀ (n : ℕ) (h : n < 32) (k : ℕ) (hk : k < cfg0.N), k = n → f n h = (outsAt0 m c k hk).1 y :=
    ⟨fun n h => (outsAt0 m c n (lt n h)).1 y, fun n h k hk e => by subst e; rfl⟩
  refine (hf 31 (by decide) t.val t.isLt ht).symm.trans ?_
  refine Cert.BackIdeal.Gen.carried f (fun n h => k0_pay1 (F := Ideal) (k0_pay9 (iblk m c 0 ⟨n, lt n h⟩) (iblk m c 1 ⟨n, lt n h⟩) (iblk m c 2 ⟨n, lt n h⟩) (iblk m c 3 ⟨n, lt n h⟩)) (k0_pay7 : FVec Ideal S1x128 .f32) y) (fun r => Ideal.ofBits .f32 0x3F000000#32 * mean m c r) hb ?_ fun n h => ?_
  · rw [hf 0 _ (⟨0, lt 0 (by decide)⟩ : Fin cfg0.N).val (Fin.isLt _) rfl, left_5_A m c _ rfl]
  · rw [hf (n + 1) _ (⟨n + 1, lt _ h⟩ : Fin cfg0.N).val (Fin.isLt _) rfl, left_5_B m c _ (by dsimp only; omega),
      hf n _ ((⟨n + 1, lt _ h⟩ : Fin cfg0.N).val - 1) (Nat.lt_of_le_of_lt (Nat.sub_le _ _) (Fin.isLt _)) rfl]
    unfold k0_pay1 k0_pay7
    pointwise

/-- What the last point leaves of the gate's gradient. -/
theorem whole_8 (c : Dev nD) (t : Fin cfg0.N) (ht : t.val = 31) (y : S1x1024.Idx) (j : Fin 1024) (hj : j.val = (y 1).val) :
    (outsAt0 m c t.val t.isLt).2.2.2.1 y = ∑ r : Fin 16384, share m c r j := by
  have lt : ∀ n, n < 32 → n < cfg0.N := fun n h => by rw [show cfg0.N = 32 from N_0]; exact h
  have hb := fun (n : ℕ) (h : n < 32) => part_8 m c n h (lt n h) y j hj
  obtain ⟨f, hf⟩ : ∃ f : (n : ℕ) → n < 32 → EReal, ∀ (n : ℕ) (h : n < 32) (k : ℕ) (hk : k < cfg0.N), k = n → f n h = (outsAt0 m c k hk).2.2.2.1 y :=
    ⟨fun n h => (outsAt0 m c n (lt n h)).2.2.2.1 y, fun n h k hk e => by subst e; rfl⟩
  refine (hf 31 (by decide) t.val t.isLt ht).symm.trans ?_
  refine Cert.BackIdeal.Gen.carried f (fun n h => k0_pay2 (F := Ideal) (k0_pay4 (iblk m c 0 ⟨n, lt n h⟩) (iblk m c 1 ⟨n, lt n h⟩) (iblk m c 2 ⟨n, lt n h⟩) (iblk m c 3 ⟨n, lt n h⟩)) (k0_pay8 : FVec Ideal S1x1024 .f32) (iblk m c 2 ⟨n, lt n h⟩) y) (fun r => share m c r j) hb ?_ fun n h => ?_
  · rw [hf 0 _ (⟨0, lt 0 (by decide)⟩ : Fin cfg0.N).val (Fin.isLt _) rfl, left_8_A m c _ rfl]
  · rw [hf (n + 1) _ (⟨n + 1, lt _ h⟩ : Fin cfg0.N).val (Fin.isLt _) rfl, left_8_B m c _ (by dsimp only; omega),
      hf n _ ((⟨n + 1, lt _ h⟩ : Fin cfg0.N).val - 1) (Nat.lt_of_le_of_lt (Nat.sub_le _ _) (Fin.isLt _)) rfl]
    unfold k0_pay2 k0_pay8
    pointwise

theorem frame_bits : Cert.quiescent_Loss := fun m ρ _ => Cert.Loss.Gen.frame m ρ

theorem frame_ideal : Cert.quiescent_LossIdeal := fun m ρ _ => Cert.LossIdeal.Gen.frame m ρ

theorem frame_reference : Cert.quiescent_LossReferenceIdeal := fun m ρ _ =>
  (θ_run Cert.LossReferenceIdeal.defs _ _).mono (fun r h => ⟨fun c => (h c).2.2.2.2.2, sem_eq_zero_of_no_sems (by decide) r.2⟩) (Cert.LossReferenceIdeal.Value.run (F := Ideal) m ρ)

theorem value : Cert.algebraic_LossIdeal_LossReferenceIdeal := by
  intro m ρ m' ρ' _ hagree
  refine ⟨_, _, _, _, _, (θ_run Cert.LossIdeal.defs _ _).mono
    (fun r h c => ⟨(h c).1 5, (h c).1 6, (h c).1 7, (h c).1 8, (h c).1 9,
      ((h c).1 0).trans ((dats m 0 c).arrAt_in 0 rfl _), ((h c).1 1).trans ((dats m 0 c).arrAt_in 1 rfl _),
      ((h c).1 2).trans ((dats m 0 c).arrAt_in 2 rfl _), ((h c).1 3).trans ((dats m 0 c).arrAt_in 3 rfl _),
      ((h c).1 4).trans ((dats m 0 c).arrAt_in 4 rfl _)⟩)
    (run_main (F := Ideal) m ρ), ?_⟩
  refine (θ_run Cert.LossReferenceIdeal.defs _ _).mono (fun r h c => ?_) (Cert.LossReferenceIdeal.Value.run (F := Ideal) m' ρ')
  obtain ⟨h0, h1, h2, h3, h4, h5⟩ := h c
  refine ⟨h0.trans ?_, h1.trans ?_, h2.trans ?_, h3.trans ?_, h4.trans ?_, h5⟩
  all_goals
    simp only [(hagree c).1, (hagree c).2.1, (hagree c).2.2.1, (hagree c).2.2.2.1, (hagree c).2.2.2.2]
    symm
    clear h h0 h1 h2 h3 h4 h5 hagree
  · refine (dats m 0 c).arrAt_eq_of_covers 5 _ (by decide +kernel) fun t hf y => ?_
    have hN : cfg0.N = 32 := N_0
    have ht : t.val = 31 := by have := (flush0_5 t).mp hf; have := t.isLt; have := hN; omega
    blk_simp
    rw [after0_5]
    generalize hz : ((View.whole main_v0_0).slice (win0_5.rect t)).emb y = z
    pointwise
    exact whole_5 m c t ht y
  · refine (dats m 0 c).arrAt_eq_of_covers 6 _ (by decide +kernel) fun t hf y => ?_
    obtain ⟨-, -, -, -, -, ⟨e0, e1⟩, -⟩ := index_facts t
    blk_simp
    rw [after0_6, left_6]
    generalize hz : ((View.whole main_v0_1).slice (win0_6.rect t)).emb y = z
    have h0 : (z 0).val = t.val * 512 + (y 0).val := by rw [← hz]; blk_simp [e0]
    have h1 : (z 1).val = (y 1).val := by rw [← hz]; blk_simp [e1]
    unfold k0_pay4 k0_pay3
    pointwise
    have k0 := hidden_at m c t y z h0 h1
    have k2 := forward_at m c t y z h0 h1
    have k3 := target_at m c t y z h0 h1
    have u1 := gate_at m c t (ix2 0 (y 1)) (ix2 0 (z 1)) rfl h1
    simp only [over, k0, k2, k3, u1]
  · refine (dats m 0 c).arrAt_eq_of_covers 7 _ (by decide +kernel) fun t hf y => ?_
    obtain ⟨-, -, -, -, -, -, ⟨e0, e1⟩, -⟩ := index_facts t
    blk_simp
    rw [after0_7, left_7]
    generalize hz : ((View.whole main_v0_2).slice (win0_7.rect t)).emb y = z
    have h0 : (z 0).val = t.val * 512 + (y 0).val := by rw [← hz]; blk_simp [e0]
    have h1 : (z 1).val = (y 1).val := by rw [← hz]; blk_simp [e1]
    unfold k0_pay5 k0_pay4 k0_pay3
    pointwise
    have k0 := hidden_at m c t y z h0 h1
    have k2 := forward_at m c t y z h0 h1
    have k3 := target_at m c t y z h0 h1
    have u1 := gate_at m c t (ix2 0 (y 1)) (ix2 0 (z 1)) rfl h1
    simp only [over, k0, k2, k3, u1]
  · refine (dats m 0 c).arrAt_eq_of_covers 8 _ (by decide +kernel) fun t hf y => ?_
    have hN : cfg0.N = 32 := N_0
    have ht : t.val = 31 := by have := (flush0_8 t).mp hf; have := t.isLt; have := hN; omega
    blk_simp
    rw [after0_8]
    generalize hz : ((View.whole main_v0_3).slice (win0_8.rect t)).emb y = z
    have h1 : (z 1).val = (y 1).val := by rw [← hz]; blk_simp [(index_facts _).2.2.2.2.2.2.2.2]
    pointwise
    exact whole_8 m c t ht y (z 1) h1
  · refine (dats m 0 c).arrAt_eq_of_covers 9 _ (by decide +kernel) fun t hf y => ?_
    obtain ⟨-, -, -, -, -, -, -, ⟨e0, e1⟩, -⟩ := index_facts t
    blk_simp
    rw [after0_9, left_9]
    generalize hz : ((View.whole main_v0_4).slice (win0_9.rect t)).emb y = z
    have h0 : (z 0).val = t.val * 512 + (y 0).val := by rw [← hz]; blk_simp [e0]
    have h1 : (z 1).val = (y 1).val := by rw [← hz]; blk_simp [e1]
    unfold k0_pay6 k0_pay5 k0_pay4 k0_pay3
    pointwise
    have k0 := fun x : Fin 1024 => hidden_at m c t (ix2 (y 0) x) (ix2 (z 0) x) h0 rfl
    have k1 := fun x : Fin 1024 => gate_at m c t (ix2 0 x) (ix2 0 x) rfl rfl
    have k2 := fun x : Fin 1024 => forward_at m c t (ix2 (y 0) x) (ix2 (z 0) x) h0 rfl
    have k3 := fun x : Fin 1024 => target_at m c t (ix2 (y 0) x) (ix2 (z 0) x) h0 rfl
    have k4 := fun x : Fin 1024 => last_at m c t (ix2 (y 1) x) (ix2 (z 1) x) h1 rfl
    simp only [over, k0, k1, k2, k3, k4]

end Cert.LossIdeal.Gen

end
-- ==== Proof.Context.lean ====
/-
  Four more calls on one device, at the real numbers: the first norm, and the residual and the norm after it, block by block; the backward pass of the
  first norm on the context's rows; and the gradient of the shared context vector. With the frames of the programs.
-/
module

public import proofs.«01_k».proof.Proof.LossValue
public import proofs.«01_k».proof.Proof.Gen.Resid.Frame
public import proofs.«01_k».proof.Proof.Gen.ResidIdeal.Frame
public import proofs.«01_k».proof.Proof.Gen.ResidReferenceIdeal.Run
public import proofs.«01_k».proof.Proof.Gen.BackCtx.Frame
public import proofs.«01_k».proof.Proof.Gen.BackCtxIdeal.Frame
public import proofs.«01_k».proof.Proof.Gen.BackCtxReferenceIdeal.Run
public import proofs.«01_k».proof.Proof.Gen.NormFwd.Frame
public import proofs.«01_k».proof.Proof.Gen.NormFwdIdeal.Frame
public import proofs.«01_k».proof.Proof.Gen.NormFwdReferenceIdeal.Run
public import proofs.«01_k».proof.Proof.Gen.Cctx.Frame
public import proofs.«01_k».proof.Proof.Gen.CctxIdeal.Frame
public import proofs.«01_k».proof.Proof.Gen.CctxReferenceIdeal.Run
public import Idealize.ShloMosaic.Lib.Pipeline.ValueKit
public import Idealize.ShloMosaic.Lib.Pointwise
public import Idealize.ShloMosaic.Lib.Quiescent

@[expose] public section

noncomputable section

/-! ## The residual and the norm after it -/

namespace Cert.ResidIdeal.Gen

open Idealize.ShloMosaic Idealize.ShloMosaic.TcCoe
open Idealize.SL.Sem

variable (m : (ℓ : Loc nD τ sig) → Buf (Elt Ideal) ℓ)

/-- The windows' index maps, decided once. -/
theorem index_facts : ∀ t : Fin cfg0.N,
    ((cfg0.win 0).index t 0 = t.val ∧ (cfg0.win 0).index t 1 = 0) ∧ ((cfg0.win 1).index t 0 = 0 ∧ (cfg0.win 1).index t 1 = 0)
      ∧ ((cfg0.win 2).index t 0 = t.val ∧ (cfg0.win 2).index t 1 = 0) ∧ ((cfg0.win 3).index t 0 = 0 ∧ (cfg0.win 3).index t 1 = 0)
      ∧ ((cfg0.win 4).index t 0 = 0 ∧ (cfg0.win 4).index t 1 = 0) ∧ ((cfg0.win 5).index t 0 = 0 ∧ (cfg0.win 5).index t 1 = 0)
      ∧ ((cfg0.win 6).index t 0 = t.val ∧ (cfg0.win 6).index t 1 = 0) ∧ ((cfg0.win 7).index t 0 = t.val ∧ (cfg0.win 7).index t 1 = 0) := by
  decide +kernel

/-- The rows, at an element of a block. -/
theorem rows_at (c : Dev nD) (t : Fin cfg0.N) (y : S512x1024.Idx) (z : S16384x1024.Idx) (h0 : (z 0).val = t.val * 512 + (y 0).val) (h1 : (z 1).val = (y 1).val) :
    iblk m c 0 t y = m ((c.tc : Thread nD τ).loc main_arg0) z := by
  obtain ⟨⟨e0, e1⟩, -⟩ := index_facts t
  blk_ext [iblk, V, e0, e1, h0, h1]

/-- The gate. -/
theorem gate_at (c : Dev nD) (t : Fin cfg0.N) (y : S1x1024.Idx) (z : S1x1024.Idx) (h0 : (z 0).val = (y 0).val) (h1 : (z 1).val = (y 1).val) :
    iblk m c 1 t y = m ((c.tc : Thread nD τ).loc main_arg1) z := by
  obtain ⟨-, ⟨e0, e1⟩, -⟩ := index_facts t
  blk_ext [iblk, V, e0, e1, h0, h1]

/-- What the gate multiplies, at an element of a block. -/
theorem added_at (c : Dev nD) (t : Fin cfg0.N) (y : S512x1024.Idx) (z : S16384x1024.Idx) (h0 : (z 0).val = t.val * 512 + (y 0).val) (h1 : (z 1).val = (y 1).val) :
    iblk m c 2 t y = m ((c.tc : Thread nD τ).loc main_arg2) z := by
  obtain ⟨-, -, ⟨e0, e1⟩, -⟩ := index_facts t
  blk_ext [iblk, V, e0, e1, h0, h1]

/-- The norm's weight. -/
theorem weight_at (c : Dev nD) (t : Fin cfg0.N) (y : S1x1024.Idx) (z : S1x1024.Idx) (h0 : (z 0).val = (y 0).val) (h1 : (z 1).val = (y 1).val) :
    iblk m c 3 t y = m ((c.tc : Thread nD τ).loc main_arg3) z := by
  obtain ⟨-, -, -, ⟨e0, e1⟩, -⟩ := index_facts t
  blk_ext [iblk, V, e0, e1, h0, h1]

/-- The shift. -/
theorem shift_at (c : Dev nD) (t : Fin cfg0.N) (y : S1x1024.Idx) (z : S1x1024.Idx) (h0 : (z 0).val = (y 0).val) (h1 : (z 1).val = (y 1).val) :
    iblk m c 4 t y = m ((c.tc : Thread nD τ).loc main_arg4) z := by
  obtain ⟨-, -, -, -, ⟨e0, e1⟩, -⟩ := index_facts t
  blk_ext [iblk, V, e0, e1, h0, h1]

/-- The scale. -/
theorem scale_at (c : Dev nD) (t : Fin cfg0.N) (y : S1x1024.Idx) (z : S1x1024.Idx) (h0 : (z 0).val = (y 0).val) (h1 : (z 1).val = (y 1).val) :
    iblk m c 5 t y = m ((c.tc : Thread nD τ).loc main_arg5) z := by
  obtain ⟨-, -, -, -, -, ⟨e0, e1⟩, -⟩ := index_facts t
  blk_ext [iblk, V, e0, e1, h0, h1]

theorem frame_bits : Cert.quiescent_Resid := fun m ρ _ => Cert.Resid.Gen.frame m ρ

theorem frame_ideal : Cert.quiescent_ResidIdeal := fun m ρ _ => Cert.ResidIdeal.Gen.frame m ρ

theorem frame_reference : Cert.quiescent_ResidReferenceIdeal := fun m ρ _ =>
  (θ_run Cert.ResidReferenceIdeal.defs _ _).mono (fun r h => ⟨fun c => (h c).2.2, sem_eq_zero_of_no_sems (by decide) r.2⟩) (Cert.ResidReferenceIdeal.Value.run (F := Ideal) m ρ)

theorem value : Cert.algebraic_ResidIdeal_ResidReferenceIdeal := by
  intro m ρ m' ρ' _ hagree
  refine ⟨_, _, (θ_run Cert.ResidIdeal.defs _ _).mono
    (fun r h c => ⟨(h c).1 6, (h c).1 7,
      ((h c).1 0).trans ((dats m 0 c).arrAt_in 0 rfl _), ((h c).1 1).trans ((dats m 0 c).arrAt_in 1 rfl _),
      ((h c).1 2).trans ((dats m 0 c).arrAt_in 2 rfl _), ((h c).1 3).trans ((dats m 0 c).arrAt_in 3 rfl _),
      ((h c).1 4).trans ((dats m 0 c).arrAt_in 4 rfl _), ((h c).1 5).trans ((dats m 0 c).arrAt_in 5 rfl _)⟩)
    (run_main (F := Ideal) m ρ), ?_⟩
  refine (θ_run Cert.ResidReferenceIdeal.defs _ _).mono (fun r h c => ?_) (Cert.ResidReferenceIdeal.Value.run (F := Ideal) m' ρ')
  obtain ⟨h0, h1, h2⟩ := h c
  refine ⟨h0.trans ?_, h1.trans ?_, h2⟩
  all_goals
    simp only [(hagree c).1, (hagree c).2.1, (hagree c).2.2.1, (hagree c).2.2.2.1, (hagree c).2.2.2.2.1, (hagree c).2.2.2.2.2]
    symm
    clear h h0 h1 h2 hagree
  · refine (dats m 0 c).arrAt_eq_of_covers 6 _ (by decide +kernel) fun t hf y => ?_
    obtain ⟨-, -, -, -, -, -, ⟨e0, e1⟩, -⟩ := index_facts t
    blk_simp
    rw [after0_6]
    frame_out
    generalize hz : ((View.whole main_v0_0).slice (win0_6.rect t)).emb y = z
    have h0 : (z 0).val = t.val * 512 + (y 0).val := by rw [← hz]; blk_simp [e0]
    have h1 : (z 1).val = (y 1).val := by rw [← hz]; blk_simp [e1]
    unfold k0_pay1
    pointwise
    have k0 := rows_at m c t y z h0 h1
    have k2 := added_at m c t y z h0 h1
    have u1 := gate_at m c t (ix2 0 (y 1)) (ix2 0 (z 1)) rfl h1
    simp only [k0, k2, u1]
  · refine (dats m 0 c).arrAt_eq_of_covers 7 _ (by decide +kernel) fun t hf y => ?_
    obtain ⟨-, -, -, -, -, -, -, e0, e1⟩ := index_facts t
    blk_simp
    rw [after0_7]
    frame_out
    generalize hz : ((View.whole main_v0_1).slice (win0_7.rect t)).emb y = z
    have h0 : (z 0).val = t.val * 512 + (y 0).val := by rw [← hz]; blk_simp [e0]
    have h1 : (z 1).val = (y 1).val := by rw [← hz]; blk_simp [e1]
    unfold k0_pay2 k0_pay1
    pointwise
    have k0 := rows_at m c t y z h0 h1
    have k2 := added_at m c t y z h0 h1
    have r0 := fun x : Fin 1024 => rows_at m c t (ix2 (y 0) x) (ix2 (z 0) x) h0 rfl
    have r2 := fun x : Fin 1024 => added_at m c t (ix2 (y 0) x) (ix2 (z 0) x) h0 rfl
    have w1 := fun x : Fin 1024 => gate_at m c t (ix2 0 x) (ix2 0 x) rfl rfl
    have u1 := gate_at m c t (ix2 0 (y 1)) (ix2 0 (z 1)) rfl h1
    have u3 := weight_at m c t (ix2 0 (y 1)) (ix2 0 (z 1)) rfl h1
    have u4 := shift_at m c t (ix2 0 (y 1)) (ix2 0 (z 1)) rfl h1
    have u5 := scale_at m c t (ix2 0 (y 1)) (ix2 0 (z 1)) rfl h1
    simp only [k0, k2, r0, r2, w1, u1, u3, u4, u5]

end Cert.ResidIdeal.Gen

/-! ## The gradient of the shared context vector -/

namespace Cert.CctxIdeal.Gen

open Idealize.ShloMosaic Idealize.ShloMosaic.TcCoe
open Idealize.SL.Sem

variable (m : (ℓ : Loc nD τ sig) → Buf (Elt Ideal) ℓ)

/-- The windows' index maps, decided once. -/
theorem index_facts : ∀ t : Fin cfg0.N,
    ((cfg0.win 0).index t 0 = 0 ∧ (cfg0.win 0).index t 1 = 0 ∧ (cfg0.win 0).index t 2 = 0) ∧ ((cfg0.win 1).index t 0 = 0 ∧ (cfg0.win 1).index t 1 = 0)
      ∧ ((cfg0.win 2).index t 0 = 0 ∧ (cfg0.win 2).index t 1 = 0) := by
  decide +kernel

/-- The devices' parts. -/
theorem parts_at (c : Dev nD) (t : Fin cfg0.N) (y z : S8x1x1024.Idx) (h0 : (z 0).val = (y 0).val) (h1 : (z 1).val = (y 1).val) (h2 : (z 2).val = (y 2).val) :
    iblk m c 0 t y = m ((c.tc : Thread nD τ).loc main_arg0) z := by
  obtain ⟨⟨e0, e1, e2⟩, -⟩ := index_facts t
  blk_ext [iblk, V, e0, e1, e2, h0, h1, h2]

/-- The context vector. -/
theorem row_at (c : Dev nD) (t : Fin cfg0.N) (y z : S1x1024.Idx) (h0 : (z 0).val = (y 0).val) (h1 : (z 1).val = (y 1).val) :
    iblk m c 1 t y = m ((c.tc : Thread nD τ).loc main_arg1) z := by
  obtain ⟨-, ⟨e0, e1⟩, -⟩ := index_facts t
  blk_ext [iblk, V, e0, e1, h0, h1]

theorem frame_bits : Cert.quiescent_Cctx := fun m ρ _ => Cert.Cctx.Gen.frame m ρ

theorem frame_ideal : Cert.quiescent_CctxIdeal := fun m ρ _ => Cert.CctxIdeal.Gen.frame m ρ

theorem frame_reference : Cert.quiescent_CctxReferenceIdeal := fun m ρ _ =>
  (θ_run Cert.CctxReferenceIdeal.defs _ _).mono (fun r h => ⟨fun c => (h c).2, sem_eq_zero_of_no_sems (by decide) r.2⟩) (Cert.CctxReferenceIdeal.Value.run (F := Ideal) m ρ)

theorem value : Cert.algebraic_CctxIdeal_CctxReferenceIdeal := by
  intro m ρ m' ρ' _ hagree
  refine ⟨_, (θ_run Cert.CctxIdeal.defs _ _).mono
    (fun r h c => ⟨(h c).1 2,
      ((h c).1 0).trans ((dats m 0 c).arrAt_in 0 rfl _), ((h c).1 1).trans ((dats m 0 c).arrAt_in 1 rfl _)⟩)
    (run_main (F := Ideal) m ρ), ?_⟩
  refine (θ_run Cert.CctxReferenceIdeal.defs _ _).mono (fun r h c => ?_) (Cert.CctxReferenceIdeal.Value.run (F := Ideal) m' ρ')
  obtain ⟨h0, h2⟩ := h c
  refine ⟨h0.trans ?_, h2⟩
  simp only [(hagree c).1, (hagree c).2]
  symm
  clear h h0 h2 hagree
  refine (dats m 0 c).arrAt_eq_of_covers 2 _ (by decide +kernel) fun t hf y => ?_
  obtain ⟨-, -, e0, e1⟩ := index_facts t
  blk_simp
  rw [after0_2]
  frame_out
  generalize hz : ((View.whole main_v0).slice (win0_2.rect t)).emb y = z
  have h0 : (z 0).val = (y 0).val := by rw [← hz]; blk_simp [e0]
  have h1 : (z 1).val = (y 1).val := by rw [← hz]; blk_simp [e1]
  unfold k0_pay1
  pointwise
  have a0 := fun i : Fin 8 => parts_at m c t (ix3 i 0 (y 1)) (ix3 i 0 (z 1)) rfl rfl h1
  have a1 := row_at m c t y z h0 h1
  simp only [a0, a1, Fin.sum_univ_eight, Ideal.logistic]

end Cert.CctxIdeal.Gen

/-! ## The backward pass of the first norm on the context's rows -/

namespace Cert.BackCtxIdeal.Gen

open Idealize.ShloMosaic Idealize.ShloMosaic.TcCoe
open Idealize.SL.Sem

variable (m : (ℓ : Loc nD τ sig) → Buf (Elt Ideal) ℓ)

theorem origin : (![0, 0] : Fin 2 → Nat) = fun _ => 0 := funext fun a => by fin_cases a <;> rfl

/-- The gradient of the norm's weight. -/
theorem left_5 (c : Dev nD) (t : Fin cfg0.N) : (outsAt0 m c t).1 = k0_pay10 (F := Ideal) (iblk m c 0 t) (iblk m c 3 t) (iblk m c 4 t) (k0_pay7 : FVec Ideal S1x1024 .f32) := by
  unfold outsAt0
  dsimp only
  unfold out0_A_5
  rw [View.read_writes_eq_canon _ _ _ (fun y => cover0_A_5 (y := y) ..)]
  unfold kernelRun0_A
  dsimp only
  sl_unfold_words
  rw [View.canon_cons_unit_zero (S := S1x1024) origin]
  simp only [View.readCov_unit_zero (S := S1x1024) _ origin, View.readAt_eq_ld, Memref.IsWhole.read_unread, View.ld_unit_zero (S := S256x1024) origin, View.ld_unit_zero (S := S1x1024) origin]

/-- The gradient of the shift. -/
theorem left_6 (c : Dev nD) (t : Fin cfg0.N) : (outsAt0 m c t).2.1 = k0_pay1 (F := Ideal) (k0_pay5 (iblk m c 4 t)) (k0_pay8 : FVec Ideal S1x1024 .f32) := by
  unfold outsAt0
  dsimp only
  unfold out0_A_6
  rw [View.read_writes_eq_canon _ _ _ (fun y => cover0_A_6 (y := y) ..)]
  unfold kernelRun0_A
  dsimp only
  sl_unfold_words
  rw [View.canon_cons_unit_zero (S := S1x1024) origin]
  simp only [View.readCov_unit_zero (S := S1x1024) _ origin, View.readAt_eq_ld, Memref.IsWhole.read_unread, View.ld_unit_zero (S := S256x1024) origin, View.ld_unit_zero (S := S1x1024) origin]

/-- The gradient of the scale. -/
theorem left_7 (c : Dev nD) (t : Fin cfg0.N) : (outsAt0 m c t).2.2 = k0_pay2 (F := Ideal) (k0_pay6 (iblk m c 0 t) (iblk m c 1 t) (iblk m c 4 t)) (k0_pay9 : FVec Ideal S1x1024 .f32) := by
  unfold outsAt0
  dsimp only
  unfold out0_A_7
  rw [View.read_writes_eq_canon _ _ _ (fun y => cover0_A_7 (y := y) ..)]
  unfold kernelRun0_A
  dsimp only
  sl_unfold_words
  rw [View.canon_cons_unit_zero (S := S1x1024) origin]
  simp only [View.readCov_unit_zero (S := S1x1024) _ origin, View.readAt_eq_ld, Memref.IsWhole.read_unread, View.ld_unit_zero (S := S256x1024) origin, View.ld_unit_zero (S := S1x1024) origin]

/-- The windows' index maps, decided once. -/
theorem index_facts : ∀ t : Fin cfg0.N,
    ((cfg0.win 0).index t 0 = 0 ∧ (cfg0.win 0).index t 1 = 0) ∧ ((cfg0.win 1).index t 0 = 0 ∧ (cfg0.win 1).index t 1 = 0)
      ∧ ((cfg0.win 3).index t 0 = 0 ∧ (cfg0.win 3).index t 1 = 0) ∧ ((cfg0.win 4).index t 0 = 64 ∧ (cfg0.win 4).index t 1 = 0)
      ∧ (cfg0.win 5).index t 1 = 0 ∧ (cfg0.win 6).index t 1 = 0 ∧ (cfg0.win 7).index t 1 = 0 := by
  decide +kernel

/-- The context's rows. -/
theorem rows_at (c : Dev nD) (t : Fin cfg0.N) (y z : S256x1024.Idx) (h0 : (z 0).val = (y 0).val) (h1 : (z 1).val = (y 1).val) :
    iblk m c 0 t y = m ((c.tc : Thread nD τ).loc main_arg0) z := by
  obtain ⟨⟨e0, e1⟩, -⟩ := index_facts t
  blk_ext [iblk, V, e0, e1, h0, h1]

/-- The norm's weight. -/
theorem weight_at (c : Dev nD) (t : Fin cfg0.N) (y z : S1x1024.Idx) (h0 : (z 0).val = (y 0).val) (h1 : (z 1).val = (y 1).val) :
    iblk m c 1 t y = m ((c.tc : Thread nD τ).loc main_arg1) z := by
  obtain ⟨-, ⟨e0, e1⟩, -⟩ := index_facts t
  blk_ext [iblk, V, e0, e1, h0, h1]

/-- The scale. -/
theorem scale_at (c : Dev nD) (t : Fin cfg0.N) (y z : S1x1024.Idx) (h0 : (z 0).val = (y 0).val) (h1 : (z 1).val = (y 1).val) :
    iblk m c 3 t y = m ((c.tc : Thread nD τ).loc main_arg3) z := by
  obtain ⟨-, -, ⟨e0, e1⟩, -⟩ := index_facts t
  blk_ext [iblk, V, e0, e1, h0, h1]

/-- The gradient coming in: its last 256 rows. -/
theorem coming_at (c : Dev nD) (t : Fin cfg0.N) (y : S256x1024.Idx) (z : S16640x1024.Idx) (h0 : (z 0).val = 16384 + (y 0).val) (h1 : (z 1).val = (y 1).val) :
    iblk m c 4 t y = m ((c.tc : Thread nD τ).loc main_arg4) z := by
  obtain ⟨-, -, -, ⟨e0, e1⟩, -⟩ := index_facts t
  blk_ext [iblk, V, e0, e1, h0, h1]

theorem frame_bits : Cert.quiescent_BackCtx := fun m ρ _ => Cert.BackCtx.Gen.frame m ρ

theorem frame_ideal : Cert.quiescent_BackCtxIdeal := fun m ρ _ => Cert.BackCtxIdeal.Gen.frame m ρ

theorem frame_reference : Cert.quiescent_BackCtxReferenceIdeal := fun m ρ _ =>
  (θ_run Cert.BackCtxReferenceIdeal.defs _ _).mono (fun r h => ⟨fun c => (h c).2.2.2, sem_eq_zero_of_no_sems (by decide) r.2⟩) (Cert.BackCtxReferenceIdeal.Value.run (F := Ideal) m ρ)

theorem value : Cert.algebraic_BackCtxIdeal_BackCtxReferenceIdeal := by
  intro m ρ m' ρ' _ hagree
  refine ⟨_, _, _, (θ_run Cert.BackCtxIdeal.defs _ _).mono
    (fun r h c => ⟨(h c).1 5, (h c).1 6, (h c).1 7,
      ((h c).1 0).trans ((dats m 0 c).arrAt_in 0 rfl _), ((h c).1 1).trans ((dats m 0 c).arrAt_in 1 rfl _),
      ((h c).1 2).trans ((dats m 0 c).arrAt_in 2 rfl _), ((h c).1 3).trans ((dats m 0 c).arrAt_in 3 rfl _),
      ((h c).1 4).trans ((dats m 0 c).arrAt_in 4 rfl _)⟩)
    (run_main (F := Ideal) m ρ), ?_⟩
  refine (θ_run Cert.BackCtxReferenceIdeal.defs _ _).mono (fun r h c => ?_) (Cert.BackCtxReferenceIdeal.Value.run (F := Ideal) m' ρ')
  obtain ⟨h0, h1, h2, h3⟩ := h c
  refine ⟨h0.trans ?_, h1.trans ?_, h2.trans ?_, h3⟩
  all_goals
    simp only [(hagree c).1, (hagree c).2.1, (hagree c).2.2.1, (hagree c).2.2.2.1, (hagree c).2.2.2.2]
    symm
    clear h h0 h1 h2 h3 hagree
  · refine (dats m 0 c).arrAt_eq_of_covers 5 _ (by decide +kernel) fun t hf y => ?_
    obtain ⟨-, -, -, -, e5, e6, e7⟩ := index_facts t
    blk_simp
    rw [after0_5, left_5]
    generalize hz : ((View.whole main_v0_0).slice (win0_5.rect t)).emb y = z
    have h1 : (z 1).val = (y 1).val := by rw [← hz]; blk_simp [e5]
    unfold k0_pay10 k0_pay7 k0_pay4 k0_pay3
    pointwise
    have k0 := fun x : Fin 256 => rows_at m c t (ix2 x (y 1)) (ix2 x (z 1)) rfl h1
    have k4 := fun x : Fin 256 => coming_at m c t (ix2 x (y 1)) (ix2 ⟨16384 + x.val, by omega⟩ (z 1)) rfl h1
    have r0 := fun (x : Fin 256) (k : Fin 1024) => rows_at m c t (ix2 x k) (ix2 x k) rfl rfl
    have u1 := weight_at m c t (ix2 0 (y 1)) (ix2 0 (z 1)) rfl h1
    have u3 := scale_at m c t (ix2 0 (y 1)) (ix2 0 (z 1)) rfl h1
    simp only [k0, k4, r0, u1, u3]
  · refine (dats m 0 c).arrAt_eq_of_covers 6 _ (by decide +kernel) fun t hf y => ?_
    obtain ⟨-, -, -, -, e5, e6, e7⟩ := index_facts t
    blk_simp
    rw [after0_6, left_6]
    generalize hz : ((View.whole main_v0_1).slice (win0_6.rect t)).emb y = z
    have h1 : (z 1).val = (y 1).val := by rw [← hz]; blk_simp [e6]
    unfold k0_pay1 k0_pay8 k0_pay5
    pointwise
    have k0 := fun x : Fin 256 => rows_at m c t (ix2 x (y 1)) (ix2 x (z 1)) rfl h1
    have k4 := fun x : Fin 256 => coming_at m c t (ix2 x (y 1)) (ix2 ⟨16384 + x.val, by omega⟩ (z 1)) rfl h1
    have r0 := fun (x : Fin 256) (k : Fin 1024) => rows_at m c t (ix2 x k) (ix2 x k) rfl rfl
    have u1 := weight_at m c t (ix2 0 (y 1)) (ix2 0 (z 1)) rfl h1
    have u3 := scale_at m c t (ix2 0 (y 1)) (ix2 0 (z 1)) rfl h1
    simp only [k0, k4, r0, u1, u3]
  · refine (dats m 0 c).arrAt_eq_of_covers 7 _ (by decide +kernel) fun t hf y => ?_
    obtain ⟨-, -, -, -, e5, e6, e7⟩ := index_facts t
    blk_simp
    rw [after0_7, left_7]
    generalize hz : ((View.whole main_v0_2).slice (win0_7.rect t)).emb y = z
    have h1 : (z 1).val = (y 1).val := by rw [← hz]; blk_simp [e7]
    unfold k0_pay2 k0_pay9 k0_pay6 k0_pay4 k0_pay3
    pointwise
    have k0 := fun x : Fin 256 => rows_at m c t (ix2 x (y 1)) (ix2 x (z 1)) rfl h1
    have k4 := fun x : Fin 256 => coming_at m c t (ix2 x (y 1)) (ix2 ⟨16384 + x.val, by omega⟩ (z 1)) rfl h1
    have r0 := fun (x : Fin 256) (k : Fin 1024) => rows_at m c t (ix2 x k) (ix2 x k) rfl rfl
    have u1 := weight_at m c t (ix2 0 (y 1)) (ix2 0 (z 1)) rfl h1
    have u3 := scale_at m c t (ix2 0 (y 1)) (ix2 0 (z 1)) rfl h1
    simp only [k0, k4, r0, u1, u3]

end Cert.BackCtxIdeal.Gen
/-! ## The first norm -/

namespace Cert.NormFwdIdeal.Gen

open Idealize.ShloMosaic Idealize.ShloMosaic.TcCoe
open Idealize.SL.Sem

variable (m : (ℓ : Loc nD τ sig) → Buf (Elt Ideal) ℓ)

/-- The windows' index maps, decided once. -/
theorem index_facts : ∀ t : Fin cfg0.N,
    ((cfg0.win 0).index t 0 = min t.val 63 ∧ (cfg0.win 0).index t 1 = 0) ∧ ((cfg0.win 1).index t 0 = 0 ∧ (cfg0.win 1).index t 1 = 0)
      ∧ ((cfg0.win 2).index t 0 = 0 ∧ (cfg0.win 2).index t 1 = 0)
      ∧ ((cfg0.win 3).index t 0 = t.val / 64 ∧ (cfg0.win 3).index t 1 = 0 ∧ (cfg0.win 3).index t 2 = 0)
      ∧ ((cfg0.win 4).index t 0 = t.val / 64 ∧ (cfg0.win 4).index t 1 = 0 ∧ (cfg0.win 4).index t 2 = 0)
      ∧ ((cfg0.win 5).index t 0 = t.val ∧ (cfg0.win 5).index t 1 = 0) := by
  decide +kernel

/-- The last point takes the context's rows. -/
theorem choice : ∀ t : Fin cfg0.N, Scalar.cmpi .slt (BitVec.ofNat 32 (grid0.coords t 0).val) 64#32 = if t.val < 64 then 1#1 else 0#1 := by
  decide +kernel

/-- The rows, at an element of a block. -/
theorem rows_at (c : Dev nD) (t : Fin cfg0.N) (y : S256x1024.Idx) (z : S16384x1024.Idx) (h0 : (z 0).val = min t.val 63 * 256 + (y 0).val) (h1 : (z 1).val = (y 1).val) :
    iblk m c 0 t y = m ((c.tc : Thread nD τ).loc main_arg0) z := by
  obtain ⟨⟨e0, e1⟩, -⟩ := index_facts t
  blk_ext [iblk, V, e0, e1, h0, h1]

/-- The context's rows. -/
theorem context_at (c : Dev nD) (t : Fin cfg0.N) (y : S256x1024.Idx) (z : S256x1024.Idx) (h0 : (z 0).val = (y 0).val) (h1 : (z 1).val = (y 1).val) :
    iblk m c 1 t y = m ((c.tc : Thread nD τ).loc main_arg1) z := by
  obtain ⟨-, ⟨e0, e1⟩, -⟩ := index_facts t
  blk_ext [iblk, V, e0, e1, h0, h1]

/-- The norm's weight. -/
theorem weight_at (c : Dev nD) (t : Fin cfg0.N) (y : S1x1024.Idx) (z : S1x1024.Idx) (h0 : (z 0).val = (y 0).val) (h1 : (z 1).val = (y 1).val) :
    iblk m c 2 t y = m ((c.tc : Thread nD τ).loc main_arg2) z := by
  obtain ⟨-, -, ⟨e0, e1⟩, -⟩ := index_facts t
  blk_ext [iblk, V, e0, e1, h0, h1]

/-- The shift, of the rows or of the context. -/
theorem shift_at (c : Dev nD) (t : Fin cfg0.N) (y : S1x1x1024.Idx) (z : S2x1x1024.Idx) (h0 : (z 0).val = t.val / 64 + (y 0).val) (h1 : (z 1).val = (y 1).val) (h2 : (z 2).val = (y 2).val) :
    iblk m c 3 t y = m ((c.tc : Thread nD τ).loc main_arg3) z := by
  obtain ⟨-, -, -, ⟨e0, e1, e2⟩, -⟩ := index_facts t
  blk_ext [iblk, V, e0, e1, e2, h0, h1, h2]

/-- The scale, of the rows or of the context. -/
theorem scale_at (c : Dev nD) (t : Fin cfg0.N) (y : S1x1x1024.Idx) (z : S2x1x1024.Idx) (h0 : (z 0).val = t.val / 64 + (y 0).val) (h1 : (z 1).val = (y 1).val) (h2 : (z 2).val = (y 2).val) :
    iblk m c 4 t y = m ((c.tc : Thread nD τ).loc main_arg4) z := by
  obtain ⟨-, -, -, -, ⟨e0, e1, e2⟩, -⟩ := index_facts t
  blk_ext [iblk, V, e0, e1, e2, h0, h1, h2]

theorem frame_bits : Cert.quiescent_NormFwd := fun m ρ _ => Cert.NormFwd.Gen.frame m ρ

theorem frame_ideal : Cert.quiescent_NormFwdIdeal := fun m ρ _ => Cert.NormFwdIdeal.Gen.frame m ρ

theorem frame_reference : Cert.quiescent_NormFwdReferenceIdeal := fun m ρ _ =>
  (θ_run Cert.NormFwdReferenceIdeal.defs _ _).mono (fun r h => ⟨fun c => (h c).2, sem_eq_zero_of_no_sems (by decide) r.2⟩) (Cert.NormFwdReferenceIdeal.Value.run (F := Ideal) m ρ)

theorem value : Cert.algebraic_NormFwdIdeal_NormFwdReferenceIdeal := by
  intro m ρ m' ρ' _ hagree
  refine ⟨_, (θ_run Cert.NormFwdIdeal.defs _ _).mono
    (fun r h c => ⟨(h c).1 5, ((h c).1 0).trans ((dats m 0 c).arrAt_in 0 rfl _), ((h c).1 1).trans ((dats m 0 c).arrAt_in 1 rfl _), ((h c).1 2).trans ((dats m 0 c).arrAt_in 2 rfl _), ((h c).1 3).trans ((dats m 0 c).arrAt_in 3 rfl _), ((h c).1 4).trans ((dats m 0 c).arrAt_in 4 rfl _)⟩)
    (run_main (F := Ideal) m ρ), ?_⟩
  refine (θ_run Cert.NormFwdReferenceIdeal.defs _ _).mono (fun r h c => ?_) (Cert.NormFwdReferenceIdeal.Value.run (F := Ideal) m' ρ')
  obtain ⟨h0, h1⟩ := h c
  refine ⟨h0.trans ?_, h1⟩
  all_goals
    symm
    clear h h0 h1
    obtain ⟨g0, g1, g2, g3, g4⟩ := hagree c
    clear hagree
  · refine (dats m 0 c).arrAt_eq_of_covers 5 _ (by decide +kernel) fun t hf y => ?_
    obtain ⟨-, -, -, -, -, e0, e1⟩ := index_facts t
    have hN : cfg0.N = 65 := N_0
    have hlt := t.isLt
    blk_simp
    rw [after0_5]
    frame_out
    generalize hz : ((View.whole main_v0).slice (win0_5.rect t)).emb y = z
    have h0 : (z 0).val = t.val * 256 + (y 0).val := by rw [← hz]; blk_simp [e0]
    have h1 : (z 1).val = (y 1).val := by rw [← hz]; blk_simp [e1]
    have hy : (y 0).val < 256 := (y 0).isLt
    unfold k0_pay1
    dsimp only
    rw [choice t]
    by_cases ht : t.val < 64
    · rw [if_pos ht]
      pointwise
      have hs : t.val / 64 = 0 := by omega
      have hm : min t.val 63 = t.val := by omega
      rw [dif_pos (by omega)]
      have k0 := rows_at m c t y (ix2 ⟨(z 0).val, by omega⟩ (z 1)) (by rw [hm]; exact h0) h1
      have r0 := fun x : Fin 1024 => rows_at m c t (ix2 (y 0) x) (ix2 ⟨(z 0).val, by omega⟩ x) (by rw [hm]; exact h0) rfl
      have u2 := weight_at m c t (ix2 0 (y 1)) (ix2 0 (z 1)) rfl h1
      have u3 := shift_at m c t (ix3 0 0 (y 1)) (ix3 0 0 (z 1)) (by rw [hs]; rfl) rfl h1
      have u4 := scale_at m c t (ix3 0 0 (y 1)) (ix3 0 0 (z 1)) (by rw [hs]; rfl) rfl h1
      simp only [k0, r0, u2, u3, u4, g0, g2, g3, g4]
    · rw [if_neg ht]
      pointwise
      have hs : t.val / 64 = 1 := by omega
      obtain ⟨q, hq, hz0⟩ : ∃ q : Fin 256, q.val = (z 0).val - 16384 ∧ q.val = (y 0).val := ⟨⟨(z 0).val - 16384, by omega⟩, rfl, by dsimp only; omega⟩
      rw [dif_neg (by omega)]
      have he : ∀ h : (z 0).val - 16384 < 256, (⟨(z 0).val - 16384, h⟩ : Fin 256) = q := fun h => Fin.ext hq.symm
      simp only [he]
      have k0 := context_at m c t y (ix2 q (z 1)) hz0 h1
      have r0 := fun x : Fin 1024 => context_at m c t (ix2 (y 0) x) (ix2 q x) hz0 rfl
      have u2 := weight_at m c t (ix2 0 (y 1)) (ix2 0 (z 1)) rfl h1
      have u3 := shift_at m c t (ix3 0 0 (y 1)) (ix3 1 0 (z 1)) (by rw [hs]; rfl) rfl h1
      have u4 := scale_at m c t (ix3 0 0 (y 1)) (ix3 1 0 (z 1)) (by rw [hs]; rfl) rfl h1
      simp only [k0, r0, u2, u3, u4, g1, g2, g3, g4]

end Cert.NormFwdIdeal.Gen

end
-- ==== Proof.Products.lean ====
/-
  Three more products on one device, at the real numbers: the modulation from the condition, the merge of the two branches with the product after it, and
  the gradients of weights from all the rows. With the frames of the programs.
-/
module

public import proofs.«01_k».proof.Proof.Context
public import proofs.«01_k».proof.Proof.Gen.Ada.Frame
public import proofs.«01_k».proof.Proof.Gen.AdaIdeal.Frame
public import proofs.«01_k».proof.Proof.Gen.AdaReferenceIdeal.Run
public import proofs.«01_k».proof.Proof.Gen.Merge.Frame
public import proofs.«01_k».proof.Proof.Gen.MergeIdeal.Frame
public import proofs.«01_k».proof.Proof.Gen.MergeReferenceIdeal.Run
public import proofs.«01_k».proof.Proof.Gen.Outer.Frame
public import proofs.«01_k».proof.Proof.Gen.OuterIdeal.Frame
public import proofs.«01_k».proof.Proof.Gen.OuterReferenceIdeal.Run
public import proofs.«01_k».proof.Proof.Gen.OuterDown.Frame
public import proofs.«01_k».proof.Proof.Gen.OuterDownIdeal.Frame
public import proofs.«01_k».proof.Proof.Gen.OuterDownReferenceIdeal.Run
public import proofs.«01_k».proof.Proof.Gen.OuterUp.Frame
public import proofs.«01_k».proof.Proof.Gen.OuterUpIdeal.Frame
public import proofs.«01_k».proof.Proof.Gen.OuterUpReferenceIdeal.Run
public import Idealize.ShloMosaic.Lib.Pipeline.ValueKit
public import Idealize.ShloMosaic.Lib.Pointwise
public import Idealize.ShloMosaic.Lib.Quiescent

@[expose] public section

noncomputable section

/-! ## The modulation -/

namespace Cert.AdaIdeal.Gen

open Idealize.ShloMosaic Idealize.ShloMosaic.TcCoe
open Idealize.SL.Sem

variable (m : (ℓ : Loc nD τ sig) → Buf (Elt Ideal) ℓ)

/-- The windows' index maps, decided once. -/
theorem index_facts : ∀ t : Fin cfg0.N,
    ((cfg0.win 0).index t 0 = 0 ∧ (cfg0.win 0).index t 1 = 0)
      ∧ ((cfg0.win 1).index t 0 = 0 ∧ (cfg0.win 1).index t 1 = 0)
      ∧ ((cfg0.win 2).index t 0 = 0 ∧ (cfg0.win 2).index t 1 = 0)
      ∧ ((cfg0.win 3).index t 0 = 0 ∧ (cfg0.win 3).index t 1 = 0) := by
  decide +kernel

/-- The conditions. -/
theorem cond_at (c : Dev nD) (t : Fin cfg0.N) (y : S16x1024.Idx) (z : S16x1024.Idx) (h0 : (z 0).val = (y 0).val) (h1 : (z 1).val = (y 1).val) :
    iblk m c 0 t y = m ((c.tc : Thread nD τ).loc main_arg0) z := by
  obtain ⟨⟨e0, e1⟩, -⟩ := index_facts t
  blk_ext [iblk, V, e0, e1, h0, h1]

/-- The weight. -/
theorem weight_at (c : Dev nD) (t : Fin cfg0.N) (y : S1024x768.Idx) (z : S1024x768.Idx) (h0 : (z 0).val = (y 0).val) (h1 : (z 1).val = (y 1).val) :
    iblk m c 1 t y = m ((c.tc : Thread nD τ).loc main_arg1) z := by
  obtain ⟨-, ⟨e0, e1⟩, -⟩ := index_facts t
  blk_ext [iblk, V, e0, e1, h0, h1]

/-- The bias. -/
theorem bias_at (c : Dev nD) (t : Fin cfg0.N) (y : S1x768.Idx) (z : S1x768.Idx) (h0 : (z 0).val = (y 0).val) (h1 : (z 1).val = (y 1).val) :
    iblk m c 2 t y = m ((c.tc : Thread nD τ).loc main_arg2) z := by
  obtain ⟨-, -, ⟨e0, e1⟩, -⟩ := index_facts t
  blk_ext [iblk, V, e0, e1, h0, h1]

theorem frame_bits : Cert.quiescent_Ada := fun m ρ _ => Cert.Ada.Gen.frame m ρ

theorem frame_ideal : Cert.quiescent_AdaIdeal := fun m ρ _ => Cert.AdaIdeal.Gen.frame m ρ

theorem frame_reference : Cert.quiescent_AdaReferenceIdeal := fun m ρ _ =>
  (θ_run Cert.AdaReferenceIdeal.defs _ _).mono (fun r h => ⟨fun c => (h c).2, sem_eq_zero_of_no_sems (by decide) r.2⟩) (Cert.AdaReferenceIdeal.Value.run (F := Ideal) m ρ)

theorem value : Cert.algebraic_AdaIdeal_AdaReferenceIdeal := by
  intro m ρ m' ρ' _ hagree
  refine ⟨_, (θ_run Cert.AdaIdeal.defs _ _).mono
    (fun r h c => ⟨(h c).1 3, ((h c).1 0).trans ((dats m 0 c).arrAt_in 0 rfl _), ((h c).1 1).trans ((dats m 0 c).arrAt_in 1 rfl _), ((h c).1 2).trans ((dats m 0 c).arrAt_in 2 rfl _)⟩)
    (run_main (F := Ideal) m ρ), ?_⟩
  refine (θ_run Cert.AdaReferenceIdeal.defs _ _).mono (fun r h c => ?_) (Cert.AdaReferenceIdeal.Value.run (F := Ideal) m' ρ')
  obtain ⟨h0, h1⟩ := h c
  refine ⟨h0.trans ?_, h1⟩
  all_goals
    simp only [(hagree c).1, (hagree c).2.1, (hagree c).2.2]
    symm
    clear h h0 h1 hagree
  · refine (dats m 0 c).arrAt_eq_of_covers 3 _ (by decide +kernel) fun t hf y => ?_
    obtain ⟨-, -, -, e0, e1⟩ := index_facts t
    blk_simp
    rw [after0_3]
    frame_out
    generalize hz : ((View.whole main_v0).slice (win0_3.rect t)).emb y = z
    have h0 : (z 0).val = (y 0).val := by rw [← hz]; blk_simp [e0]
    have h1 : (z 1).val = (y 1).val := by rw [← hz]; blk_simp [e1]
    unfold k0_pay1
    pointwise
    have k0 := fun x : Fin 1024 => cond_at m c t (ix2 (y 0) x) (ix2 (z 0) x) h0 rfl
    have k1 := fun x : Fin 1024 => weight_at m c t (ix2 x (y 1)) (ix2 x (z 1)) rfl h1
    have k2 := bias_at m c t (ix2 0 (y 1)) (ix2 0 (z 1)) rfl h1
    simp only [Ideal.logistic, k0, k1, k2]

end Cert.AdaIdeal.Gen

/-! ## The merge of the branches -/

namespace Cert.MergeIdeal.Gen

open Idealize.ShloMosaic Idealize.ShloMosaic.TcCoe
open Idealize.SL.Sem

variable (m : (ℓ : Loc nD τ sig) → Buf (Elt Ideal) ℓ)

theorem origin : (![0, 0] : Fin 2 → Nat) = fun _ => 0 := funext fun a => by fin_cases a <;> rfl

/-- The merged block. -/
theorem left_5 (c : Dev nD) (t : Fin cfg0.N) : (outsAt0 m c t).1 = k0_pay1 (F := Ideal) (iblk m c 0 t) (iblk m c 1 t) (X0_2 m c t) (X0_3 m c t) := by
  unfold outsAt0
  dsimp only
  unfold out0_A_5
  rw [View.read_writes_eq_canon _ _ _ (fun y => cover0_A_5 (y := y) ..)]
  unfold kernelRun0_A
  dsimp only
  sl_unfold_words
  rw [View.canon_unit_zero origin]
  simp only [View.readCov_unit_zero (S := S512x1024) _ origin, View.readAt_eq_ld, Memref.IsWhole.read_unread, View.ld_unit_zero (S := S512x1024) origin,
    View.ld_unit_zero (S := S1024x1024) origin]

/-- Its product with the weight. -/
theorem left_6 (c : Dev nD) (t : Fin cfg0.N) : (outsAt0 m c t).2
    = k0_pay2 (F := Ideal) (k0_pay1 (iblk m c 0 t) (iblk m c 1 t) (X0_2 m c t) (X0_3 m c t) : FVec Ideal S512x1024 .bf16) (iblk m c 4 t) := by
  unfold outsAt0
  dsimp only
  unfold out0_A_6
  rw [View.read_writes_eq_canon _ _ _ (fun y => cover0_A_6 (y := y) ..)]
  unfold kernelRun0_A
  dsimp only
  sl_unfold_words
  rw [View.canon_unit_zero origin]
  simp only [View.readCov_unit_zero (S := S512x1024) _ origin, View.readAt_eq_ld, Memref.IsWhole.read_unread, View.ld_unit_zero (S := S512x1024) origin,
    View.ld_unit_zero (S := S1024x1024) origin]

/-- The windows' index maps, decided once. -/
theorem index_facts : ∀ t : Fin cfg0.N,
    ((cfg0.win 0).index t 0 = t.val ∧ (cfg0.win 0).index t 1 = 0)
      ∧ ((cfg0.win 1).index t 0 = t.val ∧ (cfg0.win 1).index t 1 = 0)
      ∧ ((cfg0.win 2).index t 0 = t.val ∧ (cfg0.win 2).index t 1 = 5)
      ∧ ((cfg0.win 3).index t 0 = t.val ∧ (cfg0.win 3).index t 1 = 6)
      ∧ ((cfg0.win 4).index t 0 = 0 ∧ (cfg0.win 4).index t 1 = 0)
      ∧ ((cfg0.win 5).index t 0 = t.val ∧ (cfg0.win 5).index t 1 = 0)
      ∧ ((cfg0.win 6).index t 0 = t.val ∧ (cfg0.win 6).index t 1 = 0) := by
  decide +kernel

/-- The first branch, at an element of a block. -/
theorem first_at (c : Dev nD) (t : Fin cfg0.N) (y : S512x1024.Idx) (z : S16384x1024.Idx) (h0 : (z 0).val = t.val * 512 + (y 0).val) (h1 : (z 1).val = (y 1).val) :
    iblk m c 0 t y = m ((c.tc : Thread nD τ).loc main_arg0) z := by
  obtain ⟨⟨e0, e1⟩, -⟩ := index_facts t
  blk_ext [iblk, V, e0, e1, h0, h1]

/-- The second branch. -/
theorem second_at (c : Dev nD) (t : Fin cfg0.N) (y : S512x1024.Idx) (z : S16384x1024.Idx) (h0 : (z 0).val = t.val * 512 + (y 0).val) (h1 : (z 1).val = (y 1).val) :
    iblk m c 1 t y = m ((c.tc : Thread nD τ).loc main_arg1) z := by
  obtain ⟨-, ⟨e0, e1⟩, -⟩ := index_facts t
  blk_ext [iblk, V, e0, e1, h0, h1]

/-- The first gate. -/
theorem gate_at (c : Dev nD) (t : Fin cfg0.N) (y : S512x1024.Idx) (z : S16640x8192.Idx) (h0 : (z 0).val = t.val * 512 + (y 0).val) (h1 : (z 1).val = 5120 + (y 1).val) :
    X0_2 m c t y = m ((c.tc : Thread nD τ).loc main_arg2) z := by
  obtain ⟨-, -, ⟨e0, e1⟩, -⟩ := index_facts t
  unfold X0_2 Pipeline.Window.fill
  rw [dif_pos (moved0_2 t y)]
  blk_ext [iblk, V, e0, e1, h0, h1]

/-- The second gate. -/
theorem other_at (c : Dev nD) (t : Fin cfg0.N) (y : S512x1024.Idx) (z : S16640x8192.Idx) (h0 : (z 0).val = t.val * 512 + (y 0).val) (h1 : (z 1).val = 6144 + (y 1).val) :
    X0_3 m c t y = m ((c.tc : Thread nD τ).loc main_arg2) z := by
  obtain ⟨-, -, -, ⟨e0, e1⟩, -⟩ := index_facts t
  unfold X0_3 Pipeline.Window.fill
  rw [dif_pos (moved0_3 t y)]
  blk_ext [iblk, V, e0, e1, h0, h1]

/-- The weight. -/
theorem weight_at (c : Dev nD) (t : Fin cfg0.N) (y : S1024x1024.Idx) (z : S1024x1024.Idx) (h0 : (z 0).val = (y 0).val) (h1 : (z 1).val = (y 1).val) :
    iblk m c 4 t y = m ((c.tc : Thread nD τ).loc main_arg3) z := by
  obtain ⟨-, -, -, -, ⟨e0, e1⟩, -⟩ := index_facts t
  blk_ext [iblk, V, e0, e1, h0, h1]

theorem frame_bits : Cert.quiescent_Merge := fun m ρ _ => Cert.Merge.Gen.frame m ρ

theorem frame_ideal : Cert.quiescent_MergeIdeal := fun m ρ _ => Cert.MergeIdeal.Gen.frame m ρ

theorem frame_reference : Cert.quiescent_MergeReferenceIdeal := fun m ρ _ =>
  (θ_run Cert.MergeReferenceIdeal.defs _ _).mono (fun r h => ⟨fun c => (h c).2.2, sem_eq_zero_of_no_sems (by decide) r.2⟩) (Cert.MergeReferenceIdeal.Value.run (F := Ideal) m ρ)

theorem value : Cert.algebraic_MergeIdeal_MergeReferenceIdeal := by
  intro m ρ m' ρ' _ hagree
  refine ⟨_, _, (θ_run Cert.MergeIdeal.defs _ _).mono
    (fun r h c => ⟨(h c).1 5, (h c).1 6, ((h c).1 0).trans ((dats m 0 c).arrAt_in 0 rfl _), ((h c).1 1).trans ((dats m 0 c).arrAt_in 1 rfl _), ((h c).1 2).trans ((dats m 0 c).arrAt_in 2 rfl _), ((h c).1 4).trans ((dats m 0 c).arrAt_in 4 rfl _)⟩)
    (run_main (F := Ideal) m ρ), ?_⟩
  refine (θ_run Cert.MergeReferenceIdeal.defs _ _).mono (fun r h c => ?_) (Cert.MergeReferenceIdeal.Value.run (F := Ideal) m' ρ')
  obtain ⟨h0, h1, h2⟩ := h c
  refine ⟨h0.trans ?_, h1.trans ?_, h2⟩
  all_goals
    simp only [(hagree c).1, (hagree c).2.1, (hagree c).2.2.1, (hagree c).2.2.2]
    symm
    clear h h0 h1 h2 hagree
  · refine (dats m 0 c).arrAt_eq_of_covers 5 _ (by decide +kernel) fun t hf y => ?_
    obtain ⟨-, -, -, -, -, ⟨e0, e1⟩, -⟩ := index_facts t
    blk_simp
    rw [after0_5, left_5]
    generalize hz : ((View.whole main_v0_0).slice (win0_5.rect t)).emb y = z
    have h0 : (z 0).val = t.val * 512 + (y 0).val := by rw [← hz]; blk_simp [e0]
    have h1 : (z 1).val = (y 1).val := by rw [← hz]; blk_simp [e1]
    unfold k0_pay1
    pointwise
    have k0 := first_at m c t y z h0 h1
    have k1 := second_at m c t y z h0 h1
    have hz0 : (z 0).val < 16384 := (z 0).isLt
    have hz1 : (z 1).val < 1024 := (z 1).isLt
    have k2 := gate_at m c t y (ix2 ⟨(z 0).val, by omega⟩ ⟨5120 + (z 1).val, by omega⟩) h0 (congrArg (5120 + ·) h1)
    have k3 := other_at m c t y (ix2 ⟨(z 0).val, by omega⟩ ⟨6144 + (z 1).val, by omega⟩) h0 (congrArg (6144 + ·) h1)
    simp only [Ideal.logistic, k0, k1, k2, k3]
  · refine (dats m 0 c).arrAt_eq_of_covers 6 _ (by decide +kernel) fun t hf y => ?_
    obtain ⟨-, -, -, -, -, -, e0, e1⟩ := index_facts t
    blk_simp
    rw [after0_6, left_6]
    generalize hz : ((View.whole main_v0_1).slice (win0_6.rect t)).emb y = z
    have h0 : (z 0).val = t.val * 512 + (y 0).val := by rw [← hz]; blk_simp [e0]
    have h1 : (z 1).val = (y 1).val := by rw [← hz]; blk_simp [e1]
    unfold k0_pay2 k0_pay1
    pointwise
    have hz0 : (z 0).val < 16384 := (z 0).isLt
    have k0 := fun x : Fin 1024 => first_at m c t (ix2 (y 0) x) (ix2 (z 0) x) h0 rfl
    have k1 := fun x : Fin 1024 => second_at m c t (ix2 (y 0) x) (ix2 (z 0) x) h0 rfl
    have k2 := fun x : Fin 1024 => gate_at m c t (ix2 (y 0) x) (ix2 ⟨(z 0).val, by omega⟩ ⟨5120 + x.val, by omega⟩) h0 rfl
    have k3 := fun x : Fin 1024 => other_at m c t (ix2 (y 0) x) (ix2 ⟨(z 0).val, by omega⟩ ⟨6144 + x.val, by omega⟩) h0 rfl
    have k4 := fun x : Fin 1024 => weight_at m c t (ix2 x (y 1)) (ix2 x (z 1)) rfl h1
    simp only [Ideal.logistic, k0, k1, k2, k3, k4]

end Cert.MergeIdeal.Gen

/-! ## The gradient of a weight -/

namespace Cert.OuterIdeal.Gen

open Idealize.ShloMosaic Idealize.ShloMosaic.TcCoe
open Idealize.SL.Sem

variable (m : (ℓ : Loc nD τ sig) → Buf (Elt Ideal) ℓ)

theorem origin : (![0, 0] : Fin 2 → Nat) = fun _ => 0 := funext fun a => by fin_cases a <;> rfl

/-- The first point leaves the first rows' product. -/
theorem acc_reset (c : Dev nD) (t : Fin cfg0.N) (h : t.val % 8 = 0) : (outsAt0 m c t.val t.isLt).2 = k0_pay2 (F := Ideal) (iblk m c 0 t) (iblk m c 1 t) := by
  have hN : cfg0.N = 8 := N_0
  have ht := t.isLt
  rw [outsAt0_A m c t h (by omega) (by omega)]
  dsimp only
  unfold sout0_A_0
  rw [View.read_writes_eq_canon _ _ _ (fun y => scover0_A_0 (y := y) ..)]
  unfold kernelRun0_A
  dsimp only
  sl_unfold_words
  rw [View.canon_unit_zero origin]
  simp only [View.readCov_unit_zero (S := S1024x1024) _ origin, View.readAt_eq_ld, Memref.IsWhole.read_unread, View.ld_unit_zero (S := S2048x1024) origin,
    View.ld_unit_zero (S := S1024x1024) origin]

/-- A later point adds its rows' product. -/
theorem acc_add (c : Dev nD) (t : Fin cfg0.N) (h : ¬t.val % 8 = 0) : (outsAt0 m c t.val t.isLt).2
    = k0_pay3 (F := Ideal) (iblk m c 0 t) (iblk m c 1 t) (outsAt0 m c (t.val - 1) (Nat.lt_of_le_of_lt (Nat.sub_le _ _) t.isLt)).2 := by
  by_cases h7 : t.val % 8 = 7
  · rw [outsAt0_C m c t h (by omega) h7]
    dsimp only
    unfold sout0_C_0
    rw [View.read_writes_eq_canon _ _ _ (fun y => scover0_C_0 (y := y) ..)]
    unfold kernelRun0_C
    dsimp only
    sl_unfold_words
    rw [View.canon_unit_zero origin]
    simp only [View.readCov_unit_zero (S := S1024x1024) _ origin, View.readAt_eq_ld, Memref.IsWhole.read_unread, View.ld_unit_zero (S := S2048x1024) origin,
      View.ld_unit_zero (S := S1024x1024) origin]
    exact congrArg _ ((Memref.isWhole_whole cc0_scratch0).read_unread _)
  · rw [outsAt0_B m c t h (by omega) h7]
    dsimp only
    unfold sout0_B_0
    rw [View.read_writes_eq_canon _ _ _ (fun y => scover0_B_0 (y := y) ..)]
    unfold kernelRun0_B
    dsimp only
    sl_unfold_words
    rw [View.canon_unit_zero origin]
    simp only [View.readCov_unit_zero (S := S1024x1024) _ origin, View.readAt_eq_ld, Memref.IsWhole.read_unread, View.ld_unit_zero (S := S2048x1024) origin,
      View.ld_unit_zero (S := S1024x1024) origin]
    exact congrArg _ ((Memref.isWhole_whole cc0_scratch0).read_unread _)

/-- The last point stores the sum. -/
theorem left_end (c : Dev nD) (t : Fin cfg0.N) (h : t.val % 8 = 7) : (outsAt0 m c t.val t.isLt).1
    = k0_pay4 (F := Ideal) (outsAt0 m c t.val t.isLt).2 := by
  rw [acc_add m c t (by omega), outsAt0_C m c t (by omega) (by omega) h]
  dsimp only
  unfold out0_C_2
  rw [View.read_writes_eq_canon _ _ _ (fun y => cover0_C_2 (y := y) ..)]
  unfold kernelRun0_C
  dsimp only
  sl_unfold_words
  rw [View.canon_unit_zero origin]
  simp only [View.readCov_unit_zero (S := S1024x1024) _ origin, View.readAt_eq_ld, Memref.IsWhole.read_unread, View.ld_unit_zero (S := S2048x1024) origin,
    View.ld_unit_zero (S := S1024x1024) origin]
  exact congrArg (fun v => k0_pay4 (F := Ideal) (k0_pay3 (iblk m c 0 t) (iblk m c 1 t) v)) ((Memref.isWhole_whole cc0_scratch0).read_unread _)

/-- The windows' index maps, decided once. -/
theorem index_facts : ∀ t : Fin cfg0.N,
    ((cfg0.win 0).index t 0 = t.val ∧ (cfg0.win 0).index t 1 = 0)
      ∧ ((cfg0.win 1).index t 0 = t.val ∧ (cfg0.win 1).index t 1 = 0)
      ∧ ((cfg0.win 2).index t 0 = 0 ∧ (cfg0.win 2).index t 1 = 0) := by
  decide +kernel

/-- The sum where it ends. -/
theorem acc_end (c : Dev nD) (t : Fin cfg0.N) (h : t.val % 8 = 7) (j : S1024x1024.Idx) :
    (outsAt0 m c t.val t.isLt).2 j = (0 : EReal) + ∑ s : Fin 8, k0_pay1 (F := Ideal) (iblk m c 0 ⟨8 * (t.val / 8) + s.val, Pipeline.run_point_lt_of_flush t h s⟩)
      (iblk m c 1 ⟨8 * (t.val / 8) + s.val, Pipeline.run_point_lt_of_flush t h s⟩) j := by
  refine Pipeline.eq_sum_fin_of_reset_step_apply_of_flush (fun n hn => (outsAt0 m c n hn).2) 8 (fun _ => (0 : EReal))
    (fun t => k0_pay1 (F := Ideal) (iblk m c 0 t) (iblk m c 1 t)) ?_ ?_ t h j
  · intro t h j
    rw [acc_reset m c t h, k0_pay2]
    pointwise
  · intro t h j
    rw [acc_add m c t h, k0_pay3]
    pointwise

theorem frame_bits : Cert.quiescent_Outer := fun m ρ _ => Cert.Outer.Gen.frame m ρ

theorem frame_ideal : Cert.quiescent_OuterIdeal := fun m ρ _ => Cert.OuterIdeal.Gen.frame m ρ

theorem frame_reference : Cert.quiescent_OuterReferenceIdeal := fun m ρ _ =>
  (θ_run Cert.OuterReferenceIdeal.defs _ _).mono (fun r h => ⟨fun c => (h c).2, sem_eq_zero_of_no_sems (by decide) r.2⟩) (Cert.OuterReferenceIdeal.Value.run (F := Ideal) m ρ)

theorem value : Cert.algebraic_OuterIdeal_OuterReferenceIdeal := by
  intro m ρ m' ρ' _ hagree
  refine ⟨_, (θ_run Cert.OuterIdeal.defs _ _).mono
    (fun r h c => ⟨(h c).1 2, ((h c).1 0).trans ((dats m 0 c).arrAt_in 0 rfl _), ((h c).1 1).trans ((dats m 0 c).arrAt_in 1 rfl _)⟩)
    (run_main (F := Ideal) m ρ), ?_⟩
  refine (θ_run Cert.OuterReferenceIdeal.defs _ _).mono (fun r h c => ?_) (Cert.OuterReferenceIdeal.Value.run (F := Ideal) m' ρ')
  obtain ⟨h0, h1⟩ := h c
  refine ⟨h0.trans ?_, h1⟩
  all_goals
    simp only [(hagree c).1, (hagree c).2]
    symm
    clear h h0 h1 hagree
  · refine (dats m 0 c).arrAt_eq_of_covers 2 _ (by decide +kernel) fun t hf y => ?_
    have h7 := (flush0_2 t).mp hf
    have hN : cfg0.N = 8 := N_0
    have ht := t.isLt
    obtain ⟨-, -, e20, e21⟩ := index_facts t
    blk_simp
    rw [after0_2, left_end m c t h7]
    unfold k0_pay4
    pointwise
    rw [acc_end m c t h7, zero_add]
    unfold k0_pay1
    pointwise
    refine Fin.sum_mul_add_congr fun s k hl => ?_
    obtain ⟨⟨e00, e01⟩, ⟨e10, e11⟩, -⟩ := index_facts ⟨8 * (t.val / 8) + s.val, Pipeline.run_point_lt_of_flush t h7 s⟩
    have hs := s.isLt
    congr 1
    · show m ((c.tc : Thread nD τ).loc main_arg0) _ = _
      blk_ext [e00, e01, e20, e21]
    · show m ((c.tc : Thread nD τ).loc main_arg1) _ = _
      blk_ext [e10, e11, e20, e21]

end Cert.OuterIdeal.Gen

/-! ## The gradient of the last weight -/

namespace Cert.OuterDownIdeal.Gen

open Idealize.ShloMosaic Idealize.ShloMosaic.TcCoe
open Idealize.SL.Sem

variable (m : (ℓ : Loc nD τ sig) → Buf (Elt Ideal) ℓ)

theorem origin : (![0, 0] : Fin 2 → Nat) = fun _ => 0 := funext fun a => by fin_cases a <;> rfl

/-- The first point leaves the first rows' product. -/
theorem acc_reset (c : Dev nD) (t : Fin cfg0.N) (h : t.val % 8 = 0) : (outsAt0 m c t.val t.isLt).2 = k0_pay2 (F := Ideal) (iblk m c 0 t) (iblk m c 1 t) := by
  have hN : cfg0.N = 16 := N_0
  have ht := t.isLt
  rw [outsAt0_A m c t h (by omega) (by omega)]
  dsimp only
  unfold sout0_A_0
  rw [View.read_writes_eq_canon _ _ _ (fun y => scover0_A_0 (y := y) ..)]
  unfold kernelRun0_A
  dsimp only
  sl_unfold_words
  rw [View.canon_unit_zero origin]
  simp only [View.readCov_unit_zero (S := S1408x1024) _ origin, View.readAt_eq_ld, Memref.IsWhole.read_unread, View.ld_unit_zero (S := S2048x1408) origin, View.ld_unit_zero (S := S2048x1024) origin,
    View.ld_unit_zero (S := S1408x1024) origin]

/-- A later point adds its rows' product. -/
theorem acc_add (c : Dev nD) (t : Fin cfg0.N) (h : ¬t.val % 8 = 0) : (outsAt0 m c t.val t.isLt).2
    = k0_pay3 (F := Ideal) (iblk m c 0 t) (iblk m c 1 t) (outsAt0 m c (t.val - 1) (Nat.lt_of_le_of_lt (Nat.sub_le _ _) t.isLt)).2 := by
  by_cases h7 : t.val % 8 = 7
  · rw [outsAt0_C m c t h (by omega) h7]
    dsimp only
    unfold sout0_C_0
    rw [View.read_writes_eq_canon _ _ _ (fun y => scover0_C_0 (y := y) ..)]
    unfold kernelRun0_C
    dsimp only
    sl_unfold_words
    rw [View.canon_unit_zero origin]
    simp only [View.readCov_unit_zero (S := S1408x1024) _ origin, View.readAt_eq_ld, Memref.IsWhole.read_unread, View.ld_unit_zero (S := S2048x1408) origin, View.ld_unit_zero (S := S2048x1024) origin,
      View.ld_unit_zero (S := S1408x1024) origin]
    exact congrArg _ ((Memref.isWhole_whole cc0_scratch0).read_unread _)
  · rw [outsAt0_B m c t h (by omega) h7]
    dsimp only
    unfold sout0_B_0
    rw [View.read_writes_eq_canon _ _ _ (fun y => scover0_B_0 (y := y) ..)]
    unfold kernelRun0_B
    dsimp only
    sl_unfold_words
    rw [View.canon_unit_zero origin]
    simp only [View.readCov_unit_zero (S := S1408x1024) _ origin, View.readAt_eq_ld, Memref.IsWhole.read_unread, View.ld_unit_zero (S := S2048x1408) origin, View.ld_unit_zero (S := S2048x1024) origin,
      View.ld_unit_zero (S := S1408x1024) origin]
    exact congrArg _ ((Memref.isWhole_whole cc0_scratch0).read_unread _)

/-- The last point stores the sum. -/
theorem left_end (c : Dev nD) (t : Fin cfg0.N) (h : t.val % 8 = 7) : (outsAt0 m c t.val t.isLt).1
    = k0_pay4 (F := Ideal) (outsAt0 m c t.val t.isLt).2 := by
  rw [acc_add m c t (by omega), outsAt0_C m c t (by omega) (by omega) h]
  dsimp only
  unfold out0_C_2
  rw [View.read_writes_eq_canon _ _ _ (fun y => cover0_C_2 (y := y) ..)]
  unfold kernelRun0_C
  dsimp only
  sl_unfold_words
  rw [View.canon_unit_zero origin]
  simp only [View.readCov_unit_zero (S := S1408x1024) _ origin, View.readAt_eq_ld, Memref.IsWhole.read_unread, View.ld_unit_zero (S := S2048x1408) origin, View.ld_unit_zero (S := S2048x1024) origin,
    View.ld_unit_zero (S := S1408x1024) origin]
  exact congrArg (fun v => k0_pay4 (F := Ideal) (k0_pay3 (iblk m c 0 t) (iblk m c 1 t) v)) ((Memref.isWhole_whole cc0_scratch0).read_unread _)

/-- The windows' index maps, decided once. -/
theorem index_facts : ∀ t : Fin cfg0.N,
    ((cfg0.win 0).index t 0 = t.val % 8 ∧ (cfg0.win 0).index t 1 = t.val / 8)
      ∧ ((cfg0.win 1).index t 0 = t.val % 8 ∧ (cfg0.win 1).index t 1 = 0)
      ∧ ((cfg0.win 2).index t 0 = t.val / 8 ∧ (cfg0.win 2).index t 1 = 0) := by
  decide +kernel

/-- The sum where it ends. -/
theorem acc_end (c : Dev nD) (t : Fin cfg0.N) (h : t.val % 8 = 7) (j : S1408x1024.Idx) :
    (outsAt0 m c t.val t.isLt).2 j = (0 : EReal) + ∑ s : Fin 8, k0_pay1 (F := Ideal) (iblk m c 0 ⟨8 * (t.val / 8) + s.val, Pipeline.run_point_lt_of_flush t h s⟩)
      (iblk m c 1 ⟨8 * (t.val / 8) + s.val, Pipeline.run_point_lt_of_flush t h s⟩) j := by
  refine Pipeline.eq_sum_fin_of_reset_step_apply_of_flush (fun n hn => (outsAt0 m c n hn).2) 8 (fun _ => (0 : EReal))
    (fun t => k0_pay1 (F := Ideal) (iblk m c 0 t) (iblk m c 1 t)) ?_ ?_ t h j
  · intro t h j
    rw [acc_reset m c t h, k0_pay2]
    pointwise
  · intro t h j
    rw [acc_add m c t h, k0_pay3]
    pointwise

theorem frame_bits : Cert.quiescent_OuterDown := fun m ρ _ => Cert.OuterDown.Gen.frame m ρ

theorem frame_ideal : Cert.quiescent_OuterDownIdeal := fun m ρ _ => Cert.OuterDownIdeal.Gen.frame m ρ

theorem frame_reference : Cert.quiescent_OuterDownReferenceIdeal := fun m ρ _ =>
  (θ_run Cert.OuterDownReferenceIdeal.defs _ _).mono (fun r h => ⟨fun c => (h c).2, sem_eq_zero_of_no_sems (by decide) r.2⟩) (Cert.OuterDownReferenceIdeal.Value.run (F := Ideal) m ρ)

theorem value : Cert.algebraic_OuterDownIdeal_OuterDownReferenceIdeal := by
  intro m ρ m' ρ' _ hagree
  refine ⟨_, (θ_run Cert.OuterDownIdeal.defs _ _).mono
    (fun r h c => ⟨(h c).1 2, ((h c).1 0).trans ((dats m 0 c).arrAt_in 0 rfl _), ((h c).1 1).trans ((dats m 0 c).arrAt_in 1 rfl _)⟩)
    (run_main (F := Ideal) m ρ), ?_⟩
  refine (θ_run Cert.OuterDownReferenceIdeal.defs _ _).mono (fun r h c => ?_) (Cert.OuterDownReferenceIdeal.Value.run (F := Ideal) m' ρ')
  obtain ⟨h0, h1⟩ := h c
  refine ⟨h0.trans ?_, h1⟩
  all_goals
    simp only [(hagree c).1, (hagree c).2]
    symm
    clear h h0 h1 hagree
  · refine (dats m 0 c).arrAt_eq_of_covers 2 _ (by decide +kernel) fun t hf y => ?_
    have h7 := (flush0_2 t).mp hf
    have hN : cfg0.N = 16 := N_0
    have ht := t.isLt
    obtain ⟨-, -, e20, e21⟩ := index_facts t
    blk_simp
    rw [after0_2, left_end m c t h7]
    unfold k0_pay4
    pointwise
    rw [acc_end m c t h7, zero_add]
    unfold k0_pay1
    pointwise
    refine Fin.sum_mul_add_congr fun s k hl => ?_
    obtain ⟨⟨e00, e01⟩, ⟨e10, e11⟩, -⟩ := index_facts ⟨8 * (t.val / 8) + s.val, Pipeline.run_point_lt_of_flush t h7 s⟩
    have hs := s.isLt
    have d1 : (8 * (t.val / 8) + s.val) / 8 = t.val / 8 := by omega
    have d2 : (8 * (t.val / 8) + s.val) % 8 = s.val := by omega
    simp only [d1, d2] at e00 e01 e10 e11
    congr 1
    · show m ((c.tc : Thread nD τ).loc main_arg0) _ = _
      blk_ext [e00, e01, e20, e21]
    · show m ((c.tc : Thread nD τ).loc main_arg1) _ = _
      blk_ext [e10, e11, e20, e21]

end Cert.OuterDownIdeal.Gen

/-! ## The gradient of the weight before it -/

namespace Cert.OuterUpIdeal.Gen

open Idealize.ShloMosaic Idealize.ShloMosaic.TcCoe
open Idealize.SL.Sem

variable (m : (ℓ : Loc nD τ sig) → Buf (Elt Ideal) ℓ)

theorem origin : (![0, 0] : Fin 2 → Nat) = fun _ => 0 := funext fun a => by fin_cases a <;> rfl

/-- The first point leaves the first rows' product. -/
theorem acc_reset (c : Dev nD) (t : Fin cfg0.N) (h : t.val % 8 = 0) : (outsAt0 m c t.val t.isLt).2 = k0_pay2 (F := Ideal) (iblk m c 0 t) (iblk m c 1 t) := by
  have hN : cfg0.N = 32 := N_0
  have ht := t.isLt
  rw [outsAt0_A m c t h (by omega) (by omega)]
  dsimp only
  unfold sout0_A_0
  rw [View.read_writes_eq_canon _ _ _ (fun y => scover0_A_0 (y := y) ..)]
  unfold kernelRun0_A
  dsimp only
  sl_unfold_words
  rw [View.canon_unit_zero origin]
  simp only [View.readCov_unit_zero (S := S1024x1408) _ origin, View.readAt_eq_ld, Memref.IsWhole.read_unread, View.ld_unit_zero (S := S2048x1024) origin, View.ld_unit_zero (S := S2048x1408) origin,
    View.ld_unit_zero (S := S1024x1408) origin]

/-- A later point adds its rows' product. -/
theorem acc_add (c : Dev nD) (t : Fin cfg0.N) (h : ¬t.val % 8 = 0) : (outsAt0 m c t.val t.isLt).2
    = k0_pay3 (F := Ideal) (iblk m c 0 t) (iblk m c 1 t) (outsAt0 m c (t.val - 1) (Nat.lt_of_le_of_lt (Nat.sub_le _ _) t.isLt)).2 := by
  by_cases h7 : t.val % 8 = 7
  · rw [outsAt0_C m c t h (by omega) h7]
    dsimp only
    unfold sout0_C_0
    rw [View.read_writes_eq_canon _ _ _ (fun y => scover0_C_0 (y := y) ..)]
    unfold kernelRun0_C
    dsimp only
    sl_unfold_words
    rw [View.canon_unit_zero origin]
    simp only [View.readCov_unit_zero (S := S1024x1408) _ origin, View.readAt_eq_ld, Memref.IsWhole.read_unread, View.ld_unit_zero (S := S2048x1024) origin, View.ld_unit_zero (S := S2048x1408) origin,
      View.ld_unit_zero (S := S1024x1408) origin]
    exact congrArg _ ((Memref.isWhole_whole cc0_scratch0).read_unread _)
  · rw [outsAt0_B m c t h (by omega) h7]
    dsimp only
    unfold sout0_B_0
    rw [View.read_writes_eq_canon _ _ _ (fun y => scover0_B_0 (y := y) ..)]
    unfold kernelRun0_B
    dsimp only
    sl_unfold_words
    rw [View.canon_unit_zero origin]
    simp only [View.readCov_unit_zero (S := S1024x1408) _ origin, View.readAt_eq_ld, Memref.IsWhole.read_unread, View.ld_unit_zero (S := S2048x1024) origin, View.ld_unit_zero (S := S2048x1408) origin,
      View.ld_unit_zero (S := S1024x1408) origin]
    exact congrArg _ ((Memref.isWhole_whole cc0_scratch0).read_unread _)

/-- The last point stores the sum. -/
theorem left_end (c : Dev nD) (t : Fin cfg0.N) (h : t.val % 8 = 7) : (outsAt0 m c t.val t.isLt).1
    = k0_pay4 (F := Ideal) (outsAt0 m c t.val t.isLt).2 := by
  rw [acc_add m c t (by omega), outsAt0_C m c t (by omega) (by omega) h]
  dsimp only
  unfold out0_C_2
  rw [View.read_writes_eq_canon _ _ _ (fun y => cover0_C_2 (y := y) ..)]
  unfold kernelRun0_C
  dsimp only
  sl_unfold_words
  rw [View.canon_unit_zero origin]
  simp only [View.readCov_unit_zero (S := S1024x1408) _ origin, View.readAt_eq_ld, Memref.IsWhole.read_unread, View.ld_unit_zero (S := S2048x1024) origin, View.ld_unit_zero (S := S2048x1408) origin,
    View.ld_unit_zero (S := S1024x1408) origin]
  exact congrArg (fun v => k0_pay4 (F := Ideal) (k0_pay3 (iblk m c 0 t) (iblk m c 1 t) v)) ((Memref.isWhole_whole cc0_scratch0).read_unread _)

/-- The windows' index maps, decided once. -/
theorem index_facts : ∀ t : Fin cfg0.N,
    ((cfg0.win 0).index t 0 = t.val % 8 ∧ (cfg0.win 0).index t 1 = 0)
      ∧ ((cfg0.win 1).index t 0 = t.val % 8 ∧ (cfg0.win 1).index t 1 = t.val / 8)
      ∧ ((cfg0.win 2).index t 0 = 0 ∧ (cfg0.win 2).index t 1 = t.val / 8) := by
  decide +kernel

/-- The sum where it ends. -/
theorem acc_end (c : Dev nD) (t : Fin cfg0.N) (h : t.val % 8 = 7) (j : S1024x1408.Idx) :
    (outsAt0 m c t.val t.isLt).2 j = (0 : EReal) + ∑ s : Fin 8, k0_pay1 (F := Ideal) (iblk m c 0 ⟨8 * (t.val / 8) + s.val, Pipeline.run_point_lt_of_flush t h s⟩)
      (iblk m c 1 ⟨8 * (t.val / 8) + s.val, Pipeline.run_point_lt_of_flush t h s⟩) j := by
  refine Pipeline.eq_sum_fin_of_reset_step_apply_of_flush (fun n hn => (outsAt0 m c n hn).2) 8 (fun _ => (0 : EReal))
    (fun t => k0_pay1 (F := Ideal) (iblk m c 0 t) (iblk m c 1 t)) ?_ ?_ t h j
  · intro t h j
    rw [acc_reset m c t h, k0_pay2]
    pointwise
  · intro t h j
    rw [acc_add m c t h, k0_pay3]
    pointwise

theorem frame_bits : Cert.quiescent_OuterUp := fun m ρ _ => Cert.OuterUp.Gen.frame m ρ

theorem frame_ideal : Cert.quiescent_OuterUpIdeal := fun m ρ _ => Cert.OuterUpIdeal.Gen.frame m ρ

theorem frame_reference : Cert.quiescent_OuterUpReferenceIdeal := fun m ρ _ =>
  (θ_run Cert.OuterUpReferenceIdeal.defs _ _).mono (fun r h => ⟨fun c => (h c).2, sem_eq_zero_of_no_sems (by decide) r.2⟩) (Cert.OuterUpReferenceIdeal.Value.run (F := Ideal) m ρ)

theorem value : Cert.algebraic_OuterUpIdeal_OuterUpReferenceIdeal := by
  intro m ρ m' ρ' _ hagree
  refine ⟨_, (θ_run Cert.OuterUpIdeal.defs _ _).mono
    (fun r h c => ⟨(h c).1 2, ((h c).1 0).trans ((dats m 0 c).arrAt_in 0 rfl _), ((h c).1 1).trans ((dats m 0 c).arrAt_in 1 rfl _)⟩)
    (run_main (F := Ideal) m ρ), ?_⟩
  refine (θ_run Cert.OuterUpReferenceIdeal.defs _ _).mono (fun r h c => ?_) (Cert.OuterUpReferenceIdeal.Value.run (F := Ideal) m' ρ')
  obtain ⟨h0, h1⟩ := h c
  refine ⟨h0.trans ?_, h1⟩
  all_goals
    simp only [(hagree c).1, (hagree c).2]
    symm
    clear h h0 h1 hagree
  · refine (dats m 0 c).arrAt_eq_of_covers 2 _ (by decide +kernel) fun t hf y => ?_
    have h7 := (flush0_2 t).mp hf
    have hN : cfg0.N = 32 := N_0
    have ht := t.isLt
    obtain ⟨-, -, e20, e21⟩ := index_facts t
    blk_simp
    rw [after0_2, left_end m c t h7]
    unfold k0_pay4
    pointwise
    rw [acc_end m c t h7, zero_add]
    unfold k0_pay1
    pointwise
    refine Fin.sum_mul_add_congr fun s k hl => ?_
    obtain ⟨⟨e00, e01⟩, ⟨e10, e11⟩, -⟩ := index_facts ⟨8 * (t.val / 8) + s.val, Pipeline.run_point_lt_of_flush t h7 s⟩
    have hs := s.isLt
    have d1 : (8 * (t.val / 8) + s.val) / 8 = t.val / 8 := by omega
    have d2 : (8 * (t.val / 8) + s.val) % 8 = s.val := by omega
    simp only [d1, d2] at e00 e01 e10 e11
    congr 1
    · show m ((c.tc : Thread nD τ).loc main_arg0) _ = _
      blk_ext [e00, e01, e20, e21]
    · show m ((c.tc : Thread nD τ).loc main_arg1) _ = _
      blk_ext [e10, e11, e20, e21]

end Cert.OuterUpIdeal.Gen

end
-- ==== Proof.lean ====
/-
  The proof of the claims about three calls that exchange data: the input projection that gathers five weights (`Kernel`), the weight gradient that
  exchanges the gradients' blocks (`Weight`), the row product that exchanges one gradient's blocks (`Row`); about AdamW's step at nine shapes (`StepIn`, …); about the backward pass of the
  first norm (`Back`, `BackCtx`), the loss (`Loss`), the norms (`NormFwd`, `Resid`), the merge (`Merge`), the modulation (`Ada`), the gradient of the
  context vector (`Cctx`) and of three weights (`Outer`, `OuterDown`, `OuterUp`). Of each: the frame of the kernel, of its
  idealization and of its reference, and what the idealized kernel computes.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Weight
public import proofs.«01_k».proof.Proof.Gen.Weight.Skeleton
public import proofs.«01_k».proof.Proof.Gen.Weight.Launch
public import proofs.«01_k».proof.Proof.Gen.Weight.Points
public import proofs.«01_k».proof.Proof.Gen.Weight.Frame
public import proofs.«01_k».proof.Proof.Gen.WeightIdeal
public import proofs.«01_k».proof.Proof.Gen.WeightIdeal.Skeleton
public import proofs.«01_k».proof.Proof.Gen.WeightIdeal.Launch
public import proofs.«01_k».proof.Proof.Gen.WeightIdeal.Points
public import proofs.«01_k».proof.Proof.Gen.WeightIdeal.Frame
public import proofs.«01_k».proof.Proof.Gen.Row
public import proofs.«01_k».proof.Proof.Gen.Row.Skeleton
public import proofs.«01_k».proof.Proof.Gen.Row.Launch
public import proofs.«01_k».proof.Proof.Gen.Row.Points
public import proofs.«01_k».proof.Proof.Gen.Row.Frame
public import proofs.«01_k».proof.Proof.Gen.RowIdeal
public import proofs.«01_k».proof.Proof.Gen.RowIdeal.Skeleton
public import proofs.«01_k».proof.Proof.Gen.RowIdeal.Launch
public import proofs.«01_k».proof.Proof.Gen.RowIdeal.Points
public import proofs.«01_k».proof.Proof.Gen.RowIdeal.Frame
public import proofs.«01_k».proof.Proof.Gen.WeightReferenceIdeal
public import proofs.«01_k».proof.Proof.Gen.WeightReferenceIdeal.Run
public import proofs.«01_k».proof.Proof.Gen.RowReferenceIdeal
public import proofs.«01_k».proof.Proof.Gen.RowReferenceIdeal.Run
public import proofs.«01_k».proof.Proof.WeightValues
public import proofs.«01_k».proof.Proof.Updates
public import proofs.«01_k».proof.Proof.NormBack
public import proofs.«01_k».proof.Proof.LossValue
public import proofs.«01_k».proof.Proof.Context
public import proofs.«01_k».proof.Proof.Products
public import Idealize.ShloMosaic.Lib.Quiescent
public import Idealize.ShloMosaic.Adequacy
public import Idealize.ShloMosaic.Init

@[expose] public section

noncomputable section

namespace Cert.Proof

open Cert.Exchange
open Idealize.ShloMosaic Idealize.ShloMosaic.TcCoe Idealize.SL.Sem

variable {F : FTy → Type} [FloatOps F]

/-- The arguments, read off what the final states hold. -/
theorem args_kept (m : (ℓ : Loc Cert.KernelIdeal.nD Cert.KernelIdeal.τ Cert.KernelIdeal.sig) → Buf (Elt F) ℓ) {r} (h : Cert.KernelIdeal.Gen.Final m r)
    (c : Dev Cert.KernelIdeal.nD) :
    r.2.mem (c.tc.loc Cert.KernelIdeal.main_arg0) = m (c.tc.loc Cert.KernelIdeal.main_arg0)
      ∧ r.2.mem (c.tc.loc Cert.KernelIdeal.main_arg1) = m (c.tc.loc Cert.KernelIdeal.main_arg1)
      ∧ r.2.mem (c.tc.loc Cert.KernelIdeal.main_arg2) = m (c.tc.loc Cert.KernelIdeal.main_arg2)
      ∧ r.2.mem (c.tc.loc Cert.KernelIdeal.main_arg3) = m (c.tc.loc Cert.KernelIdeal.main_arg3)
      ∧ r.2.mem (c.tc.loc Cert.KernelIdeal.main_arg4) = m (c.tc.loc Cert.KernelIdeal.main_arg4)
      ∧ r.2.mem (c.tc.loc Cert.KernelIdeal.main_arg5) = m (c.tc.loc Cert.KernelIdeal.main_arg5)
      ∧ r.2.mem (c.tc.loc Cert.KernelIdeal.main_arg6) = m (c.tc.loc Cert.KernelIdeal.main_arg6) :=
  have hw := (h c).1
  have hi := (h c).2.1
  ⟨(hw 0).trans ((Cert.KernelIdeal.Gen.dats m 0 c).arrAt_in 0 rfl _), (hw 1).trans ((Cert.KernelIdeal.Gen.dats m 0 c).arrAt_in 1 rfl _),
    hi 0, hi 1, hi 2, hi 3, hi 4⟩

/-- The frame, whatever the floats are. -/
theorem frame_any (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem (c.tc.loc Cert.KernelIdeal.main_arg0) = m (c.tc.loc Cert.KernelIdeal.main_arg0)
          ∧ r.2.mem (c.tc.loc Cert.KernelIdeal.main_arg1) = m (c.tc.loc Cert.KernelIdeal.main_arg1)
          ∧ r.2.mem (c.tc.loc Cert.KernelIdeal.main_arg2) = m (c.tc.loc Cert.KernelIdeal.main_arg2)
          ∧ r.2.mem (c.tc.loc Cert.KernelIdeal.main_arg3) = m (c.tc.loc Cert.KernelIdeal.main_arg3)
          ∧ r.2.mem (c.tc.loc Cert.KernelIdeal.main_arg4) = m (c.tc.loc Cert.KernelIdeal.main_arg4)
          ∧ r.2.mem (c.tc.loc Cert.KernelIdeal.main_arg5) = m (c.tc.loc Cert.KernelIdeal.main_arg5)
          ∧ r.2.mem (c.tc.loc Cert.KernelIdeal.main_arg6) = m (c.tc.loc Cert.KernelIdeal.main_arg6))
      ∧ r.2.sem = fun _ => 0) :=
  (θ_run (Cert.KernelIdeal.defs (F := F)) _ _).mono (fun _ h => ⟨fun c => args_kept m h.1 c, h.2⟩) (Cert.KernelIdeal.Gen.run_main (F := F) m ρ)

theorem frame_ideal : Cert.quiescent_KernelIdeal (hKernelIdeal := Cert.KernelIdeal.Gen.facts) := fun m ρ _ => frame_any (F := Ideal) m ρ

/-- The kernel and its idealization are one program over two kinds of floats. -/
theorem defs₀_eq : Cert.KernelIdeal.defs₀ (F := F) = Cert.Kernel.defs₀ (F := F) := by
  unfold Cert.Kernel.defs₀ Cert.KernelIdeal.defs₀
  refine congrArg Defs.onTc (funext fun l => funext fun x => ?_)
  match l, x with
  | 0, (t, s) => rfl
  | ⟨n + 1, h⟩, _ => exact absurd h (Nat.not_lt.2 (Nat.le_add_left _ _))
theorem defs_eq : Cert.KernelIdeal.defs (F := F) = Cert.Kernel.defs (F := F) := congrArg (Pipeline.defs Cert.KernelIdeal.pcfgs) defs₀_eq

theorem frame_bits : Cert.quiescent_Kernel (hKernel := Cert.Kernel.Gen.facts) := by
  intro m ρ _
  have h := frame_any (F := Bits) m ρ
  rw [defs_eq] at h
  exact h

theorem frame_reference : Cert.quiescent_ReferenceIdeal (hReferenceIdeal := Cert.ReferenceIdeal.Gen.facts) := fun m ρ _ =>
  (θ_run (Cert.ReferenceIdeal.defs (F := Ideal)) _ _).mono
    (fun r h => ⟨fun c => (h c).2.2.2.2.2.2, sem_eq_zero_of_no_sems rfl r.2⟩) (Cert.ReferenceIdeal.Value.run (F := Ideal) m ρ)

theorem value : Cert.algebraic_KernelIdeal_ReferenceIdeal (hKernelIdeal := Cert.KernelIdeal.Gen.facts) (hReferenceIdeal := Cert.ReferenceIdeal.Gen.facts) := by
  intro m g m' g' _ hagree
  refine ⟨_, _, _, _, _, _, ?_, (θ_run (Cert.ReferenceIdeal.defs (F := Ideal)) _ _).mono (fun r h => h 0) (Cert.ReferenceIdeal.Value.run (F := Ideal) m' g')⟩
  refine (θ_run (Cert.KernelIdeal.defs (F := Ideal)) _ _).mono (fun r h c => ?_) (Cert.KernelIdeal.Gen.run_main (F := Ideal) m g)
  have hf := h.1 c
  refine ⟨(hf.1 2).trans (Cert.KernelIdeal.Gen.product_final m c _ _ _ _ (hagree c).1 (hagree c).2.1), (hf.2.2 0).trans ?_, (hf.2.2 1).trans ?_,
    (hf.2.2 2).trans ?_, (hf.2.2 3).trans ?_, (hf.2.2 4).trans ?_, args_kept m h.1 c⟩
  · exact (congrArg _ (funext fun d => (hagree d).2.2.1)).trans (Cert.KernelIdeal.Gen.stacked_128 _ _ _)
  · exact (congrArg _ (funext fun d => (hagree d).2.2.2.1)).trans (Cert.KernelIdeal.Gen.stacked_128 _ _ _)
  · exact (congrArg _ (funext fun d => (hagree d).2.2.2.2.1)).trans (Cert.KernelIdeal.Gen.stacked_128 _ _ _)
  · exact (congrArg _ (funext fun d => (hagree d).2.2.2.2.2.1)).trans (Cert.KernelIdeal.Gen.stacked_704 _ _ _ _)
  · exact (congrArg _ (funext fun d => (hagree d).2.2.2.2.2.2)).trans (Cert.KernelIdeal.Gen.stacked_352 _ _ _)

/-! ## The weight gradient -/

namespace Weight

/-- The arguments, read off what the final states hold. -/
theorem args_kept (m : (ℓ : Loc Cert.WeightIdeal.nD Cert.WeightIdeal.τ Cert.WeightIdeal.sig) → Buf (Elt F) ℓ) {r} (h : Cert.WeightIdeal.Gen.Final m r)
    (c : Dev Cert.WeightIdeal.nD) :
    r.2.mem (c.tc.loc Cert.WeightIdeal.main_arg0) = m (c.tc.loc Cert.WeightIdeal.main_arg0)
      ∧ r.2.mem (c.tc.loc Cert.WeightIdeal.main_arg1) = m (c.tc.loc Cert.WeightIdeal.main_arg1)
      ∧ r.2.mem (c.tc.loc Cert.WeightIdeal.main_arg2) = m (c.tc.loc Cert.WeightIdeal.main_arg2)
      ∧ r.2.mem (c.tc.loc Cert.WeightIdeal.main_arg3) = m (c.tc.loc Cert.WeightIdeal.main_arg3)
      ∧ r.2.mem (c.tc.loc Cert.WeightIdeal.main_arg4) = m (c.tc.loc Cert.WeightIdeal.main_arg4)
      ∧ r.2.mem (c.tc.loc Cert.WeightIdeal.main_arg5) = m (c.tc.loc Cert.WeightIdeal.main_arg5)
      ∧ r.2.mem (c.tc.loc Cert.WeightIdeal.main_arg6) = m (c.tc.loc Cert.WeightIdeal.main_arg6) :=
  have hw := (h c).1
  have hi := (h c).2.1
  ⟨(hw 0).trans ((Cert.WeightIdeal.Gen.dats m 0 c).arrAt_in 0 rfl _), (hw 1).trans ((Cert.WeightIdeal.Gen.dats m 0 c).arrAt_in 1 rfl _),
    hi 0, hi 1, hi 2, hi 3, hi 4⟩

/-- The frame, whatever the floats are. -/
theorem frame_any (m : (ℓ : Loc Cert.WeightIdeal.nD Cert.WeightIdeal.τ Cert.WeightIdeal.sig) → Buf (Elt F) ℓ) (ρ : Dev Cert.WeightIdeal.nD → PrngReg) :
    θ_run (Cert.WeightIdeal.defs (F := F)) (onTc (τ := Cert.WeightIdeal.τ) (Cert.WeightIdeal.main (F := F))) ⟨m, fun _ => 0, ρ⟩ (fun r =>
      (∀ c : Dev Cert.WeightIdeal.nD,
        r.2.mem (c.tc.loc Cert.WeightIdeal.main_arg0) = m (c.tc.loc Cert.WeightIdeal.main_arg0)
          ∧ r.2.mem (c.tc.loc Cert.WeightIdeal.main_arg1) = m (c.tc.loc Cert.WeightIdeal.main_arg1)
          ∧ r.2.mem (c.tc.loc Cert.WeightIdeal.main_arg2) = m (c.tc.loc Cert.WeightIdeal.main_arg2)
          ∧ r.2.mem (c.tc.loc Cert.WeightIdeal.main_arg3) = m (c.tc.loc Cert.WeightIdeal.main_arg3)
          ∧ r.2.mem (c.tc.loc Cert.WeightIdeal.main_arg4) = m (c.tc.loc Cert.WeightIdeal.main_arg4)
          ∧ r.2.mem (c.tc.loc Cert.WeightIdeal.main_arg5) = m (c.tc.loc Cert.WeightIdeal.main_arg5)
          ∧ r.2.mem (c.tc.loc Cert.WeightIdeal.main_arg6) = m (c.tc.loc Cert.WeightIdeal.main_arg6))
      ∧ r.2.sem = fun _ => 0) :=
  (θ_run (Cert.WeightIdeal.defs (F := F)) _ _).mono (fun _ h => ⟨fun c => args_kept m h.1 c, h.2⟩) (Cert.WeightIdeal.Gen.run_main (F := F) m ρ)

theorem frame_ideal : Cert.quiescent_WeightIdeal (hWeightIdeal := Cert.WeightIdeal.Gen.facts) := fun m ρ _ => frame_any (F := Ideal) m ρ

/-- The kernel and its idealization are one program over two kinds of floats. -/
theorem defs₀_eq : Cert.WeightIdeal.defs₀ (F := F) = Cert.Weight.defs₀ (F := F) := by
  unfold Cert.Weight.defs₀ Cert.WeightIdeal.defs₀
  refine congrArg Defs.onTc (funext fun l => funext fun x => ?_)
  match l, x with
  | 0, (t, s) => rfl
  | ⟨n + 1, h⟩, _ => exact absurd h (Nat.not_lt.2 (Nat.le_add_left _ _))
theorem defs_eq : Cert.WeightIdeal.defs (F := F) = Cert.Weight.defs (F := F) := congrArg (Pipeline.defs Cert.WeightIdeal.pcfgs) defs₀_eq

theorem frame_bits : Cert.quiescent_Weight (hWeight := Cert.Weight.Gen.facts) := by
  intro m ρ _
  have h := frame_any (F := Bits) m ρ
  rw [defs_eq] at h
  exact h

theorem frame_reference : Cert.quiescent_WeightReferenceIdeal (hWeightReferenceIdeal := Cert.WeightReferenceIdeal.Gen.facts) := fun m ρ _ =>
  (θ_run (Cert.WeightReferenceIdeal.defs (F := Ideal)) _ _).mono
    (fun r h => ⟨fun c => (h c).2.2.2.2.2.2, sem_eq_zero_of_no_sems rfl r.2⟩) (Cert.WeightReferenceIdeal.Value.run (F := Ideal) m ρ)

theorem value : Cert.algebraic_WeightIdeal_WeightReferenceIdeal (hWeightIdeal := Cert.WeightIdeal.Gen.facts) (hWeightReferenceIdeal := Cert.WeightReferenceIdeal.Gen.facts) := by
  intro m g m' g' _ hagree
  refine ⟨_, _, _, _, _, _, ?_, (θ_run (Cert.WeightReferenceIdeal.defs (F := Ideal)) _ _).mono (fun r h => h 0) (Cert.WeightReferenceIdeal.Value.run (F := Ideal) m' g')⟩
  refine (θ_run (Cert.WeightIdeal.defs (F := Ideal)) _ _).mono (fun r h c => ?_) (Cert.WeightIdeal.Gen.run_main (F := Ideal) m g)
  have hf := h.1 c
  refine ⟨(hf.1 2).trans (Cert.WeightIdeal.Gen.product_final m c _ _ _ _ _ (hagree c).1 (hagree c).2.1), (hf.2.2 0).trans ?_, (hf.2.2 1).trans ?_,
    (hf.2.2 2).trans ?_, (hf.2.2 3).trans ?_, (hf.2.2 4).trans ?_, args_kept m h.1 c⟩
  · exact (congrArg _ (funext fun d => congrArg (fun x => layer x c) (hagree d).2.2.1)).trans (Cert.WeightIdeal.Gen.swapped_128_1024 _ _ _ _ _ _)
  · exact (congrArg _ (funext fun d => congrArg (fun x => layer x c) (hagree d).2.2.2.1)).trans (Cert.WeightIdeal.Gen.swapped_128_1024 _ _ _ _ _ _)
  · exact (congrArg _ (funext fun d => congrArg (fun x => layer x c) (hagree d).2.2.2.2.1)).trans (Cert.WeightIdeal.Gen.swapped_128_1024 _ _ _ _ _ _)
  · exact (congrArg _ (funext fun d => congrArg (fun x => layer x c) (hagree d).2.2.2.2.2.1)).trans (Cert.WeightIdeal.Gen.swapped_1024_704 _ _ _ _ _ _)
  · exact (congrArg _ (funext fun d => congrArg (fun x => layer x c) (hagree d).2.2.2.2.2.2)).trans (Cert.WeightIdeal.Gen.swapped_352_1024 _ _ _ _ _ _)

end Weight

/-! ## The row product -/

namespace Row

/-- The arguments, read off what the final states hold. -/
theorem args_kept (m : (ℓ : Loc Cert.RowIdeal.nD Cert.RowIdeal.τ Cert.RowIdeal.sig) → Buf (Elt F) ℓ) {r} (h : Cert.RowIdeal.Gen.Final m r)
    (c : Dev Cert.RowIdeal.nD) :
    r.2.mem (c.tc.loc Cert.RowIdeal.main_arg0) = m (c.tc.loc Cert.RowIdeal.main_arg0)
      ∧ r.2.mem (c.tc.loc Cert.RowIdeal.main_arg1) = m (c.tc.loc Cert.RowIdeal.main_arg1)
      ∧ r.2.mem (c.tc.loc Cert.RowIdeal.main_arg2) = m (c.tc.loc Cert.RowIdeal.main_arg2) :=
  have hw := (h c).1
  have hi := (h c).2.1
  ⟨(hw 0).trans ((Cert.RowIdeal.Gen.dats m 0 c).arrAt_in 0 rfl _), (hw 1).trans ((Cert.RowIdeal.Gen.dats m 0 c).arrAt_in 1 rfl _),
    hi 0⟩

/-- The frame, whatever the floats are. -/
theorem frame_any (m : (ℓ : Loc Cert.RowIdeal.nD Cert.RowIdeal.τ Cert.RowIdeal.sig) → Buf (Elt F) ℓ) (ρ : Dev Cert.RowIdeal.nD → PrngReg) :
    θ_run (Cert.RowIdeal.defs (F := F)) (onTc (τ := Cert.RowIdeal.τ) (Cert.RowIdeal.main (F := F))) ⟨m, fun _ => 0, ρ⟩ (fun r =>
      (∀ c : Dev Cert.RowIdeal.nD,
        r.2.mem (c.tc.loc Cert.RowIdeal.main_arg0) = m (c.tc.loc Cert.RowIdeal.main_arg0)
          ∧ r.2.mem (c.tc.loc Cert.RowIdeal.main_arg1) = m (c.tc.loc Cert.RowIdeal.main_arg1)
          ∧ r.2.mem (c.tc.loc Cert.RowIdeal.main_arg2) = m (c.tc.loc Cert.RowIdeal.main_arg2))
      ∧ r.2.sem = fun _ => 0) :=
  (θ_run (Cert.RowIdeal.defs (F := F)) _ _).mono (fun _ h => ⟨fun c => args_kept m h.1 c, h.2⟩) (Cert.RowIdeal.Gen.run_main (F := F) m ρ)

theorem frame_ideal : Cert.quiescent_RowIdeal (hRowIdeal := Cert.RowIdeal.Gen.facts) := fun m ρ _ => frame_any (F := Ideal) m ρ

/-- The kernel and its idealization are one program over two kinds of floats. -/
theorem defs₀_eq : Cert.RowIdeal.defs₀ (F := F) = Cert.Row.defs₀ (F := F) := by
  unfold Cert.Row.defs₀ Cert.RowIdeal.defs₀
  refine congrArg Defs.onTc (funext fun l => funext fun x => ?_)
  match l, x with
  | 0, (t, s) => rfl
  | ⟨n + 1, h⟩, _ => exact absurd h (Nat.not_lt.2 (Nat.le_add_left _ _))
theorem defs_eq : Cert.RowIdeal.defs (F := F) = Cert.Row.defs (F := F) := congrArg (Pipeline.defs Cert.RowIdeal.pcfgs) defs₀_eq

theorem frame_bits : Cert.quiescent_Row (hRow := Cert.Row.Gen.facts) := by
  intro m ρ _
  have h := frame_any (F := Bits) m ρ
  rw [defs_eq] at h
  exact h

theorem frame_reference : Cert.quiescent_RowReferenceIdeal (hRowReferenceIdeal := Cert.RowReferenceIdeal.Gen.facts) := fun m ρ _ =>
  (θ_run (Cert.RowReferenceIdeal.defs (F := Ideal)) _ _).mono
    (fun r h => ⟨fun c => (h c).2.2, sem_eq_zero_of_no_sems rfl r.2⟩) (Cert.RowReferenceIdeal.Value.run (F := Ideal) m ρ)

theorem value : Cert.algebraic_RowIdeal_RowReferenceIdeal (hRowIdeal := Cert.RowIdeal.Gen.facts) (hRowReferenceIdeal := Cert.RowReferenceIdeal.Gen.facts) := by
  intro m g m' g' _ hagree
  refine ⟨_, _, ?_, (θ_run (Cert.RowReferenceIdeal.defs (F := Ideal)) _ _).mono (fun r h => h 0) (Cert.RowReferenceIdeal.Value.run (F := Ideal) m' g')⟩
  refine (θ_run (Cert.RowIdeal.defs (F := Ideal)) _ _).mono (fun r h c => ?_) (Cert.RowIdeal.Gen.run_main (F := Ideal) m g)
  have hf := h.1 c
  refine ⟨(hf.1 2).trans (Cert.RowIdeal.Gen.product_final m c _ _ _ _ (hagree c).1 (hagree c).2.1), (hf.2.2 0).trans ?_, args_kept m h.1 c⟩
  exact (congrArg _ (funext fun d => congrArg (fun x => layer x c) (hagree d).2.2)).trans (Cert.RowIdeal.Gen.swapped_1024_964 _ _ _ _ _ _)

end Row

theorem claim : Cert.Claim :=
  ⟨Cert.Kernel.Gen.facts, Cert.KernelIdeal.Gen.facts, Cert.ReferenceIdeal.Gen.facts,
    Cert.Weight.Gen.facts, Cert.WeightIdeal.Gen.facts, Cert.WeightReferenceIdeal.Gen.facts,
    Cert.Row.Gen.facts, Cert.RowIdeal.Gen.facts, Cert.RowReferenceIdeal.Gen.facts,
    Cert.StepIn.Gen.facts, Cert.StepInIdeal.Gen.facts, Cert.StepInReferenceIdeal.Gen.facts,
    Cert.StepOut.Gen.facts, Cert.StepOutIdeal.Gen.facts, Cert.StepOutReferenceIdeal.Gen.facts,
    Cert.StepUp.Gen.facts, Cert.StepUpIdeal.Gen.facts, Cert.StepUpReferenceIdeal.Gen.facts,
    Cert.StepDown.Gen.facts, Cert.StepDownIdeal.Gen.facts, Cert.StepDownReferenceIdeal.Gen.facts,
    Cert.StepAda.Gen.facts, Cert.StepAdaIdeal.Gen.facts, Cert.StepAdaReferenceIdeal.Gen.facts,
    Cert.StepSmall.Gen.facts, Cert.StepSmallIdeal.Gen.facts, Cert.StepSmallReferenceIdeal.Gen.facts,
    Cert.StepConv.Gen.facts, Cert.StepConvIdeal.Gen.facts, Cert.StepConvReferenceIdeal.Gen.facts,
    Cert.StepFfnConv.Gen.facts, Cert.StepFfnConvIdeal.Gen.facts, Cert.StepFfnConvReferenceIdeal.Gen.facts,
    Cert.StepCtx.Gen.facts, Cert.StepCtxIdeal.Gen.facts, Cert.StepCtxReferenceIdeal.Gen.facts,
    Cert.Back.Gen.facts, Cert.BackIdeal.Gen.facts, Cert.BackReferenceIdeal.Gen.facts,
    Cert.Loss.Gen.facts, Cert.LossIdeal.Gen.facts, Cert.LossReferenceIdeal.Gen.facts,
    Cert.BackCtx.Gen.facts, Cert.BackCtxIdeal.Gen.facts, Cert.BackCtxReferenceIdeal.Gen.facts,
    Cert.Resid.Gen.facts, Cert.ResidIdeal.Gen.facts, Cert.ResidReferenceIdeal.Gen.facts,
    Cert.Cctx.Gen.facts, Cert.CctxIdeal.Gen.facts, Cert.CctxReferenceIdeal.Gen.facts,
    Cert.NormFwd.Gen.facts, Cert.NormFwdIdeal.Gen.facts, Cert.NormFwdReferenceIdeal.Gen.facts,
    Cert.Merge.Gen.facts, Cert.MergeIdeal.Gen.facts, Cert.MergeReferenceIdeal.Gen.facts,
    Cert.Ada.Gen.facts, Cert.AdaIdeal.Gen.facts, Cert.AdaReferenceIdeal.Gen.facts,
    Cert.Outer.Gen.facts, Cert.OuterIdeal.Gen.facts, Cert.OuterReferenceIdeal.Gen.facts,
    Cert.OuterDown.Gen.facts, Cert.OuterDownIdeal.Gen.facts, Cert.OuterDownReferenceIdeal.Gen.facts,
    Cert.OuterUp.Gen.facts, Cert.OuterUpIdeal.Gen.facts, Cert.OuterUpReferenceIdeal.Gen.facts,
    frame_bits, frame_ideal, frame_reference, Weight.frame_bits, Weight.frame_ideal, Weight.frame_reference,
    Row.frame_bits, Row.frame_ideal, Row.frame_reference,
    Cert.StepInIdeal.Gen.frame_bits, Cert.StepInIdeal.Gen.frame_ideal, Cert.StepInIdeal.Gen.frame_reference,
    Cert.StepOutIdeal.Gen.frame_bits, Cert.StepOutIdeal.Gen.frame_ideal, Cert.StepOutIdeal.Gen.frame_reference,
    Cert.StepUpIdeal.Gen.frame_bits, Cert.StepUpIdeal.Gen.frame_ideal, Cert.StepUpIdeal.Gen.frame_reference,
    Cert.StepDownIdeal.Gen.frame_bits, Cert.StepDownIdeal.Gen.frame_ideal, Cert.StepDownIdeal.Gen.frame_reference,
    Cert.StepAdaIdeal.Gen.frame_bits, Cert.StepAdaIdeal.Gen.frame_ideal, Cert.StepAdaIdeal.Gen.frame_reference,
    Cert.StepSmallIdeal.Gen.frame_bits, Cert.StepSmallIdeal.Gen.frame_ideal, Cert.StepSmallIdeal.Gen.frame_reference,
    Cert.StepConvIdeal.Gen.frame_bits, Cert.StepConvIdeal.Gen.frame_ideal, Cert.StepConvIdeal.Gen.frame_reference,
    Cert.StepFfnConvIdeal.Gen.frame_bits, Cert.StepFfnConvIdeal.Gen.frame_ideal, Cert.StepFfnConvIdeal.Gen.frame_reference,
    Cert.StepCtxIdeal.Gen.frame_bits, Cert.StepCtxIdeal.Gen.frame_ideal, Cert.StepCtxIdeal.Gen.frame_reference,
    Cert.BackIdeal.Gen.frame_bits, Cert.BackIdeal.Gen.frame_ideal, Cert.BackIdeal.Gen.frame_reference,
    Cert.LossIdeal.Gen.frame_bits, Cert.LossIdeal.Gen.frame_ideal, Cert.LossIdeal.Gen.frame_reference,
    Cert.BackCtxIdeal.Gen.frame_bits, Cert.BackCtxIdeal.Gen.frame_ideal, Cert.BackCtxIdeal.Gen.frame_reference,
    Cert.ResidIdeal.Gen.frame_bits, Cert.ResidIdeal.Gen.frame_ideal, Cert.ResidIdeal.Gen.frame_reference,
    Cert.CctxIdeal.Gen.frame_bits, Cert.CctxIdeal.Gen.frame_ideal, Cert.CctxIdeal.Gen.frame_reference,
    Cert.NormFwdIdeal.Gen.frame_bits, Cert.NormFwdIdeal.Gen.frame_ideal, Cert.NormFwdIdeal.Gen.frame_reference,
    Cert.MergeIdeal.Gen.frame_bits, Cert.MergeIdeal.Gen.frame_ideal, Cert.MergeIdeal.Gen.frame_reference,
    Cert.AdaIdeal.Gen.frame_bits, Cert.AdaIdeal.Gen.frame_ideal, Cert.AdaIdeal.Gen.frame_reference,
    Cert.OuterIdeal.Gen.frame_bits, Cert.OuterIdeal.Gen.frame_ideal, Cert.OuterIdeal.Gen.frame_reference,
    Cert.OuterDownIdeal.Gen.frame_bits, Cert.OuterDownIdeal.Gen.frame_ideal, Cert.OuterDownIdeal.Gen.frame_reference,
    Cert.OuterUpIdeal.Gen.frame_bits, Cert.OuterUpIdeal.Gen.frame_ideal, Cert.OuterUpIdeal.Gen.frame_reference,
    trivial, value, trivial, Weight.value, trivial, Row.value,
    trivial, Cert.StepInIdeal.Gen.value, trivial, Cert.StepOutIdeal.Gen.value, trivial, Cert.StepUpIdeal.Gen.value,
    trivial, Cert.StepDownIdeal.Gen.value, trivial, Cert.StepAdaIdeal.Gen.value, trivial, Cert.StepSmallIdeal.Gen.value,
    trivial, Cert.StepConvIdeal.Gen.value, trivial, Cert.StepFfnConvIdeal.Gen.value, trivial, Cert.StepCtxIdeal.Gen.value,
    trivial, Cert.BackIdeal.Gen.value, trivial, Cert.LossIdeal.Gen.value,
    trivial, Cert.BackCtxIdeal.Gen.value, trivial, Cert.ResidIdeal.Gen.value, trivial, Cert.CctxIdeal.Gen.value, trivial, Cert.NormFwdIdeal.Gen.value,
    trivial, Cert.MergeIdeal.Gen.value, trivial, Cert.AdaIdeal.Gen.value, trivial, Cert.OuterIdeal.Gen.value, trivial, Cert.OuterDownIdeal.Gen.value, trivial, Cert.OuterUpIdeal.Gen.value⟩

end Cert.Proof

end
